-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite2 [hPre_finite2 : Cert.Pre_finite2.Facts] (m : (ℓ : Loc Cert.AttnIdeal.nD Cert.AttnIdeal.τ Cert.AttnIdeal.sig) → Buf (Elt Ideal) ℓ) : Prop :=
  ∀ c : Dev Cert.AttnIdeal.nD,
    (Cert.Pre_finite2.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite2 [hPre_finite2 : Cert.Pre_finite2.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite2.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Dwup (m : (ℓ : Loc Cert.Dwup.nD Cert.Dwup.τ Cert.Dwup.sig) → Buf (Elt Bits) ℓ) : Prop :=
  True

def Pre_DwupIdeal (m : (ℓ : Loc Cert.DwupIdeal.nD Cert.DwupIdeal.τ Cert.DwupIdeal.sig) → Buf (Elt Ideal) ℓ) : Prop :=
  True

def Pre_DwupRefIdeal (m : (ℓ : Loc Cert.DwupRefIdeal.nD Cert.DwupRefIdeal.τ Cert.DwupRefIdeal.sig) → Buf (Elt Ideal) ℓ) : Prop :=
  True

def Pre_Dwdown (m : (ℓ : Loc Cert.Dwdown.nD Cert.Dwdown.τ Cert.Dwdown.sig) → Buf (Elt Bits) ℓ) : Prop :=
  True

def Pre_DwdownIdeal (m : (ℓ : Loc Cert.DwdownIdeal.nD Cert.DwdownIdeal.τ Cert.DwdownIdeal.sig) → Buf (Elt Ideal) ℓ) : Prop :=
  True

def Pre_DwdownRefIdeal (m : (ℓ : Loc Cert.DwdownRefIdeal.nD Cert.DwdownRefIdeal.τ Cert.DwdownRefIdeal.sig) → Buf (Elt Ideal) ℓ) : Prop :=
  True

def Pre_Du (m : (ℓ : Loc Cert.Du.nD Cert.Du.τ Cert.Du.sig) → Buf (Elt Bits) ℓ) : Prop :=
  True

def Pre_DuIdeal (m : (ℓ : Loc Cert.DuIdeal.nD Cert.DuIdeal.τ Cert.DuIdeal.sig) → Buf (Elt Ideal) ℓ) : Prop :=
  True

def Pre_DuRefIdeal (m : (ℓ : Loc Cert.DuRefIdeal.nD Cert.DuRefIdeal.τ Cert.DuRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_Dout (m : (ℓ : Loc Cert.Dout.nD Cert.Dout.τ Cert.Dout.sig) → Buf (Elt Bits) ℓ) : Prop :=
  True

def Pre_DoutIdeal (m : (ℓ : Loc Cert.DoutIdeal.nD Cert.DoutIdeal.τ Cert.DoutIdeal.sig) → Buf (Elt Ideal) ℓ) : Prop :=
  True

def Pre_DoutRefIdeal (m : (ℓ : Loc Cert.DoutRefIdeal.nD Cert.DoutRefIdeal.τ Cert.DoutRefIdeal.sig) → Buf (Elt Ideal) ℓ) : Prop :=
  True

def Pre_Dwo (m : (ℓ : Loc Cert.Dwo.nD Cert.Dwo.τ Cert.Dwo.sig) → Buf (Elt Bits) ℓ) : Prop :=
  True

def Pre_DwoIdeal (m : (ℓ : Loc Cert.DwoIdeal.nD Cert.DwoIdeal.τ Cert.DwoIdeal.sig) → Buf (Elt Ideal) ℓ) : Prop :=
  True

def Pre_DwoRefIdeal (m : (ℓ : Loc Cert.DwoRefIdeal.nD Cert.DwoRefIdeal.τ Cert.DwoRefIdeal.sig) → Buf (Elt Ideal) ℓ) : Prop :=
  True

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinRefIdeal (m : (ℓ : Loc Cert.DwinRefIdeal.nD Cert.DwinRefIdeal.τ Cert.DwinRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite15 [hPre_finite15 : Cert.Pre_finite15.Facts] (m : (ℓ : Loc Cert.LossIdeal.nD Cert.LossIdeal.τ Cert.LossIdeal.sig) → Buf (Elt Ideal) ℓ) : Prop :=
  ∀ c : Dev Cert.LossIdeal.nD,
    (Cert.Pre_finite15.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite15 [hPre_finite15 : Cert.Pre_finite15.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite15.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7))) = (fun _ => 1#1)

def Pre_DxQkv (m : (ℓ : Loc Cert.DxQkv.nD Cert.DxQkv.τ Cert.DxQkv.sig) → Buf (Elt Bits) ℓ) : Prop :=
  True

def Pre_DxQkvIdeal (m : (ℓ : Loc Cert.DxQkvIdeal.nD Cert.DxQkvIdeal.τ Cert.DxQkvIdeal.sig) → Buf (Elt Ideal) ℓ) : Prop :=
  True

def Pre_DxQkvIdeal_finite16 [hPre_finite16 : Cert.Pre_finite16.Facts] (m : (ℓ : Loc Cert.DxQkvIdeal.nD Cert.DxQkvIdeal.τ Cert.DxQkvIdeal.sig) → Buf (Elt Ideal) ℓ) : Prop :=
  ∀ c : Dev Cert.DxQkvIdeal.nD,
    (Cert.Pre_finite16.fn (F := Ideal) (m ((c.tc : Thread Cert.DxQkvIdeal.nD Cert.DxQkvIdeal.τ).loc Cert.DxQkvIdeal.main_arg0)) (m ((c.tc : Thread Cert.DxQkvIdeal.nD Cert.DxQkvIdeal.τ).loc Cert.DxQkvIdeal.main_arg1)) (m ((c.tc : Thread Cert.DxQkvIdeal.nD Cert.DxQkvIdeal.τ).loc Cert.DxQkvIdeal.main_arg2)) (m ((c.tc : Thread Cert.DxQkvIdeal.nD Cert.DxQkvIdeal.τ).loc Cert.DxQkvIdeal.main_arg3)) (m ((c.tc : Thread Cert.DxQkvIdeal.nD Cert.DxQkvIdeal.τ).loc Cert.DxQkvIdeal.main_arg4)) (m ((c.tc : Thread Cert.DxQkvIdeal.nD Cert.DxQkvIdeal.τ).loc Cert.DxQkvIdeal.main_arg5))) = (fun _ => 1#1)

def Pre_DxQkvRefIdeal (m : (ℓ : Loc Cert.DxQkvRefIdeal.nD Cert.DxQkvRefIdeal.τ Cert.DxQkvRefIdeal.sig) → Buf (Elt Ideal) ℓ) : Prop :=
  True

def Pre_DxQkvRefIdeal_finite16 [hPre_finite16 : Cert.Pre_finite16.Facts] (m : (ℓ : Loc Cert.DxQkvRefIdeal.nD Cert.DxQkvRefIdeal.τ Cert.DxQkvRefIdeal.sig) → Buf (Elt Ideal) ℓ) : Prop :=
  ∀ c : Dev Cert.DxQkvRefIdeal.nD,
    (Cert.Pre_finite16.fn (F := Ideal) (m ((c.tc : Thread Cert.DxQkvRefIdeal.nD Cert.DxQkvRefIdeal.τ).loc Cert.DxQkvRefIdeal.main_arg0)) (m ((c.tc : Thread Cert.DxQkvRefIdeal.nD Cert.DxQkvRefIdeal.τ).loc Cert.DxQkvRefIdeal.main_arg1)) (m ((c.tc : Thread Cert.DxQkvRefIdeal.nD Cert.DxQkvRefIdeal.τ).loc Cert.DxQkvRefIdeal.main_arg2)) (m ((c.tc : Thread Cert.DxQkvRefIdeal.nD Cert.DxQkvRefIdeal.τ).loc Cert.DxQkvRefIdeal.main_arg3)) (m ((c.tc : Thread Cert.DxQkvRefIdeal.nD Cert.DxQkvRefIdeal.τ).loc Cert.DxQkvRefIdeal.main_arg4)) (m ((c.tc : Thread Cert.DxQkvRefIdeal.nD Cert.DxQkvRefIdeal.τ).loc Cert.DxQkvRefIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite2 [hAttnIdeal : Cert.AttnIdeal.Facts] [hPre_finite2 : Cert.Pre_finite2.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite2 m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite2 [hAttnRefIdeal : Cert.AttnRefIdeal.Facts] [hPre_finite2 : Cert.Pre_finite2.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite2 m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Dwup [hDwup : Cert.Dwup.Facts] : Prop :=
  ∀ (m : (ℓ : Loc Cert.Dwup.nD Cert.Dwup.τ Cert.Dwup.sig) → Buf (Elt Bits) ℓ) (g : Dev Cert.Dwup.nD → PrngReg), Pre_Dwup m →
    θ_run (Cert.Dwup.defs (F := Bits)) (onTc (τ := Cert.Dwup.τ) (Cert.Dwup.main (F := Bits))) ⟨m, fun _ => 0, g⟩ (fun r => (∀ c : Dev Cert.Dwup.nD,
      r.2.mem ((c.tc : Thread Cert.Dwup.nD Cert.Dwup.τ).loc Cert.Dwup.main_arg0) = m ((c.tc : Thread Cert.Dwup.nD Cert.Dwup.τ).loc Cert.Dwup.main_arg0)
      ∧ r.2.mem ((c.tc : Thread Cert.Dwup.nD Cert.Dwup.τ).loc Cert.Dwup.main_arg1) = m ((c.tc : Thread Cert.Dwup.nD Cert.Dwup.τ).loc Cert.Dwup.main_arg1)
      ∧ r.2.mem ((c.tc : Thread Cert.Dwup.nD Cert.Dwup.τ).loc Cert.Dwup.main_arg2) = m ((c.tc : Thread Cert.Dwup.nD Cert.Dwup.τ).loc Cert.Dwup.main_arg2))
      ∧ r.2.sem = fun _ => 0)

def quiescent_DwupIdeal [hDwupIdeal : Cert.DwupIdeal.Facts] : Prop :=
  ∀ (m : (ℓ : Loc Cert.DwupIdeal.nD Cert.DwupIdeal.τ Cert.DwupIdeal.sig) → Buf (Elt Ideal) ℓ) (g : Dev Cert.DwupIdeal.nD → PrngReg), Pre_DwupIdeal m →
    θ_run (Cert.DwupIdeal.defs (F := Ideal)) (onTc (τ := Cert.DwupIdeal.τ) (Cert.DwupIdeal.main (F := Ideal))) ⟨m, fun _ => 0, g⟩ (fun r => (∀ c : Dev Cert.DwupIdeal.nD,
      r.2.mem ((c.tc : Thread Cert.DwupIdeal.nD Cert.DwupIdeal.τ).loc Cert.DwupIdeal.main_arg0) = m ((c.tc : Thread Cert.DwupIdeal.nD Cert.DwupIdeal.τ).loc Cert.DwupIdeal.main_arg0)
      ∧ r.2.mem ((c.tc : Thread Cert.DwupIdeal.nD Cert.DwupIdeal.τ).loc Cert.DwupIdeal.main_arg1) = m ((c.tc : Thread Cert.DwupIdeal.nD Cert.DwupIdeal.τ).loc Cert.DwupIdeal.main_arg1)
      ∧ r.2.mem ((c.tc : Thread Cert.DwupIdeal.nD Cert.DwupIdeal.τ).loc Cert.DwupIdeal.main_arg2) = m ((c.tc : Thread Cert.DwupIdeal.nD Cert.DwupIdeal.τ).loc Cert.DwupIdeal.main_arg2))
      ∧ r.2.sem = fun _ => 0)

def quiescent_DwupRefIdeal [hDwupRefIdeal : Cert.DwupRefIdeal.Facts] : Prop :=
  ∀ (m : (ℓ : Loc Cert.DwupRefIdeal.nD Cert.DwupRefIdeal.τ Cert.DwupRefIdeal.sig) → Buf (Elt Ideal) ℓ) (g : Dev Cert.DwupRefIdeal.nD → PrngReg), Pre_DwupRefIdeal m →
    θ_run (Cert.DwupRefIdeal.defs (F := Ideal)) (onTc (τ := Cert.DwupRefIdeal.τ) (Cert.DwupRefIdeal.main (F := Ideal))) ⟨m, fun _ => 0, g⟩ (fun r => (∀ c : Dev Cert.DwupRefIdeal.nD,
      r.2.mem ((c.tc : Thread Cert.DwupRefIdeal.nD Cert.DwupRefIdeal.τ).loc Cert.DwupRefIdeal.main_arg0) = m ((c.tc : Thread Cert.DwupRefIdeal.nD Cert.DwupRefIdeal.τ).loc Cert.DwupRefIdeal.main_arg0)
      ∧ r.2.mem ((c.tc : Thread Cert.DwupRefIdeal.nD Cert.DwupRefIdeal.τ).loc Cert.DwupRefIdeal.main_arg1) = m ((c.tc : Thread Cert.DwupRefIdeal.nD Cert.DwupRefIdeal.τ).loc Cert.DwupRefIdeal.main_arg1)
      ∧ r.2.mem ((c.tc : Thread Cert.DwupRefIdeal.nD Cert.DwupRefIdeal.τ).loc Cert.DwupRefIdeal.main_arg2) = m ((c.tc : Thread Cert.DwupRefIdeal.nD Cert.DwupRefIdeal.τ).loc Cert.DwupRefIdeal.main_arg2))
      ∧ r.2.sem = fun _ => 0)

def quiescent_Dwdown [hDwdown : Cert.Dwdown.Facts] : Prop :=
  ∀ (m : (ℓ : Loc Cert.Dwdown.nD Cert.Dwdown.τ Cert.Dwdown.sig) → Buf (Elt Bits) ℓ) (g : Dev Cert.Dwdown.nD → PrngReg), Pre_Dwdown m →
    θ_run (Cert.Dwdown.defs (F := Bits)) (onTc (τ := Cert.Dwdown.τ) (Cert.Dwdown.main (F := Bits))) ⟨m, fun _ => 0, g⟩ (fun r => (∀ c : Dev Cert.Dwdown.nD,
      r.2.mem ((c.tc : Thread Cert.Dwdown.nD Cert.Dwdown.τ).loc Cert.Dwdown.main_arg0) = m ((c.tc : Thread Cert.Dwdown.nD Cert.Dwdown.τ).loc Cert.Dwdown.main_arg0)
      ∧ r.2.mem ((c.tc : Thread Cert.Dwdown.nD Cert.Dwdown.τ).loc Cert.Dwdown.main_arg1) = m ((c.tc : Thread Cert.Dwdown.nD Cert.Dwdown.τ).loc Cert.Dwdown.main_arg1))
      ∧ r.2.sem = fun _ => 0)

def quiescent_DwdownIdeal [hDwdownIdeal : Cert.DwdownIdeal.Facts] : Prop :=
  ∀ (m : (ℓ : Loc Cert.DwdownIdeal.nD Cert.DwdownIdeal.τ Cert.DwdownIdeal.sig) → Buf (Elt Ideal) ℓ) (g : Dev Cert.DwdownIdeal.nD → PrngReg), Pre_DwdownIdeal m →
    θ_run (Cert.DwdownIdeal.defs (F := Ideal)) (onTc (τ := Cert.DwdownIdeal.τ) (Cert.DwdownIdeal.main (F := Ideal))) ⟨m, fun _ => 0, g⟩ (fun r => (∀ c : Dev Cert.DwdownIdeal.nD,
      r.2.mem ((c.tc : Thread Cert.DwdownIdeal.nD Cert.DwdownIdeal.τ).loc Cert.DwdownIdeal.main_arg0) = m ((c.tc : Thread Cert.DwdownIdeal.nD Cert.DwdownIdeal.τ).loc Cert.DwdownIdeal.main_arg0)
      ∧ r.2.mem ((c.tc : Thread Cert.DwdownIdeal.nD Cert.DwdownIdeal.τ).loc Cert.DwdownIdeal.main_arg1) = m ((c.tc : Thread Cert.DwdownIdeal.nD Cert.DwdownIdeal.τ).loc Cert.DwdownIdeal.main_arg1))
      ∧ r.2.sem = fun _ => 0)

def quiescent_DwdownRefIdeal [hDwdownRefIdeal : Cert.DwdownRefIdeal.Facts] : Prop :=
  ∀ (m : (ℓ : Loc Cert.DwdownRefIdeal.nD Cert.DwdownRefIdeal.τ Cert.DwdownRefIdeal.sig) → Buf (Elt Ideal) ℓ) (g : Dev Cert.DwdownRefIdeal.nD → PrngReg), Pre_DwdownRefIdeal m →
    θ_run (Cert.DwdownRefIdeal.defs (F := Ideal)) (onTc (τ := Cert.DwdownRefIdeal.τ) (Cert.DwdownRefIdeal.main (F := Ideal))) ⟨m, fun _ => 0, g⟩ (fun r => (∀ c : Dev Cert.DwdownRefIdeal.nD,
      r.2.mem ((c.tc : Thread Cert.DwdownRefIdeal.nD Cert.DwdownRefIdeal.τ).loc Cert.DwdownRefIdeal.main_arg0) = m ((c.tc : Thread Cert.DwdownRefIdeal.nD Cert.DwdownRefIdeal.τ).loc Cert.DwdownRefIdeal.main_arg0)
      ∧ r.2.mem ((c.tc : Thread Cert.DwdownRefIdeal.nD Cert.DwdownRefIdeal.τ).loc Cert.DwdownRefIdeal.main_arg1) = m ((c.tc : Thread Cert.DwdownRefIdeal.nD Cert.DwdownRefIdeal.τ).loc Cert.DwdownRefIdeal.main_arg1))
      ∧ r.2.sem = fun _ => 0)

def quiescent_Du [hDu : Cert.Du.Facts] : Prop :=
  ∀ (m : (ℓ : Loc Cert.Du.nD Cert.Du.τ Cert.Du.sig) → Buf (Elt Bits) ℓ) (g : Dev Cert.Du.nD → PrngReg), Pre_Du m →
    θ_run (Cert.Du.defs (F := Bits)) (onTc (τ := Cert.Du.τ) (Cert.Du.main (F := Bits))) ⟨m, fun _ => 0, g⟩ (fun r => (∀ c : Dev Cert.Du.nD,
      r.2.mem ((c.tc : Thread Cert.Du.nD Cert.Du.τ).loc Cert.Du.main_arg0) = m ((c.tc : Thread Cert.Du.nD Cert.Du.τ).loc Cert.Du.main_arg0)
      ∧ r.2.mem ((c.tc : Thread Cert.Du.nD Cert.Du.τ).loc Cert.Du.main_arg1) = m ((c.tc : Thread Cert.Du.nD Cert.Du.τ).loc Cert.Du.main_arg1))
      ∧ r.2.sem = fun _ => 0)

def quiescent_DuIdeal [hDuIdeal : Cert.DuIdeal.Facts] : Prop :=
  ∀ (m : (ℓ : Loc Cert.DuIdeal.nD Cert.DuIdeal.τ Cert.DuIdeal.sig) → Buf (Elt Ideal) ℓ) (g : Dev Cert.DuIdeal.nD → PrngReg), Pre_DuIdeal m →
    θ_run (Cert.DuIdeal.defs (F := Ideal)) (onTc (τ := Cert.DuIdeal.τ) (Cert.DuIdeal.main (F := Ideal))) ⟨m, fun _ => 0, g⟩ (fun r => (∀ c : Dev Cert.DuIdeal.nD,
      r.2.mem ((c.tc : Thread Cert.DuIdeal.nD Cert.DuIdeal.τ).loc Cert.DuIdeal.main_arg0) = m ((c.tc : Thread Cert.DuIdeal.nD Cert.DuIdeal.τ).loc Cert.DuIdeal.main_arg0)
      ∧ r.2.mem ((c.tc : Thread Cert.DuIdeal.nD Cert.DuIdeal.τ).loc Cert.DuIdeal.main_arg1) = m ((c.tc : Thread Cert.DuIdeal.nD Cert.DuIdeal.τ).loc Cert.DuIdeal.main_arg1))
      ∧ r.2.sem = fun _ => 0)

def quiescent_DuRefIdeal [hDuRefIdeal : Cert.DuRefIdeal.Facts] : Prop :=
  ∀ (m : (ℓ : Loc Cert.DuRefIdeal.nD Cert.DuRefIdeal.τ Cert.DuRefIdeal.sig) → Buf (Elt Ideal) ℓ) (g : Dev Cert.DuRefIdeal.nD → PrngReg), Pre_DuRefIdeal m →
    θ_run (Cert.DuRefIdeal.defs (F := Ideal)) (onTc (τ := Cert.DuRefIdeal.τ) (Cert.DuRefIdeal.main (F := Ideal))) ⟨m, fun _ => 0, g⟩ (fun r => (∀ c : Dev Cert.DuRefIdeal.nD,
      r.2.mem ((c.tc : Thread Cert.DuRefIdeal.nD Cert.DuRefIdeal.τ).loc Cert.DuRefIdeal.main_arg0) = m ((c.tc : Thread Cert.DuRefIdeal.nD Cert.DuRefIdeal.τ).loc Cert.DuRefIdeal.main_arg0)
      ∧ r.2.mem ((c.tc : Thread Cert.DuRefIdeal.nD Cert.DuRefIdeal.τ).loc Cert.DuRefIdeal.main_arg1) = m ((c.tc : Thread Cert.DuRefIdeal.nD Cert.DuRefIdeal.τ).loc Cert.DuRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1))
      ∧ r.2.sem = fun _ => 0)

def quiescent_Dout [hDout : Cert.Dout.Facts] : Prop :=
  ∀ (m : (ℓ : Loc Cert.Dout.nD Cert.Dout.τ Cert.Dout.sig) → Buf (Elt Bits) ℓ) (g : Dev Cert.Dout.nD → PrngReg), Pre_Dout m →
    θ_run (Cert.Dout.defs (F := Bits)) (onTc (τ := Cert.Dout.τ) (Cert.Dout.main (F := Bits))) ⟨m, fun _ => 0, g⟩ (fun r => (∀ c : Dev Cert.Dout.nD,
      r.2.mem ((c.tc : Thread Cert.Dout.nD Cert.Dout.τ).loc Cert.Dout.main_arg0) = m ((c.tc : Thread Cert.Dout.nD Cert.Dout.τ).loc Cert.Dout.main_arg0)
      ∧ r.2.mem ((c.tc : Thread Cert.Dout.nD Cert.Dout.τ).loc Cert.Dout.main_arg1) = m ((c.tc : Thread Cert.Dout.nD Cert.Dout.τ).loc Cert.Dout.main_arg1))
      ∧ r.2.sem = fun _ => 0)

def quiescent_DoutIdeal [hDoutIdeal : Cert.DoutIdeal.Facts] : Prop :=
  ∀ (m : (ℓ : Loc Cert.DoutIdeal.nD Cert.DoutIdeal.τ Cert.DoutIdeal.sig) → Buf (Elt Ideal) ℓ) (g : Dev Cert.DoutIdeal.nD → PrngReg), Pre_DoutIdeal m →
    θ_run (Cert.DoutIdeal.defs (F := Ideal)) (onTc (τ := Cert.DoutIdeal.τ) (Cert.DoutIdeal.main (F := Ideal))) ⟨m, fun _ => 0, g⟩ (fun r => (∀ c : Dev Cert.DoutIdeal.nD,
      r.2.mem ((c.tc : Thread Cert.DoutIdeal.nD Cert.DoutIdeal.τ).loc Cert.DoutIdeal.main_arg0) = m ((c.tc : Thread Cert.DoutIdeal.nD Cert.DoutIdeal.τ).loc Cert.DoutIdeal.main_arg0)
      ∧ r.2.mem ((c.tc : Thread Cert.DoutIdeal.nD Cert.DoutIdeal.τ).loc Cert.DoutIdeal.main_arg1) = m ((c.tc : Thread Cert.DoutIdeal.nD Cert.DoutIdeal.τ).loc Cert.DoutIdeal.main_arg1))
      ∧ r.2.sem = fun _ => 0)

def quiescent_DoutRefIdeal [hDoutRefIdeal : Cert.DoutRefIdeal.Facts] : Prop :=
  ∀ (m : (ℓ : Loc Cert.DoutRefIdeal.nD Cert.DoutRefIdeal.τ Cert.DoutRefIdeal.sig) → Buf (Elt Ideal) ℓ) (g : Dev Cert.DoutRefIdeal.nD → PrngReg), Pre_DoutRefIdeal m →
    θ_run (Cert.DoutRefIdeal.defs (F := Ideal)) (onTc (τ := Cert.DoutRefIdeal.τ) (Cert.DoutRefIdeal.main (F := Ideal))) ⟨m, fun _ => 0, g⟩ (fun r => (∀ c : Dev Cert.DoutRefIdeal.nD,
      r.2.mem ((c.tc : Thread Cert.DoutRefIdeal.nD Cert.DoutRefIdeal.τ).loc Cert.DoutRefIdeal.main_arg0) = m ((c.tc : Thread Cert.DoutRefIdeal.nD Cert.DoutRefIdeal.τ).loc Cert.DoutRefIdeal.main_arg0)
      ∧ r.2.mem ((c.tc : Thread Cert.DoutRefIdeal.nD Cert.DoutRefIdeal.τ).loc Cert.DoutRefIdeal.main_arg1) = m ((c.tc : Thread Cert.DoutRefIdeal.nD Cert.DoutRefIdeal.τ).loc Cert.DoutRefIdeal.main_arg1))
      ∧ r.2.sem = fun _ => 0)

def quiescent_Dwo [hDwo : Cert.Dwo.Facts] : Prop :=
  ∀ (m : (ℓ : Loc Cert.Dwo.nD Cert.Dwo.τ Cert.Dwo.sig) → Buf (Elt Bits) ℓ) (g : Dev Cert.Dwo.nD → PrngReg), Pre_Dwo m →
    θ_run (Cert.Dwo.defs (F := Bits)) (onTc (τ := Cert.Dwo.τ) (Cert.Dwo.main (F := Bits))) ⟨m, fun _ => 0, g⟩ (fun r => (∀ c : Dev Cert.Dwo.nD,
      r.2.mem ((c.tc : Thread Cert.Dwo.nD Cert.Dwo.τ).loc Cert.Dwo.main_arg0) = m ((c.tc : Thread Cert.Dwo.nD Cert.Dwo.τ).loc Cert.Dwo.main_arg0)
      ∧ r.2.mem ((c.tc : Thread Cert.Dwo.nD Cert.Dwo.τ).loc Cert.Dwo.main_arg1) = m ((c.tc : Thread Cert.Dwo.nD Cert.Dwo.τ).loc Cert.Dwo.main_arg1))
      ∧ r.2.sem = fun _ => 0)

def quiescent_DwoIdeal [hDwoIdeal : Cert.DwoIdeal.Facts] : Prop :=
  ∀ (m : (ℓ : Loc Cert.DwoIdeal.nD Cert.DwoIdeal.τ Cert.DwoIdeal.sig) → Buf (Elt Ideal) ℓ) (g : Dev Cert.DwoIdeal.nD → PrngReg), Pre_DwoIdeal m →
    θ_run (Cert.DwoIdeal.defs (F := Ideal)) (onTc (τ := Cert.DwoIdeal.τ) (Cert.DwoIdeal.main (F := Ideal))) ⟨m, fun _ => 0, g⟩ (fun r => (∀ c : Dev Cert.DwoIdeal.nD,
      r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
      ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1))
      ∧ r.2.sem = fun _ => 0)

def quiescent_DwoRefIdeal [hDwoRefIdeal : Cert.DwoRefIdeal.Facts] : Prop :=
  ∀ (m : (ℓ : Loc Cert.DwoRefIdeal.nD Cert.DwoRefIdeal.τ Cert.DwoRefIdeal.sig) → Buf (Elt Ideal) ℓ) (g : Dev Cert.DwoRefIdeal.nD → PrngReg), Pre_DwoRefIdeal m →
    θ_run (Cert.DwoRefIdeal.defs (F := Ideal)) (onTc (τ := Cert.DwoRefIdeal.τ) (Cert.DwoRefIdeal.main (F := Ideal))) ⟨m, fun _ => 0, g⟩ (fun r => (∀ c : Dev Cert.DwoRefIdeal.nD,
      r.2.mem ((c.tc : Thread Cert.DwoRefIdeal.nD Cert.DwoRefIdeal.τ).loc Cert.DwoRefIdeal.main_arg0) = m ((c.tc : Thread Cert.DwoRefIdeal.nD Cert.DwoRefIdeal.τ).loc Cert.DwoRefIdeal.main_arg0)
      ∧ r.2.mem ((c.tc : Thread Cert.DwoRefIdeal.nD Cert.DwoRefIdeal.τ).loc Cert.DwoRefIdeal.main_arg1) = m ((c.tc : Thread Cert.DwoRefIdeal.nD Cert.DwoRefIdeal.τ).loc Cert.DwoRefIdeal.main_arg1))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ r.2.sem = fun _ => 0)

def quiescent_DwinRefIdeal [hDwinRefIdeal : Cert.DwinRefIdeal.Facts] : Prop :=
  ∀ (m : (ℓ : Loc Cert.DwinRefIdeal.nD Cert.DwinRefIdeal.τ Cert.DwinRefIdeal.sig) → Buf (Elt Ideal) ℓ) (g : Dev Cert.DwinRefIdeal.nD → PrngReg), Pre_DwinRefIdeal m →
    θ_run (Cert.DwinRefIdeal.defs (F := Ideal)) (onTc (τ := Cert.DwinRefIdeal.τ) (Cert.DwinRefIdeal.main (F := Ideal))) ⟨m, fun _ => 0, g⟩ (fun r => (∀ c : Dev Cert.DwinRefIdeal.nD,
      r.2.mem ((c.tc : Thread Cert.DwinRefIdeal.nD Cert.DwinRefIdeal.τ).loc Cert.DwinRefIdeal.main_arg0) = m ((c.tc : Thread Cert.DwinRefIdeal.nD Cert.DwinRefIdeal.τ).loc Cert.DwinRefIdeal.main_arg0)
      ∧ r.2.mem ((c.tc : Thread Cert.DwinRefIdeal.nD Cert.DwinRefIdeal.τ).loc Cert.DwinRefIdeal.main_arg1) = m ((c.tc : Thread Cert.DwinRefIdeal.nD Cert.DwinRefIdeal.τ).loc Cert.DwinRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5)
      ∧ r.2.mem ((c.tc : Thread Cert.DownRefIdeal.nD Cert.DownRefIdeal.τ).loc Cert.DownRefIdeal.main_arg6) = m ((c.tc : Thread Cert.DownRefIdeal.nD Cert.DownRefIdeal.τ).loc Cert.DownRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6)
      ∧ r.2.mem ((c.tc : Thread Cert.Loss.nD Cert.Loss.τ).loc Cert.Loss.main_arg7) = m ((c.tc : Thread Cert.Loss.nD Cert.Loss.τ).loc Cert.Loss.main_arg7))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7))
      ∧ r.2.sem = fun _ => 0)

def quiescent_LossIdeal_pre_finite15 [hLossIdeal : Cert.LossIdeal.Facts] [hPre_finite15 : Cert.Pre_finite15.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite15 m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7))
      ∧ r.2.sem = fun _ => 0)

def quiescent_LossRefIdeal_pre_finite15 [hLossRefIdeal : Cert.LossRefIdeal.Facts] [hPre_finite15 : Cert.Pre_finite15.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite15 m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7))
      ∧ r.2.sem = fun _ => 0)

def quiescent_DxQkv [hDxQkv : Cert.DxQkv.Facts] : Prop :=
  ∀ (m : (ℓ : Loc Cert.DxQkv.nD Cert.DxQkv.τ Cert.DxQkv.sig) → Buf (Elt Bits) ℓ) (g : Dev Cert.DxQkv.nD → PrngReg), Pre_DxQkv m →
    θ_run (Cert.DxQkv.defs (F := Bits)) (onTc (τ := Cert.DxQkv.τ) (Cert.DxQkv.main (F := Bits))) ⟨m, fun _ => 0, g⟩ (fun r => (∀ c : Dev Cert.DxQkv.nD,
      r.2.mem ((c.tc : Thread Cert.DxQkv.nD Cert.DxQkv.τ).loc Cert.DxQkv.main_arg0) = m ((c.tc : Thread Cert.DxQkv.nD Cert.DxQkv.τ).loc Cert.DxQkv.main_arg0)
      ∧ r.2.mem ((c.tc : Thread Cert.DxQkv.nD Cert.DxQkv.τ).loc Cert.DxQkv.main_arg1) = m ((c.tc : Thread Cert.DxQkv.nD Cert.DxQkv.τ).loc Cert.DxQkv.main_arg1)
      ∧ r.2.mem ((c.tc : Thread Cert.DxQkv.nD Cert.DxQkv.τ).loc Cert.DxQkv.main_arg2) = m ((c.tc : Thread Cert.DxQkv.nD Cert.DxQkv.τ).loc Cert.DxQkv.main_arg2)
      ∧ r.2.mem ((c.tc : Thread Cert.DxQkv.nD Cert.DxQkv.τ).loc Cert.DxQkv.main_arg3) = m ((c.tc : Thread Cert.DxQkv.nD Cert.DxQkv.τ).loc Cert.DxQkv.main_arg3)
      ∧ r.2.mem ((c.tc : Thread Cert.DxQkv.nD Cert.DxQkv.τ).loc Cert.DxQkv.main_arg4) = m ((c.tc : Thread Cert.DxQkv.nD Cert.DxQkv.τ).loc Cert.DxQkv.main_arg4)
      ∧ r.2.mem ((c.tc : Thread Cert.DxQkv.nD Cert.DxQkv.τ).loc Cert.DxQkv.main_arg5) = m ((c.tc : Thread Cert.DxQkv.nD Cert.DxQkv.τ).loc Cert.DxQkv.main_arg5))
      ∧ r.2.sem = fun _ => 0)

def quiescent_DxQkvIdeal [hDxQkvIdeal : Cert.DxQkvIdeal.Facts] : Prop :=
  ∀ (m : (ℓ : Loc Cert.DxQkvIdeal.nD Cert.DxQkvIdeal.τ Cert.DxQkvIdeal.sig) → Buf (Elt Ideal) ℓ) (g : Dev Cert.DxQkvIdeal.nD → PrngReg), Pre_DxQkvIdeal m →
    θ_run (Cert.DxQkvIdeal.defs (F := Ideal)) (onTc (τ := Cert.DxQkvIdeal.τ) (Cert.DxQkvIdeal.main (F := Ideal))) ⟨m, fun _ => 0, g⟩ (fun r => (∀ c : Dev Cert.DxQkvIdeal.nD,
      r.2.mem ((c.tc : Thread Cert.DxQkvIdeal.nD Cert.DxQkvIdeal.τ).loc Cert.DxQkvIdeal.main_arg0) = m ((c.tc : Thread Cert.DxQkvIdeal.nD Cert.DxQkvIdeal.τ).loc Cert.DxQkvIdeal.main_arg0)
      ∧ r.2.mem ((c.tc : Thread Cert.DxQkvIdeal.nD Cert.DxQkvIdeal.τ).loc Cert.DxQkvIdeal.main_arg1) = m ((c.tc : Thread Cert.DxQkvIdeal.nD Cert.DxQkvIdeal.τ).loc Cert.DxQkvIdeal.main_arg1)
      ∧ r.2.mem ((c.tc : Thread Cert.DxQkvIdeal.nD Cert.DxQkvIdeal.τ).loc Cert.DxQkvIdeal.main_arg2) = m ((c.tc : Thread Cert.DxQkvIdeal.nD Cert.DxQkvIdeal.τ).loc Cert.DxQkvIdeal.main_arg2)
      ∧ r.2.mem ((c.tc : Thread Cert.DxQkvIdeal.nD Cert.DxQkvIdeal.τ).loc Cert.DxQkvIdeal.main_arg3) = m ((c.tc : Thread Cert.DxQkvIdeal.nD Cert.DxQkvIdeal.τ).loc Cert.DxQkvIdeal.main_arg3)
      ∧ r.2.mem ((c.tc : Thread Cert.DxQkvIdeal.nD Cert.DxQkvIdeal.τ).loc Cert.DxQkvIdeal.main_arg4) = m ((c.tc : Thread Cert.DxQkvIdeal.nD Cert.DxQkvIdeal.τ).loc Cert.DxQkvIdeal.main_arg4)
      ∧ r.2.mem ((c.tc : Thread Cert.DxQkvIdeal.nD Cert.DxQkvIdeal.τ).loc Cert.DxQkvIdeal.main_arg5) = m ((c.tc : Thread Cert.DxQkvIdeal.nD Cert.DxQkvIdeal.τ).loc Cert.DxQkvIdeal.main_arg5))
      ∧ r.2.sem = fun _ => 0)

def quiescent_DxQkvIdeal_pre_finite16 [hDxQkvIdeal : Cert.DxQkvIdeal.Facts] [hPre_finite16 : Cert.Pre_finite16.Facts] : Prop :=
  ∀ (m : (ℓ : Loc Cert.DxQkvIdeal.nD Cert.DxQkvIdeal.τ Cert.DxQkvIdeal.sig) → Buf (Elt Ideal) ℓ) (g : Dev Cert.DxQkvIdeal.nD → PrngReg), Pre_DxQkvIdeal_finite16 m →
    θ_run (Cert.DxQkvIdeal.defs (F := Ideal)) (onTc (τ := Cert.DxQkvIdeal.τ) (Cert.DxQkvIdeal.main (F := Ideal))) ⟨m, fun _ => 0, g⟩ (fun r => (∀ c : Dev Cert.DxQkvIdeal.nD,
      r.2.mem ((c.tc : Thread Cert.DxQkvIdeal.nD Cert.DxQkvIdeal.τ).loc Cert.DxQkvIdeal.main_arg0) = m ((c.tc : Thread Cert.DxQkvIdeal.nD Cert.DxQkvIdeal.τ).loc Cert.DxQkvIdeal.main_arg0)
      ∧ r.2.mem ((c.tc : Thread Cert.DxQkvIdeal.nD Cert.DxQkvIdeal.τ).loc Cert.DxQkvIdeal.main_arg1) = m ((c.tc : Thread Cert.DxQkvIdeal.nD Cert.DxQkvIdeal.τ).loc Cert.DxQkvIdeal.main_arg1)
      ∧ r.2.mem ((c.tc : Thread Cert.DxQkvIdeal.nD Cert.DxQkvIdeal.τ).loc Cert.DxQkvIdeal.main_arg2) = m ((c.tc : Thread Cert.DxQkvIdeal.nD Cert.DxQkvIdeal.τ).loc Cert.DxQkvIdeal.main_arg2)
      ∧ r.2.mem ((c.tc : Thread Cert.DxQkvIdeal.nD Cert.DxQkvIdeal.τ).loc Cert.DxQkvIdeal.main_arg3) = m ((c.tc : Thread Cert.DxQkvIdeal.nD Cert.DxQkvIdeal.τ).loc Cert.DxQkvIdeal.main_arg3)
      ∧ r.2.mem ((c.tc : Thread Cert.DxQkvIdeal.nD Cert.DxQkvIdeal.τ).loc Cert.DxQkvIdeal.main_arg4) = m ((c.tc : Thread Cert.DxQkvIdeal.nD Cert.DxQkvIdeal.τ).loc Cert.DxQkvIdeal.main_arg4)
      ∧ r.2.mem ((c.tc : Thread Cert.DxQkvIdeal.nD Cert.DxQkvIdeal.τ).loc Cert.DxQkvIdeal.main_arg5) = m ((c.tc : Thread Cert.DxQkvIdeal.nD Cert.DxQkvIdeal.τ).loc Cert.DxQkvIdeal.main_arg5))
      ∧ r.2.sem = fun _ => 0)

def quiescent_DxQkvRefIdeal [hDxQkvRefIdeal : Cert.DxQkvRefIdeal.Facts] : Prop :=
  ∀ (m : (ℓ : Loc Cert.DxQkvRefIdeal.nD Cert.DxQkvRefIdeal.τ Cert.DxQkvRefIdeal.sig) → Buf (Elt Ideal) ℓ) (g : Dev Cert.DxQkvRefIdeal.nD → PrngReg), Pre_DxQkvRefIdeal m →
    θ_run (Cert.DxQkvRefIdeal.defs (F := Ideal)) (onTc (τ := Cert.DxQkvRefIdeal.τ) (Cert.DxQkvRefIdeal.main (F := Ideal))) ⟨m, fun _ => 0, g⟩ (fun r => (∀ c : Dev Cert.DxQkvRefIdeal.nD,
      r.2.mem ((c.tc : Thread Cert.DxQkvRefIdeal.nD Cert.DxQkvRefIdeal.τ).loc Cert.DxQkvRefIdeal.main_arg0) = m ((c.tc : Thread Cert.DxQkvRefIdeal.nD Cert.DxQkvRefIdeal.τ).loc Cert.DxQkvRefIdeal.main_arg0)
      ∧ r.2.mem ((c.tc : Thread Cert.DxQkvRefIdeal.nD Cert.DxQkvRefIdeal.τ).loc Cert.DxQkvRefIdeal.main_arg1) = m ((c.tc : Thread Cert.DxQkvRefIdeal.nD Cert.DxQkvRefIdeal.τ).loc Cert.DxQkvRefIdeal.main_arg1)
      ∧ r.2.mem ((c.tc : Thread Cert.DxQkvRefIdeal.nD Cert.DxQkvRefIdeal.τ).loc Cert.DxQkvRefIdeal.main_arg2) = m ((c.tc : Thread Cert.DxQkvRefIdeal.nD Cert.DxQkvRefIdeal.τ).loc Cert.DxQkvRefIdeal.main_arg2)
      ∧ r.2.mem ((c.tc : Thread Cert.DxQkvRefIdeal.nD Cert.DxQkvRefIdeal.τ).loc Cert.DxQkvRefIdeal.main_arg3) = m ((c.tc : Thread Cert.DxQkvRefIdeal.nD Cert.DxQkvRefIdeal.τ).loc Cert.DxQkvRefIdeal.main_arg3)
      ∧ r.2.mem ((c.tc : Thread Cert.DxQkvRefIdeal.nD Cert.DxQkvRefIdeal.τ).loc Cert.DxQkvRefIdeal.main_arg4) = m ((c.tc : Thread Cert.DxQkvRefIdeal.nD Cert.DxQkvRefIdeal.τ).loc Cert.DxQkvRefIdeal.main_arg4)
      ∧ r.2.mem ((c.tc : Thread Cert.DxQkvRefIdeal.nD Cert.DxQkvRefIdeal.τ).loc Cert.DxQkvRefIdeal.main_arg5) = m ((c.tc : Thread Cert.DxQkvRefIdeal.nD Cert.DxQkvRefIdeal.τ).loc Cert.DxQkvRefIdeal.main_arg5))
      ∧ r.2.sem = fun _ => 0)

def quiescent_DxQkvRefIdeal_pre_finite16 [hDxQkvRefIdeal : Cert.DxQkvRefIdeal.Facts] [hPre_finite16 : Cert.Pre_finite16.Facts] : Prop :=
  ∀ (m : (ℓ : Loc Cert.DxQkvRefIdeal.nD Cert.DxQkvRefIdeal.τ Cert.DxQkvRefIdeal.sig) → Buf (Elt Ideal) ℓ) (g : Dev Cert.DxQkvRefIdeal.nD → PrngReg), Pre_DxQkvRefIdeal_finite16 m →
    θ_run (Cert.DxQkvRefIdeal.defs (F := Ideal)) (onTc (τ := Cert.DxQkvRefIdeal.τ) (Cert.DxQkvRefIdeal.main (F := Ideal))) ⟨m, fun _ => 0, g⟩ (fun r => (∀ c : Dev Cert.DxQkvRefIdeal.nD,
      r.2.mem ((c.tc : Thread Cert.DxQkvRefIdeal.nD Cert.DxQkvRefIdeal.τ).loc Cert.DxQkvRefIdeal.main_arg0) = m ((c.tc : Thread Cert.DxQkvRefIdeal.nD Cert.DxQkvRefIdeal.τ).loc Cert.DxQkvRefIdeal.main_arg0)
      ∧ r.2.mem ((c.tc : Thread Cert.DxQkvRefIdeal.nD Cert.DxQkvRefIdeal.τ).loc Cert.DxQkvRefIdeal.main_arg1) = m ((c.tc : Thread Cert.DxQkvRefIdeal.nD Cert.DxQkvRefIdeal.τ).loc Cert.DxQkvRefIdeal.main_arg1)
      ∧ r.2.mem ((c.tc : Thread Cert.DxQkvRefIdeal.nD Cert.DxQkvRefIdeal.τ).loc Cert.DxQkvRefIdeal.main_arg2) = m ((c.tc : Thread Cert.DxQkvRefIdeal.nD Cert.DxQkvRefIdeal.τ).loc Cert.DxQkvRefIdeal.main_arg2)
      ∧ r.2.mem ((c.tc : Thread Cert.DxQkvRefIdeal.nD Cert.DxQkvRefIdeal.τ).loc Cert.DxQkvRefIdeal.main_arg3) = m ((c.tc : Thread Cert.DxQkvRefIdeal.nD Cert.DxQkvRefIdeal.τ).loc Cert.DxQkvRefIdeal.main_arg3)
      ∧ r.2.mem ((c.tc : Thread Cert.DxQkvRefIdeal.nD Cert.DxQkvRefIdeal.τ).loc Cert.DxQkvRefIdeal.main_arg4) = m ((c.tc : Thread Cert.DxQkvRefIdeal.nD Cert.DxQkvRefIdeal.τ).loc Cert.DxQkvRefIdeal.main_arg4)
      ∧ r.2.mem ((c.tc : Thread Cert.DxQkvRefIdeal.nD Cert.DxQkvRefIdeal.τ).loc Cert.DxQkvRefIdeal.main_arg5) = m ((c.tc : Thread Cert.DxQkvRefIdeal.nD Cert.DxQkvRefIdeal.τ).loc Cert.DxQkvRefIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v38) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Attn_AttnIdeal : Prop :=
  True

def algebraic_AttnIdeal_AttnRefIdeal_pre_finite2 [hAttnIdeal : Cert.AttnIdeal.Facts] [hAttnRefIdeal : Cert.AttnRefIdeal.Facts] [hPre_finite2 : Cert.Pre_finite2.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite2 m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)) (v2 : (c : Dev Cert.AttnIdeal.nD) → Buf (Elt Ideal) ((c.tc : Thread Cert.AttnIdeal.nD Cert.AttnIdeal.τ).loc Cert.AttnIdeal.main_v0_2)) (v3 : (c : Dev Cert.AttnIdeal.nD) → Buf (Elt Ideal) ((c.tc : Thread Cert.AttnIdeal.nD Cert.AttnIdeal.τ).loc Cert.AttnIdeal.main_v0_3)) (v4 : (c : Dev Cert.AttnIdeal.nD) → Buf (Elt Ideal) ((c.tc : Thread Cert.AttnIdeal.nD Cert.AttnIdeal.τ).loc Cert.AttnIdeal.main_v0_4)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_v0_2) = v2 c
          ∧ r.2.mem ((c.tc : Thread Cert.AttnIdeal.nD Cert.AttnIdeal.τ).loc Cert.AttnIdeal.main_v0_3) = v3 c
          ∧ r.2.mem ((c.tc : Thread Cert.AttnIdeal.nD Cert.AttnIdeal.τ).loc Cert.AttnIdeal.main_v0_4) = v4 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v142) = v0 c
          ∧ r.2.mem ((c.tc : Thread Cert.AttnRefIdeal.nD Cert.AttnRefIdeal.τ).loc Cert.AttnRefIdeal.main_v143) = v1 c
          ∧ r.2.mem ((c.tc : Thread Cert.AttnRefIdeal.nD Cert.AttnRefIdeal.τ).loc Cert.AttnRefIdeal.main_v144) = v2 c
          ∧ r.2.mem ((c.tc : Thread Cert.AttnRefIdeal.nD Cert.AttnRefIdeal.τ).loc Cert.AttnRefIdeal.main_v145) = v3 c
          ∧ r.2.mem ((c.tc : Thread Cert.AttnRefIdeal.nD Cert.AttnRefIdeal.τ).loc Cert.AttnRefIdeal.main_v146) = v4 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Dwup_DwupIdeal : Prop :=
  True

def algebraic_DwupIdeal_DwupRefIdeal [hDwupIdeal : Cert.DwupIdeal.Facts] [hDwupRefIdeal : Cert.DwupRefIdeal.Facts] : Prop :=
  ∀ (m : (ℓ : Loc Cert.DwupIdeal.nD Cert.DwupIdeal.τ Cert.DwupIdeal.sig) → Buf (Elt Ideal) ℓ) (g : Dev Cert.DwupIdeal.nD → PrngReg)
    (m' : (ℓ : Loc Cert.DwupRefIdeal.nD Cert.DwupRefIdeal.τ Cert.DwupRefIdeal.sig) → Buf (Elt Ideal) ℓ) (g' : Dev Cert.DwupRefIdeal.nD → PrngReg), Pre_DwupIdeal m →
    (∀ c : Dev Cert.DwupIdeal.nD,
      m' ((c.tc : Thread Cert.DwupRefIdeal.nD Cert.DwupRefIdeal.τ).loc Cert.DwupRefIdeal.main_arg0) = m ((c.tc : Thread Cert.DwupIdeal.nD Cert.DwupIdeal.τ).loc Cert.DwupIdeal.main_arg0)
      ∧ m' ((c.tc : Thread Cert.DwupRefIdeal.nD Cert.DwupRefIdeal.τ).loc Cert.DwupRefIdeal.main_arg1) = m ((c.tc : Thread Cert.DwupIdeal.nD Cert.DwupIdeal.τ).loc Cert.DwupIdeal.main_arg1)
      ∧ m' ((c.tc : Thread Cert.DwupRefIdeal.nD Cert.DwupRefIdeal.τ).loc Cert.DwupRefIdeal.main_arg2) = m ((c.tc : Thread Cert.DwupIdeal.nD Cert.DwupIdeal.τ).loc Cert.DwupIdeal.main_arg2)) →
    ∃ (v0 : (c : Dev Cert.DwupIdeal.nD) → Buf (Elt Ideal) ((c.tc : Thread Cert.DwupIdeal.nD Cert.DwupIdeal.τ).loc Cert.DwupIdeal.main_v0)),
      θ_run (Cert.DwupIdeal.defs (F := Ideal)) (onTc (τ := Cert.DwupIdeal.τ) (Cert.DwupIdeal.main (F := Ideal))) ⟨m, fun _ => 0, g⟩ (fun r => ∀ c : Dev Cert.DwupIdeal.nD,
          r.2.mem ((c.tc : Thread Cert.DwupIdeal.nD Cert.DwupIdeal.τ).loc Cert.DwupIdeal.main_v0) = v0 c
          ∧ r.2.mem ((c.tc : Thread Cert.DwupIdeal.nD Cert.DwupIdeal.τ).loc Cert.DwupIdeal.main_arg0) = m ((c.tc : Thread Cert.DwupIdeal.nD Cert.DwupIdeal.τ).loc Cert.DwupIdeal.main_arg0)
          ∧ r.2.mem ((c.tc : Thread Cert.DwupIdeal.nD Cert.DwupIdeal.τ).loc Cert.DwupIdeal.main_arg1) = m ((c.tc : Thread Cert.DwupIdeal.nD Cert.DwupIdeal.τ).loc Cert.DwupIdeal.main_arg1)
          ∧ r.2.mem ((c.tc : Thread Cert.DwupIdeal.nD Cert.DwupIdeal.τ).loc Cert.DwupIdeal.main_arg2) = m ((c.tc : Thread Cert.DwupIdeal.nD Cert.DwupIdeal.τ).loc Cert.DwupIdeal.main_arg2))
      ∧ θ_run (Cert.DwupRefIdeal.defs (F := Ideal)) (onTc (τ := Cert.DwupRefIdeal.τ) (Cert.DwupRefIdeal.main (F := Ideal))) ⟨m', fun _ => 0, g'⟩ (fun r => ∀ c : Dev Cert.DwupRefIdeal.nD,
          r.2.mem ((c.tc : Thread Cert.DwupRefIdeal.nD Cert.DwupRefIdeal.τ).loc Cert.DwupRefIdeal.main_v8) = v0 c
          ∧ r.2.mem ((c.tc : Thread Cert.DwupRefIdeal.nD Cert.DwupRefIdeal.τ).loc Cert.DwupRefIdeal.main_arg0) = m' ((c.tc : Thread Cert.DwupRefIdeal.nD Cert.DwupRefIdeal.τ).loc Cert.DwupRefIdeal.main_arg0)
          ∧ r.2.mem ((c.tc : Thread Cert.DwupRefIdeal.nD Cert.DwupRefIdeal.τ).loc Cert.DwupRefIdeal.main_arg1) = m' ((c.tc : Thread Cert.DwupRefIdeal.nD Cert.DwupRefIdeal.τ).loc Cert.DwupRefIdeal.main_arg1)
          ∧ r.2.mem ((c.tc : Thread Cert.DwupRefIdeal.nD Cert.DwupRefIdeal.τ).loc Cert.DwupRefIdeal.main_arg2) = m' ((c.tc : Thread Cert.DwupRefIdeal.nD Cert.DwupRefIdeal.τ).loc Cert.DwupRefIdeal.main_arg2))

def preserves_Dwdown_DwdownIdeal : Prop :=
  True

def algebraic_DwdownIdeal_DwdownRefIdeal [hDwdownIdeal : Cert.DwdownIdeal.Facts] [hDwdownRefIdeal : Cert.DwdownRefIdeal.Facts] : Prop :=
  ∀ (m : (ℓ : Loc Cert.DwdownIdeal.nD Cert.DwdownIdeal.τ Cert.DwdownIdeal.sig) → Buf (Elt Ideal) ℓ) (g : Dev Cert.DwdownIdeal.nD → PrngReg)
    (m' : (ℓ : Loc Cert.DwdownRefIdeal.nD Cert.DwdownRefIdeal.τ Cert.DwdownRefIdeal.sig) → Buf (Elt Ideal) ℓ) (g' : Dev Cert.DwdownRefIdeal.nD → PrngReg), Pre_DwdownIdeal m →
    (∀ c : Dev Cert.DwdownIdeal.nD,
      m' ((c.tc : Thread Cert.DwdownRefIdeal.nD Cert.DwdownRefIdeal.τ).loc Cert.DwdownRefIdeal.main_arg0) = m ((c.tc : Thread Cert.DwdownIdeal.nD Cert.DwdownIdeal.τ).loc Cert.DwdownIdeal.main_arg0)
      ∧ m' ((c.tc : Thread Cert.DwdownRefIdeal.nD Cert.DwdownRefIdeal.τ).loc Cert.DwdownRefIdeal.main_arg1) = m ((c.tc : Thread Cert.DwdownIdeal.nD Cert.DwdownIdeal.τ).loc Cert.DwdownIdeal.main_arg1)) →
    ∃ (v0 : (c : Dev Cert.DwdownIdeal.nD) → Buf (Elt Ideal) ((c.tc : Thread Cert.DwdownIdeal.nD Cert.DwdownIdeal.τ).loc Cert.DwdownIdeal.main_v0)),
      θ_run (Cert.DwdownIdeal.defs (F := Ideal)) (onTc (τ := Cert.DwdownIdeal.τ) (Cert.DwdownIdeal.main (F := Ideal))) ⟨m, fun _ => 0, g⟩ (fun r => ∀ c : Dev Cert.DwdownIdeal.nD,
          r.2.mem ((c.tc : Thread Cert.DwdownIdeal.nD Cert.DwdownIdeal.τ).loc Cert.DwdownIdeal.main_v0) = v0 c
          ∧ r.2.mem ((c.tc : Thread Cert.DwdownIdeal.nD Cert.DwdownIdeal.τ).loc Cert.DwdownIdeal.main_arg0) = m ((c.tc : Thread Cert.DwdownIdeal.nD Cert.DwdownIdeal.τ).loc Cert.DwdownIdeal.main_arg0)
          ∧ r.2.mem ((c.tc : Thread Cert.DwdownIdeal.nD Cert.DwdownIdeal.τ).loc Cert.DwdownIdeal.main_arg1) = m ((c.tc : Thread Cert.DwdownIdeal.nD Cert.DwdownIdeal.τ).loc Cert.DwdownIdeal.main_arg1))
      ∧ θ_run (Cert.DwdownRefIdeal.defs (F := Ideal)) (onTc (τ := Cert.DwdownRefIdeal.τ) (Cert.DwdownRefIdeal.main (F := Ideal))) ⟨m', fun _ => 0, g'⟩ (fun r => ∀ c : Dev Cert.DwdownRefIdeal.nD,
          r.2.mem ((c.tc : Thread Cert.DwdownRefIdeal.nD Cert.DwdownRefIdeal.τ).loc Cert.DwdownRefIdeal.main_v6) = v0 c
          ∧ r.2.mem ((c.tc : Thread Cert.DwdownRefIdeal.nD Cert.DwdownRefIdeal.τ).loc Cert.DwdownRefIdeal.main_arg0) = m' ((c.tc : Thread Cert.DwdownRefIdeal.nD Cert.DwdownRefIdeal.τ).loc Cert.DwdownRefIdeal.main_arg0)
          ∧ r.2.mem ((c.tc : Thread Cert.DwdownRefIdeal.nD Cert.DwdownRefIdeal.τ).loc Cert.DwdownRefIdeal.main_arg1) = m' ((c.tc : Thread Cert.DwdownRefIdeal.nD Cert.DwdownRefIdeal.τ).loc Cert.DwdownRefIdeal.main_arg1))

def preserves_Du_DuIdeal : Prop :=
  True

def algebraic_DuIdeal_DuRefIdeal [hDuIdeal : Cert.DuIdeal.Facts] [hDuRefIdeal : Cert.DuRefIdeal.Facts] : Prop :=
  ∀ (m : (ℓ : Loc Cert.DuIdeal.nD Cert.DuIdeal.τ Cert.DuIdeal.sig) → Buf (Elt Ideal) ℓ) (g : Dev Cert.DuIdeal.nD → PrngReg)
    (m' : (ℓ : Loc Cert.DuRefIdeal.nD Cert.DuRefIdeal.τ Cert.DuRefIdeal.sig) → Buf (Elt Ideal) ℓ) (g' : Dev Cert.DuRefIdeal.nD → PrngReg), Pre_DuIdeal m →
    (∀ c : Dev Cert.DuIdeal.nD,
      m' ((c.tc : Thread Cert.DuRefIdeal.nD Cert.DuRefIdeal.τ).loc Cert.DuRefIdeal.main_arg0) = m ((c.tc : Thread Cert.DuIdeal.nD Cert.DuIdeal.τ).loc Cert.DuIdeal.main_arg0)
      ∧ m' ((c.tc : Thread Cert.DuRefIdeal.nD Cert.DuRefIdeal.τ).loc Cert.DuRefIdeal.main_arg1) = m ((c.tc : Thread Cert.DuIdeal.nD Cert.DuIdeal.τ).loc Cert.DuIdeal.main_arg1)) →
    ∃ (v0 : (c : Dev Cert.DuIdeal.nD) → Buf (Elt Ideal) ((c.tc : Thread Cert.DuIdeal.nD Cert.DuIdeal.τ).loc Cert.DuIdeal.main_v1)),
      θ_run (Cert.DuIdeal.defs (F := Ideal)) (onTc (τ := Cert.DuIdeal.τ) (Cert.DuIdeal.main (F := Ideal))) ⟨m, fun _ => 0, g⟩ (fun r => ∀ c : Dev Cert.DuIdeal.nD,
          r.2.mem ((c.tc : Thread Cert.DuIdeal.nD Cert.DuIdeal.τ).loc Cert.DuIdeal.main_v1) = v0 c
          ∧ r.2.mem ((c.tc : Thread Cert.DuIdeal.nD Cert.DuIdeal.τ).loc Cert.DuIdeal.main_arg0) = m ((c.tc : Thread Cert.DuIdeal.nD Cert.DuIdeal.τ).loc Cert.DuIdeal.main_arg0)
          ∧ r.2.mem ((c.tc : Thread Cert.DuIdeal.nD Cert.DuIdeal.τ).loc Cert.DuIdeal.main_arg1) = m ((c.tc : Thread Cert.DuIdeal.nD Cert.DuIdeal.τ).loc Cert.DuIdeal.main_arg1))
      ∧ θ_run (Cert.DuRefIdeal.defs (F := Ideal)) (onTc (τ := Cert.DuRefIdeal.τ) (Cert.DuRefIdeal.main (F := Ideal))) ⟨m', fun _ => 0, g'⟩ (fun r => ∀ c : Dev Cert.DuRefIdeal.nD,
          r.2.mem ((c.tc : Thread Cert.DuRefIdeal.nD Cert.DuRefIdeal.τ).loc Cert.DuRefIdeal.main_v4) = v0 c
          ∧ r.2.mem ((c.tc : Thread Cert.DuRefIdeal.nD Cert.DuRefIdeal.τ).loc Cert.DuRefIdeal.main_arg0) = m' ((c.tc : Thread Cert.DuRefIdeal.nD Cert.DuRefIdeal.τ).loc Cert.DuRefIdeal.main_arg0)
          ∧ r.2.mem ((c.tc : Thread Cert.DuRefIdeal.nD Cert.DuRefIdeal.τ).loc Cert.DuRefIdeal.main_arg1) = m' ((c.tc : Thread Cert.DuRefIdeal.nD Cert.DuRefIdeal.τ).loc Cert.DuRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)) →
    ∃ (v0 : (c : Dev Cert.DxIdeal.nD) → Buf (Elt Ideal) ((c.tc : Thread Cert.DxIdeal.nD Cert.DxIdeal.τ).loc Cert.DxIdeal.main_v2)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v2) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v8) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)) →
    ∃ (v0 : (c : Dev Cert.MixInIdeal.nD) → Buf (Elt Ideal) ((c.tc : Thread Cert.MixInIdeal.nD Cert.MixInIdeal.τ).loc Cert.MixInIdeal.main_v2)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v2) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v1) = v0 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1))

def preserves_Dout_DoutIdeal : Prop :=
  True

def algebraic_DoutIdeal_DoutRefIdeal [hDoutIdeal : Cert.DoutIdeal.Facts] [hDoutRefIdeal : Cert.DoutRefIdeal.Facts] : Prop :=
  ∀ (m : (ℓ : Loc Cert.DoutIdeal.nD Cert.DoutIdeal.τ Cert.DoutIdeal.sig) → Buf (Elt Ideal) ℓ) (g : Dev Cert.DoutIdeal.nD → PrngReg)
    (m' : (ℓ : Loc Cert.DoutRefIdeal.nD Cert.DoutRefIdeal.τ Cert.DoutRefIdeal.sig) → Buf (Elt Ideal) ℓ) (g' : Dev Cert.DoutRefIdeal.nD → PrngReg), Pre_DoutIdeal m →
    (∀ c : Dev Cert.DoutIdeal.nD,
      m' ((c.tc : Thread Cert.DoutRefIdeal.nD Cert.DoutRefIdeal.τ).loc Cert.DoutRefIdeal.main_arg0) = m ((c.tc : Thread Cert.DoutIdeal.nD Cert.DoutIdeal.τ).loc Cert.DoutIdeal.main_arg0)
      ∧ m' ((c.tc : Thread Cert.DoutRefIdeal.nD Cert.DoutRefIdeal.τ).loc Cert.DoutRefIdeal.main_arg1) = m ((c.tc : Thread Cert.DoutIdeal.nD Cert.DoutIdeal.τ).loc Cert.DoutIdeal.main_arg1)) →
    ∃ (v0 : (c : Dev Cert.DoutIdeal.nD) → Buf (Elt Ideal) ((c.tc : Thread Cert.DoutIdeal.nD Cert.DoutIdeal.τ).loc Cert.DoutIdeal.main_v1)),
      θ_run (Cert.DoutIdeal.defs (F := Ideal)) (onTc (τ := Cert.DoutIdeal.τ) (Cert.DoutIdeal.main (F := Ideal))) ⟨m, fun _ => 0, g⟩ (fun r => ∀ c : Dev Cert.DoutIdeal.nD,
          r.2.mem ((c.tc : Thread Cert.DoutIdeal.nD Cert.DoutIdeal.τ).loc Cert.DoutIdeal.main_v1) = v0 c
          ∧ r.2.mem ((c.tc : Thread Cert.DoutIdeal.nD Cert.DoutIdeal.τ).loc Cert.DoutIdeal.main_arg0) = m ((c.tc : Thread Cert.DoutIdeal.nD Cert.DoutIdeal.τ).loc Cert.DoutIdeal.main_arg0)
          ∧ r.2.mem ((c.tc : Thread Cert.DoutIdeal.nD Cert.DoutIdeal.τ).loc Cert.DoutIdeal.main_arg1) = m ((c.tc : Thread Cert.DoutIdeal.nD Cert.DoutIdeal.τ).loc Cert.DoutIdeal.main_arg1))
      ∧ θ_run (Cert.DoutRefIdeal.defs (F := Ideal)) (onTc (τ := Cert.DoutRefIdeal.τ) (Cert.DoutRefIdeal.main (F := Ideal))) ⟨m', fun _ => 0, g'⟩ (fun r => ∀ c : Dev Cert.DoutRefIdeal.nD,
          r.2.mem ((c.tc : Thread Cert.DoutRefIdeal.nD Cert.DoutRefIdeal.τ).loc Cert.DoutRefIdeal.main_v4) = v0 c
          ∧ r.2.mem ((c.tc : Thread Cert.DoutRefIdeal.nD Cert.DoutRefIdeal.τ).loc Cert.DoutRefIdeal.main_arg0) = m' ((c.tc : Thread Cert.DoutRefIdeal.nD Cert.DoutRefIdeal.τ).loc Cert.DoutRefIdeal.main_arg0)
          ∧ r.2.mem ((c.tc : Thread Cert.DoutRefIdeal.nD Cert.DoutRefIdeal.τ).loc Cert.DoutRefIdeal.main_arg1) = m' ((c.tc : Thread Cert.DoutRefIdeal.nD Cert.DoutRefIdeal.τ).loc Cert.DoutRefIdeal.main_arg1))

def preserves_Dwo_DwoIdeal : Prop :=
  True

def algebraic_DwoIdeal_DwoRefIdeal [hDwoIdeal : Cert.DwoIdeal.Facts] [hDwoRefIdeal : Cert.DwoRefIdeal.Facts] : Prop :=
  ∀ (m : (ℓ : Loc Cert.DwoIdeal.nD Cert.DwoIdeal.τ Cert.DwoIdeal.sig) → Buf (Elt Ideal) ℓ) (g : Dev Cert.DwoIdeal.nD → PrngReg)
    (m' : (ℓ : Loc Cert.DwoRefIdeal.nD Cert.DwoRefIdeal.τ Cert.DwoRefIdeal.sig) → Buf (Elt Ideal) ℓ) (g' : Dev Cert.DwoRefIdeal.nD → PrngReg), Pre_DwoIdeal m →
    (∀ c : Dev Cert.DwoIdeal.nD,
      m' ((c.tc : Thread Cert.DwoRefIdeal.nD Cert.DwoRefIdeal.τ).loc Cert.DwoRefIdeal.main_arg0) = m ((c.tc : Thread Cert.DwoIdeal.nD Cert.DwoIdeal.τ).loc Cert.DwoIdeal.main_arg0)
      ∧ m' ((c.tc : Thread Cert.DwoRefIdeal.nD Cert.DwoRefIdeal.τ).loc Cert.DwoRefIdeal.main_arg1) = m ((c.tc : Thread Cert.DwoIdeal.nD Cert.DwoIdeal.τ).loc Cert.DwoIdeal.main_arg1)) →
    ∃ (v0 : (c : Dev Cert.DwoIdeal.nD) → Buf (Elt Ideal) ((c.tc : Thread Cert.DwoIdeal.nD Cert.DwoIdeal.τ).loc Cert.DwoIdeal.main_v0)),
      θ_run (Cert.DwoIdeal.defs (F := Ideal)) (onTc (τ := Cert.DwoIdeal.τ) (Cert.DwoIdeal.main (F := Ideal))) ⟨m, fun _ => 0, g⟩ (fun r => ∀ c : Dev Cert.DwoIdeal.nD,
          r.2.mem ((c.tc : Thread Cert.DwoIdeal.nD Cert.DwoIdeal.τ).loc Cert.DwoIdeal.main_v0) = v0 c
          ∧ r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
          ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1))
      ∧ θ_run (Cert.DwoRefIdeal.defs (F := Ideal)) (onTc (τ := Cert.DwoRefIdeal.τ) (Cert.DwoRefIdeal.main (F := Ideal))) ⟨m', fun _ => 0, g'⟩ (fun r => ∀ c : Dev Cert.DwoRefIdeal.nD,
          r.2.mem ((c.tc : Thread Cert.DwoRefIdeal.nD Cert.DwoRefIdeal.τ).loc Cert.DwoRefIdeal.main_v6) = v0 c
          ∧ r.2.mem ((c.tc : Thread Cert.DwoRefIdeal.nD Cert.DwoRefIdeal.τ).loc Cert.DwoRefIdeal.main_arg0) = m' ((c.tc : Thread Cert.DwoRefIdeal.nD Cert.DwoRefIdeal.τ).loc Cert.DwoRefIdeal.main_arg0)
          ∧ r.2.mem ((c.tc : Thread Cert.DwoRefIdeal.nD Cert.DwoRefIdeal.τ).loc Cert.DwoRefIdeal.main_arg1) = m' ((c.tc : Thread Cert.DwoRefIdeal.nD Cert.DwoRefIdeal.τ).loc Cert.DwoRefIdeal.main_arg1))

def preserves_Dwin_DwinIdeal : Prop :=
  True

def algebraic_DwinIdeal_DwinRefIdeal [hDwinIdeal : Cert.DwinIdeal.Facts] [hDwinRefIdeal : Cert.DwinRefIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinRefIdeal.nD Cert.DwinRefIdeal.τ Cert.DwinRefIdeal.sig) → Buf (Elt Ideal) ℓ) (g' : Dev Cert.DwinRefIdeal.nD → PrngReg), Pre_DwinIdeal m →
    (∀ c : Dev Cert.DwinIdeal.nD,
      m' ((c.tc : Thread Cert.DwinRefIdeal.nD Cert.DwinRefIdeal.τ).loc Cert.DwinRefIdeal.main_arg0) = m ((c.tc : Thread Cert.DwinIdeal.nD Cert.DwinIdeal.τ).loc Cert.DwinIdeal.main_arg0)
      ∧ m' ((c.tc : Thread Cert.DwinRefIdeal.nD Cert.DwinRefIdeal.τ).loc Cert.DwinRefIdeal.main_arg1) = m ((c.tc : Thread Cert.DwinIdeal.nD Cert.DwinIdeal.τ).loc Cert.DwinIdeal.main_arg1)) →
    ∃ (v0 : (c : Dev Cert.DwinIdeal.nD) → Buf (Elt Ideal) ((c.tc : Thread Cert.DwinIdeal.nD Cert.DwinIdeal.τ).loc Cert.DwinIdeal.main_v0)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v0) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ θ_run (Cert.DwinRefIdeal.defs (F := Ideal)) (onTc (τ := Cert.DwinRefIdeal.τ) (Cert.DwinRefIdeal.main (F := Ideal))) ⟨m', fun _ => 0, g'⟩ (fun r => ∀ c : Dev Cert.DwinRefIdeal.nD,
          r.2.mem ((c.tc : Thread Cert.DwinRefIdeal.nD Cert.DwinRefIdeal.τ).loc Cert.DwinRefIdeal.main_v6) = v0 c
          ∧ r.2.mem ((c.tc : Thread Cert.DwinRefIdeal.nD Cert.DwinRefIdeal.τ).loc Cert.DwinRefIdeal.main_arg0) = m' ((c.tc : Thread Cert.DwinRefIdeal.nD Cert.DwinRefIdeal.τ).loc Cert.DwinRefIdeal.main_arg0)
          ∧ r.2.mem ((c.tc : Thread Cert.DwinRefIdeal.nD Cert.DwinRefIdeal.τ).loc Cert.DwinRefIdeal.main_arg1) = m' ((c.tc : Thread Cert.DwinRefIdeal.nD Cert.DwinRefIdeal.τ).loc Cert.DwinRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v4) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)
      ∧ m' ((c.tc : Thread Cert.DownRefIdeal.nD Cert.DownRefIdeal.τ).loc Cert.DownRefIdeal.main_arg6) = m ((c.tc : Thread Cert.DownIdeal.nD Cert.DownIdeal.τ).loc Cert.DownIdeal.main_arg6)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v26) = v0 c
          ∧ r.2.mem ((c.tc : Thread Cert.DownRefIdeal.nD Cert.DownRefIdeal.τ).loc Cert.DownRefIdeal.main_v49) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5)
          ∧ r.2.mem ((c.tc : Thread Cert.DownRefIdeal.nD Cert.DownRefIdeal.τ).loc Cert.DownRefIdeal.main_arg6) = m' ((c.tc : Thread Cert.DownRefIdeal.nD Cert.DownRefIdeal.τ).loc Cert.DownRefIdeal.main_arg6))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v1_0)) (v1 : (c : Dev Cert.OutIdeal.nD) → Buf (Elt Ideal) ((c.tc : Thread Cert.OutIdeal.nD Cert.OutIdeal.τ).loc Cert.OutIdeal.main_v1_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1_0) = v0 c
          ∧ r.2.mem ((c.tc : Thread Cert.OutIdeal.nD Cert.OutIdeal.τ).loc Cert.OutIdeal.main_v1_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v26) = v0 c
          ∧ r.2.mem ((c.tc : Thread Cert.OutRefIdeal.nD Cert.OutRefIdeal.τ).loc Cert.OutRefIdeal.main_v49) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_Loss_LossIdeal : Prop :=
  True

def algebraic_LossIdeal_LossRefIdeal_pre_finite15 [hLossIdeal : Cert.LossIdeal.Facts] [hLossRefIdeal : Cert.LossRefIdeal.Facts] [hPre_finite15 : Cert.Pre_finite15.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite15 m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)
      ∧ m' ((c.tc : Thread Cert.LossRefIdeal.nD Cert.LossRefIdeal.τ).loc Cert.LossRefIdeal.main_arg6) = m ((c.tc : Thread Cert.LossIdeal.nD Cert.LossIdeal.τ).loc Cert.LossIdeal.main_arg6)
      ∧ m' ((c.tc : Thread Cert.LossRefIdeal.nD Cert.LossRefIdeal.τ).loc Cert.LossRefIdeal.main_arg7) = m ((c.tc : Thread Cert.LossIdeal.nD Cert.LossIdeal.τ).loc Cert.LossIdeal.main_arg7)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)) (v3 : (c : Dev Cert.LossIdeal.nD) → Buf (Elt Ideal) ((c.tc : Thread Cert.LossIdeal.nD Cert.LossIdeal.τ).loc Cert.LossIdeal.main_v1_3)) (v4 : (c : Dev Cert.LossIdeal.nD) → Buf (Elt Ideal) ((c.tc : Thread Cert.LossIdeal.nD Cert.LossIdeal.τ).loc Cert.LossIdeal.main_v1_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_v1_3) = v3 c
          ∧ r.2.mem ((c.tc : Thread Cert.LossIdeal.nD Cert.LossIdeal.τ).loc Cert.LossIdeal.main_v1_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
          ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
          ∧ r.2.mem ((c.tc : Thread Cert.LossIdeal.nD Cert.LossIdeal.τ).loc Cert.LossIdeal.main_arg7) = m ((c.tc : Thread Cert.LossIdeal.nD Cert.LossIdeal.τ).loc Cert.LossIdeal.main_arg7))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v101) = v0 c
          ∧ r.2.mem ((c.tc : Thread Cert.LossRefIdeal.nD Cert.LossRefIdeal.τ).loc Cert.LossRefIdeal.main_v102) = v1 c
          ∧ r.2.mem ((c.tc : Thread Cert.LossRefIdeal.nD Cert.LossRefIdeal.τ).loc Cert.LossRefIdeal.main_v75) = v2 c
          ∧ r.2.mem ((c.tc : Thread Cert.LossRefIdeal.nD Cert.LossRefIdeal.τ).loc Cert.LossRefIdeal.main_v72) = v3 c
          ∧ r.2.mem ((c.tc : Thread Cert.LossRefIdeal.nD Cert.LossRefIdeal.τ).loc Cert.LossRefIdeal.main_v64) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5)
          ∧ r.2.mem ((c.tc : Thread Cert.LossRefIdeal.nD Cert.LossRefIdeal.τ).loc Cert.LossRefIdeal.main_arg6) = m' ((c.tc : Thread Cert.LossRefIdeal.nD Cert.LossRefIdeal.τ).loc Cert.LossRefIdeal.main_arg6)
          ∧ r.2.mem ((c.tc : Thread Cert.LossRefIdeal.nD Cert.LossRefIdeal.τ).loc Cert.LossRefIdeal.main_arg7) = m' ((c.tc : Thread Cert.LossRefIdeal.nD Cert.LossRefIdeal.τ).loc Cert.LossRefIdeal.main_arg7))

def preserves_DxQkv_DxQkvIdeal : Prop :=
  True

def algebraic_DxQkvIdeal_DxQkvRefIdeal_pre_finite16 [hDxQkvIdeal : Cert.DxQkvIdeal.Facts] [hDxQkvRefIdeal : Cert.DxQkvRefIdeal.Facts] [hPre_finite16 : Cert.Pre_finite16.Facts] : Prop :=
  ∀ (m : (ℓ : Loc Cert.DxQkvIdeal.nD Cert.DxQkvIdeal.τ Cert.DxQkvIdeal.sig) → Buf (Elt Ideal) ℓ) (g : Dev Cert.DxQkvIdeal.nD → PrngReg)
    (m' : (ℓ : Loc Cert.DxQkvRefIdeal.nD Cert.DxQkvRefIdeal.τ Cert.DxQkvRefIdeal.sig) → Buf (Elt Ideal) ℓ) (g' : Dev Cert.DxQkvRefIdeal.nD → PrngReg), Pre_DxQkvIdeal_finite16 m →
    (∀ c : Dev Cert.DxQkvIdeal.nD,
      m' ((c.tc : Thread Cert.DxQkvRefIdeal.nD Cert.DxQkvRefIdeal.τ).loc Cert.DxQkvRefIdeal.main_arg0) = m ((c.tc : Thread Cert.DxQkvIdeal.nD Cert.DxQkvIdeal.τ).loc Cert.DxQkvIdeal.main_arg0)
      ∧ m' ((c.tc : Thread Cert.DxQkvRefIdeal.nD Cert.DxQkvRefIdeal.τ).loc Cert.DxQkvRefIdeal.main_arg1) = m ((c.tc : Thread Cert.DxQkvIdeal.nD Cert.DxQkvIdeal.τ).loc Cert.DxQkvIdeal.main_arg1)
      ∧ m' ((c.tc : Thread Cert.DxQkvRefIdeal.nD Cert.DxQkvRefIdeal.τ).loc Cert.DxQkvRefIdeal.main_arg2) = m ((c.tc : Thread Cert.DxQkvIdeal.nD Cert.DxQkvIdeal.τ).loc Cert.DxQkvIdeal.main_arg2)
      ∧ m' ((c.tc : Thread Cert.DxQkvRefIdeal.nD Cert.DxQkvRefIdeal.τ).loc Cert.DxQkvRefIdeal.main_arg3) = m ((c.tc : Thread Cert.DxQkvIdeal.nD Cert.DxQkvIdeal.τ).loc Cert.DxQkvIdeal.main_arg3)
      ∧ m' ((c.tc : Thread Cert.DxQkvRefIdeal.nD Cert.DxQkvRefIdeal.τ).loc Cert.DxQkvRefIdeal.main_arg4) = m ((c.tc : Thread Cert.DxQkvIdeal.nD Cert.DxQkvIdeal.τ).loc Cert.DxQkvIdeal.main_arg4)
      ∧ m' ((c.tc : Thread Cert.DxQkvRefIdeal.nD Cert.DxQkvRefIdeal.τ).loc Cert.DxQkvRefIdeal.main_arg5) = m ((c.tc : Thread Cert.DxQkvIdeal.nD Cert.DxQkvIdeal.τ).loc Cert.DxQkvIdeal.main_arg5)) →
    ∃ (v0 : (c : Dev Cert.DxQkvIdeal.nD) → Buf (Elt Ideal) ((c.tc : Thread Cert.DxQkvIdeal.nD Cert.DxQkvIdeal.τ).loc Cert.DxQkvIdeal.main_v2_0)) (v1 : (c : Dev Cert.DxQkvIdeal.nD) → Buf (Elt Ideal) ((c.tc : Thread Cert.DxQkvIdeal.nD Cert.DxQkvIdeal.τ).loc Cert.DxQkvIdeal.main_v2_1)) (v2 : (c : Dev Cert.DxQkvIdeal.nD) → Buf (Elt Ideal) ((c.tc : Thread Cert.DxQkvIdeal.nD Cert.DxQkvIdeal.τ).loc Cert.DxQkvIdeal.main_v2_2)) (v3 : (c : Dev Cert.DxQkvIdeal.nD) → Buf (Elt Ideal) ((c.tc : Thread Cert.DxQkvIdeal.nD Cert.DxQkvIdeal.τ).loc Cert.DxQkvIdeal.main_v2_3)),
      θ_run (Cert.DxQkvIdeal.defs (F := Ideal)) (onTc (τ := Cert.DxQkvIdeal.τ) (Cert.DxQkvIdeal.main (F := Ideal))) ⟨m, fun _ => 0, g⟩ (fun r => ∀ c : Dev Cert.DxQkvIdeal.nD,
          r.2.mem ((c.tc : Thread Cert.DxQkvIdeal.nD Cert.DxQkvIdeal.τ).loc Cert.DxQkvIdeal.main_v2_0) = v0 c
          ∧ r.2.mem ((c.tc : Thread Cert.DxQkvIdeal.nD Cert.DxQkvIdeal.τ).loc Cert.DxQkvIdeal.main_v2_1) = v1 c
          ∧ r.2.mem ((c.tc : Thread Cert.DxQkvIdeal.nD Cert.DxQkvIdeal.τ).loc Cert.DxQkvIdeal.main_v2_2) = v2 c
          ∧ r.2.mem ((c.tc : Thread Cert.DxQkvIdeal.nD Cert.DxQkvIdeal.τ).loc Cert.DxQkvIdeal.main_v2_3) = v3 c
          ∧ r.2.mem ((c.tc : Thread Cert.DxQkvIdeal.nD Cert.DxQkvIdeal.τ).loc Cert.DxQkvIdeal.main_arg0) = m ((c.tc : Thread Cert.DxQkvIdeal.nD Cert.DxQkvIdeal.τ).loc Cert.DxQkvIdeal.main_arg0)
          ∧ r.2.mem ((c.tc : Thread Cert.DxQkvIdeal.nD Cert.DxQkvIdeal.τ).loc Cert.DxQkvIdeal.main_arg1) = m ((c.tc : Thread Cert.DxQkvIdeal.nD Cert.DxQkvIdeal.τ).loc Cert.DxQkvIdeal.main_arg1)
          ∧ r.2.mem ((c.tc : Thread Cert.DxQkvIdeal.nD Cert.DxQkvIdeal.τ).loc Cert.DxQkvIdeal.main_arg2) = m ((c.tc : Thread Cert.DxQkvIdeal.nD Cert.DxQkvIdeal.τ).loc Cert.DxQkvIdeal.main_arg2)
          ∧ r.2.mem ((c.tc : Thread Cert.DxQkvIdeal.nD Cert.DxQkvIdeal.τ).loc Cert.DxQkvIdeal.main_arg3) = m ((c.tc : Thread Cert.DxQkvIdeal.nD Cert.DxQkvIdeal.τ).loc Cert.DxQkvIdeal.main_arg3)
          ∧ r.2.mem ((c.tc : Thread Cert.DxQkvIdeal.nD Cert.DxQkvIdeal.τ).loc Cert.DxQkvIdeal.main_arg4) = m ((c.tc : Thread Cert.DxQkvIdeal.nD Cert.DxQkvIdeal.τ).loc Cert.DxQkvIdeal.main_arg4)
          ∧ r.2.mem ((c.tc : Thread Cert.DxQkvIdeal.nD Cert.DxQkvIdeal.τ).loc Cert.DxQkvIdeal.main_arg5) = m ((c.tc : Thread Cert.DxQkvIdeal.nD Cert.DxQkvIdeal.τ).loc Cert.DxQkvIdeal.main_arg5))
      ∧ θ_run (Cert.DxQkvRefIdeal.defs (F := Ideal)) (onTc (τ := Cert.DxQkvRefIdeal.τ) (Cert.DxQkvRefIdeal.main (F := Ideal))) ⟨m', fun _ => 0, g'⟩ (fun r => ∀ c : Dev Cert.DxQkvRefIdeal.nD,
          r.2.mem ((c.tc : Thread Cert.DxQkvRefIdeal.nD Cert.DxQkvRefIdeal.τ).loc Cert.DxQkvRefIdeal.main_v67) = v0 c
          ∧ r.2.mem ((c.tc : Thread Cert.DxQkvRefIdeal.nD Cert.DxQkvRefIdeal.τ).loc Cert.DxQkvRefIdeal.main_v68) = v1 c
          ∧ r.2.mem ((c.tc : Thread Cert.DxQkvRefIdeal.nD Cert.DxQkvRefIdeal.τ).loc Cert.DxQkvRefIdeal.main_v41) = v2 c
          ∧ r.2.mem ((c.tc : Thread Cert.DxQkvRefIdeal.nD Cert.DxQkvRefIdeal.τ).loc Cert.DxQkvRefIdeal.main_v38) = v3 c
          ∧ r.2.mem ((c.tc : Thread Cert.DxQkvRefIdeal.nD Cert.DxQkvRefIdeal.τ).loc Cert.DxQkvRefIdeal.main_arg0) = m' ((c.tc : Thread Cert.DxQkvRefIdeal.nD Cert.DxQkvRefIdeal.τ).loc Cert.DxQkvRefIdeal.main_arg0)
          ∧ r.2.mem ((c.tc : Thread Cert.DxQkvRefIdeal.nD Cert.DxQkvRefIdeal.τ).loc Cert.DxQkvRefIdeal.main_arg1) = m' ((c.tc : Thread Cert.DxQkvRefIdeal.nD Cert.DxQkvRefIdeal.τ).loc Cert.DxQkvRefIdeal.main_arg1)
          ∧ r.2.mem ((c.tc : Thread Cert.DxQkvRefIdeal.nD Cert.DxQkvRefIdeal.τ).loc Cert.DxQkvRefIdeal.main_arg2) = m' ((c.tc : Thread Cert.DxQkvRefIdeal.nD Cert.DxQkvRefIdeal.τ).loc Cert.DxQkvRefIdeal.main_arg2)
          ∧ r.2.mem ((c.tc : Thread Cert.DxQkvRefIdeal.nD Cert.DxQkvRefIdeal.τ).loc Cert.DxQkvRefIdeal.main_arg3) = m' ((c.tc : Thread Cert.DxQkvRefIdeal.nD Cert.DxQkvRefIdeal.τ).loc Cert.DxQkvRefIdeal.main_arg3)
          ∧ r.2.mem ((c.tc : Thread Cert.DxQkvRefIdeal.nD Cert.DxQkvRefIdeal.τ).loc Cert.DxQkvRefIdeal.main_arg4) = m' ((c.tc : Thread Cert.DxQkvRefIdeal.nD Cert.DxQkvRefIdeal.τ).loc Cert.DxQkvRefIdeal.main_arg4)
          ∧ r.2.mem ((c.tc : Thread Cert.DxQkvRefIdeal.nD Cert.DxQkvRefIdeal.τ).loc Cert.DxQkvRefIdeal.main_arg5) = m' ((c.tc : Thread Cert.DxQkvRefIdeal.nD Cert.DxQkvRefIdeal.τ).loc Cert.DxQkvRefIdeal.main_arg5))

def Claim : Prop :=
  ∃ (hKernel : Cert.Kernel.Facts) (hKernelIdeal : Cert.KernelIdeal.Facts) (hReferenceIdeal : Cert.ReferenceIdeal.Facts) (hAttn : Cert.Attn.Facts) (hAttnIdeal : Cert.AttnIdeal.Facts) (hAttnRefIdeal : Cert.AttnRefIdeal.Facts) (hDwup : Cert.Dwup.Facts) (hDwupIdeal : Cert.DwupIdeal.Facts) (hDwupRefIdeal : Cert.DwupRefIdeal.Facts) (hDwdown : Cert.Dwdown.Facts) (hDwdownIdeal : Cert.DwdownIdeal.Facts) (hDwdownRefIdeal : Cert.DwdownRefIdeal.Facts) (hDu : Cert.Du.Facts) (hDuIdeal : Cert.DuIdeal.Facts) (hDuRefIdeal : Cert.DuRefIdeal.Facts) (hUp : Cert.Up.Facts) (hUpIdeal : Cert.UpIdeal.Facts) (hUpRefIdeal : Cert.UpRefIdeal.Facts) (hDx : Cert.Dx.Facts) (hDxIdeal : Cert.DxIdeal.Facts) (hDxRefIdeal : Cert.DxRefIdeal.Facts) (hMixIn : Cert.MixIn.Facts) (hMixInIdeal : Cert.MixInIdeal.Facts) (hMixInRefIdeal : Cert.MixInRefIdeal.Facts) (hDout : Cert.Dout.Facts) (hDoutIdeal : Cert.DoutIdeal.Facts) (hDoutRefIdeal : Cert.DoutRefIdeal.Facts) (hDwo : Cert.Dwo.Facts) (hDwoIdeal : Cert.DwoIdeal.Facts) (hDwoRefIdeal : Cert.DwoRefIdeal.Facts) (hDwin : Cert.Dwin.Facts) (hDwinIdeal : Cert.DwinIdeal.Facts) (hDwinRefIdeal : Cert.DwinRefIdeal.Facts) (hQkv : Cert.Qkv.Facts) (hQkvIdeal : Cert.QkvIdeal.Facts) (hQkvRefIdeal : Cert.QkvRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hLoss : Cert.Loss.Facts) (hLossIdeal : Cert.LossIdeal.Facts) (hLossRefIdeal : Cert.LossRefIdeal.Facts) (hDxQkv : Cert.DxQkv.Facts) (hDxQkvIdeal : Cert.DxQkvIdeal.Facts) (hDxQkvRefIdeal : Cert.DxQkvRefIdeal.Facts) (hPre_finite : Cert.Pre_finite.Facts) (hPre_finite2 : Cert.Pre_finite2.Facts) (hPre_finite15 : Cert.Pre_finite15.Facts) (hPre_finite16 : Cert.Pre_finite16.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Attn (hAttn := hAttn)
    ∧ quiescent_AttnIdeal (hAttnIdeal := hAttnIdeal)
    ∧ quiescent_AttnIdeal_pre_finite2 (hAttnIdeal := hAttnIdeal) (hPre_finite2 := hPre_finite2)
    ∧ quiescent_AttnRefIdeal (hAttnRefIdeal := hAttnRefIdeal)
    ∧ quiescent_AttnRefIdeal_pre_finite2 (hAttnRefIdeal := hAttnRefIdeal) (hPre_finite2 := hPre_finite2)
    ∧ quiescent_Dwup (hDwup := hDwup)
    ∧ quiescent_DwupIdeal (hDwupIdeal := hDwupIdeal)
    ∧ quiescent_DwupRefIdeal (hDwupRefIdeal := hDwupRefIdeal)
    ∧ quiescent_Dwdown (hDwdown := hDwdown)
    ∧ quiescent_DwdownIdeal (hDwdownIdeal := hDwdownIdeal)
    ∧ quiescent_DwdownRefIdeal (hDwdownRefIdeal := hDwdownRefIdeal)
    ∧ quiescent_Du (hDu := hDu)
    ∧ quiescent_DuIdeal (hDuIdeal := hDuIdeal)
    ∧ quiescent_DuRefIdeal (hDuRefIdeal := hDuRefIdeal)
    ∧ quiescent_Up (hUp := hUp)
    ∧ quiescent_UpIdeal (hUpIdeal := hUpIdeal)
    ∧ quiescent_UpRefIdeal (hUpRefIdeal := hUpRefIdeal)
    ∧ quiescent_Dx (hDx := hDx)
    ∧ quiescent_DxIdeal (hDxIdeal := hDxIdeal)
    ∧ quiescent_DxRefIdeal (hDxRefIdeal := hDxRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_Dout (hDout := hDout)
    ∧ quiescent_DoutIdeal (hDoutIdeal := hDoutIdeal)
    ∧ quiescent_DoutRefIdeal (hDoutRefIdeal := hDoutRefIdeal)
    ∧ quiescent_Dwo (hDwo := hDwo)
    ∧ quiescent_DwoIdeal (hDwoIdeal := hDwoIdeal)
    ∧ quiescent_DwoRefIdeal (hDwoRefIdeal := hDwoRefIdeal)
    ∧ quiescent_Dwin (hDwin := hDwin)
    ∧ quiescent_DwinIdeal (hDwinIdeal := hDwinIdeal)
    ∧ quiescent_DwinRefIdeal (hDwinRefIdeal := hDwinRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Loss (hLoss := hLoss)
    ∧ quiescent_LossIdeal (hLossIdeal := hLossIdeal)
    ∧ quiescent_LossIdeal_pre_finite15 (hLossIdeal := hLossIdeal) (hPre_finite15 := hPre_finite15)
    ∧ quiescent_LossRefIdeal (hLossRefIdeal := hLossRefIdeal)
    ∧ quiescent_LossRefIdeal_pre_finite15 (hLossRefIdeal := hLossRefIdeal) (hPre_finite15 := hPre_finite15)
    ∧ quiescent_DxQkv (hDxQkv := hDxQkv)
    ∧ quiescent_DxQkvIdeal (hDxQkvIdeal := hDxQkvIdeal)
    ∧ quiescent_DxQkvIdeal_pre_finite16 (hDxQkvIdeal := hDxQkvIdeal) (hPre_finite16 := hPre_finite16)
    ∧ quiescent_DxQkvRefIdeal (hDxQkvRefIdeal := hDxQkvRefIdeal)
    ∧ quiescent_DxQkvRefIdeal_pre_finite16 (hDxQkvRefIdeal := hDxQkvRefIdeal) (hPre_finite16 := hPre_finite16)
    ∧ preserves_Kernel_KernelIdeal
    ∧ algebraic_KernelIdeal_ReferenceIdeal_pre_finite (hKernelIdeal := hKernelIdeal) (hReferenceIdeal := hReferenceIdeal) (hPre_finite := hPre_finite)
    ∧ preserves_Attn_AttnIdeal
    ∧ algebraic_AttnIdeal_AttnRefIdeal_pre_finite2 (hAttnIdeal := hAttnIdeal) (hAttnRefIdeal := hAttnRefIdeal) (hPre_finite2 := hPre_finite2)
    ∧ preserves_Dwup_DwupIdeal
    ∧ algebraic_DwupIdeal_DwupRefIdeal (hDwupIdeal := hDwupIdeal) (hDwupRefIdeal := hDwupRefIdeal)
    ∧ preserves_Dwdown_DwdownIdeal
    ∧ algebraic_DwdownIdeal_DwdownRefIdeal (hDwdownIdeal := hDwdownIdeal) (hDwdownRefIdeal := hDwdownRefIdeal)
    ∧ preserves_Du_DuIdeal
    ∧ algebraic_DuIdeal_DuRefIdeal (hDuIdeal := hDuIdeal) (hDuRefIdeal := hDuRefIdeal)
    ∧ preserves_Up_UpIdeal
    ∧ algebraic_UpIdeal_UpRefIdeal (hUpIdeal := hUpIdeal) (hUpRefIdeal := hUpRefIdeal)
    ∧ preserves_Dx_DxIdeal
    ∧ algebraic_DxIdeal_DxRefIdeal (hDxIdeal := hDxIdeal) (hDxRefIdeal := hDxRefIdeal)
    ∧ preserves_MixIn_MixInIdeal
    ∧ algebraic_MixInIdeal_MixInRefIdeal (hMixInIdeal := hMixInIdeal) (hMixInRefIdeal := hMixInRefIdeal)
    ∧ preserves_Dout_DoutIdeal
    ∧ algebraic_DoutIdeal_DoutRefIdeal (hDoutIdeal := hDoutIdeal) (hDoutRefIdeal := hDoutRefIdeal)
    ∧ preserves_Dwo_DwoIdeal
    ∧ algebraic_DwoIdeal_DwoRefIdeal (hDwoIdeal := hDwoIdeal) (hDwoRefIdeal := hDwoRefIdeal)
    ∧ preserves_Dwin_DwinIdeal
    ∧ algebraic_DwinIdeal_DwinRefIdeal (hDwinIdeal := hDwinIdeal) (hDwinRefIdeal := hDwinRefIdeal)
    ∧ preserves_Qkv_QkvIdeal
    ∧ algebraic_QkvIdeal_QkvRefIdeal (hQkvIdeal := hQkvIdeal) (hQkvRefIdeal := hQkvRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Loss_LossIdeal
    ∧ algebraic_LossIdeal_LossRefIdeal_pre_finite15 (hLossIdeal := hLossIdeal) (hLossRefIdeal := hLossRefIdeal) (hPre_finite15 := hPre_finite15)
    ∧ preserves_DxQkv_DxQkvIdeal
    ∧ algebraic_DxQkvIdeal_DxQkvRefIdeal_pre_finite16 (hDxQkvIdeal := hDxQkvIdeal) (hDxQkvRefIdeal := hDxQkvRefIdeal) (hPre_finite16 := hPre_finite16)
-- ==== Pre_finite.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S1x1024 : S_.BroadcastsInDim S1x1024 (![] : Fin 0 → Fin S1x1024.rank)
  reducesTo_S1x1024_S_d0_1 : S1x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg5 : FVec F S4096x1024 .f32) (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  let main_v21 : FVec F S4096x1024 .f32 := Host.absf main_arg5
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  let main_c_7 : IVec S_ 1 := constantI S_ 1 1#1
  let main_v24 : IVec S_ 1 := (fun x v => Host.reduce IntOp.andi x v reducesTo_S4096x1024_S_d0_1 h_S_) main_v23 main_c_7
  let main_v25 : IVec S_ 1 := andi main_v20 main_v24
  main_v25

def fn {F : FTy → Type} [FloatOps F] (main_arg0 : FVec F S4096x2816 .bf16) (main_arg1 : FVec F S4096x2816 .bf16) (main_arg2 : FVec F S1024x5632 .f32) (main_arg3 : FVec F S4096x1024 .f32) (main_arg4 : FVec F S1x1024 .f32) (main_arg5 : FVec F S4096x1024 .f32) : IVec S_ 1 :=
  let main_v0 : FVec F S4096x2816 .f32 := (extf .f32 · bitsLt_bf16_f32) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_c : IVec S_ 1 := constantI S_ 1 1#1
  let main_v4 : IVec S_ 1 := (fun x v => Host.reduce IntOp.andi x v reducesTo_S4096x2816_S_d0_1 h_S_) main_v3 main_c
  let main_v5 : FVec F S4096x2816 .f32 := (extf .f32 · bitsLt_bf16_f32) main_arg1
  let main_v6 : FVec F S4096x2816 .f32 := Host.absf main_v5
  let main_cst_0 : FVec F S_ .f32 := constant S_ .f32 0x7F800000#32
  let main_v7 : FVec F S4096x2816 .f32 := broadcastInDim S4096x2816 ![] bcast_S_S4096x2816 main_cst_0
  let main_v8 : IVec S4096x2816 1 := cmpf .olt main_v6 main_v7
  let main_c_1 : IVec S_ 1 := constantI S_ 1 1#1
  let main_v9 : IVec S_ 1 := (fun x v => Host.reduce IntOp.andi x v reducesTo_S4096x2816_S_d0_1 h_S_) main_v8 main_c_1
  let main_v10 : IVec S_ 1 := andi main_v4 main_v9
  let main_v11 : FVec F S1024x5632 .f32 := Host.absf main_arg2
  let main_cst_2 : FVec F S_ .f32 := constant S_ .f32 0x7F800000#32
  let main_v12 : FVec F S1024x5632 .f32 := broadcastInDim S1024x5632 ![] bcast_S_S1024x5632 main_cst_2
  let main_v13 : IVec S1024x5632 1 := cmpf .olt main_v11 main_v12
  let main_c_3 : IVec S_ 1 := constantI S_ 1 1#1
  let main_v14 : IVec S_ 1 := (fun x v => Host.reduce IntOp.andi x v reducesTo_S1024x5632_S_d0_1 h_S_) main_v13 main_c_3
  let main_v15 : IVec S_ 1 := andi main_v10 main_v14
  let main_v16 : FVec F S1x1024 .f32 := Host.absf main_arg4
  let main_cst_4 : FVec F S_ .f32 := constant S_ .f32 0x7F800000#32
  fn_part1 (F := F) main_arg5 main_v15 main_v16 main_cst_4
-- ==== Pre_finite15.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x2816 .bf16) (main_arg1 : FVec F S2816x1024 .f32) (main_arg2 : FVec F S4096x1024 .f32) (main_arg3 : FVec F S1x1024 .f32) (main_arg4 : FVec F S1x1024 .f32) (main_arg5 : FVec F S4096x1024 .f32) (main_arg6 : FVec F S1x1024 .f32) (main_arg7 : FVec F S1x1024 .f32) : IVec S_ 1 :=
  let main_v0 : FVec F S1x1024 .f32 := Host.absf main_arg3
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024 .f32 := Host.absf main_arg4
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S4096x1024 .f32 := Host.absf main_arg5
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Pre_finite16.lean ====
abbrev S4096x1024 : Shape := ⟨2, ![4096, 1024]⟩
abbrev S4096x256 : Shape := ⟨2, ![4096, 256]⟩
abbrev S1024x1280 : Shape := ⟨2, ![1024, 1280]⟩
abbrev S1x1024 : Shape := ⟨2, ![1, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S1024x1280 : S_.BroadcastsInDim S1024x1280 (![] : Fin 0 → Fin S1024x1280.rank)
  reducesTo_S1024x1280_S_d0_1 : S1024x1280.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg5 : FVec F S4096x1024 .f32) (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  let main_v21 : FVec F S4096x1024 .f32 := Host.absf main_arg5
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  let main_c_7 : IVec S_ 1 := constantI S_ 1 1#1
  let main_v24 : IVec S_ 1 := (fun x v => Host.reduce IntOp.andi x v reducesTo_S4096x1024_S_d0_1 h_S_) main_v23 main_c_7
  let main_v25 : IVec S_ 1 := andi main_v20 main_v24
  main_v25

def fn {F : FTy → Type} [FloatOps F] (main_arg0 : FVec F S4096x1024 .bf16) (main_arg1 : FVec F S4096x256 .bf16) (main_arg2 : FVec F S1024x1280 .f32) (main_arg3 : FVec F S4096x1024 .f32) (main_arg4 : FVec F S1x1024 .f32) (main_arg5 : FVec F S4096x1024 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x256 .f32 := (extf .f32 · bitsLt_bf16_f32) main_arg1
  let main_v6 : FVec F S4096x256 .f32 := Host.absf main_v5
  let main_cst_0 : FVec F S_ .f32 := constant S_ .f32 0x7F800000#32
  let main_v7 : FVec F S4096x256 .f32 := broadcastInDim S4096x256 ![] bcast_S_S4096x256 main_cst_0
  let main_v8 : IVec S4096x256 1 := cmpf .olt main_v6 main_v7
  let main_c_1 : IVec S_ 1 := constantI S_ 1 1#1
  let main_v9 : IVec S_ 1 := (fun x v => Host.reduce IntOp.andi x v reducesTo_S4096x256_S_d0_1 h_S_) main_v8 main_c_1
  let main_v10 : IVec S_ 1 := andi main_v4 main_v9
  let main_v11 : FVec F S1024x1280 .f32 := Host.absf main_arg2
  let main_cst_2 : FVec F S_ .f32 := constant S_ .f32 0x7F800000#32
  let main_v12 : FVec F S1024x1280 .f32 := broadcastInDim S1024x1280 ![] bcast_S_S1024x1280 main_cst_2
  let main_v13 : IVec S1024x1280 1 := cmpf .olt main_v11 main_v12
  let main_c_3 : IVec S_ 1 := constantI S_ 1 1#1
  let main_v14 : IVec S_ 1 := (fun x v => Host.reduce IntOp.andi x v reducesTo_S1024x1280_S_d0_1 h_S_) main_v13 main_c_3
  let main_v15 : IVec S_ 1 := andi main_v10 main_v14
  let main_v16 : FVec F S1x1024 .f32 := Host.absf main_arg4
  let main_cst_4 : FVec F S_ .f32 := constant S_ .f32 0x7F800000#32
  fn_part1 (F := F) main_arg5 main_v15 main_v16 main_cst_4
-- ==== Pre_finite2.lean ====
abbrev S4096x1280 : Shape := ⟨2, ![4096, 1280]⟩
abbrev S4096x1024 : Shape := ⟨2, ![4096, 1024]⟩
abbrev S1x16 : Shape := ⟨2, ![1, 16]⟩
abbrev S_ : Shape := ⟨0, ![]⟩

class Facts : Prop where
  bitsLt_bf16_f32 : FTy.bits .bf16 < FTy.bits .f32
  bcast_S_S4096x1280 : S_.BroadcastsInDim S4096x1280 (![] : Fin 0 → Fin S4096x1280.rank)
  reducesTo_S4096x1280_S_d0_1 : S4096x1280.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x16 : S_.BroadcastsInDim S1x16 (![] : Fin 0 → Fin S1x16.rank)
  reducesTo_S1x16_S_d0_1 : S1x16.ReducesTo [0, 1] S_

variable [Facts]

def fn {F : FTy → Type} [FloatOps F] (main_arg0 : FVec F S4096x1280 .bf16) (main_arg1 : FVec F S4096x1024 .bf16) (main_arg2 : FVec F S1x16 .f32) : IVec S_ 1 :=
  let main_v0 : FVec F S4096x1280 .f32 := (extf .f32 · bitsLt_bf16_f32) main_arg0
  let main_v1 : FVec F S4096x1280 .f32 := Host.absf main_v0
  let main_cst : FVec F S_ .f32 := constant S_ .f32 0x7F800000#32
  let main_v2 : FVec F S4096x1280 .f32 := broadcastInDim S4096x1280 ![] bcast_S_S4096x1280 main_cst
  let main_v3 : IVec S4096x1280 1 := cmpf .olt main_v1 main_v2
  let main_c : IVec S_ 1 := constantI S_ 1 1#1
  let main_v4 : IVec S_ 1 := (fun x v => Host.reduce IntOp.andi x v reducesTo_S4096x1280_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : IVec S_ 1 := andi main_v4 main_v9
  let main_v11 : FVec F S1x16 .f32 := Host.absf main_arg2
  let main_cst_2 : FVec F S_ .f32 := constant S_ .f32 0x7F800000#32
  let main_v12 : FVec F S1x16 .f32 := broadcastInDim S1x16 ![] bcast_S_S1x16 main_cst_2
  let main_v13 : IVec S1x16 1 := cmpf .olt main_v11 main_v12
  let main_c_3 : IVec S_ 1 := constantI S_ 1 1#1
  let main_v14 : IVec S_ 1 := (fun x v => Host.reduce IntOp.andi x v reducesTo_S1x16_S_d0_1 h_S_) main_v13 main_c_3
  let main_v15 : IVec S_ 1 := andi main_v10 main_v14
  main_v15
-- ==== Kernel.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S5632x1024 : Shape := ⟨2, ![5632, 1024]⟩
abbrev S256x2816 : Shape := ⟨2, ![256, 2816]⟩
abbrev S2816x1024 : Shape := ⟨2, ![2816, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 12
  | .vmem => 17
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S5632x1024, .f32⟩
  | .hbm, ⟨7, _⟩ => ⟨S5632x1024, .bf16⟩
  | .hbm, ⟨8, _⟩ => ⟨S4096x1024, .f32⟩
  | .hbm, ⟨9, _⟩ => ⟨S4096x1024, .bf16⟩
  | .hbm, ⟨10, _⟩ => ⟨S1x1024, .f32⟩
  | .hbm, ⟨11, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | .local _ .vmem, ⟨16, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x5632, .bf16⟩
  | .hbm, ⟨7, _⟩ => ⟨S4096x5632, .f32⟩
  | .hbm, ⟨8, _⟩ => ⟨S_, .f32⟩
  | .hbm, ⟨9, _⟩ => ⟨S1x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x5632, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S4096x1, .f32⟩
  | .hbm, ⟨69, _⟩ => ⟨S4096x1024, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S4096x1024, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x1024, .f32⟩
  | .hbm, ⟨92, _⟩ => ⟨S4096x1024, .f32⟩
  | .hbm, ⟨93, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_cst_13 : Ref sig .tc := ⟨.hbm, 73, rfl⟩
abbrev main_v53 : Ref sig .tc := ⟨.hbm, 74, rfl⟩
abbrev main_v54 : Ref sig .tc := ⟨.hbm, 75, rfl⟩
abbrev main_cst_14 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_15 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_16 : Ref sig .tc := ⟨.hbm, 86, rfl⟩
abbrev main_v63 : Ref sig .tc := ⟨.hbm, 87, rfl⟩
abbrev main_v64 : Ref sig .tc := ⟨.hbm, 88, rfl⟩
abbrev main_cst_17 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== Attn.lean ====
abbrev S4096x1280 : Shape := ⟨2, ![4096, 1280]⟩
abbrev S4096x1024 : Shape := ⟨2, ![4096, 1024]⟩
abbrev S1x16 : Shape := ⟨2, ![1, 16]⟩
abbrev S4096x256 : Shape := ⟨2, ![4096, 256]⟩
abbrev S1x1024 : Shape := ⟨2, ![1, 1024]⟩
abbrev S1x256 : Shape := ⟨2, ![1, 256]⟩
abbrev S1x128 : Shape := ⟨2, ![1, 128]⟩
abbrev S128x1024 : Shape := ⟨2, ![128, 1024]⟩
abbrev S128x256 : Shape := ⟨2, ![128, 256]⟩
abbrev S256x1024 : Shape := ⟨2, ![256, 1024]⟩
abbrev S256x256 : Shape := ⟨2, ![256, 256]⟩
abbrev S256x128 : Shape := ⟨2, ![256, 128]⟩
abbrev S128x128 : Shape := ⟨2, ![128, 128]⟩
abbrev S1024x128 : Shape := ⟨2, ![1024, 128]⟩
abbrev S1x1 : Shape := ⟨2, ![1, 1]⟩
abbrev S1024 : Shape := ⟨1, ![1024]⟩
abbrev S1x1x128 : Shape := ⟨3, ![1, 1, 128]⟩
abbrev S1 : Shape := ⟨1, ![1]⟩
abbrev S1x1x1 : Shape := ⟨3, ![1, 1, 1]⟩
abbrev S128 : Shape := ⟨1, ![128]⟩
abbrev S256 : Shape := ⟨1, ![256]⟩

abbrev nBuf : Space → Nat
  | .hbm => 8
  | .vmem => 17
  | .smem => 1
  | _ => 0

abbrev bufTy : (tb : Table) → Fin (tcTables nBuf tb) → BufTy
  | .hbm, ⟨0, _⟩ => ⟨S4096x1280, .bf16⟩
  | .hbm, ⟨1, _⟩ => ⟨S4096x1024, .bf16⟩
  | .hbm, ⟨2, _⟩ => ⟨S1x16, .f32⟩
  | .hbm, ⟨3, _⟩ => ⟨S4096x1024, .bf16⟩
  | .hbm, ⟨4, _⟩ => ⟨S4096x256, .bf16⟩
  | .hbm, ⟨5, _⟩ => ⟨S1x1024, .f32⟩
  | .hbm, ⟨6, _⟩ => ⟨S1x256, .f32⟩
  | .hbm, ⟨7, _⟩ => ⟨S1x128, .f32⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x256, .bf16⟩
  | .local _ .vmem, ⟨11, _⟩ => ⟨S128x256, .bf16⟩
  | .local _ .vmem, ⟨12, _⟩ => ⟨S1x1024, .f32⟩
  | .local _ .vmem, ⟨13, _⟩ => ⟨S1x256, .f32⟩
  | .local _ .vmem, ⟨14, _⟩ => ⟨S1x128, .f32⟩
  | .local _ .vmem, ⟨15, _⟩ => ⟨S128x256, .f32⟩
  | .local _ .vmem, ⟨16, _⟩ => ⟨S256x1024, .f32⟩
  | .local _ .smem, ⟨0, _⟩ => ⟨S1x16, .f32⟩
  | _, _ => ⟨S4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg0 : BitVec 32 := BitVec.ofNat 32 (i 0).val
  let c0_i32_271 : BitVec 32 := 0#32
  let v634 : BitVec 1 := Scalar.cmpi .sgt arg0 c0_i32_271
  let v635 : BitVec 32 := Scalar.extui v634
  let c0_i32_272 : BitVec 32 := 0#32
  let v636 : BitVec 1 := Scalar.cmpi .ne v635 c0_i32_272
  v636

def k0_cond4 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c4_i32 : BitVec 32 := 4#32
  let c0_i32 : BitVec 32 := 0#32
  ![v0.toNat, c4_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AttnRefIdeal.lean ====
abbrev S4096x1280 : Shape := ⟨2, ![4096, 1280]⟩
abbrev S4096x1024 : Shape := ⟨2, ![4096, 1024]⟩
abbrev S1x16 : Shape := ⟨2, ![1, 16]⟩
abbrev S_ : Shape := ⟨0, ![]⟩
abbrev S1x1280 : Shape := ⟨2, ![1, 1280]⟩
abbrev S4096x128 : Shape := ⟨2, ![4096, 128]⟩
abbrev S32x128x2x8x64 : Shape := ⟨5, ![32, 128, 2, 8, 64]⟩
abbrev S32x128x2x64 : Shape := ⟨4, ![32, 128, 2, 64]⟩
abbrev S1x128x2x64 : Shape := ⟨4, ![1, 128, 2, 64]⟩
abbrev S31x128x2x64 : Shape := ⟨4, ![31, 128, 2, 64]⟩
abbrev S32x256x2x64 : Shape := ⟨4, ![32, 256, 2, 64]⟩
abbrev S32x2x256x128x8 : Shape := ⟨5, ![32, 2, 256, 128, 8]⟩
abbrev S32x2x8x128x256 : Shape := ⟨5, ![32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S32x1x1x128x256 : Shape := ⟨5, ![32, 1, 1, 128, 256]⟩
abbrev S1x2x8x1x1 : Shape := ⟨5, ![1, 2, 8, 1, 1]⟩
abbrev S32x2x8x128x1 : Shape := ⟨5, ![32, 2, 8, 128, 1]⟩
abbrev S32x2x8x128x257 : Shape := ⟨5, ![32, 2, 8, 128, 257]⟩
abbrev S32x2x8x128 : Shape := ⟨4, ![32, 2, 8, 128]⟩
abbrev S32x2x64x8x128 : Shape := ⟨5, ![32, 2, 64, 8, 128]⟩
abbrev S32x2x64x256 : Shape := ⟨4, ![32, 2, 64, 256]⟩
abbrev S2x8 : Shape := ⟨2, ![2, 8]⟩
abbrev S32x2x128x8x64 : Shape := ⟨5, ![32, 2, 128, 8, 64]⟩
abbrev S32x2x256x64 : Shape := ⟨4, ![32, 2, 256, 64]⟩
abbrev S1280 : Shape := ⟨1, ![1280]⟩
abbrev S4096x256 : Shape := ⟨2, ![4096, 256]⟩
abbrev S1x1024 : Shape := ⟨2, ![1, 1024]⟩
abbrev S1x128 : Shape := ⟨2, ![1, 128]⟩

abbrev nBuf : Space → Nat
  | .hbm => 189
  | .vmem => 0
  | .smem => 0
  | _ => 0

abbrev hbmTy0_0 (i : Nat) : BufTy := match i % 128 with
  | 0 => ⟨S4096x1280, .bf16⟩
  | 1 => ⟨S4096x1024, .bf16⟩
  | 2 => ⟨S1x16, .f32⟩
  | 3 => ⟨S4096x1280, .f32⟩
  | 4 => ⟨S_, .f32⟩
  | 5 => ⟨S1x1280, .f32⟩
  | 6 => ⟨S4096x1280, .f32⟩
  | 7 => ⟨S4096x1280, .f32⟩
  | 8 => ⟨S4096x1024, .f32⟩
  | 9 => ⟨S4096x128, .f32⟩
  | 10 => ⟨S4096x128, .f32⟩
  | 11 => ⟨S32x128x2x8x64, .f32⟩
  | 12 => ⟨S32x128x2x64, .f32⟩
  | 13 => ⟨S32x128x2x64, .f32⟩
  | 14 => ⟨S1x128x2x64, .f32⟩
  | 15 => ⟨S_, .f32⟩
  | 16 => ⟨S1x128x2x64, .f32⟩
  | 17 => ⟨S31x128x2x64, .f32⟩
  | 18 => ⟨S32x128x2x64, .f32⟩
  | 19 => ⟨S_, .f32⟩
  | 20 => ⟨S1x128x2x64, .f32⟩
  | 21 => ⟨S32x256x2x64, .f32⟩
  | 22 => ⟨S1x128x2x64, .f32⟩
  | 23 => ⟨S_, .f32⟩
  | 24 => ⟨S1x128x2x64, .f32⟩
  | 25 => ⟨S31x128x2x64, .f32⟩
  | 26 => ⟨S32x128x2x64, .f32⟩
  | 27 => ⟨S_, .f32⟩
  | 28 => ⟨S1x128x2x64, .f32⟩
  | 29 => ⟨S32x256x2x64, .f32⟩
  | 30 => ⟨S32x2x256x128x8, .f32⟩
  | 31 => ⟨S32x2x8x128x256, .f32⟩
  | 32 => ⟨S_, .f32⟩
  | 33 => ⟨S32x2x8x128x256, .f32⟩
  | 34 => ⟨S32x2x8x128x256, .f32⟩
  | 35 => ⟨S128, .i32⟩
  | 36 => ⟨S128x1, .i32⟩
  | 37 => ⟨S256, .i32⟩
  | 38 => ⟨S1x256, .i32⟩
  | 39 => ⟨S_, .i32⟩
  | 40 => ⟨S128x1, .i32⟩
  | 41 => ⟨S128x1, .i32⟩
  | 42 => ⟨S128x256, .i32⟩
  | 43 => ⟨S128x256, .i32⟩
  | 44 => ⟨S128x256, .i32⟩
  | 45 => ⟨S_, .i32⟩
  | 46 => ⟨S128x256, .i32⟩
  | 47 => ⟨S128x256, .i1⟩
  | 48 => ⟨S_, .i32⟩
  | 49 => ⟨S128x256, .i32⟩
  | 50 => ⟨S128x256, .i1⟩
  | 51 => ⟨S128x256, .i1⟩
  | 52 => ⟨S32, .i32⟩
  | 53 => ⟨S32x1x1, .i32⟩
  | 54 => ⟨S1x128x256, .i1⟩
  | 55 => ⟨S_, .i32⟩
  | 56 => ⟨S32x1x1, .i32⟩
  | 57 => ⟨S32x1x1, .i1⟩
  | 58 => ⟨S1x1x256, .i32⟩
  | 59 => ⟨S_, .i32⟩
  | 60 => ⟨S1x1x256, .i32⟩
  | 61 => ⟨S1x1x256, .i1⟩
  | 62 => ⟨S32x1x256, .i1⟩
  | 63 => ⟨S32x1x256, .i1⟩
  | 64 => ⟨S32x1x256, .i1⟩
  | 65 => ⟨S32x128x256, .i1⟩
  | 66 => ⟨S32x128x256, .i1⟩
  | 67 => ⟨S32x128x256, .i1⟩
  | 68 => ⟨S32x1x1x128x256, .i1⟩
  | 69 => ⟨S_, .f32⟩
  | 70 => ⟨S_, .f32⟩
  | 71 => ⟨S32x2x8x128x256, .i1⟩
  | 72 => ⟨S32x2x8x128x256, .f32⟩
  | 73 => ⟨S32x2x8x128x256, .f32⟩
  | 74 => ⟨S_, .f32⟩
  | 75 => ⟨S32x2x8x128x256, .f32⟩
  | 76 => ⟨S1x2x8x1x1, .f32⟩
  | 77 => ⟨S32x2x8x128x1, .f32⟩
  | 78 => ⟨S32x2x8x128x257, .f32⟩
  | 79 => ⟨S_, .f32⟩
  | 80 => ⟨S32x2x8x128, .f32⟩
  | 81 => ⟨S32x2x8x128x1, .f32⟩
  | 82 => ⟨S32x2x8x128x257, .f32⟩
  | 83 => ⟨S32x2x8x128x257, .i1⟩
  | 84 => ⟨S32x2x8x128x257, .f32⟩
  | 85 => ⟨S_, .f32⟩
  | 86 => ⟨S32x2x8x128, .f32⟩
  | 87 => ⟨S_, .f32⟩
  | 88 => ⟨S32x2x8x128, .f32⟩
  | 89 => ⟨S32x2x8x128, .f32⟩
  | 90 => ⟨S_, .f32⟩
  | 91 => ⟨S32x2x8x128, .f32⟩
  | 92 => ⟨S32x2x8x128, .i1⟩
  | 93 => ⟨S_, .f32⟩
  | 94 => ⟨S32x2x8x128, .f32⟩
  | 95 => ⟨S32x2x8x128, .i1⟩
  | 96 => ⟨S_, .f32⟩
  | 97 => ⟨S32x2x8x128, .f32⟩
  | 98 => ⟨S_, .f32⟩
  | 99 => ⟨S32x2x8x128, .f32⟩
  | 100 => ⟨S_, .f32⟩
  | 101 => ⟨S32x2x8x128, .f32⟩
  | 102 => ⟨S32x2x8x128, .f32⟩
  | 103 => ⟨S32x2x8x128, .f32⟩
  | 104 => ⟨S32x2x8x128x1, .f32⟩
  | 105 => ⟨S32x2x8x128x257, .f32⟩
  | 106 => ⟨S32x2x8x128x257, .f32⟩
  | 107 => ⟨S32x2x8x128x257, .f32⟩
  | 108 => ⟨S_, .f32⟩
  | 109 => ⟨S32x2x8x128, .f32⟩
  | 110 => ⟨S32x2x8x128x1, .f32⟩
  | 111 => ⟨S32x2x8x128x257, .f32⟩
  | 112 => ⟨S32x2x8x128x257, .f32⟩
  | 113 => ⟨S32x2x8x128x1, .f32⟩
  | 114 => ⟨S_, .f32⟩
  | 115 => ⟨S32x2x8x128x1, .f32⟩
  | 116 => ⟨S32x2x8x128x1, .f32⟩
  | 117 => ⟨S32x2x8x128x256, .f32⟩
  | 118 => ⟨S32x2x64x8x128, .f32⟩
  | 119 => ⟨S32x128x2x8x64, .f32⟩
  | 120 => ⟨S4096x1024, .f32⟩
  | 121 => ⟨S4096x1024, .f32⟩
  | 122 => ⟨S32x128x2x8x64, .f32⟩
  | 123 => ⟨S32x2x64x8x128, .f32⟩
  | 124 => ⟨S32x2x8x128x256, .f32⟩
  | 125 => ⟨S32x2x64x256, .f32⟩
  | 126 => ⟨S32x256x2x64, .f32⟩
  | 127 => ⟨S_, .f32⟩
  | _ => ⟨S4096x1280, .bf16⟩

abbrev hbmTy0_1 (i : Nat) : BufTy := match i % 128 with
  | 0 => ⟨S32x2x8x128x257, .f32⟩
  | 1 => ⟨S32x2x8x128x257, .f32⟩
  | 2 => ⟨S32x2x8x128x257, .f32⟩
  | 3 => ⟨S32x2x8x128x257, .f32⟩
  | 4 => ⟨S_, .f32⟩
  | 5 => ⟨S32x2x8x128, .f32⟩
  | 6 => ⟨S32x2x8x128x1, .f32⟩
  | 7 => ⟨S32x2x8x128x1, .f32⟩
  | 8 => ⟨S32x2x8x128x257, .f32⟩
  | 9 => ⟨S32x2x8x128x257, .f32⟩
  | 10 => ⟨S_, .f32⟩
  | 11 => ⟨S32x2x8x128, .f32⟩
  | 12 => ⟨S32x2x8x128x257, .f32⟩
  | 13 => ⟨S32x2x8x128x257, .f32⟩
  | 14 => ⟨S32x2x8x128x257, .f32⟩
  | 15 => ⟨S32x2x8x128x256, .f32⟩
  | 16 => ⟨S32x2x8x128x1, .f32⟩
  | 17 => ⟨S_, .f32⟩
  | 18 => ⟨S2x8, .f32⟩
  | 19 => ⟨S1x2x8x1x1, .f32⟩
  | 20 => ⟨S1x16, .f32⟩
  | 21 => ⟨S_, .f32⟩
  | 22 => ⟨S32x2x8x128x256, .f32⟩
  | 23 => ⟨S32x2x8x128x256, .f32⟩
  | 24 => ⟨S_, .f32⟩
  | 25 => ⟨S32x2x8x128x256, .f32⟩
  | 26 => ⟨S32x2x8x128x256, .f32⟩
  | 27 => ⟨S32x2x256x128x8, .f32⟩
  | 28 => ⟨S32x2x128x8x64, .f32⟩
  | 29 => ⟨S32x128x2x8x64, .f32⟩
  | 30 => ⟨S32x2x256x64, .f32⟩
  | 31 => ⟨S32x256x2x64, .f32⟩
  | 32 => ⟨S32x128x2x64, .f32⟩
  | 33 => ⟨S32x128x2x64, .f32⟩
  | 34 => ⟨S1x128x2x64, .f32⟩
  | 35 => ⟨S31x128x2x64, .f32⟩
  | 36 => ⟨S_, .f32⟩
  | 37 => ⟨S32x128x2x64, .f32⟩
  | 38 => ⟨S32x128x2x64, .f32⟩
  | 39 => ⟨S32x128x2x64, .f32⟩
  | 40 => ⟨S32x128x2x64, .f32⟩
  | 41 => ⟨S1x128x2x64, .f32⟩
  | 42 => ⟨S31x128x2x64, .f32⟩
  | 43 => ⟨S_, .f32⟩
  | 44 => ⟨S32x128x2x64, .f32⟩
  | 45 => ⟨S32x128x2x64, .f32⟩
  | 46 => ⟨S4096x128, .f32⟩
  | 47 => ⟨S4096x128, .f32⟩
  | 48 => ⟨S4096x1024, .f32⟩
  | 49 => ⟨S4096x1280, .f32⟩
  | 50 => ⟨S_, .f32⟩
  | 51 => ⟨S1280, .f32⟩
  | 52 => ⟨S1x1280, .f32⟩
  | 53 => ⟨S4096x1280, .bf16⟩
  | 54 => ⟨S4096x1024, .bf16⟩
  | 55 => ⟨S4096x256, .bf16⟩
  | 56 => ⟨S1x1024, .f32⟩
  | 57 => ⟨S1x256, .f32⟩
  | 58 => ⟨S_, .i32⟩
  | 59 => ⟨S_, .f32⟩
  | 60 => ⟨S1x128, .f32⟩
  | _ => ⟨S4096x1280, .bf16⟩

abbrev hbmTy (i : Nat) : BufTy := match i / 128 with
  | 0 => hbmTy0_0 i
  | 1 => hbmTy0_1 i
  | _ => ⟨S4096x1280, .bf16⟩

abbrev bufTy : (tb : Table) → Fin (tcTables nBuf tb) → BufTy
  | .hbm, ⟨i, _⟩ => hbmTy i
  | _, _ => ⟨S4096x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_5 : Ref sig .tc := ⟨.hbm, 45, rfl⟩
abbrev main_v35 : Ref sig .tc := ⟨.hbm, 46, rfl⟩
abbrev main_v36 : Ref sig .tc := ⟨.hbm, 47, rfl⟩
abbrev main_c_6 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_7 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_8 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_9 : Ref sig .tc := ⟨.hbm, 69, rfl⟩
abbrev main_call0_v0 : Ref sig .tc := ⟨.hbm, 70, rfl⟩
abbrev main_v55_1 : Ref sig .tc := ⟨.hbm, 71, rfl⟩
abbrev main_call0_v2 : Ref sig .tc := ⟨.hbm, 72, rfl⟩
abbrev main_v55_0 : Ref sig .tc := ⟨.hbm, 73, rfl⟩
abbrev main_call0_cst : Ref sig .tc := ⟨.hbm, 74, rfl⟩
abbrev main_v55_2 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_10 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_11 : Ref sig .tc := ⟨.hbm, 85, rfl⟩
abbrev main_v64 : Ref sig .tc := ⟨.hbm, 86, rfl⟩
abbrev main_cst_12 : Ref sig .tc := ⟨.hbm, 87, rfl⟩
abbrev main_v65 : Ref sig .tc := ⟨.hbm, 88, rfl⟩
abbrev main_v66 : Ref sig .tc := ⟨.hbm, 89, rfl⟩
abbrev main_cst_13 : Ref sig .tc := ⟨.hbm, 90, rfl⟩
abbrev main_v67 : Ref sig .tc := ⟨.hbm, 91, rfl⟩
abbrev main_v68 : Ref sig .tc := ⟨.hbm, 92, rfl⟩
abbrev main_cst_14 : Ref sig .tc := ⟨.hbm, 93, rfl⟩
abbrev main_v69 : Ref sig .tc := ⟨.hbm, 94, rfl⟩
abbrev main_v70 : Ref sig .tc := ⟨.hbm, 95, rfl⟩
abbrev main_cst_15 : Ref sig .tc := ⟨.hbm, 96, rfl⟩
abbrev main_v71 : Ref sig .tc := ⟨.hbm, 97, rfl⟩
abbrev main_cst_16 : Ref sig .tc := ⟨.hbm, 98, rfl⟩
abbrev main_v72 : Ref sig .tc := ⟨.hbm, 99, rfl⟩
abbrev main_cst_17 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_18 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_19 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_20 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_21 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_22 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_23 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_call1_cst : Ref sig .tc := ⟨.hbm, 149, rfl⟩
abbrev main_call1_v0 : Ref sig .tc := ⟨.hbm, 150, rfl⟩
abbrev main_v115 : Ref sig .tc := ⟨.hbm, 151, rfl⟩
abbrev main_cst_24 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_cst_25 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_cst_26 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_cst_27 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_c_28 : Ref sig .tc := ⟨.hbm, 186, rfl⟩
abbrev main_call2_v0 : Ref sig .tc := ⟨.hbm, 187, rfl⟩
abbrev main_v146 : Ref sig .tc := ⟨.hbm, 188, rfl⟩

abbrev nD : Nat := 1
abbrev τ : Topo := Topo.v7x

variable {F : FTy → Type} [FloatOps F]
-- ==== Dwup.lean ====
abbrev S4096x2816 : Shape := ⟨2, ![4096, 2816]⟩
abbrev S4096x1024 : Shape := ⟨2, ![4096, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x1024, .bf16⟩
  | .hbm, ⟨3, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1024, .bf16⟩
  | .local _ .vmem, ⟨5, _⟩ => ⟨S2048x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond4 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg0 c2_i32
  let c1_i32 : BitVec 32 := 1#32
  let v1 : BitVec 32 := Scalar.select v0 arg2 c1_i32
  let c1_i32_0 : BitVec 32 := 1#32
  let v2 : BitVec 32 := Scalar.minsi arg0 c1_i32_0
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .sge arg0 c2_i32
  let c0_i32 : BitVec 32 := 0#32
  let v1 : BitVec 32 := Scalar.select v0 arg2 c0_i32
  let c2_i32_0 : BitVec 32 := 2#32
  let v2 : BitVec 32 := Scalar.subi arg0 c2_i32_0
  let c0_i32_1 : BitVec 32 := 0#32
  let v3 : BitVec 32 := Scalar.maxsi v2 c0_i32_1
  let c0_i32_2 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DwupRefIdeal.lean ====
abbrev S4096x2816 : Shape := ⟨2, ![4096, 2816]⟩
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x1024, .bf16⟩
  | .hbm, ⟨3, _⟩ => ⟨S4096x5632, .bf16⟩
  | .hbm, ⟨4, _⟩ => ⟨S4096x5632, .f32⟩
  | .hbm, ⟨5, _⟩ => ⟨S_, .f32⟩
  | .hbm, ⟨6, _⟩ => ⟨S1024x5632, .f32⟩
  | .hbm, ⟨7, _⟩ => ⟨S4096x1024, .f32⟩
  | .hbm, ⟨8, _⟩ => ⟨S4096x5632, .f32⟩
  | .hbm, ⟨9, _⟩ => ⟨S5632x1024, .f32⟩
  | .hbm, ⟨10, _⟩ => ⟨S1024x5632, .f32⟩
  | .hbm, ⟨11, _⟩ => ⟨S5632x1024, .f32⟩
  | .hbm, ⟨12, _⟩ => ⟨S5632x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Dwdown.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwdownRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Du.lean ====
abbrev S4096x1024 : Shape := ⟨2, ![4096, 1024]⟩
abbrev S2816x1024 : Shape := ⟨2, ![2816, 1024]⟩
abbrev S4096x2816 : Shape := ⟨2, ![4096, 2816]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .f32⟩
  | .hbm, ⟨2, _⟩ => ⟨S2816x1024, .bf16⟩
  | .hbm, ⟨3, _⟩ => ⟨S4096x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2048x1408, .bf16⟩
  | .local _ .vmem, ⟨5, _⟩ => ⟨S2048x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DuRefIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .f32⟩
  | .hbm, ⟨2, _⟩ => ⟨S_, .f32⟩
  | .hbm, ⟨3, _⟩ => ⟨S4096x2816, .f32⟩
  | .hbm, ⟨4, _⟩ => ⟨S4096x1024, .f32⟩
  | .hbm, ⟨5, _⟩ => ⟨S4096x1024, .f32⟩
  | .hbm, ⟨6, _⟩ => ⟨S4096x2816, .f32⟩
  | .hbm, ⟨7, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Up.lean ====
abbrev S4096x1024 : Shape := ⟨2, ![4096, 1024]⟩
abbrev S1024x5632 : Shape := ⟨2, ![1024, 5632]⟩
abbrev S5632x1024 : Shape := ⟨2, ![5632, 1024]⟩
abbrev S4096x5632 : Shape := ⟨2, ![4096, 5632]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S5632x1024, .f32⟩
  | .hbm, ⟨3, _⟩ => ⟨S5632x1024, .bf16⟩
  | .hbm, ⟨4, _⟩ => ⟨S4096x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2048x1408, .bf16⟩
  | .local _ .vmem, ⟨5, _⟩ => ⟨S2048x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S4096x1024, .f32⟩
  | .hbm, ⟨3, _⟩ => ⟨S4096x5632, .f32⟩
  | .hbm, ⟨4, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dx.lean ====
abbrev S4096x2048 : Shape := ⟨2, ![4096, 2048]⟩
abbrev S1024x2048 : Shape := ⟨2, ![1024, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .f32⟩
  | .hbm, ⟨2, _⟩ => ⟨S4096x1024, .f32⟩
  | .hbm, ⟨3, _⟩ => ⟨S2048x1024, .f32⟩
  | .hbm, ⟨4, _⟩ => ⟨S2048x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxRefIdeal.lean ====
abbrev S4096x2048 : Shape := ⟨2, ![4096, 2048]⟩
abbrev S1024x2048 : Shape := ⟨2, ![1024, 2048]⟩
abbrev S4096x1024 : Shape := ⟨2, ![4096, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x2048, .f32⟩
  | .hbm, ⟨9, _⟩ => ⟨S4096x2048, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== MixIn.lean ====
abbrev S4096x1024 : Shape := ⟨2, ![4096, 1024]⟩
abbrev S1024x2048 : Shape := ⟨2, ![1024, 2048]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S2048x1024, .f32⟩
  | .hbm, ⟨3, _⟩ => ⟨S2048x1024, .bf16⟩
  | .hbm, ⟨4, _⟩ => ⟨S4096x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Dout.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S1024x1024, .bf16⟩
  | .hbm, ⟨3, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DoutRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dwo.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwoRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dwin.lean ====
abbrev S4096x2048 : Shape := ⟨2, ![4096, 2048]⟩
abbrev S4096x1024 : Shape := ⟨2, ![4096, 1024]⟩
abbrev S2048x1024 : Shape := ⟨2, ![2048, 1024]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwinRefIdeal.lean ====
abbrev S4096x2048 : Shape := ⟨2, ![4096, 2048]⟩
abbrev S4096x1024 : Shape := ⟨2, ![4096, 1024]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S4096x2048, .f32⟩
  | .hbm, ⟨6, _⟩ => ⟨S2048x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Qkv.lean ====
abbrev S4096x1024 : Shape := ⟨2, ![4096, 1024]⟩
abbrev S1024x1280 : Shape := ⟨2, ![1024, 1280]⟩
abbrev S1x1280 : Shape := ⟨2, ![1, 1280]⟩
abbrev S1280x1024 : Shape := ⟨2, ![1280, 1024]⟩
abbrev S4096x1280 : Shape := ⟨2, ![4096, 1280]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1280, .f32⟩
  | .hbm, ⟨2, _⟩ => ⟨S1x1280, .f32⟩
  | .hbm, ⟨3, _⟩ => ⟨S1280x1024, .f32⟩
  | .hbm, ⟨4, _⟩ => ⟨S1280x1024, .bf16⟩
  | .hbm, ⟨5, _⟩ => ⟨S4096x1280, .bf16⟩
  | .local _ .vmem, ⟨0, _⟩ => ⟨S1024x1024, .bf16⟩
  | .local _ .vmem, ⟨1, _⟩ => ⟨S1024x1024, .bf16⟩
  | .local _ .vmem, ⟨2, _⟩ => ⟨S1280x1024, .bf16⟩
  | .local _ .vmem, ⟨3, _⟩ => ⟨S1x1280, .f32⟩
  | .local _ .vmem, ⟨4, _⟩ => ⟨S1024x1280, .bf16⟩
  | .local _ .vmem, ⟨5, _⟩ => ⟨S1024x1280, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== QkvRefIdeal.lean ====
abbrev S4096x1024 : Shape := ⟨2, ![4096, 1024]⟩
abbrev S1024x1280 : Shape := ⟨2, ![1024, 1280]⟩
abbrev S1x1280 : Shape := ⟨2, ![1, 1280]⟩
abbrev S4096x1280 : Shape := ⟨2, ![4096, 1280]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1280, .f32⟩
  | .hbm, ⟨2, _⟩ => ⟨S1x1280, .f32⟩
  | .hbm, ⟨3, _⟩ => ⟨S4096x1024, .f32⟩
  | .hbm, ⟨4, _⟩ => ⟨S4096x1280, .f32⟩
  | .hbm, ⟨5, _⟩ => ⟨S4096x1280, .f32⟩
  | .hbm, ⟨6, _⟩ => ⟨S4096x1280, .f32⟩
  | .hbm, ⟨7, _⟩ => ⟨S4096x1280, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2816x1024, .bf16⟩
  | .hbm, ⟨8, _⟩ => ⟨S4096x1024, .f32⟩
  | .hbm, ⟨9, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DownRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 68
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S4096x2816, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Out.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x1024, .bf16⟩
  | .hbm, ⟨8, _⟩ => ⟨S4096x1024, .f32⟩
  | .hbm, ⟨9, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Loss.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 18
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S2816x1024, .bf16⟩
  | .hbm, ⟨9, _⟩ => ⟨S4096x1024, .f32⟩
  | .hbm, ⟨10, _⟩ => ⟨S4096x1024, .bf16⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== LossRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 142
  | .vmem => 0
  | .smem => 0
  | _ => 0

abbrev hbmTy0_0 (i : Nat) : BufTy := match i % 128 with
  | 0 => ⟨S4096x2816, .bf16⟩
  | 1 => ⟨S2816x1024, .f32⟩
  | 2 => ⟨S4096x1024, .f32⟩
  | 3 => ⟨S1x1024, .f32⟩
  | 4 => ⟨S1x1024, .f32⟩
  | 5 => ⟨S4096x1024, .f32⟩
  | 6 => ⟨S1x1024, .f32⟩
  | 7 => ⟨S1x1024, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S4096x1024, .f32⟩
  | 15 => ⟨S4096x1024, .f32⟩
  | 16 => ⟨S4096x1024, .f32⟩
  | 17 => ⟨S_, .f32⟩
  | 18 => ⟨S4096, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S_, .f32⟩
  | 26 => ⟨S4096x1, .f32⟩
  | 27 => ⟨S4096x1, .f32⟩
  | 28 => ⟨S4096x1, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S_, .f32⟩
  | 36 => ⟨S4096x1024, .f32⟩
  | 37 => ⟨S4096x1024, .f32⟩
  | 38 => ⟨S4096x2816, .f32⟩
  | 39 => ⟨S4096x1024, .f32⟩
  | 40 => ⟨S4096x1024, .f32⟩
  | 41 => ⟨S_, .f32⟩
  | 42 => ⟨S4096, .f32⟩
  | 43 => ⟨S4096x1, .f32⟩
  | 44 => ⟨S_, .f32⟩
  | 45 => ⟨S4096x1, .f32⟩
  | 46 => ⟨S4096x1, .f32⟩
  | 47 => ⟨S4096x1024, .f32⟩
  | 48 => ⟨S4096x1024, .f32⟩
  | 49 => ⟨S4096x1024, .f32⟩
  | 50 => ⟨S_, .f32⟩
  | 51 => ⟨S4096x1024, .f32⟩
  | 52 => ⟨S4096x1024, .f32⟩
  | 53 => ⟨S_, .f32⟩
  | 54 => ⟨S4096, .f32⟩
  | 55 => ⟨S4096x1, .f32⟩
  | 56 => ⟨S_, .f32⟩
  | 57 => ⟨S4096x1, .f32⟩
  | 58 => ⟨S4096x1, .f32⟩
  | 59 => ⟨S4096x1024, .f32⟩
  | 60 => ⟨S4096x1024, .f32⟩
  | 61 => ⟨S_, .f32⟩
  | 62 => ⟨S4096x1, .f32⟩
  | 63 => ⟨S4096x1, .f32⟩
  | 64 => ⟨S4096x1, .f32⟩
  | 65 => ⟨S4096x1, .f32⟩
  | 66 => ⟨S_, .f32⟩
  | 67 => ⟨S4096x1, .f32⟩
  | 68 => ⟨S4096x1, .f32⟩
  | 69 => ⟨S4096x1024, .f32⟩
  | 70 => ⟨S4096x1024, .f32⟩
  | 71 => ⟨S4096x1024, .f32⟩
  | 72 => ⟨S4096x1024, .f32⟩
  | 73 => ⟨S4096x1024, .f32⟩
  | 74 => ⟨S4096x1024, .f32⟩
  | 75 => ⟨S4096x1024, .f32⟩
  | 76 => ⟨S4096x1024, .f32⟩
  | 77 => ⟨S_, .f32⟩
  | 78 => ⟨S4096x1024, .f32⟩
  | 79 => ⟨S4096x1024, .f32⟩
  | 80 => ⟨S_, .f32⟩
  | 81 => ⟨S4096, .f32⟩
  | 82 => ⟨S_, .f32⟩
  | 83 => ⟨S4096, .f32⟩
  | 84 => ⟨S4096, .f32⟩
  | 85 => ⟨S_, .f32⟩
  | 86 => ⟨S_, .f32⟩
  | 87 => ⟨S_, .f32⟩
  | 88 => ⟨S_, .f32⟩
  | 89 => ⟨S_, .f32⟩
  | 90 => ⟨S1024, .f32⟩
  | 91 => ⟨S1x1024, .f32⟩
  | 92 => ⟨S_, .f32⟩
  | 93 => ⟨S_, .f32⟩
  | 94 => ⟨S_, .f32⟩
  | 95 => ⟨S4096, .f32⟩
  | 96 => ⟨S_, .f32⟩
  | 97 => ⟨S4096, .f32⟩
  | 98 => ⟨S4096, .f32⟩
  | 99 => ⟨S4096x1024, .f32⟩
  | 100 => ⟨S4096x1024, .f32⟩
  | 101 => ⟨S_, .f32⟩
  | 102 => ⟨S1024, .f32⟩
  | 103 => ⟨S1x1024, .f32⟩
  | 104 => ⟨S4096x1024, .f32⟩
  | 105 => ⟨S_, .f32⟩
  | 106 => ⟨S1024, .f32⟩
  | 107 => ⟨S1x1024, .f32⟩
  | 108 => ⟨S4096x1024, .f32⟩
  | 109 => ⟨S4096x1024, .f32⟩
  | 110 => ⟨S4096x1024, .f32⟩
  | 111 => ⟨S_, .f32⟩
  | 112 => ⟨S4096, .f32⟩
  | 113 => ⟨S4096x1, .f32⟩
  | 114 => ⟨S4096x1024, .f32⟩
  | 115 => ⟨S4096x1024, .f32⟩
  | 116 => ⟨S4096x1, .f32⟩
  | 117 => ⟨S4096x1024, .f32⟩
  | 118 => ⟨S_, .f32⟩
  | 119 => ⟨S4096, .f32⟩
  | 120 => ⟨S4096x1, .f32⟩
  | 121 => ⟨S_, .f32⟩
  | 122 => ⟨S4096x1, .f32⟩
  | 123 => ⟨S4096x1, .f32⟩
  | 124 => ⟨S_, .f32⟩
  | 125 => ⟨S4096, .f32⟩
  | 126 => ⟨S4096x1024, .f32⟩
  | 127 => ⟨S4096x1024, .f32⟩
  | _ => ⟨S4096x2816, .bf16⟩

abbrev hbmTy0_1 (i : Nat) : BufTy := match i % 128 with
  | 0 => ⟨S4096x1024, .f32⟩
  | 1 => ⟨S_, .f32⟩
  | 2 => ⟨S4096, .f32⟩
  | 3 => ⟨S4096x1, .f32⟩
  | 4 => ⟨S4096x1024, .f32⟩
  | 5 => ⟨S4096x1, .f32⟩
  | 6 => ⟨S_, .f32⟩
  | 7 => ⟨S4096x1, .f32⟩
  | 8 => ⟨S4096x1, .f32⟩
  | 9 => ⟨S_, .f32⟩
  | 10 => ⟨S4096, .f32⟩
  | 11 => ⟨S4096x1024, .f32⟩
  | 12 => ⟨S4096x1024, .f32⟩
  | 13 => ⟨S4096x1024, .bf16⟩
  | _ => ⟨S4096x2816, .bf16⟩

abbrev hbmTy (i : Nat) : BufTy := match i / 128 with
  | 0 => hbmTy0_0 i
  | 1 => hbmTy0_1 i
  | _ => ⟨S4096x2816, .bf16⟩

abbrev bufTy : (tb : Table) → Fin (tcTables nBuf tb) → BufTy
  | .hbm, ⟨i, _⟩ => hbmTy i
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_12 : Ref sig .tc := ⟨.hbm, 77, rfl⟩
abbrev main_v56 : Ref sig .tc := ⟨.hbm, 78, rfl⟩
abbrev main_v57 : Ref sig .tc := ⟨.hbm, 79, rfl⟩
abbrev main_cst_13 : Ref sig .tc := ⟨.hbm, 80, rfl⟩
abbrev main_v58 : Ref sig .tc := ⟨.hbm, 81, rfl⟩
abbrev main_cst_14 : Ref sig .tc := ⟨.hbm, 82, rfl⟩
abbrev main_v59 : Ref sig .tc := ⟨.hbm, 83, rfl⟩
abbrev main_v60 : Ref sig .tc := ⟨.hbm, 84, rfl⟩
abbrev main_cst_15 : Ref sig .tc := ⟨.hbm, 85, rfl⟩
abbrev main_v61 : Ref sig .tc := ⟨.hbm, 86, rfl⟩
abbrev main_cst_16 : Ref sig .tc := ⟨.hbm, 87, rfl⟩
abbrev main_v62 : Ref sig .tc := ⟨.hbm, 88, rfl⟩
abbrev main_cst_17 : Ref sig .tc := ⟨.hbm, 89, rfl⟩
abbrev main_v63 : Ref sig .tc := ⟨.hbm, 90, rfl⟩
abbrev main_v64 : Ref sig .tc := ⟨.hbm, 91, rfl⟩
abbrev main_cst_18 : Ref sig .tc := ⟨.hbm, 92, rfl⟩
abbrev main_cst_19 : Ref sig .tc := ⟨.hbm, 93, rfl⟩
abbrev main_v65 : Ref sig .tc := ⟨.hbm, 94, rfl⟩
abbrev main_v66 : Ref sig .tc := ⟨.hbm, 95, rfl⟩
abbrev main_cst_20 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_21 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_22 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_23 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_24 : Ref sig .tc := ⟨.hbm, 118, rfl⟩
abbrev main_v85 : Ref sig .tc := ⟨.hbm, 119, rfl⟩
abbrev main_v86 : Ref sig .tc := ⟨.hbm, 120, rfl⟩
abbrev main_cst_25 : Ref sig .tc := ⟨.hbm, 121, rfl⟩
abbrev main_v87 : Ref sig .tc := ⟨.hbm, 122, rfl⟩
abbrev main_v88 : Ref sig .tc := ⟨.hbm, 123, rfl⟩
abbrev main_cst_26 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_27 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_28 : Ref sig .tc := ⟨.hbm, 134, rfl⟩
abbrev main_v97 : Ref sig .tc := ⟨.hbm, 135, rfl⟩
abbrev main_v98 : Ref sig .tc := ⟨.hbm, 136, rfl⟩
abbrev main_cst_29 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩

abbrev nD : Nat := 1
abbrev τ : Topo := Topo.v7x

variable {F : FTy → Type} [FloatOps F]
-- ==== DxQkv.lean ====
abbrev S4096x1024 : Shape := ⟨2, ![4096, 1024]⟩
abbrev S4096x256 : Shape := ⟨2, ![4096, 256]⟩
abbrev S1024x1280 : Shape := ⟨2, ![1024, 1280]⟩
abbrev S1x1024 : Shape := ⟨2, ![1, 1024]⟩
abbrev S1280x1024 : Shape := ⟨2, ![1280, 1024]⟩
abbrev S512x1024 : Shape := ⟨2, ![512, 1024]⟩
abbrev S512x256 : Shape := ⟨2, ![512, 256]⟩
abbrev S1024x1024 : Shape := ⟨2, ![1024, 1024]⟩
abbrev S256x1024 : Shape := ⟨2, ![256, 1024]⟩
abbrev S512 : Shape := ⟨1, ![512]⟩
abbrev S512x1 : Shape := ⟨2, ![512, 1]⟩
abbrev S1024 : Shape := ⟨1, ![1024]⟩

abbrev nBuf : Space → Nat
  | .hbm => 12
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S1024x1280, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1280x1024, .f32⟩
  | .hbm, ⟨7, _⟩ => ⟨S1280x1024, .bf16⟩
  | .hbm, ⟨8, _⟩ => ⟨S4096x1024, .f32⟩
  | .hbm, ⟨9, _⟩ => ⟨S4096x1024, .bf16⟩
  | .hbm, ⟨10, _⟩ => ⟨S1x1024, .f32⟩
  | .hbm, ⟨11, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x256, .bf16⟩
  | .local _ .vmem, ⟨3, _⟩ => ⟨S512x256, .bf16⟩
  | .local _ .vmem, ⟨4, _⟩ => ⟨S1024x1024, .bf16⟩
  | .local _ .vmem, ⟨5, _⟩ => ⟨S256x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== DxQkvRefIdeal.lean ====
abbrev S4096x1024 : Shape := ⟨2, ![4096, 1024]⟩
abbrev S4096x256 : Shape := ⟨2, ![4096, 256]⟩
abbrev S1024x1280 : Shape := ⟨2, ![1024, 1280]⟩
abbrev S1x1024 : Shape := ⟨2, ![1, 1024]⟩
abbrev S4096x1280 : Shape := ⟨2, ![4096, 1280]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S1024x1280, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1280, .bf16⟩
  | .hbm, ⟨7, _⟩ => ⟨S4096x1280, .f32⟩
  | .hbm, ⟨8, _⟩ => ⟨S_, .f32⟩
  | .hbm, ⟨9, _⟩ => ⟨S1x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1280, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S4096x1, .f32⟩
  | .hbm, ⟨69, _⟩ => ⟨S4096x1024, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S4096x1024, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x1024, .f32⟩
  | .hbm, ⟨92, _⟩ => ⟨S4096x1024, .f32⟩
  | .hbm, ⟨93, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_cst_13 : Ref sig .tc := ⟨.hbm, 73, rfl⟩
abbrev main_v53 : Ref sig .tc := ⟨.hbm, 74, rfl⟩
abbrev main_v54 : Ref sig .tc := ⟨.hbm, 75, rfl⟩
abbrev main_cst_14 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_15 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_16 : Ref sig .tc := ⟨.hbm, 86, rfl⟩
abbrev main_v63 : Ref sig .tc := ⟨.hbm, 87, rfl⟩
abbrev main_v64 : Ref sig .tc := ⟨.hbm, 88, rfl⟩
abbrev main_cst_17 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== Proof.Block.lean ====
/-
  What one grid point of the kernel leaves in its four output blocks, as named functions of the seven input blocks (and,
  for the two accumulated rows, of what the point before left).
-/
module

public import proofs.«01_k».proof.Proof.Gen.KernelIdeal.Value
public import Idealize.ShloMosaic.Lib.Tactic

@[expose] public section

set_option maxRecDepth 16384

noncomputable section

namespace Cert.DxLn

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords)
  (a1 : Memref sig .tc .vmem S256x2816 .bf16) (h1 : a1.IsWhole) (a2 : Memref sig .tc .vmem S256x2816 .bf16) (h2 : a2.IsWhole)
  (a3 : Memref sig .tc .vmem S2816x1024 .bf16) (h3 : a3.IsWhole) (a4 : Memref sig .tc .vmem S2816x1024 .bf16) (h4 : a4.IsWhole)
  (a5 : Memref sig .tc .vmem S256x1024 .f32) (h5 : a5.IsWhole) (a6 : Memref sig .tc .vmem S1x1024 .f32) (h6 : a6.IsWhole)
  (a7 : Memref sig .tc .vmem S256x1024 .f32) (h7 : a7.IsWhole) (a8 : Memref sig .tc .vmem S256x1024 .f32) (h8 : a8.IsWhole)
  (a9 : Memref sig .tc .vmem S256x1024 .bf16) (h9 : a9.IsWhole) (a10 : Memref sig .tc .vmem S1x1024 .f32) (h10 : a10.IsWhole)
  (a11 : Memref sig .tc .vmem S1x1024 .f32) (h11 : a11.IsWhole)
  (x0 x1 : Vec F S256x2816 .bf16) (x2 x3 : Vec F S2816x1024 .bf16) (x4 : Vec F S256x1024 .f32) (x5 : Vec F S1x1024 .f32)
  (x6 : Vec F S256x1024 .f32) (o9 o10 : Vec F S1x1024 .f32)

theorem outA7 (hc : cond0_0 i) : out0_A_7 c i a1 h1 a2 h2 a3 h3 a4 h4 a5 h5 a6 h6 a7 h7 a8 h8 a9 h9 a10 h10 a11 h11 hc x0 x1 x2 x3 x4 x5 x6
    = k0_pay3 (k0_pay7 x6 x0 x2 x1 x3) (k0_pay9 x4) (k0_pay10 x4) x5 := by
  unfold out0_A_7
  rw [View.read_writes_eq_canon _ _ _ (cover0_A_7 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, h6.read_unread, h7.read_unread,
    h10.read_unread, h11.read_unread, View.ld_unit_zero (S := S256x2816) hz, View.ld_unit_zero (S := S2816x1024) hz, View.ld_unit_zero (S := S256x1024) hz,
    View.ld_unit_zero (S := S1x1024) hz]

theorem outA8 (hc : cond0_0 i) : out0_A_8 c i a1 h1 a2 h2 a3 h3 a4 h4 a5 h5 a6 h6 a7 h7 a8 h8 a9 h9 a10 h10 a11 h11 hc x0 x1 x2 x3 x4 x5 x6
    = k0_pay4 (k0_pay7 x6 x0 x2 x1 x3) (k0_pay9 x4) (k0_pay10 x4) x5 := by
  unfold out0_A_8
  rw [View.read_writes_eq_canon _ _ _ (cover0_A_8 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, h6.read_unread, h7.read_unread,
    h10.read_unread, h11.read_unread, View.ld_unit_zero (S := S256x2816) hz, View.ld_unit_zero (S := S2816x1024) hz, View.ld_unit_zero (S := S256x1024) hz,
    View.ld_unit_zero (S := S1x1024) hz]

theorem outA9 (hc : cond0_0 i) : out0_A_9 c i a1 h1 a2 h2 a3 h3 a4 h4 a5 h5 a6 h6 a7 h7 a8 h8 a9 h9 a10 h10 a11 h11 hc x0 x1 x2 x3 x4 x5 x6
    = k0_pay1 (k0_pay7 x6 x0 x2 x1 x3) (k0_pay10 x4) k0_pay5 := by
  unfold out0_A_9
  rw [View.read_writes_eq_canon _ _ _ (cover0_A_9 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread,
    h10.read_unread, h11.read_unread, View.ld_unit_zero (S := S256x2816) hz, View.ld_unit_zero (S := S2816x1024) hz, View.ld_unit_zero (S := S256x1024) hz,
    View.ld_unit_zero (S := S1x1024) hz]

theorem outA10 (hc : cond0_0 i) : out0_A_10 c i a1 h1 a2 h2 a3 h3 a4 h4 a5 h5 a6 h6 a7 h7 a8 h8 a9 h9 a10 h10 a11 h11 hc x0 x1 x2 x3 x4 x5 x6
    = k0_pay2 (k0_pay7 x6 x0 x2 x1 x3) k0_pay6 := by
  unfold out0_A_10
  rw [View.read_writes_eq_canon _ _ _ (cover0_A_10 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread,
    h10.read_unread, h11.read_unread, View.ld_unit_zero (S := S256x2816) hz, View.ld_unit_zero (S := S2816x1024) hz, View.ld_unit_zero (S := S256x1024) hz,
    View.ld_unit_zero (S := S1x1024) hz]

theorem outB7 (hc : ¬cond0_0 i) : out0_B_7 c i a1 h1 a2 h2 a3 h3 a4 h4 a5 h5 a6 h6 a7 h7 a8 h8 a9 h9 a10 h10 a11 h11 hc x0 x1 x2 x3 x4 x5 x6 o9 o10
    = k0_pay3 (k0_pay7 x6 x0 x2 x1 x3) (k0_pay9 x4) (k0_pay10 x4) x5 := by
  unfold out0_B_7
  rw [View.read_writes_eq_canon _ _ _ (cover0_B_7 c i a1 h1 a2 h2 a3 h3 a4 h4 a5 h5 a6 h6 a7 h7 a8 h8 a9 h9 a10 h10 a11 h11 hc x0 x1 x2 x3 x4 x5 x6 o9 o10)]
  unfold kernelRun0_B
  dsimp only
  sl_unfold_words
  rw [View.canon_unit_zero hz]
  simp only [View.readAt_eq_ld, h1.read_unread, h2.read_unread, h3.read_unread, h4.read_unread, h5.read_unread, h6.read_unread, h7.read_unread,
    h10.read_unread, h11.read_unread, View.ld_unit_zero (S := S256x2816) hz, View.ld_unit_zero (S := S2816x1024) hz, View.ld_unit_zero (S := S256x1024) hz,
    View.ld_unit_zero (S := S1x1024) hz]

theorem outB8 (hc : ¬cond0_0 i) : out0_B_8 c i a1 h1 a2 h2 a3 h3 a4 h4 a5 h5 a6 h6 a7 h7 a8 h8 a9 h9 a10 h10 a11 h11 hc x0 x1 x2 x3 x4 x5 x6 o9 o10
    = k0_pay4 (k0_pay7 x6 x0 x2 x1 x3) (k0_pay9 x4) (k0_pay10 x4) x5 := by
  unfold out0_B_8
  rw [View.read_writes_eq_canon _ _ _ (cover0_B_8 c i a1 h1 a2 h2 a3 h3 a4 h4 a5 h5 a6 h6 a7 h7 a8 h8 a9 h9 a10 h10 a11 h11 hc x0 x1 x2 x3 x4 x5 x6 o9 o10)]
  unfold kernelRun0_B
  dsimp only
  sl_unfold_words
  rw [View.canon_unit_zero hz]
  simp only [View.readAt_eq_ld, h1.read_unread, h2.read_unread, h3.read_unread, h4.read_unread, h5.read_unread, h6.read_unread, h7.read_unread,
    h10.read_unread, h11.read_unread, View.ld_unit_zero (S := S256x2816) hz, View.ld_unit_zero (S := S2816x1024) hz, View.ld_unit_zero (S := S256x1024) hz,
    View.ld_unit_zero (S := S1x1024) hz]

theorem outB9 (hc : ¬cond0_0 i) : out0_B_9 c i a1 h1 a2 h2 a3 h3 a4 h4 a5 h5 a6 h6 a7 h7 a8 h8 a9 h9 a10 h10 a11 h11 hc x0 x1 x2 x3 x4 x5 x6 o9 o10
    = k0_pay1 (k0_pay7 x6 x0 x2 x1 x3) (k0_pay10 x4) o9 := by
  unfold out0_B_9
  rw [View.read_writes_eq_canon _ _ _ (cover0_B_9 c i a1 h1 a2 h2 a3 h3 a4 h4 a5 h5 a6 h6 a7 h7 a8 h8 a9 h9 a10 h10 a11 h11 hc x0 x1 x2 x3 x4 x5 x6 o9 o10)]
  unfold kernelRun0_B
  dsimp only
  sl_unfold_words
  rw [View.canon_unit_zero hz]
  simp only [View.readAt_eq_ld, h1.read_unread, h2.read_unread, h3.read_unread, h4.read_unread, h5.read_unread, h6.read_unread, h7.read_unread,
    h10.read_unread, h11.read_unread, View.ld_unit_zero (S := S256x2816) hz, View.ld_unit_zero (S := S2816x1024) hz, View.ld_unit_zero (S := S256x1024) hz,
    View.ld_unit_zero (S := S1x1024) hz]

theorem outB10 (hc : ¬cond0_0 i) : out0_B_10 c i a1 h1 a2 h2 a3 h3 a4 h4 a5 h5 a6 h6 a7 h7 a8 h8 a9 h9 a10 h10 a11 h11 hc x0 x1 x2 x3 x4 x5 x6 o9 o10
    = k0_pay2 (k0_pay7 x6 x0 x2 x1 x3) o10 := by
  unfold out0_B_10
  rw [View.read_writes_eq_canon _ _ _ (cover0_B_10 c i a1 h1 a2 h2 a3 h3 a4 h4 a5 h5 a6 h6 a7 h7 a8 h8 a9 h9 a10 h10 a11 h11 hc x0 x1 x2 x3 x4 x5 x6 o9 o10)]
  unfold kernelRun0_B
  dsimp only
  sl_unfold_words
  rw [View.canon_unit_zero hz]
  simp only [View.readAt_eq_ld, h1.read_unread, h2.read_unread, h3.read_unread, h4.read_unread, h5.read_unread, h6.read_unread, h7.read_unread,
    h10.read_unread, h11.read_unread, View.ld_unit_zero (S := S256x2816) hz, View.ld_unit_zero (S := S2816x1024) hz, View.ld_unit_zero (S := S256x1024) hz,
    View.ld_unit_zero (S := S1x1024) hz]

end Cert.DxLn

end
-- ==== Proof.LnRow.lean ====
/-
  The gradient of one normalised row, in the two forms that meet in this certificate. `x` is the row before the norm,
  `d` the gradient of the normalised row (already times the gain), `c` the row's length, `e` the small positive number
  under the root. `kGrad` centres the gradient and takes off the part along the normalised row, then scales; `rGrad`
  is what differentiating the mean, the variance and the reciprocal root one after the other gives.
-/
module

public import Idealize.ShloMosaic.PureOps.Ideal.Laws

@[expose] public section

noncomputable section

namespace Cert.LnRow

open Idealize.ShloMosaic

variable {n : ℕ}

/-- The mean of a row. -/
def mean (c : EReal) (x : Fin n → EReal) : EReal := Ideal.div (∑ i, x i) c
/-- The row less its mean. -/
def cen (c : EReal) (x : Fin n → EReal) (i : Fin n) : EReal := x i - mean c x
/-- The variance plus `e`. -/
def varE (c e : EReal) (x : Fin n → EReal) : EReal := mean c (fun i => cen c x i * cen c x i) + e
/-- The reciprocal root of the variance. -/
def rs (c e : EReal) (x : Fin n → EReal) : EReal := Ideal.rsqrt (varE c e x)
/-- The normalised row, before gain and bias. -/
def nh (c e : EReal) (x : Fin n → EReal) (i : Fin n) : EReal := cen c x i * rs c e x

/-- The row's gradient, centred and projected. -/
def kGrad (c e : EReal) (x d : Fin n → EReal) (i : Fin n) : EReal :=
  rs c e x * (d i - mean c d - nh c e x i * mean c (fun j => d j * nh c e x j))

/-- What reaches the variance, through the reciprocal root. -/
def gVar (c e h : EReal) (x d : Fin n → EReal) : EReal :=
  Ideal.div ((∑ j, cen c x j * d j) * (h * Ideal.div (rs c e x) (varE c e x))) c

/-- The row's gradient, one differentiated operation after the other: `h` is minus one half, `two` is two. -/
def rGrad (c e h two : EReal) (x d : Fin n → EReal) (i : Fin n) : EReal :=
  d i * rs c e x + gVar c e h x d * (two * cen c x i)
    + Ideal.div ((∑ j, -(d j * rs c e x)) + ∑ j, -(gVar c e h x d * (two * cen c x j))) c

theorem coe_sum (f : Fin n → ℝ) : ((∑ i, f i : ℝ) : EReal) = ∑ i, (f i : EReal) := by
  induction (Finset.univ : Finset (Fin n)) using Finset.induction_on with
  | empty => simp
  | insert a s ha ih => rw [Finset.sum_insert ha, Finset.sum_insert ha, EReal.coe_add, ih]

theorem mean_coe {k : ℝ} (hk : k ≠ 0) (f : Fin n → ℝ) : mean (k : EReal) (fun i => (f i : EReal)) = ((∑ i, f i) * (1 / k) : ℝ) := by
  rw [mean, Ideal.div_coe hk, ← coe_sum, EReal.coe_mul]

theorem rsqrt_coe {r : ℝ} (hr : 0 < r) : Ideal.rsqrt (r : EReal) = ((Real.sqrt r)⁻¹ : ℝ) := by
  show (if r < 0 then (⊥ : EReal) else if r = 0 then ⊤ else ((Real.sqrt r)⁻¹ : ℝ)) = _
  rw [if_neg hr.le.not_gt, if_neg hr.ne']

/-- A sum of extended reals one of whose terms is `⊥` is `⊥`. -/
theorem sum_eq_bot (f : Fin n → EReal) (i : Fin n) (h : f i = ⊥) : ∑ j, f j = ⊥ := by
  rw [← Finset.add_sum_erase _ _ (Finset.mem_univ i), h, EReal.bot_add]

/-- A sum none of whose terms is `⊥` is not `⊥`. -/
theorem sum_ne_bot (s : Finset (Fin n)) (f : Fin n → EReal) (h : ∀ j, f j ≠ ⊥) : ∑ j ∈ s, f j ≠ ⊥ := by
  induction s using Finset.induction_on with
  | empty => simp
  | insert a s ha ih => rw [Finset.sum_insert ha]; exact fun hb => (EReal.add_eq_bot_iff.mp hb).elim (h a) ih

/-- A sum with a term `⊤` and none `⊥` is `⊤`. -/
theorem sum_eq_top (f : Fin n → EReal) (h : ∀ j, f j ≠ ⊥) (i : Fin n) (ht : f i = ⊤) : ∑ j, f j = ⊤ := by
  rw [← Finset.add_sum_erase _ _ (Finset.mem_univ i), ht, EReal.top_add_of_ne_bot (sum_ne_bot _ _ h)]

/-- A row with an infinity in it: the reciprocal root is zero. -/
theorem rs_eq_zero {k ε : ℝ} (hk : 0 < k) (x : Fin n → EReal) (i : Fin n) (hi : x i = ⊥ ∨ x i = ⊤) :
    rs (k : EReal) (ε : EReal) x = 0 ∧ varE (k : EReal) (ε : EReal) x = ⊤ := by
  have hk1 : (0 : ℝ) < 1 / k := by positivity
  have hm : mean (k : EReal) x = ⊥ ∨ mean (k : EReal) x = ⊤ := by
    rw [mean, Ideal.div_coe hk.ne']
    by_cases hb : ∃ j, x j = ⊥
    · obtain ⟨j, hj⟩ := hb
      exact .inl (by rw [sum_eq_bot x j hj, EReal.bot_mul_coe_of_pos hk1])
    · have hb' : ∀ j, x j ≠ ⊥ := fun j hj => hb ⟨j, hj⟩
      exact .inr (by rw [sum_eq_top x hb' i (hi.resolve_left (hb' i)), EReal.top_mul_coe_of_pos hk1])
  have hc : ∀ j, cen (k : EReal) x j * cen (k : EReal) x j = ⊤ := by
    intro j
    unfold cen
    rcases hm with h | h <;> rw [h] <;> induction x j using EReal.rec <;> simp [sub_eq_add_neg]
  have hv : varE (k : EReal) (ε : EReal) x = ⊤ := by
    rw [varE, mean, sum_eq_top _ (fun j => by rw [hc]; simp) i (hc i), Ideal.div_coe hk.ne', EReal.top_mul_coe_of_pos hk1,
      EReal.top_add_coe]
  exact ⟨by rw [rs, hv]; rfl, hv⟩

theorem div_top (y : EReal) : Ideal.div y ⊤ = 0 := by
  rw [Ideal.div, if_neg (by simp), EReal.inv_top, mul_zero]

theorem div_zero_left {k : ℝ} (hk : k ≠ 0) : Ideal.div 0 (k : EReal) = 0 := by
  rw [Ideal.div_coe hk, zero_mul]

/-- The identity over the reals. -/
theorem real_eq {k v : ℝ} (hk : k ≠ 0) (hv : 0 < v) (xc d : Fin n → ℝ) (h0 : ∑ j, xc j = 0) (i : Fin n) :
    (Real.sqrt v)⁻¹ * (d i - (∑ j, d j) * (1 / k) - xc i * (Real.sqrt v)⁻¹ * ((∑ j, d j * (xc j * (Real.sqrt v)⁻¹)) * (1 / k)))
    = d i * (Real.sqrt v)⁻¹ + (∑ j, xc j * d j) * (-(1/2) * ((Real.sqrt v)⁻¹ * (1 / v))) * (1 / k) * (2 * xc i)
      + ((∑ j, -(d j * (Real.sqrt v)⁻¹)) + ∑ j, -((∑ j, xc j * d j) * (-(1/2) * ((Real.sqrt v)⁻¹ * (1 / v))) * (1 / k) * (2 * xc j))) * (1 / k) := by
  have hr : 1 / v = (Real.sqrt v)⁻¹ * (Real.sqrt v)⁻¹ := by
    rw [← mul_inv, Real.mul_self_sqrt hv.le, one_div]
  rw [hr]
  generalize (Real.sqrt v)⁻¹ = r
  have e1 : ∑ j, d j * (xc j * r) = (∑ j, xc j * d j) * r := by
    rw [Finset.sum_mul]; exact Finset.sum_congr rfl fun j _ => by ring
  have e2 : ∑ j, -(d j * r) = -((∑ j, d j) * r) := by
    rw [Finset.sum_neg_distrib, Finset.sum_mul]
  generalize ∑ j, xc j * d j = S at *
  have e3 : ∑ j, -(S * (-(1/2) * (r * (r * r))) * (1 / k) * (2 * xc j)) = 0 := by
    rw [Finset.sum_neg_distrib, ← Finset.mul_sum, ← Finset.mul_sum, h0]; ring
  rw [e1, e2, e3]
  ring

/-- The two gradients of a row are equal when the incoming gradient is real; the row itself may be anything. -/
theorem grad_eq {ε : ℝ} (hn : 0 < n) (hε : 0 < ε) (x d : Fin n → EReal) (hd : ∀ j, ∃ r : ℝ, d j = r) (i : Fin n) :
    kGrad ((n : ℝ) : EReal) ε x d i = rGrad ((n : ℝ) : EReal) ε ((-(1/2) : ℝ) : EReal) ((2 : ℝ) : EReal) x d i := by
  have hk : (0 : ℝ) < (n : ℝ) := by exact_mod_cast hn
  by_cases hx : ∃ j, x j = ⊥ ∨ x j = ⊤
  · obtain ⟨j, hj⟩ := hx
    obtain ⟨hr, hv⟩ := rs_eq_zero (ε := ε) hk x j hj
    have hg : gVar ((n : ℝ) : EReal) ε ((-(1/2) : ℝ) : EReal) x d = 0 := by
      rw [gVar, hr, hv, div_top, mul_zero, mul_zero, div_zero_left hk.ne']
    rw [kGrad, rGrad, hg, hr]
    simp only [zero_mul, mul_zero, neg_zero, Finset.sum_const_zero, add_zero]
    rw [zero_add, div_zero_left hk.ne']
  · have hx' : ∀ j, ∃ r : ℝ, x j = r := fun j => by
      have h1 : x j ≠ ⊥ := fun h => hx ⟨j, .inl h⟩
      have h2 : x j ≠ ⊤ := fun h => hx ⟨j, .inr h⟩
      exact ⟨(x j).toReal, (EReal.coe_toReal h2 h1).symm⟩
    choose a ha using hx'
    choose b hb using hd
    obtain rfl : x = fun j => (a j : EReal) := funext ha
    obtain rfl : d = fun j => (b j : EReal) := funext hb
    set k : ℝ := (n : ℝ) with hkd
    set μ : ℝ := (∑ j, a j) * (1 / k) with hμ
    have hcen : cen (k : EReal) (fun j => (a j : EReal)) = fun j => ((a j - μ : ℝ) : EReal) := by
      funext j; rw [cen, mean_coe hk.ne', ← EReal.coe_sub]
    have h0 : ∑ j, (a j - μ) = 0 := by
      rw [Finset.sum_sub_distrib, Finset.sum_const, Finset.card_univ, Fintype.card_fin, nsmul_eq_mul, hμ]
      field_simp
      ring
    set v : ℝ := (∑ j, (a j - μ) * (a j - μ)) * (1 / k) + ε with hvd
    have hv : 0 < v := by
      have : 0 ≤ ∑ j, (a j - μ) * (a j - μ) := Finset.sum_nonneg fun j _ => mul_self_nonneg _
      positivity
    have hvar : varE (k : EReal) ε (fun j => (a j : EReal)) = (v : EReal) := by
      rw [varE, hcen]
      simp only [← EReal.coe_mul]
      rw [mean_coe hk.ne', ← EReal.coe_add]
    have hrs : rs (k : EReal) ε (fun j => (a j : EReal)) = ((Real.sqrt v)⁻¹ : ℝ) := by rw [rs, hvar, rsqrt_coe hv]
    have key := real_eq hk.ne' hv (fun j => a j - μ) b h0 i
    unfold kGrad rGrad gVar nh
    rw [hrs, hvar, hcen]
    simp only [Ideal.div_coe hv.ne', Ideal.div_coe hk.ne', ← EReal.coe_mul, ← coe_sum, ← EReal.coe_neg, ← EReal.coe_add,
      ← EReal.coe_sub, mean_coe hk.ne']
    exact congrArg _ key

end Cert.LnRow

end
-- ==== Proof.Pay.lean ====
/-
  The kernel's named values read at one element: the gradient that enters the norm, the row's centred values and
  reciprocal root, the row's gradient, and one block's column sums.
-/
module

public import proofs.«01_k».proof.Proof.Gen.KernelIdeal.Skeleton
public import proofs.«01_k».proof.Proof.LnRow
public import Idealize.ShloMosaic.Lib.Pointwise

@[expose] public section

set_option maxRecDepth 16384

noncomputable section

namespace Cert.DxLn

open Idealize.ShloMosaic Idealize.ShloMosaic.TcCoe
open Cert.KernelIdeal Cert.KernelIdeal.Gen

/-- The residual scale, as the programs write it. -/
abbrev α : EReal := Ideal.ofBits .f32 0x3FB504F3#32
/-- The small number under the root, as the programs write it. -/
abbrev ε : EReal := Ideal.ofBits .f32 0x3727C5AC#32
/-- The row length, as the programs write it. -/
abbrev cnt : EReal := Ideal.ofBits .f32 0x44800000#32

theorem pay7_apply (x6 : Vec Ideal S256x1024 .f32) (x0 x1 : Vec Ideal S256x2816 .bf16) (x2 x3 : Vec Ideal S2816x1024 .bf16) (r : Fin 256) (j : Fin 1024) :
    k0_pay7 (F := Ideal) x6 x0 x2 x1 x3 (ix2 r j)
      = α * x6 (ix2 r j) + (∑ k : Fin 2816, x0 (ix2 r k) * x2 (ix2 k j)) + ∑ k : Fin 2816, x1 (ix2 r k) * x3 (ix2 k j) := by
  pointwise [k0_pay7]

theorem pay8_apply (x : Vec Ideal S256x1024 .f32) (r : Fin 256) (j : Fin 1024) :
    k0_pay8 (F := Ideal) x (ix2 r j) = LnRow.cen cnt (fun l => x (ix2 r l)) j := by
  pointwise [k0_pay8, LnRow.cen, LnRow.mean]

theorem pay9_apply (x : Vec Ideal S256x1024 .f32) (r : Fin 256) (q : Fin 1) :
    k0_pay9 (F := Ideal) x (ix2 r q) = LnRow.rs cnt ε (fun l => x (ix2 r l)) := by
  pointwise [k0_pay9, pay8_apply, LnRow.rs, LnRow.varE, LnRow.mean]

theorem pay10_apply (x : Vec Ideal S256x1024 .f32) (r : Fin 256) (j : Fin 1024) :
    k0_pay10 (F := Ideal) x (ix2 r j) = LnRow.nh cnt ε (fun l => x (ix2 r l)) j := by
  pointwise [k0_pay10, pay8_apply, pay9_apply, LnRow.nh]

theorem pay3_apply (dy : FVec Ideal S256x1024 .f32) (x : Vec Ideal S256x1024 .f32) (g : Vec Ideal S1x1024 .f32) (r : Fin 256) (j : Fin 1024) :
    k0_pay3 (F := Ideal) dy (k0_pay9 x) (k0_pay10 x) g (ix2 r j)
      = LnRow.kGrad cnt ε (fun l => x (ix2 r l)) (fun l => dy (ix2 r l) * g (ix2 0 l)) j := by
  pointwise [k0_pay3, pay9_apply, pay10_apply, LnRow.kGrad, LnRow.mean]

theorem pay1_apply (dy nh : FVec Ideal S256x1024 .f32) (o : Vec Ideal S1x1024 .f32) (q : Fin 1) (j : Fin 1024) :
    k0_pay1 (F := Ideal) dy nh o (ix2 q j) = o (ix2 q j) + ∑ r : Fin 256, dy (ix2 r j) * nh (ix2 r j) := by
  pointwise [k0_pay1]

theorem pay2_apply (dy : FVec Ideal S256x1024 .f32) (o : Vec Ideal S1x1024 .f32) (q : Fin 1) (j : Fin 1024) :
    k0_pay2 (F := Ideal) dy o (ix2 q j) = o (ix2 q j) + ∑ r : Fin 256, dy (ix2 r j) := by
  pointwise [k0_pay2]

end Cert.DxLn

end
-- ==== Proof.Ref.lean ====
/-
  The reference's values read at one element, in the words of `LnRow`.
-/
module

public import proofs.«01_k».proof.Proof.Gen.ReferenceIdeal.Read
public import proofs.«01_k».proof.Proof.Pay
public import Idealize.ShloMosaic.Lib.Pointwise

@[expose] public section

set_option maxRecDepth 16384

noncomputable section

namespace Cert.DxLn

open Idealize.ShloMosaic Idealize.ShloMosaic.TcCoe
open Cert.ReferenceIdeal Cert.ReferenceIdeal.Read

/-- Minus one half and two, as the reference writes them. -/
abbrev mhalf : EReal := Ideal.ofBits .f32 0xBF000000#32
abbrev two : EReal := Ideal.ofBits .f32 0x40000000#32

/-- The arrays of the statement. -/
abbrev TH : Type := (⟨S4096x2816, .bf16⟩ : BufTy).Contents (Elt Ideal)
abbrev TW : Type := (⟨S1024x5632, .f32⟩ : BufTy).Contents (Elt Ideal)
abbrev TX : Type := (⟨S4096x1024, .f32⟩ : BufTy).Contents (Elt Ideal)
abbrev TG : Type := (⟨S1x1024, .f32⟩ : BufTy).Contents (Elt Ideal)

variable (x0 x1 : TH) (x2 : TW) (x3 : TX) (x4 : TG) (x5 : TX)

/-- The gradient that enters the norm, at token `r` and feature `j`. -/
def dy (r : Fin 4096) (j : Fin 1024) : EReal :=
  α * x5 (ix2 r j) + (∑ k : Fin 2816, x0 (ix2 r k) * x2 (ix2 j ⟨k.val, by omega⟩)) + ∑ k : Fin 2816, x1 (ix2 r k) * x2 (ix2 j ⟨2816 + k.val, by omega⟩)

theorem v33_apply (r : Fin 4096) (j : Fin 1024) :
    val_main_v33 (F := Ideal) x0 x1 x2 (ix2 r j)
      = (∑ k : Fin 2816, x0 (ix2 r k) * x2 (ix2 j ⟨k.val, by omega⟩)) + ∑ k : Fin 2816, x1 (ix2 r k) * x2 (ix2 j ⟨2816 + k.val, by omega⟩) := by
  pointwise [val_main_v33, val_main_v1, val_main_v0]

theorem v36_apply (r : Fin 4096) (j : Fin 1024) :
    val_main_v36 (F := Ideal) x0 x1 x2 x5 (ix2 r j) = dy x0 x1 x2 x5 r j := by
  pointwise [val_main_v36, v33_apply, val_main_v35, val_main_v34, val_main_cst_8]
  unfold dy
  rw [add_comm, ← add_assoc]

theorem v17_apply (r : Fin 4096) (j : Fin 1024) :
    val_main_v17 (F := Ideal) x3 (ix2 r j) = LnRow.cen cnt (fun l => x3 (ix2 r l)) j := by
  pointwise [val_main_v17, val_main_v16, val_main_v6, val_main_v5, val_main_v4, val_main_v3, val_main_cst_0, val_main_cst_1, LnRow.cen, LnRow.mean]

theorem v8_apply (r : Fin 4096) (j : Fin 1024) :
    val_main_v8 (F := Ideal) x3 (ix2 r j) = LnRow.cen cnt (fun l => x3 (ix2 r l)) j := by
  pointwise [val_main_v8, val_main_v7, val_main_v6, val_main_v5, val_main_v4, val_main_v3, val_main_cst_0, val_main_cst_1, LnRow.cen, LnRow.mean]

theorem v19_apply (r : Fin 4096) (q : Fin 1) :
    val_main_v19 (F := Ideal) x3 (ix2 r q) = LnRow.varE cnt ε (fun l => x3 (ix2 r l)) := by
  pointwise [val_main_v19, val_main_v18, val_main_v15, val_main_v14, val_main_v13, val_main_v12, val_main_v9, v8_apply, val_main_cst_3, val_main_cst_4,
    val_main_cst_5, LnRow.varE, LnRow.mean]

theorem v20_apply (r : Fin 4096) (q : Fin 1) :
    val_main_v20 (F := Ideal) x3 (ix2 r q) = LnRow.rs cnt ε (fun l => x3 (ix2 r l)) := by
  pointwise [val_main_v20, v19_apply, LnRow.rs]

theorem v25_apply (r : Fin 4096) (j : Fin 1024) :
    val_main_v25 (F := Ideal) x3 (ix2 r j) = LnRow.nh cnt ε (fun l => x3 (ix2 r l)) j := by
  pointwise [val_main_v25, val_main_v24, v17_apply, v20_apply, LnRow.nh]

/-- The normalised row's gradient. -/
def dn (r : Fin 4096) (l : Fin 1024) : EReal := dy x0 x1 x2 x5 r l * x4 (ix2 0 l)

theorem v43_apply (r : Fin 4096) (j : Fin 1024) :
    val_main_v43 (F := Ideal) x0 x1 x2 x4 x5 (ix2 r j) = dn x0 x1 x2 x4 x5 r j := by
  pointwise [val_main_v43, val_main_v42, v36_apply, dn]

theorem v54_apply (r : Fin 4096) (q : Fin 1) :
    val_main_v54 (F := Ideal) x0 x1 x2 x3 x4 x5 (ix2 r q) = LnRow.gVar cnt ε mhalf (fun l => x3 (ix2 r l)) (dn x0 x1 x2 x4 x5 r) := by
  pointwise [val_main_v54, val_main_v53, val_main_cst_13, val_main_v49, val_main_v46, val_main_v45, val_main_cst_11, val_main_v44, v17_apply, v43_apply,
    val_main_v23, val_main_v22, val_main_cst_6, val_main_v21, v20_apply, v19_apply, LnRow.gVar]

theorem v57_apply (r : Fin 4096) (j : Fin 1024) :
    val_main_v57 (F := Ideal) x0 x1 x2 x3 x4 x5 (ix2 r j)
      = LnRow.gVar cnt ε mhalf (fun l => x3 (ix2 r l)) (dn x0 x1 x2 x4 x5 r) * (two * LnRow.cen cnt (fun l => x3 (ix2 r l)) j) := by
  pointwise [val_main_v57, val_main_v56, val_main_v55, val_main_cst_14, v54_apply, val_main_v11, val_main_v10, val_main_cst_2, v8_apply]
  rw [Fin.sum_univ_one]

theorem v48_apply (r : Fin 4096) (j : Fin 1024) :
    val_main_v48 (F := Ideal) x0 x1 x2 x3 x4 x5 (ix2 r j) = dn x0 x1 x2 x4 x5 r j * LnRow.rs cnt ε (fun l => x3 (ix2 r l)) := by
  pointwise [val_main_v48, val_main_v47, v43_apply, v20_apply]

theorem v67_apply (r : Fin 4096) (j : Fin 1024) :
    val_main_v67 (F := Ideal) x0 x1 x2 x3 x4 x5 (ix2 r j)
      = LnRow.rGrad cnt ε mhalf two (fun l => x3 (ix2 r l)) (dn x0 x1 x2 x4 x5 r) j := by
  pointwise [val_main_v67, val_main_v66, val_main_v65, val_main_v64, val_main_v63, val_main_v62, val_main_v61, val_main_v60, val_main_v59, val_main_v58,
    val_main_v52, val_main_v51, val_main_v50, v48_apply, v57_apply, val_main_cst_12, val_main_cst_15, val_main_cst_16, val_main_cst_17, LnRow.rGrad]
  rw [Fin.sum_univ_one]

theorem v68_apply (r : Fin 4096) (j : Fin 1024) :
    val_main_v68 (F := Ideal) x0 x1 x2 x3 x4 x5 (ix2 r j)
      = LnRow.rGrad cnt ε mhalf two (fun l => x3 (ix2 r l)) (dn x0 x1 x2 x4 x5 r) j := by
  pointwise [val_main_v68, v67_apply]

theorem v38_apply (q : Fin 1) (j : Fin 1024) :
    val_main_v38 (F := Ideal) x0 x1 x2 x5 (ix2 q j) = ∑ r : Fin 4096, dy x0 x1 x2 x5 r j := by
  pointwise [val_main_v38, val_main_v37, val_main_cst_9, v36_apply]

theorem v41_apply (q : Fin 1) (j : Fin 1024) :
    val_main_v41 (F := Ideal) x0 x1 x2 x3 x5 (ix2 q j)
      = ∑ r : Fin 4096, dy x0 x1 x2 x5 r j * LnRow.nh cnt ε (fun l => x3 (ix2 r l)) j := by
  pointwise [val_main_v41, val_main_v40, val_main_v39, val_main_cst_10, v36_apply, v25_apply]
  exact Finset.sum_congr rfl fun r _ => mul_comm _ _

end Cert.DxLn

end
-- ==== Proof.Arr.lean ====
/-
  What the kernel's four result arrays hold after its sixteen grid points, element by element, in terms of the six
  argument arrays: every point writes its own 256 rows of the two large results and adds its rows' column sums to the
  two small ones.
-/
module

public import proofs.«01_k».proof.Proof.Block
public import proofs.«01_k».proof.Proof.Ref
public import proofs.«01_k».proof.Proof.Gen.KernelIdeal.Value
public import Idealize.ShloMosaic.Lib.StableHlo.ReadAt
public import Idealize.ShloMosaic.Lib.Pipeline.Value

@[expose] public section

set_option maxRecDepth 16384

noncomputable section

namespace Cert.DxLn

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ) (c : Dev nD)

/-- The arguments, as launched. -/
abbrev A0 : TH := m ((c : Thread nD τ).loc main_arg0)
abbrev A1 : TH := m ((c : Thread nD τ).loc main_arg1)
abbrev A2 : TW := m ((c : Thread nD τ).loc main_arg2)
abbrev A3 : TX := m ((c : Thread nD τ).loc main_arg3)
abbrev A4 : TG := m ((c : Thread nD τ).loc main_arg4)
abbrev A5 : TX := m ((c : Thread nD τ).loc main_arg5)

theorem ix_row0 : ∀ t : Fin grid0.N, win0_0.index t 0 = t.val ∧ win0_0.index t 1 = 0 := by decide +kernel
theorem ix_row1 : ∀ t : Fin grid0.N, win0_1.index t 0 = t.val ∧ win0_1.index t 1 = 0 := by decide +kernel
theorem ix_row2 : ∀ t : Fin grid0.N, win0_2.index t 0 = 0 ∧ win0_2.index t 1 = 0 := by decide +kernel
theorem ix_row3 : ∀ t : Fin grid0.N, win0_3.index t 0 = 1 ∧ win0_3.index t 1 = 0 := by decide +kernel
theorem ix_row4 : ∀ t : Fin grid0.N, win0_4.index t 0 = t.val ∧ win0_4.index t 1 = 0 := by decide +kernel
theorem ix_row5 : ∀ t : Fin grid0.N, win0_5.index t 0 = 0 ∧ win0_5.index t 1 = 0 := by decide +kernel
theorem ix_row6 : ∀ t : Fin grid0.N, win0_6.index t 0 = t.val ∧ win0_6.index t 1 = 0 := by decide +kernel
theorem ix_row7 : ∀ t : Fin grid0.N, win0_7.index t 0 = t.val ∧ win0_7.index t 1 = 0 := by decide +kernel
theorem ix_row8 : ∀ t : Fin grid0.N, win0_8.index t 0 = t.val ∧ win0_8.index t 1 = 0 := by decide +kernel
theorem ix_row9 : ∀ t : Fin grid0.N, win0_9.index t 0 = 0 ∧ win0_9.index t 1 = 0 := by decide +kernel
theorem ix_row10 : ∀ t : Fin grid0.N, win0_10.index t 0 = 0 ∧ win0_10.index t 1 = 0 := by decide +kernel

theorem lt16 (t : Fin cfg0.N) : t.val < 16 := by have : cfg0.N = 16 := N_0; have := t.isLt; omega

/-- Row `r` of block `t`. -/
abbrev row (t : Fin cfg0.N) (r : Fin 256) : Fin 4096 := ⟨256 * t.val + r.val, by have := lt16 t; omega⟩

theorem iblk0 (t : Fin cfg0.N) (r : Fin 256) (k : Fin 2816) : (iblk m c 0 t : Vec Ideal S256x2816 .bf16) (ix2 r k) = A0 m c (ix2 (row t r) k) := by
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * r.val = 256 * t.val + r.val; rw [(ix_row0 t).1]; omega
  | ⟨1, _⟩ => show win0_0.index t 1 * 2816 + 1 * k.val = k.val; rw [(ix_row0 t).2]; omega

theorem iblk1 (t : Fin cfg0.N) (r : Fin 256) (k : Fin 2816) : (iblk m c 1 t : Vec Ideal S256x2816 .bf16) (ix2 r k) = A1 m c (ix2 (row t r) k) := by
  unfold iblk
  rw [View.read_apply]
  show V m c main_arg1 _ = m (c.tc.loc main_arg1) _
  rw [V_main_arg1]
  congr 1
  funext a
  apply Fin.ext
  match a with
  | ⟨0, _⟩ => show win0_1.index t 0 * 256 + 1 * r.val = 256 * t.val + r.val; rw [(ix_row1 t).1]; omega
  | ⟨1, _⟩ => show win0_1.index t 1 * 2816 + 1 * k.val = k.val; rw [(ix_row1 t).2]; omega

theorem iblk4 (t : Fin cfg0.N) (r : Fin 256) (k : Fin 1024) : (iblk m c 4 t : Vec Ideal S256x1024 .f32) (ix2 r k) = A3 m c (ix2 (row t r) k) := by
  unfold iblk
  rw [View.read_apply]
  show V m c main_arg3 _ = m (c.tc.loc main_arg3) _
  rw [V_main_arg3]
  congr 1
  funext a
  apply Fin.ext
  match a with
  | ⟨0, _⟩ => show win0_4.index t 0 * 256 + 1 * r.val = 256 * t.val + r.val; rw [(ix_row4 t).1]; omega
  | ⟨1, _⟩ => show win0_4.index t 1 * 1024 + 1 * k.val = k.val; rw [(ix_row4 t).2]; omega

theorem iblk6 (t : Fin cfg0.N) (r : Fin 256) (k : Fin 1024) : (iblk m c 6 t : Vec Ideal S256x1024 .f32) (ix2 r k) = A5 m c (ix2 (row t r) k) := by
  unfold iblk
  rw [View.read_apply]
  show V m c main_arg5 _ = m (c.tc.loc main_arg5) _
  rw [V_main_arg5]
  congr 1
  funext a
  apply Fin.ext
  match a with
  | ⟨0, _⟩ => show win0_6.index t 0 * 256 + 1 * r.val = 256 * t.val + r.val; rw [(ix_row6 t).1]; omega
  | ⟨1, _⟩ => show win0_6.index t 1 * 1024 + 1 * k.val = k.val; rw [(ix_row6 t).2]; omega

theorem iblk5 (t : Fin cfg0.N) (q : Fin 1) (k : Fin 1024) : (iblk m c 5 t : Vec Ideal S1x1024 .f32) (ix2 q k) = A4 m c (ix2 q k) := by
  unfold iblk
  rw [View.read_apply]
  show V m c main_arg4 _ = m (c.tc.loc main_arg4) _
  rw [V_main_arg4]
  congr 1
  funext a
  apply Fin.ext
  match a with
  | ⟨0, _⟩ => show win0_5.index t 0 * 1 + 1 * q.val = q.val; rw [(ix_row5 t).1]; omega
  | ⟨1, _⟩ => show win0_5.index t 1 * 1024 + 1 * k.val = k.val; rw [(ix_row5 t).2]; omega

/-- The weight as the launch finds it: transposed. -/
theorem V_w (k : Fin 5632) (j : Fin 1024) : (V m c main_v1 : Vec Ideal S5632x1024 .bf16) (ix2 k j) = A2 m c (ix2 j k) := by
  unfold V
  after_reads_at

theorem iblk2 (t : Fin cfg0.N) (k : Fin 2816) (j : Fin 1024) : (iblk m c 2 t : Vec Ideal S2816x1024 .bf16) (ix2 k j) = A2 m c (ix2 j ⟨k.val, by omega⟩) := by
  rw [← V_w]
  unfold iblk
  rw [View.read_apply]
  show V m c main_v1 _ = V m c main_v1 _
  congr 1
  funext a
  apply Fin.ext
  match a with
  | ⟨0, _⟩ => show win0_2.index t 0 * 2816 + 1 * k.val = k.val; rw [(ix_row2 t).1]; omega
  | ⟨1, _⟩ => show win0_2.index t 1 * 1024 + 1 * j.val = j.val; rw [(ix_row2 t).2]; omega

theorem iblk3 (t : Fin cfg0.N) (k : Fin 2816) (j : Fin 1024) : (iblk m c 3 t : Vec Ideal S2816x1024 .bf16) (ix2 k j) = A2 m c (ix2 j ⟨2816 + k.val, by omega⟩) := by
  rw [← V_w]
  unfold iblk
  rw [View.read_apply]
  show V m c main_v1 _ = V m c main_v1 _
  congr 1
  funext a
  apply Fin.ext
  match a with
  | ⟨0, _⟩ => show win0_3.index t 0 * 2816 + 1 * k.val = 2816 + k.val; rw [(ix_row3 t).1]; omega
  | ⟨1, _⟩ => show win0_3.index t 1 * 1024 + 1 * j.val = j.val; rw [(ix_row3 t).2]; omega

/-- The gradient entering the norm, of the launched arguments. -/
abbrev DY (r : Fin 4096) (j : Fin 1024) : EReal := dy (A0 m c) (A1 m c) (A2 m c) (A5 m c) r j
abbrev DN (r : Fin 4096) (j : Fin 1024) : EReal := dn (A0 m c) (A1 m c) (A2 m c) (A4 m c) (A5 m c) r j
/-- A row of the norm's input. -/
abbrev X (r : Fin 4096) (j : Fin 1024) : EReal := A3 m c (ix2 r j)

theorem pay7_blk (t : Fin cfg0.N) (r : Fin 256) (j : Fin 1024) :
    k0_pay7 (F := Ideal) (iblk m c 6 t) (iblk m c 0 t) (iblk m c 2 t) (iblk m c 1 t) (iblk m c 3 t) (ix2 r j) = DY m c (row t r) j := by
  rw [pay7_apply, iblk6]
  simp only [iblk0, iblk1, iblk2, iblk3]
  rfl

theorem pay10_blk (t : Fin cfg0.N) (r : Fin 256) (j : Fin 1024) :
    k0_pay10 (F := Ideal) (iblk m c 4 t) (ix2 r j) = LnRow.nh cnt ε (X m c (row t r)) j := by
  rw [pay10_apply]
  simp only [iblk4]

theorem pay3_blk (t : Fin cfg0.N) (r : Fin 256) (j : Fin 1024) :
    k0_pay3 (F := Ideal) (k0_pay7 (iblk m c 6 t) (iblk m c 0 t) (iblk m c 2 t) (iblk m c 1 t) (iblk m c 3 t)) (k0_pay9 (iblk m c 4 t)) (k0_pay10 (iblk m c 4 t))
      (iblk m c 5 t) (ix2 r j) = LnRow.kGrad cnt ε (X m c (row t r)) (DN m c (row t r)) j := by
  rw [pay3_apply]
  simp only [pay7_blk, iblk4, iblk5]
  rfl

theorem pay4_blk (t : Fin cfg0.N) (r : Fin 256) (j : Fin 1024) :
    k0_pay4 (F := Ideal) (k0_pay7 (iblk m c 6 t) (iblk m c 0 t) (iblk m c 2 t) (iblk m c 1 t) (iblk m c 3 t)) (k0_pay9 (iblk m c 4 t)) (k0_pay10 (iblk m c 4 t))
      (iblk m c 5 t) (ix2 r j) = LnRow.kGrad cnt ε (X m c (row t r)) (DN m c (row t r)) j := by
  rw [← pay3_blk]
  rfl

theorem outs7 (t : Fin cfg0.N) (r : Fin 256) (j : Fin 1024) :
    ((outsAt0 m c t.val t.isLt).1 : Vec Ideal S256x1024 .f32) (ix2 r j) = LnRow.kGrad cnt ε (X m c (row t r)) (DN m c (row t r)) j := by
  by_cases h0 : t.val % 16 = 0
  · rw [outsAt0_A m c t h0]
    dsimp only
    rw [outA7, pay3_blk]
  · rw [outsAt0_B m c t h0]
    dsimp only
    rw [outB7, pay3_blk]

theorem outs8 (t : Fin cfg0.N) (r : Fin 256) (j : Fin 1024) :
    ((outsAt0 m c t.val t.isLt).2.1 : Vec Ideal S256x1024 .bf16) (ix2 r j) = LnRow.kGrad cnt ε (X m c (row t r)) (DN m c (row t r)) j := by
  by_cases h0 : t.val % 16 = 0
  · rw [outsAt0_A m c t h0]
    dsimp only
    rw [outA8, pay4_blk]
  · rw [outsAt0_B m c t h0]
    dsimp only
    rw [outB8, pay4_blk]

/-- Sixteen blocks of 256 rows are 4096 rows. -/
theorem sum_blocks (f : ℕ → EReal) (n : ℕ) : ∑ s ∈ Finset.range n, ∑ r ∈ Finset.range 256, f (256 * s + r) = ∑ r ∈ Finset.range (256 * n), f r := by
  induction n with
  | zero => simp
  | succ n ih => rw [Finset.sum_range_succ, ih, Nat.mul_succ, Finset.sum_range_add]

/-- A function of a row, at any number. -/
def onNat (f : Fin 4096 → EReal) (n : ℕ) : EReal := if h : n < 4096 then f ⟨n, h⟩ else 0

theorem sum_all (f : Fin 4096 → EReal) : ∑ s ∈ Finset.range 16, ∑ r ∈ Finset.range 256, onNat f (256 * s + r) = ∑ r, f r := by
  rw [sum_blocks, Finset.sum_range]
  refine Finset.sum_congr rfl fun r _ => ?_
  have := r.isLt
  simp only [onNat]
  rw [dif_pos (by omega)]

theorem sum_row (f : Fin 4096 → EReal) (t : Fin cfg0.N) : ∑ r : Fin 256, f (row t r) = ∑ r ∈ Finset.range 256, onNat f (256 * t.val + r) := by
  rw [Finset.sum_range]
  refine Finset.sum_congr rfl fun r _ => ?_
  have := r.isLt
  have := lt16 t
  simp only [onNat]
  rw [dif_pos (by omega)]

theorem pay5_apply (q : Fin 1) (j : Fin 1024) : k0_pay5 (F := Ideal) (ix2 q j) = 0 := by pointwise [k0_pay5]
theorem pay6_apply (q : Fin 1) (j : Fin 1024) : k0_pay6 (F := Ideal) (ix2 q j) = 0 := by pointwise [k0_pay6]

theorem outs9 (n : ℕ) : ∀ (hn : n < cfg0.N) (q : Fin 1) (j : Fin 1024), ((outsAt0 m c n hn).2.2.1 : Vec Ideal S1x1024 .f32) (ix2 q j)
    = ∑ s ∈ Finset.range (n + 1), ∑ r ∈ Finset.range 256, onNat (fun r => DY m c r j * LnRow.nh cnt ε (X m c r) j) (256 * s + r) := by
  induction n with
  | zero =>
    intro hn q j
    rw [outsAt0_A m c ⟨0, hn⟩ rfl]
    dsimp only
    rw [outA9, pay1_apply, pay5_apply]
    simp only [pay7_blk, pay10_blk]
    rw [sum_row (fun r => DY m c r j * LnRow.nh cnt ε (X m c r) j), Finset.sum_range_one, zero_add]
  | succ n ih =>
    intro hn q j
    have h16 : n + 1 < 16 := lt16 ⟨n + 1, hn⟩
    rw [outsAt0_B m c ⟨n + 1, hn⟩ (by dsimp only; omega)]
    dsimp only
    rw [outB9, pay1_apply]
    simp only [pay7_blk, pay10_blk]
    rw [sum_row (fun r => DY m c r j * LnRow.nh cnt ε (X m c r) j), Finset.sum_range_succ _ (n + 1)]
    exact congrArg₂ (· + ·) (ih _ q j) rfl

theorem outs10 (n : ℕ) : ∀ (hn : n < cfg0.N) (q : Fin 1) (j : Fin 1024), ((outsAt0 m c n hn).2.2.2 : Vec Ideal S1x1024 .f32) (ix2 q j)
    = ∑ s ∈ Finset.range (n + 1), ∑ r ∈ Finset.range 256, onNat (fun r => DY m c r j) (256 * s + r) := by
  induction n with
  | zero =>
    intro hn q j
    rw [outsAt0_A m c ⟨0, hn⟩ rfl]
    dsimp only
    rw [outA10, pay2_apply, pay6_apply]
    simp only [pay7_blk]
    rw [sum_row (fun r => DY m c r j), Finset.sum_range_one, zero_add]
  | succ n ih =>
    intro hn q j
    have h16 : n + 1 < 16 := lt16 ⟨n + 1, hn⟩
    rw [outsAt0_B m c ⟨n + 1, hn⟩ (by dsimp only; omega)]
    dsimp only
    rw [outB10, pay2_apply]
    simp only [pay7_blk]
    rw [sum_row (fun r => DY m c r j), Finset.sum_range_succ _ (n + 1)]
    exact congrArg₂ (· + ·) (ih _ q j) rfl

theorem div_cover (x : ℕ) : x / 256 * 256 ≤ x ∧ x < x / 256 * 256 + 256 := by omega
theorem zero_cover {x n : ℕ} (h : x < n) : 0 * n ≤ x ∧ x < 0 * n + n := by omega

/-- What result 0 holds. -/
def G7 : Vec Ideal S4096x1024 .f32 := fun i => LnRow.kGrad cnt ε (X m c (i 0)) (DN m c (i 0)) (i 1)

theorem arr7 : ((dats m 0 c).arrAt 7 cfg0.N : Vec Ideal S4096x1024 .f32) = G7 m c := by
  refine (dats m 0 c).arrAt_eq_of_cover 7 (G7 m c) (fun t _ => ?_) (fun i => ?_)
  · rw [Value.flushed7]
    funext y
    idx_vars y
    refine (outs7 m c t _ _).trans ?_
    rw [View.read_apply]
    show _ = G7 m c _
    unfold G7
    have e0 : (((cfg0.win 7).blk t).view.emb (ix2 y0 y1)) 0 = row t y0 := by
      apply Fin.ext
      show win0_7.index t 0 * 256 + 1 * y0.val = 256 * t.val + y0.val
      rw [(ix_row7 t).1]; omega
    have e1 : (((cfg0.win 7).blk t).view.emb (ix2 y0 y1)) 1 = y1 := by
      apply Fin.ext
      show win0_7.index t 1 * 1024 + 1 * y1.val = y1.val
      rw [(ix_row7 t).2]; omega
    exact (congr (congrArg₂ (fun a b => LnRow.kGrad cnt ε (X m c a) (DN m c b)) e0 e0) e1).symm
  · have h0 : (i 0).val < 4096 := (i 0).isLt
    have h1 : (i 1).val < 1024 := (i 1).isLt
    have hN : cfg0.N = 16 := N_0
    have hN' : grid0.N = 16 := N_0
    refine ⟨⟨(i 0).val / 256, by omega⟩, flush0_7 _, ?_⟩
    rw [View.set_slice_whole, Rect.mem_set_unit]
    intro a
    match a with
    | ⟨0, _⟩ =>
      have e := (ix_row7 ⟨(i 0).val / 256, by omega⟩).1
      show win0_7.index _ 0 * 256 ≤ (i 0).val ∧ (i 0).val < win0_7.index _ 0 * 256 + 256
      rw [e]; exact div_cover _
    | ⟨1, _⟩ =>
      have e := (ix_row7 ⟨(i 0).val / 256, by omega⟩).2
      show win0_7.index _ 1 * 1024 ≤ (i 1).val ∧ (i 1).val < win0_7.index _ 1 * 1024 + 1024
      rw [e]; exact zero_cover ‹_›

/-- What result 1 holds. -/
def G8 : Vec Ideal S4096x1024 .bf16 := fun i => LnRow.kGrad cnt ε (X m c (i 0)) (DN m c (i 0)) (i 1)

theorem arr8 : ((dats m 0 c).arrAt 8 cfg0.N : Vec Ideal S4096x1024 .bf16) = G8 m c := by
  refine (dats m 0 c).arrAt_eq_of_cover 8 (G8 m c) (fun t _ => ?_) (fun i => ?_)
  · rw [Value.flushed8]
    funext y
    idx_vars y
    refine (outs8 m c t _ _).trans ?_
    rw [View.read_apply]
    show _ = G8 m c _
    unfold G8
    have e0 : (((cfg0.win 8).blk t).view.emb (ix2 y0 y1)) 0 = row t y0 := by
      apply Fin.ext
      show win0_8.index t 0 * 256 + 1 * y0.val = 256 * t.val + y0.val
      rw [(ix_row8 t).1]; omega
    have e1 : (((cfg0.win 8).blk t).view.emb (ix2 y0 y1)) 1 = y1 := by
      apply Fin.ext
      show win0_8.index t 1 * 1024 + 1 * y1.val = y1.val
      rw [(ix_row8 t).2]; omega
    exact (congr (congrArg₂ (fun a b => LnRow.kGrad cnt ε (X m c a) (DN m c b)) e0 e0) e1).symm
  · have h0 : (i 0).val < 4096 := (i 0).isLt
    have h1 : (i 1).val < 1024 := (i 1).isLt
    have hN : cfg0.N = 16 := N_0
    have hN' : grid0.N = 16 := N_0
    refine ⟨⟨(i 0).val / 256, by omega⟩, flush0_8 _, ?_⟩
    rw [View.set_slice_whole, Rect.mem_set_unit]
    intro a
    match a with
    | ⟨0, _⟩ =>
      have e := (ix_row8 ⟨(i 0).val / 256, by omega⟩).1
      show win0_8.index _ 0 * 256 ≤ (i 0).val ∧ (i 0).val < win0_8.index _ 0 * 256 + 256
      rw [e]; exact div_cover _
    | ⟨1, _⟩ =>
      have e := (ix_row8 ⟨(i 0).val / 256, by omega⟩).2
      show win0_8.index _ 1 * 1024 ≤ (i 1).val ∧ (i 1).val < win0_8.index _ 1 * 1024 + 1024
      rw [e]; exact zero_cover ‹_›

/-- What result 2 holds. -/
def G9 : Vec Ideal S1x1024 .f32 := fun i => ∑ r : Fin 4096, DY m c r (i 1) * LnRow.nh cnt ε (X m c r) (i 1)

theorem arr9 : ((dats m 0 c).arrAt 9 cfg0.N : Vec Ideal S1x1024 .f32) = G9 m c := by
  have hN : cfg0.N = 16 := N_0
  have hN' : grid0.N = 16 := N_0
  refine (dats m 0 c).arrAt_eq_of_cover 9 (G9 m c) (fun t ht => ?_) (fun i => ?_)
  · have h15 : t.val = 15 := by
      have := (flush0_9 t).mp ht
      have := lt16 t
      omega
    rw [Value.flushed9]
    funext y
    idx_vars y
    refine (outs9 m c t.val t.isLt y0 y1).trans ?_
    rw [h15, sum_all (fun r => DY m c r y1 * LnRow.nh cnt ε (X m c r) y1), View.read_apply]
    show _ = G9 m c _
    unfold G9
    have e1 : (((cfg0.win 9).blk t).view.emb (ix2 y0 y1)) 1 = y1 := by
      apply Fin.ext
      show win0_9.index t 1 * 1024 + 1 * y1.val = y1.val
      rw [(ix_row9 t).2]; omega
    exact (congrArg (fun y1 : Fin 1024 => ∑ r : Fin 4096, DY m c r y1 * LnRow.nh cnt ε (X m c r) y1) e1).symm
  · have h0 : (i 0).val < 1 := (i 0).isLt
    have h1 : (i 1).val < 1024 := (i 1).isLt
    refine ⟨⟨15, by omega⟩, (flush0_9 _).mpr rfl, ?_⟩
    rw [View.set_slice_whole, Rect.mem_set_unit]
    intro a
    match a with
    | ⟨0, _⟩ =>
      have e := (ix_row9 ⟨15, by omega⟩).1
      show win0_9.index _ 0 * 1 ≤ (i 0).val ∧ (i 0).val < win0_9.index _ 0 * 1 + 1
      rw [e]; exact zero_cover ‹_›
    | ⟨1, _⟩ =>
      have e := (ix_row9 ⟨15, by omega⟩).2
      show win0_9.index _ 1 * 1024 ≤ (i 1).val ∧ (i 1).val < win0_9.index _ 1 * 1024 + 1024
      rw [e]; exact zero_cover ‹_›

/-- What result 3 holds. -/
def G10 : Vec Ideal S1x1024 .f32 := fun i => ∑ r : Fin 4096, DY m c r (i 1)

theorem arr10 : ((dats m 0 c).arrAt 10 cfg0.N : Vec Ideal S1x1024 .f32) = G10 m c := by
  have hN : cfg0.N = 16 := N_0
  have hN' : grid0.N = 16 := N_0
  refine (dats m 0 c).arrAt_eq_of_cover 10 (G10 m c) (fun t ht => ?_) (fun i => ?_)
  · have h15 : t.val = 15 := by
      have := (flush0_10 t).mp ht
      have := lt16 t
      omega
    rw [Value.flushed10]
    funext y
    idx_vars y
    refine (outs10 m c t.val t.isLt y0 y1).trans ?_
    rw [h15, sum_all (fun r => DY m c r y1), View.read_apply]
    show _ = G10 m c _
    unfold G10
    have e1 : (((cfg0.win 10).blk t).view.emb (ix2 y0 y1)) 1 = y1 := by
      apply Fin.ext
      show win0_10.index t 1 * 1024 + 1 * y1.val = y1.val
      rw [(ix_row10 t).2]; omega
    exact (congrArg (fun y1 : Fin 1024 => ∑ r : Fin 4096, DY m c r y1) e1).symm
  · have h0 : (i 0).val < 1 := (i 0).isLt
    have h1 : (i 1).val < 1024 := (i 1).isLt
    refine ⟨⟨15, by omega⟩, (flush0_10 _).mpr rfl, ?_⟩
    rw [View.set_slice_whole, Rect.mem_set_unit]
    intro a
    match a with
    | ⟨0, _⟩ =>
      have e := (ix_row10 ⟨15, by omega⟩).1
      show win0_10.index _ 0 * 1 ≤ (i 0).val ∧ (i 0).val < win0_10.index _ 0 * 1 + 1
      rw [e]; exact zero_cover ‹_›
    | ⟨1, _⟩ =>
      have e := (ix_row10 ⟨15, by omega⟩).2
      show win0_10.index _ 1 * 1024 ≤ (i 1).val ∧ (i 1).val < win0_10.index _ 1 * 1024 + 1024
      rw [e]; exact zero_cover ‹_›

end Cert.DxLn

end
-- ==== Proof.Fin.lean ====
/-
  The precondition read element by element: five of the six arguments hold real numbers.
-/
module

public import proofs.«01_k».proof.Defs
public import proofs.«01_k».proof.Proof.Ref
public import Idealize.ShloMosaic.Lib.ReduceAll
public import Idealize.ShloMosaic.Lib.Pointwise

@[expose] public section

set_option maxRecDepth 16384

noncomputable section

namespace Cert.DxLn

open Idealize.ShloMosaic

/-- A number whose absolute value lies below plus infinity is real. -/
theorem real_of_abs_lt (x : EReal) (h : FloatOps.cmpf (F := Ideal) (φ := .f32) .olt (FloatOps.absf (F := Ideal) (φ := .f32) x) (Ideal.ofBits .f32 0x7F800000#32) = 1#1) :
    ∃ r : ℝ, x = r := by
  induction x with
  | coe r => exact ⟨r, rfl⟩
  | bot => exfalso; revert h; simp [FloatOps.cmpf, FloatOps.absf, Ideal.ofBits, Ideal.ieee, Ideal.cmp]
  | top => exfalso; revert h; simp [FloatOps.cmpf, FloatOps.absf, Ideal.ofBits, Ideal.ieee, Ideal.cmp]

theorem and_one {a b : BitVec 1} (h : IntOp.andi a b = 1#1) : a = 1#1 ∧ b = 1#1 := by revert a b; decide

instance : Subsingleton Cert.Pre_finite.S_.Idx := ⟨fun a b => funext fun i => i.elim0⟩

variable (x0 x1 : TH) (x2 : TW) (x3 : TX) (x4 : TG) (x5 : TX)

theorem finite_real [Cert.Pre_finite.Facts] (h : Cert.Pre_finite.fn (F := Ideal) x0 x1 x2 x3 x4 x5 = fun _ => 1#1) :
    (∀ i, ∃ r : ℝ, x0 i = r) ∧ (∀ i, ∃ r : ℝ, x1 i = r) ∧ (∀ i, ∃ r : ℝ, x2 i = r) ∧ (∀ i, ∃ r : ℝ, x4 i = r) ∧ (∀ i, ∃ r : ℝ, x5 i = r) := by
  have e := congrFun h (fun a => a.elim0)
  unfold Cert.Pre_finite.fn Cert.Pre_finite.fn_part1 at e
  dsimp only [andi] at e
  obtain ⟨e, e5⟩ := and_one e
  obtain ⟨e, e4⟩ := and_one e
  obtain ⟨e, e2⟩ := and_one e
  obtain ⟨e0, e1⟩ := and_one e
  exact ⟨fun i => real_of_abs_lt _ (Host.reduce_andi_all _ _ _ _ _ e0 i), fun i => real_of_abs_lt _ (Host.reduce_andi_all _ _ _ _ _ e1 i),
    fun i => real_of_abs_lt _ (Host.reduce_andi_all _ _ _ _ _ e2 i), fun i => real_of_abs_lt _ (Host.reduce_andi_all _ _ _ _ _ e4 i),
    fun i => real_of_abs_lt _ (Host.reduce_andi_all _ _ _ _ _ e5 i)⟩

/-- A finite sum of reals, a product and a sum of two reals, are real. -/
def IsReal (x : EReal) : Prop := ∃ r : ℝ, x = r
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sum {n : ℕ} (f : Fin n → EReal) (h : ∀ k, IsReal (f k)) : IsReal (∑ k, f k) := by
  choose g hg using h
  exact ⟨∑ k, g k, by simp only [hg]; exact (LnRow.coe_sum g).symm⟩

theorem α_real : IsReal α := by
  refine ⟨11863283 / 2 ^ 23, ?_⟩
  simp [α, Ideal.ofBits, Ideal.ieee, -EReal.coe_mul]; norm_num

theorem ε_real : ε = ((10995116 / 2 ^ 40 : ℝ) : EReal) := by
  simp [ε, Ideal.ofBits, Ideal.ieee, -EReal.coe_mul]; norm_num

theorem cnt_real : cnt = (((1024 : ℕ) : ℝ) : EReal) := by
  simp [cnt, Ideal.ofBits, Ideal.ieee, -EReal.coe_mul]; norm_num

theorem two_real : two = ((2 : ℝ) : EReal) := by
  simp [two, Ideal.ofBits, Ideal.ieee, -EReal.coe_mul]; norm_num

theorem mhalf_real : mhalf = ((-(1 / 2) : ℝ) : EReal) := by
  simp [mhalf, Ideal.ofBits, Ideal.ieee, -EReal.coe_mul, -EReal.coe_neg]; norm_num

theorem dn_real (h0 : ∀ i, IsReal (x0 i)) (h1 : ∀ i, IsReal (x1 i)) (h2 : ∀ i, IsReal (x2 i)) (h4 : ∀ i, IsReal (x4 i)) (h5 : ∀ i, IsReal (x5 i))
    (r : Fin 4096) (l : Fin 1024) : IsReal (dn x0 x1 x2 x4 x5 r l) := by
  unfold dn dy
  exact ((((α_real.mul (h5 _)).add (IsReal.sum _ fun k => (h0 _).mul (h2 _))).add (IsReal.sum _ fun k => (h1 _).mul (h2 _)))).mul (h4 _)

/-- The two spellings of the gradient through the norm agree on a row whose incoming gradient is real. -/
theorem grad_row (x d : Fin 1024 → EReal) (hd : ∀ l, IsReal (d l)) (j : Fin 1024) : LnRow.kGrad cnt ε x d j = LnRow.rGrad cnt ε mhalf two x d j := by
  rw [cnt_real, ε_real, two_real, mhalf_real]
  exact LnRow.grad_eq (by norm_num) (by positivity) x d hd j

end Cert.DxLn

end
-- ==== Proof.Equal.lean ====
/-
  The kernel's four result arrays are the reference's.
-/
module

public import proofs.«01_k».proof.Proof.Arr
public import proofs.«01_k».proof.Proof.Fin

@[expose] public section

set_option maxRecDepth 16384

noncomputable section

namespace Cert.DxLn

open Idealize.ShloMosaic Idealize.ShloMosaic.TcCoe Idealize.SL.Sem
open Cert.KernelIdeal Cert.KernelIdeal.Gen
open Cert.ReferenceIdeal.Read

variable [Cert.Pre_finite.Facts] (m : (ℓ : Loc nD τ sig) → Buf (Elt Ideal) ℓ) (c : Dev nD)

variable (h : Cert.Pre_finite.fn (F := Ideal) (A0 m c) (A1 m c) (A2 m c) (A3 m c) (A4 m c) (A5 m c) = fun _ => 1#1)
include h

theorem row_eq (r : Fin 4096) (j : Fin 1024) :
    LnRow.kGrad cnt ε (X m c r) (DN m c r) j = LnRow.rGrad cnt ε mhalf two (X m c r) (DN m c r) j := by
  obtain ⟨h0, h1, h2, h4, h5⟩ := finite_real _ _ _ _ _ _ h
  exact grad_row _ _ (fun l => dn_real _ _ _ _ _ h0 h1 h2 h4 h5 r l) j

theorem eq7 : (dats m 0 c).arrAt 7 cfg0.N = val_main_v67 (F := Ideal) (A0 m c) (A1 m c) (A2 m c) (A3 m c) (A4 m c) (A5 m c) := by
  refine (arr7 m c).trans ?_
  funext i
  idx_vars i
  rw [v67_apply]
  exact row_eq m c h i0 i1

theorem eq8 : (dats m 0 c).arrAt 8 cfg0.N = val_main_v68 (F := Ideal) (A0 m c) (A1 m c) (A2 m c) (A3 m c) (A4 m c) (A5 m c) := by
  refine (arr8 m c).trans ?_
  funext i
  idx_vars i
  rw [v68_apply]
  exact row_eq m c h i0 i1

omit h

theorem eq9 : (dats m 0 c).arrAt 9 cfg0.N = val_main_v41 (F := Ideal) (A0 m c) (A1 m c) (A2 m c) (A3 m c) (A5 m c) := by
  refine (arr9 m c).trans ?_
  funext i
  idx_vars i
  rw [v41_apply]
  rfl

theorem eq10 : (dats m 0 c).arrAt 10 cfg0.N = val_main_v38 (F := Ideal) (A0 m c) (A1 m c) (A2 m c) (A5 m c) := by
  refine (arr10 m c).trans ?_
  funext i
  idx_vars i
  rw [v38_apply]
  rfl

end Cert.DxLn

end
-- ==== Proof.AttVec.lean ====
/-
  The attention gradient's named values, one definition per step and the same for both key/value heads: the stacked
  query heads, the duplicated key/value head, scores, probabilities, the gradient of the scores, the gradients of the
  queries, keys, values and sinks of one block. The program's own named values are these, by unfolding.
-/
module

public import proofs.«01_k».proof.Proof.Gen.AttnIdeal.Skeleton

@[expose] public section

set_option maxRecDepth 16384

noncomputable section

namespace Cert.Att

open Idealize.ShloMosaic Idealize.ShloMosaic.TcCoe
open Cert.AttnIdeal Cert.AttnIdeal.Gen

variable {F : FTy → Type} [FloatOps F]

/-- The first half of the lanes of a pair of heads, the others zero. -/
def lo (w : FVec F S128x128 .bf16) : FVec F S128x128 .bf16 :=
  select (cmpi .slt (iota .tc S128x128 32 [1] iota_S128x128_d1_w32) (broadcast S128x128 64#32)) w
    (broadcast S128x128 (Scalar.ofBits .bf16 0x0000#16))

/-- The second half of the lanes of a pair of heads, the others zero. -/
def hi (w : FVec F S128x128 .bf16) : FVec F S128x128 .bf16 :=
  select (cmpi .slt (iota .tc S128x128 32 [1] iota_S128x128_d1_w32) (broadcast S128x128 64#32))
    (broadcast S128x128 (Scalar.ofBits .bf16 0x0000#16)) w

/-- Eight heads stacked as rows, from four pairs. -/
def stk (w0 w1 w2 w3 : FVec F S128x128 .bf16) : FVec F S1024x128 .bf16 :=
  concatenate S1024x128 0 [⟨S128x128, lo w0⟩, ⟨S128x128, hi w0⟩, ⟨S128x128, lo w1⟩, ⟨S128x128, hi w1⟩, ⟨S128x128, lo w2⟩, ⟨S128x128, hi w2⟩, ⟨S128x128, lo w3⟩, ⟨S128x128, hi w3⟩]
    concatenates_S128x128_S128x128_S128x128_S128x128_S128x128_S128x128_S128x128_S128x128_S1024x128_d0

/-- The keys and values a block of queries reads: the block before it, then its own. -/
def kvc (xp xc : FVec F S128x256 .bf16) : FVec F S256x256 .f32 :=
  extf .f32 (concatenate S256x256 0 [⟨S128x256, xp⟩, ⟨S128x256, xc⟩] concatenates_S128x256_S128x256_S256x256_d0) bitsLt_bf16_f32

def kcol (v : FVec F S256x256 .f32) : FVec F S256x128 .f32 := extractStridedSlice S256x128 ![0, 0] v slices_S256x256_o0_0_S256x128
def vcol (v : FVec F S256x256 .f32) : FVec F S256x128 .f32 := extractStridedSlice S256x128 ![0, 128] v slices_S256x256_o0_128_S256x128

/-- The first head of a pair in both halves of the lanes. -/
def dup0 (w : FVec F S256x128 .f32) : FVec F S256x128 .bf16 :=
  truncf .bf16 (select (cmpi .slt (iota .tc S256x128 32 [1] iota_S256x128_d1_w32) (broadcast S256x128 64#32)) w
    (dynamicRotate 1 64#32 none w rotates_S256x128_d1)) bitsLt_bf16_f32

/-- The second head of a pair in both halves of the lanes. -/
def dup1 (w : FVec F S256x128 .f32) : FVec F S256x128 .bf16 :=
  truncf .bf16 (select (cmpi .slt (iota .tc S256x128 32 [1] iota_S256x128_d1_w32) (broadcast S256x128 64#32))
    (dynamicRotate 1 64#32 none w rotates_S256x128_d1) w) bitsLt_bf16_f32

/-- Eight sinks, each over its head's rows. -/
def skr (a0 a1 a2 a3 a4 a5 a6 a7 : F .f32) : FVec F S1x1024 .f32 :=
  concatenate S1x1024 1 [⟨S1x128, broadcast S1x128 a0⟩, ⟨S1x128, broadcast S1x128 a1⟩, ⟨S1x128, broadcast S1x128 a2⟩, ⟨S1x128, broadcast S1x128 a3⟩, ⟨S1x128, broadcast S1x128 a4⟩, ⟨S1x128, broadcast S1x128 a5⟩, ⟨S1x128, broadcast S1x128 a6⟩, ⟨S1x128, broadcast S1x128 a7⟩]
    concatenates_S1x128_S1x128_S1x128_S1x128_S1x128_S1x128_S1x128_S1x128_S1x1024_d1

/-- The scores, scaled, with the window's bias, before the first block's mask. -/
def sc0 (k : FVec F S256x128 .bf16) (q : FVec F S1024x128 .bf16) (bias : FVec F S256x1024 .f32) : FVec F S256x1024 .f32 :=
  addf (mulf (matmul dot_S256x128_S1024x128_S256x1024_1_1_0_0_n_n none k q (constant S256x1024 .f32 0x00000000#32))
    (broadcast S256x1024 (Scalar.ofBits .f32 0x3E000000#32))) bias

/-- The scores: the first block has no block before it. -/
def sc (b : BitVec 32) (k : FVec F S256x128 .bf16) (q : FVec F S1024x128 .bf16) (bias : FVec F S256x1024 .f32) : FVec F S256x1024 .f32 :=
  concatenate S256x1024 0
    [⟨S128x1024, Scalar.select (Scalar.cmpi .sgt b 0#32) (extractStridedSlice S128x1024 ![0, 0] (sc0 k q bias) slices_S256x1024_o0_0_S128x1024)
        (broadcast S128x1024 (Scalar.ofBits .f32 0xFF800000#32))⟩,
      ⟨S128x1024, extractStridedSlice S128x1024 ![128, 0] (sc0 k q bias) slices_S256x1024_o128_0_S128x1024⟩]
    concatenates_S128x1024_S128x1024_S256x1024_d0

def mx (st : FVec F S256x1024 .f32) (sk : FVec F S1x1024 .f32) : FVec F S1x1024 .f32 :=
  maximumf (shapeCast S1x1024 (multiReduction .maximumf [0] S1024 st 0xFF800000#32 reduces_S256x1024_S1024 (.inl rfl) rfl) shapeCasts_S1024_S1x1024) sk

def ee (st : FVec F S256x1024 .f32) (sk : FVec F S1x1024 .f32) : FVec F S256x1024 .f32 :=
  exp (subf st (broadcastTo S256x1024 (mx st sk) broadcasts_S1x1024_S256x1024))

def es (st : FVec F S256x1024 .f32) (sk : FVec F S1x1024 .f32) : FVec F S1x1024 .f32 := exp (subf sk (mx st sk))

def inv (st : FVec F S256x1024 .f32) (sk : FVec F S1x1024 .f32) : FVec F S1x1024 .f32 :=
  divf (broadcast S1x1024 (Scalar.ofBits .f32 0x3F800000#32))
    (addf (shapeCast S1x1024 (multiReduction .add [0] S1024 (ee st sk) 0x00000000#32 reduces_S256x1024_S1024 (.inl rfl) rfl) shapeCasts_S1024_S1x1024) (es st sk))

/-- The probabilities. -/
def pt (st : FVec F S256x1024 .f32) (sk : FVec F S1x1024 .f32) : FVec F S256x1024 .f32 :=
  mulf (ee st sk) (broadcastTo S256x1024 (inv st sk) broadcasts_S1x1024_S256x1024)

def dpt (v : FVec F S256x128 .bf16) (o : FVec F S1024x128 .bf16) : FVec F S256x1024 .f32 :=
  matmul dot_S256x128_S1024x128_S256x1024_1_1_0_0_n_n none v o (constant S256x1024 .f32 0x00000000#32)

def dl (p dp : FVec F S256x1024 .f32) : FVec F S1x1024 .f32 :=
  shapeCast S1x1024 (multiReduction .add [0] S1024 (mulf p dp) 0x00000000#32 reduces_S256x1024_S1024 (.inl rfl) rfl) shapeCasts_S1024_S1x1024

/-- The gradient of the scores. -/
def dst (p dp : FVec F S256x1024 .f32) : FVec F S256x1024 .f32 :=
  mulf (mulf p (subf dp (broadcastTo S256x1024 (dl p dp) broadcasts_S1x1024_S256x1024))) (broadcast S256x1024 (Scalar.ofBits .f32 0x3E000000#32))

def psd (st : FVec F S256x1024 .f32) (sk : FVec F S1x1024 .f32) (dp : FVec F S256x1024 .f32) : FVec F S1x1024 .f32 :=
  mulf (mulf (es st sk) (inv st sk)) (dl (pt st sk) dp)

/-- The gradient of the stacked queries. -/
def dqa (k : FVec F S256x128 .bf16) (ds : FVec F S256x1024 .f32) : FVec F S1024x128 .f32 :=
  transpose S1024x128 [1, 0] (matmul dot_S256x128_S256x1024_S128x1024_0_0_1_1_n_n none k (truncf .bf16 ds bitsLt_bf16_f32) (constant S128x1024 .f32 0x00000000#32)) transposes_S128x1024_p1_0_S1024x128

/-- The gradient of a key (value) head: the stacked heads summed, then the two halves of the lanes added. -/
def dkk (ds : FVec F S256x1024 .f32) (q : FVec F S1024x128 .bf16) : FVec F S256x128 .f32 :=
  addf (matmul dot_S256x1024_S1024x128_S256x128_1_0_0_1_n_n none (truncf .bf16 ds bitsLt_bf16_f32) q (constant S256x128 .f32 0x00000000#32))
    (dynamicRotate 1 64#32 none (matmul dot_S256x1024_S1024x128_S256x128_1_0_0_1_n_n none (truncf .bf16 ds bitsLt_bf16_f32) q (constant S256x128 .f32 0x00000000#32)) rotates_S256x128_d1)

/-- The gradient of both heads' keys and values. -/
def dkvn (dk0 dv0 dk1 dv1 : FVec F S256x128 .f32) : FVec F S256x256 .f32 :=
  concatenate S256x256 1
    [⟨S256x128, select (cmpi .slt (iota .tc S256x128 32 [1] iota_S256x128_d1_w32) (broadcast S256x128 64#32)) dk0 dk1⟩,
      ⟨S256x128, select (cmpi .slt (iota .tc S256x128 32 [1] iota_S256x128_d1_w32) (broadcast S256x128 64#32)) dv0 dv1⟩]
    concatenates_S256x128_S256x128_S256x256_d1

/-- The lane of one sink gains minus the sum of its head's row. -/
def dsk1 (n : BitVec 32) (o : ℕ) (h : S1x1024.Slices (![0, o] : Fin 2 → ℕ) S1x128) (acc : FVec F S1x128 .f32) (ps : FVec F S1x1024 .f32) : FVec F S1x128 .f32 :=
  addf acc (select (cmpi .eq (iota .tc S1x128 32 [1] iota_S1x128_d1_w32) (broadcast S1x128 n))
    (broadcast S1x128 (Scalar.subf (Scalar.ofBits .f32 0x00000000#32)
      (extractAt ![0, 0, 0] (shapeCast S1x1x1 (multiReduction .add [1, 2] S1 (shapeCast S1x1x128 (extractStridedSlice S1x128 ![0, o] ps h) shapeCasts_S1x128_S1x1x128) 0x00000000#32 reduces_S1x1x128_S1 (.inl rfl) rfl) shapeCasts_S1_S1x1x1) inpos_S1x1x1_p0_0_0)))
    (broadcast S1x128 (Scalar.ofBits .f32 0x00000000#32)))

end Cert.Att

end
-- ==== Proof.AttBlock.lean ====
/-
  The attention gradient at one block of queries: every value the block computes, as a function of what the block reads
  (the sinks x1, the queries x2, its own keys and values x3, those of the block before x4, the cotangents x5) and of the
  window's bias.
-/
module

public import proofs.«01_k».proof.Proof.AttVec
public import Idealize.ShloMosaic.Lib.Pipeline.FrameBody

@[expose] public section

set_option maxRecDepth 16384

noncomputable section

namespace Cert.Att

open Idealize.ShloMosaic Idealize.ShloMosaic.TcCoe
open Cert.AttnIdeal Cert.AttnIdeal.Gen

variable {F : FTy → Type} [FloatOps F]

/-- A pair of heads. -/
def pr (x : Vec F S128x1024 .bf16) (o : ℕ) (h : ∀ a, (![0, o] : Fin 2 → ℕ) a + S128x128.size a ≤ S128x1024.size a) : FVec F S128x128 .bf16 :=
  View.ld x (Rect.unit ![0, o] S128x128.size h)
/-- One sink. -/
def sk1 (x : Vec F S1x16 .f32) (o : ℕ) (h : ∀ a, (![0, o] : Fin 2 → ℕ) a + S1x1.size a ≤ S1x16.size a) : F .f32 :=
  View.ld x (Rect.unit ![0, o] S1x1.size h) (Shape.Idx.first (s := S1x1) (by decide))

def sq0 (x : Vec F S128x1024 .bf16) : FVec F S1024x128 .bf16 :=
  stk (pr x 0 inb_S128x1024_S128x128_0_0) (pr x 128 inb_S128x1024_S128x128_0_128) (pr x 256 inb_S128x1024_S128x128_0_256) (pr x 384 inb_S128x1024_S128x128_0_384)
def sq1 (x : Vec F S128x1024 .bf16) : FVec F S1024x128 .bf16 :=
  stk (pr x 512 inb_S128x1024_S128x128_0_512) (pr x 640 inb_S128x1024_S128x128_0_640) (pr x 768 inb_S128x1024_S128x128_0_768) (pr x 896 inb_S128x1024_S128x128_0_896)
def sk0 (x : Vec F S1x16 .f32) : FVec F S1x1024 .f32 :=
  skr (sk1 x 0 inb_S1x16_S1x1_0_0) (sk1 x 1 inb_S1x16_S1x1_0_1) (sk1 x 2 inb_S1x16_S1x1_0_2) (sk1 x 3 inb_S1x16_S1x1_0_3) (sk1 x 4 inb_S1x16_S1x1_0_4) (sk1 x 5 inb_S1x16_S1x1_0_5) (sk1 x 6 inb_S1x16_S1x1_0_6) (sk1 x 7 inb_S1x16_S1x1_0_7)
def sk8 (x : Vec F S1x16 .f32) : FVec F S1x1024 .f32 :=
  skr (sk1 x 8 inb_S1x16_S1x1_0_8) (sk1 x 9 inb_S1x16_S1x1_0_9) (sk1 x 10 inb_S1x16_S1x1_0_10) (sk1 x 11 inb_S1x16_S1x1_0_11) (sk1 x 12 inb_S1x16_S1x1_0_12) (sk1 x 13 inb_S1x16_S1x1_0_13) (sk1 x 14 inb_S1x16_S1x1_0_14) (sk1 x 15 inb_S1x16_S1x1_0_15)

def K0 (xp xc : Vec F S128x256 .bf16) : FVec F S256x128 .bf16 := dup0 (kcol (kvc xp xc))
def K1 (xp xc : Vec F S128x256 .bf16) : FVec F S256x128 .bf16 := dup1 (kcol (kvc xp xc))
def V0 (xp xc : Vec F S128x256 .bf16) : FVec F S256x128 .bf16 := dup0 (vcol (kvc xp xc))
def V1 (xp xc : Vec F S128x256 .bf16) : FVec F S256x128 .bf16 := dup1 (vcol (kvc xp xc))

/-- The probabilities of a key head. -/
def hp (b : BitVec 32) (k : FVec F S256x128 .bf16) (q : FVec F S1024x128 .bf16) (sk : FVec F S1x1024 .f32) (bias : FVec F S256x1024 .f32) : FVec F S256x1024 .f32 :=
  pt (sc b k q bias) sk
/-- The gradient of its scores. -/
def hs (b : BitVec 32) (k v : FVec F S256x128 .bf16) (q o : FVec F S1024x128 .bf16) (sk : FVec F S1x1024 .f32) (bias : FVec F S256x1024 .f32) : FVec F S256x1024 .f32 :=
  dst (pt (sc b k q bias) sk) (dpt v o)
/-- The sinks' gradient, without its sign, row by row. -/
def hd (b : BitVec 32) (k v : FVec F S256x128 .bf16) (q o : FVec F S1024x128 .bf16) (sk : FVec F S1x1024 .f32) (bias : FVec F S256x1024 .f32) : FVec F S1x1024 .f32 :=
  psd (sc b k q bias) sk (dpt v o)

section
variable (b : BitVec 32) (x1 : Vec F S1x16 .f32) (x2 : Vec F S128x1024 .bf16) (x3 x4 : Vec F S128x256 .bf16) (x5 : Vec F S128x1024 .bf16) (x12 : Vec F S256x1024 .f32)

def P0 : FVec F S256x1024 .f32 := hp b (K0 x4 x3) (sq0 x2) (sk0 x1) x12
def P1 : FVec F S256x1024 .f32 := hp b (K1 x4 x3) (sq1 x2) (sk8 x1) x12
def D0 : FVec F S256x1024 .f32 := hs b (K0 x4 x3) (V0 x4 x3) (sq0 x2) (sq0 x5) (sk0 x1) x12
def D1 : FVec F S256x1024 .f32 := hs b (K1 x4 x3) (V1 x4 x3) (sq1 x2) (sq1 x5) (sk8 x1) x12
def E0 : FVec F S1x1024 .f32 := hd b (K0 x4 x3) (V0 x4 x3) (sq0 x2) (sq0 x5) (sk0 x1) x12
def E1 : FVec F S1x1024 .f32 := hd b (K1 x4 x3) (V1 x4 x3) (sq1 x2) (sq1 x5) (sk8 x1) x12
def Q0 : FVec F S1024x128 .f32 := dqa (K0 x4 x3) (D0 b x1 x2 x3 x4 x5 x12)
def Q1 : FVec F S1024x128 .f32 := dqa (K1 x4 x3) (D1 b x1 x2 x3 x4 x5 x12)
/-- The gradient of the block's 256 keys and values. -/
def KV : FVec F S256x256 .f32 :=
  dkvn (dkk (D0 b x1 x2 x3 x4 x5 x12) (sq0 x2)) (dkk (P0 b x1 x2 x3 x4 x12) (sq0 x5)) (dkk (D1 b x1 x2 x3 x4 x5 x12) (sq1 x2)) (dkk (P1 b x1 x2 x3 x4 x12) (sq1 x5))
def KVlo : FVec F S128x256 .f32 := extractStridedSlice S128x256 ![0, 0] (KV b x1 x2 x3 x4 x5 x12) slices_S256x256_o0_0_S128x256
def KVhi : FVec F S128x256 .f32 := shapeCast S128x256 (extractStridedSlice S128x256 ![128, 0] (KV b x1 x2 x3 x4 x5 x12) slices_S256x256_o128_0_S128x256) shapeCasts_S128x256_S128x256
end

/-- Eight lanes of the sinks' gradient. -/
def lanes0 (acc : FVec F S1x128 .f32) (p : FVec F S1x1024 .f32) : FVec F S1x128 .f32 :=
  dsk1 7#32 896 slices_S1x1024_o0_896_S1x128 (dsk1 6#32 768 slices_S1x1024_o0_768_S1x128 (dsk1 5#32 640 slices_S1x1024_o0_640_S1x128 (dsk1 4#32 512 slices_S1x1024_o0_512_S1x128
    (dsk1 3#32 384 slices_S1x1024_o0_384_S1x128 (dsk1 2#32 256 slices_S1x1024_o0_256_S1x128 (dsk1 1#32 128 slices_S1x1024_o0_128_S1x128 (dsk1 0#32 0 slices_S1x1024_o0_0_S1x128 acc p) p) p) p) p) p) p) p
def lanes8 (acc : FVec F S1x128 .f32) (p : FVec F S1x1024 .f32) : FVec F S1x128 .f32 :=
  dsk1 15#32 896 slices_S1x1024_o0_896_S1x128 (dsk1 14#32 768 slices_S1x1024_o0_768_S1x128 (dsk1 13#32 640 slices_S1x1024_o0_640_S1x128 (dsk1 12#32 512 slices_S1x1024_o0_512_S1x128
    (dsk1 11#32 384 slices_S1x1024_o0_384_S1x128 (dsk1 10#32 256 slices_S1x1024_o0_256_S1x128 (dsk1 9#32 128 slices_S1x1024_o0_128_S1x128 (dsk1 8#32 0 slices_S1x1024_o0_0_S1x128 acc p) p) p) p) p) p) p) p
def lanes (e0 e1 : FVec F S1x1024 .f32) : FVec F S1x128 .f32 :=
  lanes8 (lanes0 (broadcast S1x128 (Scalar.ofBits .f32 0x00000000#32)) e0) e1

/-- Two neighbouring heads of the queries' gradient, side by side. -/
def dqp (d : FVec F S1024x128 .f32) (o o' : ℕ) (h : S1024x128.Slices (![o, 0] : Fin 2 → ℕ) S128x128) (h' : S1024x128.Slices (![o', 0] : Fin 2 → ℕ) S128x128) : FVec F S128x128 .f32 :=
  select (cmpi .slt (iota .tc S128x128 32 [1] iota_S128x128_d1_w32) (broadcast S128x128 64#32)) (extractStridedSlice S128x128 ![o, 0] d h) (extractStridedSlice S128x128 ![o', 0] d h')
def dq0 (d : FVec F S1024x128 .f32) : FVec F S128x128 .f32 := dqp d 0 128 slices_S1024x128_o0_0_S128x128 slices_S1024x128_o128_0_S128x128
def dq1 (d : FVec F S1024x128 .f32) : FVec F S128x128 .f32 := dqp d 256 384 slices_S1024x128_o256_0_S128x128 slices_S1024x128_o384_0_S128x128
def dq2 (d : FVec F S1024x128 .f32) : FVec F S128x128 .f32 := dqp d 512 640 slices_S1024x128_o512_0_S128x128 slices_S1024x128_o640_0_S128x128
def dq3 (d : FVec F S1024x128 .f32) : FVec F S128x128 .f32 := dqp d 768 896 slices_S1024x128_o768_0_S128x128 slices_S1024x128_o896_0_S128x128

/-- A row of sums gains the column sums of two heads. -/
def addc (w : FVec F S1x128 .f32) (d : FVec F S128x128 .f32) : FVec F S1x128 .f32 :=
  addf (shapeCast S1x128 w shapeCasts_S1x128_S1x128) (shapeCast S1x128 (multiReduction .add [0] S128 d 0x00000000#32 reduces_S128x128_S128 (.inl rfl) rfl) shapeCasts_S128_S1x128)
/-- The sums' eight tiles. -/
def bc (x : Vec F S1x1024 .f32) (o : ℕ) (h : ∀ a, (![0, o] : Fin 2 → ℕ) a + S1x128.size a ≤ S1x1024.size a) : FVec F S1x128 .f32 :=
  View.ld x (Rect.unit ![0, o] S1x128.size h)

/-- The sum of a block's rows, added to a row. -/
def addr (w : FVec F S1x256 .f32) (d : FVec F S128x256 .f32) : FVec F S1x256 .f32 :=
  addf (shapeCast S1x256 w shapeCasts_S1x256_S1x256) (shapeCast S1x256 (multiReduction .add [0] S256 d 0x00000000#32 reduces_S128x256_S256 (.inl rfl) rfl) shapeCasts_S256_S1x256)

/-- A row of sixteen lanes gains another. -/
def addl (w l : FVec F S1x128 .f32) : FVec F S1x128 .f32 := addf (shapeCast S1x128 w shapeCasts_S1x128_S1x128) l

/-- The eight tiles of the queries' gradient, last store first. -/
def cq (d e : FVec F S1024x128 .f32) : List (View.Piece (Elt F) S128x1024 .bf16) :=
  [⟨Rect.unit ![0, 896] S128x128.size inb_S128x1024_S128x128_0_896, truncf .bf16 (dq3 e) bitsLt_bf16_f32⟩,
   ⟨Rect.unit ![0, 768] S128x128.size inb_S128x1024_S128x128_0_768, truncf .bf16 (dq2 e) bitsLt_bf16_f32⟩,
   ⟨Rect.unit ![0, 640] S128x128.size inb_S128x1024_S128x128_0_640, truncf .bf16 (dq1 e) bitsLt_bf16_f32⟩,
   ⟨Rect.unit ![0, 512] S128x128.size inb_S128x1024_S128x128_0_512, truncf .bf16 (dq0 e) bitsLt_bf16_f32⟩,
   ⟨Rect.unit ![0, 384] S128x128.size inb_S128x1024_S128x128_0_384, truncf .bf16 (dq3 d) bitsLt_bf16_f32⟩,
   ⟨Rect.unit ![0, 256] S128x128.size inb_S128x1024_S128x128_0_256, truncf .bf16 (dq2 d) bitsLt_bf16_f32⟩,
   ⟨Rect.unit ![0, 128] S128x128.size inb_S128x1024_S128x128_0_128, truncf .bf16 (dq1 d) bitsLt_bf16_f32⟩,
   ⟨Rect.unit ![0, 0] S128x128.size inb_S128x1024_S128x128_0_0, truncf .bf16 (dq0 d) bitsLt_bf16_f32⟩]
/-- The eight tiles of its column sums, last store first. -/
def cb (d e : FVec F S1024x128 .f32) (x : Vec F S1x1024 .f32) : List (View.Piece (Elt F) S1x1024 .f32) :=
  [⟨Rect.unit ![0, 896] S1x128.size inb_S1x1024_S1x128_0_896, addc (bc x 896 inb_S1x1024_S1x128_0_896) (dq3 e)⟩,
   ⟨Rect.unit ![0, 768] S1x128.size inb_S1x1024_S1x128_0_768, addc (bc x 768 inb_S1x1024_S1x128_0_768) (dq2 e)⟩,
   ⟨Rect.unit ![0, 640] S1x128.size inb_S1x1024_S1x128_0_640, addc (bc x 640 inb_S1x1024_S1x128_0_640) (dq1 e)⟩,
   ⟨Rect.unit ![0, 512] S1x128.size inb_S1x1024_S1x128_0_512, addc (bc x 512 inb_S1x1024_S1x128_0_512) (dq0 e)⟩,
   ⟨Rect.unit ![0, 384] S1x128.size inb_S1x1024_S1x128_0_384, addc (bc x 384 inb_S1x1024_S1x128_0_384) (dq3 d)⟩,
   ⟨Rect.unit ![0, 256] S1x128.size inb_S1x1024_S1x128_0_256, addc (bc x 256 inb_S1x1024_S1x128_0_256) (dq2 d)⟩,
   ⟨Rect.unit ![0, 128] S1x128.size inb_S1x1024_S1x128_0_128, addc (bc x 128 inb_S1x1024_S1x128_0_128) (dq1 d)⟩,
   ⟨Rect.unit ![0, 0] S1x128.size inb_S1x1024_S1x128_0_0, addc (bc x 0 inb_S1x1024_S1x128_0_0) (dq0 d)⟩]

end Cert.Att

end
-- ==== Proof.AttPt.lean ====
/-
  The attention gradient's named values read at one element.
-/
module

public import proofs.«01_k».proof.Proof.AttBlock
public import Idealize.ShloMosaic.Lib.Pointwise

@[expose] public section

set_option maxRecDepth 16384

noncomputable section

namespace Cert.Att

open Idealize.ShloMosaic Idealize.ShloMosaic.TcCoe
open Cert.AttnIdeal Cert.AttnIdeal.Gen

theorem slt64 {α : Type} (l : ℕ) (hl : l < 1000) (a b : α) : Scalar.select (IntOp.cmpi CmpIPredicate.slt (BitVec.ofNat 32 l) 64#32) a b = if l < 64 then a else b := by
  unfold Scalar.select IntOp.cmpi
  have : (BitVec.ofNat 32 l).slt 64#32 = decide (l < 64) := by
    have h1 : (BitVec.ofNat 32 l).toInt = l := by rw [BitVec.toInt_ofNat']; simp [Int.bmod]; omega
    have h2 : (64#32 : BitVec 32).toInt = 64 := by decide
    rw [BitVec.slt, h1, h2]; simp
  simp only [this]
  by_cases h : l < 64 <;> simp [h]

theorem ninf : Ideal.ofBits .f32 0xFF800000#32 = (⊥ : EReal) := by simp [Ideal.ofBits, Ideal.ieee]
theorem eighth : Ideal.ofBits .f32 0x3E000000#32 = ((1 / 8 : ℝ) : EReal) := by simp [Ideal.ofBits, Ideal.ieee, -EReal.coe_mul]; norm_num
theorem oneF : Ideal.ofBits .f32 0x3F800000#32 = ((1 : ℝ) : EReal) := by simp [Ideal.ofBits, Ideal.ieee, -EReal.coe_mul]; norm_num

theorem lo_apply (w : FVec Ideal S128x128 .bf16) (i l : Fin 128) : lo w (ix2 i l) = if l.val < 64 then w (ix2 i l) else 0 := by
  pointwise [lo]
  rw [slt64 _ (by omega)]

theorem hi_apply (w : FVec Ideal S128x128 .bf16) (i l : Fin 128) : hi w (ix2 i l) = if l.val < 64 then 0 else w (ix2 i l) := by
  pointwise [hi]
  rw [slt64 _ (by omega)]

theorem kvc_apply (xp xc : FVec Ideal S128x256 .bf16) (s j : Fin 256) :
    kvc xp xc (ix2 s j) = if h : s.val < 128 then xp (ix2 ⟨s.val, h⟩ j) else xc (ix2 ⟨s.val - 128, by omega⟩ j) := by
  pointwise [kvc]

theorem kcol_apply (v : FVec Ideal S256x256 .f32) (s : Fin 256) (l : Fin 128) : kcol v (ix2 s l) = v (ix2 s ⟨l.val, by omega⟩) := by
  pointwise [kcol]
theorem vcol_apply (v : FVec Ideal S256x256 .f32) (s : Fin 256) (l : Fin 128) : vcol v (ix2 s l) = v (ix2 s ⟨128 + l.val, by omega⟩) := by
  pointwise [vcol]

theorem dup0_apply (w : FVec Ideal S256x128 .f32) (s : Fin 256) (l : Fin 128) : dup0 w (ix2 s l) = w (ix2 s ⟨l.val % 64, by omega⟩) := by
  pointwise [dup0]
  rw [slt64 _ (by omega)]
  split
  · congr 2; apply Fin.ext; show l.val = l.val % 64; omega
  · congr 2; apply Fin.ext; show (l.val + 128 - 64) % 128 = l.val % 64; omega
theorem dup1_apply (w : FVec Ideal S256x128 .f32) (s : Fin 256) (l : Fin 128) : dup1 w (ix2 s l) = w (ix2 s ⟨64 + l.val % 64, by omega⟩) := by
  pointwise [dup1]
  rw [slt64 _ (by omega)]
  split
  · congr 2; apply Fin.ext; show (l.val + 128 - 64) % 128 = 64 + l.val % 64; omega
  · congr 2; apply Fin.ext; show l.val = 64 + l.val % 64; omega

theorem stk_apply (w0 w1 w2 w3 : FVec Ideal S128x128 .bf16) (c : Fin 1024) (l : Fin 128) :
    stk w0 w1 w2 w3 (ix2 c l) = (if (c.val / 128) % 2 = l.val / 64 then
      (![w0, w1, w2, w3] ⟨c.val / 256, by omega⟩) (ix2 ⟨c.val % 128, by omega⟩ l) else 0) := by
  pointwise [stk, lo_apply, hi_apply]
  obtain ⟨c, hc⟩ := c
  simp only
  rcases (by omega : c / 128 = 0 ∨ c / 128 = 1 ∨ c / 128 = 2 ∨ c / 128 = 3 ∨ c / 128 = 4 ∨ c / 128 = 5 ∨ c / 128 = 6 ∨ c / 128 = 7) with e | e | e | e | e | e | e | e
  · have hq : (⟨c / 256, by omega⟩ : Fin 4) = 0 := Fin.ext (by show c / 256 = 0; omega)
    rw [hq, e]
    rw [dif_pos (by omega)]
    by_cases hl' : l.val < 64
    · rw [if_pos hl']
      refine Eq.trans ?_ (if_pos (by omega)).symm
      refine congrArg _ (congrArg (fun x => ix2 x l) ?_); apply Fin.ext; show c = c % 128; omega
    · rw [if_neg hl']
      exact (if_neg (by omega)).symm
  · have hq : (⟨c / 256, by omega⟩ : Fin 4) = 0 := Fin.ext (by show c / 256 = 0; omega)
    rw [hq, e]
    rw [dif_neg (by omega)]; rw [dif_pos (by omega)]
    by_cases hl' : l.val < 64
    · rw [if_pos hl']
      exact (if_neg (by omega)).symm
    · rw [if_neg hl']
      refine Eq.trans ?_ (if_pos (by omega)).symm
      refine congrArg _ (congrArg (fun x => ix2 x l) ?_); apply Fin.ext; show c - 128 = c % 128; omega
  · have hq : (⟨c / 256, by omega⟩ : Fin 4) = 1 := Fin.ext (by show c / 256 = 1; omega)
    rw [hq, e]
    rw [dif_neg (by omega)]; rw [dif_neg (by omega)]; rw [dif_pos (by omega)]
    by_cases hl' : l.val < 64
    · rw [if_pos hl']
      refine Eq.trans ?_ (if_pos (by omega)).symm
      refine congrArg _ (congrArg (fun x => ix2 x l) ?_); apply Fin.ext; show c - 128 - 128 = c % 128; omega
    · rw [if_neg hl']
      exact (if_neg (by omega)).symm
  · have hq : (⟨c / 256, by omega⟩ : Fin 4) = 1 := Fin.ext (by show c / 256 = 1; omega)
    rw [hq, e]
    rw [dif_neg (by omega)]; rw [dif_neg (by omega)]; rw [dif_neg (by omega)]; rw [dif_pos (by omega)]
    by_cases hl' : l.val < 64
    · rw [if_pos hl']
      exact (if_neg (by omega)).symm
    · rw [if_neg hl']
      refine Eq.trans ?_ (if_pos (by omega)).symm
      refine congrArg _ (congrArg (fun x => ix2 x l) ?_); apply Fin.ext; show c - 128 - 128 - 128 = c % 128; omega
  · have hq : (⟨c / 256, by omega⟩ : Fin 4) = 2 := Fin.ext (by show c / 256 = 2; omega)
    rw [hq, e]
    rw [dif_neg (by omega)]; rw [dif_neg (by omega)]; rw [dif_neg (by omega)]; rw [dif_neg (by omega)]; rw [dif_pos (by omega)]
    by_cases hl' : l.val < 64
    · rw [if_pos hl']
      refine Eq.trans ?_ (if_pos (by omega)).symm
      refine congrArg _ (congrArg (fun x => ix2 x l) ?_); apply Fin.ext; show c - 128 - 128 - 128 - 128 = c % 128; omega
    · rw [if_neg hl']
      exact (if_neg (by omega)).symm
  · have hq : (⟨c / 256, by omega⟩ : Fin 4) = 2 := Fin.ext (by show c / 256 = 2; omega)
    rw [hq, e]
    rw [dif_neg (by omega)]; rw [dif_neg (by omega)]; rw [dif_neg (by omega)]; rw [dif_neg (by omega)]; rw [dif_neg (by omega)]; rw [dif_pos (by omega)]
    by_cases hl' : l.val < 64
    · rw [if_pos hl']
      exact (if_neg (by omega)).symm
    · rw [if_neg hl']
      refine Eq.trans ?_ (if_pos (by omega)).symm
      refine congrArg _ (congrArg (fun x => ix2 x l) ?_); apply Fin.ext; show c - 128 - 128 - 128 - 128 - 128 = c % 128; omega
  · have hq : (⟨c / 256, by omega⟩ : Fin 4) = 3 := Fin.ext (by show c / 256 = 3; omega)
    rw [hq, e]
    rw [dif_neg (by omega)]; rw [dif_neg (by omega)]; rw [dif_neg (by omega)]; rw [dif_neg (by omega)]; rw [dif_neg (by omega)]; rw [dif_neg (by omega)]; rw [dif_pos (by omega)]
    by_cases hl' : l.val < 64
    · rw [if_pos hl']
      refine Eq.trans ?_ (if_pos (by omega)).symm
      refine congrArg _ (congrArg (fun x => ix2 x l) ?_); apply Fin.ext; show c - 128 - 128 - 128 - 128 - 128 - 128 = c % 128; omega
    · rw [if_neg hl']
      exact (if_neg (by omega)).symm
  · have hq : (⟨c / 256, by omega⟩ : Fin 4) = 3 := Fin.ext (by show c / 256 = 3; omega)
    rw [hq, e]
    rw [dif_neg (by omega)]; rw [dif_neg (by omega)]; rw [dif_neg (by omega)]; rw [dif_neg (by omega)]; rw [dif_neg (by omega)]; rw [dif_neg (by omega)]; rw [dif_neg (by omega)];
    by_cases hl' : l.val < 64
    · rw [if_pos hl']
      exact (if_neg (by omega)).symm
    · rw [if_neg hl']
      refine Eq.trans ?_ (if_pos (by omega)).symm
      refine congrArg _ (congrArg (fun x => ix2 x l) ?_); apply Fin.ext; show c - 128 - 128 - 128 - 128 - 128 - 128 - 128 = c % 128; omega

theorem skr_apply (a : Fin 8 → EReal) (c : Fin 1024) :
    skr (F := Ideal) (a 0) (a 1) (a 2) (a 3) (a 4) (a 5) (a 6) (a 7) (ix2 (0 : Fin 1) c) = a ⟨c.val / 128, by omega⟩ := by
  pointwise [skr]
  obtain ⟨c, hc⟩ := c
  simp only
  split_ifs <;> (congr 1; apply Fin.ext; first | (show 0 = c / 128; omega) | (show 1 = c / 128; omega) | (show 2 = c / 128; omega) | (show 3 = c / 128; omega) | (show 4 = c / 128; omega) | (show 5 = c / 128; omega) | (show 6 = c / 128; omega) | (show 7 = c / 128; omega))

theorem sc0_apply (k : FVec Ideal S256x128 .bf16) (q : FVec Ideal S1024x128 .bf16) (bias : FVec Ideal S256x1024 .f32) (s : Fin 256) (c : Fin 1024) :
    sc0 k q bias (ix2 s c) = (∑ l : Fin 128, k (ix2 s l) * q (ix2 c l)) * Ideal.ofBits .f32 0x3E000000#32 + bias (ix2 s c) := by
  pointwise [sc0]

theorem sc_apply (b : BitVec 32) (k : FVec Ideal S256x128 .bf16) (q : FVec Ideal S1024x128 .bf16) (bias : FVec Ideal S256x1024 .f32) (s : Fin 256) (c : Fin 1024) :
    sc b k q bias (ix2 s c) = if s.val < 128 ∧ ¬ (0 : ℤ) < b.toInt then Ideal.ofBits .f32 0xFF800000#32 else sc0 k q bias (ix2 s c) := by
  pointwise [sc]
  unfold Scalar.select Scalar.cmpi IntOp.cmpi
  have hb : (0#32 : BitVec 32).slt b = decide (0 < b.toInt) := by simp [BitVec.slt]
  simp only [hb]
  by_cases h : s.val < 128
  · by_cases h' : 0 < b.toInt <;> simp [h, h']
  · simp only [h, dite_false, false_and, if_false]
    congr 2; apply Fin.ext; show 128 + (s.val - 128) = s.val; omega

theorem mx_apply (st : FVec Ideal S256x1024 .f32) (sk : FVec Ideal S1x1024 .f32) (c : Fin 1024) :
    mx st sk (ix2 (0 : Fin 1) c) = max (Finset.univ.fold max (Ideal.ofBits .f32 0xFF800000#32) fun s : Fin 256 => st (ix2 s c)) (sk (ix2 0 c)) := by
  pointwise [mx]

theorem ee_apply (st : FVec Ideal S256x1024 .f32) (sk : FVec Ideal S1x1024 .f32) (s : Fin 256) (c : Fin 1024) :
    ee st sk (ix2 s c) = Ideal.exp (st (ix2 s c) - mx st sk (ix2 (0 : Fin 1) c)) := by
  pointwise [ee]

theorem es_apply (st : FVec Ideal S256x1024 .f32) (sk : FVec Ideal S1x1024 .f32) (c : Fin 1024) :
    es st sk (ix2 (0 : Fin 1) c) = Ideal.exp (sk (ix2 0 c) - mx st sk (ix2 (0 : Fin 1) c)) := by
  pointwise [es]

theorem inv_apply (st : FVec Ideal S256x1024 .f32) (sk : FVec Ideal S1x1024 .f32) (c : Fin 1024) :
    inv st sk (ix2 (0 : Fin 1) c) = Ideal.div (Ideal.ofBits .f32 0x3F800000#32) ((∑ s : Fin 256, ee st sk (ix2 s c)) + es st sk (ix2 (0 : Fin 1) c)) := by
  pointwise [inv]

theorem pt_apply (st : FVec Ideal S256x1024 .f32) (sk : FVec Ideal S1x1024 .f32) (s : Fin 256) (c : Fin 1024) :
    pt st sk (ix2 s c) = ee st sk (ix2 s c) * inv st sk (ix2 (0 : Fin 1) c) := by
  pointwise [pt]

theorem dpt_apply (v : FVec Ideal S256x128 .bf16) (o : FVec Ideal S1024x128 .bf16) (s : Fin 256) (c : Fin 1024) :
    dpt v o (ix2 s c) = ∑ l : Fin 128, v (ix2 s l) * o (ix2 c l) := by
  pointwise [dpt]

theorem dl_apply (p dp : FVec Ideal S256x1024 .f32) (c : Fin 1024) :
    dl p dp (ix2 (0 : Fin 1) c) = ∑ s : Fin 256, p (ix2 s c) * dp (ix2 s c) := by
  pointwise [dl]

theorem dst_apply (p dp : FVec Ideal S256x1024 .f32) (s : Fin 256) (c : Fin 1024) :
    dst p dp (ix2 s c) = p (ix2 s c) * (dp (ix2 s c) - dl p dp (ix2 (0 : Fin 1) c)) * Ideal.ofBits .f32 0x3E000000#32 := by
  pointwise [dst]

theorem psd_apply (st : FVec Ideal S256x1024 .f32) (sk : FVec Ideal S1x1024 .f32) (dp : FVec Ideal S256x1024 .f32) (c : Fin 1024) :
    psd st sk dp (ix2 (0 : Fin 1) c) = es st sk (ix2 (0 : Fin 1) c) * inv st sk (ix2 (0 : Fin 1) c) * dl (pt st sk) dp (ix2 (0 : Fin 1) c) := by
  pointwise [psd]

theorem dqa_apply (k : FVec Ideal S256x128 .bf16) (ds : FVec Ideal S256x1024 .f32) (c : Fin 1024) (l : Fin 128) :
    dqa k ds (ix2 c l) = ∑ s : Fin 256, k (ix2 s l) * ds (ix2 s c) := by
  pointwise [dqa]

theorem dkk_apply (ds : FVec Ideal S256x1024 .f32) (q : FVec Ideal S1024x128 .bf16) (s : Fin 256) (l : Fin 128) :
    dkk ds q (ix2 s l) = (∑ c : Fin 1024, ds (ix2 s c) * q (ix2 c l)) + ∑ c : Fin 1024, ds (ix2 s c) * q (ix2 c ⟨(l.val + 64) % 128, by omega⟩) := by
  pointwise [dkk]
  congr 1

theorem dkvn_apply (dk0 dv0 dk1 dv1 : FVec Ideal S256x128 .f32) (s j : Fin 256) :
    dkvn dk0 dv0 dk1 dv1 (ix2 s j) = (![dk0, dk1, dv0, dv1] ⟨j.val / 64, by omega⟩) (ix2 s ⟨j.val % 128, by omega⟩) := by
  pointwise [dkvn]
  obtain ⟨j, hj⟩ := j
  simp only
  rcases (by omega : j / 64 = 0 ∨ j / 64 = 1 ∨ j / 64 = 2 ∨ j / 64 = 3) with e | e | e | e
  · rw [dif_pos (by omega), slt64 _ (by omega), if_pos (by omega)]
    simp only [e]; congr 2; apply Fin.ext; show j = j % 128; omega
  · rw [dif_pos (by omega), slt64 _ (by omega), if_neg (by omega)]
    simp only [e]; congr 2; apply Fin.ext; show j = j % 128; omega
  · rw [dif_neg (by omega), slt64 _ (by omega), if_pos (by omega)]
    simp only [e]; congr 2; apply Fin.ext; show j - 128 = j % 128; omega
  · rw [dif_neg (by omega), slt64 _ (by omega), if_neg (by omega)]
    simp only [e]; congr 2; apply Fin.ext; show j - 128 = j % 128; omega

theorem dsk1_apply (n : BitVec 32) (o : ℕ) (ho : o + 128 ≤ 1024) (h : S1x1024.Slices (![0, o] : Fin 2 → ℕ) S1x128) (acc : FVec Ideal S1x128 .f32) (ps : FVec Ideal S1x1024 .f32) (l : Fin 128) :
    dsk1 n o h acc ps (ix2 (0 : Fin 1) l) = acc (ix2 0 l) + if BitVec.ofNat 32 l.val = n then 0 - ∑ i : Fin 128, ps (ix2 0 ⟨o + i.val, by omega⟩) else 0 := by
  pointwise [dsk1]
  unfold Scalar.select IntOp.cmpi
  by_cases h : BitVec.ofNat 32 l.val = n
  · simp [h]
  · have e : (BitVec.ofNat 32 l.val == n) = false := beq_eq_false_iff_ne.mpr h
    simp [h, e]

theorem dqp_apply (d : FVec Ideal S1024x128 .f32) (o o' : ℕ) (ho : o + 128 ≤ 1024) (ho' : o' + 128 ≤ 1024) (h : S1024x128.Slices (![o, 0] : Fin 2 → ℕ) S128x128) (h' : S1024x128.Slices (![o', 0] : Fin 2 → ℕ) S128x128) (i l : Fin 128) :
    dqp d o o' h h' (ix2 i l) = if l.val < 64 then d (ix2 ⟨o + i.val, by omega⟩ l) else d (ix2 ⟨o' + i.val, by omega⟩ l) := by
  pointwise [dqp]
  rw [slt64 _ (by omega)]

theorem addc_apply (w : FVec Ideal S1x128 .f32) (d : FVec Ideal S128x128 .f32) (l : Fin 128) :
    addc w d (ix2 (0 : Fin 1) l) = w (ix2 0 l) + ∑ i : Fin 128, d (ix2 i l) := by
  pointwise [addc]
theorem addr_apply (w : FVec Ideal S1x256 .f32) (d : FVec Ideal S128x256 .f32) (l : Fin 256) :
    addr w d (ix2 (0 : Fin 1) l) = w (ix2 0 l) + ∑ i : Fin 128, d (ix2 i l) := by
  pointwise [addr]
theorem addl_apply (w d : FVec Ideal S1x128 .f32) (l : Fin 128) : addl w d (ix2 (0 : Fin 1) l) = w (ix2 0 l) + d (ix2 0 l) := by
  pointwise [addl]

theorem word_toInt (n : ℕ) (h : n < 2 ^ 20) : (BitVec.ofNat 32 n).toInt = n := by
  rw [BitVec.toInt_ofNat']; simp [Int.bmod]; omega

theorem bias_apply (s : Fin 256) (c : Fin 1024) :
    k0_pay6 (F := Ideal) (ix2 s c) = if c.val % 128 < s.val ∧ s.val ≤ c.val % 128 + 128 then 0 else Ideal.ofBits .f32 0xFF800000#32 := by
  pointwise [k0_pay6]
  have ha : IntOp.andi (BitVec.ofNat 32 c.val) 127#32 = BitVec.ofNat 32 (c.val % 128) := by
    apply BitVec.eq_of_toNat_eq
    have h7 := Nat.and_two_pow_sub_one_eq_mod c.val 7
    have : c.val % 4294967296 = c.val := by omega
    have h3 : c.val % 128 % 4294967296 = c.val % 128 := by omega
    simp only [IntOp.andi, BitVec.toNat_and, BitVec.toNat_ofNat]
    norm_num at h7 ⊢
    rw [this, h3, h7]
  have hx : (IntOp.subi (IntOp.addi (IntOp.andi (BitVec.ofNat 32 c.val) 127#32) 128#32) (BitVec.ofNat 32 s.val)).toInt = (c.val % 128 : ℕ) + 128 - s.val := by
    rw [ha]
    unfold IntOp.subi IntOp.addi
    have h1 := word_toInt (c.val % 128) (by omega)
    have h2 := word_toInt s.val (by omega)
    have h3 : (128#32 : BitVec 32).toInt = 128 := by decide
    rw [BitVec.toInt_sub, BitVec.toInt_add, h1, h2, h3]
    simp only [Int.bmod]
    have := s.isLt
    omega
  generalize IntOp.subi (IntOp.addi (IntOp.andi (BitVec.ofNat 32 c.val) 127#32) 128#32) (BitVec.ofNat 32 s.val) = y at hx ⊢
  have e1 : (0#32 : BitVec 32).sle y = decide (s.val ≤ c.val % 128 + 128) := by
    have h0 : (0#32 : BitVec 32).toInt = 0 := by decide
    rw [BitVec.sle, h0, hx]; exact decide_eq_decide.mpr (by omega)
  have e2 : y.slt 128#32 = decide (c.val % 128 < s.val) := by
    have h0 : (128#32 : BitVec 32).toInt = 128 := by decide
    rw [BitVec.slt, h0, hx]; exact decide_eq_decide.mpr (by omega)
  unfold Scalar.select IntOp.cmpi IntOp.andi
  simp only [e1, e2]
  by_cases h1 : s.val ≤ c.val % 128 + 128 <;> by_cases h2 : c.val % 128 < s.val <;> simp [h1, h2]

end Cert.Att

end
-- ==== Proof.AttReal.lean ====
/-
  The attention gradient of one block of 128 queries over the reals: its keys and values are the 256 rows of the block
  before and of its own, head `h` reads the key head `h / 8`.
-/
module

public import proofs.«01_k».proof.Proof.AttPt
public import proofs.«01_k».proof.Proof.LnRow

@[expose] public section

noncomputable section

namespace Cert.Att

open Idealize.ShloMosaic

/-- A block: its 256 rows of keys and values, its queries and cotangents, the sinks, and whether a block precedes it. -/
structure Blk where
  kv : ℕ → ℕ → ℝ
  q : ℕ → ℕ → ℝ
  o : ℕ → ℕ → ℝ
  a : ℕ → ℝ
  pos : Prop

namespace Blk
open Classical
variable (B : Blk) (h i s : ℕ)

/-- Row `s` is in the window of query `i`. -/
def ok : Prop := i < s ∧ s ≤ i + 128 ∧ (B.pos ∨ 128 ≤ s)
def sc : ℝ := (∑ d : Fin 64, B.kv s (64 * (h / 8) + d.val) * B.q i (64 * h + d.val)) * (1 / 8)
def scE : EReal := if B.ok i s then (B.sc h i s : EReal) else ⊥
def ME : EReal := max (Finset.univ.fold max ⊥ fun s : Fin 256 => B.scE h i s.val) (B.a h : EReal)
def M : ℝ := (B.ME h i).toReal
def e : ℝ := if B.ok i s then Real.exp (B.sc h i s - B.M h i) else 0
def es : ℝ := Real.exp (B.a h - B.M h i)
def D : ℝ := (∑ s : Fin 256, B.e h i s.val) + B.es h i
def p : ℝ := B.e h i s * (1 / B.D h i)
def dp : ℝ := ∑ d : Fin 64, B.kv s (128 + 64 * (h / 8) + d.val) * B.o i (64 * h + d.val)
def δ : ℝ := ∑ s : Fin 256, B.p h i s.val * B.dp h i s.val
def dst : ℝ := B.p h i s * (B.dp h i s - B.δ h i) * (1 / 8)
def psd : ℝ := B.es h i * (1 / B.D h i) * B.δ h i
/-- The queries' gradient at row `i`, column `c`. -/
def dq (c : ℕ) : ℝ := ∑ s : Fin 256, B.kv s.val (64 * (c / 512) + c % 64) * B.dst (c / 64) i s.val
/-- The gradient of row `s` of the keys and values, column `j` of 256. -/
def dkv (j : ℕ) : ℝ :=
  if j < 128 then ∑ h' : Fin 8, ∑ i : Fin 128, B.dst (8 * (j / 64) + h'.val) i.val s * B.q i.val (64 * (8 * (j / 64) + h'.val) + j % 64)
  else ∑ h' : Fin 8, ∑ i : Fin 128, B.p (8 * (j / 64 - 2) + h'.val) i.val s * B.o i.val (64 * (8 * (j / 64 - 2) + h'.val) + j % 64)
/-- The sinks' gradient of head `h`. -/
def dsk : ℝ := - ∑ i : Fin 128, B.psd h i.val

theorem ME_coe : B.ME h i = (B.M h i : EReal) := by
  refine (EReal.coe_toReal ?_ ?_).symm
  · refine ne_of_lt (max_lt ?_ (EReal.coe_lt_top _))
    rw [Finset.fold_max_lt]
    refine ⟨bot_lt_top, fun s _ => ?_⟩
    unfold scE
    split
    · exact EReal.coe_lt_top _
    · exact bot_lt_top
  · exact ne_of_gt (lt_of_lt_of_le (EReal.bot_lt_coe _) (le_max_right _ _))

theorem e_nonneg : 0 ≤ B.e h i s := by
  unfold e; split
  · exact (Real.exp_pos _).le
  · exact le_refl _

theorem D_pos : 0 < B.D h i := add_pos_of_nonneg_of_pos (Finset.sum_nonneg fun s _ => B.e_nonneg h i s.val) (Real.exp_pos _)

end Blk

/-- Half of 128 lanes. -/
theorem sum_half (par : ℕ) (hp : par < 2) (f : ℕ → ℝ) : (∑ l : Fin 128, if par = l.val / 64 then f (l.val % 64) else 0) = ∑ d : Fin 64, f d.val := by
  rw [show (∑ l : Fin 128, if par = l.val / 64 then f (l.val % 64) else 0) = ∑ l : Fin (64 + 64), if par = l.val / 64 then f (l.val % 64) else 0 from rfl, Fin.sum_univ_add]
  have h1 : ∀ d : Fin 64, (Fin.castAdd 64 d).val / 64 = 0 ∧ (Fin.castAdd 64 d).val % 64 = d.val := fun d => ⟨by simp [Fin.natAdd, Fin.castAdd]; try omega, by simp⟩
  have h2 : ∀ d : Fin 64, (Fin.natAdd 64 d).val / 64 = 1 ∧ (Fin.natAdd 64 d).val % 64 = d.val := fun d => ⟨by simp [Fin.natAdd, Fin.castAdd]; try omega, by simp⟩
  simp only [h1, h2]
  rcases (by omega : par = 0 ∨ par = 1) with rfl | rfl <;> simp

/-- 1024 columns are eight heads of 128 rows. -/
theorem sum_heads (f : ℕ → ℕ → ℝ) : (∑ c : Fin 1024, f (c.val / 128) (c.val % 128)) = ∑ h : Fin 8, ∑ i : Fin 128, f h.val i.val := by
  rw [← Fintype.sum_prod_type']
  exact Fintype.sum_equiv (finProdFinEquiv (m := 8) (n := 128)).symm _ _ fun c => rfl

open Blk

section
variable {g : ℕ} {B : Blk} {b : BitVec 32} {k v : FVec Ideal Cert.AttnIdeal.S256x128 .bf16} {Q O : FVec Ideal Cert.AttnIdeal.S1024x128 .bf16}
  {sk : FVec Ideal Cert.AttnIdeal.S1x1024 .f32} {bias : FVec Ideal Cert.AttnIdeal.S256x1024 .f32}

/-- What a key head's vectors hold. -/
structure Holds (g : ℕ) (B : Blk) (b : BitVec 32) (k v : FVec Ideal Cert.AttnIdeal.S256x128 .bf16) (Q O : FVec Ideal Cert.AttnIdeal.S1024x128 .bf16)
    (sk : FVec Ideal Cert.AttnIdeal.S1x1024 .f32) (bias : FVec Ideal Cert.AttnIdeal.S256x1024 .f32) : Prop where
  hk : ∀ (s : Fin 256) (l : Fin 128), k (ix2 s l) = (B.kv s.val (64 * g + l.val % 64) : EReal)
  hv : ∀ (s : Fin 256) (l : Fin 128), v (ix2 s l) = (B.kv s.val (128 + 64 * g + l.val % 64) : EReal)
  hq : ∀ (c : Fin 1024) (l : Fin 128), Q (ix2 c l) = ((if (c.val / 128) % 2 = l.val / 64 then B.q (c.val % 128) (64 * (8 * g + c.val / 128) + l.val % 64) else 0 : ℝ) : EReal)
  ho : ∀ (c : Fin 1024) (l : Fin 128), O (ix2 c l) = ((if (c.val / 128) % 2 = l.val / 64 then B.o (c.val % 128) (64 * (8 * g + c.val / 128) + l.val % 64) else 0 : ℝ) : EReal)
  hs : ∀ c : Fin 1024, sk (ix2 (0 : Fin 1) c) = (B.a (8 * g + c.val / 128) : EReal)
  hb : ∀ (s : Fin 256) (c : Fin 1024), bias (ix2 s c) = if c.val % 128 < s.val ∧ s.val ≤ c.val % 128 + 128 then (0 : EReal) else ⊥
  hp : B.pos ↔ 0 < b.toInt

variable (H : Holds g B b k v Q O sk bias)
include H

omit H in
theorem half (x y : ℕ → ℝ) (c : Fin 1024) (X Y : Fin 128 → EReal) (hX : ∀ l, X l = (x (l.val % 64) : EReal))
    (hY : ∀ l, Y l = ((if (c.val / 128) % 2 = l.val / 64 then y (l.val % 64) else 0 : ℝ) : EReal)) :
    (∑ l : Fin 128, X l * Y l) = ((∑ d : Fin 64, x d.val * y d.val : ℝ) : EReal) := by
  rw [← sum_half ((c.val / 128) % 2) (by omega) (fun d => x d * y d), Cert.LnRow.coe_sum]
  refine Finset.sum_congr rfl fun l _ => ?_
  rw [hX, hY, ← EReal.coe_mul]
  congr 1; split <;> simp

theorem Holds.sc0 (s : Fin 256) (c : Fin 1024) : (∑ l : Fin 128, k (ix2 s l) * Q (ix2 c l)) * Ideal.ofBits .f32 0x3E000000#32 = (B.sc (8 * g + c.val / 128) (c.val % 128) s.val : EReal) := by
  rw [half (fun d => B.kv s.val (64 * g + d)) (fun d => B.q (c.val % 128) (64 * (8 * g + c.val / 128) + d)) c _ _ (fun l => H.hk s l) (fun l => H.hq c l), eighth, ← EReal.coe_mul]
  unfold Blk.sc
  rw [show (8 * g + c.val / 128) / 8 = g by omega]

theorem Holds.sc (s : Fin 256) (c : Fin 1024) : sc b k Q bias (ix2 s c) = B.scE (8 * g + c.val / 128) (c.val % 128) s.val := by
  rw [sc_apply, sc0_apply, H.sc0, H.hb, ninf]
  have hp := H.hp
  unfold scE Blk.ok
  by_cases h1 : c.val % 128 < s.val ∧ s.val ≤ c.val % 128 + 128
  · rw [if_pos h1]
    by_cases h2 : B.pos ∨ 128 ≤ s.val
    · rw [if_neg (fun h => h2.elim (fun h3 => h.2 (hp.mp h3)) (fun h3 => absurd h.1 (by omega))), if_pos ⟨h1.1, h1.2, h2⟩, add_zero]
    · rw [if_pos ⟨by by_contra h3; exact h2 (.inr (by omega)), fun h3 => h2 (.inl (hp.mpr h3))⟩, if_neg (fun h => h2 h.2.2)]
  · rw [if_neg h1, EReal.add_bot, ite_self, if_neg (fun h => h1 ⟨h.1, h.2.1⟩)]

theorem Holds.mx (c : Fin 1024) : mx (Att.sc b k Q bias) sk (ix2 (0 : Fin 1) c) = (B.M (8 * g + c.val / 128) (c.val % 128) : EReal) := by
  rw [mx_apply, ninf, H.hs, ← B.ME_coe]
  unfold ME
  congr 2
  funext s; exact H.sc s c

theorem Holds.ee (s : Fin 256) (c : Fin 1024) : ee (Att.sc b k Q bias) sk (ix2 s c) = (B.e (8 * g + c.val / 128) (c.val % 128) s.val : EReal) := by
  rw [ee_apply, H.sc, H.mx]
  unfold scE Blk.e
  split
  · rw [← EReal.coe_sub]; rfl
  · rw [EReal.bot_sub]; rfl

theorem Holds.es (c : Fin 1024) : es (Att.sc b k Q bias) sk (ix2 (0 : Fin 1) c) = (B.es (8 * g + c.val / 128) (c.val % 128) : EReal) := by
  rw [es_apply, H.hs, H.mx, ← EReal.coe_sub]; rfl

theorem Holds.inv (c : Fin 1024) : inv (Att.sc b k Q bias) sk (ix2 (0 : Fin 1) c) = ((1 / B.D (8 * g + c.val / 128) (c.val % 128) : ℝ) : EReal) := by
  rw [inv_apply, H.es, oneF, Finset.sum_congr rfl fun s _ => H.ee s c, ← Cert.LnRow.coe_sum, ← EReal.coe_add]
  rw [show (∑ s : Fin 256, B.e (8 * g + c.val / 128) (c.val % 128) s.val) + B.es (8 * g + c.val / 128) (c.val % 128) = B.D (8 * g + c.val / 128) (c.val % 128) from rfl,
    Ideal.div_coe (B.D_pos _ _).ne', ← EReal.coe_mul, one_mul]

theorem Holds.pt (s : Fin 256) (c : Fin 1024) : pt (Att.sc b k Q bias) sk (ix2 s c) = (B.p (8 * g + c.val / 128) (c.val % 128) s.val : EReal) := by
  rw [pt_apply, H.ee, H.inv, ← EReal.coe_mul]; rfl

theorem Holds.dpt (s : Fin 256) (c : Fin 1024) : dpt v O (ix2 s c) = (B.dp (8 * g + c.val / 128) (c.val % 128) s.val : EReal) := by
  rw [dpt_apply, half (fun d => B.kv s.val (128 + 64 * g + d)) (fun d => B.o (c.val % 128) (64 * (8 * g + c.val / 128) + d)) c _ _ (fun l => H.hv s l) (fun l => H.ho c l)]
  unfold Blk.dp
  rw [show (8 * g + c.val / 128) / 8 = g by omega]

theorem Holds.dl (c : Fin 1024) : dl (Att.pt (Att.sc b k Q bias) sk) (Att.dpt v O) (ix2 (0 : Fin 1) c) = (B.δ (8 * g + c.val / 128) (c.val % 128) : EReal) := by
  rw [dl_apply]
  unfold Blk.δ
  rw [Cert.LnRow.coe_sum]
  exact Finset.sum_congr rfl fun s _ => by rw [H.pt, H.dpt, ← EReal.coe_mul]

theorem Holds.dst (s : Fin 256) (c : Fin 1024) : Att.hs b k v Q O sk bias (ix2 s c) = (B.dst (8 * g + c.val / 128) (c.val % 128) s.val : EReal) := by
  unfold Att.hs
  rw [dst_apply, H.pt, H.dpt, H.dl, eighth, ← EReal.coe_sub, ← EReal.coe_mul, ← EReal.coe_mul]; rfl

theorem Holds.psd (c : Fin 1024) : hd b k v Q O sk bias (ix2 (0 : Fin 1) c) = (B.psd (8 * g + c.val / 128) (c.val % 128) : EReal) := by
  unfold hd
  rw [psd_apply, H.es, H.inv, H.dl, ← EReal.coe_mul, ← EReal.coe_mul]; rfl

theorem Holds.dqa (c : Fin 1024) (l : Fin 128) : dqa k (Att.hs b k v Q O sk bias) (ix2 c l)
    = ((∑ s : Fin 256, B.kv s.val (64 * g + l.val % 64) * B.dst (8 * g + c.val / 128) (c.val % 128) s.val : ℝ) : EReal) := by
  rw [dqa_apply, Cert.LnRow.coe_sum]
  exact Finset.sum_congr rfl fun s _ => by rw [H.hk, H.dst, ← EReal.coe_mul]

omit H in
/-- The two halves of the lanes together. -/
theorem both (X : FVec Ideal Cert.AttnIdeal.S256x1024 .f32) (x : ℕ → ℕ → ℕ → ℝ) (Y : FVec Ideal Cert.AttnIdeal.S1024x128 .bf16) (y : ℕ → ℕ → ℝ)
    (hX : ∀ s c, X (ix2 s c) = (x (8 * g + c.val / 128) (c.val % 128) s.val : EReal))
    (hY : ∀ (c : Fin 1024) (l : Fin 128), Y (ix2 c l) = ((if (c.val / 128) % 2 = l.val / 64 then y (c.val % 128) (64 * (8 * g + c.val / 128) + l.val % 64) else 0 : ℝ) : EReal))
    (s : Fin 256) (l : Fin 128) : dkk X Y (ix2 s l)
      = ((∑ h : Fin 8, ∑ i : Fin 128, x (8 * g + h.val) i.val s.val * y i.val (64 * (8 * g + h.val) + l.val % 64) : ℝ) : EReal) := by
  rw [dkk_apply, ← sum_heads fun h i => x (8 * g + h) i s.val * y i (64 * (8 * g + h) + l.val % 64), ← Finset.sum_add_distrib, Cert.LnRow.coe_sum]
  refine Finset.sum_congr rfl fun c _ => ?_
  rw [hX, hY, hY, ← EReal.coe_mul, ← EReal.coe_mul, ← EReal.coe_add]
  congr 1
  have e : (l.val + 64) % 128 % 64 = l.val % 64 := by omega
  simp only [e]
  by_cases h : c.val / 128 % 2 = l.val / 64
  · rw [if_pos h, if_neg (by omega), mul_zero, add_zero]
  · rw [if_neg h, if_pos (by omega), mul_zero, zero_add]
end

end Cert.Att

end
-- ==== Proof.AttTile.lean ====
/-
  The attention gradient's block over the reals: what a block's outputs hold once its inputs are real.
-/
module

public import proofs.«01_k».proof.Proof.AttReal
public import Idealize.ShloMosaic.Lib.Pipeline.ValueKit.Tiles

@[expose] public section

set_option maxRecDepth 16384

noncomputable section

namespace Cert.Att

open Idealize.ShloMosaic Idealize.ShloMosaic.TcCoe
open Cert.AttnIdeal Cert.AttnIdeal.Gen

/-- What a block reads. -/
structure Reads (B : Blk) (b : BitVec 32) (x1 : Vec Ideal S1x16 .f32) (x2 : Vec Ideal S128x1024 .bf16) (x3 x4 : Vec Ideal S128x256 .bf16) (x5 : Vec Ideal S128x1024 .bf16)
    (x12 : Vec Ideal S256x1024 .f32) : Prop where
  h1 : ∀ j : Fin 16, x1 (ix2 (0 : Fin 1) j) = (B.a j.val : EReal)
  h2 : ∀ (i : Fin 128) (j : Fin 1024), x2 (ix2 i j) = (B.q i.val j.val : EReal)
  h3 : ∀ (i : Fin 128) (j : Fin 256), x3 (ix2 i j) = (B.kv (128 + i.val) j.val : EReal)
  h4 : ∀ (i : Fin 128) (j : Fin 256), x4 (ix2 i j) = (B.kv i.val j.val : EReal)
  h5 : ∀ (i : Fin 128) (j : Fin 1024), x5 (ix2 i j) = (B.o i.val j.val : EReal)
  hb : ∀ (s : Fin 256) (c : Fin 1024), x12 (ix2 s c) = if c.val % 128 < s.val ∧ s.val ≤ c.val % 128 + 128 then (0 : EReal) else ⊥
  hp : B.pos ↔ 0 < b.toInt

section
variable {B : Blk} {b : BitVec 32} {x1 : Vec Ideal S1x16 .f32} {x2 : Vec Ideal S128x1024 .bf16} {x3 x4 : Vec Ideal S128x256 .bf16} {x5 : Vec Ideal S128x1024 .bf16}
    {x12 : Vec Ideal S256x1024 .f32}

theorem pick0 {α β : Type} (w0 w1 w2 w3 : α → β) (n : ℕ) (hn : n < 4) (e : n = 0) (x : α) : (![w0, w1, w2, w3] : Fin 4 → α → β) ⟨n, hn⟩ x = w0 x := by subst e; rfl
theorem pick1 {α β : Type} (w0 w1 w2 w3 : α → β) (n : ℕ) (hn : n < 4) (e : n = 1) (x : α) : (![w0, w1, w2, w3] : Fin 4 → α → β) ⟨n, hn⟩ x = w1 x := by subst e; rfl
theorem pick2 {α β : Type} (w0 w1 w2 w3 : α → β) (n : ℕ) (hn : n < 4) (e : n = 2) (x : α) : (![w0, w1, w2, w3] : Fin 4 → α → β) ⟨n, hn⟩ x = w2 x := by subst e; rfl
theorem pick3 {α β : Type} (w0 w1 w2 w3 : α → β) (n : ℕ) (hn : n < 4) (e : n = 3) (x : α) : (![w0, w1, w2, w3] : Fin 4 → α → β) ⟨n, hn⟩ x = w3 x := by subst e; rfl

theorem kvc_real (h3 : ∀ (i : Fin 128) (j : Fin 256), x3 (ix2 i j) = (B.kv (128 + i.val) j.val : EReal)) (h4 : ∀ (i : Fin 128) (j : Fin 256), x4 (ix2 i j) = (B.kv i.val j.val : EReal))
    (s j : Fin 256) : kvc (F := Ideal) x4 x3 (ix2 s j) = (B.kv s.val j.val : EReal) := by
  rw [kvc_apply]
  split
  · rw [h4]
  · rw [h3]; simp only; rw [show 128 + (s.val - 128) = s.val by omega]

theorem pr_apply (x : Vec Ideal S128x1024 .bf16) (o : ℕ) (ho : o + 128 ≤ 1024) (h) (i l : Fin 128) : pr x o h (ix2 i l) = x (ix2 i ⟨o + l.val, by omega⟩) := by
  unfold pr
  exact View.ld_unit_apply_of x _ _ _ _ _ (fun a => match a with
    | 0 => by show i.val = 0 + i.val; omega
    | 1 => by show o + l.val = o + l.val; rfl)

theorem sk1_apply (x : Vec Ideal S1x16 .f32) (o : ℕ) (ho : o < 16) (h) : sk1 x o h = x (ix2 (0 : Fin 1) ⟨o, ho⟩) := by
  unfold sk1
  exact View.ld_unit_apply_of x _ _ _ _ _ (fun a => match a with
    | 0 => by show 0 = 0 + _; rfl
    | 1 => by show o = o + 0; rfl)

theorem sq0_real (x : Vec Ideal S128x1024 .bf16) (f : ℕ → ℕ → ℝ) (h : ∀ (i : Fin 128) (j : Fin 1024), x (ix2 i j) = (f i.val j.val : EReal)) (c : Fin 1024) (l : Fin 128) :
    sq0 x (ix2 c l) = ((if (c.val / 128) % 2 = l.val / 64 then f (c.val % 128) (64 * (8 * 0 + c.val / 128) + l.val % 64) else 0 : ℝ) : EReal) := by
  unfold sq0
  rw [stk_apply]
  by_cases hc : (c.val / 128) % 2 = l.val / 64
  · rw [if_pos hc, if_pos hc]
    rcases (by omega : c.val / 256 = 0 ∨ c.val / 256 = 1 ∨ c.val / 256 = 2 ∨ c.val / 256 = 3) with e | e | e | e
    · refine (pick0 _ _ _ _ _ _ e _).trans ?_
      refine (pr_apply x 0 (by omega) _ _ l).trans ((h _ _).trans ?_)
      show (f (c.val % 128) (0 + l.val) : EReal) = _
      rw [show 0 + l.val = 64 * (8 * 0 + c.val / 128) + l.val % 64 by omega]
    · refine (pick1 _ _ _ _ _ _ e _).trans ?_
      refine (pr_apply x 128 (by omega) _ _ l).trans ((h _ _).trans ?_)
      show (f (c.val % 128) (128 + l.val) : EReal) = _
      rw [show 128 + l.val = 64 * (8 * 0 + c.val / 128) + l.val % 64 by omega]
    · refine (pick2 _ _ _ _ _ _ e _).trans ?_
      refine (pr_apply x 256 (by omega) _ _ l).trans ((h _ _).trans ?_)
      show (f (c.val % 128) (256 + l.val) : EReal) = _
      rw [show 256 + l.val = 64 * (8 * 0 + c.val / 128) + l.val % 64 by omega]
    · refine (pick3 _ _ _ _ _ _ e _).trans ?_
      refine (pr_apply x 384 (by omega) _ _ l).trans ((h _ _).trans ?_)
      show (f (c.val % 128) (384 + l.val) : EReal) = _
      rw [show 384 + l.val = 64 * (8 * 0 + c.val / 128) + l.val % 64 by omega]
  · rw [if_neg hc, if_neg hc]; rfl

theorem sq1_real (x : Vec Ideal S128x1024 .bf16) (f : ℕ → ℕ → ℝ) (h : ∀ (i : Fin 128) (j : Fin 1024), x (ix2 i j) = (f i.val j.val : EReal)) (c : Fin 1024) (l : Fin 128) :
    sq1 x (ix2 c l) = ((if (c.val / 128) % 2 = l.val / 64 then f (c.val % 128) (64 * (8 * 1 + c.val / 128) + l.val % 64) else 0 : ℝ) : EReal) := by
  unfold sq1
  rw [stk_apply]
  by_cases hc : (c.val / 128) % 2 = l.val / 64
  · rw [if_pos hc, if_pos hc]
    rcases (by omega : c.val / 256 = 0 ∨ c.val / 256 = 1 ∨ c.val / 256 = 2 ∨ c.val / 256 = 3) with e | e | e | e
    · refine (pick0 _ _ _ _ _ _ e _).trans ?_
      refine (pr_apply x 512 (by omega) _ _ l).trans ((h _ _).trans ?_)
      show (f (c.val % 128) (512 + l.val) : EReal) = _
      rw [show 512 + l.val = 64 * (8 * 1 + c.val / 128) + l.val % 64 by omega]
    · refine (pick1 _ _ _ _ _ _ e _).trans ?_
      refine (pr_apply x 640 (by omega) _ _ l).trans ((h _ _).trans ?_)
      show (f (c.val % 128) (640 + l.val) : EReal) = _
      rw [show 640 + l.val = 64 * (8 * 1 + c.val / 128) + l.val % 64 by omega]
    · refine (pick2 _ _ _ _ _ _ e _).trans ?_
      refine (pr_apply x 768 (by omega) _ _ l).trans ((h _ _).trans ?_)
      show (f (c.val % 128) (768 + l.val) : EReal) = _
      rw [show 768 + l.val = 64 * (8 * 1 + c.val / 128) + l.val % 64 by omega]
    · refine (pick3 _ _ _ _ _ _ e _).trans ?_
      refine (pr_apply x 896 (by omega) _ _ l).trans ((h _ _).trans ?_)
      show (f (c.val % 128) (896 + l.val) : EReal) = _
      rw [show 896 + l.val = 64 * (8 * 1 + c.val / 128) + l.val % 64 by omega]
  · rw [if_neg hc, if_neg hc]; rfl

theorem sk0_real (x : Vec Ideal S1x16 .f32) (a : ℕ → ℝ) (h : ∀ j : Fin 16, x (ix2 (0 : Fin 1) j) = (a j.val : EReal)) (c : Fin 1024) :
    sk0 x (ix2 (0 : Fin 1) c) = (a (8 * 0 + c.val / 128) : EReal) := by
  unfold sk0
  rw [(sk1_apply x 0 (by omega) _).trans (h _)]
  rw [(sk1_apply x 1 (by omega) _).trans (h _)]
  rw [(sk1_apply x 2 (by omega) _).trans (h _)]
  rw [(sk1_apply x 3 (by omega) _).trans (h _)]
  rw [(sk1_apply x 4 (by omega) _).trans (h _)]
  rw [(sk1_apply x 5 (by omega) _).trans (h _)]
  rw [(sk1_apply x 6 (by omega) _).trans (h _)]
  rw [(sk1_apply x 7 (by omega) _).trans (h _)]
  exact skr_apply (fun j : Fin 8 => (a (8 * 0 + j.val) : EReal)) c

theorem sk8_real (x : Vec Ideal S1x16 .f32) (a : ℕ → ℝ) (h : ∀ j : Fin 16, x (ix2 (0 : Fin 1) j) = (a j.val : EReal)) (c : Fin 1024) :
    sk8 x (ix2 (0 : Fin 1) c) = (a (8 * 1 + c.val / 128) : EReal) := by
  unfold sk8
  rw [(sk1_apply x 8 (by omega) _).trans (h _)]
  rw [(sk1_apply x 9 (by omega) _).trans (h _)]
  rw [(sk1_apply x 10 (by omega) _).trans (h _)]
  rw [(sk1_apply x 11 (by omega) _).trans (h _)]
  rw [(sk1_apply x 12 (by omega) _).trans (h _)]
  rw [(sk1_apply x 13 (by omega) _).trans (h _)]
  rw [(sk1_apply x 14 (by omega) _).trans (h _)]
  rw [(sk1_apply x 15 (by omega) _).trans (h _)]
  exact skr_apply (fun j : Fin 8 => (a (8 * 1 + j.val) : EReal)) c

theorem Reads.holds0 (R : Reads B b x1 x2 x3 x4 x5 x12) : Holds 0 B b (K0 x4 x3) (V0 x4 x3) (sq0 x2) (sq0 x5) (sk0 x1) x12 where
  hk s l := by unfold K0; rw [dup0_apply, kcol_apply, kvc_real R.h3 R.h4]; simp only; rw [Nat.mul_zero, Nat.zero_add]
  hv s l := by unfold V0; rw [dup0_apply, vcol_apply, kvc_real R.h3 R.h4]
  hq := sq0_real x2 B.q R.h2
  ho := sq0_real x5 B.o R.h5
  hs := sk0_real x1 B.a R.h1
  hb := R.hb
  hp := R.hp

theorem Reads.holds1 (R : Reads B b x1 x2 x3 x4 x5 x12) : Holds 1 B b (K1 x4 x3) (V1 x4 x3) (sq1 x2) (sq1 x5) (sk8 x1) x12 where
  hk s l := by unfold K1; rw [dup1_apply, kcol_apply, kvc_real R.h3 R.h4]
  hv s l := by unfold V1; rw [dup1_apply, vcol_apply, kvc_real R.h3 R.h4]; simp only; rw [← add_assoc]
  hq := sq1_real x2 B.q R.h2
  ho := sq1_real x5 B.o R.h5
  hs := sk8_real x1 B.a R.h1
  hb := R.hb
  hp := R.hp

/-- One tile of two heads. -/
theorem tile_real {g : ℕ} (t : ℕ) (hg : g < 2) (ht : t < 4) {k v : FVec Ideal S256x128 .bf16} {Q O : FVec Ideal S1024x128 .bf16}
    {sk : FVec Ideal S1x1024 .f32} {bias : FVec Ideal S256x1024 .f32} (H : Holds g B b k v Q O sk bias)
    (h : S1024x128.Slices (![256 * t, 0] : Fin 2 → ℕ) S128x128) (h' : S1024x128.Slices (![256 * t + 128, 0] : Fin 2 → ℕ) S128x128) (i l : Fin 128) :
    dqp (dqa k (hs b k v Q O sk bias)) (256 * t) (256 * t + 128) h h' (ix2 i l) = (B.dq i.val (512 * g + 128 * t + l.val) : EReal) := by
  rw [dqp_apply _ _ _ (by omega) (by omega), H.dqa, H.dqa]
  unfold Blk.dq
  rw [show (512 * g + 128 * t + l.val) / 512 = g by omega, show (512 * g + 128 * t + l.val) % 64 = l.val % 64 by omega]
  have e1 : (256 * t + i.val) % 128 = i.val := by omega
  have e2 : (256 * t + 128 + i.val) % 128 = i.val := by omega
  have e3 : 8 * g + (256 * t + i.val) / 128 = 8 * g + 2 * t := by omega
  have e4 : 8 * g + (256 * t + 128 + i.val) / 128 = 8 * g + 2 * t + 1 := by omega
  simp only [e1, e2, e3, e4]
  split
  · rw [show (512 * g + 128 * t + l.val) / 64 = 8 * g + 2 * t by omega]
  · rw [show (512 * g + 128 * t + l.val) / 64 = 8 * g + 2 * t + 1 by omega]

theorem Reads.cq (R : Reads B b x1 x2 x3 x4 x5 x12) (i : Fin 128) (c : Fin 1024) :
    View.canon (Att.cq (Q0 b x1 x2 x3 x4 x5 x12) (Q1 b x1 x2 x3 x4 x5 x12)) (ix2 i c) = (B.dq i.val c.val : EReal) := by
  unfold Att.cq
  refine View.canon_eq_of_allAt _ _ _ (View.cover_of_tiled_head _ _ _ rfl _) (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _)))))))))
  · intro x hx
    idx_vars x
    have e0 : i.val = 0 + x0.val := hx 0
    have e1 : c.val = 896 + x1.val := hx 1
    refine (tile_real 3 (by omega) (by omega) R.holds1 slices_S1024x128_o768_0_S128x128 slices_S1024x128_o896_0_S128x128 x0 x1).trans ?_
    rw [show i.val = x0.val by omega, e1]
  · intro x hx
    idx_vars x
    have e0 : i.val = 0 + x0.val := hx 0
    have e1 : c.val = 768 + x1.val := hx 1
    refine (tile_real 2 (by omega) (by omega) R.holds1 slices_S1024x128_o512_0_S128x128 slices_S1024x128_o640_0_S128x128 x0 x1).trans ?_
    rw [show i.val = x0.val by omega, e1]
  · intro x hx
    idx_vars x
    have e0 : i.val = 0 + x0.val := hx 0
    have e1 : c.val = 640 + x1.val := hx 1
    refine (tile_real 1 (by omega) (by omega) R.holds1 slices_S1024x128_o256_0_S128x128 slices_S1024x128_o384_0_S128x128 x0 x1).trans ?_
    rw [show i.val = x0.val by omega, e1]
  · intro x hx
    idx_vars x
    have e0 : i.val = 0 + x0.val := hx 0
    have e1 : c.val = 512 + x1.val := hx 1
    refine (tile_real 0 (by omega) (by omega) R.holds1 slices_S1024x128_o0_0_S128x128 slices_S1024x128_o128_0_S128x128 x0 x1).trans ?_
    rw [show i.val = x0.val by omega, e1]
  · intro x hx
    idx_vars x
    have e0 : i.val = 0 + x0.val := hx 0
    have e1 : c.val = 384 + x1.val := hx 1
    refine (tile_real 3 (by omega) (by omega) R.holds0 slices_S1024x128_o768_0_S128x128 slices_S1024x128_o896_0_S128x128 x0 x1).trans ?_
    rw [show i.val = x0.val by omega, e1]
  · intro x hx
    idx_vars x
    have e0 : i.val = 0 + x0.val := hx 0
    have e1 : c.val = 256 + x1.val := hx 1
    refine (tile_real 2 (by omega) (by omega) R.holds0 slices_S1024x128_o512_0_S128x128 slices_S1024x128_o640_0_S128x128 x0 x1).trans ?_
    rw [show i.val = x0.val by omega, e1]
  · intro x hx
    idx_vars x
    have e0 : i.val = 0 + x0.val := hx 0
    have e1 : c.val = 128 + x1.val := hx 1
    refine (tile_real 1 (by omega) (by omega) R.holds0 slices_S1024x128_o256_0_S128x128 slices_S1024x128_o384_0_S128x128 x0 x1).trans ?_
    rw [show i.val = x0.val by omega, e1]
  · intro x hx
    idx_vars x
    have e0 : i.val = 0 + x0.val := hx 0
    have e1 : c.val = 0 + x1.val := hx 1
    refine (tile_real 0 (by omega) (by omega) R.holds0 slices_S1024x128_o0_0_S128x128 slices_S1024x128_o128_0_S128x128 x0 x1).trans ?_
    rw [show i.val = x0.val by omega, e1]

theorem Reads.cb (R : Reads B b x1 x2 x3 x4 x5 x12) (x8 : Vec Ideal S1x1024 .f32) (c : Fin 1024) :
    View.canon (Att.cb (Q0 b x1 x2 x3 x4 x5 x12) (Q1 b x1 x2 x3 x4 x5 x12) x8) (ix2 (0 : Fin 1) c) = x8 (ix2 (0 : Fin 1) c) + ((∑ i : Fin 128, B.dq i.val c.val : ℝ) : EReal) := by
  unfold Att.cb
  refine View.canon_eq_of_allAt _ _ _ (View.cover_of_tiled_head _ _ _ rfl _) (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _)))))))))
  · intro x hx
    idx_vars x
    have e1 : c.val = 896 + x1.val := hx 1
    have e0 : x0 = 0 := Fin.ext (by have : x0.val < 1 := x0.isLt; show x0.val = 0; omega)
    subst e0
    refine (addc_apply _ _ x1).trans ?_
    refine congr (congrArg _ ?_) ?_
    · unfold bc
      refine View.ld_unit_apply_of x8 _ _ _ _ _ (fun a => match a with
        | 0 => by show 0 = 0 + 0; rfl
        | 1 => by show c.val = 896 + x1.val; exact e1)
    · rw [Cert.LnRow.coe_sum, e1]
      exact Finset.sum_congr rfl fun i _ => tile_real 3 (by omega) (by omega) R.holds1 slices_S1024x128_o768_0_S128x128 slices_S1024x128_o896_0_S128x128 i x1
  · intro x hx
    idx_vars x
    have e1 : c.val = 768 + x1.val := hx 1
    have e0 : x0 = 0 := Fin.ext (by have : x0.val < 1 := x0.isLt; show x0.val = 0; omega)
    subst e0
    refine (addc_apply _ _ x1).trans ?_
    refine congr (congrArg _ ?_) ?_
    · unfold bc
      refine View.ld_unit_apply_of x8 _ _ _ _ _ (fun a => match a with
        | 0 => by show 0 = 0 + 0; rfl
        | 1 => by show c.val = 768 + x1.val; exact e1)
    · rw [Cert.LnRow.coe_sum, e1]
      exact Finset.sum_congr rfl fun i _ => tile_real 2 (by omega) (by omega) R.holds1 slices_S1024x128_o512_0_S128x128 slices_S1024x128_o640_0_S128x128 i x1
  · intro x hx
    idx_vars x
    have e1 : c.val = 640 + x1.val := hx 1
    have e0 : x0 = 0 := Fin.ext (by have : x0.val < 1 := x0.isLt; show x0.val = 0; omega)
    subst e0
    refine (addc_apply _ _ x1).trans ?_
    refine congr (congrArg _ ?_) ?_
    · unfold bc
      refine View.ld_unit_apply_of x8 _ _ _ _ _ (fun a => match a with
        | 0 => by show 0 = 0 + 0; rfl
        | 1 => by show c.val = 640 + x1.val; exact e1)
    · rw [Cert.LnRow.coe_sum, e1]
      exact Finset.sum_congr rfl fun i _ => tile_real 1 (by omega) (by omega) R.holds1 slices_S1024x128_o256_0_S128x128 slices_S1024x128_o384_0_S128x128 i x1
  · intro x hx
    idx_vars x
    have e1 : c.val = 512 + x1.val := hx 1
    have e0 : x0 = 0 := Fin.ext (by have : x0.val < 1 := x0.isLt; show x0.val = 0; omega)
    subst e0
    refine (addc_apply _ _ x1).trans ?_
    refine congr (congrArg _ ?_) ?_
    · unfold bc
      refine View.ld_unit_apply_of x8 _ _ _ _ _ (fun a => match a with
        | 0 => by show 0 = 0 + 0; rfl
        | 1 => by show c.val = 512 + x1.val; exact e1)
    · rw [Cert.LnRow.coe_sum, e1]
      exact Finset.sum_congr rfl fun i _ => tile_real 0 (by omega) (by omega) R.holds1 slices_S1024x128_o0_0_S128x128 slices_S1024x128_o128_0_S128x128 i x1
  · intro x hx
    idx_vars x
    have e1 : c.val = 384 + x1.val := hx 1
    have e0 : x0 = 0 := Fin.ext (by have : x0.val < 1 := x0.isLt; show x0.val = 0; omega)
    subst e0
    refine (addc_apply _ _ x1).trans ?_
    refine congr (congrArg _ ?_) ?_
    · unfold bc
      refine View.ld_unit_apply_of x8 _ _ _ _ _ (fun a => match a with
        | 0 => by show 0 = 0 + 0; rfl
        | 1 => by show c.val = 384 + x1.val; exact e1)
    · rw [Cert.LnRow.coe_sum, e1]
      exact Finset.sum_congr rfl fun i _ => tile_real 3 (by omega) (by omega) R.holds0 slices_S1024x128_o768_0_S128x128 slices_S1024x128_o896_0_S128x128 i x1
  · intro x hx
    idx_vars x
    have e1 : c.val = 256 + x1.val := hx 1
    have e0 : x0 = 0 := Fin.ext (by have : x0.val < 1 := x0.isLt; show x0.val = 0; omega)
    subst e0
    refine (addc_apply _ _ x1).trans ?_
    refine congr (congrArg _ ?_) ?_
    · unfold bc
      refine View.ld_unit_apply_of x8 _ _ _ _ _ (fun a => match a with
        | 0 => by show 0 = 0 + 0; rfl
        | 1 => by show c.val = 256 + x1.val; exact e1)
    · rw [Cert.LnRow.coe_sum, e1]
      exact Finset.sum_congr rfl fun i _ => tile_real 2 (by omega) (by omega) R.holds0 slices_S1024x128_o512_0_S128x128 slices_S1024x128_o640_0_S128x128 i x1
  · intro x hx
    idx_vars x
    have e1 : c.val = 128 + x1.val := hx 1
    have e0 : x0 = 0 := Fin.ext (by have : x0.val < 1 := x0.isLt; show x0.val = 0; omega)
    subst e0
    refine (addc_apply _ _ x1).trans ?_
    refine congr (congrArg _ ?_) ?_
    · unfold bc
      refine View.ld_unit_apply_of x8 _ _ _ _ _ (fun a => match a with
        | 0 => by show 0 = 0 + 0; rfl
        | 1 => by show c.val = 128 + x1.val; exact e1)
    · rw [Cert.LnRow.coe_sum, e1]
      exact Finset.sum_congr rfl fun i _ => tile_real 1 (by omega) (by omega) R.holds0 slices_S1024x128_o256_0_S128x128 slices_S1024x128_o384_0_S128x128 i x1
  · intro x hx
    idx_vars x
    have e1 : c.val = 0 + x1.val := hx 1
    have e0 : x0 = 0 := Fin.ext (by have : x0.val < 1 := x0.isLt; show x0.val = 0; omega)
    subst e0
    refine (addc_apply _ _ x1).trans ?_
    refine congr (congrArg _ ?_) ?_
    · unfold bc
      refine View.ld_unit_apply_of x8 _ _ _ _ _ (fun a => match a with
        | 0 => by show 0 = 0 + 0; rfl
        | 1 => by show c.val = 0 + x1.val; exact e1)
    · rw [Cert.LnRow.coe_sum, e1]
      exact Finset.sum_congr rfl fun i _ => tile_real 0 (by omega) (by omega) R.holds0 slices_S1024x128_o0_0_S128x128 slices_S1024x128_o128_0_S128x128 i x1

theorem Reads.P0 (R : Reads B b x1 x2 x3 x4 x5 x12) (s : Fin 256) (c : Fin 1024) : Att.P0 b x1 x2 x3 x4 x12 (ix2 s c) = (B.p (8 * 0 + c.val / 128) (c.val % 128) s.val : EReal) := R.holds0.pt s c
theorem Reads.P1 (R : Reads B b x1 x2 x3 x4 x5 x12) (s : Fin 256) (c : Fin 1024) : Att.P1 b x1 x2 x3 x4 x12 (ix2 s c) = (B.p (8 * 1 + c.val / 128) (c.val % 128) s.val : EReal) := R.holds1.pt s c
theorem Reads.D0 (R : Reads B b x1 x2 x3 x4 x5 x12) (s : Fin 256) (c : Fin 1024) : Att.D0 b x1 x2 x3 x4 x5 x12 (ix2 s c) = (B.dst (8 * 0 + c.val / 128) (c.val % 128) s.val : EReal) := R.holds0.dst s c
theorem Reads.D1 (R : Reads B b x1 x2 x3 x4 x5 x12) (s : Fin 256) (c : Fin 1024) : Att.D1 b x1 x2 x3 x4 x5 x12 (ix2 s c) = (B.dst (8 * 1 + c.val / 128) (c.val % 128) s.val : EReal) := R.holds1.dst s c

theorem Reads.KV (R : Reads B b x1 x2 x3 x4 x5 x12) (s j : Fin 256) : Att.KV b x1 x2 x3 x4 x5 x12 (ix2 s j) = (B.dkv s.val j.val : EReal) := by
  unfold Att.KV
  rw [dkvn_apply]
  unfold Blk.dkv
  rcases (by omega : j.val / 64 = 0 ∨ j.val / 64 = 1 ∨ j.val / 64 = 2 ∨ j.val / 64 = 3) with e | e | e | e
  · refine (pick0 _ _ _ _ _ _ e _).trans ?_
    refine (both _ B.dst _ B.q R.D0 (sq0_real x2 B.q R.h2) s _).trans ?_
    rw [if_pos (by omega), e]
    simp only [show j.val % 128 % 64 = j.val % 64 by omega]
  · refine (pick1 _ _ _ _ _ _ e _).trans ?_
    refine (both _ B.dst _ B.q R.D1 (sq1_real x2 B.q R.h2) s _).trans ?_
    rw [if_pos (by omega), e]
    simp only [show j.val % 128 % 64 = j.val % 64 by omega]
  · refine (pick2 _ _ _ _ _ _ e _).trans ?_
    refine (both _ B.p _ B.o R.P0 (sq0_real x5 B.o R.h5) s _).trans ?_
    rw [if_neg (by omega), e]
    simp only [show j.val % 128 % 64 = j.val % 64 by omega]
  · refine (pick3 _ _ _ _ _ _ e _).trans ?_
    refine (both _ B.p _ B.o R.P1 (sq1_real x5 B.o R.h5) s _).trans ?_
    rw [if_neg (by omega), e]
    simp only [show j.val % 128 % 64 = j.val % 64 by omega]

theorem Reads.KVlo (R : Reads B b x1 x2 x3 x4 x5 x12) (s : Fin 128) (j : Fin 256) : Att.KVlo b x1 x2 x3 x4 x5 x12 (ix2 s j) = (B.dkv s.val j.val : EReal) := by
  have : Att.KVlo b x1 x2 x3 x4 x5 x12 (ix2 s j) = Att.KV b x1 x2 x3 x4 x5 x12 (ix2 ⟨s.val, by omega⟩ j) := by pointwise [Att.KVlo]
  rw [this, R.KV]
theorem Reads.KVhi (R : Reads B b x1 x2 x3 x4 x5 x12) (s : Fin 128) (j : Fin 256) : Att.KVhi b x1 x2 x3 x4 x5 x12 (ix2 s j) = (B.dkv (128 + s.val) j.val : EReal) := by
  have : Att.KVhi b x1 x2 x3 x4 x5 x12 (ix2 s j) = Att.KV b x1 x2 x3 x4 x5 x12 (ix2 ⟨128 + s.val, by omega⟩ j) := by pointwise [Att.KVhi]
  rw [this, R.KV]

theorem dsk1_real (n o : ℕ) (hn : n < 128) (ho : o + 128 ≤ 1024) (h) (acc : FVec Ideal S1x128 .f32) (ps : FVec Ideal S1x1024 .f32) (f : ℕ → ℝ)
    (hf : ∀ i : Fin 128, ps (ix2 (0 : Fin 1) ⟨o + i.val, by omega⟩) = (f i.val : EReal)) (l : Fin 128) (r : ℝ) (hr : acc (ix2 (0 : Fin 1) l) = (r : EReal)) :
    dsk1 (BitVec.ofNat 32 n) o h acc ps (ix2 (0 : Fin 1) l) = ((r + if l.val = n then - ∑ i : Fin 128, f i.val else 0 : ℝ) : EReal) := by
  rw [dsk1_apply _ _ ho, hr, Finset.sum_congr rfl fun i _ => hf i, ← Cert.LnRow.coe_sum, ← EReal.coe_zero, ← EReal.coe_sub, zero_sub]
  by_cases e : l.val = n
  · rw [if_pos e, if_pos (by rw [e]), ← EReal.coe_add]
  · rw [if_neg e, if_neg (fun h => e (by have := congrArg BitVec.toNat h; simp at this; omega)), ← EReal.coe_add]

theorem Reads.lanes0 (R : Reads B b x1 x2 x3 x4 x5 x12) (acc : FVec Ideal S1x128 .f32) (l : Fin 128) (r : ℝ) (hr : acc (ix2 (0 : Fin 1) l) = (r : EReal)) :
    Att.lanes0 acc (Att.E0 b x1 x2 x3 x4 x5 x12) (ix2 (0 : Fin 1) l) = ((((((((((r + if l.val = 0 then B.dsk 0 else 0) + if l.val = 1 then B.dsk 1 else 0) + if l.val = 2 then B.dsk 2 else 0) + if l.val = 3 then B.dsk 3 else 0) + if l.val = 4 then B.dsk 4 else 0) + if l.val = 5 then B.dsk 5 else 0) + if l.val = 6 then B.dsk 6 else 0) + if l.val = 7 then B.dsk 7 else 0) : ℝ) : EReal) := by
  have E : ∀ (t : ℕ) (ht : t < 8) (i : Fin 128), Att.E0 b x1 x2 x3 x4 x5 x12 (ix2 (0 : Fin 1) ⟨128 * t + i.val, by omega⟩) = (B.psd (8 * 0 + t) i.val : EReal) := fun t ht i => by
    refine (R.holds0.psd _).trans ?_
    simp only [show (128 * t + i.val) / 128 = t by omega, show (128 * t + i.val) % 128 = i.val by omega]
  unfold Att.lanes0
  exact (dsk1_real 7 896 (by omega) (by omega) _ _ _ (fun i => B.psd 7 i) (fun i => E 7 (by omega) i) l _ (dsk1_real 6 768 (by omega) (by omega) _ _ _ (fun i => B.psd 6 i) (fun i => E 6 (by omega) i) l _ (dsk1_real 5 640 (by omega) (by omega) _ _ _ (fun i => B.psd 5 i) (fun i => E 5 (by omega) i) l _ (dsk1_real 4 512 (by omega) (by omega) _ _ _ (fun i => B.psd 4 i) (fun i => E 4 (by omega) i) l _ (dsk1_real 3 384 (by omega) (by omega) _ _ _ (fun i => B.psd 3 i) (fun i => E 3 (by omega) i) l _ (dsk1_real 2 256 (by omega) (by omega) _ _ _ (fun i => B.psd 2 i) (fun i => E 2 (by omega) i) l _ (dsk1_real 1 128 (by omega) (by omega) _ _ _ (fun i => B.psd 1 i) (fun i => E 1 (by omega) i) l _ (dsk1_real 0 0 (by omega) (by omega) _ _ _ (fun i => B.psd 0 i) (fun i => E 0 (by omega) i) l _ hr))))))))

theorem Reads.lanes8 (R : Reads B b x1 x2 x3 x4 x5 x12) (acc : FVec Ideal S1x128 .f32) (l : Fin 128) (r : ℝ) (hr : acc (ix2 (0 : Fin 1) l) = (r : EReal)) :
    Att.lanes8 acc (Att.E1 b x1 x2 x3 x4 x5 x12) (ix2 (0 : Fin 1) l) = ((((((((((r + if l.val = 8 then B.dsk 8 else 0) + if l.val = 9 then B.dsk 9 else 0) + if l.val = 10 then B.dsk 10 else 0) + if l.val = 11 then B.dsk 11 else 0) + if l.val = 12 then B.dsk 12 else 0) + if l.val = 13 then B.dsk 13 else 0) + if l.val = 14 then B.dsk 14 else 0) + if l.val = 15 then B.dsk 15 else 0) : ℝ) : EReal) := by
  have E : ∀ (t : ℕ) (ht : t < 8) (i : Fin 128), Att.E1 b x1 x2 x3 x4 x5 x12 (ix2 (0 : Fin 1) ⟨128 * t + i.val, by omega⟩) = (B.psd (8 * 1 + t) i.val : EReal) := fun t ht i => by
    refine (R.holds1.psd _).trans ?_
    simp only [show (128 * t + i.val) / 128 = t by omega, show (128 * t + i.val) % 128 = i.val by omega]
  unfold Att.lanes8
  exact (dsk1_real 15 896 (by omega) (by omega) _ _ _ (fun i => B.psd 15 i) (fun i => E 7 (by omega) i) l _ (dsk1_real 14 768 (by omega) (by omega) _ _ _ (fun i => B.psd 14 i) (fun i => E 6 (by omega) i) l _ (dsk1_real 13 640 (by omega) (by omega) _ _ _ (fun i => B.psd 13 i) (fun i => E 5 (by omega) i) l _ (dsk1_real 12 512 (by omega) (by omega) _ _ _ (fun i => B.psd 12 i) (fun i => E 4 (by omega) i) l _ (dsk1_real 11 384 (by omega) (by omega) _ _ _ (fun i => B.psd 11 i) (fun i => E 3 (by omega) i) l _ (dsk1_real 10 256 (by omega) (by omega) _ _ _ (fun i => B.psd 10 i) (fun i => E 2 (by omega) i) l _ (dsk1_real 9 128 (by omega) (by omega) _ _ _ (fun i => B.psd 9 i) (fun i => E 1 (by omega) i) l _ (dsk1_real 8 0 (by omega) (by omega) _ _ _ (fun i => B.psd 8 i) (fun i => E 0 (by omega) i) l _ hr))))))))

theorem Reads.lanes (R : Reads B b x1 x2 x3 x4 x5 x12) (l : Fin 128) :
    Att.lanes (Att.E0 b x1 x2 x3 x4 x5 x12) (Att.E1 b x1 x2 x3 x4 x5 x12) (ix2 (0 : Fin 1) l) = ((if l.val < 16 then B.dsk l.val else 0 : ℝ) : EReal) := by
  unfold Att.lanes
  have h0 : (broadcast S1x128 (Scalar.ofBits (F := Ideal) .f32 0x00000000#32) : FVec Ideal S1x128 .f32) (ix2 (0 : Fin 1) l) = ((0 : ℝ) : EReal) := by
    show Ideal.ofBits .f32 0x00000000#32 = _
    simp [Ideal.ofBits, Ideal.ieee]
  refine (R.lanes8 _ l _ (R.lanes0 _ l 0 h0)).trans (congrArg _ ?_)
  rcases (by omega : l.val = 0 ∨ l.val = 1 ∨ l.val = 2 ∨ l.val = 3 ∨ l.val = 4 ∨ l.val = 5 ∨ l.val = 6 ∨ l.val = 7 ∨ l.val = 8 ∨ l.val = 9 ∨ l.val = 10 ∨ l.val = 11 ∨ l.val = 12 ∨ l.val = 13 ∨ l.val = 14 ∨ l.val = 15 ∨ 16 ≤ l.val) with e | e | e | e | e | e | e | e | e | e | e | e | e | e | e | e | e
  · rw [e]; simp
  · rw [e]; simp
  · rw [e]; simp
  · rw [e]; simp
  · rw [e]; simp
  · rw [e]; simp
  · rw [e]; simp
  · rw [e]; simp
  · rw [e]; simp
  · rw [e]; simp
  · rw [e]; simp
  · rw [e]; simp
  · rw [e]; simp
  · rw [e]; simp
  · rw [e]; simp
  · rw [e]; simp
  · simp only [show ¬ l.val < 16 by omega, if_false, show ¬ l.val = 0 by omega, show ¬ l.val = 1 by omega, show ¬ l.val = 2 by omega, show ¬ l.val = 3 by omega, show ¬ l.val = 4 by omega, show ¬ l.val = 5 by omega, show ¬ l.val = 6 by omega, show ¬ l.val = 7 by omega, show ¬ l.val = 8 by omega, show ¬ l.val = 9 by omega, show ¬ l.val = 10 by omega, show ¬ l.val = 11 by omega, show ¬ l.val = 12 by omega, show ¬ l.val = 13 by omega, show ¬ l.val = 14 by omega, show ¬ l.val = 15 by omega, add_zero]

end

end Cert.Att

end
-- ==== Proof.AttnIdealRunA.lean ====
module

public import proofs.«01_k».proof.Proof.Gen.AttnIdeal.Frame
public import proofs.«01_k».proof.Proof.Gen.AttnIdeal.Skeleton

@[expose] public section

set_option maxRecDepth 16384

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen

variable {F : FTy → Type} [FloatOps F]

local notation "𝕄" => MT nD τ sig Unit (Elt F) ℕ (UR sig nD τ) ℕ

set_option maxHeartbeats 4000000 in
/-- The body at the first point: the accumulators, the carried half and the window bias are written before they are read: what its stores leave in each buffer it writes, as pieces (the last store first),
    with the proof that it runs to the continuation from the buffers it reads at their contents. -/
def runA (c : Dev nD) (i : grid0.Coords) (arg1 : Memref sig .tc .smem S1x16 .f32) (harg1 : arg1.IsWhole) (arg2 : Memref sig .tc .vmem S128x1024 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x256 .bf16) (harg7 : arg7.IsWhole) (arg8 : Memref sig .tc .vmem S1x1024 .f32) (harg8 : arg8.IsWhole) (arg9 : Memref sig .tc .vmem S1x256 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S256x1024 .f32) (harg12 : arg12.IsWhole) (hc1 : k0_cond1 i = 1#1) (hc2 : k0_cond2 i = 1#1) (hc3 : ¬ k0_cond3 i = 1#1) (hc4 : ¬ k0_cond4 i = 1#1)
    (x1 : Vec F S1x16 .f32) (x2 : Vec F S128x1024 .bf16) (x3 : Vec F S128x256 .bf16) (x4 : Vec F S128x256 .bf16) (x5 : Vec F S128x1024 .bf16) :
    Σ' (L6 : List (View.Piece (Elt F) S128x1024 .bf16)), Σ' (L7 : List (View.Piece (Elt F) S128x256 .bf16)), Σ' (L8 : List (View.Piece (Elt F) S1x1024 .f32)), Σ' (L9 : List (View.Piece (Elt F) S1x256 .f32)), Σ' (L10 : List (View.Piece (Elt F) S1x128 .f32)), Σ' (L11 : List (View.Piece (Elt F) S128x256 .f32)), { L12 : List (View.Piece (Elt F) S256x1024 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12)) -∗ K ⟨⟩))
          ⊢ wp frame (wpE (defs₀ (F := F)) Variants.none c none) E (cc0_att_bwd i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, fun E K => ?run⟩
  case run =>
    simp only [cc0_att_bwd_eq_skeleton]; unfold cc0_att_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    obtain rfl := harg1.eq_unread hf1; obtain rfl := harg2.eq_unread hf2; obtain rfl := harg3.eq_unread hf3; obtain rfl := harg4.eq_unread hf4; obtain rfl := harg5.eq_unread hf5
    sl_exec (disch := first | sl_exact hc1 | sl_exact hc2 | sl_exact hc3 | sl_exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

end Cert.AttnIdeal.Hand

end
-- ==== Proof.AttnIdealRunB.lean ====
module

public import proofs.«01_k».proof.Proof.Gen.AttnIdeal.Frame
public import proofs.«01_k».proof.Proof.Gen.AttnIdeal.Skeleton
public import proofs.«01_k».proof.Proof.AttnIdealRunA

@[expose] public section

set_option maxRecDepth 16384

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen

variable {F : FTy → Type} [FloatOps F]

local notation "𝕄" => MT nD τ sig Unit (Elt F) ℕ (UR sig nD τ) ℕ

set_option maxHeartbeats 4000000 in
/-- The body at a point between the first and the last: what its stores leave in each buffer it writes, as pieces (the last store first),
    with the proof that it runs to the continuation from the buffers it reads at their contents. -/
def runB (c : Dev nD) (i : grid0.Coords) (arg1 : Memref sig .tc .smem S1x16 .f32) (harg1 : arg1.IsWhole) (arg2 : Memref sig .tc .vmem S128x1024 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x256 .bf16) (harg7 : arg7.IsWhole) (arg8 : Memref sig .tc .vmem S1x1024 .f32) (harg8 : arg8.IsWhole) (arg9 : Memref sig .tc .vmem S1x256 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S256x1024 .f32) (harg12 : arg12.IsWhole) (hc1 : ¬ k0_cond1 i = 1#1) (hc2 : k0_cond2 i = 1#1) (hc3 : k0_cond3 i = 1#1) (hc4 : ¬ k0_cond4 i = 1#1)
    (x1 : Vec F S1x16 .f32) (x2 : Vec F S128x1024 .bf16) (x3 : Vec F S128x256 .bf16) (x4 : Vec F S128x256 .bf16) (x5 : Vec F S128x1024 .bf16) (x8 : Vec F S1x1024 .f32) (x9 : Vec F S1x256 .f32) (x10 : Vec F S1x128 .f32) (x11 : Vec F S128x256 .f32) (x12 : Vec F S256x1024 .f32) :
    Σ' (L6 : List (View.Piece (Elt F) S128x1024 .bf16)), Σ' (L7 : List (View.Piece (Elt F) S128x256 .bf16)), Σ' (L8 : List (View.Piece (Elt F) S1x1024 .f32)), Σ' (L9 : List (View.Piece (Elt F) S1x256 .f32)), Σ' (L10 : List (View.Piece (Elt F) S1x128 .f32)), { L11 : List (View.Piece (Elt F) S128x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ owns (c : Thread nD τ) arg12 fullShare x12) -∗ K ⟨⟩))
          ⊢ wp frame (wpE (defs₀ (F := F)) Variants.none c none) E (cc0_att_bwd i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc0_att_bwd_eq_skeleton]; unfold cc0_att_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3; obtain rfl := harg4.eq_unread hf4; obtain rfl := harg5.eq_unread hf5; obtain rfl := harg8.eq_unread hf8; obtain rfl := harg9.eq_unread hf9; obtain rfl := harg10.eq_unread hf10; obtain rfl := harg11.eq_unread hf11; obtain rfl := harg12.eq_unread hf12
    sl_exec (disch := first | sl_exact hc1 | sl_exact hc2 | sl_exact hc3 | sl_exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; isplitr; · ipureintro; exact harg12.read_unread _
    iexact H12

end Cert.AttnIdeal.Hand

end
-- ==== Proof.AttnIdealRunC.lean ====
module

public import proofs.«01_k».proof.Proof.Gen.AttnIdeal.Frame
public import proofs.«01_k».proof.Proof.Gen.AttnIdeal.Skeleton
public import proofs.«01_k».proof.Proof.AttnIdealRunB

@[expose] public section

set_option maxRecDepth 16384

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen

variable {F : FTy → Type} [FloatOps F]

local notation "𝕄" => MT nD τ sig Unit (Elt F) ℕ (UR sig nD τ) ℕ

set_option maxHeartbeats 4000000 in
/-- The body at the last point, which only writes the half the point before carried: what its stores leave in each buffer it writes, as pieces (the last store first),
    with the proof that it runs to the continuation from the buffers it reads at their contents. -/
def runC (c : Dev nD) (i : grid0.Coords) (arg1 : Memref sig .tc .smem S1x16 .f32) (harg1 : arg1.IsWhole) (arg2 : Memref sig .tc .vmem S128x1024 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x256 .bf16) (harg7 : arg7.IsWhole) (arg8 : Memref sig .tc .vmem S1x1024 .f32) (harg8 : arg8.IsWhole) (arg9 : Memref sig .tc .vmem S1x256 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S256x1024 .f32) (harg12 : arg12.IsWhole) (hc1 : ¬ k0_cond1 i = 1#1) (hc2 : ¬ k0_cond2 i = 1#1) (hc4 : k0_cond4 i = 1#1)
    (x9 : Vec F S1x256 .f32) (x11 : Vec F S128x256 .f32) :
    Σ' (L7 : List (View.Piece (Elt F) S128x256 .bf16)), { L9 : List (View.Piece (Elt F) S1x256 .f32) //
      ∀ (E : Set ℕ) (K : PUnit → sProp 𝕄),
        iprop((∃ d, owns (c : Thread nD τ) arg7 fullShare d) ∗ owns (c : Thread nD τ) arg9 fullShare x9 ∗ owns (c : Thread nD τ) arg11 fullShare x11
            ∗ (iprop((∃ f, arg7.view.loc (c : Thread nD τ) ↦[arg7.view.set]{fullShare} arg7.view.writes (Elt F) f L7) ∗ (∃ f, arg9.view.loc (c : Thread nD τ) ↦[arg9.view.set]{fullShare} arg9.view.writes (Elt F) f L9) ∗ owns (c : Thread nD τ) arg11 fullShare x11) -∗ K ⟨⟩))
          ⊢ wp frame (wpE (defs₀ (F := F)) Variants.none c none) E (cc0_att_bwd i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0_att_bwd_eq_skeleton]; unfold cc0_att_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%d7, %f7, -, H7⟩, ⟨%f9, %hf9, H9⟩, ⟨%f11, %hf11, H11⟩, Hk⟩
    obtain rfl := harg9.eq_unread hf9; obtain rfl := harg11.eq_unread hf11
    sl_exec (disch := first | sl_exact hc1 | sl_exact hc2 | sl_exact hc4)
    sl_step
    iapply Hk
    isplitl [H7]; · iexists _; iexact H7
    isplitl [H9]; · iexists _; iexact H9
    iexists _; isplitr; · ipureintro; exact harg11.read_unread _
    iexact H11

end Cert.AttnIdeal.Hand

end
-- ==== Proof.AttnIdealHand.lean ====
module

public import proofs.«01_k».proof.Proof.AttnIdealRunC
public import Idealize.ShloMosaic.Lib.Claim
public import Idealize.ShloMosaic.Lib.Pipeline.TableIdle

@[expose] public section

set_option maxRecDepth 16384

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N33 : cfg0.N = 33 := N_0

/-! ## The branches, in closed form over the points -/

theorem hcond1 : ∀ t : Fin cfg0.N, k0_cond1 (grid0.coords t) = 1#1 ↔ t.val = 0 :=
  (by decide +kernel : ∀ t : Fin grid0.N, k0_cond1 (grid0.coords t) = 1#1 ↔ t.val = 0)
theorem hcond2 : ∀ t : Fin cfg0.N, k0_cond2 (grid0.coords t) = 1#1 ↔ t.val < 32 :=
  (by decide +kernel : ∀ t : Fin grid0.N, k0_cond2 (grid0.coords t) = 1#1 ↔ t.val < 32)
theorem hcond3 : ∀ t : Fin cfg0.N, k0_cond3 (grid0.coords t) = 1#1 ↔ 0 < t.val :=
  (by decide +kernel : ∀ t : Fin grid0.N, k0_cond3 (grid0.coords t) = 1#1 ↔ 0 < t.val)
theorem hcond4 : ∀ t : Fin cfg0.N, k0_cond4 (grid0.coords t) = 1#1 ↔ t.val = 32 :=
  (by decide +kernel : ∀ t : Fin grid0.N, k0_cond4 (grid0.coords t) = 1#1 ↔ t.val = 32)

theorem hs0 (t : Fin cfg0.N) : (st0_0 t).IsWhole := hstage0_0 ((cfg0.slots t 0).cast nbuf0_0)
theorem hs1 (t : Fin cfg0.N) : (st0_1 t).IsWhole := hstage0_1 ((cfg0.slots t 1).cast nbuf0_1)
theorem hs2 (t : Fin cfg0.N) : (st0_2 t).IsWhole := hstage0_2 ((cfg0.slots t 2).cast nbuf0_2)
theorem hs3 (t : Fin cfg0.N) : (st0_3 t).IsWhole := hstage0_3 ((cfg0.slots t 3).cast nbuf0_3)
theorem hs4 (t : Fin cfg0.N) : (st0_4 t).IsWhole := hstage0_4 ((cfg0.slots t 4).cast nbuf0_4)
theorem hs5 (t : Fin cfg0.N) : (st0_5 t).IsWhole := hstage0_5 ((cfg0.slots t 5).cast nbuf0_5)
theorem hs6 (t : Fin cfg0.N) : (st0_6 t).IsWhole := hstage0_6 ((cfg0.slots t 6).cast nbuf0_6)
theorem hs7 (t : Fin cfg0.N) : (st0_7 t).IsWhole := hstage0_7 ((cfg0.slots t 7).cast nbuf0_7)
theorem hs8 (t : Fin cfg0.N) : (st0_8 t).IsWhole := hstage0_8 ((cfg0.slots t 8).cast nbuf0_8)
theorem hs9 (t : Fin cfg0.N) : (st0_9 t).IsWhole := hstage0_9 ((cfg0.slots t 9).cast nbuf0_9)

/-! ## Views to read the pieces through -/

abbrev VO6 : View sig .tc .vmem S128x1024 .bf16 := (Memref.whole cc0_stg5_0 : Memref sig .tc .vmem S128x1024 .bf16).view
abbrev VO7 : View sig .tc .vmem S128x256 .bf16 := (Memref.whole cc0_stg6_0 : Memref sig .tc .vmem S128x256 .bf16).view
abbrev VO8 : View sig .tc .vmem S1x1024 .f32 := (Memref.whole cc0_stg7_0 : Memref sig .tc .vmem S1x1024 .f32).view
abbrev VO9 : View sig .tc .vmem S1x256 .f32 := (Memref.whole cc0_stg8_0 : Memref sig .tc .vmem S1x256 .f32).view
abbrev VO10 : View sig .tc .vmem S1x128 .f32 := (Memref.whole cc0_stg9_0 : Memref sig .tc .vmem S1x128 .f32).view
abbrev VO11 : View sig .tc .vmem S128x256 .f32 := (Memref.whole cc0_scratch0 : Memref sig .tc .vmem S128x256 .f32).view
abbrev VO12 : View sig .tc .vmem S256x1024 .f32 := (Memref.whole cc0_scratch1 : Memref sig .tc .vmem S256x1024 .f32).view

/-! ## What the written buffers hold -/

/-- The buffers the body writes: the four result windows' and the sink gradient's, the carried half and the window bias. -/
structure St (F : FTy → Type) where
  dq : Vec F S128x1024 .bf16
  dkv : Vec F S128x256 .bf16
  dbq : Vec F S1x1024 .f32
  dbkv : Vec F S1x256 .f32
  dsink : Vec F S1x128 .f32
  carry : Vec F S128x256 .f32
  bias : Vec F S256x1024 .f32

section terms
variable (c : Dev nD) (i : grid0.Coords) (arg1 : Memref sig .tc .smem S1x16 .f32) (harg1 : arg1.IsWhole) (arg2 : Memref sig .tc .vmem S128x1024 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x256 .bf16) (harg7 : arg7.IsWhole) (arg8 : Memref sig .tc .vmem S1x1024 .f32) (harg8 : arg8.IsWhole) (arg9 : Memref sig .tc .vmem S1x256 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S256x1024 .f32) (harg12 : arg12.IsWhole)

section runA
variable (hc1 : k0_cond1 i = 1#1) (hc2 : k0_cond2 i = 1#1) (hc3 : ¬ k0_cond3 i = 1#1) (hc4 : ¬ k0_cond4 i = 1#1)
  (x1 : Vec F S1x16 .f32) (x2 : Vec F S128x1024 .bf16) (x3 : Vec F S128x256 .bf16) (x4 : Vec F S128x256 .bf16) (x5 : Vec F S128x1024 .bf16)

theorem coverA_6 (y : S128x1024.Idx) :
    ∃ pc ∈ (runA c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5).1, y ∈ pc.1.set :=
  View.cover_of_tiledL (s := S128x1024) _ S128x128.size (by sl_kernel_rfl) y
def outA_6 : Vec F S128x1024 .bf16 :=
  VO6.read (Elt F) (VO6.writes (Elt F) VO6.junk (runA c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5).1)

theorem coverA_7 (y : S128x256.Idx) :
    ∃ pc ∈ (runA c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5).2.1, y ∈ pc.1.set :=
  View.cover_of_tiledL (s := S128x256) _ S128x256.size (by sl_kernel_rfl) y
def outA_7 : Vec F S128x256 .bf16 :=
  VO7.read (Elt F) (VO7.writes (Elt F) VO7.junk (runA c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5).2.1)

theorem coverA_8 (y : S1x1024.Idx) :
    ∃ pc ∈ (runA c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5).2.2.1, y ∈ pc.1.set :=
  View.cover_of_tiledL (s := S1x1024) _ S1x1024.size (by sl_kernel_rfl) y
def outA_8 : Vec F S1x1024 .f32 :=
  VO8.read (Elt F) (VO8.writes (Elt F) VO8.junk (runA c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5).2.2.1)

theorem coverA_9 (y : S1x256.Idx) :
    ∃ pc ∈ (runA c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5).2.2.2.1, y ∈ pc.1.set :=
  View.cover_of_tiledL (s := S1x256) _ S1x256.size (by sl_kernel_rfl) y
def outA_9 : Vec F S1x256 .f32 :=
  VO9.read (Elt F) (VO9.writes (Elt F) VO9.junk (runA c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5).2.2.2.1)

theorem coverA_10 (y : S1x128.Idx) :
    ∃ pc ∈ (runA c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5).2.2.2.2.1, y ∈ pc.1.set :=
  View.cover_of_tiledL (s := S1x128) _ S1x128.size (by sl_kernel_rfl) y
def outA_10 : Vec F S1x128 .f32 :=
  VO10.read (Elt F) (VO10.writes (Elt F) VO10.junk (runA c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5).2.2.2.2.1)

theorem coverA_11 (y : S128x256.Idx) :
    ∃ pc ∈ (runA c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5).2.2.2.2.2.1, y ∈ pc.1.set :=
  View.cover_of_tiledL (s := S128x256) _ S128x256.size (by sl_kernel_rfl) y
def outA_11 : Vec F S128x256 .f32 :=
  VO11.read (Elt F) (VO11.writes (Elt F) VO11.junk (runA c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5).2.2.2.2.2.1)

theorem coverA_12 (y : S256x1024.Idx) :
    ∃ pc ∈ (runA c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5).2.2.2.2.2.2.1, y ∈ pc.1.set :=
  View.cover_of_tiledL (s := S256x1024) _ S256x1024.size (by sl_kernel_rfl) y
def outA_12 : Vec F S256x1024 .f32 :=
  VO12.read (Elt F) (VO12.writes (Elt F) VO12.junk (runA c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5).2.2.2.2.2.2.1)

/-- What the case leaves in the seven buffers. -/
def stOfA : St F where
  dq := outA_6 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5
  dkv := outA_7 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5
  dbq := outA_8 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5
  dbkv := outA_9 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5
  dsink := outA_10 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5
  carry := outA_11 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5
  bias := outA_12 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5

end runA

section runB
variable (hc1 : ¬ k0_cond1 i = 1#1) (hc2 : k0_cond2 i = 1#1) (hc3 : k0_cond3 i = 1#1) (hc4 : ¬ k0_cond4 i = 1#1)
  (x1 : Vec F S1x16 .f32) (x2 : Vec F S128x1024 .bf16) (x3 : Vec F S128x256 .bf16) (x4 : Vec F S128x256 .bf16) (x5 : Vec F S128x1024 .bf16) (x8 : Vec F S1x1024 .f32) (x9 : Vec F S1x256 .f32) (x10 : Vec F S1x128 .f32) (x11 : Vec F S128x256 .f32) (x12 : Vec F S256x1024 .f32)

theorem coverB_6 (y : S128x1024.Idx) :
    ∃ pc ∈ (runB c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x8 x9 x10 x11 x12).1, y ∈ pc.1.set :=
  View.cover_of_tiledL (s := S128x1024) _ S128x128.size (by sl_kernel_rfl) y
def outB_6 : Vec F S128x1024 .bf16 :=
  VO6.read (Elt F) (VO6.writes (Elt F) VO6.junk (runB c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x8 x9 x10 x11 x12).1)

theorem coverB_7 (y : S128x256.Idx) :
    ∃ pc ∈ (runB c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x8 x9 x10 x11 x12).2.1, y ∈ pc.1.set :=
  View.cover_of_tiledL (s := S128x256) _ S128x256.size (by sl_kernel_rfl) y
def outB_7 : Vec F S128x256 .bf16 :=
  VO7.read (Elt F) (VO7.writes (Elt F) VO7.junk (runB c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x8 x9 x10 x11 x12).2.1)

theorem coverB_8 (y : S1x1024.Idx) :
    ∃ pc ∈ (runB c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x8 x9 x10 x11 x12).2.2.1, y ∈ pc.1.set :=
  View.cover_of_tiledL (s := S1x1024) _ S1x128.size (by sl_kernel_rfl) y
def outB_8 : Vec F S1x1024 .f32 :=
  VO8.read (Elt F) (VO8.writes (Elt F) VO8.junk (runB c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x8 x9 x10 x11 x12).2.2.1)

theorem coverB_9 (y : S1x256.Idx) :
    ∃ pc ∈ (runB c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x8 x9 x10 x11 x12).2.2.2.1, y ∈ pc.1.set :=
  View.cover_of_tiledL (s := S1x256) _ S1x256.size (by sl_kernel_rfl) y
def outB_9 : Vec F S1x256 .f32 :=
  VO9.read (Elt F) (VO9.writes (Elt F) VO9.junk (runB c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x8 x9 x10 x11 x12).2.2.2.1)

theorem coverB_10 (y : S1x128.Idx) :
    ∃ pc ∈ (runB c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x8 x9 x10 x11 x12).2.2.2.2.1, y ∈ pc.1.set :=
  View.cover_of_tiledL (s := S1x128) _ S1x128.size (by sl_kernel_rfl) y
def outB_10 : Vec F S1x128 .f32 :=
  VO10.read (Elt F) (VO10.writes (Elt F) VO10.junk (runB c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x8 x9 x10 x11 x12).2.2.2.2.1)

theorem coverB_11 (y : S128x256.Idx) :
    ∃ pc ∈ (runB c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x8 x9 x10 x11 x12).2.2.2.2.2.1, y ∈ pc.1.set :=
  View.cover_of_tiledL (s := S128x256) _ S128x256.size (by sl_kernel_rfl) y
def outB_11 : Vec F S128x256 .f32 :=
  VO11.read (Elt F) (VO11.writes (Elt F) VO11.junk (runB c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x8 x9 x10 x11 x12).2.2.2.2.2.1)

/-- What the case leaves in the seven buffers. -/
def stOfB : St F where
  dq := outB_6 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x8 x9 x10 x11 x12
  dkv := outB_7 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x8 x9 x10 x11 x12
  dbq := outB_8 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x8 x9 x10 x11 x12
  dbkv := outB_9 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x8 x9 x10 x11 x12
  dsink := outB_10 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x8 x9 x10 x11 x12
  carry := outB_11 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x8 x9 x10 x11 x12
  bias := x12

end runB

section runC
variable (hc1 : ¬ k0_cond1 i = 1#1) (hc2 : ¬ k0_cond2 i = 1#1) (hc4 : k0_cond4 i = 1#1)
  (x9 : Vec F S1x256 .f32) (x11 : Vec F S128x256 .f32)

theorem coverC_7 (y : S128x256.Idx) :
    ∃ pc ∈ (runC c i arg1 harg1 arg2 harg2 arg3 harg3 arg4 harg4 arg5 harg5 arg6 harg6 arg7 harg7 arg8 harg8 arg9 harg9 arg10 harg10 arg11 harg11 arg12 harg12 hc1 hc2 hc4 x9 x11).1, y ∈ pc.1.set :=
  View.cover_of_tiledL (s := S128x256) _ S128x256.size (by sl_kernel_rfl) y
def outC_7 : Vec F S128x256 .bf16 :=
  VO7.read (Elt F) (VO7.writes (Elt F) VO7.junk (runC c i arg1 harg1 arg2 harg2 arg3 harg3 arg4 harg4 arg5 harg5 arg6 harg6 arg7 harg7 arg8 harg8 arg9 harg9 arg10 harg10 arg11 harg11 arg12 harg12 hc1 hc2 hc4 x9 x11).1)

theorem coverC_9 (y : S1x256.Idx) :
    ∃ pc ∈ (runC c i arg1 harg1 arg2 harg2 arg3 harg3 arg4 harg4 arg5 harg5 arg6 harg6 arg7 harg7 arg8 harg8 arg9 harg9 arg10 harg10 arg11 harg11 arg12 harg12 hc1 hc2 hc4 x9 x11).2.1, y ∈ pc.1.set :=
  View.cover_of_tiledL (s := S1x256) _ S1x256.size (by sl_kernel_rfl) y
def outC_9 : Vec F S1x256 .f32 :=
  VO9.read (Elt F) (VO9.writes (Elt F) VO9.junk (runC c i arg1 harg1 arg2 harg2 arg3 harg3 arg4 harg4 arg5 harg5 arg6 harg6 arg7 harg7 arg8 harg8 arg9 harg9 arg10 harg10 arg11 harg11 arg12 harg12 hc1 hc2 hc4 x9 x11).2.1)

end runC
end terms

/-- The state after a point of this case. -/
def stA (c : Dev nD) (t : Fin cfg0.N) (h : t.val = 0) : St F :=
  stOfA c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (Memref.whole cc0_scratch0) (Memref.isWhole_whole _) (Memref.whole cc0_scratch1) (Memref.isWhole_whole _) ((hcond1 t).mpr h) ((hcond2 t).mpr (by omega)) (fun e => absurd ((hcond3 t).mp e) (by omega)) (fun e => absurd ((hcond4 t).mp e) (by omega)) (iblk m c 0 t) (X0_1 m c t) (iblk m c 2 t) (iblk m c 3 t) (iblk m c 4 t)

/-- The state after a point of this case. -/
def stB (c : Dev nD) (t : Fin cfg0.N) (h : 0 < t.val ∧ t.val < 32) (s : St F) : St F :=
  stOfB c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (Memref.whole cc0_scratch0) (Memref.isWhole_whole _) (Memref.whole cc0_scratch1) (Memref.isWhole_whole _) (fun e => absurd ((hcond1 t).mp e) (by omega)) ((hcond2 t).mpr (by omega)) ((hcond3 t).mpr (by omega)) (fun e => absurd ((hcond4 t).mp e) (by omega)) (iblk m c 0 t) (X0_1 m c t) (iblk m c 2 t) (iblk m c 3 t) (iblk m c 4 t) s.dbq s.dbkv s.dsink s.carry s.bias

/-- The state after a point of this case. -/
def stC (c : Dev nD) (t : Fin cfg0.N) (h : t.val = 32) (s : St F) : St F where
  dq := s.dq
  dkv := outC_7 c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (Memref.whole cc0_scratch0) (Memref.isWhole_whole _) (Memref.whole cc0_scratch1) (Memref.isWhole_whole _) (fun e => absurd ((hcond1 t).mp e) (by omega)) (fun e => absurd ((hcond2 t).mp e) (by omega)) ((hcond4 t).mpr (by omega)) s.dbkv s.carry
  dbq := s.dbq
  dbkv := outC_9 c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (Memref.whole cc0_scratch0) (Memref.isWhole_whole _) (Memref.whole cc0_scratch1) (Memref.isWhole_whole _) (fun e => absurd ((hcond1 t).mp e) (by omega)) (fun e => absurd ((hcond2 t).mp e) (by omega)) ((hcond4 t).mpr (by omega)) s.dbkv s.carry
  dsink := s.dsink
  carry := s.carry
  bias := s.bias

/-- THE RECURSION: what the written buffers hold after each point. -/
def st (c : Dev nD) : (n : ℕ) → n < cfg0.N → St F
  | 0, hn => stA m c ⟨0, hn⟩ rfl
  | n + 1, hn =>
    if h : n + 1 < 32 then stB m c ⟨n + 1, hn⟩ ⟨Nat.succ_pos n, h⟩ (st c n (Nat.lt_of_succ_lt hn))
    else stC c ⟨n + 1, hn⟩ (by have := N33; show n + 1 = 32; omega) (st c n (Nat.lt_of_succ_lt hn))

theorem st_A (c : Dev nD) (t : Fin cfg0.N) (h : t.val = 0) : st m c t.val t.isLt = stA m c t h := by
  obtain ⟨n, hn⟩ := t; dsimp only at h; subst h; rfl
theorem st_B (c : Dev nD) (t : Fin cfg0.N) (h : 0 < t.val ∧ t.val < 32) :
    st m c t.val t.isLt = stB m c t h (st m c (t.val - 1) (Nat.lt_of_le_of_lt (Nat.sub_le _ _) t.isLt)) := by
  obtain ⟨n, hn⟩ := t
  cases n with
  | zero => exact absurd h.1 (Nat.lt_irrefl 0)
  | succ n => exact (dif_pos h.2).trans rfl
theorem st_C (c : Dev nD) (t : Fin cfg0.N) (h : t.val = 32) :
    st m c t.val t.isLt = stC c t h (st m c (t.val - 1) (Nat.lt_of_le_of_lt (Nat.sub_le _ _) t.isLt)) := by
  obtain ⟨n, hn⟩ := t
  cases n with
  | zero => dsimp only at h; omega
  | succ n => exact (dif_neg (by dsimp only at h; omega)).trans rfl

/-! ## The pipeline's proof data -/

/-- The invariant before point `n`: at the first nothing is known of the two scratch buffers; later they hold what
    the point before left. -/
def PhiN (c : Dev nD) : ℕ → sProp 𝕄
  | 0 => Pipeline.ΦA spec0 c
  | n + 1 => if h : n < cfg0.N then
      iprop(owns (c : Thread nD τ) (Memref.whole cc0_scratch0 : Memref sig .tc .vmem S128x256 .f32) fullShare (st m c n h).carry
        ∗ owns (c : Thread nD τ) (Memref.whole cc0_scratch1 : Memref sig .tc .vmem S256x1024 .f32) fullShare (st m c n h).bias
        ∗ ∃ r, prngReg c r) else Pipeline.ΦA spec0 c

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => (st m c t.val t.isLt).dq
    | ⟨6, _⟩ => (st m c t.val t.isLt).dkv
    | ⟨7, _⟩ => (st m c t.val t.isLt).dbq
    | ⟨8, _⟩ => (st m c t.val t.isLt).dbkv
    | ⟨9, _⟩ => (st m c t.val t.isLt).dsink
  Φ t := PhiN m c t.val
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = X0_1 m c t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (st m c t.val t.isLt).dq := by dsimp only [dats]
theorem after6 (c : Dev nD) (t : Fin cfg0.N) : (dats m 0 c).after 6 t = (st m c t.val t.isLt).dkv := by dsimp only [dats]
theorem after7 (c : Dev nD) (t : Fin cfg0.N) : (dats m 0 c).after 7 t = (st m c t.val t.isLt).dbq := by dsimp only [dats]
theorem after8 (c : Dev nD) (t : Fin cfg0.N) : (dats m 0 c).after 8 t = (st m c t.val t.isLt).dbkv := by dsimp only [dats]
theorem after9 (c : Dev nD) (t : Fin cfg0.N) : (dats m 0 c).after 9 t = (st m c t.val t.isLt).dsink := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = X0_1 m c t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The windows no store reaches at the last point -/

theorem idle_lt : ∀ t : Fin cfg0.N, t.val < 32 → ∀ w : Fin 10, cfg0.idle w (cfg0.grid.coords t) = false :=
  (by decide +kernel : ∀ t : Fin grid0.N, t.val < 32 → ∀ w : Fin 10, idle0 w (grid0.coords t) = false)
theorem idle_last : ∀ t : Fin cfg0.N, t.val = 32 → ∀ w : Fin 10, cfg0.idle w (cfg0.grid.coords t) = decide (w.val = 5 ∨ w.val = 7 ∨ w.val = 9) :=
  (by decide +kernel : ∀ t : Fin grid0.N, t.val = 32 → ∀ w : Fin 10, idle0 w (grid0.coords t) = decide (w.val = 5 ∨ w.val = 7 ∨ w.val = 9))
theorem flush5_last : ∀ t : Fin cfg0.N, t.val = 32 → (cfg0.win 5).flush t = true :=
  (by decide +kernel : ∀ t : Fin grid0.N, t.val = 32 → win0_5.flush t = true)
/-- The query gradient's window is not written back at the point before the last. -/
theorem noflush5 : ∀ t : Fin cfg0.N, t.val = 31 → (cfg0.win 5).flush t = false :=
  (by decide +kernel : ∀ t : Fin grid0.N, t.val = 31 → win0_5.flush t = false)
theorem fresh_pos (w : Fin 10) (t : Fin cfg0.N) (h : 0 < t.val) (hf : (cfg0.win w).flush ⟨t.val - 1, Nat.lt_of_le_of_lt (Nat.sub_le _ _) t.isLt⟩ = false) :
    cfg0.fresh w t.val = false := by
  obtain ⟨n, hn⟩ := t
  cases n with
  | zero => exact absurd h (Nat.lt_irrefl 0)
  | succ n =>
    show cfg0.fresh w (n + 1) = false
    have hN := N33
    rw [Pipeline.Cfg.fresh_succ cfg0 w n (Nat.lt_of_succ_lt hn), idle_lt ⟨n, Nat.lt_of_succ_lt hn⟩ (by show n < 32; omega) w]
    rw [show (cfg0.win w).flush ⟨n, Nat.lt_of_succ_lt hn⟩ = false from hf]; rfl
theorem idle_val (w : Fin 10) (t : Fin cfg0.N) (h : cfg0.idle w (cfg0.grid.coords t) = true) : t.val = 32 ∧ (w.val = 5 ∨ w.val = 7 ∨ w.val = 9) := by
  have hN : t.val < 33 := lt_of_lt_of_eq t.isLt N33
  by_cases h1 : t.val < 32
  · rw [idle_lt t h1 w] at h; exact absurd h Bool.false_ne_true
  · have h2 : t.val = 32 := by omega
    rw [idle_last t h2 w] at h; exact ⟨h2, of_decide_eq_true h⟩
theorem before5 (c : Dev nD) (t : Fin cfg0.N) (h : t.val = 32) (d) :
    (dats m 0 c).before 5 t d = (st m c (t.val - 1) (Nat.lt_of_le_of_lt (Nat.sub_le _ _) t.isLt)).dq := by
  have hN : t.val < 33 := lt_of_lt_of_eq t.isLt N33
  rw [(dats m 0 c).before_out_traj 5 rfl (fun _ _ => rfl) (fun t _ hi _ => by rw [after5, after5, st_C m c t (idle_val 5 t hi).1]; rfl) t.val t rfl d,
    fresh_pos 5 t (by omega) (noflush5 _ (by show t.val - 1 = 31; omega)), if_neg Bool.false_ne_true, after5]
theorem before7 (c : Dev nD) (t : Fin cfg0.N) (h : 0 < t.val) (d) :
    (dats m 0 c).before 7 t d = (st m c (t.val - 1) (Nat.lt_of_le_of_lt (Nat.sub_le _ _) t.isLt)).dbq := by
  have hN : t.val < 33 := lt_of_lt_of_eq t.isLt N33
  rw [(dats m 0 c).before_out_traj 7 rfl (fun _ _ => rfl) (fun t _ hi _ => by rw [after7, after7, st_C m c t (idle_val 7 t hi).1]; rfl) t.val t rfl d,
    fresh_pos 7 t (by omega) (Bool.eq_false_iff.mpr fun h => by have := (flush0_7 _).mp h; dsimp only at this; omega), if_neg Bool.false_ne_true, after7]
theorem before8 (c : Dev nD) (t : Fin cfg0.N) (h : 0 < t.val) (d) :
    (dats m 0 c).before 8 t d = (st m c (t.val - 1) (Nat.lt_of_le_of_lt (Nat.sub_le _ _) t.isLt)).dbkv := by
  have hN : t.val < 33 := lt_of_lt_of_eq t.isLt N33
  rw [(dats m 0 c).before_out_traj 8 rfl (fun _ _ => rfl) (fun t _ hi _ => absurd (idle_val 8 t hi).2 (by decide)) t.val t rfl d,
    fresh_pos 8 t (by omega) (Bool.eq_false_iff.mpr fun h => by have := (flush0_8 _).mp h; dsimp only at this; omega), if_neg Bool.false_ne_true, after8]
theorem before9 (c : Dev nD) (t : Fin cfg0.N) (h : 0 < t.val) (d) :
    (dats m 0 c).before 9 t d = (st m c (t.val - 1) (Nat.lt_of_le_of_lt (Nat.sub_le _ _) t.isLt)).dsink := by
  have hN : t.val < 33 := lt_of_lt_of_eq t.isLt N33
  rw [(dats m 0 c).before_out_traj 9 rfl (fun _ _ => rfl) (fun t _ hi _ => by rw [after9, after9, st_C m c t (idle_val 9 t hi).1]; rfl) t.val t rfl d,
    fresh_pos 9 t (by omega) (Bool.eq_false_iff.mpr fun h => by have := (flush0_9 _).mp h; dsimp only at this; omega), if_neg Bool.false_ne_true, after9]

theorem Phi_zero (c : Dev nD) (t : Fin cfg0.N) (h : t.val = 0) : (dats m 0 c).Φ t.castSucc = Pipeline.ΦA spec0 c := by
  show PhiN m c t.val = _; rw [h]; rfl
theorem Phi_pos (c : Dev nD) (t : Fin cfg0.N) (h : 0 < t.val) : (dats m 0 c).Φ t.castSucc
    = iprop(owns (c : Thread nD τ) (Memref.whole cc0_scratch0 : Memref sig .tc .vmem S128x256 .f32) fullShare (st m c (t.val - 1) (Nat.lt_of_le_of_lt (Nat.sub_le _ _) t.isLt)).carry
        ∗ owns (c : Thread nD τ) (Memref.whole cc0_scratch1 : Memref sig .tc .vmem S256x1024 .f32) fullShare (st m c (t.val - 1) (Nat.lt_of_le_of_lt (Nat.sub_le _ _) t.isLt)).bias
        ∗ ∃ r, prngReg c r) := by
  obtain ⟨n, hn⟩ := t
  cases n with
  | zero => exact absurd h (Nat.lt_irrefl 0)
  | succ n => exact dif_pos (Nat.lt_of_succ_lt hn)
theorem Phi_succ (c : Dev nD) (t : Fin cfg0.N) : (dats m 0 c).Φ t.succ
    = iprop(owns (c : Thread nD τ) (Memref.whole cc0_scratch0 : Memref sig .tc .vmem S128x256 .f32) fullShare (st m c t.val t.isLt).carry
        ∗ owns (c : Thread nD τ) (Memref.whole cc0_scratch1 : Memref sig .tc .vmem S256x1024 .f32) fullShare (st m c t.val t.isLt).bias
        ∗ ∃ r, prngReg c r) := dif_pos t.isLt

/-- The class's invariant, its two scratch buffers as owned memrefs. -/
theorem PhiA_eq (c : Dev nD) : (Pipeline.ΦA (Val := Elt F) (U := UR sig nD τ) spec0 c : sProp 𝕄)
    = iprop(((∃ X, owns (c : Thread nD τ) (Memref.whole cc0_scratch0 : Memref sig .tc .vmem S128x256 .f32) fullShare X)
        ∗ (∃ X, owns (c : Thread nD τ) (Memref.whole cc0_scratch1 : Memref sig .tc .vmem S256x1024 .f32) fullShare X))
        ∗ ∃ r, prngReg c r) := by
  unfold Pipeline.ΦA
  rw [scopedRest0_eq, (Memref.isWhole_whole cc0_scratch0).exists_owns_eq fullShare, (Memref.isWhole_whole cc0_scratch1).exists_owns_eq fullShare]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1600000 in
theorem sound_A (c : Dev nD) (t : Fin cfg0.N) (h : t.val = 0) :
    bodyPre m c t ⊢ wp frame (wpE (defs₀ (F := F)) Variants.none c none) Set.univ (bodyAt0 t) (fun _ => bodyPost m c t) := by
    unfold bodyPre bodyPost bodyAt0
    simp only [before0, before1, before2, before3, before4]
    rw [Phi_zero m c t h, Phi_succ, PhiA_eq,
      show (dats m 0 c).owesAt () t.succ = (dats m 0 c).owesAt () t.castSucc from rfl,
      after0, after1, after2, after3, after4, after5, after6, after7, after8, after9]
    rw [st_A m c t h]
    unfold stA stOfA outA_6 outA_7 outA_8 outA_9 outA_10 outA_11 outA_12; (try dsimp only)
    iintro ⟨⟨⟨⟨%d10, H11⟩, ⟨%d11, H12⟩⟩, HP⟩, Ho, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩⟩
    iapply ((runA c (grid0.coords t) _ _ _ _ _ _ _ _ _ _ _ _ _ _ _ _ _ _ _ _ _ _ _ _ ((hcond1 t).mpr h) ((hcond2 t).mpr (by omega)) (fun e => absurd ((hcond3 t).mp e) (by omega)) (fun e => absurd ((hcond4 t).mp e) (by omega)) (iblk m c 0 t) (X0_1 m c t) (iblk m c 2 t) (iblk m c 3 t) (iblk m c 4 t)).2.2.2.2.2.2.2 Set.univ _)
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iintro ⟨H1, H2, H3, H4, H5, ⟨%e6, H6⟩, ⟨%e7, H7⟩, ⟨%e8, H8⟩, ⟨%e9, H9⟩, ⟨%e10, H10⟩, ⟨%e11, H11⟩, ⟨%e12, H12⟩⟩
    isplitl [H11 H12 HP]
    · isplitl [H11]
      · unfold owns; iexists _; isplitr
        swap; · iexact H11
        ipureintro; exact View.read_writes_of_cover _ _ _ _ _ (by apply coverA_11)
      isplitl [H12]
      · unfold owns; iexists _; isplitr
        swap; · iexact H12
        ipureintro; exact View.read_writes_of_cover _ _ _ _ _ (by apply coverA_12)
      iexact HP
    isplitl [Ho]; · iexact Ho
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (by apply coverA_6)
    isplitl [H7]
    · unfold owns; iexists _; isplitr
      swap; · iexact H7
      ipureintro; exact View.read_writes_of_cover _ _ _ _ _ (by apply coverA_7)
    isplitl [H8]
    · unfold owns; iexists _; isplitr
      swap; · iexact H8
      ipureintro; exact View.read_writes_of_cover _ _ _ _ _ (by apply coverA_8)
    isplitl [H9]
    · unfold owns; iexists _; isplitr
      swap; · iexact H9
      ipureintro; exact View.read_writes_of_cover _ _ _ _ _ (by apply coverA_9)
    unfold owns; iexists _; isplitr
    swap; · iexact H10
    ipureintro; exact View.read_writes_of_cover _ _ _ _ _ (by apply coverA_10)

set_option maxHeartbeats 1600000 in
theorem sound_B (c : Dev nD) (t : Fin cfg0.N) (h : 0 < t.val ∧ t.val < 32) :
    bodyPre m c t ⊢ wp frame (wpE (defs₀ (F := F)) Variants.none c none) Set.univ (bodyAt0 t) (fun _ => bodyPost m c t) := by
    unfold bodyPre bodyPost bodyAt0
    simp only [before0, before1, before2, before3, before4, before7 m c t h.1, before8 m c t h.1, before9 m c t h.1]
    rw [Phi_pos m c t h.1, Phi_succ,
      show (dats m 0 c).owesAt () t.succ = (dats m 0 c).owesAt () t.castSucc from rfl,
      after0, after1, after2, after3, after4, after5, after6, after7, after8, after9]
    rw [st_B m c t h]
    unfold stB stOfB outB_6 outB_7 outB_8 outB_9 outB_10 outB_11; (try dsimp only)
    iintro ⟨⟨H11, H12, HP⟩, Ho, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩⟩
    iapply ((runB c (grid0.coords t) _ _ _ _ _ _ _ _ _ _ _ _ _ _ _ _ _ _ _ _ _ _ _ _ (fun e => absurd ((hcond1 t).mp e) (by omega)) ((hcond2 t).mpr (by omega)) ((hcond3 t).mpr (by omega)) (fun e => absurd ((hcond4 t).mp e) (by omega)) (iblk m c 0 t) (X0_1 m c t) (iblk m c 2 t) (iblk m c 3 t) (iblk m c 4 t) _ _ _ _ _).2.2.2.2.2.2 Set.univ _)
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    isplitl [H9]; · iexact H9
    isplitl [H10]; · iexact H10
    isplitl [H11]; · iexact H11
    isplitl [H12]; · iexact H12
    iintro ⟨H1, H2, H3, H4, H5, ⟨%e6, H6⟩, ⟨%e7, H7⟩, ⟨%e8, H8⟩, ⟨%e9, H9⟩, ⟨%e10, H10⟩, ⟨%e11, H11⟩, H12⟩
    isplitl [H11 H12 HP]
    · isplitl [H11]
      · unfold owns; iexists _; isplitr
        swap; · iexact H11
        ipureintro; exact View.read_writes_of_cover _ _ _ _ _ (by apply coverB_11)
      isplitl [H12]
      · iexact H12
      iexact HP
    isplitl [Ho]; · iexact Ho
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (by apply coverB_6)
    isplitl [H7]
    · unfold owns; iexists _; isplitr
      swap; · iexact H7
      ipureintro; exact View.read_writes_of_cover _ _ _ _ _ (by apply coverB_7)
    isplitl [H8]
    · unfold owns; iexists _; isplitr
      swap; · iexact H8
      ipureintro; exact View.read_writes_of_cover _ _ _ _ _ (by apply coverB_8)
    isplitl [H9]
    · unfold owns; iexists _; isplitr
      swap; · iexact H9
      ipureintro; exact View.read_writes_of_cover _ _ _ _ _ (by apply coverB_9)
    unfold owns; iexists _; isplitr
    swap; · iexact H10
    ipureintro; exact View.read_writes_of_cover _ _ _ _ _ (by apply coverB_10)

set_option maxHeartbeats 1600000 in
theorem sound_C (c : Dev nD) (t : Fin cfg0.N) (h : t.val = 32) :
    bodyPre m c t ⊢ wp frame (wpE (defs₀ (F := F)) Variants.none c none) Set.univ (bodyAt0 t) (fun _ => bodyPost m c t) := by
    have h0 : 0 < t.val := by omega
    unfold bodyPre bodyPost bodyAt0
    simp only [before0, before1, before2, before3, before4, before5 m c t h, before7 m c t h0, before8 m c t h0, before9 m c t h0]
    rw [Phi_pos m c t h0, Phi_succ,
      show (dats m 0 c).owesAt () t.succ = (dats m 0 c).owesAt () t.castSucc from rfl,
      after0, after1, after2, after3, after4, after5, after6, after7, after8, after9]
    rw [st_C m c t h]
    unfold stC outC_7 outC_9; (try dsimp only)
    iintro ⟨⟨H11, H12, HP⟩, Ho, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩⟩
    iapply ((runC c (grid0.coords t) _ _ _ _ _ _ _ _ _ _ _ _ _ _ _ _ _ _ _ _ _ _ _ _ (fun e => absurd ((hcond1 t).mp e) (by omega)) (fun e => absurd ((hcond2 t).mp e) (by omega)) ((hcond4 t).mpr (by omega)) _ _).2.2 Set.univ _)
    isplitl [H7]; · iexists _; iexact H7
    isplitl [H9]; · iexact H9
    isplitl [H11]; · iexact H11
    iintro ⟨⟨%e7, H7⟩, ⟨%e9, H9⟩, H11⟩
    isplitl [H11 H12 HP]
    · isplitl [H11]
      · iexact H11
      isplitl [H12]
      · iexact H12
      iexact HP
    isplitl [Ho]; · iexact Ho
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (by apply coverC_7)
    isplitl [H8]; · iexact H8
    isplitl [H9]
    · unfold owns; iexists _; isplitr
      swap; · iexact H9
      ipureintro; exact View.read_writes_of_cover _ _ _ _ _ (by apply coverC_9)
    iexact H10

theorem sound_body (c : Dev nD) (t : Fin cfg0.N) :
    bodyPre m c t ⊢ wp frame (wpE (defs₀ (F := F)) Variants.none c none) Set.univ (bodyAt0 t) (fun _ => bodyPost m c t) := by
  have hN : t.val < 33 := lt_of_lt_of_eq t.isLt N33
  by_cases h0 : t.val = 0
  · exact sound_A m c t h0
  · by_cases h1 : t.val < 32
    · exact sound_B m c t ⟨by omega, h1⟩
    · exact sound_C m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  have hN : t.val < 33 := lt_of_lt_of_eq t.isLt N33
  by_cases h : t.val < 32
  · rw [idle_lt t h 5]; rw [idle_lt t h 6]; try rw [idle_lt t h 7]
    try rw [idle_lt t h 8]
    try rw [idle_lt t h 9]
    exact triple_restated (sound_body m c t) rfl .rfl fun _ => .rfl
  · have h : t.val = 32 := by omega
    rw [idle_last t h 5, idle_last t h 6]; try rw [idle_last t h 7]
    try rw [idle_last t h 8]
    try rw [idle_last t h 9]
    rw [flush5_last t h]; rw [(flush0_7 t).mpr (by omega)]
    try rw [(flush0_9 t).mpr (by omega)]
    exact triple_restated (sound_body m c t) rfl .rfl fun _ => .rfl

/-! ## The run and the frame -/

theorem enter (c : Dev nD) : (Pipeline.ΦA (cfgs 0).spec c : sProp 𝕄) ⊢ (dats m 0 c).Φ 0 := .rfl
theorem leave (c : Dev nD) : (dats m 0 c).Φ (Fin.last (cfgs 0).N) ⊢ (Pipeline.ΦA (cfgs 0).spec c : sProp 𝕄) := by
  show PhiN m c cfg0.N ⊢ (Pipeline.ΦA spec0 c : sProp 𝕄)
  rw [PhiA_eq, show PhiN m c cfg0.N = PhiN m c (32 + 1) from congrArg _ N33,
    show PhiN m c (32 + 1) = _ from Phi_succ m c ⟨32, by rw [N33]; decide⟩]
  iintro ⟨H0, H1, HP⟩
  isplitl [H0 H1]
  · isplitl [H0]
    · iexists _; iexact H0
    iexists _; iexact H1
  iexact HP

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_main_quiescent m ρ)

/-- THE FRAME: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.AttnIdeal.Hand

end
-- ==== Proof.AttWordsA.lean ====
/-
  What the body computes at the first point: its named values are the block's.
-/
module

public import proofs.«01_k».proof.Proof.AttBlock
public import proofs.«01_k».proof.Proof.AttnIdealHand
public import Idealize.ShloMosaic.Lib.Pipeline.Value
public import Idealize.ShloMosaic.Lib.Tactic

@[expose] public section

set_option maxRecDepth 16384

noncomputable section

namespace Cert.Att.A

open Idealize.ShloMosaic Idealize.ShloMosaic.TcCoe Idealize.ShloMosaic.Tactic
open Idealize.SL Idealize.SL.Sem
open Cert.AttnIdeal Cert.AttnIdeal.Gen Cert.AttnIdeal.Hand

variable {F : FTy → Type} [FloatOps F]

theorem hz : (![0, 0] : Fin 2 → Nat) = fun _ => 0 := funext fun a => by fin_cases a <;> rfl

omit [FloatOps F] in
theorem ldz {p q : ℕ} {e : EltTy} (inb : ∀ a : Fin 2, ![0, 0] a + ![p, q] a ≤ ![p, q] a) (X : Vec F ⟨2, ![p, q]⟩ e) :
    View.ld X (Rect.unit ![0, 0] ![p, q] inb) = X := View.ld_unit_zero (S := ⟨2, ![p, q]⟩) hz inb X

variable (c : Dev nD) (i : grid0.Coords) (arg1 : Memref sig .tc .smem S1x16 .f32) (harg1 : arg1.IsWhole) (arg2 : Memref sig .tc .vmem S128x1024 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x1024 .bf16) (harg5 : arg5.IsWhole) (arg12 : Memref sig .tc .vmem S256x1024 .f32) (x1 : Vec F S1x16 .f32) (x2 : Vec F S128x1024 .bf16) (x3 : Vec F S128x256 .bf16) (x4 : Vec F S128x256 .bf16) (x5 : Vec F S128x1024 .bf16)

theorem w_r_1 :
    runA.sl.r_1 (F := F) c arg3 harg3 arg4 harg4 x3 x4 = K0 x4 x3 := by
  simp only [runA.sl.r_1, runA.sl.v126, runA.sl.H12_1, View.readAt_eq_ld, harg3.read_unread, harg4.read_unread, shapeCast_self, ldz, View.readCov_unit_zero (S := S256x1024) _ hz]
  rfl

theorem w_r_2 :
    runA.sl.r_2 (F := F) c arg3 harg3 arg4 harg4 x3 x4 = V0 x4 x3 := by
  simp only [runA.sl.r_2, runA.sl.v126, runA.sl.H12_1, View.readAt_eq_ld, harg3.read_unread, harg4.read_unread, shapeCast_self, ldz, View.readCov_unit_zero (S := S256x1024) _ hz]
  rfl

theorem w_r_42 :
    runA.sl.r_42 (F := F) c arg3 harg3 arg4 harg4 x3 x4 = K1 x4 x3 := by
  simp only [runA.sl.r_42, runA.sl.r, runA.sl.r_40, runA.sl.r_41, runA.sl.v126, runA.sl.H12_1, View.readAt_eq_ld, harg3.read_unread, harg4.read_unread, shapeCast_self, ldz, View.readCov_unit_zero (S := S256x1024) _ hz]
  rfl

theorem w_r_43 :
    runA.sl.r_43 (F := F) c arg3 harg3 arg4 harg4 x3 x4 = V1 x4 x3 := by
  simp only [runA.sl.r_43, runA.sl.r, runA.sl.v126, runA.sl.H12_1, View.readAt_eq_ld, harg3.read_unread, harg4.read_unread, shapeCast_self, ldz, View.readCov_unit_zero (S := S256x1024) _ hz]
  rfl

theorem w_r_7 :
    runA.sl.r_7 (F := F) c arg2 harg2 x2 = sq0 x2 := by
  simp only [runA.sl.r_7, runA.sl.r_3, runA.sl.r_4, runA.sl.r_5, runA.sl.r_6, runA.sl.v126, runA.sl.H12_1, View.readAt_eq_ld, harg2.read_unread, shapeCast_self, ldz, View.readCov_unit_zero (S := S256x1024) _ hz]
  rfl

theorem w_r_18 :
    runA.sl.r_18 (F := F) c arg5 harg5 x5 = sq0 x5 := by
  simp only [runA.sl.r_18, runA.sl.r_8, runA.sl.r_9, runA.sl.r_10, runA.sl.r_11, runA.sl.v126, runA.sl.H12_1, View.readAt_eq_ld, harg5.read_unread, shapeCast_self, ldz, View.readCov_unit_zero (S := S256x1024) _ hz]
  rfl

theorem w_r_51 :
    runA.sl.r_51 (F := F) c arg2 harg2 x2 = sq1 x2 := by
  simp only [runA.sl.r_51, runA.sl.r_44, runA.sl.r_45, runA.sl.r_46, runA.sl.r_47, runA.sl.r_48, runA.sl.r_49, runA.sl.r_50, runA.sl.v126, runA.sl.H12_1, View.readAt_eq_ld, harg2.read_unread, shapeCast_self, ldz, View.readCov_unit_zero (S := S256x1024) _ hz]
  rfl

theorem w_r_66 :
    runA.sl.r_66 (F := F) c arg5 harg5 x5 = sq1 x5 := by
  simp only [runA.sl.r_66, runA.sl.r_52, runA.sl.r_53, runA.sl.r_54, runA.sl.r_55, runA.sl.r_56, runA.sl.r_57, runA.sl.v126, runA.sl.H12_1, View.readAt_eq_ld, harg5.read_unread, shapeCast_self, ldz, View.readCov_unit_zero (S := S256x1024) _ hz]
  rfl

theorem w_r_67 :
    runA.sl.r_67 (F := F) c arg1 harg1 x1 = sk8 x1 := by
  simp only [runA.sl.r_67, runA.sl.r_58, runA.sl.r_59, runA.sl.r_60, runA.sl.r_61, runA.sl.r_62, runA.sl.r_63, runA.sl.r_64, runA.sl.r_65, runA.sl.v126, runA.sl.H12_1, View.readAt_eq_ld, harg1.read_unread, shapeCast_self, ldz, View.readCov_unit_zero (S := S256x1024) _ hz]
  rfl

theorem w_r_27 :
    runA.sl.r_27 (F := F) c i arg1 harg1 arg2 harg2 arg3 harg3 arg4 harg4 arg12 x1 x2 x3 x4 = P0 (BitVec.ofNat 32 (i 0).val) x1 x2 x3 x4 k0_pay6 := by
  simp only [runA.sl.r_27, runA.sl.r_12, runA.sl.r_13, runA.sl.r_14, runA.sl.r_15, runA.sl.r_16, runA.sl.r_17, runA.sl.r_19, runA.sl.r_20, runA.sl.r_21, runA.sl.r_22, runA.sl.r_23, runA.sl.r_24, runA.sl.r_25, runA.sl.r_26, runA.sl.v126, runA.sl.H12_1, w_r_1, w_r_7, View.readAt_eq_ld, harg1.read_unread, harg2.read_unread, harg3.read_unread, harg4.read_unread, shapeCast_self, ldz, View.readCov_unit_zero (S := S256x1024) _ hz]
  rfl

theorem w_r_28 :
    runA.sl.r_28 (F := F) c i arg1 harg1 arg2 harg2 arg3 harg3 arg4 harg4 arg5 harg5 arg12 x1 x2 x3 x4 x5 = D0 (BitVec.ofNat 32 (i 0).val) x1 x2 x3 x4 x5 k0_pay6 := by
  simp only [runA.sl.r_28, runA.sl.r_12, runA.sl.r_13, runA.sl.r_14, runA.sl.r_15, runA.sl.r_16, runA.sl.r_17, runA.sl.r_19, runA.sl.r_20, runA.sl.r_21, runA.sl.r_22, runA.sl.r_23, runA.sl.r_24, runA.sl.r_25, runA.sl.r_26, runA.sl.v126, runA.sl.H12_1, w_r_1, w_r_2, w_r_7, w_r_18, View.readAt_eq_ld, harg1.read_unread, harg2.read_unread, harg3.read_unread, harg4.read_unread, harg5.read_unread, shapeCast_self, ldz, View.readCov_unit_zero (S := S256x1024) _ hz]
  rfl

theorem w_r_29 :
    runA.sl.r_29 (F := F) c i arg1 harg1 arg2 harg2 arg3 harg3 arg4 harg4 arg5 harg5 arg12 x1 x2 x3 x4 x5 = E0 (BitVec.ofNat 32 (i 0).val) x1 x2 x3 x4 x5 k0_pay6 := by
  simp only [runA.sl.r_29, runA.sl.r_12, runA.sl.r_13, runA.sl.r_14, runA.sl.r_15, runA.sl.r_16, runA.sl.r_17, runA.sl.r_19, runA.sl.r_20, runA.sl.r_21, runA.sl.r_22, runA.sl.r_23, runA.sl.r_24, runA.sl.r_25, runA.sl.r_26, runA.sl.v126, runA.sl.H12_1, w_r_1, w_r_2, w_r_7, w_r_18, View.readAt_eq_ld, harg1.read_unread, harg2.read_unread, harg3.read_unread, harg4.read_unread, harg5.read_unread, shapeCast_self, ldz, View.readCov_unit_zero (S := S256x1024) _ hz]
  rfl

theorem w_r_70 :
    runA.sl.r_70 (F := F) c i arg1 harg1 arg2 harg2 arg3 harg3 arg4 harg4 arg12 x1 x2 x3 x4 = P1 (BitVec.ofNat 32 (i 0).val) x1 x2 x3 x4 k0_pay6 := by
  simp only [runA.sl.r_70, runA.sl.r_68, runA.sl.v432, runA.sl.r_69, runA.sl.v126, runA.sl.H12_1, w_r_67, w_r_42, w_r_51, View.readAt_eq_ld, harg1.read_unread, harg2.read_unread, harg3.read_unread, harg4.read_unread, shapeCast_self, ldz, View.readCov_unit_zero (S := S256x1024) _ hz]
  rfl

theorem w_r_71 :
    runA.sl.r_71 (F := F) c i arg1 harg1 arg2 harg2 arg3 harg3 arg4 harg4 arg5 harg5 arg12 x1 x2 x3 x4 x5 = D1 (BitVec.ofNat 32 (i 0).val) x1 x2 x3 x4 x5 k0_pay6 := by
  simp only [runA.sl.r_71, runA.sl.r_68, runA.sl.v432, runA.sl.r_69, runA.sl.v126, runA.sl.H12_1, w_r_43, w_r_66, w_r_67, w_r_42, w_r_51, View.readAt_eq_ld, harg1.read_unread, harg2.read_unread, harg3.read_unread, harg4.read_unread, harg5.read_unread, shapeCast_self, ldz, View.readCov_unit_zero (S := S256x1024) _ hz]
  rfl

theorem w_r_72 :
    runA.sl.r_72 (F := F) c i arg1 harg1 arg2 harg2 arg3 harg3 arg4 harg4 arg5 harg5 arg12 x1 x2 x3 x4 x5 = E1 (BitVec.ofNat 32 (i 0).val) x1 x2 x3 x4 x5 k0_pay6 := by
  simp only [runA.sl.r_72, runA.sl.r_68, runA.sl.v432, runA.sl.r_69, runA.sl.v126, runA.sl.H12_1, w_r_43, w_r_66, w_r_67, w_r_42, w_r_51, View.readAt_eq_ld, harg1.read_unread, harg2.read_unread, harg3.read_unread, harg4.read_unread, harg5.read_unread, shapeCast_self, ldz, View.readCov_unit_zero (S := S256x1024) _ hz]
  rfl

theorem w_r_34 :
    runA.sl.r_34 (F := F) c i arg1 harg1 arg2 harg2 arg3 harg3 arg4 harg4 arg5 harg5 arg12 x1 x2 x3 x4 x5 = lanes0 k0_pay11 (E0 (BitVec.ofNat 32 (i 0).val) x1 x2 x3 x4 x5 k0_pay6) := by
  simp only [runA.sl.r_34, runA.sl.r_30, runA.sl.r_31, runA.sl.r_32, runA.sl.r_33, runA.sl.cst_100, runA.sl.r_12, runA.sl.r_13, runA.sl.r_14, runA.sl.r_15, runA.sl.r_16, runA.sl.r_17, runA.sl.r_19, runA.sl.r_20, runA.sl.r_21, runA.sl.r_22, runA.sl.r_23, runA.sl.r_24, runA.sl.r_25, runA.sl.r_26, runA.sl.v126, runA.sl.H12_1, w_r_29, w_r_1, w_r_2, w_r_7, w_r_18, View.readAt_eq_ld, harg1.read_unread, harg2.read_unread, harg3.read_unread, harg4.read_unread, harg5.read_unread, shapeCast_self, ldz, View.readCov_unit_zero (S := S256x1024) _ hz]
  rfl

theorem w_r_76 :
    runA.sl.r_76 (F := F) c i arg1 harg1 arg2 harg2 arg3 harg3 arg4 harg4 arg5 harg5 arg12 x1 x2 x3 x4 x5 = lanes (E0 (BitVec.ofNat 32 (i 0).val) x1 x2 x3 x4 x5 k0_pay6) (E1 (BitVec.ofNat 32 (i 0).val) x1 x2 x3 x4 x5 k0_pay6) := by
  simp only [runA.sl.r_76, runA.sl.r_73, runA.sl.r_74, runA.sl.r_75, runA.sl.r_68, runA.sl.v432, runA.sl.r_69, runA.sl.v126, runA.sl.H12_1, w_r_34, w_r_72, w_r_43, w_r_66, w_r_67, w_r_42, w_r_51, View.readAt_eq_ld, harg1.read_unread, harg2.read_unread, harg3.read_unread, harg4.read_unread, harg5.read_unread, shapeCast_self, ldz, View.readCov_unit_zero (S := S256x1024) _ hz]
  rfl

theorem w_r_35 :
    runA.sl.r_35 (F := F) c i arg1 harg1 arg2 harg2 arg3 harg3 arg4 harg4 arg5 harg5 arg12 x1 x2 x3 x4 x5 = Q0 (BitVec.ofNat 32 (i 0).val) x1 x2 x3 x4 x5 k0_pay6 := by
  simp only [runA.sl.r_35, runA.sl.v126, runA.sl.H12_1, w_r_1, w_r_28, View.readAt_eq_ld, harg1.read_unread, harg2.read_unread, harg3.read_unread, harg4.read_unread, harg5.read_unread, shapeCast_self, ldz, View.readCov_unit_zero (S := S256x1024) _ hz]
  rfl

theorem w_r_77 :
    runA.sl.r_77 (F := F) c i arg1 harg1 arg2 harg2 arg3 harg3 arg4 harg4 arg5 harg5 arg12 x1 x2 x3 x4 x5 = Q1 (BitVec.ofNat 32 (i 0).val) x1 x2 x3 x4 x5 k0_pay6 := by
  simp only [runA.sl.r_77, runA.sl.v126, runA.sl.H12_1, w_r_42, w_r_71, View.readAt_eq_ld, harg1.read_unread, harg2.read_unread, harg3.read_unread, harg4.read_unread, harg5.read_unread, shapeCast_self, ldz, View.readCov_unit_zero (S := S256x1024) _ hz]
  rfl

theorem w_r_36 :
    runA.sl.r_36 (F := F) c i arg1 harg1 arg2 harg2 arg3 harg3 arg4 harg4 arg5 harg5 arg12 x1 x2 x3 x4 x5 = extractStridedSlice S128x128 ![512, 0] (Q0 (BitVec.ofNat 32 (i 0).val) x1 x2 x3 x4 x5 k0_pay6) slices_S1024x128_o512_0_S128x128 := by
  simp only [runA.sl.r_36, runA.sl.v126, runA.sl.H12_1, w_r_1, w_r_28, View.readAt_eq_ld, harg1.read_unread, harg2.read_unread, harg3.read_unread, harg4.read_unread, harg5.read_unread, shapeCast_self, ldz, View.readCov_unit_zero (S := S256x1024) _ hz]
  rfl

theorem w_r_37 :
    runA.sl.r_37 (F := F) c i arg1 harg1 arg2 harg2 arg3 harg3 arg4 harg4 arg5 harg5 arg12 x1 x2 x3 x4 x5 = extractStridedSlice S128x128 ![640, 0] (Q0 (BitVec.ofNat 32 (i 0).val) x1 x2 x3 x4 x5 k0_pay6) slices_S1024x128_o640_0_S128x128 := by
  simp only [runA.sl.r_37, runA.sl.v126, runA.sl.H12_1, w_r_1, w_r_28, View.readAt_eq_ld, harg1.read_unread, harg2.read_unread, harg3.read_unread, harg4.read_unread, harg5.read_unread, shapeCast_self, ldz, View.readCov_unit_zero (S := S256x1024) _ hz]
  rfl

theorem w_r_78 :
    runA.sl.r_78 (F := F) c i arg1 harg1 arg2 harg2 arg3 harg3 arg4 harg4 arg5 harg5 arg12 x1 x2 x3 x4 x5 = dq0 (Q1 (BitVec.ofNat 32 (i 0).val) x1 x2 x3 x4 x5 k0_pay6) := by
  simp only [runA.sl.r_78, runA.sl.v126, runA.sl.H12_1, w_r_42, w_r_71, View.readAt_eq_ld, harg1.read_unread, harg2.read_unread, harg3.read_unread, harg4.read_unread, harg5.read_unread, shapeCast_self, ldz, View.readCov_unit_zero (S := S256x1024) _ hz]
  rfl

theorem w_r_80 :
    runA.sl.r_80 (F := F) c i arg1 harg1 arg2 harg2 arg3 harg3 arg4 harg4 arg5 harg5 arg12 x1 x2 x3 x4 x5 = extractStridedSlice S128x128 ![768, 0] (Q1 (BitVec.ofNat 32 (i 0).val) x1 x2 x3 x4 x5 k0_pay6) slices_S1024x128_o768_0_S128x128 := by
  simp only [runA.sl.r_80, runA.sl.v126, runA.sl.H12_1, w_r_77, View.readAt_eq_ld, harg1.read_unread, harg2.read_unread, harg3.read_unread, harg4.read_unread, harg5.read_unread, shapeCast_self, ldz, View.readCov_unit_zero (S := S256x1024) _ hz]
  rfl

theorem w_r_38 :
    runA.sl.r_38 (F := F) c i arg1 harg1 arg2 harg2 arg3 harg3 arg4 harg4 arg5 harg5 arg12 x1 x2 x3 x4 x5 = dkk (D0 (BitVec.ofNat 32 (i 0).val) x1 x2 x3 x4 x5 k0_pay6) (sq0 x2) := by
  simp only [runA.sl.r_38, runA.sl.v126, runA.sl.H12_1, w_r_7, w_r_28, View.readAt_eq_ld, harg1.read_unread, harg2.read_unread, harg3.read_unread, harg4.read_unread, harg5.read_unread, shapeCast_self, ldz, View.readCov_unit_zero (S := S256x1024) _ hz]
  rfl

theorem w_r_39 :
    runA.sl.r_39 (F := F) c i arg1 harg1 arg2 harg2 arg3 harg3 arg4 harg4 arg5 harg5 arg12 x1 x2 x3 x4 x5 = dkk (P0 (BitVec.ofNat 32 (i 0).val) x1 x2 x3 x4 k0_pay6) (sq0 x5) := by
  simp only [runA.sl.r_39, runA.sl.v126, runA.sl.H12_1, w_r_18, w_r_27, View.readAt_eq_ld, harg1.read_unread, harg2.read_unread, harg3.read_unread, harg4.read_unread, harg5.read_unread, shapeCast_self, ldz, View.readCov_unit_zero (S := S256x1024) _ hz]
  rfl

theorem w_r_81 :
    runA.sl.r_81 (F := F) c i arg1 harg1 arg2 harg2 arg3 harg3 arg4 harg4 arg5 harg5 arg12 x1 x2 x3 x4 x5 = KVhi (BitVec.ofNat 32 (i 0).val) x1 x2 x3 x4 x5 k0_pay6 := by
  simp only [runA.sl.r_81, runA.sl.v126, runA.sl.H12_1, w_r_38, w_r_39, w_r_51, w_r_66, w_r_70, w_r_71, View.readAt_eq_ld, harg1.read_unread, harg2.read_unread, harg3.read_unread, harg4.read_unread, harg5.read_unread, shapeCast_self, ldz, View.readCov_unit_zero (S := S256x1024) _ hz]
  rfl

end Cert.Att.A

end
-- ==== Proof.AttOutA.lean ====
/-
  What the body computes at the first point: what it leaves in each buffer.
-/
module

public import proofs.«01_k».proof.Proof.AttWordsA
public import proofs.«01_k».proof.Proof.AttnIdealHand
public import Idealize.ShloMosaic.Lib.Pipeline.Value
public import Idealize.ShloMosaic.Lib.Tactic

@[expose] public section

set_option maxRecDepth 16384

noncomputable section

namespace Cert.Att.A

open Idealize.ShloMosaic Idealize.ShloMosaic.TcCoe Idealize.ShloMosaic.Tactic
open Idealize.SL Idealize.SL.Sem
open Cert.AttnIdeal Cert.AttnIdeal.Gen Cert.AttnIdeal.Hand

variable {F : FTy → Type} [FloatOps F]

variable (c : Dev nD) (i : grid0.Coords) (arg1 : Memref sig .tc .smem S1x16 .f32) (harg1 : arg1.IsWhole) (arg2 : Memref sig .tc .vmem S128x1024 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x256 .bf16) (harg7 : arg7.IsWhole) (arg8 : Memref sig .tc .vmem S1x1024 .f32) (harg8 : arg8.IsWhole) (arg9 : Memref sig .tc .vmem S1x256 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S256x1024 .f32) (harg12 : arg12.IsWhole) (hc1 : k0_cond1 i = 1#1) (hc2 : k0_cond2 i = 1#1) (hc3 : ¬ k0_cond3 i = 1#1) (hc4 : ¬ k0_cond4 i = 1#1) (x1 : Vec F S1x16 .f32) (x2 : Vec F S128x1024 .bf16) (x3 : Vec F S128x256 .bf16) (x4 : Vec F S128x256 .bf16) (x5 : Vec F S128x1024 .bf16)

set_option maxHeartbeats 1000000 in
theorem out11 :
    outA_11 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 = KVhi (BitVec.ofNat 32 (i 0).val) x1 x2 x3 x4 x5 k0_pay6 := by
  unfold outA_11
  rw [View.read_writes_eq_canon _ _ _ (coverA_11 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5)]
  unfold runA
  dsimp only
  try unfold runA.sl.H12_1
  first | rw [View.canon_cons_unit_zero hz] | rw [View.canon_unit_zero hz]
  try simp only [w_r_81] <;> rfl

set_option maxHeartbeats 1000000 in
theorem out7 :
    outA_7 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 = k0_pay5 := by
  unfold outA_7
  rw [View.read_writes_eq_canon _ _ _ (coverA_7 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5)]
  unfold runA
  dsimp only
  try unfold runA.sl.H12_1
  first | rw [View.canon_cons_unit_zero hz] | rw [View.canon_unit_zero hz]
  try simp only [w_r_1, w_r_2, w_r_42, w_r_43, w_r_7, w_r_18, w_r_51, w_r_66, w_r_67, w_r_27, w_r_28, w_r_29, w_r_70, w_r_71, w_r_72, w_r_34, w_r_76, w_r_35, w_r_77, w_r_36, w_r_37, w_r_78, w_r_80, w_r_38, w_r_39, w_r_81, View.readAt_eq_ld, harg1.read_unread, harg2.read_unread, harg3.read_unread, harg4.read_unread, harg5.read_unread, harg6.read_unread, harg7.read_unread, harg8.read_unread, harg9.read_unread, harg10.read_unread, harg11.read_unread, harg12.read_unread, runA.sl.v631, runA.sl.v641, runA.sl.H11_1, runA.sl.H10_1, View.readCov_unit_zero (S := S128x256) _ hz, View.readCov_unit_zero (S := S1x256) _ hz, View.readCov_unit_zero (S := S1x128) _ hz, shapeCast_self, View.ld_unit_zero (S := S128x256) hz, View.ld_unit_zero (S := S256x1024) hz, View.ld_unit_zero (S := S1x256) hz, View.ld_unit_zero (S := S1x128) hz] <;> rfl

set_option maxHeartbeats 1000000 in
theorem out10 :
    outA_10 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 = addl k0_pay3 (lanes (E0 (BitVec.ofNat 32 (i 0).val) x1 x2 x3 x4 x5 k0_pay6) (E1 (BitVec.ofNat 32 (i 0).val) x1 x2 x3 x4 x5 k0_pay6)) := by
  unfold outA_10
  rw [View.read_writes_eq_canon _ _ _ (coverA_10 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5)]
  unfold runA
  dsimp only
  try unfold runA.sl.H12_1
  first | rw [View.canon_cons_unit_zero hz] | rw [View.canon_unit_zero hz]
  try simp only [w_r_76, runA.sl.v641, runA.sl.H10_1, View.readCov_unit_zero (S := S1x128) _ hz] <;> rfl

set_option maxHeartbeats 1000000 in
theorem out9 :
    outA_9 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 = k0_pay2 := by
  unfold outA_9
  rw [View.read_writes_eq_canon _ _ _ (coverA_9 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5)]
  unfold runA
  dsimp only
  try unfold runA.sl.H12_1
  first | rw [View.canon_cons_unit_zero hz] | rw [View.canon_unit_zero hz]
  try simp only [w_r_1, w_r_2, w_r_42, w_r_43, w_r_7, w_r_18, w_r_51, w_r_66, w_r_67, w_r_27, w_r_28, w_r_29, w_r_70, w_r_71, w_r_72, w_r_34, w_r_76, w_r_35, w_r_77, w_r_36, w_r_37, w_r_78, w_r_80, w_r_38, w_r_39, w_r_81, View.readAt_eq_ld, harg1.read_unread, harg2.read_unread, harg3.read_unread, harg4.read_unread, harg5.read_unread, harg6.read_unread, harg7.read_unread, harg8.read_unread, harg9.read_unread, harg10.read_unread, harg11.read_unread, harg12.read_unread, runA.sl.v631, runA.sl.v641, runA.sl.H11_1, runA.sl.H10_1, View.readCov_unit_zero (S := S128x256) _ hz, View.readCov_unit_zero (S := S1x256) _ hz, View.readCov_unit_zero (S := S1x128) _ hz, shapeCast_self, View.ld_unit_zero (S := S128x256) hz, View.ld_unit_zero (S := S256x1024) hz, View.ld_unit_zero (S := S1x256) hz, View.ld_unit_zero (S := S1x128) hz] <;> rfl

set_option maxHeartbeats 1000000 in
theorem out12 :
    outA_12 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 = k0_pay6 := by
  unfold outA_12
  rw [View.read_writes_eq_canon _ _ _ (coverA_12 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5)]
  unfold runA
  dsimp only
  try unfold runA.sl.H12_1
  first | rw [View.canon_cons_unit_zero hz] | rw [View.canon_unit_zero hz]
  try simp only [w_r_1, w_r_2, w_r_42, w_r_43, w_r_7, w_r_18, w_r_51, w_r_66, w_r_67, w_r_27, w_r_28, w_r_29, w_r_70, w_r_71, w_r_72, w_r_34, w_r_76, w_r_35, w_r_77, w_r_36, w_r_37, w_r_78, w_r_80, w_r_38, w_r_39, w_r_81, View.readAt_eq_ld, harg1.read_unread, harg2.read_unread, harg3.read_unread, harg4.read_unread, harg5.read_unread, harg6.read_unread, harg7.read_unread, harg8.read_unread, harg9.read_unread, harg10.read_unread, harg11.read_unread, harg12.read_unread, runA.sl.v631, runA.sl.v641, runA.sl.H11_1, runA.sl.H10_1, View.readCov_unit_zero (S := S128x256) _ hz, View.readCov_unit_zero (S := S1x256) _ hz, View.readCov_unit_zero (S := S1x128) _ hz, shapeCast_self, View.ld_unit_zero (S := S128x256) hz, View.ld_unit_zero (S := S256x1024) hz, View.ld_unit_zero (S := S1x256) hz, View.ld_unit_zero (S := S1x128) hz] <;> rfl

set_option maxHeartbeats 1000000 in
theorem out6 :
    outA_6 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 = View.canon (cq (Q0 (BitVec.ofNat 32 (i 0).val) x1 x2 x3 x4 x5 k0_pay6) (Q1 (BitVec.ofNat 32 (i 0).val) x1 x2 x3 x4 x5 k0_pay6)) := by
  unfold outA_6
  rw [View.read_writes_eq_canon _ _ _ (coverA_6 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5)]
  unfold runA
  dsimp only
  simp only [w_r_1, w_r_28, w_r_35, w_r_77, w_r_36, w_r_37, w_r_78, w_r_80]
  rfl

/-- A tile of the row of sums that the last store did not touch. -/
theorem miss {o o' : ℕ} (ho : o + 128 ≤ o') (inb : ∀ a, (![0, o] : Fin 2 → ℕ) a + S1x128.size a ≤ S1x1024.size a)
    (inb' : ∀ a, (![0, o'] : Fin 2 → ℕ) a + S1x128.size a ≤ S1x1024.size a) (w : Vec F S1x128 .f32) (L : List (View.Piece (Elt F) S1x1024 .f32)) :
    View.ld (View.canon (⟨Rect.unit (s := S1x1024) ![0, o] S1x128.size inb, w⟩ :: L)) (Rect.unit (s := S1x1024) ![0, o'] S1x128.size inb')
      = View.ld (View.canon L) (Rect.unit (s := S1x1024) ![0, o'] S1x128.size inb') := by
  funext y
  show View.canon (⟨Rect.unit (s := S1x1024) ![0, o] S1x128.size inb, w⟩ :: L) ((Rect.unit (s := S1x1024) ![0, o'] S1x128.size inb').idx y) = View.canon L ((Rect.unit (s := S1x1024) ![0, o'] S1x128.size inb').idx y)
  refine View.canon_cons_of_not_mem _ _ ?_
  intro h
  have h1 := ((Rect.mem_set_unit (s := S1x1024) (off := ![0, o]) (size := S1x128.size) (inb := inb)).1 h 1).2
  change o' + 1 * (y 1).val < o + 128 at h1
  omega
theorem rc (v : View sig .tc .vmem S1x1024 .f32) (L : List (View.Piece (Elt F) S1x1024 .f32)) (r : Rect S1x1024) :
    v.readCov L r.toLoadRect = View.ld (View.canon L) r := by
  rw [View.readCov_eq_canon']

/-- What the first pieces already cover does not depend on the pieces after them. -/
theorem canon_append : ∀ (L L' : List (View.Piece (Elt F) S1x1024 .f32)) (y : S1x1024.Idx), (∃ p ∈ L, y ∈ p.1.set) → View.canon (L ++ L') y = View.canon L y
  | [], _, _, h => by obtain ⟨p, hp, _⟩ := h; exact absurd hp List.not_mem_nil
  | p :: L, L', y, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append L L' y ?_
      obtain ⟨q, hq, hy⟩ := h
      rcases List.mem_cons.1 hq with rfl | hq
      · exact absurd hy hm
      · exact ⟨q, hq, hy⟩

theorem w_v265 :
    runA.sl.v265 (F := F) c arg8 = bc k0_pay1 0 inb_S1x1024_S1x128_0_0 := by
  unfold runA.sl.v265
  rw [rc]
  unfold runA.sl.H8_1; rw [View.canon_unit_zero (S := S1x1024) hz]; rfl

theorem w_v278 :
    runA.sl.v278 (F := F) c i arg1 harg1 arg2 harg2 arg3 harg3 arg4 harg4 arg5 harg5 arg8 arg12 x1 x2 x3 x4 x5 = bc k0_pay1 128 inb_S1x1024_S1x128_0_128 := by
  unfold runA.sl.v278
  rw [rc]
  unfold runA.sl.H8_2; rw [miss (by decide)]
  unfold runA.sl.H8_1; rw [View.canon_unit_zero (S := S1x1024) hz]; rfl

theorem w_v291 :
    runA.sl.v291 (F := F) c i arg1 harg1 arg2 harg2 arg3 harg3 arg4 harg4 arg5 harg5 arg8 arg12 x1 x2 x3 x4 x5 = bc k0_pay1 256 inb_S1x1024_S1x128_0_256 := by
  unfold runA.sl.v291
  rw [rc]
  unfold runA.sl.H8_3; rw [miss (by decide)]
  unfold runA.sl.H8_2; rw [miss (by decide)]
  unfold runA.sl.H8_1; rw [View.canon_unit_zero (S := S1x1024) hz]; rfl

theorem w_v304 :
    runA.sl.v304 (F := F) c i arg1 harg1 arg2 harg2 arg3 harg3 arg4 harg4 arg5 harg5 arg8 arg12 x1 x2 x3 x4 x5 = bc k0_pay1 384 inb_S1x1024_S1x128_0_384 := by
  unfold runA.sl.v304
  rw [rc]
  unfold runA.sl.H8_4; rw [miss (by decide)]
  unfold runA.sl.H8_3; rw [miss (by decide)]
  unfold runA.sl.H8_2; rw [miss (by decide)]
  unfold runA.sl.H8_1; rw [View.canon_unit_zero (S := S1x1024) hz]; rfl

theorem w_v569 :
    runA.sl.v569 (F := F) c i arg1 harg1 arg2 harg2 arg3 harg3 arg4 harg4 arg5 harg5 arg8 arg12 x1 x2 x3 x4 x5 = bc k0_pay1 512 inb_S1x1024_S1x128_0_512 := by
  unfold runA.sl.v569
  rw [rc]
  unfold runA.sl.H8_5; rw [miss (by decide)]
  unfold runA.sl.H8_4; rw [miss (by decide)]
  unfold runA.sl.H8_3; rw [miss (by decide)]
  unfold runA.sl.H8_2; rw [miss (by decide)]
  unfold runA.sl.H8_1; rw [View.canon_unit_zero (S := S1x1024) hz]; rfl

theorem w_v582 :
    runA.sl.v582 (F := F) c i arg1 harg1 arg2 harg2 arg3 harg3 arg4 harg4 arg5 harg5 arg8 arg12 x1 x2 x3 x4 x5 = bc k0_pay1 640 inb_S1x1024_S1x128_0_640 := by
  unfold runA.sl.v582
  rw [rc]
  unfold runA.sl.H8_6; rw [miss (by decide)]
  unfold runA.sl.H8_5; rw [miss (by decide)]
  unfold runA.sl.H8_4; rw [miss (by decide)]
  unfold runA.sl.H8_3; rw [miss (by decide)]
  unfold runA.sl.H8_2; rw [miss (by decide)]
  unfold runA.sl.H8_1; rw [View.canon_unit_zero (S := S1x1024) hz]; rfl

theorem w_v595 :
    runA.sl.v595 (F := F) c i arg1 harg1 arg2 harg2 arg3 harg3 arg4 harg4 arg5 harg5 arg8 arg12 x1 x2 x3 x4 x5 = bc k0_pay1 768 inb_S1x1024_S1x128_0_768 := by
  unfold runA.sl.v595
  rw [rc]
  unfold runA.sl.H8_7; rw [miss (by decide)]
  unfold runA.sl.H8_6; rw [miss (by decide)]
  unfold runA.sl.H8_5; rw [miss (by decide)]
  unfold runA.sl.H8_4; rw [miss (by decide)]
  unfold runA.sl.H8_3; rw [miss (by decide)]
  unfold runA.sl.H8_2; rw [miss (by decide)]
  unfold runA.sl.H8_1; rw [View.canon_unit_zero (S := S1x1024) hz]; rfl

theorem w_v608 :
    runA.sl.v608 (F := F) c i arg1 harg1 arg2 harg2 arg3 harg3 arg4 harg4 arg5 harg5 arg8 arg12 x1 x2 x3 x4 x5 = bc k0_pay1 896 inb_S1x1024_S1x128_0_896 := by
  unfold runA.sl.v608
  rw [rc]
  unfold runA.sl.H8_8; rw [miss (by decide)]
  unfold runA.sl.H8_7; rw [miss (by decide)]
  unfold runA.sl.H8_6; rw [miss (by decide)]
  unfold runA.sl.H8_5; rw [miss (by decide)]
  unfold runA.sl.H8_4; rw [miss (by decide)]
  unfold runA.sl.H8_3; rw [miss (by decide)]
  unfold runA.sl.H8_2; rw [miss (by decide)]
  unfold runA.sl.H8_1; rw [View.canon_unit_zero (S := S1x1024) hz]; rfl

set_option maxHeartbeats 1000000 in
theorem out8 :
    outA_8 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 = View.canon (cb (Q0 (BitVec.ofNat 32 (i 0).val) x1 x2 x3 x4 x5 k0_pay6) (Q1 (BitVec.ofNat 32 (i 0).val) x1 x2 x3 x4 x5 k0_pay6) k0_pay1) := by
  unfold outA_8
  rw [View.read_writes_eq_canon _ _ _ (coverA_8 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5)]
  unfold runA
  dsimp only
  simp only [w_r_1, w_r_28, w_r_35, w_r_77, w_r_36, w_r_37, w_r_78, w_r_80, w_v265, w_v278, w_v291, w_v304, w_v569, w_v582, w_v595, w_v608, runA.sl.H8_1, runA.sl.H8_2, runA.sl.H8_3, runA.sl.H8_4, runA.sl.H8_5, runA.sl.H8_6, runA.sl.H8_7, runA.sl.H8_8, runA.sl.r_79]
  funext y
  exact canon_append (cb (Q0 (BitVec.ofNat 32 (i 0).val) x1 x2 x3 x4 x5 k0_pay6) (Q1 (BitVec.ofNat 32 (i 0).val) x1 x2 x3 x4 x5 k0_pay6) k0_pay1) [_] y (View.cover_of_tiled (s := S1x1024) _ S1x128.size rfl y)

end Cert.Att.A

end
-- ==== Proof.AttWordsB.lean ====
/-
  What the body computes at a point between the first and the last: its named values are the block's.
-/
module

public import proofs.«01_k».proof.Proof.AttBlock
public import proofs.«01_k».proof.Proof.AttnIdealHand
public import Idealize.ShloMosaic.Lib.Pipeline.Value
public import Idealize.ShloMosaic.Lib.Tactic

@[expose] public section

set_option maxRecDepth 16384

noncomputable section

namespace Cert.Att.B

open Idealize.ShloMosaic Idealize.ShloMosaic.TcCoe Idealize.ShloMosaic.Tactic
open Idealize.SL Idealize.SL.Sem
open Cert.AttnIdeal Cert.AttnIdeal.Gen Cert.AttnIdeal.Hand

variable {F : FTy → Type} [FloatOps F]

theorem hz : (![0, 0] : Fin 2 → Nat) = fun _ => 0 := funext fun a => by fin_cases a <;> rfl

omit [FloatOps F] in
theorem ldz {p q : ℕ} {e : EltTy} (inb : ∀ a : Fin 2, ![0, 0] a + ![p, q] a ≤ ![p, q] a) (X : Vec F ⟨2, ![p, q]⟩ e) :
    View.ld X (Rect.unit ![0, 0] ![p, q] inb) = X := View.ld_unit_zero (S := ⟨2, ![p, q]⟩) hz inb X

variable (c : Dev nD) (i : grid0.Coords) (arg1 : Memref sig .tc .smem S1x16 .f32) (harg1 : arg1.IsWhole) (arg2 : Memref sig .tc .vmem S128x1024 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x1024 .bf16) (harg5 : arg5.IsWhole) (arg12 : Memref sig .tc .vmem S256x1024 .f32) (harg12 : arg12.IsWhole) (x1 : Vec F S1x16 .f32) (x2 : Vec F S128x1024 .bf16) (x3 : Vec F S128x256 .bf16) (x4 : Vec F S128x256 .bf16) (x5 : Vec F S128x1024 .bf16) (x12 : Vec F S256x1024 .f32)

theorem w_r_1 :
    runB.sl.r_1 (F := F) c arg3 harg3 arg4 harg4 x3 x4 = K0 x4 x3 := by
  simp only [runB.sl.r_1, View.readAt_eq_ld, harg3.read_unread, harg4.read_unread, shapeCast_self, ldz]
  rfl

theorem w_r_2 :
    runB.sl.r_2 (F := F) c arg3 harg3 arg4 harg4 x3 x4 = V0 x4 x3 := by
  simp only [runB.sl.r_2, View.readAt_eq_ld, harg3.read_unread, harg4.read_unread, shapeCast_self, ldz]
  rfl

theorem w_r_42 :
    runB.sl.r_42 (F := F) c arg3 harg3 arg4 harg4 x3 x4 = K1 x4 x3 := by
  simp only [runB.sl.r_42, runB.sl.r, runB.sl.r_40, runB.sl.r_41, View.readAt_eq_ld, harg3.read_unread, harg4.read_unread, shapeCast_self, ldz]
  rfl

theorem w_r_43 :
    runB.sl.r_43 (F := F) c arg3 harg3 arg4 harg4 x3 x4 = V1 x4 x3 := by
  simp only [runB.sl.r_43, runB.sl.r, View.readAt_eq_ld, harg3.read_unread, harg4.read_unread, shapeCast_self, ldz]
  rfl

theorem w_r_7 :
    runB.sl.r_7 (F := F) c arg2 harg2 x2 = sq0 x2 := by
  simp only [runB.sl.r_7, runB.sl.r_3, runB.sl.r_4, runB.sl.r_5, runB.sl.r_6, View.readAt_eq_ld, harg2.read_unread, shapeCast_self, ldz]
  rfl

theorem w_r_18 :
    runB.sl.r_18 (F := F) c arg5 harg5 x5 = sq0 x5 := by
  simp only [runB.sl.r_18, runB.sl.r_8, runB.sl.r_9, runB.sl.r_10, runB.sl.r_11, View.readAt_eq_ld, harg5.read_unread, shapeCast_self, ldz]
  rfl

theorem w_r_51 :
    runB.sl.r_51 (F := F) c arg2 harg2 x2 = sq1 x2 := by
  simp only [runB.sl.r_51, runB.sl.r_44, runB.sl.r_45, runB.sl.r_46, runB.sl.r_47, runB.sl.r_48, runB.sl.r_49, runB.sl.r_50, View.readAt_eq_ld, harg2.read_unread, shapeCast_self, ldz]
  rfl

theorem w_r_66 :
    runB.sl.r_66 (F := F) c arg5 harg5 x5 = sq1 x5 := by
  simp only [runB.sl.r_66, runB.sl.r_52, runB.sl.r_53, runB.sl.r_54, runB.sl.r_55, runB.sl.r_56, runB.sl.r_57, View.readAt_eq_ld, harg5.read_unread, shapeCast_self, ldz]
  rfl

theorem w_r_67 :
    runB.sl.r_67 (F := F) c arg1 harg1 x1 = sk8 x1 := by
  simp only [runB.sl.r_67, runB.sl.r_58, runB.sl.r_59, runB.sl.r_60, runB.sl.r_61, runB.sl.r_62, runB.sl.r_63, runB.sl.r_64, runB.sl.r_65, View.readAt_eq_ld, harg1.read_unread, shapeCast_self, ldz]
  rfl

theorem w_r_27 :
    runB.sl.r_27 (F := F) c i arg1 harg1 arg2 harg2 arg3 harg3 arg4 harg4 arg12 harg12 x1 x2 x3 x4 x12 = P0 (BitVec.ofNat 32 (i 0).val) x1 x2 x3 x4 x12 := by
  simp only [runB.sl.r_27, runB.sl.r_12, runB.sl.r_13, runB.sl.r_14, runB.sl.r_15, runB.sl.r_16, runB.sl.r_17, runB.sl.r_19, runB.sl.r_20, runB.sl.r_21, runB.sl.r_22, runB.sl.r_23, runB.sl.r_24, runB.sl.r_25, runB.sl.r_26, w_r_1, w_r_7, View.readAt_eq_ld, harg1.read_unread, harg2.read_unread, harg3.read_unread, harg4.read_unread, harg12.read_unread, shapeCast_self, ldz]
  rfl

theorem w_r_28 :
    runB.sl.r_28 (F := F) c i arg1 harg1 arg2 harg2 arg3 harg3 arg4 harg4 arg5 harg5 arg12 harg12 x1 x2 x3 x4 x5 x12 = D0 (BitVec.ofNat 32 (i 0).val) x1 x2 x3 x4 x5 x12 := by
  simp only [runB.sl.r_28, runB.sl.r_12, runB.sl.r_13, runB.sl.r_14, runB.sl.r_15, runB.sl.r_16, runB.sl.r_17, runB.sl.r_19, runB.sl.r_20, runB.sl.r_21, runB.sl.r_22, runB.sl.r_23, runB.sl.r_24, runB.sl.r_25, runB.sl.r_26, w_r_1, w_r_2, w_r_7, w_r_18, View.readAt_eq_ld, harg1.read_unread, harg2.read_unread, harg3.read_unread, harg4.read_unread, harg5.read_unread, harg12.read_unread, shapeCast_self, ldz]
  rfl

theorem w_r_29 :
    runB.sl.r_29 (F := F) c i arg1 harg1 arg2 harg2 arg3 harg3 arg4 harg4 arg5 harg5 arg12 harg12 x1 x2 x3 x4 x5 x12 = E0 (BitVec.ofNat 32 (i 0).val) x1 x2 x3 x4 x5 x12 := by
  simp only [runB.sl.r_29, runB.sl.r_12, runB.sl.r_13, runB.sl.r_14, runB.sl.r_15, runB.sl.r_16, runB.sl.r_17, runB.sl.r_19, runB.sl.r_20, runB.sl.r_21, runB.sl.r_22, runB.sl.r_23, runB.sl.r_24, runB.sl.r_25, runB.sl.r_26, w_r_1, w_r_2, w_r_7, w_r_18, View.readAt_eq_ld, harg1.read_unread, harg2.read_unread, harg3.read_unread, harg4.read_unread, harg5.read_unread, harg12.read_unread, shapeCast_self, ldz]
  rfl

theorem w_r_70 :
    runB.sl.r_70 (F := F) c i arg1 harg1 arg2 harg2 arg3 harg3 arg4 harg4 arg12 harg12 x1 x2 x3 x4 x12 = P1 (BitVec.ofNat 32 (i 0).val) x1 x2 x3 x4 x12 := by
  simp only [runB.sl.r_70, runB.sl.r_68, runB.sl.v432, runB.sl.r_69, w_r_67, w_r_42, w_r_51, View.readAt_eq_ld, harg1.read_unread, harg2.read_unread, harg3.read_unread, harg4.read_unread, harg12.read_unread, shapeCast_self, ldz]
  rfl

theorem w_r_71 :
    runB.sl.r_71 (F := F) c i arg1 harg1 arg2 harg2 arg3 harg3 arg4 harg4 arg5 harg5 arg12 harg12 x1 x2 x3 x4 x5 x12 = D1 (BitVec.ofNat 32 (i 0).val) x1 x2 x3 x4 x5 x12 := by
  simp only [runB.sl.r_71, runB.sl.r_68, runB.sl.v432, runB.sl.r_69, w_r_43, w_r_66, w_r_67, w_r_42, w_r_51, View.readAt_eq_ld, harg1.read_unread, harg2.read_unread, harg3.read_unread, harg4.read_unread, harg5.read_unread, harg12.read_unread, shapeCast_self, ldz]
  rfl

theorem w_r_72 :
    runB.sl.r_72 (F := F) c i arg1 harg1 arg2 harg2 arg3 harg3 arg4 harg4 arg5 harg5 arg12 harg12 x1 x2 x3 x4 x5 x12 = E1 (BitVec.ofNat 32 (i 0).val) x1 x2 x3 x4 x5 x12 := by
  simp only [runB.sl.r_72, runB.sl.r_68, runB.sl.v432, runB.sl.r_69, w_r_43, w_r_66, w_r_67, w_r_42, w_r_51, View.readAt_eq_ld, harg1.read_unread, harg2.read_unread, harg3.read_unread, harg4.read_unread, harg5.read_unread, harg12.read_unread, shapeCast_self, ldz]
  rfl

theorem w_r_34 :
    runB.sl.r_34 (F := F) c i arg1 harg1 arg2 harg2 arg3 harg3 arg4 harg4 arg5 harg5 arg12 harg12 x1 x2 x3 x4 x5 x12 = lanes0 k0_pay11 (E0 (BitVec.ofNat 32 (i 0).val) x1 x2 x3 x4 x5 x12) := by
  simp only [runB.sl.r_34, runB.sl.r_30, runB.sl.r_31, runB.sl.r_32, runB.sl.r_33, runB.sl.cst_100, runB.sl.r_12, runB.sl.r_13, runB.sl.r_14, runB.sl.r_15, runB.sl.r_16, runB.sl.r_17, runB.sl.r_19, runB.sl.r_20, runB.sl.r_21, runB.sl.r_22, runB.sl.r_23, runB.sl.r_24, runB.sl.r_25, runB.sl.r_26, w_r_29, w_r_1, w_r_2, w_r_7, w_r_18, View.readAt_eq_ld, harg1.read_unread, harg2.read_unread, harg3.read_unread, harg4.read_unread, harg5.read_unread, harg12.read_unread, shapeCast_self, ldz]
  rfl

theorem w_r_76 :
    runB.sl.r_76 (F := F) c i arg1 harg1 arg2 harg2 arg3 harg3 arg4 harg4 arg5 harg5 arg12 harg12 x1 x2 x3 x4 x5 x12 = lanes (E0 (BitVec.ofNat 32 (i 0).val) x1 x2 x3 x4 x5 x12) (E1 (BitVec.ofNat 32 (i 0).val) x1 x2 x3 x4 x5 x12) := by
  simp only [runB.sl.r_76, runB.sl.r_73, runB.sl.r_74, runB.sl.r_75, runB.sl.r_68, runB.sl.v432, runB.sl.r_69, w_r_34, w_r_72, w_r_43, w_r_66, w_r_67, w_r_42, w_r_51, View.readAt_eq_ld, harg1.read_unread, harg2.read_unread, harg3.read_unread, harg4.read_unread, harg5.read_unread, harg12.read_unread, shapeCast_self, ldz]
  rfl

theorem w_r_35 :
    runB.sl.r_35 (F := F) c i arg1 harg1 arg2 harg2 arg3 harg3 arg4 harg4 arg5 harg5 arg12 harg12 x1 x2 x3 x4 x5 x12 = Q0 (BitVec.ofNat 32 (i 0).val) x1 x2 x3 x4 x5 x12 := by
  simp only [runB.sl.r_35, w_r_1, w_r_28, View.readAt_eq_ld, harg1.read_unread, harg2.read_unread, harg3.read_unread, harg4.read_unread, harg5.read_unread, harg12.read_unread, shapeCast_self, ldz]
  rfl

theorem w_r_77 :
    runB.sl.r_77 (F := F) c i arg1 harg1 arg2 harg2 arg3 harg3 arg4 harg4 arg5 harg5 arg12 harg12 x1 x2 x3 x4 x5 x12 = Q1 (BitVec.ofNat 32 (i 0).val) x1 x2 x3 x4 x5 x12 := by
  simp only [runB.sl.r_77, w_r_42, w_r_71, View.readAt_eq_ld, harg1.read_unread, harg2.read_unread, harg3.read_unread, harg4.read_unread, harg5.read_unread, harg12.read_unread, shapeCast_self, ldz]
  rfl

theorem w_r_36 :
    runB.sl.r_36 (F := F) c i arg1 harg1 arg2 harg2 arg3 harg3 arg4 harg4 arg5 harg5 arg12 harg12 x1 x2 x3 x4 x5 x12 = extractStridedSlice S128x128 ![512, 0] (Q0 (BitVec.ofNat 32 (i 0).val) x1 x2 x3 x4 x5 x12) slices_S1024x128_o512_0_S128x128 := by
  simp only [runB.sl.r_36, w_r_1, w_r_28, View.readAt_eq_ld, harg1.read_unread, harg2.read_unread, harg3.read_unread, harg4.read_unread, harg5.read_unread, harg12.read_unread, shapeCast_self, ldz]
  rfl

theorem w_r_37 :
    runB.sl.r_37 (F := F) c i arg1 harg1 arg2 harg2 arg3 harg3 arg4 harg4 arg5 harg5 arg12 harg12 x1 x2 x3 x4 x5 x12 = extractStridedSlice S128x128 ![640, 0] (Q0 (BitVec.ofNat 32 (i 0).val) x1 x2 x3 x4 x5 x12) slices_S1024x128_o640_0_S128x128 := by
  simp only [runB.sl.r_37, w_r_1, w_r_28, View.readAt_eq_ld, harg1.read_unread, harg2.read_unread, harg3.read_unread, harg4.read_unread, harg5.read_unread, harg12.read_unread, shapeCast_self, ldz]
  rfl

theorem w_r_78 :
    runB.sl.r_78 (F := F) c i arg1 harg1 arg2 harg2 arg3 harg3 arg4 harg4 arg5 harg5 arg12 harg12 x1 x2 x3 x4 x5 x12 = dq0 (Q1 (BitVec.ofNat 32 (i 0).val) x1 x2 x3 x4 x5 x12) := by
  simp only [runB.sl.r_78, w_r_42, w_r_71, View.readAt_eq_ld, harg1.read_unread, harg2.read_unread, harg3.read_unread, harg4.read_unread, harg5.read_unread, harg12.read_unread, shapeCast_self, ldz]
  rfl

theorem w_r_80 :
    runB.sl.r_80 (F := F) c i arg1 harg1 arg2 harg2 arg3 harg3 arg4 harg4 arg5 harg5 arg12 harg12 x1 x2 x3 x4 x5 x12 = extractStridedSlice S128x128 ![768, 0] (Q1 (BitVec.ofNat 32 (i 0).val) x1 x2 x3 x4 x5 x12) slices_S1024x128_o768_0_S128x128 := by
  simp only [runB.sl.r_80, w_r_77, View.readAt_eq_ld, harg1.read_unread, harg2.read_unread, harg3.read_unread, harg4.read_unread, harg5.read_unread, harg12.read_unread, shapeCast_self, ldz]
  rfl

theorem w_r_38 :
    runB.sl.r_38 (F := F) c i arg1 harg1 arg2 harg2 arg3 harg3 arg4 harg4 arg5 harg5 arg12 harg12 x1 x2 x3 x4 x5 x12 = dkk (D0 (BitVec.ofNat 32 (i 0).val) x1 x2 x3 x4 x5 x12) (sq0 x2) := by
  simp only [runB.sl.r_38, w_r_7, w_r_28, View.readAt_eq_ld, harg1.read_unread, harg2.read_unread, harg3.read_unread, harg4.read_unread, harg5.read_unread, harg12.read_unread, shapeCast_self, ldz]
  rfl

theorem w_r_39 :
    runB.sl.r_39 (F := F) c i arg1 harg1 arg2 harg2 arg3 harg3 arg4 harg4 arg5 harg5 arg12 harg12 x1 x2 x3 x4 x5 x12 = dkk (P0 (BitVec.ofNat 32 (i 0).val) x1 x2 x3 x4 x12) (sq0 x5) := by
  simp only [runB.sl.r_39, w_r_18, w_r_27, View.readAt_eq_ld, harg1.read_unread, harg2.read_unread, harg3.read_unread, harg4.read_unread, harg5.read_unread, harg12.read_unread, shapeCast_self, ldz]
  rfl

theorem w_r_81 :
    runB.sl.r_81 (F := F) c i arg1 harg1 arg2 harg2 arg3 harg3 arg4 harg4 arg5 harg5 arg12 harg12 x1 x2 x3 x4 x5 x12 = KVhi (BitVec.ofNat 32 (i 0).val) x1 x2 x3 x4 x5 x12 := by
  simp only [runB.sl.r_81, w_r_38, w_r_39, w_r_51, w_r_66, w_r_70, w_r_71, View.readAt_eq_ld, harg1.read_unread, harg2.read_unread, harg3.read_unread, harg4.read_unread, harg5.read_unread, harg12.read_unread, shapeCast_self, ldz]
  rfl

end Cert.Att.B

end
-- ==== Proof.AttOutB.lean ====
/-
  What the body computes at a point between the first and the last: what it leaves in each buffer.
-/
module

public import proofs.«01_k».proof.Proof.AttWordsB
public import proofs.«01_k».proof.Proof.AttnIdealHand
public import Idealize.ShloMosaic.Lib.Pipeline.Value
public import Idealize.ShloMosaic.Lib.Tactic

@[expose] public section

set_option maxRecDepth 16384

noncomputable section

namespace Cert.Att.B

open Idealize.ShloMosaic Idealize.ShloMosaic.TcCoe Idealize.ShloMosaic.Tactic
open Idealize.SL Idealize.SL.Sem
open Cert.AttnIdeal Cert.AttnIdeal.Gen Cert.AttnIdeal.Hand

variable {F : FTy → Type} [FloatOps F]

variable (c : Dev nD) (i : grid0.Coords) (arg1 : Memref sig .tc .smem S1x16 .f32) (harg1 : arg1.IsWhole) (arg2 : Memref sig .tc .vmem S128x1024 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x256 .bf16) (harg7 : arg7.IsWhole) (arg8 : Memref sig .tc .vmem S1x1024 .f32) (harg8 : arg8.IsWhole) (arg9 : Memref sig .tc .vmem S1x256 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S256x1024 .f32) (harg12 : arg12.IsWhole) (hc1 : ¬ k0_cond1 i = 1#1) (hc2 : k0_cond2 i = 1#1) (hc3 : k0_cond3 i = 1#1) (hc4 : ¬ k0_cond4 i = 1#1) (x1 : Vec F S1x16 .f32) (x2 : Vec F S128x1024 .bf16) (x3 : Vec F S128x256 .bf16) (x4 : Vec F S128x256 .bf16) (x5 : Vec F S128x1024 .bf16) (x8 : Vec F S1x1024 .f32) (x9 : Vec F S1x256 .f32) (x10 : Vec F S1x128 .f32) (x11 : Vec F S128x256 .f32) (x12 : Vec F S256x1024 .f32)

set_option maxHeartbeats 1000000 in
theorem out11 :
    outB_11 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x8 x9 x10 x11 x12 = KVhi (BitVec.ofNat 32 (i 0).val) x1 x2 x3 x4 x5 x12 := by
  unfold outB_11
  rw [View.read_writes_eq_canon _ _ _ (coverB_11 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x8 x9 x10 x11 x12)]
  unfold runB
  dsimp only
  rw [View.canon_unit_zero hz]
  simp only [w_r_81] <;> rfl

set_option maxHeartbeats 1000000 in
theorem out7 :
    outB_7 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x8 x9 x10 x11 x12 = truncf .bf16 (addf x11 (KVlo (BitVec.ofNat 32 (i 0).val) x1 x2 x3 x4 x5 x12)) bitsLt_bf16_f32 := by
  unfold outB_7
  rw [View.read_writes_eq_canon _ _ _ (coverB_7 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x8 x9 x10 x11 x12)]
  unfold runB
  dsimp only
  rw [View.canon_unit_zero hz]
  simp only [w_r_51, w_r_66, w_r_70, w_r_71, w_r_38, w_r_39, View.readAt_eq_ld, harg11.read_unread, View.ld_unit_zero (S := S128x256) hz] <;> rfl

set_option maxHeartbeats 1000000 in
theorem out10 :
    outB_10 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x8 x9 x10 x11 x12 = addl x10 (lanes (E0 (BitVec.ofNat 32 (i 0).val) x1 x2 x3 x4 x5 x12) (E1 (BitVec.ofNat 32 (i 0).val) x1 x2 x3 x4 x5 x12)) := by
  unfold outB_10
  rw [View.read_writes_eq_canon _ _ _ (coverB_10 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x8 x9 x10 x11 x12)]
  unfold runB
  dsimp only
  rw [View.canon_unit_zero hz]
  simp only [w_r_76, View.readAt_eq_ld, harg10.read_unread, View.ld_unit_zero (S := S1x128) hz] <;> rfl

set_option maxHeartbeats 1000000 in
theorem out9 :
    outB_9 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x8 x9 x10 x11 x12 = addr x9 (addf x11 (KVlo (BitVec.ofNat 32 (i 0).val) x1 x2 x3 x4 x5 x12)) := by
  unfold outB_9
  rw [View.read_writes_eq_canon _ _ _ (coverB_9 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x8 x9 x10 x11 x12)]
  unfold runB
  dsimp only
  rw [View.canon_unit_zero hz]
  simp only [w_r_51, w_r_66, w_r_70, w_r_71, w_r_38, w_r_39, View.readAt_eq_ld, harg9.read_unread, harg11.read_unread, View.ld_unit_zero (S := S128x256) hz, View.ld_unit_zero (S := S1x256) hz] <;> rfl

set_option maxHeartbeats 1000000 in
theorem out6 :
    outB_6 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x8 x9 x10 x11 x12 = View.canon (cq (Q0 (BitVec.ofNat 32 (i 0).val) x1 x2 x3 x4 x5 x12) (Q1 (BitVec.ofNat 32 (i 0).val) x1 x2 x3 x4 x5 x12)) := by
  unfold outB_6
  rw [View.read_writes_eq_canon _ _ _ (coverB_6 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x8 x9 x10 x11 x12)]
  unfold runB
  dsimp only
  simp only [w_r_1, w_r_28, w_r_35, w_r_77, w_r_36, w_r_37, w_r_78, w_r_80]
  rfl

set_option maxHeartbeats 1000000 in
theorem out8 :
    outB_8 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x8 x9 x10 x11 x12 = View.canon (cb (Q0 (BitVec.ofNat 32 (i 0).val) x1 x2 x3 x4 x5 x12) (Q1 (BitVec.ofNat 32 (i 0).val) x1 x2 x3 x4 x5 x12) x8) := by
  unfold outB_8
  rw [View.read_writes_eq_canon _ _ _ (coverB_8 c i arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x8 x9 x10 x11 x12)]
  unfold runB
  dsimp only
  simp only [w_r_1, w_r_28, w_r_35, w_r_77, w_r_36, w_r_37, w_r_78, w_r_80, runB.sl.v278, runB.sl.v291, runB.sl.v304, runB.sl.v569, runB.sl.v582, runB.sl.v595, runB.sl.v608, runB.sl.r_79, View.readAt_eq_ld, harg8.read_unread]
  rfl

end Cert.Att.B

end
-- ==== Proof.AttOutC.lean ====
/-
  What the body computes at the last point: what it leaves in each buffer.
-/
module

public import proofs.«01_k».proof.Proof.AttBlock
public import proofs.«01_k».proof.Proof.AttnIdealHand
public import proofs.«01_k».proof.Proof.AttnIdealHand
public import Idealize.ShloMosaic.Lib.Pipeline.Value
public import Idealize.ShloMosaic.Lib.Tactic

@[expose] public section

set_option maxRecDepth 16384

noncomputable section

namespace Cert.Att.C

open Idealize.ShloMosaic Idealize.ShloMosaic.TcCoe Idealize.ShloMosaic.Tactic
open Idealize.SL Idealize.SL.Sem
open Cert.AttnIdeal Cert.AttnIdeal.Gen Cert.AttnIdeal.Hand

variable {F : FTy → Type} [FloatOps F]

theorem hz : (![0, 0] : Fin 2 → Nat) = fun _ => 0 := funext fun a => by fin_cases a <;> rfl

theorem out7 (c : Dev nD) (i : grid0.Coords) (arg1 : Memref sig .tc .smem S1x16 .f32) (harg1 : arg1.IsWhole) (arg2 : Memref sig .tc .vmem S128x1024 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x256 .bf16) (harg7 : arg7.IsWhole) (arg8 : Memref sig .tc .vmem S1x1024 .f32) (harg8 : arg8.IsWhole) (arg9 : Memref sig .tc .vmem S1x256 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S256x1024 .f32) (harg12 : arg12.IsWhole) (hc1 : ¬ k0_cond1 i = 1#1) (hc2 : ¬ k0_cond2 i = 1#1) (hc4 : k0_cond4 i = 1#1)
    (x9 : Vec F S1x256 .f32) (x11 : Vec F S128x256 .f32) :
    outC_7 c i arg1 harg1 arg2 harg2 arg3 harg3 arg4 harg4 arg5 harg5 arg6 harg6 arg7 harg7 arg8 harg8 arg9 harg9 arg10 harg10 arg11 harg11 arg12 harg12 hc1 hc2 hc4 x9 x11 = k0_pay8 x11 := by
  unfold outC_7
  rw [View.read_writes_eq_canon _ _ _ (coverC_7 c i arg1 harg1 arg2 harg2 arg3 harg3 arg4 harg4 arg5 harg5 arg6 harg6 arg7 harg7 arg8 harg8 arg9 harg9 arg10 harg10 arg11 harg11 arg12 harg12 hc1 hc2 hc4 x9 x11)]
  unfold runC
  dsimp only
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, shapeCast_self, View.ld_unit_zero (S := S128x256) hz, View.ld_unit_zero (S := S1x256) hz] <;> rfl

theorem out9 (c : Dev nD) (i : grid0.Coords) (arg1 : Memref sig .tc .smem S1x16 .f32) (harg1 : arg1.IsWhole) (arg2 : Memref sig .tc .vmem S128x1024 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x256 .bf16) (harg7 : arg7.IsWhole) (arg8 : Memref sig .tc .vmem S1x1024 .f32) (harg8 : arg8.IsWhole) (arg9 : Memref sig .tc .vmem S1x256 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S256x1024 .f32) (harg12 : arg12.IsWhole) (hc1 : ¬ k0_cond1 i = 1#1) (hc2 : ¬ k0_cond2 i = 1#1) (hc4 : k0_cond4 i = 1#1)
    (x9 : Vec F S1x256 .f32) (x11 : Vec F S128x256 .f32) :
    outC_9 c i arg1 harg1 arg2 harg2 arg3 harg3 arg4 harg4 arg5 harg5 arg6 harg6 arg7 harg7 arg8 harg8 arg9 harg9 arg10 harg10 arg11 harg11 arg12 harg12 hc1 hc2 hc4 x9 x11 = addr x9 x11 := by
  unfold outC_9
  rw [View.read_writes_eq_canon _ _ _ (coverC_9 c i arg1 harg1 arg2 harg2 arg3 harg3 arg4 harg4 arg5 harg5 arg6 harg6 arg7 harg7 arg8 harg8 arg9 harg9 arg10 harg10 arg11 harg11 arg12 harg12 hc1 hc2 hc4 x9 x11)]
  unfold runC
  dsimp only
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, shapeCast_self, View.ld_unit_zero (S := S128x256) hz, View.ld_unit_zero (S := S1x256) hz] <;> rfl

end Cert.Att.C

end
-- ==== Proof.AttState.lean ====
/-
  What the attention gradient's buffers hold after each grid point, over the reals: point `n` handles the 128 queries of
  block `n`, hands the gradient of its own keys and values on to the next point, and adds to the sums.
-/
module

public import proofs.«01_k».proof.Proof.AttTile
public import proofs.«01_k».proof.Proof.AttOutA
public import proofs.«01_k».proof.Proof.AttOutB
public import proofs.«01_k».proof.Proof.AttOutC
public import Idealize.ShloMosaic.Lib.Pipeline.Value

@[expose] public section

set_option maxRecDepth 16384

noncomputable section

namespace Cert.Att

open Idealize.ShloMosaic Idealize.ShloMosaic.TcCoe Idealize.SL.Sem
open Cert.AttnIdeal Cert.AttnIdeal.Gen Cert.AttnIdeal.Hand
open Idealize.ShloMosaic.Pipeline (Dat)

/-- Block `n` of the whole arrays `q` (queries, keys and values side by side), `o` and `a`. -/
def blk (q o : ℕ → ℕ → ℝ) (a : ℕ → ℝ) (n : ℕ) : Blk where
  kv s j := if s < 128 then q (128 * (n - 1) + s) (1024 + j) else q (128 * n + (s - 128)) (1024 + j)
  q i j := q (128 * n + i) j
  o i j := o (128 * n + i) j
  a := a
  pos := 0 < n

/-- The gradient of row `i` of block `k`'s keys and values: from its own queries and from the next block's. -/
def okv (q o : ℕ → ℕ → ℝ) (a : ℕ → ℝ) (k i j : ℕ) : ℝ :=
  (blk q o a k).dkv (128 + i) j + if k < 31 then (blk q o a (k + 1)).dkv i j else 0

variable (m : (ℓ : Loc nD τ sig) → Buf (Elt Ideal) ℓ) (c : Dev nD)

/-- The arguments hold reals. -/
structure Real3 (q o : ℕ → ℕ → ℝ) (a : ℕ → ℝ) : Prop where
  hq : ∀ (r : Fin 4096) (j : Fin 1280), (m ((c : Thread nD τ).loc main_arg0) : Vec Ideal S4096x1280 .bf16) (ix2 r j) = (q r.val j.val : EReal)
  ho : ∀ (r : Fin 4096) (j : Fin 1024), (m ((c : Thread nD τ).loc main_arg1) : Vec Ideal S4096x1024 .bf16) (ix2 r j) = (o r.val j.val : EReal)
  ha : ∀ (j : Fin 16), (m ((c : Thread nD τ).loc main_arg2) : Vec Ideal S1x16 .f32) (ix2 (0 : Fin 1) j) = (a j.val : EReal)

theorem wx0 : ∀ t : Fin grid0.N, win0_0.index t 0 = 0 ∧ win0_0.index t 1 = 0 := by decide +kernel
theorem wx1 : ∀ t : Fin grid0.N, win0_1.index t 0 = min t.val 31 ∧ win0_1.index t 1 = 0 := by decide +kernel
theorem wx2 : ∀ t : Fin grid0.N, win0_2.index t 0 = min t.val 31 ∧ win0_2.index t 1 = 4 := by decide +kernel
theorem wx3 : ∀ t : Fin grid0.N, win0_3.index t 0 = min t.val 31 - 1 ∧ win0_3.index t 1 = 4 := by decide +kernel
theorem wx4 : ∀ t : Fin grid0.N, win0_4.index t 0 = min t.val 31 ∧ win0_4.index t 1 = 0 := by decide +kernel
theorem wx5 : ∀ t : Fin grid0.N, win0_5.index t 0 = min t.val 31 ∧ win0_5.index t 1 = 0 := by decide +kernel
theorem wx6 : ∀ t : Fin grid0.N, win0_6.index t 0 = t.val - 1 ∧ win0_6.index t 1 = 0 := by decide +kernel
theorem wx7 : ∀ t : Fin grid0.N, win0_7.index t 0 = 0 ∧ win0_7.index t 1 = 0 := by decide +kernel
theorem wx8 : ∀ t : Fin grid0.N, win0_8.index t 0 = 0 ∧ win0_8.index t 1 = 0 := by decide +kernel
theorem wx9 : ∀ t : Fin grid0.N, win0_9.index t 0 = 0 ∧ win0_9.index t 1 = 0 := by decide +kernel
theorem crd : ∀ t : Fin grid0.N, (grid0.coords t 0).val = t.val := by decide +kernel

theorem lt33 (t : Fin cfg0.N) : t.val < 33 := by have : cfg0.N = 33 := N_0; have := t.isLt; omega

theorem ib0 (t : Fin cfg0.N) (i : Fin 1) (j : Fin 16) : (iblk m c 0 t : Vec Ideal S1x16 .f32) (ix2 i j) = (m ((c : Thread nD τ).loc main_arg2) : Vec Ideal S1x16 .f32) (ix2 i j) := by
  unfold iblk
  rw [View.read_apply]
  show V m c main_arg2 _ = m (c.tc.loc main_arg2) _
  rw [V_main_arg2]
  congr 1
  funext a
  apply Fin.ext
  match a with
  | ⟨0, _⟩ => show win0_0.index t 0 * 1 + 1 * i.val = i.val; rw [(wx0 t).1]; omega
  | ⟨1, _⟩ => show win0_0.index t 1 * 16 + 1 * j.val = j.val; rw [(wx0 t).2]; omega

theorem ib2 (t : Fin cfg0.N) (i : Fin 128) (j : Fin 256) : (iblk m c 2 t : Vec Ideal S128x256 .bf16) (ix2 i j) = (m ((c : Thread nD τ).loc main_arg0) : Vec Ideal S4096x1280 .bf16) (ix2 ⟨128 * min t.val 31 + i.val, by omega⟩ ⟨1024 + j.val, by omega⟩) := by
  unfold iblk
  rw [View.read_apply]
  show V m c main_arg0 _ = m (c.tc.loc main_arg0) _
  rw [V_main_arg0]
  congr 1
  funext a
  apply Fin.ext
  match a with
  | ⟨0, _⟩ => show win0_2.index t 0 * 128 + 1 * i.val = 128 * min t.val 31 + i.val; rw [(wx2 t).1]; omega
  | ⟨1, _⟩ => show win0_2.index t 1 * 256 + 1 * j.val = 1024 + j.val; rw [(wx2 t).2]; omega

theorem ib3 (t : Fin cfg0.N) (i : Fin 128) (j : Fin 256) : (iblk m c 3 t : Vec Ideal S128x256 .bf16) (ix2 i j) = (m ((c : Thread nD τ).loc main_arg0) : Vec Ideal S4096x1280 .bf16) (ix2 ⟨128 * (min t.val 31 - 1) + i.val, by omega⟩ ⟨1024 + j.val, by omega⟩) := by
  unfold iblk
  rw [View.read_apply]
  show V m c main_arg0 _ = m (c.tc.loc main_arg0) _
  rw [V_main_arg0]
  congr 1
  funext a
  apply Fin.ext
  match a with
  | ⟨0, _⟩ => show win0_3.index t 0 * 128 + 1 * i.val = 128 * (min t.val 31 - 1) + i.val; rw [(wx3 t).1]; omega
  | ⟨1, _⟩ => show win0_3.index t 1 * 256 + 1 * j.val = 1024 + j.val; rw [(wx3 t).2]; omega

theorem ib4 (t : Fin cfg0.N) (i : Fin 128) (j : Fin 1024) : (iblk m c 4 t : Vec Ideal S128x1024 .bf16) (ix2 i j) = (m ((c : Thread nD τ).loc main_arg1) : Vec Ideal S4096x1024 .bf16) (ix2 ⟨128 * min t.val 31 + i.val, by omega⟩ j) := by
  unfold iblk
  rw [View.read_apply]
  show V m c main_arg1 _ = m (c.tc.loc main_arg1) _
  rw [V_main_arg1]
  congr 1
  funext a
  apply Fin.ext
  match a with
  | ⟨0, _⟩ => show win0_4.index t 0 * 128 + 1 * i.val = 128 * min t.val 31 + i.val; rw [(wx4 t).1]; omega
  | ⟨1, _⟩ => show win0_4.index t 1 * 1024 + 1 * j.val = j.val; rw [(wx4 t).2]; omega

theorem ib1 (t : Fin cfg0.N) (i : Fin 128) (j : Fin 1024) : (X0_1 m c t : Vec Ideal S128x1024 .bf16) (ix2 i j) = (m ((c : Thread nD τ).loc main_arg0) : Vec Ideal S4096x1280 .bf16) (ix2 ⟨128 * min t.val 31 + i.val, by omega⟩ ⟨j.val, by omega⟩) := by
  unfold X0_1 Pipeline.Window.fill
  rw [dif_pos (moved0_1 t (ix2 i j))]
  unfold iblk
  rw [View.read_apply]
  show V m c main_arg0 _ = m (c.tc.loc main_arg0) _
  rw [V_main_arg0]
  congr 1
  funext a
  apply Fin.ext
  match a with
  | ⟨0, _⟩ => show win0_1.index t 0 * 128 + 1 * i.val = 128 * min t.val 31 + i.val; rw [(wx1 t).1]; omega
  | ⟨1, _⟩ => show win0_1.index t 1 * 1024 + 1 * j.val = j.val; rw [(wx1 t).2]; omega

variable {q o : ℕ → ℕ → ℝ} {a : ℕ → ℝ} (R : Real3 m c q o a)
include R

theorem Real3.reads (t : Fin cfg0.N) (ht : t.val < 32) (x12 : Vec Ideal S256x1024 .f32)
    (hb : ∀ (s : Fin 256) (c : Fin 1024), x12 (ix2 s c) = if c.val % 128 < s.val ∧ s.val ≤ c.val % 128 + 128 then (0 : EReal) else ⊥) :
    Reads (blk q o a t.val) (BitVec.ofNat 32 ((grid0.coords t) 0).val) (iblk m c 0 t) (X0_1 m c t) (iblk m c 2 t) (iblk m c 3 t) (iblk m c 4 t) x12 where
  h1 j := (ib0 m c t 0 j).trans (R.ha j)
  h2 i j := (ib1 m c t i j).trans ((R.hq _ _).trans (by
    show (q (128 * min t.val 31 + i.val) j.val : EReal) = (q (128 * t.val + i.val) j.val : EReal)
    rw [show min t.val 31 = t.val by omega]))
  h3 i j := (ib2 m c t i j).trans ((R.hq _ _).trans (by
    show (q (128 * min t.val 31 + i.val) (1024 + j.val) : EReal) = ((if 128 + i.val < 128 then q (128 * (t.val - 1) + (128 + i.val)) (1024 + j.val) else q (128 * t.val + (128 + i.val - 128)) (1024 + j.val) : ℝ) : EReal)
    rw [if_neg (by omega), show min t.val 31 = t.val by omega, show 128 + i.val - 128 = i.val by omega]))
  h4 i j := (ib3 m c t i j).trans ((R.hq _ _).trans (by
    show (q (128 * (min t.val 31 - 1) + i.val) (1024 + j.val) : EReal) = ((if i.val < 128 then q (128 * (t.val - 1) + i.val) (1024 + j.val) else q (128 * t.val + (i.val - 128)) (1024 + j.val) : ℝ) : EReal)
    rw [if_pos i.isLt, show min t.val 31 = t.val by omega]))
  h5 i j := (ib4 m c t i j).trans ((R.ho _ _).trans (by
    show (o (128 * min t.val 31 + i.val) j.val : EReal) = (o (128 * t.val + i.val) j.val : EReal)
    rw [show min t.val 31 = t.val by omega]))
  hb := hb
  hp := by
    show 0 < t.val ↔ _
    rw [crd t, word_toInt t.val (by omega)]; omega
omit R

/-- What the buffers hold after point `n`, a block of queries. -/
structure Inv (q o : ℕ → ℕ → ℝ) (a : ℕ → ℝ) (n : ℕ) (s : St Ideal) : Prop where
  dq : ∀ (i : Fin 128) (j : Fin 1024), s.dq (ix2 i j) = ((blk q o a n).dq i.val j.val : EReal)
  dkv : 0 < n → ∀ (i : Fin 128) (j : Fin 256), s.dkv (ix2 i j) = (okv q o a (n - 1) i.val j.val : EReal)
  dbq : ∀ (j : Fin 1024), s.dbq (ix2 (0 : Fin 1) j) = ((∑ k ∈ Finset.range (n + 1), ∑ i : Fin 128, (blk q o a k).dq i.val j.val : ℝ) : EReal)
  dbkv : ∀ (j : Fin 256), s.dbkv (ix2 (0 : Fin 1) j) = ((∑ k ∈ Finset.range n, ∑ i : Fin 128, okv q o a k i.val j.val : ℝ) : EReal)
  dsink : ∀ (l : Fin 128), s.dsink (ix2 (0 : Fin 1) l) = ((∑ k ∈ Finset.range (n + 1), if l.val < 16 then (blk q o a k).dsk l.val else 0 : ℝ) : EReal)
  carry : ∀ (i : Fin 128) (j : Fin 256), s.carry (ix2 i j) = ((blk q o a n).dkv (128 + i.val) j.val : EReal)
  bias : ∀ (s' : Fin 256) (c : Fin 1024), s.bias (ix2 s' c) = if c.val % 128 < s'.val ∧ s'.val ≤ c.val % 128 + 128 then (0 : EReal) else ⊥

theorem zero1 (j : Fin 1024) : k0_pay1 (F := Ideal) (ix2 (0 : Fin 1) j) = 0 := by pointwise [k0_pay1]
theorem zero2 (j : Fin 256) : k0_pay2 (F := Ideal) (ix2 (0 : Fin 1) j) = 0 := by pointwise [k0_pay2]
theorem zero3 (j : Fin 128) : k0_pay3 (F := Ideal) (ix2 (0 : Fin 1) j) = 0 := by pointwise [k0_pay3]

theorem bias_real (s : Fin 256) (c : Fin 1024) : k0_pay6 (F := Ideal) (ix2 s c) = if c.val % 128 < s.val ∧ s.val ≤ c.val % 128 + 128 then (0 : EReal) else ⊥ := by
  rw [bias_apply, ninf]

theorem addf_at (x y : FVec Ideal S128x256 .f32) (i : Fin 128) (j : Fin 256) : addf x y (ix2 i j) = x (ix2 i j) + y (ix2 i j) := by pointwise
theorem tr_at (x : FVec Ideal S128x256 .f32) (i : Fin 128) (j : Fin 256) : (truncf .bf16 x bitsLt_bf16_f32 : FVec Ideal S128x256 .bf16) (ix2 i j) = x (ix2 i j) := by pointwise
theorem pay8_at (x : FVec Ideal S128x256 .f32) (i : Fin 128) (j : Fin 256) : k0_pay8 (F := Ideal) x (ix2 i j) = x (ix2 i j) := by pointwise [k0_pay8]

include R
theorem Real3.invA (t : Fin cfg0.N) (h : t.val = 0) : Inv q o a t.val (stA m c t h) := by
  have H := R.reads m c t (by omega) (k0_pay6 (F := Ideal)) bias_real
  constructor
  · intro i j
    unfold stA stOfA; dsimp only
    rw [A.out6]
    exact H.cq i j
  · intro h'; omega
  · intro j
    unfold stA stOfA; dsimp only
    rw [A.out8]
    refine (H.cb (k0_pay1 (F := Ideal)) j).trans ?_
    rw [zero1, zero_add, h, Finset.sum_range_one]
  · intro j
    unfold stA stOfA; dsimp only
    rw [A.out9, zero2, h, Finset.sum_range_zero]; rfl
  · intro l
    unfold stA stOfA; dsimp only
    rw [A.out10]
    refine (addl_apply _ _ l).trans ?_
    rw [H.lanes, zero3, zero_add, h, Finset.sum_range_one]
  · intro i j
    unfold stA stOfA; dsimp only
    rw [A.out11]
    exact H.KVhi i j
  · intro s' c'
    unfold stA stOfA; dsimp only
    rw [A.out12]
    exact bias_real s' c'

theorem Real3.invB (n : ℕ) (hn : n + 1 < 32) (s : St Ideal) (I : Inv q o a n s) (t : Fin cfg0.N) (e : t.val = n + 1) (h : 0 < t.val ∧ t.val < 32) :
    Inv q o a (n + 1) (stB m c t h s) := by
  have H := R.reads m c t (by omega) s.bias I.bias
  rw [e] at H
  have K : ∀ (i : Fin 128) (j : Fin 256), addf s.carry (KVlo (BitVec.ofNat 32 ((grid0.coords t) 0).val) (iblk m c 0 t) (X0_1 m c t) (iblk m c 2 t) (iblk m c 3 t) (iblk m c 4 t) s.bias) (ix2 i j) = (okv q o a n i.val j.val : EReal) := fun i j => by
    rw [addf_at, I.carry, H.KVlo, ← EReal.coe_add]
    unfold okv
    rw [if_pos (by omega)]
  constructor
  · intro i j
    unfold stB stOfB; dsimp only
    rw [B.out6]
    exact H.cq i j
  · intro h' i j
    unfold stB stOfB; dsimp only
    rw [B.out7]
    exact (tr_at _ i j).trans (K i j)
  · intro j
    unfold stB stOfB; dsimp only
    rw [B.out8]
    refine (H.cb s.dbq j).trans ?_
    rw [I.dbq, ← EReal.coe_add, Finset.sum_range_succ _ (n + 1)]
  · intro j
    unfold stB stOfB; dsimp only
    rw [B.out9]
    refine (addr_apply _ _ j).trans ?_
    rw [I.dbkv, Finset.sum_congr rfl fun i _ => K i j, ← Cert.LnRow.coe_sum, ← EReal.coe_add, Finset.sum_range_succ _ n]
  · intro l
    unfold stB stOfB; dsimp only
    rw [B.out10]
    refine (addl_apply _ _ l).trans ?_
    rw [H.lanes, I.dsink, ← EReal.coe_add, Finset.sum_range_succ _ (n + 1)]
  · intro i j
    unfold stB stOfB; dsimp only
    rw [B.out11]
    exact H.KVhi i j
  · exact I.bias

theorem Real3.inv (n : ℕ) : ∀ (hn : n < cfg0.N) (h : n < 32), Inv q o a n (st m c n hn) := by
  induction n with
  | zero => intro hn h; exact R.invA m c ⟨0, hn⟩ rfl
  | succ n ih =>
    intro hn h
    have := R.invB m c n h _ (ih (Nat.lt_of_succ_lt hn) (by omega)) ⟨n + 1, hn⟩ rfl ⟨Nat.succ_pos n, h⟩
    have e := st_B m c ⟨n + 1, hn⟩ ⟨Nat.succ_pos n, h⟩
    exact e ▸ this

/-- The last point: nothing but the last block's own keys and values. -/
structure Last (q o : ℕ → ℕ → ℝ) (a : ℕ → ℝ) (s : St Ideal) : Prop where
  dq : ∀ (i : Fin 128) (j : Fin 1024), s.dq (ix2 i j) = ((blk q o a 31).dq i.val j.val : EReal)
  dkv : ∀ (i : Fin 128) (j : Fin 256), s.dkv (ix2 i j) = (okv q o a 31 i.val j.val : EReal)
  dbq : ∀ (j : Fin 1024), s.dbq (ix2 (0 : Fin 1) j) = ((∑ k ∈ Finset.range 32, ∑ i : Fin 128, (blk q o a k).dq i.val j.val : ℝ) : EReal)
  dbkv : ∀ (j : Fin 256), s.dbkv (ix2 (0 : Fin 1) j) = ((∑ k ∈ Finset.range 32, ∑ i : Fin 128, okv q o a k i.val j.val : ℝ) : EReal)
  dsink : ∀ (l : Fin 128), s.dsink (ix2 (0 : Fin 1) l) = ((∑ k ∈ Finset.range 32, if l.val < 16 then (blk q o a k).dsk l.val else 0 : ℝ) : EReal)

theorem Real3.last (t : Fin cfg0.N) (h : t.val = 32) : Last q o a (st m c t.val t.isLt) := by
  have I := R.inv m c 31 (by have : cfg0.N = 33 := N_0; omega) (by omega)
  have hp : t.val - 1 = 31 := by omega
  have e := st_C m c t h
  have I' : Inv q o a 31 (st m c (t.val - 1) (Nat.lt_of_le_of_lt (Nat.sub_le _ _) t.isLt)) := by
    have : ∀ (k : ℕ) (hk : k < cfg0.N), k = 31 → Inv q o a 31 (st m c k hk) := fun k hk ek => by subst ek; exact I
    exact this _ _ hp
  rw [e]
  have K : ∀ (i : Fin 128) (j : Fin 256), (st m c (t.val - 1) (Nat.lt_of_le_of_lt (Nat.sub_le _ _) t.isLt)).carry (ix2 i j) = (okv q o a 31 i.val j.val : EReal) := fun i j => by
    rw [I'.carry]; unfold okv; rw [if_neg (by omega), add_zero]
  constructor
  · exact I'.dq
  · intro i j
    unfold stC; dsimp only
    rw [C.out7]
    exact (pay8_at _ i j).trans (K i j)
  · exact I'.dbq
  · intro j
    unfold stC; dsimp only
    rw [C.out9]
    refine (addr_apply _ _ j).trans ?_
    rw [I'.dbkv, Finset.sum_congr rfl fun i _ => K i j, ← Cert.LnRow.coe_sum, ← EReal.coe_add, Finset.sum_range_succ _ 31]
  · exact I'.dsink

end Cert.Att

end
-- ==== Proof.AttArr.lean ====
/-
  What the attention gradient's five result arrays hold once its 33 grid points have run, over the reals.
-/
module

public import proofs.«01_k».proof.Proof.AttState

@[expose] public section

set_option maxRecDepth 16384

noncomputable section

namespace Cert.Att

open Idealize.ShloMosaic Idealize.ShloMosaic.TcCoe Idealize.SL.Sem
open Cert.AttnIdeal Cert.AttnIdeal.Gen Cert.AttnIdeal.Hand
open Idealize.ShloMosaic.Pipeline (Dat)

theorem fl5 : ∀ t : Fin cfg0.N, (cfg0.win 5).flush t = true ↔ t.val ≠ 31 :=
  (by decide +kernel : ∀ t : Fin grid0.N, win0_5.flush t = true ↔ t.val ≠ 31)
theorem fl6 : ∀ t : Fin cfg0.N, (cfg0.win 6).flush t = true ↔ t.val ≠ 0 :=
  (by decide +kernel : ∀ t : Fin grid0.N, win0_6.flush t = true ↔ t.val ≠ 0)

/-- The five results. -/
def S5 (q o : ℕ → ℕ → ℝ) (a : ℕ → ℝ) : Vec Ideal S4096x1024 .bf16 := fun i => ((blk q o a ((i 0).val / 128)).dq ((i 0).val % 128) (i 1).val : EReal)
def S6 (q o : ℕ → ℕ → ℝ) (a : ℕ → ℝ) : Vec Ideal S4096x256 .bf16 := fun i => (okv q o a ((i 0).val / 128) ((i 0).val % 128) (i 1).val : EReal)
def S7 (q o : ℕ → ℕ → ℝ) (a : ℕ → ℝ) : Vec Ideal S1x1024 .f32 := fun i => ((∑ k ∈ Finset.range 32, ∑ r : Fin 128, (blk q o a k).dq r.val (i 1).val : ℝ) : EReal)
def S8 (q o : ℕ → ℕ → ℝ) (a : ℕ → ℝ) : Vec Ideal S1x256 .f32 := fun i => ((∑ k ∈ Finset.range 32, ∑ r : Fin 128, okv q o a k r.val (i 1).val : ℝ) : EReal)
def S9 (q o : ℕ → ℕ → ℝ) (a : ℕ → ℝ) : Vec Ideal S1x128 .f32 := fun i => ((∑ k ∈ Finset.range 32, if (i 1).val < 16 then (blk q o a k).dsk (i 1).val else 0 : ℝ) : EReal)

theorem zcov {x n : ℕ} (h : x < n) : 0 * n ≤ x ∧ x < 0 * n + n := by omega

variable (m : (ℓ : Loc nD τ sig) → Buf (Elt Ideal) ℓ) (c : Dev nD) {q o : ℕ → ℕ → ℝ} {a : ℕ → ℝ} (R : Real3 m c q o a)
include R

theorem Real3.dqAt (t : Fin cfg0.N) (i : Fin 128) (j : Fin 1024) : (st m c t.val t.isLt).dq (ix2 i j) = ((blk q o a (min t.val 31)).dq i.val j.val : EReal) := by
  by_cases h : t.val < 32
  · rw [(R.inv m c t.val t.isLt h).dq, show min t.val 31 = t.val by omega]
  · have := lt33 t
    rw [(R.last m c t (by omega)).dq, show min t.val 31 = 31 by omega]
theorem Real3.dkvAt (t : Fin cfg0.N) (h0 : t.val ≠ 0) (i : Fin 128) (j : Fin 256) : (st m c t.val t.isLt).dkv (ix2 i j) = (okv q o a (t.val - 1) i.val j.val : EReal) := by
  by_cases h : t.val < 32
  · rw [(R.inv m c t.val t.isLt h).dkv (by omega)]
  · have := lt33 t
    rw [(R.last m c t (by omega)).dkv, show t.val - 1 = 31 by omega]

theorem Real3.arr5 : ((dats m 0 c).arrAt 5 cfg0.N : Vec Ideal S4096x1024 .bf16) = S5 q o a := by
  have hN : cfg0.N = 33 := N_0
  have hN' : grid0.N = 33 := N_0
  refine (dats m 0 c).arrAt_eq_of_cover 5 (S5 q o a) (fun t _ => ?_) (fun i => ?_)
  · show (cfg0.win 5).cut (grid0.coords t) ((dats m 0 c).after 5 t) = _
    rw [after5]
    have ht := lt33 t
    funext y
    idx_vars y
    refine (R.dqAt m c t _ _).trans ?_
    rw [View.read_apply]
    show _ = S5 q o a _
    unfold S5
    have e0 : ((((cfg0.win 5).blk t).view.emb (ix2 y0 y1)) 0).val = 128 * min t.val 31 + y0.val := by
      show win0_5.index t 0 * 128 + 1 * y0.val = _
      rw [(wx5 t).1]; omega
    have e1 : ((((cfg0.win 5).blk t).view.emb (ix2 y0 y1)) 1).val = y1.val := by
      show win0_5.index t 1 * 1024 + 1 * y1.val = y1.val
      rw [(wx5 t).2]; omega
    have hy : y0.val < 128 := y0.isLt
    rw [e0, e1, show (128 * min t.val 31 + y0.val) / 128 = min t.val 31 by omega, show (128 * min t.val 31 + y0.val) % 128 = y0.val by omega]
  · have h0 : (i 0).val < 4096 := (i 0).isLt
    have h1 : (i 1).val < 1024 := (i 1).isLt
    refine ⟨⟨if (i 0).val / 128 = 31 then 32 else (i 0).val / 128, by split <;> omega⟩, (fl5 _).mpr ?_, ?_⟩
    · show (if (i 0).val / 128 = 31 then 32 else (i 0).val / 128) ≠ 31
      split <;> omega
    rw [View.set_slice_whole, Rect.mem_set_unit]
    intro b
    match b with
    | ⟨0, _⟩ =>
      have e := (wx5 ⟨if (i 0).val / 128 = 31 then 32 else (i 0).val / 128, by split <;> omega⟩).1
      show win0_5.index _ 0 * 128 ≤ (i 0).val ∧ (i 0).val < win0_5.index _ 0 * 128 + 128
      rw [e]; simp only; split <;> omega
    | ⟨1, _⟩ =>
      have e := (wx5 ⟨if (i 0).val / 128 = 31 then 32 else (i 0).val / 128, by split <;> omega⟩).2
      show win0_5.index _ 1 * 1024 ≤ (i 1).val ∧ (i 1).val < win0_5.index _ 1 * 1024 + 1024
      rw [e]; exact zcov ‹_›

theorem Real3.arr6 : ((dats m 0 c).arrAt 6 cfg0.N : Vec Ideal S4096x256 .bf16) = S6 q o a := by
  have hN : cfg0.N = 33 := N_0
  have hN' : grid0.N = 33 := N_0
  refine (dats m 0 c).arrAt_eq_of_cover 6 (S6 q o a) (fun t hf => ?_) (fun i => ?_)
  · show (cfg0.win 6).cut (grid0.coords t) ((dats m 0 c).after 6 t) = _
    rw [after6]
    have ht := lt33 t
    have h0 := (fl6 t).mp hf
    funext y
    idx_vars y
    refine (R.dkvAt m c t h0 _ _).trans ?_
    rw [View.read_apply]
    show _ = S6 q o a _
    unfold S6
    have e0 : ((((cfg0.win 6).blk t).view.emb (ix2 y0 y1)) 0).val = 128 * (t.val - 1) + y0.val := by
      show win0_6.index t 0 * 128 + 1 * y0.val = _
      rw [(wx6 t).1]; omega
    have e1 : ((((cfg0.win 6).blk t).view.emb (ix2 y0 y1)) 1).val = y1.val := by
      show win0_6.index t 1 * 256 + 1 * y1.val = y1.val
      rw [(wx6 t).2]; omega
    have hy : y0.val < 128 := y0.isLt
    rw [e0, e1, show (128 * (t.val - 1) + y0.val) / 128 = (t.val - 1) by omega, show (128 * (t.val - 1) + y0.val) % 128 = y0.val by omega]
  · have h0 : (i 0).val < 4096 := (i 0).isLt
    have h1 : (i 1).val < 256 := (i 1).isLt
    refine ⟨⟨(i 0).val / 128 + 1, by omega⟩, (fl6 _).mpr ?_, ?_⟩
    · show ((i 0).val / 128 + 1) ≠ 0
      omega
    rw [View.set_slice_whole, Rect.mem_set_unit]
    intro b
    match b with
    | ⟨0, _⟩ =>
      have e := (wx6 ⟨(i 0).val / 128 + 1, by omega⟩).1
      show win0_6.index _ 0 * 128 ≤ (i 0).val ∧ (i 0).val < win0_6.index _ 0 * 128 + 128
      rw [e]; simp only; omega
    | ⟨1, _⟩ =>
      have e := (wx6 ⟨(i 0).val / 128 + 1, by omega⟩).2
      show win0_6.index _ 1 * 256 ≤ (i 1).val ∧ (i 1).val < win0_6.index _ 1 * 256 + 256
      rw [e]; exact zcov ‹_›

theorem Real3.arr7 : ((dats m 0 c).arrAt 7 cfg0.N : Vec Ideal S1x1024 .f32) = S7 q o a := by
  have hN : cfg0.N = 33 := N_0
  have hN' : grid0.N = 33 := N_0
  refine (dats m 0 c).arrAt_eq_of_cover 7 (S7 q o a) (fun t hf => ?_) (fun i => ?_)
  · have ht := lt33 t
    have h32 : t.val = 32 := by have := (flush0_7 t).mp hf; omega
    show (cfg0.win 7).cut (grid0.coords t) ((dats m 0 c).after 7 t) = _
    rw [after7]
    funext y
    idx_vars y
    have e0 : y0 = 0 := Fin.ext (by have : y0.val < 1 := y0.isLt; show y0.val = 0; omega)
    subst e0
    refine ((R.last m c t h32).dbq y1).trans ?_
    rw [View.read_apply]
    show _ = S7 q o a _
    unfold S7
    have e1 : ((((cfg0.win 7).blk t).view.emb (ix2 (0 : Fin 1) y1)) 1).val = y1.val := by
      show win0_7.index t 1 * 1024 + 1 * y1.val = y1.val
      rw [(wx7 t).2]; omega
    rw [e1]
  · have h0 : (i 0).val < 1 := (i 0).isLt
    have h1 : (i 1).val < 1024 := (i 1).isLt
    refine ⟨⟨32, by omega⟩, (flush0_7 _).mpr rfl, ?_⟩
    rw [View.set_slice_whole, Rect.mem_set_unit]
    intro b
    match b with
    | ⟨0, _⟩ =>
      have e := (wx7 ⟨32, by omega⟩).1
      show win0_7.index _ 0 * 1 ≤ (i 0).val ∧ (i 0).val < win0_7.index _ 0 * 1 + 1
      rw [e]; exact zcov ‹_›
    | ⟨1, _⟩ =>
      have e := (wx7 ⟨32, by omega⟩).2
      show win0_7.index _ 1 * 1024 ≤ (i 1).val ∧ (i 1).val < win0_7.index _ 1 * 1024 + 1024
      rw [e]; exact zcov ‹_›

theorem Real3.arr8 : ((dats m 0 c).arrAt 8 cfg0.N : Vec Ideal S1x256 .f32) = S8 q o a := by
  have hN : cfg0.N = 33 := N_0
  have hN' : grid0.N = 33 := N_0
  refine (dats m 0 c).arrAt_eq_of_cover 8 (S8 q o a) (fun t hf => ?_) (fun i => ?_)
  · have ht := lt33 t
    have h32 : t.val = 32 := by have := (flush0_8 t).mp hf; omega
    show (cfg0.win 8).cut (grid0.coords t) ((dats m 0 c).after 8 t) = _
    rw [after8]
    funext y
    idx_vars y
    have e0 : y0 = 0 := Fin.ext (by have : y0.val < 1 := y0.isLt; show y0.val = 0; omega)
    subst e0
    refine ((R.last m c t h32).dbkv y1).trans ?_
    rw [View.read_apply]
    show _ = S8 q o a _
    unfold S8
    have e1 : ((((cfg0.win 8).blk t).view.emb (ix2 (0 : Fin 1) y1)) 1).val = y1.val := by
      show win0_8.index t 1 * 256 + 1 * y1.val = y1.val
      rw [(wx8 t).2]; omega
    rw [e1]
  · have h0 : (i 0).val < 1 := (i 0).isLt
    have h1 : (i 1).val < 256 := (i 1).isLt
    refine ⟨⟨32, by omega⟩, (flush0_8 _).mpr rfl, ?_⟩
    rw [View.set_slice_whole, Rect.mem_set_unit]
    intro b
    match b with
    | ⟨0, _⟩ =>
      have e := (wx8 ⟨32, by omega⟩).1
      show win0_8.index _ 0 * 1 ≤ (i 0).val ∧ (i 0).val < win0_8.index _ 0 * 1 + 1
      rw [e]; exact zcov ‹_›
    | ⟨1, _⟩ =>
      have e := (wx8 ⟨32, by omega⟩).2
      show win0_8.index _ 1 * 256 ≤ (i 1).val ∧ (i 1).val < win0_8.index _ 1 * 256 + 256
      rw [e]; exact zcov ‹_›

theorem Real3.arr9 : ((dats m 0 c).arrAt 9 cfg0.N : Vec Ideal S1x128 .f32) = S9 q o a := by
  have hN : cfg0.N = 33 := N_0
  have hN' : grid0.N = 33 := N_0
  refine (dats m 0 c).arrAt_eq_of_cover 9 (S9 q o a) (fun t hf => ?_) (fun i => ?_)
  · have ht := lt33 t
    have h32 : t.val = 32 := by have := (flush0_9 t).mp hf; omega
    show (cfg0.win 9).cut (grid0.coords t) ((dats m 0 c).after 9 t) = _
    rw [after9]
    funext y
    idx_vars y
    have e0 : y0 = 0 := Fin.ext (by have : y0.val < 1 := y0.isLt; show y0.val = 0; omega)
    subst e0
    refine ((R.last m c t h32).dsink y1).trans ?_
    rw [View.read_apply]
    show _ = S9 q o a _
    unfold S9
    have e1 : ((((cfg0.win 9).blk t).view.emb (ix2 (0 : Fin 1) y1)) 1).val = y1.val := by
      show win0_9.index t 1 * 128 + 1 * y1.val = y1.val
      rw [(wx9 t).2]; omega
    rw [e1]
  · have h0 : (i 0).val < 1 := (i 0).isLt
    have h1 : (i 1).val < 128 := (i 1).isLt
    refine ⟨⟨32, by omega⟩, (flush0_9 _).mpr rfl, ?_⟩
    rw [View.set_slice_whole, Rect.mem_set_unit]
    intro b
    match b with
    | ⟨0, _⟩ =>
      have e := (wx9 ⟨32, by omega⟩).1
      show win0_9.index _ 0 * 1 ≤ (i 0).val ∧ (i 0).val < win0_9.index _ 0 * 1 + 1
      rw [e]; exact zcov ‹_›
    | ⟨1, _⟩ =>
      have e := (wx9 ⟨32, by omega⟩).2
      show win0_9.index _ 1 * 128 ≤ (i 1).val ∧ (i 1).val < win0_9.index _ 1 * 128 + 128
      rw [e]; exact zcov ‹_›

end Cert.Att

end
-- ==== Proof.AttRefA.lean ====
/-
  The reference's attention gradient read at one element, over the reals: the scores, the softmax with its sink, and the
  gradient of the scores, of block `n`, head `8 g + u`, query `i` and row `s` of the 256 keys.
-/
module

public import proofs.«01_k».proof.Proof.Gen.AttnRefIdeal.Read
public import proofs.«01_k».proof.Proof.AttReal
public import Idealize.ShloMosaic.Lib.Pointwise

@[expose] public section

set_option maxRecDepth 16384

noncomputable section

namespace Cert.Att

open Idealize.ShloMosaic Idealize.ShloMosaic.TcCoe
open Cert.AttnRefIdeal Cert.AttnRefIdeal.Read
open Cert.LnRow (coe_sum)

abbrev TX : Type := (⟨S4096x1280, .bf16⟩ : BufTy).Contents (Elt Ideal)
abbrev TO : Type := (⟨S4096x1024, .bf16⟩ : BufTy).Contents (Elt Ideal)
abbrev TS : Type := (⟨S1x16, .f32⟩ : BufTy).Contents (Elt Ideal)

/-- Block `n` as the reference cuts it: zeros stand before the first block. -/
def rb (q o : ℕ → ℕ → ℝ) (a : ℕ → ℝ) (n : ℕ) : Blk where
  kv s j := if s < 128 then if n < 1 then 0 else q (128 * (n - 1) + s) (1024 + j) else q (128 * n + (s - 128)) (1024 + j)
  q i j := q (128 * n + i) j
  o i j := o (128 * n + i) j
  a := a
  pos := 0 < n

/-- The three arguments hold reals. -/
structure Reals (x0 : TX) (x1 : TO) (x2 : TS) (q o : ℕ → ℕ → ℝ) (a : ℕ → ℝ) : Prop where
  hq : ∀ (r : Fin 4096) (j : Fin 1280), x0 (ix2 r j) = (q r.val j.val : EReal)
  ho : ∀ (r : Fin 4096) (j : Fin 1024), x1 (ix2 r j) = (o r.val j.val : EReal)
  ha : ∀ (j : Fin 16), x2 (ix2 (0 : Fin 1) j) = (a j.val : EReal)

variable {x0 : TX} {x1 : TO} {x2 : TS} {q o : ℕ → ℕ → ℝ} {a : ℕ → ℝ}

theorem v3_apply (r : Fin 4096) (j : Fin 1280) : val_main_v3 (F := Ideal) x0 (ix2 r j) = x0 (ix2 r j) := by
  pointwise [val_main_v3, val_main_v0, val_main_v2, val_main_v1, val_main_cst]

theorem rel_word (i s : ℕ) (hi : i < 128) (hs : s < 256) :
    (IntOp.subi (IntOp.addi (BitVec.ofNat 32 i) 128#32) (BitVec.ofNat 32 s)).toInt = (i : ℤ) + 128 - s := by
  unfold IntOp.subi IntOp.addi
  have h1 := word_toInt i (by omega)
  have h2 := word_toInt s (by omega)
  have h3 : (128#32 : BitVec 32).toInt = 128 := by decide
  rw [BitVec.toInt_sub, BitVec.toInt_add, h1, h2, h3]
  clear h1 h2 h3
  simp only [Int.bmod]
  omega

/-- The window's mask is the one of the block. -/
theorem ok_word (n : Fin 32) (i : Fin 128) (s : Fin 256) :
    IntOp.andi
      (IntOp.andi
        (IntOp.cmpi CmpIPredicate.sge (IntOp.subi (IntOp.addi (BitVec.ofNat 32 i.val) 128#32) (BitVec.ofNat 32 s.val)) 0#32)
        (IntOp.cmpi CmpIPredicate.slt (IntOp.subi (IntOp.addi (BitVec.ofNat 32 i.val) 128#32) (BitVec.ofNat 32 s.val)) 128#32))
      (IntOp.ori (IntOp.cmpi CmpIPredicate.sgt (BitVec.ofNat 32 n.val) 0#32) (IntOp.cmpi CmpIPredicate.sge (BitVec.ofNat 32 s.val) 128#32))
      = BitVec.ofBool (decide (i.val < s.val ∧ s.val ≤ i.val + 128 ∧ (0 < n.val ∨ 128 ≤ s.val))) := by
  have h2 := word_toInt s.val (by omega)
  have h4 := word_toInt n.val (by omega)
  have h0 : (0#32 : BitVec 32).toInt = 0 := by decide
  have h3 : (128#32 : BitVec 32).toInt = 128 := by decide
  have hx := rel_word i.val s.val i.isLt s.isLt
  generalize IntOp.subi (IntOp.addi (BitVec.ofNat 32 i.val) 128#32) (BitVec.ofNat 32 s.val) = y at hx ⊢
  have e1 : (0#32 : BitVec 32).sle y = decide (s.val ≤ i.val + 128) := by
    rw [BitVec.sle, h0, hx]; exact decide_eq_decide.mpr (by omega)
  have e2 : y.slt 128#32 = decide (i.val < s.val) := by
    rw [BitVec.slt, h3, hx]; exact decide_eq_decide.mpr (by omega)
  have e3 : (0#32 : BitVec 32).slt (BitVec.ofNat 32 n.val) = decide (0 < n.val) := by
    rw [BitVec.slt, h0, h4]; exact decide_eq_decide.mpr (by omega)
  have e4 : (128#32 : BitVec 32).sle (BitVec.ofNat 32 s.val) = decide (128 ≤ s.val) := by
    rw [BitVec.sle, h3, h2]; exact decide_eq_decide.mpr (by omega)
  unfold IntOp.cmpi IntOp.andi IntOp.ori
  simp only [e1, e2, e3, e4]
  by_cases h1 : s.val ≤ i.val + 128 <;> by_cases h2 : i.val < s.val <;> by_cases h3 : 0 < n.val <;> by_cases h4 : 128 ≤ s.val <;> simp [h1, h2, h3, h4]

theorem v55m_apply (n : Fin 32) (g : Fin 2) (u : Fin 8) (i : Fin 128) (s : Fin 256) :
    val_main_v55_1 (F := Ideal) (ix5 n g u i s) = BitVec.ofBool (decide (i.val < s.val ∧ s.val ≤ i.val + 128 ∧ (0 < n.val ∨ 128 ≤ s.val))) := by
  pointwise [val_main_v55_1, val_main_v54, val_main_v53, val_main_v52, val_main_v51, val_main_v50, val_main_v49, val_main_v48, val_main_v47, val_main_v46, val_main_v45,
    val_main_v44, val_main_v43, val_main_v42, val_main_v41, val_main_v40, val_main_v39, val_main_v38, val_main_v37, val_main_v36, val_main_v35, val_main_v34, val_main_v33,
    val_main_v32, val_main_v31, val_main_v30, val_main_v29, val_main_v28, val_main_v27, val_main_v26, val_main_c, val_main_c_5, val_main_c_6, val_main_c_7, val_main_c_8]
  exact ok_word n i s

/-- A choice by the mask. -/
theorem pick_ok {α : Type} (B : Blk) (h i s : ℕ) (p : Prop) [Decidable p] (hp : p ↔ B.ok i s) (x y : α) :
    Scalar.select (BitVec.ofBool (decide p)) x y = @ite α (B.ok i s) (Classical.propDecidable _) x y := by
  unfold Scalar.select
  by_cases c : p
  · rw [if_pos (hp.mp c)]; simp [c]
  · rw [if_neg (fun k => c (hp.mpr k))]; simp [c]

/-- The largest of one number more. -/
theorem fold_succ (k : ℕ) (b : EReal) (f : Fin (k + 1) → EReal) :
    Finset.univ.fold max b f = max (Finset.univ.fold max b fun s : Fin k => f s.castSucc) (f (Fin.last k)) := by
  rw [Fin.univ_castSuccEmb, Finset.fold_cons, Finset.fold_map, max_comm]
  rfl

theorem rb_ok (q o : ℕ → ℕ → ℝ) (a : ℕ → ℝ) (n : Fin 32) (i : Fin 128) (s : Fin 256) :
    (i.val < s.val ∧ s.val ≤ i.val + 128 ∧ (0 < n.val ∨ 128 ≤ s.val)) ↔ (rb q o a n.val).ok i.val s.val := Iff.rfl

theorem exp_coe (r : ℝ) : Ideal.exp (r : EReal) = ((Real.exp r : ℝ) : EReal) := rfl
theorem exp_bot : Ideal.exp ⊥ = ((0 : ℝ) : EReal) := rfl

/-- The weighted sum of the probabilities' gradients, as the reference divides it. -/
theorem δ_div (B : Blk) (h i : ℕ) : (∑ s : Fin 256, B.dp h i s.val * (1 / (B.D h i * B.D h i)) * B.e h i s.val) = B.δ h i * (1 / B.D h i) := by
  have hD := (B.D_pos h i).ne'
  unfold Blk.δ Blk.p
  rw [Finset.sum_mul]
  exact Finset.sum_congr rfl fun s _ => by field_simp

section
variable (R : Reals x0 x1 x2 q o a) (n : Fin 32) (g : Fin 2) (u : Fin 8) (i : Fin 128)
include R

theorem Reals.v7 (d : Fin 64) : val_main_v7 (F := Ideal) x0 (ix5 n i g u d) = ((rb q o a n.val).q i.val (64 * (8 * g.val + u.val) + d.val) : EReal) := by
  pointwise [val_main_v7, val_main_v4, v3_apply]
  rw [R.hq]
  show ((q (n.val * 128 + i.val) (g.val * 512 + u.val * 64 + d.val) : ℝ) : EReal) = (q (128 * n.val + i.val) _ : ℝ)
  congr 2 <;> ring

theorem Reals.v8 (d : Fin 64) : val_main_v8 (F := Ideal) x0 (ix4 n i g d) = (q (128 * n.val + i.val) (1024 + (64 * g.val + d.val)) : EReal) := by
  pointwise [val_main_v8, val_main_v5, v3_apply]
  rw [R.hq]
  congr 2 <;> simp only [] <;> ring

theorem Reals.v9 (d : Fin 64) : val_main_v9 (F := Ideal) x0 (ix4 n i g d) = (q (128 * n.val + i.val) (1024 + (128 + 64 * g.val + d.val)) : EReal) := by
  pointwise [val_main_v9, val_main_v6, v3_apply]
  rw [R.hq]
  congr 2 <;> simp only [] <;> ring

theorem Reals.v15 (s : Fin 256) (d : Fin 64) : val_main_v15 (F := Ideal) x0 (ix4 n s g d) = ((rb q o a n.val).kv s.val (64 * g.val + d.val) : EReal) := by
  pointwise [val_main_v15, val_main_v13, val_main_v11, val_main_cst_0, val_main_v12]
  unfold rb
  simp only []
  by_cases hs : s.val < 128
  · rw [dif_pos hs, if_pos hs]
    by_cases hn : n.val < 1
    · rw [dif_pos hn, if_pos hn]; rfl
    · rw [dif_neg hn, if_neg hn, R.v8]
  · rw [dif_neg hs, if_neg hs, R.v8]

theorem Reals.v21 (s : Fin 256) (d : Fin 64) : val_main_v21 (F := Ideal) x0 (ix4 n s g d) = ((rb q o a n.val).kv s.val (128 + 64 * g.val + d.val) : EReal) := by
  pointwise [val_main_v21, val_main_v19, val_main_v17, val_main_cst_2, val_main_v18]
  unfold rb
  simp only []
  by_cases hs : s.val < 128
  · rw [dif_pos hs, if_pos hs]
    by_cases hn : n.val < 1
    · rw [dif_pos hn, if_pos hn]; rfl
    · rw [dif_neg hn, if_neg hn, R.v9]
  · rw [dif_neg hs, if_neg hs, R.v9]

theorem Reals.v25 (s : Fin 256) : val_main_v25 (F := Ideal) x0 (ix5 n g u i s) = ((rb q o a n.val).sc (8 * g.val + u.val) i.val s.val : EReal) := by
  pointwise [val_main_v25, val_main_v24, val_main_cst_4, val_main_v23, val_main_v22]
  unfold Blk.sc
  rw [eighth, EReal.coe_mul, coe_sum, show (8 * g.val + u.val) / 8 = g.val by omega]
  congr 1
  exact Finset.sum_congr rfl fun d _ => by rw [R.v15, R.v7, ← EReal.coe_mul]

theorem Reals.v55 (s : Fin 256) : val_main_v55_0 (F := Ideal) x0 (ix5 n g u i s) = (rb q o a n.val).scE (8 * g.val + u.val) i.val s.val := by
  rw [val_main_v55_0_apply, v55m_apply, pick_ok (rb q o a n.val) 0 i.val s.val _ (rb_ok q o a n i s), R.v25]
  unfold Blk.scE
  congr 1

theorem Reals.v58 (s : Fin 257) : val_main_v58 (F := Ideal) x0 x2 (ix5 n g u i s)
    = if s.val < 256 then (rb q o a n.val).scE (8 * g.val + u.val) i.val s.val else (a (8 * g.val + u.val) : EReal) := by
  pointwise [val_main_v58, val_main_v57, val_main_v56]
  by_cases hs : s.val < 256
  · rw [dif_pos hs, if_pos hs, R.v55]
  · rw [dif_neg hs, if_neg hs, R.ha]; congr 2; show g.val * 8 + u.val = _; omega

theorem Reals.v59 : val_main_v59 (F := Ideal) x0 x2 (ix4 n g u i) = ((rb q o a n.val).M (8 * g.val + u.val) i.val : EReal) := by
  pointwise [val_main_v59, val_main_cst_10]
  rw [fold_succ 256, ← Blk.ME_coe, ninf]
  unfold Blk.ME
  congr 1
  · congr 1; funext s
    rw [R.v58, if_pos (by simp)]; rfl
  · rw [R.v58, if_neg (by simp)]; rfl

theorem Reals.v77 (s : Fin 257) : val_main_v77 (F := Ideal) x0 x2 (ix5 n g u i s) = ((rb q o a n.val).M (8 * g.val + u.val) i.val : EReal) := by
  pointwise [val_main_v77, val_main_v76]
  rw [val_main_v66_apply, R.v59, val_main_v65_apply, val_main_cst_12_apply]
  show max (Ideal.ofBits .f32 0xFF800000#32) _ = _
  rw [ninf, max_eq_right bot_le]

theorem Reals.v79 (s : Fin 257) : val_main_v79 (F := Ideal) x0 x2 (ix5 n g u i s)
    = ((if s.val < 256 then (rb q o a n.val).e (8 * g.val + u.val) i.val s.val else (rb q o a n.val).es (8 * g.val + u.val) i.val : ℝ) : EReal) := by
  rw [val_main_v79_apply, val_main_v78_apply, R.v77, R.v58, Ideal.subf_def, Ideal.hostUnary_exp_def]
  by_cases hs : s.val < 256
  · rw [if_pos hs, if_pos hs]
    unfold Blk.scE Blk.e
    split
    · rw [← EReal.coe_sub, exp_coe]
    · rw [EReal.bot_sub, exp_bot]
  · rw [if_neg hs, if_neg hs, ← EReal.coe_sub, exp_coe, Blk.es]; rfl

theorem Reals.v80 : val_main_v80 (F := Ideal) x0 x2 (ix4 n g u i) = ((rb q o a n.val).D (8 * g.val + u.val) i.val : EReal) := by
  pointwise [val_main_v80, val_main_cst_18]
  rw [Fin.sum_univ_castSucc]
  unfold Blk.D
  rw [EReal.coe_add, coe_sum]
  congr 1
  · exact Finset.sum_congr rfl fun s _ => by rw [R.v79, if_pos (by simp)]; rfl
  · rw [R.v79, if_neg (by simp)]

theorem Reals.v83 (s : Fin 256) : val_main_v83 (F := Ideal) x0 x2 (ix5 n g u i ⟨s.val, by omega⟩) = ((rb q o a n.val).p (8 * g.val + u.val) i.val s.val : EReal) := by
  pointwise [val_main_v83, val_main_v82, val_main_v81]
  rw [R.v79, R.v80, if_pos s.isLt, Ideal.div_coe (Blk.D_pos _ _ _).ne', ← EReal.coe_mul]; rfl

theorem Reals.v86 : val_main_v86 (F := Ideal) x0 x2 (ix5 n g u i (0 : Fin 1))
    = ((1 / ((rb q o a n.val).D (8 * g.val + u.val) i.val * (rb q o a n.val).D (8 * g.val + u.val) i.val) : ℝ) : EReal) := by
  pointwise [val_main_v86, val_main_v85, val_main_v84, val_main_v81, val_main_cst_19]
  have h := Blk.D_pos (rb q o a n.val) (8 * g.val + u.val) i.val
  rw [R.v80, ← EReal.coe_mul, Ideal.div_coe (mul_pos h h).ne', one_mul]

theorem Reals.v92 (d : Fin 64) : val_main_v92 (F := Ideal) x1 (ix5 n i g u d) = ((rb q o a n.val).o i.val (64 * (8 * g.val + u.val) + d.val) : EReal) := by
  pointwise [val_main_v92, val_main_v91]
  rw [R.ho]
  show ((o (n.val * 128 + i.val) (g.val * 512 + u.val * 64 + d.val) : ℝ) : EReal) = (o (128 * n.val + i.val) _ : ℝ)
  congr 2 <;> ring

theorem Reals.v94 (s : Fin 256) : val_main_v94 (F := Ideal) x0 x1 (ix5 n g u i s) = ((rb q o a n.val).dp (8 * g.val + u.val) i.val s.val : EReal) := by
  pointwise [val_main_v94, val_main_v93]
  unfold Blk.dp
  rw [coe_sum, show (8 * g.val + u.val) / 8 = g.val by omega]
  exact Finset.sum_congr rfl fun d _ => by rw [R.v21, R.v92, ← EReal.coe_mul, mul_comm]

theorem Reals.v97 (s : Fin 257) : val_main_v97 (F := Ideal) x0 x1 (ix5 n g u i s)
    = ((if s.val < 256 then (rb q o a n.val).dp (8 * g.val + u.val) i.val s.val else 0 : ℝ) : EReal) := by
  pointwise [val_main_v97, val_main_cst_20]
  by_cases hs : s.val < 256
  · rw [dif_pos hs, if_pos hs, R.v94]
  · rw [dif_neg hs, if_neg hs]; rfl

theorem Reals.v106 : val_main_v106 (F := Ideal) x0 x1 x2 (ix4 n g u i)
    = ((-((rb q o a n.val).δ (8 * g.val + u.val) i.val * (1 / (rb q o a n.val).D (8 * g.val + u.val) i.val)) : ℝ) : EReal) := by
  pointwise [val_main_v106, val_main_v103, val_main_v102, val_main_v101, val_main_v100, val_main_v99, val_main_v98, val_main_cst_21, val_main_cst_22]
  rw [← δ_div]
  have h : ∀ s : Fin 257, val_main_v97 (F := Ideal) x0 x1 (ix5 n g u i s) * val_main_v86 (F := Ideal) x0 x2 (ix5 n g u i (0 : Fin 1)) * val_main_v79 (F := Ideal) x0 x2 (ix5 n g u i s)
      = (((if s.val < 256 then (rb q o a n.val).dp (8 * g.val + u.val) i.val s.val else 0) * (1 / ((rb q o a n.val).D (8 * g.val + u.val) i.val * (rb q o a n.val).D (8 * g.val + u.val) i.val))
        * (if s.val < 256 then (rb q o a n.val).e (8 * g.val + u.val) i.val s.val else (rb q o a n.val).es (8 * g.val + u.val) i.val) : ℝ) : EReal) := fun s => by
    rw [R.v97, R.v86, R.v79, ← EReal.coe_mul, ← EReal.coe_mul]
  rw [Fin.sum_univ_one, Finset.sum_congr rfl fun s _ => h s, ← coe_sum, ← EReal.coe_neg, Fin.sum_univ_castSucc]
  congr 2
  rw [if_neg (by simp), zero_mul, zero_mul, add_zero]
  exact Finset.sum_congr rfl fun s _ => by rw [if_pos (by simp), if_pos (by simp)]; rfl

theorem Reals.v109 (s : Fin 257) : val_main_v109 (F := Ideal) x0 x1 x2 (ix5 n g u i s)
    = ((((if s.val < 256 then (rb q o a n.val).dp (8 * g.val + u.val) i.val s.val else 0) * (1 / (rb q o a n.val).D (8 * g.val + u.val) i.val)
        + -((rb q o a n.val).δ (8 * g.val + u.val) i.val * (1 / (rb q o a n.val).D (8 * g.val + u.val) i.val)))
      * (if s.val < 256 then (rb q o a n.val).e (8 * g.val + u.val) i.val s.val else (rb q o a n.val).es (8 * g.val + u.val) i.val) : ℝ) : EReal) := by
  pointwise [val_main_v109, val_main_v108, val_main_v107, val_main_v105, val_main_v104, val_main_v81]
  rw [R.v97, R.v106, R.v79, R.v80, Ideal.div_coe (Blk.D_pos _ _ _).ne', ← EReal.coe_mul, ← EReal.coe_add, ← EReal.coe_mul]

theorem Reals.v117 (s : Fin 256) : val_main_v117 (F := Ideal) x0 x1 x2 (ix5 n g u i s) = ((rb q o a n.val).dst (8 * g.val + u.val) i.val s.val : EReal) := by
  pointwise [val_main_v117, val_main_v116, val_main_v115, val_main_v110, val_main_cst_24, val_main_call1_v0, val_main_call1_cst]
  rw [v55m_apply, pick_ok (rb q o a n.val) 0 i.val s.val _ (rb_ok q o a n i s), R.v109, eighth, if_pos s.isLt, if_pos s.isLt]
  unfold Blk.dst Blk.p
  split
  · rw [← EReal.coe_mul]; congr 1; ring
  · rename_i h
    rw [show (rb q o a n.val).e (8 * g.val + u.val) i.val s.val = 0 from if_neg h]
    simp

theorem Reals.v111 : val_main_v109 (F := Ideal) x0 x1 x2 (ix5 n g u i (Fin.last 256)) = ((-(rb q o a n.val).psd (8 * g.val + u.val) i.val : ℝ) : EReal) := by
  rw [R.v109, if_neg (by simp), if_neg (by simp)]
  congr 1
  unfold Blk.psd
  ring

end

end Cert.Att

end
-- ==== Proof.AttRefB.lean ====
/-
  The reference's five results read at one element, over the reals, and the block it cuts against the kernel's: the two
  differ in rows outside the window only, so they have the same gradients.
-/
module

public import proofs.«01_k».proof.Proof.AttRefA
public import proofs.«01_k».proof.Proof.AttArr

@[expose] public section

set_option maxRecDepth 16384

noncomputable section

namespace Cert.Att

open Idealize.ShloMosaic Idealize.ShloMosaic.TcCoe
open Cert.AttnRefIdeal Cert.AttnRefIdeal.Read
open Cert.LnRow (coe_sum)

/-- Two blocks that agree but for the keys and values of rows outside the window. -/
structure Same (A B : Blk) : Prop where
  q : A.q = B.q
  o : A.o = B.o
  a : A.a = B.a
  pos : A.pos = B.pos
  kv : ∀ s, (B.pos ∨ 128 ≤ s) → A.kv s = B.kv s

theorem Same.ok {A B : Blk} (S : Same A B) (i s : ℕ) : A.ok i s = B.ok i s := by
  unfold Blk.ok; rw [S.pos]

theorem Same.sc {A B : Blk} (S : Same A B) (h i s : ℕ) (c : B.ok i s) : A.sc h i s = B.sc h i s := by
  unfold Blk.sc; rw [S.q, S.kv s c.2.2]

theorem Same.scE {A B : Blk} (S : Same A B) (h i s : ℕ) : A.scE h i s = B.scE h i s := by
  unfold Blk.scE
  by_cases c : B.ok i s
  · rw [if_pos c, if_pos (by rw [S.ok]; exact c), S.sc h i s c]
  · rw [if_neg c, if_neg (by rw [S.ok]; exact c)]

theorem Same.M {A B : Blk} (S : Same A B) (h i : ℕ) : A.M h i = B.M h i := by
  unfold Blk.M Blk.ME
  rw [S.a]
  congr 2
  exact congrArg (fun f => Finset.univ.fold max ⊥ f) (funext fun s => S.scE h i s.val)

theorem Same.e {A B : Blk} (S : Same A B) (h i s : ℕ) : A.e h i s = B.e h i s := by
  unfold Blk.e
  by_cases c : B.ok i s
  · rw [if_pos c, if_pos (by rw [S.ok]; exact c), S.sc h i s c, S.M]
  · rw [if_neg c, if_neg (by rw [S.ok]; exact c)]

theorem Same.es {A B : Blk} (S : Same A B) (h i : ℕ) : A.es h i = B.es h i := by
  unfold Blk.es; rw [S.a, S.M]

theorem Same.D {A B : Blk} (S : Same A B) (h i : ℕ) : A.D h i = B.D h i := by
  unfold Blk.D; rw [S.es, Finset.sum_congr rfl fun s _ => S.e h i s.val]

theorem Same.p {A B : Blk} (S : Same A B) (h i s : ℕ) : A.p h i s = B.p h i s := by
  unfold Blk.p; rw [S.e, S.D]

theorem Blk.p_zero (B : Blk) (h i s : ℕ) (c : ¬ B.ok i s) : B.p h i s = 0 := by
  unfold Blk.p Blk.e; rw [if_neg c, zero_mul]

theorem Same.pdp {A B : Blk} (S : Same A B) (h i s : ℕ) : A.p h i s * A.dp h i s = B.p h i s * B.dp h i s := by
  rw [S.p]
  by_cases c : B.ok i s
  · unfold Blk.dp; rw [S.o, S.kv s c.2.2]
  · rw [B.p_zero h i s c, zero_mul, zero_mul]

theorem Same.δ {A B : Blk} (S : Same A B) (h i : ℕ) : A.δ h i = B.δ h i := by
  unfold Blk.δ; exact Finset.sum_congr rfl fun s _ => S.pdp h i s.val

theorem Same.dst {A B : Blk} (S : Same A B) (h i s : ℕ) : A.dst h i s = B.dst h i s := by
  unfold Blk.dst; rw [mul_sub, mul_sub, S.pdp, S.p, S.δ]

theorem Same.psd {A B : Blk} (S : Same A B) (h i : ℕ) : A.psd h i = B.psd h i := by
  unfold Blk.psd; rw [S.es, S.D, S.δ]

theorem Same.dq {A B : Blk} (S : Same A B) (i c : ℕ) : A.dq i c = B.dq i c := by
  unfold Blk.dq
  refine Finset.sum_congr rfl fun s _ => ?_
  rw [S.dst]
  by_cases k : B.ok i s.val
  · rw [S.kv s.val k.2.2]
  · unfold Blk.dst; rw [B.p_zero _ i s.val k]; simp

theorem Same.dkv {A B : Blk} (S : Same A B) (s j : ℕ) : A.dkv s j = B.dkv s j := by
  unfold Blk.dkv
  simp only [S.dst, S.p, S.q, S.o]

theorem Same.dsk {A B : Blk} (S : Same A B) (h : ℕ) : A.dsk h = B.dsk h := by
  unfold Blk.dsk
  simp only [S.psd]

theorem rb_kv (q o : ℕ → ℕ → ℝ) (a : ℕ → ℝ) (n s : ℕ) (h : 0 < n ∨ 128 ≤ s) : (rb q o a n).kv s = (blk q o a n).kv s := by
  funext j
  unfold rb blk
  simp only []
  by_cases c : s < 128
  · rw [if_pos c, if_pos c, if_neg (by omega)]
  · rw [if_neg c, if_neg c]

/-- The reference's block against the kernel's. -/
theorem rb_same (q o : ℕ → ℕ → ℝ) (a : ℕ → ℝ) (n : ℕ) : Same (rb q o a n) (blk q o a n) :=
  ⟨rfl, rfl, rfl, rfl, fun s h => rb_kv q o a n s h⟩

/-- A sum over the rows is a sum over the blocks and their rows. -/
theorem sum_rows (f : ℕ → ℕ → ℝ) : (∑ r : Fin 4096, f (r.val / 128) (r.val % 128)) = ∑ k ∈ Finset.range 32, ∑ i : Fin 128, f k i.val := by
  rw [Finset.sum_range fun k => ∑ i : Fin 128, f k i.val, ← Fintype.sum_prod_type']
  exact Fintype.sum_equiv (finProdFinEquiv (m := 32) (n := 128)).symm _ _ fun c => rfl

variable {x0 : TX} {x1 : TO} {x2 : TS} {q o : ℕ → ℕ → ℝ} {a : ℕ → ℝ}

/-- The sum over blocks and queries, at one head. -/
theorem v112_apply (g : Fin 2) (u : Fin 8) :
    val_main_v112 (F := Ideal) x0 x1 x2 (ix2 g u) = ∑ n : Fin 32, ∑ i : Fin 128, val_main_v109 (F := Ideal) x0 x1 x2 (ix5 n g u i (Fin.last 256)) := by
  pointwise [val_main_v112, val_main_cst_23]
  unfold Ideal.hostReduceAdd
  rw [zero_add]
  refine (Finset.sum_filter_eq_sum_of_fiber _ (fun k : Fin 32 × Fin 128 => (ix5 k.1 g u k.2 (0 : Fin 1) : S32x2x8x128x1.Idx))
    (fun _ _ e => Prod.ext (congrFun e 0) (congrFun e 3)) ?_ _).trans ?_
  · intro j
    constructor
    · intro e
      refine ⟨(j 0, j 3), ?_⟩
      funext b; apply Fin.ext
      match b with
      | ⟨0, _⟩ => rfl
      | ⟨1, _⟩ => exact (congrArg Fin.val (congrFun e 0)).symm
      | ⟨2, _⟩ => exact (congrArg Fin.val (congrFun e 1)).symm
      | ⟨3, _⟩ => rfl
      | ⟨4, _⟩ => show 0 = (j 4).val; have : (j 4).val < 1 := (j 4).isLt; omega
    · rintro ⟨k, rfl⟩
      funext b
      apply Fin.ext
      match b with
      | ⟨0, _⟩ => rfl
      | ⟨1, _⟩ => rfl
  · rw [Fintype.sum_prod_type]
    refine Finset.sum_congr rfl fun n _ => Finset.sum_congr rfl fun i _ => ?_
    pointwise [val_main_v111]
    rfl

section
variable (R : Reals x0 x1 x2 q o a)
include R

theorem Reals.dqr (r : Fin 4096) (j : Fin 1024) : val_main_v137 (F := Ideal) x0 x1 x2 (ix2 r j) = ((blk q o a (r.val / 128)).dq (r.val % 128) j.val : EReal) := by
  pointwise [val_main_v137, val_main_v120, val_main_v119, val_main_v118]
  rw [← (rb_same q o a (r.val / 128)).dq]
  unfold Blk.dq
  rw [coe_sum]
  refine Finset.sum_congr rfl fun s _ => ?_
  rw [R.v117, R.v15, ← EReal.coe_mul, mul_comm]
  simp only []
  rw [show 8 * (j.val / 512) + j.val / 64 % 8 = j.val / 64 by omega]

theorem Reals.dkr (n : Fin 32) (s : Fin 256) (g : Fin 2) (d : Fin 64) :
    val_main_v122 (F := Ideal) x0 x1 x2 (ix4 n s g d) = ((blk q o a n.val).dkv s.val (64 * g.val + d.val) : EReal) := by
  pointwise [val_main_v122, val_main_v121, val_main_v118]
  rw [← (rb_same q o a n.val).dkv]
  unfold Blk.dkv
  rw [if_pos (by omega), Finset.sum_comm, coe_sum]
  refine Finset.sum_congr rfl fun u _ => ?_
  rw [coe_sum]
  refine Finset.sum_congr rfl fun i _ => ?_
  rw [R.v117, R.v7, ← EReal.coe_mul, show (64 * g.val + d.val) / 64 = g.val by omega, show (64 * g.val + d.val) % 64 = d.val by omega]

theorem Reals.dvr (n : Fin 32) (s : Fin 256) (g : Fin 2) (d : Fin 64) :
    val_main_v96 (F := Ideal) x0 x1 x2 (ix4 n s g d) = ((blk q o a n.val).dkv s.val (128 + 64 * g.val + d.val) : EReal) := by
  pointwise [val_main_v96, val_main_v95, val_main_v93, val_main_v87]
  rw [← (rb_same q o a n.val).dkv]
  unfold Blk.dkv
  rw [if_neg (by omega), coe_sum]
  refine Finset.sum_congr rfl fun u _ => ?_
  rw [coe_sum]
  refine Finset.sum_congr rfl fun i _ => ?_
  rw [R.v92, R.v83, ← EReal.coe_mul, mul_comm, show (128 + 64 * g.val + d.val) / 64 - 2 = g.val by omega, show (128 + 64 * g.val + d.val) % 64 = d.val by omega]

theorem Reals.v134 (n : Fin 32) (i : Fin 128) (g : Fin 2) (d : Fin 64) :
    val_main_v134 (F := Ideal) x0 x1 x2 (ix4 n i g d) = (okv q o a n.val i.val (64 * g.val + d.val) : EReal) := by
  pointwise [val_main_v134, val_main_v130, val_main_v133, val_main_v132, val_main_v129, val_main_cst_26]
  unfold okv
  rw [EReal.coe_add, R.dkr]
  congr 1
  by_cases h : n.val < 31
  · rw [dif_pos h, if_pos h, R.dkr]; congr 3; show 1 + n.val = n.val + 1; omega
  · rw [dif_neg h, if_neg h]; rfl

theorem Reals.v128 (n : Fin 32) (i : Fin 128) (g : Fin 2) (d : Fin 64) :
    val_main_v128 (F := Ideal) x0 x1 x2 (ix4 n i g d) = (okv q o a n.val i.val (128 + 64 * g.val + d.val) : EReal) := by
  pointwise [val_main_v128, val_main_v124, val_main_v127, val_main_v126, val_main_v123, val_main_cst_25]
  unfold okv
  rw [EReal.coe_add, R.dvr]
  congr 1
  by_cases h : n.val < 31
  · rw [dif_pos h, if_pos h, R.dvr]; congr 3; show 1 + n.val = n.val + 1; omega
  · rw [dif_neg h, if_neg h]; rfl

theorem Reals.v136 (r : Fin 4096) (j : Fin 128) : val_main_v136 (F := Ideal) x0 x1 x2 (ix2 r j) = (okv q o a (r.val / 128) (r.val % 128) j.val : EReal) := by
  pointwise [val_main_v136]
  rw [R.v134]
  simp only []
  rw [show 64 * (j.val / 64) + j.val % 64 = j.val by omega]

theorem Reals.v135 (r : Fin 4096) (j : Fin 128) : val_main_v135 (F := Ideal) x0 x1 x2 (ix2 r j) = (okv q o a (r.val / 128) (r.val % 128) (128 + j.val) : EReal) := by
  pointwise [val_main_v135]
  rw [R.v128]
  simp only []
  rw [show 128 + 64 * (j.val / 64) + j.val % 64 = 128 + j.val by omega]

theorem Reals.v138q (r : Fin 4096) (j : Fin 1280) (h : j.val < 1024) :
    val_main_v138 (F := Ideal) x0 x1 x2 (ix2 r j) = ((blk q o a (r.val / 128)).dq (r.val % 128) j.val : EReal) := by
  pointwise [val_main_v138]
  rw [dif_pos h, R.dqr]

theorem Reals.v138k (r : Fin 4096) (j : Fin 1280) (h : ¬ j.val < 1024) :
    val_main_v138 (F := Ideal) x0 x1 x2 (ix2 r j) = (okv q o a (r.val / 128) (r.val % 128) (j.val - 1024) : EReal) := by
  pointwise [val_main_v138]
  rw [dif_neg h]
  by_cases k : j.val - 1024 < 128
  · rw [dif_pos k, R.v136]
  · rw [dif_neg k, R.v135]; simp only []; rw [show 128 + (j.val - 1024 - 128) = j.val - 1024 by omega]

theorem Reals.r142 : val_main_v142 (F := Ideal) x0 x1 x2 = S5 q o a := by
  funext j
  idx_vars j
  pointwise [val_main_v142, val_main_v141]
  rw [R.v138q _ _ j1.isLt]
  rfl

theorem Reals.r143 : val_main_v143 (F := Ideal) x0 x1 x2 = S6 q o a := by
  funext j
  idx_vars j
  pointwise [val_main_v143, val_main_v141]
  rw [R.v138k _ _ (by simp)]
  simp only []
  rw [show 1024 + j1.val - 1024 = j1.val by omega]
  rfl

theorem Reals.r144 : val_main_v144 (F := Ideal) x0 x1 x2 = S7 q o a := by
  funext j
  idx_vars j
  pointwise [val_main_v144, val_main_v140, val_main_v139, val_main_cst_27]
  rw [Finset.sum_congr rfl fun r _ => R.v138q r _ j1.isLt, ← coe_sum]
  exact congrArg Real.toEReal (sum_rows fun k i => (blk q o a k).dq i j1.val)

theorem Reals.r145 : val_main_v145 (F := Ideal) x0 x1 x2 = S8 q o a := by
  funext j
  idx_vars j
  pointwise [val_main_v145, val_main_v140, val_main_v139, val_main_cst_27]
  rw [Finset.sum_congr rfl fun r _ => R.v138k r _ (by simp), ← coe_sum]
  simp only []
  rw [show 1024 + j1.val - 1024 = j1.val by omega]
  exact congrArg Real.toEReal (sum_rows fun k i => okv q o a k i j1.val)

theorem Reals.v112 (g : Fin 2) (u : Fin 8) :
    val_main_v112 (F := Ideal) x0 x1 x2 (ix2 g u) = ((∑ k ∈ Finset.range 32, (blk q o a k).dsk (8 * g.val + u.val) : ℝ) : EReal) := by
  rw [v112_apply, Finset.sum_range fun k => (blk q o a k).dsk (8 * g.val + u.val), coe_sum]
  refine Finset.sum_congr rfl fun n _ => ?_
  rw [← (rb_same q o a n.val).dsk]
  unfold Blk.dsk
  rw [← Finset.sum_neg_distrib, coe_sum]
  exact Finset.sum_congr rfl fun i _ => R.v111 n g u i

theorem Reals.r146 : val_main_v146 (F := Ideal) x0 x1 x2 = S9 q o a := by
  funext j
  idx_vars j
  pointwise [val_main_v146, val_main_v114, val_main_v113, val_main_c_28, val_main_call2_v0]
  unfold S9
  by_cases h : j1.val < 16
  · rw [dif_pos h, R.v112]
    simp only []
    rw [show 8 * (j1.val / 8) + j1.val % 8 = j1.val by omega]
    exact congrArg Real.toEReal (Finset.sum_congr rfl fun k _ => (if_pos h).symm)
  · rw [dif_neg h]
    refine Eq.trans ?_ (congrArg Real.toEReal (Finset.sum_congr rfl fun k _ => (if_neg h).symm))
    rw [Finset.sum_const_zero]
    show ((((0#32 : BitVec 32).toInt : ℤ) : ℝ) : EReal) = _
    norm_num

end

end Cert.Att

end
-- ==== Proof.AttEqual.lean ====
/-
  The attention gradient: the kernel's five result arrays are the reference's.
-/
module

public import proofs.«01_k».proof.Defs
public import proofs.«01_k».proof.Proof.Fin
public import proofs.«01_k».proof.Proof.AttArr
public import proofs.«01_k».proof.Proof.AttRefB
public import proofs.«01_k».proof.Proof.Gen.AttnRefIdeal.Run
public import proofs.«01_k».proof.Proof.Gen.AttnRefIdeal.Read
public import Idealize.ShloMosaic.Lib.ReduceAll

@[expose] public section

set_option maxRecDepth 16384

noncomputable section

namespace Cert.Att

open Idealize.ShloMosaic Idealize.ShloMosaic.TcCoe Idealize.SL.Sem
open Cert.DxLn (real_of_abs_lt and_one)

instance : Subsingleton Cert.Pre_finite2.S_.Idx := ⟨fun a b => funext fun i => i.elim0⟩

variable [Cert.Pre_finite2.Facts]

/-- The precondition read element by element: the three arguments hold real numbers. -/
theorem finite2_real (x0 : FVec Ideal Cert.Pre_finite2.S4096x1280 .bf16) (x1 : FVec Ideal Cert.Pre_finite2.S4096x1024 .bf16) (x2 : FVec Ideal Cert.Pre_finite2.S1x16 .f32)
    (h : Cert.Pre_finite2.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have e := congrFun h (fun a => a.elim0)
  unfold Cert.Pre_finite2.fn at e
  dsimp only [andi] at e
  obtain ⟨e, e2⟩ := and_one e
  obtain ⟨e0, e1⟩ := and_one e
  exact ⟨fun i => real_of_abs_lt _ (Host.reduce_andi_all _ _ _ _ _ e0 i), fun i => real_of_abs_lt _ (Host.reduce_andi_all _ _ _ _ _ e1 i),
    fun i => real_of_abs_lt _ (Host.reduce_andi_all _ _ _ _ _ e2 i)⟩

/-- Three arrays of reals as functions of numbers. -/
theorem finite2_fun (x0 : FVec Ideal Cert.Pre_finite2.S4096x1280 .bf16) (x1 : FVec Ideal Cert.Pre_finite2.S4096x1024 .bf16) (x2 : FVec Ideal Cert.Pre_finite2.S1x16 .f32)
    (h : Cert.Pre_finite2.fn (F := Ideal) x0 x1 x2 = fun _ => 1#1) :
    ∃ (q o : ℕ → ℕ → ℝ) (a : ℕ → ℝ), (∀ (r : Fin 4096) (j : Fin 1280), x0 (ix2 r j) = (q r.val j.val : EReal))
      ∧ (∀ (r : Fin 4096) (j : Fin 1024), x1 (ix2 r j) = (o r.val j.val : EReal)) ∧ (∀ j : Fin 16, x2 (ix2 (0 : Fin 1) j) = (a j.val : EReal)) := by
  obtain ⟨h0, h1, h2⟩ := finite2_real x0 x1 x2 h
  choose f0 e0 using h0
  choose f1 e1 using h1
  choose f2 e2 using h2
  refine ⟨fun r j => if h : r < 4096 ∧ j < 1280 then f0 (ix2 ⟨r, h.1⟩ ⟨j, h.2⟩) else 0,
    fun r j => if h : r < 4096 ∧ j < 1024 then f1 (ix2 ⟨r, h.1⟩ ⟨j, h.2⟩) else 0,
    fun j => if h : j < 16 then f2 (ix2 0 ⟨j, h⟩) else 0, fun r j => ?_, fun r j => ?_, fun j => ?_⟩
  · rw [e0]; beta_reduce; rw [dif_pos (⟨r.isLt, j.isLt⟩ : r.val < 4096 ∧ j.val < 1280)]
  · rw [e1]; beta_reduce; rw [dif_pos (⟨r.isLt, j.isLt⟩ : r.val < 4096 ∧ j.val < 1024)]
  · rw [e2]; beta_reduce; rw [dif_pos j.isLt]

open Cert.AttnRefIdeal.Read in
/-- The kernel and the reference leave the same five arrays. -/
theorem equal2 : Cert.algebraic_AttnIdeal_AttnRefIdeal_pre_finite2 := by
  intro m g m' g' hpre hm
  have key := fun c => finite2_fun _ _ _ (hpre c)
  choose q o a hq ho ha using key
  have R : ∀ c, Real3 m c (q c) (o c) (a c) := fun c => ⟨hq c, ho c, ha c⟩
  refine ⟨fun c => S5 (q c) (o c) (a c), fun c => S6 (q c) (o c) (a c), fun c => S7 (q c) (o c) (a c), fun c => S8 (q c) (o c) (a c),
    fun c => S9 (q c) (o c) (a c), ?_, ?_⟩
  · refine (θ_run _ _ _).mono (fun r h c => ?_) (θ_run_and (Cert.AttnIdeal.Hand.run_main (F := Ideal) m g) (Cert.AttnIdeal.Hand.frame (F := Ideal) m g))
    obtain ⟨h, hf⟩ := h
    exact ⟨((h c).1 5).trans (R c).arr5, ((h c).1 6).trans (R c).arr6, ((h c).1 7).trans (R c).arr7, ((h c).1 8).trans (R c).arr8,
      ((h c).1 9).trans (R c).arr9, hf.1 c⟩
  · refine (θ_run _ _ _).mono (fun r h c => ?_) (Cert.AttnRefIdeal.Value.run (F := Ideal) m' g')
    obtain ⟨h5, h6, h7, h8, h9, hargs⟩ := h c
    obtain ⟨e0, e1, e2⟩ := hm c
    have R' : Reals (m' ((c.tc : Thread Cert.AttnRefIdeal.nD Cert.AttnRefIdeal.τ).loc Cert.AttnRefIdeal.main_arg0))
        (m' ((c.tc : Thread Cert.AttnRefIdeal.nD Cert.AttnRefIdeal.τ).loc Cert.AttnRefIdeal.main_arg1))
        (m' ((c.tc : Thread Cert.AttnRefIdeal.nD Cert.AttnRefIdeal.τ).loc Cert.AttnRefIdeal.main_arg2)) (q c) (o c) (a c) :=
      ⟨fun r j => (congrFun e0 _).trans (hq c r j), fun r j => (congrFun e1 _).trans (ho c r j), fun j => (congrFun e2 _).trans (ha c j)⟩
    exact ⟨h5.trans ((val_main_v142_eq _).trans R'.r142), h6.trans ((val_main_v143_eq _).trans R'.r143), h7.trans ((val_main_v144_eq _).trans R'.r144),
      h8.trans ((val_main_v145_eq _).trans R'.r145), h9.trans ((val_main_v146_eq _).trans R'.r146), hargs⟩

end Cert.Att

end
-- ==== Proof.LossOut.lean ====
/-
  What one grid point of the loss call leaves in its five output blocks, as named functions of the eight input blocks
  (and, for the three accumulated rows, of what the point before left).
-/
module

public import proofs.«01_k».proof.Proof.Gen.LossIdeal.Value
public import Idealize.ShloMosaic.Lib.Tactic

@[expose] public section

set_option maxRecDepth 16384

noncomputable section

namespace Cert.LossP

open Idealize.ShloMosaic Idealize.ShloMosaic.TcCoe Idealize.SL.Sem
open Cert.LossIdeal Cert.LossIdeal.Gen

theorem hz : (![0, 0] : Fin 2 → Nat) = fun _ => 0 := funext fun a => by fin_cases a <;> rfl

theorem ldz {F : FTy → Type} {p q : ℕ} {e : EltTy} (inb : ∀ a : Fin 2, ![0, 0] a + ![p, q] a ≤ ![p, q] a) (X : Vec F ⟨2, ![p, q]⟩ e) :
    View.ld X (Rect.unit ![0, 0] ![p, q] inb) = X := View.ld_unit_zero (S := ⟨2, ![p, q]⟩) hz inb X

variable {F : FTy → Type} [FloatOps F] (c : Dev nD) (i : grid0.Coords)
  (a1 : Memref sig .tc .vmem S512x2816 .bf16) (h1 : a1.IsWhole) (a2 : Memref sig .tc .vmem S2816x1024 .bf16) (h2 : a2.IsWhole) (a3 : Memref sig .tc .vmem S512x1024 .f32) (h3 : a3.IsWhole) (a4 : Memref sig .tc .vmem S1x1024 .f32) (h4 : a4.IsWhole) (a5 : Memref sig .tc .vmem S1x1024 .f32) (h5 : a5.IsWhole) (a6 : Memref sig .tc .vmem S512x1024 .f32) (h6 : a6.IsWhole) (a7 : Memref sig .tc .vmem S1x1024 .f32) (h7 : a7.IsWhole) (a8 : Memref sig .tc .vmem S1x1024 .f32) (h8 : a8.IsWhole) (a9 : Memref sig .tc .vmem S512x1024 .f32) (h9 : a9.IsWhole) (a10 : Memref sig .tc .vmem S512x1024 .bf16) (h10 : a10.IsWhole) (a11 : Memref sig .tc .vmem S1x1024 .f32) (h11 : a11.IsWhole) (a12 : Memref sig .tc .vmem S1x1024 .f32) (h12 : a12.IsWhole) (a13 : Memref sig .tc .vmem S1x1024 .f32) (h13 : a13.IsWhole)
  (x0 : Vec F S512x2816 .bf16) (x1 : Vec F S2816x1024 .bf16) (x2 : Vec F S512x1024 .f32) (x3 x4 : Vec F S1x1024 .f32) (x5 : Vec F S512x1024 .f32)
  (x6 x7 o10 o11 o12 : Vec F S1x1024 .f32)

theorem outA8 (hc : cond0_0 i) : out0_A_8 c i a1 h1 a2 h2 a3 h3 a4 h4 a5 h5 a6 h6 a7 h7 a8 h8 a9 h9 a10 h10 a11 h11 a12 h12 a13 h13 hc x0 x1 x2 x3 x4 x5 x6 x7
    = k0_pay2 (k0_pay10 (k0_pay7 x2 x6 x7 x0 x1) (k0_pay8 x2 x6 x7 x0 x1)) (k0_pay11 (k0_pay7 x2 x6 x7 x0 x1) (k0_pay8 x2 x6 x7 x0 x1)) (k0_pay14 (k0_pay7 x2 x6 x7 x0 x1) (k0_pay8 x2 x6 x7 x0 x1) x3 x4 x5) x3 := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 hc x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, ldz]

theorem outA9 (hc : cond0_0 i) : out0_A_9 c i a1 h1 a2 h2 a3 h3 a4 h4 a5 h5 a6 h6 a7 h7 a8 h8 a9 h9 a10 h10 a11 h11 a12 h12 a13 h13 hc x0 x1 x2 x3 x4 x5 x6 x7
    = k0_pay3 (k0_pay10 (k0_pay7 x2 x6 x7 x0 x1) (k0_pay8 x2 x6 x7 x0 x1)) (k0_pay11 (k0_pay7 x2 x6 x7 x0 x1) (k0_pay8 x2 x6 x7 x0 x1)) (k0_pay14 (k0_pay7 x2 x6 x7 x0 x1) (k0_pay8 x2 x6 x7 x0 x1) x3 x4 x5) x3 := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 hc x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, ldz]

theorem outA10 (hc : cond0_0 i) : out0_A_10 c i a1 h1 a2 h2 a3 h3 a4 h4 a5 h5 a6 h6 a7 h7 a8 h8 a9 h9 a10 h10 a11 h11 a12 h12 a13 h13 hc x0 x1 x2 x3 x4 x5 x6 x7
    = k0_pay15 (k0_pay7 x2 x6 x7 x0 x1) (k0_pay8 x2 x6 x7 x0 x1) x3 x4 x5 k0_pay4 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 hc x0 x1 x2 x3 x4 x5 x6 x7)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h8.read_unread, ldz]

theorem outA11 (hc : cond0_0 i) : out0_A_11 c i a1 h1 a2 h2 a3 h3 a4 h4 a5 h5 a6 h6 a7 h7 a8 h8 a9 h9 a10 h10 a11 h11 a12 h12 a13 h13 hc x0 x1 x2 x3 x4 x5 x6 x7
    = k0_pay1 (k0_pay14 (k0_pay7 x2 x6 x7 x0 x1) (k0_pay8 x2 x6 x7 x0 x1) x3 x4 x5) k0_pay5 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 hc x0 x1 x2 x3 x4 x5 x6 x7)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h8.read_unread, ldz]

theorem outA12 (hc : cond0_0 i) : out0_A_12 c i a1 h1 a2 h2 a3 h3 a4 h4 a5 h5 a6 h6 a7 h7 a8 h8 a9 h9 a10 h10 a11 h11 a12 h12 a13 h13 hc x0 x1 x2 x3 x4 x5 x6 x7
    = k0_pay13 (k0_pay7 x2 x6 x7 x0 x1) (k0_pay8 x2 x6 x7 x0 x1) x3 x4 x5 k0_pay6 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 hc x0 x1 x2 x3 x4 x5 x6 x7)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h8.read_unread, ldz]

theorem outB8 (hc : ¬cond0_0 i) : out0_B_8 c i a1 h1 a2 h2 a3 h3 a4 h4 a5 h5 a6 h6 a7 h7 a8 h8 a9 h9 a10 h10 a11 h11 a12 h12 a13 h13 hc x0 x1 x2 x3 x4 x5 x6 x7 o10 o11 o12
    = k0_pay2 (k0_pay10 (k0_pay7 x2 x6 x7 x0 x1) (k0_pay8 x2 x6 x7 x0 x1)) (k0_pay11 (k0_pay7 x2 x6 x7 x0 x1) (k0_pay8 x2 x6 x7 x0 x1)) (k0_pay14 (k0_pay7 x2 x6 x7 x0 x1) (k0_pay8 x2 x6 x7 x0 x1) x3 x4 x5) x3 := by
  unfold out0_B_8
  rw [View.read_writes_eq_canon _ _ _ (cover0_B_8 c i a1 h1 a2 h2 a3 h3 a4 h4 a5 h5 a6 h6 a7 h7 a8 h8 a9 h9 a10 h10 a11 h11 a12 h12 a13 h13 hc x0 x1 x2 x3 x4 x5 x6 x7 o10 o11 o12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, ldz]

theorem outB9 (hc : ¬cond0_0 i) : out0_B_9 c i a1 h1 a2 h2 a3 h3 a4 h4 a5 h5 a6 h6 a7 h7 a8 h8 a9 h9 a10 h10 a11 h11 a12 h12 a13 h13 hc x0 x1 x2 x3 x4 x5 x6 x7 o10 o11 o12
    = k0_pay3 (k0_pay10 (k0_pay7 x2 x6 x7 x0 x1) (k0_pay8 x2 x6 x7 x0 x1)) (k0_pay11 (k0_pay7 x2 x6 x7 x0 x1) (k0_pay8 x2 x6 x7 x0 x1)) (k0_pay14 (k0_pay7 x2 x6 x7 x0 x1) (k0_pay8 x2 x6 x7 x0 x1) x3 x4 x5) x3 := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 hc x0 x1 x2 x3 x4 x5 x6 x7 o10 o11 o12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, ldz]

theorem outB10 (hc : ¬cond0_0 i) : out0_B_10 c i a1 h1 a2 h2 a3 h3 a4 h4 a5 h5 a6 h6 a7 h7 a8 h8 a9 h9 a10 h10 a11 h11 a12 h12 a13 h13 hc x0 x1 x2 x3 x4 x5 x6 x7 o10 o11 o12
    = k0_pay15 (k0_pay7 x2 x6 x7 x0 x1) (k0_pay8 x2 x6 x7 x0 x1) x3 x4 x5 o10 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 hc x0 x1 x2 x3 x4 x5 x6 x7 o10 o11 o12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h11.read_unread, ldz]

theorem outB11 (hc : ¬cond0_0 i) : out0_B_11 c i a1 h1 a2 h2 a3 h3 a4 h4 a5 h5 a6 h6 a7 h7 a8 h8 a9 h9 a10 h10 a11 h11 a12 h12 a13 h13 hc x0 x1 x2 x3 x4 x5 x6 x7 o10 o11 o12
    = k0_pay1 (k0_pay14 (k0_pay7 x2 x6 x7 x0 x1) (k0_pay8 x2 x6 x7 x0 x1) x3 x4 x5) o11 := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 hc x0 x1 x2 x3 x4 x5 x6 x7 o10 o11 o12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h12.read_unread, ldz]

theorem outB12 (hc : ¬cond0_0 i) : out0_B_12 c i a1 h1 a2 h2 a3 h3 a4 h4 a5 h5 a6 h6 a7 h7 a8 h8 a9 h9 a10 h10 a11 h11 a12 h12 a13 h13 hc x0 x1 x2 x3 x4 x5 x6 x7 o10 o11 o12
    = k0_pay13 (k0_pay7 x2 x6 x7 x0 x1) (k0_pay8 x2 x6 x7 x0 x1) x3 x4 x5 o12 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 hc x0 x1 x2 x3 x4 x5 x6 x7 o10 o11 o12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h13.read_unread, ldz]

end Cert.LossP

end
-- ==== Proof.LossVal.lean ====
/-
  The loss call's payloads and its reference, element by element: a row of the new residual stream, that row normalised, the
  distance to the target, and the gradient.
-/
module

public import proofs.«01_k».proof.Proof.Gen.LossIdeal.Skeleton
public import proofs.«01_k».proof.Proof.Gen.LossRefIdeal.Read
public import proofs.«01_k».proof.Proof.Fin
public import Idealize.ShloMosaic.Lib.Pointwise

@[expose] public section

set_option maxRecDepth 16384

noncomputable section

namespace Cert.LossP

open Idealize.ShloMosaic Idealize.ShloMosaic.TcCoe Idealize.SL.Sem
open Cert.DxLn (α ε cnt mhalf two IsReal)

/-- One over 1024, as the call writes it. -/
abbrev κ : EReal := Ideal.ofBits .f32 0x3A800000#32

/-- A row of the residual stream after the call: the scaled normalised row before it, and the product's row `s`. -/
def zr (x g b s : Fin 1024 → EReal) (j : Fin 1024) : EReal := α * (LnRow.nh cnt ε x j * g j + b j) + s j
/-- A normalised row's distance to the target. -/
def er (z g b t : Fin 1024 → EReal) (j : Fin 1024) : EReal := LnRow.nh cnt ε z j * g j + b j - t j
/-- The gradient that reaches the normalised row. -/
def dr (z g b t : Fin 1024 → EReal) (j : Fin 1024) : EReal := er z g b t j * κ * g j

/-- A normalised row is real, whatever the row. -/
theorem nh_real (x : Fin 1024 → EReal) (j : Fin 1024) : IsReal (LnRow.nh cnt ε x j) := by
  rw [Cert.DxLn.cnt_real, Cert.DxLn.ε_real]
  have hk : (0 : ℝ) < ((1024 : ℕ) : ℝ) := by norm_num
  by_cases hx : ∃ j, x j = ⊥ ∨ x j = ⊤
  · obtain ⟨l, hl⟩ := hx
    rw [LnRow.nh, (LnRow.rs_eq_zero hk x l hl).1, mul_zero]
    exact ⟨0, rfl⟩
  · have hx' : ∀ j, ∃ r : ℝ, x j = r := fun j =>
      ⟨(x j).toReal, (EReal.coe_toReal (fun h => hx ⟨j, .inr h⟩) (fun h => hx ⟨j, .inl h⟩)).symm⟩
    choose a ha using hx'
    obtain rfl : x = fun j => (a j : EReal) := funext ha
    have hcen : LnRow.cen (((1024 : ℕ) : ℝ) : EReal) (fun j => (a j : EReal)) = fun j => ((a j - (∑ i, a i) * (1 / ((1024 : ℕ) : ℝ)) : ℝ) : EReal) := by
      funext j; rw [LnRow.cen, LnRow.mean_coe hk.ne', ← EReal.coe_sub]
    rw [LnRow.nh, LnRow.rs, LnRow.varE, hcen]
    simp only [← EReal.coe_mul]
    rw [LnRow.mean_coe hk.ne', ← EReal.coe_add, LnRow.rsqrt_coe, ← EReal.coe_mul]
    · exact ⟨_, rfl⟩
    · exact add_pos_of_nonneg_of_pos (mul_nonneg (Finset.sum_nonneg fun j _ => mul_self_nonneg _) (by positivity)) (by norm_num)

theorem κ_eq : Ideal.div (Ideal.ofBits .f32 0x3F000000#32) cnt * two = κ := by
  have h1 : Ideal.ofBits .f32 0x3F000000#32 = ((1 / 2 : ℝ) : EReal) := by simp [Ideal.ofBits, Ideal.ieee, -EReal.coe_mul]; norm_num
  have h3 : κ = ((1 / 1024 : ℝ) : EReal) := by simp [κ, Ideal.ofBits, Ideal.ieee, -EReal.coe_mul]; norm_num
  rw [h1, h3, Cert.DxLn.cnt_real, Cert.DxLn.two_real, Ideal.div_coe (by norm_num), ← EReal.coe_mul, ← EReal.coe_mul]
  norm_num

theorem κ_real : IsReal κ := ⟨1 / 1024, by simp [κ, Ideal.ofBits, Ideal.ieee, -EReal.coe_mul]; norm_num⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The two spellings of the gradient through the norm agree when gain, bias and target are real. -/
theorem row_eq (z g b t : Fin 1024 → EReal) (hg : ∀ l, IsReal (g l)) (hb : ∀ l, IsReal (b l)) (ht : ∀ l, IsReal (t l)) (j : Fin 1024) :
    LnRow.kGrad cnt ε z (dr z g b t) j = LnRow.rGrad cnt ε mhalf two z (dr z g b t) j :=
  Cert.DxLn.grad_row _ _ (fun l => ((IsReal.sub (((nh_real z l).mul (hg l)).add (hb l)) (ht l)).mul κ_real).mul (hg l)) j

section block

open Cert.LossIdeal Cert.LossIdeal.Gen

variable (x0 : Vec Ideal S512x2816 .bf16) (x1 : Vec Ideal S2816x1024 .bf16) (x2 : Vec Ideal S512x1024 .f32) (x3 x4 : Vec Ideal S1x1024 .f32) (x5 : Vec Ideal S512x1024 .f32)
  (x6 x7 o : Vec Ideal S1x1024 .f32) (r : Fin 512)

/-- A row of the block's new residual stream, and its distance to the target. -/
abbrev zb : Fin 1024 → EReal :=
  zr (fun l => x2 (ix2 r l)) (fun l => x6 (ix2 0 l)) (fun l => x7 (ix2 0 l)) (fun l => ∑ k : Fin 2816, x0 (ix2 r k) * x1 (ix2 k l))
abbrev eb : Fin 1024 → EReal := er (zb x0 x1 x2 x6 x7 r) (fun l => x3 (ix2 0 l)) (fun l => x4 (ix2 0 l)) (fun l => x5 (ix2 r l))

theorem pay7_apply (j : Fin 1024) : k0_pay7 (F := Ideal) x2 x6 x7 x0 x1 (ix2 r j) = zb x0 x1 x2 x6 x7 r j := by
  pointwise [k0_pay7, zr, LnRow.nh, LnRow.cen, LnRow.mean, LnRow.rs, LnRow.varE]

theorem pay8_apply (q : Fin 1) : k0_pay8 (F := Ideal) x2 x6 x7 x0 x1 (ix2 r q) = LnRow.mean cnt (zb x0 x1 x2 x6 x7 r) := by
  pointwise [k0_pay8, pay7_apply, LnRow.mean]

theorem pay9_apply (j : Fin 1024) : k0_pay9 (F := Ideal) (k0_pay7 x2 x6 x7 x0 x1) (k0_pay8 x2 x6 x7 x0 x1) (ix2 r j)
    = LnRow.cen cnt (zb x0 x1 x2 x6 x7 r) j := by
  pointwise [k0_pay9, pay7_apply, pay8_apply, LnRow.cen]

theorem pay10_apply (q : Fin 1) : k0_pay10 (F := Ideal) (k0_pay7 x2 x6 x7 x0 x1) (k0_pay8 x2 x6 x7 x0 x1) (ix2 r q)
    = LnRow.rs cnt ε (zb x0 x1 x2 x6 x7 r) := by
  pointwise [k0_pay10, pay9_apply, LnRow.rs, LnRow.varE, LnRow.mean]

theorem pay11_apply (j : Fin 1024) : k0_pay11 (F := Ideal) (k0_pay7 x2 x6 x7 x0 x1) (k0_pay8 x2 x6 x7 x0 x1) (ix2 r j)
    = LnRow.nh cnt ε (zb x0 x1 x2 x6 x7 r) j := by
  pointwise [k0_pay11, pay9_apply, pay10_apply, LnRow.nh]

theorem pay12_apply (j : Fin 1024) : k0_pay12 (F := Ideal) (k0_pay7 x2 x6 x7 x0 x1) (k0_pay8 x2 x6 x7 x0 x1) x3 x4 x5 (ix2 r j)
    = eb x0 x1 x2 x3 x4 x5 x6 x7 r j := by
  pointwise [k0_pay12, pay11_apply, er]

theorem pay13_apply (q : Fin 1) (j : Fin 1024) : k0_pay13 (F := Ideal) (k0_pay7 x2 x6 x7 x0 x1) (k0_pay8 x2 x6 x7 x0 x1) x3 x4 x5 o (ix2 q j)
    = o (ix2 q j) + ∑ r : Fin 512, eb x0 x1 x2 x3 x4 x5 x6 x7 r j * eb x0 x1 x2 x3 x4 x5 x6 x7 r j := by
  pointwise [k0_pay13, pay12_apply]

theorem pay14_apply (j : Fin 1024) : k0_pay14 (F := Ideal) (k0_pay7 x2 x6 x7 x0 x1) (k0_pay8 x2 x6 x7 x0 x1) x3 x4 x5 (ix2 r j)
    = eb x0 x1 x2 x3 x4 x5 x6 x7 r j * κ := by
  pointwise [k0_pay14, pay12_apply]

theorem pay15_apply (q : Fin 1) (j : Fin 1024) : k0_pay15 (F := Ideal) (k0_pay7 x2 x6 x7 x0 x1) (k0_pay8 x2 x6 x7 x0 x1) x3 x4 x5 o (ix2 q j)
    = o (ix2 q j) + ∑ r : Fin 512, eb x0 x1 x2 x3 x4 x5 x6 x7 r j * κ * LnRow.nh cnt ε (zb x0 x1 x2 x6 x7 r) j := by
  pointwise [k0_pay15, pay14_apply, pay11_apply]

theorem pay1_apply (v : Vec Ideal S512x1024 .f32) (q : Fin 1) (j : Fin 1024) : k0_pay1 (F := Ideal) v o (ix2 q j) = o (ix2 q j) + ∑ r : Fin 512, v (ix2 r j) := by
  pointwise [k0_pay1]

theorem pay2_apply (j : Fin 1024) : k0_pay2 (F := Ideal) (k0_pay10 (k0_pay7 x2 x6 x7 x0 x1) (k0_pay8 x2 x6 x7 x0 x1))
      (k0_pay11 (k0_pay7 x2 x6 x7 x0 x1) (k0_pay8 x2 x6 x7 x0 x1)) (k0_pay14 (k0_pay7 x2 x6 x7 x0 x1) (k0_pay8 x2 x6 x7 x0 x1) x3 x4 x5) x3 (ix2 r j)
    = LnRow.kGrad cnt ε (zb x0 x1 x2 x6 x7 r) (dr (zb x0 x1 x2 x6 x7 r) (fun l => x3 (ix2 0 l)) (fun l => x4 (ix2 0 l)) (fun l => x5 (ix2 r l))) j := by
  pointwise [k0_pay2, pay10_apply, pay11_apply, pay14_apply, LnRow.kGrad, LnRow.mean, dr]

theorem pay4_apply (q : Fin 1) (j : Fin 1024) : k0_pay4 (F := Ideal) (ix2 q j) = 0 := by pointwise [k0_pay4]
theorem pay5_apply (q : Fin 1) (j : Fin 1024) : k0_pay5 (F := Ideal) (ix2 q j) = 0 := by pointwise [k0_pay5]
theorem pay6_apply (q : Fin 1) (j : Fin 1024) : k0_pay6 (F := Ideal) (ix2 q j) = 0 := by pointwise [k0_pay6]

end block

section ref

open Cert.LossRefIdeal Cert.LossRefIdeal.Read

variable (x0 : Vec Ideal S4096x2816 .bf16) (x1 : Vec Ideal S2816x1024 .f32) (x2 : Vec Ideal S4096x1024 .f32) (x3 x4 : Vec Ideal S1x1024 .f32) (x5 : Vec Ideal S4096x1024 .f32)
  (x6 x7 : Vec Ideal S1x1024 .f32) (r : Fin 4096)

/-- A row of the reference's new residual stream, its distance to the target, and the gradient at the normalised row. -/
abbrev zs : Fin 1024 → EReal :=
  zr (fun l => x2 (ix2 r l)) (fun l => x6 (ix2 0 l)) (fun l => x7 (ix2 0 l)) (fun l => ∑ k : Fin 2816, x0 (ix2 r k) * x1 (ix2 k l))
abbrev es : Fin 1024 → EReal := er (zs x0 x1 x2 x6 x7 r) (fun l => x3 (ix2 0 l)) (fun l => x4 (ix2 0 l)) (fun l => x5 (ix2 r l))
abbrev ds : Fin 1024 → EReal := dr (zs x0 x1 x2 x6 x7 r) (fun l => x3 (ix2 0 l)) (fun l => x4 (ix2 0 l)) (fun l => x5 (ix2 r l))

theorem v5_apply (j : Fin 1024) : val_main_v5 (F := Ideal) x2 (ix2 r j) = LnRow.cen cnt (fun l => x2 (ix2 r l)) j := by
  pointwise [val_main_v5, val_main_v4, val_main_v3, val_main_v2, val_main_v1, val_main_v0, val_main_cst, val_main_cst_0, LnRow.cen, LnRow.mean]

theorem v12_apply (j : Fin 1024) : val_main_v12 (F := Ideal) x2 (ix2 r j) = LnRow.cen cnt (fun l => x2 (ix2 r l)) j := by
  pointwise [val_main_v12, val_main_v11, val_main_v3, val_main_v2, val_main_v1, val_main_v0, val_main_cst, val_main_cst_0, LnRow.cen, LnRow.mean]

theorem v15_apply (q : Fin 1) : val_main_v15 (F := Ideal) x2 (ix2 r q) = LnRow.rs cnt ε (fun l => x2 (ix2 r l)) := by
  pointwise [val_main_v15, val_main_v14, val_main_v13, val_main_v10, val_main_v9, val_main_v8, val_main_v7, val_main_v6, v5_apply, val_main_cst_1, val_main_cst_2, val_main_cst_3, LnRow.rs, LnRow.varE, LnRow.mean]

theorem v26_apply (j : Fin 1024) : val_main_v26 (F := Ideal) x0 x1 x2 x6 x7 (ix2 r j) = zs x0 x1 x2 x6 x7 r j := by
  pointwise [val_main_v26, val_main_v25, val_main_v24, val_main_v23, val_main_v22, val_main_cst_4, val_main_v21, val_main_v20, val_main_v19, val_main_v18, val_main_v17, val_main_v16, v15_apply, v12_apply, zr, LnRow.nh]

theorem v32_apply (j : Fin 1024) : val_main_v32 (F := Ideal) x0 x1 x2 x6 x7 (ix2 r j) = LnRow.cen cnt (zs x0 x1 x2 x6 x7 r) j := by
  pointwise [val_main_v32, val_main_v31, val_main_v30, val_main_v29, val_main_v28, val_main_v27, v26_apply, val_main_cst_5, val_main_cst_6, LnRow.cen, LnRow.mean]

theorem v41_apply (j : Fin 1024) : val_main_v41 (F := Ideal) x0 x1 x2 x6 x7 (ix2 r j) = LnRow.cen cnt (zs x0 x1 x2 x6 x7 r) j := by
  pointwise [val_main_v41, val_main_v40, val_main_v30, val_main_v29, val_main_v28, val_main_v27, v26_apply, val_main_cst_5, val_main_cst_6, LnRow.cen, LnRow.mean]

theorem v43_apply (q : Fin 1) : val_main_v43 (F := Ideal) x0 x1 x2 x6 x7 (ix2 r q) = LnRow.varE cnt ε (zs x0 x1 x2 x6 x7 r) := by
  pointwise [val_main_v43, val_main_v42, val_main_v39, val_main_v38, val_main_v37, val_main_v36, val_main_v33, v32_apply, val_main_cst_8, val_main_cst_9, val_main_cst_10, LnRow.varE, LnRow.mean]

theorem v44_apply (q : Fin 1) : val_main_v44 (F := Ideal) x0 x1 x2 x6 x7 (ix2 r q) = LnRow.rs cnt ε (zs x0 x1 x2 x6 x7 r) := by
  pointwise [val_main_v44, v43_apply, LnRow.rs]

theorem v49_apply (j : Fin 1024) : val_main_v49 (F := Ideal) x0 x1 x2 x6 x7 (ix2 r j) = LnRow.nh cnt ε (zs x0 x1 x2 x6 x7 r) j := by
  pointwise [val_main_v49, val_main_v48, v41_apply, v44_apply, LnRow.nh]

theorem v54_apply (j : Fin 1024) : val_main_v54 (F := Ideal) x0 x1 x2 x3 x4 x5 x6 x7 (ix2 r j) = es x0 x1 x2 x3 x4 x5 x6 x7 r j := by
  pointwise [val_main_v54, val_main_v53, val_main_v52, val_main_v51, val_main_v50, v49_apply, er]

theorem v55_apply (j : Fin 1024) : val_main_v55 (F := Ideal) x0 x1 x2 x3 x4 x5 x6 x7 (ix2 r j) = es x0 x1 x2 x3 x4 x5 x6 x7 r j * es x0 x1 x2 x3 x4 x5 x6 x7 r j := by
  pointwise [val_main_v55, v54_apply]

theorem v64_apply (q : Fin 1) (j : Fin 1024) : val_main_v64 (F := Ideal) x0 x1 x2 x3 x4 x5 x6 x7 (ix2 q j) = ∑ r : Fin 4096, es x0 x1 x2 x3 x4 x5 x6 x7 r j * es x0 x1 x2 x3 x4 x5 x6 x7 r j := by
  pointwise [val_main_v64, val_main_v63, v55_apply, val_main_cst_17]

theorem v70_apply (j : Fin 1024) : val_main_v70 (F := Ideal) x0 x1 x2 x3 x4 x5 x6 x7 (ix2 r j) = es x0 x1 x2 x3 x4 x5 x6 x7 r j * κ := by
  pointwise [val_main_v70, val_main_v69, val_main_v68, val_main_v67, val_main_v66, val_main_v65, val_main_cst_18, val_main_cst_19, val_main_cst_20, val_main_v57, val_main_v56, val_main_cst_12, v54_apply]
  rw [← mul_assoc, mul_comm]
  exact congrArg (fun k : EReal => es x0 x1 x2 x3 x4 x5 x6 x7 r j * k) κ_eq

theorem v72_apply (q : Fin 1) (j : Fin 1024) : val_main_v72 (F := Ideal) x0 x1 x2 x3 x4 x5 x6 x7 (ix2 q j) = ∑ r : Fin 4096, es x0 x1 x2 x3 x4 x5 x6 x7 r j * κ := by
  pointwise [val_main_v72, val_main_v71, v70_apply, val_main_cst_21]

theorem v75_apply (q : Fin 1) (j : Fin 1024) : val_main_v75 (F := Ideal) x0 x1 x2 x3 x4 x5 x6 x7 (ix2 q j) = ∑ r : Fin 4096, es x0 x1 x2 x3 x4 x5 x6 x7 r j * κ * LnRow.nh cnt ε (zs x0 x1 x2 x6 x7 r) j := by
  pointwise [val_main_v75, val_main_v74, val_main_v73, v70_apply, v49_apply, val_main_cst_22]
  exact Finset.sum_congr rfl fun r _ => mul_comm _ _

theorem v77_apply (j : Fin 1024) : val_main_v77 (F := Ideal) x0 x1 x2 x3 x4 x5 x6 x7 (ix2 r j) = (ds x0 x1 x2 x3 x4 x5 x6 x7 r) j := by
  pointwise [val_main_v77, val_main_v76, v70_apply, dr]

theorem v90_apply (j : Fin 1024) : val_main_v90 (F := Ideal) x0 x1 x2 x3 x4 x5 x6 x7 (ix2 r j) = LnRow.gVar cnt ε mhalf (zs x0 x1 x2 x6 x7 r) (ds x0 x1 x2 x3 x4 x5 x6 x7 r) := by
  pointwise [val_main_v90, val_main_v89, val_main_v88, val_main_v87, val_main_cst_25, val_main_cst_26, val_main_v83, val_main_v80, val_main_v79, val_main_v78, val_main_cst_23, v41_apply, v77_apply, val_main_v47, val_main_v46, val_main_cst_11, val_main_v45, v44_apply, v43_apply, LnRow.gVar]
  rw [Fin.sum_univ_one]

theorem v91_apply (j : Fin 1024) : val_main_v91 (F := Ideal) x0 x1 x2 x3 x4 x5 x6 x7 (ix2 r j) = LnRow.gVar cnt ε mhalf (zs x0 x1 x2 x6 x7 r) (ds x0 x1 x2 x3 x4 x5 x6 x7 r) * (two * LnRow.cen cnt (zs x0 x1 x2 x6 x7 r) j) := by
  pointwise [val_main_v91, v90_apply, val_main_v35, val_main_v34, val_main_cst_7, v32_apply]

theorem v82_apply (j : Fin 1024) : val_main_v82 (F := Ideal) x0 x1 x2 x3 x4 x5 x6 x7 (ix2 r j) = (ds x0 x1 x2 x3 x4 x5 x6 x7 r) j * LnRow.rs cnt ε (zs x0 x1 x2 x6 x7 r) := by
  pointwise [val_main_v82, val_main_v81, v77_apply, v44_apply]

theorem v101_apply (j : Fin 1024) : val_main_v101 (F := Ideal) x0 x1 x2 x3 x4 x5 x6 x7 (ix2 r j) = LnRow.rGrad cnt ε mhalf two (zs x0 x1 x2 x6 x7 r) (ds x0 x1 x2 x3 x4 x5 x6 x7 r) j := by
  pointwise [val_main_v101, val_main_v100, val_main_v99, val_main_v98, val_main_v97, val_main_v96, val_main_v95, val_main_v94, val_main_v93, val_main_v92, val_main_v86, val_main_v85, val_main_v84, v82_apply, v91_apply, val_main_cst_24, val_main_cst_27, val_main_cst_28, val_main_cst_29, LnRow.rGrad]
  rw [Fin.sum_univ_one]

theorem v102_apply (j : Fin 1024) : val_main_v102 (F := Ideal) x0 x1 x2 x3 x4 x5 x6 x7 (ix2 r j) = LnRow.rGrad cnt ε mhalf two (zs x0 x1 x2 x6 x7 r) (ds x0 x1 x2 x3 x4 x5 x6 x7 r) j := by
  pointwise [val_main_v102, v101_apply]

end ref

end Cert.LossP

end
-- ==== Proof.ProdDwin.lean ====
/-
  The gradient of the mixer's first weight: the products of the columns of eight blocks of rows, added in a carried
  block, are the reference's product over all rows.
-/
module

public import proofs.«01_k».proof.Proof.Gen.DwinIdeal.Value
public import proofs.«01_k».proof.Proof.Gen.DwinRefIdeal.Run
public import proofs.«01_k».proof.Proof.Gen.DwinRefIdeal.Read
public import proofs.«01_k».proof.Proof.Gen.DwinIdeal.Skeleton
public import proofs.«01_k».proof.Defs
public import Idealize.ShloMosaic.Lib.Tactic
public import Idealize.ShloMosaic.Lib.Pointwise
public import Idealize.ShloMosaic.Lib.StableHlo.ReadAt
public import Idealize.ShloMosaic.Lib.Pipeline.Value
public import Idealize.ShloMosaic.Lib.Claim

@[expose] public section

set_option maxRecDepth 16384

noncomputable section

namespace Cert.DwinP

open Idealize.ShloMosaic Idealize.ShloMosaic.TcCoe Idealize.SL.Sem
open Cert.DwinIdeal Cert.DwinIdeal.Gen
open Idealize.ShloMosaic.Pipeline (Dat)

theorem hz : (![0, 0] : Fin 2 → Nat) = fun _ => 0 := funext fun a => by fin_cases a <;> rfl

section terms
variable (c : Dev nD) (i : grid0.Coords)
  (a1 : Memref sig .tc .vmem S512x1024 .bf16) (h1 : a1.IsWhole)
  (a2 : Memref sig .tc .vmem S512x1024 .f32) (h2 : a2.IsWhole)
  (a3 : Memref sig .tc .vmem S1024x1024 .bf16) (h3 : a3.IsWhole)
  (a4 : Memref sig .tc .vmem S1024x1024 .f32) (h4 : a4.IsWhole)
  (x0 : Vec Ideal S512x1024 .bf16) (x1 : Vec Ideal S512x1024 .f32) (s : Vec Ideal S1024x1024 .f32)

theorem soutA (hc0 : cond0_0 i) (hc1 : ¬cond0_1 i) : sout0_A_0 (F := Ideal) c i a1 h1 a2 h2 a3 h3 a4 h4 hc0 hc1 x0 x1 = k0_pay2 k0_pay1 x0 x1 := by
  unfold sout0_A_0
  rw [View.read_writes_eq_canon _ _ _ (scover0_A_0 (F := Ideal) c i a1 h1 a2 h2 a3 h3 a4 h4 hc0 hc1 x0 x1)]
  unfold kernelRun0_A
  dsimp only
  sl_unfold_words
  rw [View.canon_cons_unit_zero (S := S1024x1024) hz, View.readCov_unit_zero (S := S1024x1024) _ hz]
  simp only [View.readAt_eq_ld, h1.read_unread, h2.read_unread, h3.read_unread, h4.read_unread, View.ld_unit_zero (S := S1024x1024) hz, View.ld_unit_zero (S := S512x1024) hz]

theorem soutB (hc0 : ¬cond0_0 i) (hc1 : ¬cond0_1 i) : sout0_B_0 (F := Ideal) c i a1 h1 a2 h2 a3 h3 a4 h4 hc0 hc1 x0 x1 s = k0_pay2 s x0 x1 := by
  unfold sout0_B_0
  rw [View.read_writes_eq_canon _ _ _ (scover0_B_0 (F := Ideal) c i a1 h1 a2 h2 a3 h3 a4 h4 hc0 hc1 x0 x1 s)]
  unfold kernelRun0_B
  dsimp only
  sl_unfold_words
  rw [View.canon_unit_zero hz]
  simp only [View.readAt_eq_ld, h1.read_unread, h2.read_unread, h3.read_unread, h4.read_unread, View.ld_unit_zero (S := S1024x1024) hz, View.ld_unit_zero (S := S512x1024) hz]

theorem outC (hc0 : ¬cond0_0 i) (hc1 : cond0_1 i) : out0_C_2 (F := Ideal) c i a1 h1 a2 h2 a3 h3 a4 h4 hc0 hc1 x0 x1 s = k0_pay3 (k0_pay2 s x0 x1) := by
  unfold out0_C_2
  rw [View.read_writes_eq_canon _ _ _ (cover0_C_2 (F := Ideal) c i a1 h1 a2 h2 a3 h3 a4 h4 hc0 hc1 x0 x1 s)]
  unfold kernelRun0_C
  dsimp only
  sl_unfold_words
  rw [View.canon_unit_zero hz, View.readCov_unit_zero (S := S1024x1024) _ hz]
  simp only [View.readAt_eq_ld, h1.read_unread, h2.read_unread, h3.read_unread, h4.read_unread, View.ld_unit_zero (S := S1024x1024) hz, View.ld_unit_zero (S := S512x1024) hz]

end terms

theorem pay1_apply (p : Fin 1024) (q : Fin 1024) : k0_pay1 (F := Ideal) (ix2 p q) = 0 := by pointwise [k0_pay1]

/-- One block's product of columns, added to what was there. -/
theorem pay2_apply (s : Vec Ideal S1024x1024 .f32) (x : Vec Ideal S512x1024 .bf16) (y : Vec Ideal S512x1024 .f32) (p : Fin 1024) (q : Fin 1024) :
    k0_pay2 (F := Ideal) s x y (ix2 p q) = s (ix2 p q) + ∑ k : Fin 512, x (ix2 k p) * y (ix2 k q) := by
  pointwise [k0_pay2]

theorem pay3_apply (s : Vec Ideal S1024x1024 .f32) (p q : Fin 1024) : k0_pay3 (F := Ideal) s (ix2 p q) = s (ix2 p q) := by pointwise [k0_pay3]

/-- The reference's product at one element. -/
theorem ref_apply (x0 : Vec Ideal S4096x2048 .bf16) (x1 : Vec Ideal S4096x1024 .f32) (p : Fin 2048) (q : Fin 1024) :
    Cert.DwinRefIdeal.Read.val_main_v6 (F := Ideal) x0 x1 (ix2 p q) = ∑ k : Fin 4096, x0 (ix2 k p) * x1 (ix2 k q) := by
  pointwise [Cert.DwinRefIdeal.Read.val_main_v6, Cert.DwinRefIdeal.Read.val_main_v5, Cert.DwinRefIdeal.Read.val_main_v4, Cert.DwinRefIdeal.Read.val_main_v3, Cert.DwinRefIdeal.Read.val_main_v2]

/-- A function of a row, at any number; eight blocks of 512 rows are 4096 rows. -/
def onNat (f : Fin 4096 → EReal) (n : ℕ) : EReal := if h : n < 4096 then f ⟨n, h⟩ else 0

theorem sum_blocks (f : ℕ → EReal) (n : ℕ) : ∑ s ∈ Finset.range n, ∑ r ∈ Finset.range 512, f (512 * s + r) = ∑ r ∈ Finset.range (512 * n), f r := by
  induction n with
  | zero => simp
  | succ n ih => rw [Finset.sum_range_succ, ih, Nat.mul_succ, Finset.sum_range_add]

theorem sum_all (f : Fin 4096 → EReal) : ∑ s ∈ Finset.range 8, ∑ r ∈ Finset.range 512, onNat f (512 * s + r) = ∑ r, f r := by
  rw [sum_blocks, Finset.sum_range]
  refine Finset.sum_congr rfl fun r _ => ?_
  have := r.isLt
  simp only [onNat]
  rw [dif_pos (by omega)]

variable (m : (ℓ : Loc nD τ sig) → Buf (Elt Ideal) ℓ) (c : Dev nD)

/-- The arguments, as launched. -/
abbrev A0 : Vec Ideal S4096x2048 .bf16 := m ((c : Thread nD τ).loc main_arg0)
abbrev A1 : Vec Ideal S4096x1024 .f32 := m ((c : Thread nD τ).loc main_arg1)

theorem jx0 : ∀ t : Fin grid0.N, win0_0.index t 0 = t.val % 8 ∧ win0_0.index t 1 = t.val / 8 := by decide +kernel

theorem iblk0 (t : Fin cfg0.N) (k : Fin 512) (l : Fin 1024) (K : Fin 4096) (L : Fin 2048) (hK : K.val = 512 * (t.val % 8) + k.val) (hL : L.val = 1024 * (t.val / 8) + l.val) :
    (iblk m c 0 t : Vec Ideal S512x1024 .bf16) (ix2 k l) = A0 m c (ix2 K L) := by
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * k.val = K.val; rw [(jx0 t).1, hK]; omega
  | ⟨1, _⟩ => show win0_0.index t 1 * 1024 + 1 * l.val = L.val; rw [(jx0 t).2, hL]; omega
theorem jx1 : ∀ t : Fin grid0.N, win0_1.index t 0 = t.val % 8 ∧ win0_1.index t 1 = 0 := by decide +kernel

theorem iblk1 (t : Fin cfg0.N) (k : Fin 512) (l : Fin 1024) (K : Fin 4096) (L : Fin 1024) (hK : K.val = 512 * (t.val % 8) + k.val) (hL : L.val = 1024 * (0) + l.val) :
    (iblk m c 1 t : Vec Ideal S512x1024 .f32) (ix2 k l) = A1 m c (ix2 K L) := by
  unfold iblk
  rw [View.read_apply]
  show V m c main_arg1 _ = m (c.tc.loc main_arg1) _
  rw [V_main_arg1]
  congr 1
  funext a
  apply Fin.ext
  match a with
  | ⟨0, _⟩ => show win0_1.index t 0 * 512 + 1 * k.val = K.val; rw [(jx1 t).1, hK]; omega
  | ⟨1, _⟩ => show win0_1.index t 1 * 1024 + 1 * l.val = L.val; rw [(jx1 t).2, hL]; omega

theorem lt16 (t : Fin cfg0.N) : t.val < 16 := by have : cfg0.N = 16 := N_0; have := t.isLt; omega

/-- One row's contribution to one element. -/
abbrev term (P : Fin 2048) (q : Fin 1024) (k : Fin 4096) : EReal := A0 m c (ix2 k P) * A1 m c (ix2 k q)

theorem blk (t : Fin cfg0.N) (x : Vec Ideal S512x1024 .bf16) (y : Vec Ideal S512x1024 .f32) (hx : x = iblk m c 0 t) (hy : y = iblk m c 1 t)
    (p q : Fin 1024) (P : Fin 2048) (hP : P.val = 1024 * (t.val / 8) + p.val) :
    (∑ k : Fin 512, x (ix2 k p) * y (ix2 k q))
      = ∑ k ∈ Finset.range 512, onNat (term m c P q) (512 * (t.val % 8) + k) := by
  rw [Finset.sum_range]
  refine Finset.sum_congr rfl fun k _ => ?_
  have := k.isLt
  simp only [onNat]
  rw [dif_pos (by omega)]
  rw [hx, hy]
  exact congrArg₂ (fun a b : EReal => a * b) (iblk0 m c t k p ⟨512 * (t.val % 8) + k.val, by omega⟩ P rfl hP)
    (iblk1 m c t k q ⟨512 * (t.val % 8) + k.val, by omega⟩ q rfl (by omega))

/-- The carried block after a point that is not the last of its eight. -/
theorem carry (n : ℕ) : ∀ (hn : n < cfg0.N), n % 8 < 7 → ∀ (p q : Fin 1024) (P : Fin 2048), P.val = 1024 * (n / 8) + p.val →
    ((outsAt0 m c n hn).2 : Vec Ideal S1024x1024 .f32) (ix2 p q)
      = ∑ s ∈ Finset.range (n % 8 + 1), ∑ k ∈ Finset.range 512, onNat (term m c P q) (512 * s + k) := by
  have first : ∀ (n : ℕ) (hn : n < cfg0.N), n % 8 = 0 → ∀ (p q : Fin 1024) (P : Fin 2048), P.val = 1024 * (n / 8) + p.val →
      ((outsAt0 m c n hn).2 : Vec Ideal S1024x1024 .f32) (ix2 p q)
        = ∑ s ∈ Finset.range (n % 8 + 1), ∑ k ∈ Finset.range 512, onNat (term m c P q) (512 * s + k) := by
    intro n hn h p q P hP
    have e := outsAt0_A m c ⟨n, hn⟩ h (by dsimp only; omega)
    dsimp only at e
    rw [e]
    dsimp only
    rw [soutA, pay2_apply, pay1_apply, blk m c ⟨n, hn⟩ _ _ rfl rfl p q P hP, zero_add, h, zero_add, Finset.sum_range_one]
  induction n with
  | zero => exact fun hn _ p q P hP => first 0 hn rfl p q P hP
  | succ n ih =>
    intro hn h7 p q P hP
    by_cases h : (n + 1) % 8 = 0
    · exact first (n + 1) hn h p q P hP
    · have e := outsAt0_B m c ⟨n + 1, hn⟩ h (by dsimp only; omega)
      dsimp only at e
      rw [e]
      dsimp only
      rw [soutB, pay2_apply, blk m c ⟨n + 1, hn⟩ _ _ rfl rfl p q P hP, Finset.sum_range_succ _ ((n + 1) % 8)]
      refine congrArg₂ (· + ·) ((ih _ (by omega) p q P (by omega)).trans ?_) rfl
      rw [show n % 8 + 1 = (n + 1) % 8 by omega]

theorem outs (t : Fin cfg0.N) (ht : t.val % 8 = 7) (p q : Fin 1024) (P : Fin 2048) (Q : Fin 1024) (hP : P.val = 1024 * (t.val / 8) + p.val)
    (hQ : Q.val = 1024 * 0 + q.val) :
    ((outsAt0 m c t.val t.isLt).1 : Vec Ideal S1024x1024 .bf16) (ix2 p q) = Cert.DwinRefIdeal.Read.val_main_v6 (F := Ideal) (A0 m c) (A1 m c) (ix2 P Q) := by
  obtain rfl : Q = q := Fin.ext (by omega)
  have hlt : t.val - 1 < cfg0.N := Nat.lt_of_le_of_lt (Nat.sub_le _ _) t.isLt
  rw [outsAt0_C m c t (by omega) ht]
  dsimp only
  rw [outC, pay3_apply, pay2_apply, blk m c t _ _ rfl rfl p Q P hP, ref_apply, ← sum_all, Finset.sum_range_succ _ 7, ht]
  refine congrArg₂ (· + ·) ((carry m c (t.val - 1) hlt (by omega) p Q P (by omega)).trans ?_) rfl
  rw [show (t.val - 1) % 8 + 1 = 7 by omega]

theorem ixo : ∀ t : Fin grid0.N, win0_2.index t 0 = t.val / 8 ∧ win0_2.index t 1 = 0 := by decide +kernel

/-- The whole result: the reference's. -/
abbrev G : Vec Ideal S2048x1024 .bf16 := Cert.DwinRefIdeal.Read.val_main_v6 (F := Ideal) (A0 m c) (A1 m c)

theorem arr : ((dats m 0 c).arrAt 2 cfg0.N : Vec Ideal S2048x1024 .bf16) = G m c := by
  have hN : cfg0.N = 16 := N_0
  have hN' : grid0.N = 16 := N_0
  refine (dats m 0 c).arrAt_eq_of_cover 2 (G m c) (fun t ht => ?_) (fun i => ?_)
  · have hlt := t.isLt
    rw [Value.flushed2]
    funext y
    idx_vars y
    have e : ((cfg0.win 2).blk t).view.emb (ix2 y0 y1) = (ix2 ⟨1024 * (t.val / 8) + y0.val, by omega⟩ ⟨1024 * (0) + y1.val, by omega⟩ : S2048x1024.Idx) := by
      funext a
      apply Fin.ext
      match a with
      | ⟨0, _⟩ => show win0_2.index t 0 * 1024 + 1 * y0.val = 1024 * (t.val / 8) + y0.val; rw [(ixo t).1]; omega
      | ⟨1, _⟩ => show win0_2.index t 1 * 1024 + 1 * y1.val = 1024 * (0) + y1.val; rw [(ixo t).2]; omega
    refine (outs m c t ((flush0_2 t).mp ht) y0 y1 ⟨1024 * (t.val / 8) + y0.val, by omega⟩ ⟨1024 * (0) + y1.val, by omega⟩ rfl rfl).trans ?_
    rw [View.read_apply]
    exact congrArg (G m c) e.symm
  · have h0 : (i 0).val < 2048 := (i 0).isLt
    have h1 : (i 1).val < 1024 := (i 1).isLt
    refine ⟨⟨8 * ((i 0).val / 1024) + 7, by omega⟩, (flush0_2 _).mpr (by first | omega | (dsimp only; omega)), ?_⟩
    rw [View.set_slice_whole, Rect.mem_set_unit]
    intro a
    match a with
    | ⟨0, _⟩ =>
      have e := (ixo ⟨8 * ((i 0).val / 1024) + 7, by omega⟩).1
      show win0_2.index _ 0 * 1024 ≤ (i 0).val ∧ (i 0).val < win0_2.index _ 0 * 1024 + 1024
      rw [e, show (8 * ((i 0).val / 1024) + 7) / 8 = (i 0).val / 1024 by omega]; omega
    | ⟨1, _⟩ =>
      have e := (ixo ⟨8 * ((i 0).val / 1024) + 7, by omega⟩).2
      show win0_2.index _ 1 * 1024 ≤ (i 1).val ∧ (i 1).val < win0_2.index _ 1 * 1024 + 1024
      rw [e]; omega

/-- The product's reference ends, keeps its arguments and declares no semaphore. -/
theorem quiet : Cert.quiescent_DwinRefIdeal := fun m ρ _ =>
  (θ_run Cert.DwinRefIdeal.defs _ _).mono (fun r h => ⟨fun c => (h c).2, sem_eq_zero_of_no_sems (by decide) r.2⟩)
    (Cert.DwinRefIdeal.Value.run (F := Ideal) m ρ)

theorem equal : Cert.algebraic_DwinIdeal_DwinRefIdeal := by
  intro m g m' g' _ hm
  refine ⟨fun c => G m c, ?_, ?_⟩
  · exact (θ_run _ _ _).mono (fun r h c => ⟨(h c).1.trans (arr m c), (h c).2⟩) (Cert.DwinIdeal.Value.run_blocks (F := Ideal) m g)
  · refine (θ_run _ _ _).mono (fun r h c => ?_) (Cert.DwinRefIdeal.Value.run (F := Ideal) m' g')
    obtain ⟨h0, hargs⟩ := h c
    obtain ⟨e0, e1⟩ := hm c
    refine ⟨h0.trans ?_, hargs⟩
    rw [e0, e1]
    exact Cert.DwinRefIdeal.Read.val_main_v6_eq _ _

end Cert.DwinP

end
-- ==== Proof.ProdLoss.lean ====
/-
  The last feed-forward call of the forward pass with the loss head and the gradient through the last norm: every block
  of rows is the reference's, and the three accumulated rows are the reference's column sums.
-/
module

public import proofs.«01_k».proof.Proof.LossOut
public import proofs.«01_k».proof.Proof.LossVal
public import proofs.«01_k».proof.Proof.ProdDwin
public import proofs.«01_k».proof.Proof.Gen.LossIdeal.Value
public import proofs.«01_k».proof.Proof.Gen.LossRefIdeal.Run
public import proofs.«01_k».proof.Proof.Gen.LossRefIdeal.Read
public import proofs.«01_k».proof.Defs
public import Idealize.ShloMosaic.Lib.Tactic
public import Idealize.ShloMosaic.Lib.Pointwise
public import Idealize.ShloMosaic.Lib.StableHlo.ReadAt
public import Idealize.ShloMosaic.Lib.Pipeline.Value
public import Idealize.ShloMosaic.Lib.Claim

@[expose] public section

set_option maxRecDepth 16384

noncomputable section

namespace Cert.LossP

open Idealize.ShloMosaic Idealize.ShloMosaic.TcCoe Idealize.SL.Sem
open Cert.LossIdeal Cert.LossIdeal.Gen
open Idealize.ShloMosaic.Pipeline (Dat)
open Cert.DxLn (α ε cnt mhalf two IsReal)
open Cert.DwinP (onNat sum_all)

instance : Subsingleton Cert.Pre_finite15.S_.Idx := ⟨fun a b => funext fun i => i.elim0⟩

/-- What the precondition says: gain, bias and target hold real numbers. -/
theorem real15 [Cert.Pre_finite15.Facts] (x0 : Vec Ideal S4096x2816 .bf16) (x1 : Vec Ideal S2816x1024 .f32) (x2 : Vec Ideal S4096x1024 .f32) (x3 x4 : Vec Ideal S1x1024 .f32)
    (x5 : Vec Ideal S4096x1024 .f32) (x6 x7 : Vec Ideal S1x1024 .f32) (h : Cert.Pre_finite15.fn (F := Ideal) x0 x1 x2 x3 x4 x5 x6 x7 = fun _ => 1#1) :
    (∀ i, IsReal (x3 i)) ∧ (∀ i, IsReal (x4 i)) ∧ (∀ i, IsReal (x5 i)) := by
  have e := congrFun h (fun a => a.elim0)
  unfold Cert.Pre_finite15.fn at e
  dsimp only [andi] at e
  obtain ⟨e, e5⟩ := Cert.DxLn.and_one e
  obtain ⟨e3, e4⟩ := Cert.DxLn.and_one e
  exact ⟨fun i => Cert.DxLn.real_of_abs_lt _ (Host.reduce_andi_all _ _ _ _ _ e3 i), fun i => Cert.DxLn.real_of_abs_lt _ (Host.reduce_andi_all _ _ _ _ _ e4 i),
    fun i => Cert.DxLn.real_of_abs_lt _ (Host.reduce_andi_all _ _ _ _ _ e5 i)⟩

variable (m : (ℓ : Loc nD τ sig) → Buf (Elt Ideal) ℓ) (c : Dev nD)

/-- The arguments, as launched. -/
abbrev A0 : Vec Ideal S4096x2816 .bf16 := m ((c : Thread nD τ).loc main_arg0)
abbrev A1 : Vec Ideal S2816x1024 .f32 := m ((c : Thread nD τ).loc main_arg1)
abbrev A2 : Vec Ideal S4096x1024 .f32 := m ((c : Thread nD τ).loc main_arg2)
abbrev A3 : Vec Ideal S1x1024 .f32 := m ((c : Thread nD τ).loc main_arg3)
abbrev A4 : Vec Ideal S1x1024 .f32 := m ((c : Thread nD τ).loc main_arg4)
abbrev A5 : Vec Ideal S4096x1024 .f32 := m ((c : Thread nD τ).loc main_arg5)
abbrev A6 : Vec Ideal S1x1024 .f32 := m ((c : Thread nD τ).loc main_arg6)
abbrev A7 : Vec Ideal S1x1024 .f32 := m ((c : Thread nD τ).loc main_arg7)

theorem jx0 : ∀ t : Fin grid0.N, win0_0.index t 0 = t.val ∧ win0_0.index t 1 = 0 := by decide +kernel
theorem jx1 : ∀ t : Fin grid0.N, win0_1.index t 0 = 0 ∧ win0_1.index t 1 = 0 := by decide +kernel
theorem jx2 : ∀ t : Fin grid0.N, win0_2.index t 0 = t.val ∧ win0_2.index t 1 = 0 := by decide +kernel
theorem jx3 : ∀ t : Fin grid0.N, win0_3.index t 0 = 0 ∧ win0_3.index t 1 = 0 := by decide +kernel
theorem jx4 : ∀ t : Fin grid0.N, win0_4.index t 0 = 0 ∧ win0_4.index t 1 = 0 := by decide +kernel
theorem jx5 : ∀ t : Fin grid0.N, win0_5.index t 0 = t.val ∧ win0_5.index t 1 = 0 := by decide +kernel
theorem jx6 : ∀ t : Fin grid0.N, win0_6.index t 0 = 0 ∧ win0_6.index t 1 = 0 := by decide +kernel
theorem jx7 : ∀ t : Fin grid0.N, win0_7.index t 0 = 0 ∧ win0_7.index t 1 = 0 := by decide +kernel
theorem jx8 : ∀ t : Fin grid0.N, win0_8.index t 0 = t.val ∧ win0_8.index t 1 = 0 := by decide +kernel
theorem jx9 : ∀ t : Fin grid0.N, win0_9.index t 0 = t.val ∧ win0_9.index t 1 = 0 := by decide +kernel
theorem jx10 : ∀ t : Fin grid0.N, win0_10.index t 0 = 0 ∧ win0_10.index t 1 = 0 := by decide +kernel
theorem jx11 : ∀ t : Fin grid0.N, win0_11.index t 0 = 0 ∧ win0_11.index t 1 = 0 := by decide +kernel
theorem jx12 : ∀ t : Fin grid0.N, win0_12.index t 0 = 0 ∧ win0_12.index t 1 = 0 := by decide +kernel

theorem lt8 (t : Fin cfg0.N) : t.val < 8 := by have : cfg0.N = 8 := N_0; have := t.isLt; omega

/-- Row `r` of block `t`. -/
abbrev row (t : Fin cfg0.N) (r : Fin 512) : Fin 4096 := ⟨512 * t.val + r.val, by have := lt8 t; omega⟩

/-- The weight as the launch finds it. -/
theorem V_w (k : Fin 2816) (j : Fin 1024) : (V m c main_v0 : Vec Ideal S2816x1024 .bf16) (ix2 k j) = A1 m c (ix2 k j) := by
  unfold V
  after_reads_at

theorem iblk1 (t : Fin cfg0.N) (k : Fin 2816) (j : Fin 1024) : (iblk m c 1 t : Vec Ideal S2816x1024 .bf16) (ix2 k j) = A1 m c (ix2 k j) := by
  refine Eq.trans ?_ (V_w m c k j)
  unfold iblk
  rw [View.read_apply]
  show V m c main_v0 _ = V m c main_v0 _
  congr 1
  funext a
  apply Fin.ext
  match a with
  | ⟨0, _⟩ => show win0_1.index t 0 * 2816 + 1 * k.val = k.val; rw [(jx1 t).1]; omega
  | ⟨1, _⟩ => show win0_1.index t 1 * 1024 + 1 * j.val = j.val; rw [(jx1 t).2]; omega

theorem iblk0 (t : Fin cfg0.N) (r : Fin 512) (k : Fin 2816) : (iblk m c 0 t : Vec Ideal S512x2816 .bf16) (ix2 r k) = A0 m c (ix2 (row t r) k) := by
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = 512 * t.val + r.val; rw [(jx0 t).1]; omega
  | ⟨1, _⟩ => show win0_0.index t 1 * 2816 + 1 * k.val = k.val; rw [(jx0 t).2]; omega

theorem iblk2 (t : Fin cfg0.N) (r : Fin 512) (k : Fin 1024) : (iblk m c 2 t : Vec Ideal S512x1024 .f32) (ix2 r k) = A2 m c (ix2 (row t r) k) := by
  unfold iblk
  rw [View.read_apply]
  show V m c main_arg2 _ = m (c.tc.loc main_arg2) _
  rw [V_main_arg2]
  congr 1
  funext a
  apply Fin.ext
  match a with
  | ⟨0, _⟩ => show win0_2.index t 0 * 512 + 1 * r.val = 512 * t.val + r.val; rw [(jx2 t).1]; omega
  | ⟨1, _⟩ => show win0_2.index t 1 * 1024 + 1 * k.val = k.val; rw [(jx2 t).2]; omega

theorem iblk5 (t : Fin cfg0.N) (r : Fin 512) (k : Fin 1024) : (iblk m c 5 t : Vec Ideal S512x1024 .f32) (ix2 r k) = A5 m c (ix2 (row t r) k) := by
  unfold iblk
  rw [View.read_apply]
  show V m c main_arg5 _ = m (c.tc.loc main_arg5) _
  rw [V_main_arg5]
  congr 1
  funext a
  apply Fin.ext
  match a with
  | ⟨0, _⟩ => show win0_5.index t 0 * 512 + 1 * r.val = 512 * t.val + r.val; rw [(jx5 t).1]; omega
  | ⟨1, _⟩ => show win0_5.index t 1 * 1024 + 1 * k.val = k.val; rw [(jx5 t).2]; omega

theorem iblk3 (t : Fin cfg0.N) (q : Fin 1) (k : Fin 1024) : (iblk m c 3 t : Vec Ideal S1x1024 .f32) (ix2 q k) = A3 m c (ix2 q k) := by
  unfold iblk
  rw [View.read_apply]
  show V m c main_arg3 _ = m (c.tc.loc main_arg3) _
  rw [V_main_arg3]
  congr 1
  funext a
  apply Fin.ext
  match a with
  | ⟨0, _⟩ => show win0_3.index t 0 * 1 + 1 * q.val = q.val; rw [(jx3 t).1]; omega
  | ⟨1, _⟩ => show win0_3.index t 1 * 1024 + 1 * k.val = k.val; rw [(jx3 t).2]; omega

theorem iblk4 (t : Fin cfg0.N) (q : Fin 1) (k : Fin 1024) : (iblk m c 4 t : Vec Ideal S1x1024 .f32) (ix2 q k) = A4 m c (ix2 q k) := by
  unfold iblk
  rw [View.read_apply]
  show V m c main_arg4 _ = m (c.tc.loc main_arg4) _
  rw [V_main_arg4]
  congr 1
  funext a
  apply Fin.ext
  match a with
  | ⟨0, _⟩ => show win0_4.index t 0 * 1 + 1 * q.val = q.val; rw [(jx4 t).1]; omega
  | ⟨1, _⟩ => show win0_4.index t 1 * 1024 + 1 * k.val = k.val; rw [(jx4 t).2]; omega

theorem iblk6 (t : Fin cfg0.N) (q : Fin 1) (k : Fin 1024) : (iblk m c 6 t : Vec Ideal S1x1024 .f32) (ix2 q k) = A6 m c (ix2 q k) := by
  unfold iblk
  rw [View.read_apply]
  show V m c main_arg6 _ = m (c.tc.loc main_arg6) _
  rw [V_main_arg6]
  congr 1
  funext a
  apply Fin.ext
  match a with
  | ⟨0, _⟩ => show win0_6.index t 0 * 1 + 1 * q.val = q.val; rw [(jx6 t).1]; omega
  | ⟨1, _⟩ => show win0_6.index t 1 * 1024 + 1 * k.val = k.val; rw [(jx6 t).2]; omega

theorem iblk7 (t : Fin cfg0.N) (q : Fin 1) (k : Fin 1024) : (iblk m c 7 t : Vec Ideal S1x1024 .f32) (ix2 q k) = A7 m c (ix2 q k) := by
  unfold iblk
  rw [View.read_apply]
  show V m c main_arg7 _ = m (c.tc.loc main_arg7) _
  rw [V_main_arg7]
  congr 1
  funext a
  apply Fin.ext
  match a with
  | ⟨0, _⟩ => show win0_7.index t 0 * 1 + 1 * q.val = q.val; rw [(jx7 t).1]; omega
  | ⟨1, _⟩ => show win0_7.index t 1 * 1024 + 1 * k.val = k.val; rw [(jx7 t).2]; omega

/-- A row of the launched residual stream, its distance to the target, and the gradient there. -/
abbrev Z (r : Fin 4096) : Fin 1024 → EReal := zs (A0 m c) (A1 m c) (A2 m c) (A6 m c) (A7 m c) r
abbrev E (r : Fin 4096) : Fin 1024 → EReal := es (A0 m c) (A1 m c) (A2 m c) (A3 m c) (A4 m c) (A5 m c) (A6 m c) (A7 m c) r
abbrev D (r : Fin 4096) : Fin 1024 → EReal := ds (A0 m c) (A1 m c) (A2 m c) (A3 m c) (A4 m c) (A5 m c) (A6 m c) (A7 m c) r

theorem zb_blk (t : Fin cfg0.N) (r : Fin 512) : zb (iblk m c 0 t) (iblk m c 1 t) (iblk m c 2 t) (iblk m c 6 t) (iblk m c 7 t) r = Z m c (row t r) := by
  unfold zb Z zs
  simp only [iblk0, iblk1, iblk2, iblk6, iblk7]

theorem eb_blk (t : Fin cfg0.N) (r : Fin 512) : eb (iblk m c 0 t) (iblk m c 1 t) (iblk m c 2 t) (iblk m c 3 t) (iblk m c 4 t) (iblk m c 5 t) (iblk m c 6 t) (iblk m c 7 t) r = E m c (row t r) := by
  unfold eb E es
  rw [zb_blk]
  simp only [iblk3, iblk4, iblk5]

theorem out8_blk (t : Fin cfg0.N) (r : Fin 512) (j : Fin 1024) :
    LnRow.kGrad cnt ε (zb (iblk m c 0 t) (iblk m c 1 t) (iblk m c 2 t) (iblk m c 6 t) (iblk m c 7 t) r) (dr (zb (iblk m c 0 t) (iblk m c 1 t) (iblk m c 2 t) (iblk m c 6 t) (iblk m c 7 t) r) (fun l => (iblk m c 3 t : Vec Ideal S1x1024 .f32) (ix2 0 l)) (fun l => (iblk m c 4 t : Vec Ideal S1x1024 .f32) (ix2 0 l))
      (fun l => (iblk m c 5 t : Vec Ideal S512x1024 .f32) (ix2 r l))) j = LnRow.kGrad cnt ε (Z m c (row t r)) (D m c (row t r)) j := by
  rw [zb_blk]
  simp only [iblk3, iblk4, iblk5]

theorem sum_row (f : Fin 4096 → EReal) (t : Fin cfg0.N) : ∑ r : Fin 512, f (row t r) = ∑ r ∈ Finset.range 512, onNat f (512 * t.val + r) := by
  rw [Finset.sum_range]
  refine Finset.sum_congr rfl fun r _ => ?_
  have := r.isLt
  have := lt8 t
  simp only [onNat]
  rw [dif_pos (by omega)]

theorem outs8 (t : Fin cfg0.N) (r : Fin 512) (j : Fin 1024) : ((outsAt0 m c t.val t.isLt).1 : Vec Ideal S512x1024 .f32) (ix2 r j)
    = LnRow.kGrad cnt ε (Z m c (row t r)) (D m c (row t r)) j := by
  by_cases h : t.val % 8 = 0
  · rw [outsAt0_A m c t h]
    dsimp only
    rw [outA8]
    exact (pay2_apply _ _ _ _ _ _ _ _ r j).trans (out8_blk m c t r j)
  · rw [outsAt0_B m c t h]
    dsimp only
    rw [outB8]
    exact (pay2_apply _ _ _ _ _ _ _ _ r j).trans (out8_blk m c t r j)

theorem outs9 (t : Fin cfg0.N) (r : Fin 512) (j : Fin 1024) : ((outsAt0 m c t.val t.isLt).2.1 : Vec Ideal S512x1024 .bf16) (ix2 r j)
    = LnRow.kGrad cnt ε (Z m c (row t r)) (D m c (row t r)) j := by
  by_cases h : t.val % 8 = 0
  · rw [outsAt0_A m c t h]
    dsimp only
    rw [outA9]
    exact (pay2_apply _ _ _ _ _ _ _ _ r j).trans (out8_blk m c t r j)
  · rw [outsAt0_B m c t h]
    dsimp only
    rw [outB9]
    exact (pay2_apply _ _ _ _ _ _ _ _ r j).trans (out8_blk m c t r j)

theorem outs10 (n : ℕ) : ∀ (hn : n < cfg0.N) (q : Fin 1) (j : Fin 1024), ((outsAt0 m c n hn).2.2.1 : Vec Ideal S1x1024 .f32) (ix2 q j)
    = ∑ s ∈ Finset.range (n + 1), ∑ r ∈ Finset.range 512, onNat (fun r => E m c r j * κ * LnRow.nh cnt ε (Z m c r) j) (512 * s + r) := by
  induction n with
  | zero =>
    intro hn q j
    rw [outsAt0_A m c ⟨0, hn⟩ rfl]
    dsimp only
    rw [outA10, pay15_apply, pay4_apply]
    simp only [eb_blk, zb_blk]
    rw [sum_row (fun r => E m c r j * κ * LnRow.nh cnt ε (Z m c r) j), Finset.sum_range_one, zero_add]
  | succ n ih =>
    intro hn q j
    have h8 : n + 1 < 8 := lt8 ⟨n + 1, hn⟩
    rw [outsAt0_B m c ⟨n + 1, hn⟩ (by dsimp only; omega)]
    dsimp only
    rw [outB10, pay15_apply]
    simp only [eb_blk, zb_blk]
    rw [sum_row (fun r => E m c r j * κ * LnRow.nh cnt ε (Z m c r) j), Finset.sum_range_succ _ (n + 1)]
    exact congrArg₂ (· + ·) (ih _ q j) rfl

theorem outs11 (n : ℕ) : ∀ (hn : n < cfg0.N) (q : Fin 1) (j : Fin 1024), ((outsAt0 m c n hn).2.2.2.1 : Vec Ideal S1x1024 .f32) (ix2 q j)
    = ∑ s ∈ Finset.range (n + 1), ∑ r ∈ Finset.range 512, onNat (fun r => E m c r j * κ) (512 * s + r) := by
  induction n with
  | zero =>
    intro hn q j
    rw [outsAt0_A m c ⟨0, hn⟩ rfl]
    dsimp only
    rw [outA11, pay1_apply, pay5_apply]
    simp only [pay14_apply, eb_blk]
    rw [sum_row (fun r => E m c r j * κ), Finset.sum_range_one, zero_add]
  | succ n ih =>
    intro hn q j
    have h8 : n + 1 < 8 := lt8 ⟨n + 1, hn⟩
    rw [outsAt0_B m c ⟨n + 1, hn⟩ (by dsimp only; omega)]
    dsimp only
    rw [outB11, pay1_apply]
    simp only [pay14_apply, eb_blk]
    rw [sum_row (fun r => E m c r j * κ), Finset.sum_range_succ _ (n + 1)]
    exact congrArg₂ (· + ·) (ih _ q j) rfl

theorem outs12 (n : ℕ) : ∀ (hn : n < cfg0.N) (q : Fin 1) (j : Fin 1024), ((outsAt0 m c n hn).2.2.2.2 : Vec Ideal S1x1024 .f32) (ix2 q j)
    = ∑ s ∈ Finset.range (n + 1), ∑ r ∈ Finset.range 512, onNat (fun r => E m c r j * E m c r j) (512 * s + r) := by
  induction n with
  | zero =>
    intro hn q j
    rw [outsAt0_A m c ⟨0, hn⟩ rfl]
    dsimp only
    rw [outA12, pay13_apply, pay6_apply]
    simp only [eb_blk]
    rw [sum_row (fun r => E m c r j * E m c r j), Finset.sum_range_one, zero_add]
  | succ n ih =>
    intro hn q j
    have h8 : n + 1 < 8 := lt8 ⟨n + 1, hn⟩
    rw [outsAt0_B m c ⟨n + 1, hn⟩ (by dsimp only; omega)]
    dsimp only
    rw [outB12, pay13_apply]
    simp only [eb_blk]
    rw [sum_row (fun r => E m c r j * E m c r j), Finset.sum_range_succ _ (n + 1)]
    exact congrArg₂ (· + ·) (ih _ q j) rfl

abbrev G8 : Vec Ideal S4096x1024 .f32 := Cert.LossRefIdeal.Read.val_main_v101 (F := Ideal) (A0 m c) (A1 m c) (A2 m c) (A3 m c) (A4 m c) (A5 m c) (A6 m c) (A7 m c)

theorem arr8 [Cert.Pre_finite15.Facts] (h : Cert.Pre_finite15.fn (F := Ideal) (A0 m c) (A1 m c) (A2 m c) (A3 m c) (A4 m c) (A5 m c) (A6 m c) (A7 m c) = fun _ => 1#1) :
    ((dats m 0 c).arrAt 8 cfg0.N : Vec Ideal S4096x1024 .f32) = G8 m c := by
  obtain ⟨hg, hb, ht⟩ := real15 _ _ _ _ _ _ _ _ h
  refine (dats m 0 c).arrAt_eq_of_cover 8 (G8 m c) (fun t _ => ?_) (fun i => ?_)
  · rw [Value.flushed8]
    funext y
    idx_vars y
    refine (outs8 m c t y0 y1).trans ?_
    rw [View.read_apply]
    show _ = G8 m c _
    have e : ((cfg0.win 8).blk t).view.emb (ix2 y0 y1) = (ix2 (row t y0) y1 : S4096x1024.Idx) := by
      funext a
      apply Fin.ext
      match a with
      | ⟨0, _⟩ => show win0_8.index t 0 * 512 + 1 * y0.val = 512 * t.val + y0.val; rw [(jx8 t).1]; omega
      | ⟨1, _⟩ => show win0_8.index t 1 * 1024 + 1 * y1.val = y1.val; rw [(jx8 t).2]; omega
    exact (row_eq _ _ _ _ (fun l => hg _) (fun l => hb _) (fun l => ht _) y1).trans
      ((v101_apply (A0 m c) (A1 m c) (A2 m c) (A3 m c) (A4 m c) (A5 m c) (A6 m c) (A7 m c) (row t y0) y1).symm.trans (congrArg (G8 m c) e.symm))
  · have h0 : (i 0).val < 4096 := (i 0).isLt
    have h1 : (i 1).val < 1024 := (i 1).isLt
    have hN : cfg0.N = 8 := N_0
    have hN' : grid0.N = 8 := N_0
    refine ⟨⟨(i 0).val / 512, by omega⟩, flush0_8 _, ?_⟩
    rw [View.set_slice_whole, Rect.mem_set_unit]
    intro a
    match a with
    | ⟨0, _⟩ =>
      have e := (jx8 ⟨(i 0).val / 512, by omega⟩).1
      show win0_8.index _ 0 * 512 ≤ (i 0).val ∧ (i 0).val < win0_8.index _ 0 * 512 + 512
      rw [e]
      dsimp only
      omega
    | ⟨1, _⟩ =>
      have e := (jx8 ⟨(i 0).val / 512, by omega⟩).2
      show win0_8.index _ 1 * 1024 ≤ (i 1).val ∧ (i 1).val < win0_8.index _ 1 * 1024 + 1024
      rw [e]
      omega

abbrev G9 : Vec Ideal S4096x1024 .bf16 := Cert.LossRefIdeal.Read.val_main_v102 (F := Ideal) (A0 m c) (A1 m c) (A2 m c) (A3 m c) (A4 m c) (A5 m c) (A6 m c) (A7 m c)

theorem arr9 [Cert.Pre_finite15.Facts] (h : Cert.Pre_finite15.fn (F := Ideal) (A0 m c) (A1 m c) (A2 m c) (A3 m c) (A4 m c) (A5 m c) (A6 m c) (A7 m c) = fun _ => 1#1) :
    ((dats m 0 c).arrAt 9 cfg0.N : Vec Ideal S4096x1024 .bf16) = G9 m c := by
  obtain ⟨hg, hb, ht⟩ := real15 _ _ _ _ _ _ _ _ h
  refine (dats m 0 c).arrAt_eq_of_cover 9 (G9 m c) (fun t _ => ?_) (fun i => ?_)
  · rw [Value.flushed9]
    funext y
    idx_vars y
    refine (outs9 m c t y0 y1).trans ?_
    rw [View.read_apply]
    show _ = G9 m c _
    have e : ((cfg0.win 9).blk t).view.emb (ix2 y0 y1) = (ix2 (row t y0) y1 : S4096x1024.Idx) := by
      funext a
      apply Fin.ext
      match a with
      | ⟨0, _⟩ => show win0_9.index t 0 * 512 + 1 * y0.val = 512 * t.val + y0.val; rw [(jx9 t).1]; omega
      | ⟨1, _⟩ => show win0_9.index t 1 * 1024 + 1 * y1.val = y1.val; rw [(jx9 t).2]; omega
    exact (row_eq _ _ _ _ (fun l => hg _) (fun l => hb _) (fun l => ht _) y1).trans
      ((v102_apply (A0 m c) (A1 m c) (A2 m c) (A3 m c) (A4 m c) (A5 m c) (A6 m c) (A7 m c) (row t y0) y1).symm.trans (congrArg (G9 m c) e.symm))
  · have h0 : (i 0).val < 4096 := (i 0).isLt
    have h1 : (i 1).val < 1024 := (i 1).isLt
    have hN : cfg0.N = 8 := N_0
    have hN' : grid0.N = 8 := N_0
    refine ⟨⟨(i 0).val / 512, by omega⟩, flush0_9 _, ?_⟩
    rw [View.set_slice_whole, Rect.mem_set_unit]
    intro a
    match a with
    | ⟨0, _⟩ =>
      have e := (jx9 ⟨(i 0).val / 512, by omega⟩).1
      show win0_9.index _ 0 * 512 ≤ (i 0).val ∧ (i 0).val < win0_9.index _ 0 * 512 + 512
      rw [e]
      dsimp only
      omega
    | ⟨1, _⟩ =>
      have e := (jx9 ⟨(i 0).val / 512, by omega⟩).2
      show win0_9.index _ 1 * 1024 ≤ (i 1).val ∧ (i 1).val < win0_9.index _ 1 * 1024 + 1024
      rw [e]
      omega

abbrev G10 : Vec Ideal S1x1024 .f32 := Cert.LossRefIdeal.Read.val_main_v75 (F := Ideal) (A0 m c) (A1 m c) (A2 m c) (A3 m c) (A4 m c) (A5 m c) (A6 m c) (A7 m c)

theorem arr10 : ((dats m 0 c).arrAt 10 cfg0.N : Vec Ideal S1x1024 .f32) = G10 m c := by
  have hN : cfg0.N = 8 := N_0
  have hN' : grid0.N = 8 := N_0
  refine (dats m 0 c).arrAt_eq_of_cover 10 (G10 m c) (fun t ht => ?_) (fun i => ?_)
  · have h7 : t.val = 7 := by
      have := (flush0_10 t).mp ht
      have := lt8 t
      omega
    rw [Value.flushed10]
    funext y
    idx_vars y
    refine (outs10 m c t.val t.isLt y0 y1).trans ?_
    rw [h7, sum_all (fun r => E m c r y1 * κ * LnRow.nh cnt ε (Z m c r) y1), View.read_apply]
    show _ = G10 m c _
    have e : ((cfg0.win 10).blk t).view.emb (ix2 y0 y1) = (ix2 y0 y1 : S1x1024.Idx) := by
      funext a
      apply Fin.ext
      match a with
      | ⟨0, _⟩ => show win0_10.index t 0 * 1 + 1 * y0.val = y0.val; rw [(jx10 t).1]; omega
      | ⟨1, _⟩ => show win0_10.index t 1 * 1024 + 1 * y1.val = y1.val; rw [(jx10 t).2]; omega
    exact (v75_apply (A0 m c) (A1 m c) (A2 m c) (A3 m c) (A4 m c) (A5 m c) (A6 m c) (A7 m c) y0 y1).symm.trans (congrArg (G10 m c) e.symm)
  · have h0 : (i 0).val < 1 := (i 0).isLt
    have h1 : (i 1).val < 1024 := (i 1).isLt
    refine ⟨⟨7, by omega⟩, (flush0_10 _).mpr rfl, ?_⟩
    rw [View.set_slice_whole, Rect.mem_set_unit]
    intro a
    match a with
    | ⟨0, _⟩ =>
      have e := (jx10 ⟨7, by omega⟩).1
      show win0_10.index _ 0 * 1 ≤ (i 0).val ∧ (i 0).val < win0_10.index _ 0 * 1 + 1
      rw [e]
      omega
    | ⟨1, _⟩ =>
      have e := (jx10 ⟨7, by omega⟩).2
      show win0_10.index _ 1 * 1024 ≤ (i 1).val ∧ (i 1).val < win0_10.index _ 1 * 1024 + 1024
      rw [e]
      omega

abbrev G11 : Vec Ideal S1x1024 .f32 := Cert.LossRefIdeal.Read.val_main_v72 (F := Ideal) (A0 m c) (A1 m c) (A2 m c) (A3 m c) (A4 m c) (A5 m c) (A6 m c) (A7 m c)

theorem arr11 : ((dats m 0 c).arrAt 11 cfg0.N : Vec Ideal S1x1024 .f32) = G11 m c := by
  have hN : cfg0.N = 8 := N_0
  have hN' : grid0.N = 8 := N_0
  refine (dats m 0 c).arrAt_eq_of_cover 11 (G11 m c) (fun t ht => ?_) (fun i => ?_)
  · have h7 : t.val = 7 := by
      have := (flush0_11 t).mp ht
      have := lt8 t
      omega
    rw [Value.flushed11]
    funext y
    idx_vars y
    refine (outs11 m c t.val t.isLt y0 y1).trans ?_
    rw [h7, sum_all (fun r => E m c r y1 * κ), View.read_apply]
    show _ = G11 m c _
    have e : ((cfg0.win 11).blk t).view.emb (ix2 y0 y1) = (ix2 y0 y1 : S1x1024.Idx) := by
      funext a
      apply Fin.ext
      match a with
      | ⟨0, _⟩ => show win0_11.index t 0 * 1 + 1 * y0.val = y0.val; rw [(jx11 t).1]; omega
      | ⟨1, _⟩ => show win0_11.index t 1 * 1024 + 1 * y1.val = y1.val; rw [(jx11 t).2]; omega
    exact (v72_apply (A0 m c) (A1 m c) (A2 m c) (A3 m c) (A4 m c) (A5 m c) (A6 m c) (A7 m c) y0 y1).symm.trans (congrArg (G11 m c) e.symm)
  · have h0 : (i 0).val < 1 := (i 0).isLt
    have h1 : (i 1).val < 1024 := (i 1).isLt
    refine ⟨⟨7, by omega⟩, (flush0_11 _).mpr rfl, ?_⟩
    rw [View.set_slice_whole, Rect.mem_set_unit]
    intro a
    match a with
    | ⟨0, _⟩ =>
      have e := (jx11 ⟨7, by omega⟩).1
      show win0_11.index _ 0 * 1 ≤ (i 0).val ∧ (i 0).val < win0_11.index _ 0 * 1 + 1
      rw [e]
      omega
    | ⟨1, _⟩ =>
      have e := (jx11 ⟨7, by omega⟩).2
      show win0_11.index _ 1 * 1024 ≤ (i 1).val ∧ (i 1).val < win0_11.index _ 1 * 1024 + 1024
      rw [e]
      omega

abbrev G12 : Vec Ideal S1x1024 .f32 := Cert.LossRefIdeal.Read.val_main_v64 (F := Ideal) (A0 m c) (A1 m c) (A2 m c) (A3 m c) (A4 m c) (A5 m c) (A6 m c) (A7 m c)

theorem arr12 : ((dats m 0 c).arrAt 12 cfg0.N : Vec Ideal S1x1024 .f32) = G12 m c := by
  have hN : cfg0.N = 8 := N_0
  have hN' : grid0.N = 8 := N_0
  refine (dats m 0 c).arrAt_eq_of_cover 12 (G12 m c) (fun t ht => ?_) (fun i => ?_)
  · have h7 : t.val = 7 := by
      have := (flush0_12 t).mp ht
      have := lt8 t
      omega
    rw [Value.flushed12]
    funext y
    idx_vars y
    refine (outs12 m c t.val t.isLt y0 y1).trans ?_
    rw [h7, sum_all (fun r => E m c r y1 * E m c r y1), View.read_apply]
    show _ = G12 m c _
    have e : ((cfg0.win 12).blk t).view.emb (ix2 y0 y1) = (ix2 y0 y1 : S1x1024.Idx) := by
      funext a
      apply Fin.ext
      match a with
      | ⟨0, _⟩ => show win0_12.index t 0 * 1 + 1 * y0.val = y0.val; rw [(jx12 t).1]; omega
      | ⟨1, _⟩ => show win0_12.index t 1 * 1024 + 1 * y1.val = y1.val; rw [(jx12 t).2]; omega
    exact (v64_apply (A0 m c) (A1 m c) (A2 m c) (A3 m c) (A4 m c) (A5 m c) (A6 m c) (A7 m c) y0 y1).symm.trans (congrArg (G12 m c) e.symm)
  · have h0 : (i 0).val < 1 := (i 0).isLt
    have h1 : (i 1).val < 1024 := (i 1).isLt
    refine ⟨⟨7, by omega⟩, (flush0_12 _).mpr rfl, ?_⟩
    rw [View.set_slice_whole, Rect.mem_set_unit]
    intro a
    match a with
    | ⟨0, _⟩ =>
      have e := (jx12 ⟨7, by omega⟩).1
      show win0_12.index _ 0 * 1 ≤ (i 0).val ∧ (i 0).val < win0_12.index _ 0 * 1 + 1
      rw [e]
      omega
    | ⟨1, _⟩ =>
      have e := (jx12 ⟨7, by omega⟩).2
      show win0_12.index _ 1 * 1024 ≤ (i 1).val ∧ (i 1).val < win0_12.index _ 1 * 1024 + 1024
      rw [e]
      omega

/-- The call's reference ends, keeps its arguments and declares no semaphore. -/
theorem quiet : Cert.quiescent_LossRefIdeal := fun m ρ _ =>
  (θ_run Cert.LossRefIdeal.defs _ _).mono (fun r h => ⟨fun c => (h c).2.2.2.2.2, sem_eq_zero_of_no_sems (by decide) r.2⟩)
    (Cert.LossRefIdeal.Value.run (F := Ideal) m ρ)

theorem equal [Cert.Pre_finite15.Facts] : Cert.algebraic_LossIdeal_LossRefIdeal_pre_finite15 := by
  intro m g m' g' hp hm
  refine ⟨fun c => G8 m c, fun c => G9 m c, fun c => G10 m c, fun c => G11 m c, fun c => G12 m c, ?_, ?_⟩
  · refine (θ_run _ _ _).mono (fun r h c => ?_) (Cert.LossIdeal.Value.run_blocks (F := Ideal) m g)
    obtain ⟨h8, h9, h10, h11, h12, hargs⟩ := h c
    exact ⟨h8.trans (arr8 m c (hp c)), h9.trans (arr9 m c (hp c)), h10.trans (arr10 m c), h11.trans (arr11 m c), h12.trans (arr12 m c), hargs⟩
  · refine (θ_run _ _ _).mono (fun r h c => ?_) (Cert.LossRefIdeal.Value.run (F := Ideal) m' g')
    obtain ⟨h8, h9, h10, h11, h12, hargs⟩ := h c
    obtain ⟨e0, e1, e2, e3, e4, e5, e6, e7⟩ := hm c
    refine ⟨h8.trans ?_, h9.trans ?_, h10.trans ?_, h11.trans ?_, h12.trans ?_, hargs⟩
    · refine (Cert.LossRefIdeal.Read.val_main_v101_eq _).trans ?_
      show Cert.LossRefIdeal.Read.val_main_v101 (F := Ideal) (m' (c.tc.loc Cert.LossRefIdeal.main_arg0)) (m' (c.tc.loc Cert.LossRefIdeal.main_arg1)) (m' (c.tc.loc Cert.LossRefIdeal.main_arg2)) (m' (c.tc.loc Cert.LossRefIdeal.main_arg3)) (m' (c.tc.loc Cert.LossRefIdeal.main_arg4)) (m' (c.tc.loc Cert.LossRefIdeal.main_arg5)) (m' (c.tc.loc Cert.LossRefIdeal.main_arg6)) (m' (c.tc.loc Cert.LossRefIdeal.main_arg7)) = _
      rw [e0, e1, e2, e3, e4, e5, e6, e7]
    · refine (Cert.LossRefIdeal.Read.val_main_v102_eq _).trans ?_
      show Cert.LossRefIdeal.Read.val_main_v102 (F := Ideal) (m' (c.tc.loc Cert.LossRefIdeal.main_arg0)) (m' (c.tc.loc Cert.LossRefIdeal.main_arg1)) (m' (c.tc.loc Cert.LossRefIdeal.main_arg2)) (m' (c.tc.loc Cert.LossRefIdeal.main_arg3)) (m' (c.tc.loc Cert.LossRefIdeal.main_arg4)) (m' (c.tc.loc Cert.LossRefIdeal.main_arg5)) (m' (c.tc.loc Cert.LossRefIdeal.main_arg6)) (m' (c.tc.loc Cert.LossRefIdeal.main_arg7)) = _
      rw [e0, e1, e2, e3, e4, e5, e6, e7]
    · refine (Cert.LossRefIdeal.Read.val_main_v75_eq _).trans ?_
      show Cert.LossRefIdeal.Read.val_main_v75 (F := Ideal) (m' (c.tc.loc Cert.LossRefIdeal.main_arg0)) (m' (c.tc.loc Cert.LossRefIdeal.main_arg1)) (m' (c.tc.loc Cert.LossRefIdeal.main_arg2)) (m' (c.tc.loc Cert.LossRefIdeal.main_arg3)) (m' (c.tc.loc Cert.LossRefIdeal.main_arg4)) (m' (c.tc.loc Cert.LossRefIdeal.main_arg5)) (m' (c.tc.loc Cert.LossRefIdeal.main_arg6)) (m' (c.tc.loc Cert.LossRefIdeal.main_arg7)) = _
      rw [e0, e1, e2, e3, e4, e5, e6, e7]
    · refine (Cert.LossRefIdeal.Read.val_main_v72_eq _).trans ?_
      show Cert.LossRefIdeal.Read.val_main_v72 (F := Ideal) (m' (c.tc.loc Cert.LossRefIdeal.main_arg0)) (m' (c.tc.loc Cert.LossRefIdeal.main_arg1)) (m' (c.tc.loc Cert.LossRefIdeal.main_arg2)) (m' (c.tc.loc Cert.LossRefIdeal.main_arg3)) (m' (c.tc.loc Cert.LossRefIdeal.main_arg4)) (m' (c.tc.loc Cert.LossRefIdeal.main_arg5)) (m' (c.tc.loc Cert.LossRefIdeal.main_arg6)) (m' (c.tc.loc Cert.LossRefIdeal.main_arg7)) = _
      rw [e0, e1, e2, e3, e4, e5, e6, e7]
    · refine (Cert.LossRefIdeal.Read.val_main_v64_eq _).trans ?_
      show Cert.LossRefIdeal.Read.val_main_v64 (F := Ideal) (m' (c.tc.loc Cert.LossRefIdeal.main_arg0)) (m' (c.tc.loc Cert.LossRefIdeal.main_arg1)) (m' (c.tc.loc Cert.LossRefIdeal.main_arg2)) (m' (c.tc.loc Cert.LossRefIdeal.main_arg3)) (m' (c.tc.loc Cert.LossRefIdeal.main_arg4)) (m' (c.tc.loc Cert.LossRefIdeal.main_arg5)) (m' (c.tc.loc Cert.LossRefIdeal.main_arg6)) (m' (c.tc.loc Cert.LossRefIdeal.main_arg7)) = _
      rw [e0, e1, e2, e3, e4, e5, e6, e7]

end Cert.LossP

end
-- ==== Proof.DxQkvOut.lean ====
/-
  The gradient through the attention's input projection and the norm before it: what one grid point leaves in its four
  output blocks, as functions of the input blocks, and those functions read at one element.
-/
module

public import proofs.«01_k».proof.Proof.Gen.DxQkvIdeal.Value
public import proofs.«01_k».proof.Proof.Block
public import proofs.«01_k».proof.Proof.Pay
public import Idealize.ShloMosaic.Lib.Pointwise

@[expose] public section

set_option maxRecDepth 16384

noncomputable section

namespace Cert.DxQkvP

open Idealize.ShloMosaic Idealize.ShloMosaic.TcCoe Idealize.SL.Sem
open Cert.DxQkvIdeal Cert.DxQkvIdeal.Gen
open Cert.DxLn (α ε cnt hz)

theorem pay7_apply (x6 : Vec Ideal S512x1024 .f32) (x0 : Vec Ideal S512x1024 .bf16) (x1 : Vec Ideal S512x256 .bf16) (x2 : Vec Ideal S1024x1024 .bf16) (x3 : Vec Ideal S256x1024 .bf16) (r : Fin 512) (j : Fin 1024) :
    k0_pay7 (F := Ideal) x6 x0 x2 x1 x3 (ix2 r j)
      = α * x6 (ix2 r j) + (∑ k : Fin 1024, x0 (ix2 r k) * x2 (ix2 k j)) + ∑ k : Fin 256, x1 (ix2 r k) * x3 (ix2 k j) := by
  pointwise [k0_pay7]

theorem pay8_apply (x : Vec Ideal S512x1024 .f32) (r : Fin 512) (j : Fin 1024) :
    k0_pay8 (F := Ideal) x (ix2 r j) = LnRow.cen cnt (fun l => x (ix2 r l)) j := by
  pointwise [k0_pay8, LnRow.cen, LnRow.mean]

theorem pay9_apply (x : Vec Ideal S512x1024 .f32) (r : Fin 512) (q : Fin 1) :
    k0_pay9 (F := Ideal) x (ix2 r q) = LnRow.rs cnt ε (fun l => x (ix2 r l)) := by
  pointwise [k0_pay9, pay8_apply, LnRow.rs, LnRow.varE, LnRow.mean]

theorem pay10_apply (x : Vec Ideal S512x1024 .f32) (r : Fin 512) (j : Fin 1024) :
    k0_pay10 (F := Ideal) x (ix2 r j) = LnRow.nh cnt ε (fun l => x (ix2 r l)) j := by
  pointwise [k0_pay10, pay8_apply, pay9_apply, LnRow.nh]

theorem pay3_apply (dy : FVec Ideal S512x1024 .f32) (x : Vec Ideal S512x1024 .f32) (g : Vec Ideal S1x1024 .f32) (r : Fin 512) (j : Fin 1024) :
    k0_pay3 (F := Ideal) dy (k0_pay9 x) (k0_pay10 x) g (ix2 r j)
      = LnRow.kGrad cnt ε (fun l => x (ix2 r l)) (fun l => dy (ix2 r l) * g (ix2 0 l)) j := by
  pointwise [k0_pay3, pay9_apply, pay10_apply, LnRow.kGrad, LnRow.mean]

theorem pay1_apply (dy nh : FVec Ideal S512x1024 .f32) (o : Vec Ideal S1x1024 .f32) (q : Fin 1) (j : Fin 1024) :
    k0_pay1 (F := Ideal) dy nh o (ix2 q j) = o (ix2 q j) + ∑ r : Fin 512, dy (ix2 r j) * nh (ix2 r j) := by
  pointwise [k0_pay1]

theorem pay2_apply (dy : FVec Ideal S512x1024 .f32) (o : Vec Ideal S1x1024 .f32) (q : Fin 1) (j : Fin 1024) :
    k0_pay2 (F := Ideal) dy o (ix2 q j) = o (ix2 q j) + ∑ r : Fin 512, dy (ix2 r j) := by
  pointwise [k0_pay2]

variable {F : FTy → Type} [FloatOps F]

omit [FloatOps F] in
theorem ldz {p q : ℕ} {e : EltTy} (inb : ∀ a : Fin 2, ![0, 0] a + ![p, q] a ≤ ![p, q] a) (X : Vec F ⟨2, ![p, q]⟩ e) :
    View.ld X (Rect.unit ![0, 0] ![p, q] inb) = X := View.ld_unit_zero (S := ⟨2, ![p, q]⟩) hz inb X

variable (c : Dev nD) (i : grid0.Coords)
  (a1 : Memref sig .tc .vmem S512x1024 .bf16) (h1 : a1.IsWhole) (a2 : Memref sig .tc .vmem S512x256 .bf16) (h2 : a2.IsWhole)
  (a3 : Memref sig .tc .vmem S1024x1024 .bf16) (h3 : a3.IsWhole) (a4 : Memref sig .tc .vmem S256x1024 .bf16) (h4 : a4.IsWhole)
  (a5 : Memref sig .tc .vmem S512x1024 .f32) (h5 : a5.IsWhole) (a6 : Memref sig .tc .vmem S1x1024 .f32) (h6 : a6.IsWhole)
  (a7 : Memref sig .tc .vmem S512x1024 .f32) (h7 : a7.IsWhole) (a8 : Memref sig .tc .vmem S512x1024 .f32) (h8 : a8.IsWhole)
  (a9 : Memref sig .tc .vmem S512x1024 .bf16) (h9 : a9.IsWhole) (a10 : Memref sig .tc .vmem S1x1024 .f32) (h10 : a10.IsWhole)
  (a11 : Memref sig .tc .vmem S1x1024 .f32) (h11 : a11.IsWhole)
  (x0 : Vec F S512x1024 .bf16) (x1 : Vec F S512x256 .bf16) (x2 : Vec F S1024x1024 .bf16) (x3 : Vec F S256x1024 .bf16) (x4 : Vec F S512x1024 .f32) (x5 : Vec F S1x1024 .f32)
  (x6 : Vec F S512x1024 .f32) (o9 o10 : Vec F S1x1024 .f32)

theorem outA7 (hc : cond0_0 i) : out0_A_7 c i a1 h1 a2 h2 a3 h3 a4 h4 a5 h5 a6 h6 a7 h7 a8 h8 a9 h9 a10 h10 a11 h11 hc x0 x1 x2 x3 x4 x5 x6
    = k0_pay3 (k0_pay7 x6 x0 x2 x1 x3) (k0_pay9 x4) (k0_pay10 x4) x5 := by
  unfold out0_A_7
  rw [View.read_writes_eq_canon _ _ _ (cover0_A_7 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, h6.read_unread, h7.read_unread,
    ldz]

theorem outA8 (hc : cond0_0 i) : out0_A_8 c i a1 h1 a2 h2 a3 h3 a4 h4 a5 h5 a6 h6 a7 h7 a8 h8 a9 h9 a10 h10 a11 h11 hc x0 x1 x2 x3 x4 x5 x6
    = k0_pay4 (k0_pay7 x6 x0 x2 x1 x3) (k0_pay9 x4) (k0_pay10 x4) x5 := by
  unfold out0_A_8
  rw [View.read_writes_eq_canon _ _ _ (cover0_A_8 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, h6.read_unread, h7.read_unread,
    ldz]

theorem outA9 (hc : cond0_0 i) : out0_A_9 c i a1 h1 a2 h2 a3 h3 a4 h4 a5 h5 a6 h6 a7 h7 a8 h8 a9 h9 a10 h10 a11 h11 hc x0 x1 x2 x3 x4 x5 x6
    = k0_pay1 (k0_pay7 x6 x0 x2 x1 x3) (k0_pay10 x4) k0_pay5 := by
  unfold out0_A_9
  rw [View.read_writes_eq_canon _ _ _ (cover0_A_9 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h7.read_unread,
    ldz]

theorem outA10 (hc : cond0_0 i) : out0_A_10 c i a1 h1 a2 h2 a3 h3 a4 h4 a5 h5 a6 h6 a7 h7 a8 h8 a9 h9 a10 h10 a11 h11 hc x0 x1 x2 x3 x4 x5 x6
    = k0_pay2 (k0_pay7 x6 x0 x2 x1 x3) k0_pay6 := by
  unfold out0_A_10
  rw [View.read_writes_eq_canon _ _ _ (cover0_A_10 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h7.read_unread,
    ldz]

theorem outB7 (hc : ¬cond0_0 i) : out0_B_7 c i a1 h1 a2 h2 a3 h3 a4 h4 a5 h5 a6 h6 a7 h7 a8 h8 a9 h9 a10 h10 a11 h11 hc x0 x1 x2 x3 x4 x5 x6 o9 o10
    = k0_pay3 (k0_pay7 x6 x0 x2 x1 x3) (k0_pay9 x4) (k0_pay10 x4) x5 := by
  unfold out0_B_7
  rw [View.read_writes_eq_canon _ _ _ (cover0_B_7 c i a1 h1 a2 h2 a3 h3 a4 h4 a5 h5 a6 h6 a7 h7 a8 h8 a9 h9 a10 h10 a11 h11 hc x0 x1 x2 x3 x4 x5 x6 o9 o10)]
  unfold kernelRun0_B
  dsimp only
  sl_unfold_words
  rw [View.canon_unit_zero hz]
  simp only [View.readAt_eq_ld, h1.read_unread, h2.read_unread, h3.read_unread, h4.read_unread, h5.read_unread, h6.read_unread, h7.read_unread,
    ldz]

theorem outB8 (hc : ¬cond0_0 i) : out0_B_8 c i a1 h1 a2 h2 a3 h3 a4 h4 a5 h5 a6 h6 a7 h7 a8 h8 a9 h9 a10 h10 a11 h11 hc x0 x1 x2 x3 x4 x5 x6 o9 o10
    = k0_pay4 (k0_pay7 x6 x0 x2 x1 x3) (k0_pay9 x4) (k0_pay10 x4) x5 := by
  unfold out0_B_8
  rw [View.read_writes_eq_canon _ _ _ (cover0_B_8 c i a1 h1 a2 h2 a3 h3 a4 h4 a5 h5 a6 h6 a7 h7 a8 h8 a9 h9 a10 h10 a11 h11 hc x0 x1 x2 x3 x4 x5 x6 o9 o10)]
  unfold kernelRun0_B
  dsimp only
  sl_unfold_words
  rw [View.canon_unit_zero hz]
  simp only [View.readAt_eq_ld, h1.read_unread, h2.read_unread, h3.read_unread, h4.read_unread, h5.read_unread, h6.read_unread, h7.read_unread,
    ldz]

theorem outB9 (hc : ¬cond0_0 i) : out0_B_9 c i a1 h1 a2 h2 a3 h3 a4 h4 a5 h5 a6 h6 a7 h7 a8 h8 a9 h9 a10 h10 a11 h11 hc x0 x1 x2 x3 x4 x5 x6 o9 o10
    = k0_pay1 (k0_pay7 x6 x0 x2 x1 x3) (k0_pay10 x4) o9 := by
  unfold out0_B_9
  rw [View.read_writes_eq_canon _ _ _ (cover0_B_9 c i a1 h1 a2 h2 a3 h3 a4 h4 a5 h5 a6 h6 a7 h7 a8 h8 a9 h9 a10 h10 a11 h11 hc x0 x1 x2 x3 x4 x5 x6 o9 o10)]
  unfold kernelRun0_B
  dsimp only
  sl_unfold_words
  rw [View.canon_unit_zero hz]
  simp only [View.readAt_eq_ld, h1.read_unread, h2.read_unread, h3.read_unread, h4.read_unread, h5.read_unread, h7.read_unread,
    h10.read_unread, ldz]

theorem outB10 (hc : ¬cond0_0 i) : out0_B_10 c i a1 h1 a2 h2 a3 h3 a4 h4 a5 h5 a6 h6 a7 h7 a8 h8 a9 h9 a10 h10 a11 h11 hc x0 x1 x2 x3 x4 x5 x6 o9 o10
    = k0_pay2 (k0_pay7 x6 x0 x2 x1 x3) o10 := by
  unfold out0_B_10
  rw [View.read_writes_eq_canon _ _ _ (cover0_B_10 c i a1 h1 a2 h2 a3 h3 a4 h4 a5 h5 a6 h6 a7 h7 a8 h8 a9 h9 a10 h10 a11 h11 hc x0 x1 x2 x3 x4 x5 x6 o9 o10)]
  unfold kernelRun0_B
  dsimp only
  sl_unfold_words
  rw [View.canon_unit_zero hz]
  simp only [View.readAt_eq_ld, h1.read_unread, h2.read_unread, h3.read_unread, h4.read_unread, h7.read_unread,
    h11.read_unread, ldz]

end Cert.DxQkvP

end
-- ==== Proof.ProdDxQkv.lean ====
/-
  The gradient through the attention's input projection and the norm before it: the four result arrays of the call are
  the reference's. Every point writes its own 512 rows of the two large results and adds its rows' column sums to the
  two small ones.
-/
module

public import proofs.«01_k».proof.Defs
public import proofs.«01_k».proof.Proof.DxQkvOut
public import proofs.«01_k».proof.Proof.ProdDwin
public import proofs.«01_k».proof.Proof.Fin
public import proofs.«01_k».proof.Proof.Arr
public import proofs.«01_k».proof.Proof.Gen.DxQkvRefIdeal.Read
public import proofs.«01_k».proof.Proof.Gen.DxQkvRefIdeal.Run
public import Idealize.ShloMosaic.Lib.StableHlo.ReadAt
public import Idealize.ShloMosaic.Lib.Pipeline.Value

@[expose] public section

set_option maxRecDepth 16384

noncomputable section

namespace Cert.DxQkvP

open Idealize.ShloMosaic Idealize.ShloMosaic.TcCoe Idealize.SL.Sem
open Idealize.ShloMosaic.Pipeline (Dat)
open Cert.DxLn (α ε cnt mhalf two IsReal α_real grad_row real_of_abs_lt and_one zero_cover)
open Cert.DwinP (onNat sum_all)

section
open Cert.DxQkvRefIdeal Cert.DxQkvRefIdeal.Read

/-- The arrays of the statement. -/
abbrev TH : Type := (⟨S4096x1024, .bf16⟩ : BufTy).Contents (Elt Ideal)
abbrev TK : Type := (⟨S4096x256, .bf16⟩ : BufTy).Contents (Elt Ideal)
abbrev TW : Type := (⟨S1024x1280, .f32⟩ : BufTy).Contents (Elt Ideal)
abbrev TX : Type := (⟨S4096x1024, .f32⟩ : BufTy).Contents (Elt Ideal)
abbrev TG : Type := (⟨S1x1024, .f32⟩ : BufTy).Contents (Elt Ideal)

variable (x0 : TH) (x1 : TK) (x2 : TW) (x3 : TX) (x4 : TG) (x5 : TX)

/-- The gradient that enters the norm, at token `r` and feature `j`. -/
def dy (r : Fin 4096) (j : Fin 1024) : EReal :=
  α * x5 (ix2 r j) + (∑ k : Fin 1024, x0 (ix2 r k) * x2 (ix2 j ⟨k.val, by omega⟩)) + ∑ k : Fin 256, x1 (ix2 r k) * x2 (ix2 j ⟨1024 + k.val, by omega⟩)

theorem v33_apply (r : Fin 4096) (j : Fin 1024) :
    val_main_v33 (F := Ideal) x0 x1 x2 (ix2 r j)
      = (∑ k : Fin 1024, x0 (ix2 r k) * x2 (ix2 j ⟨k.val, by omega⟩)) + ∑ k : Fin 256, x1 (ix2 r k) * x2 (ix2 j ⟨1024 + k.val, by omega⟩) := by
  pointwise [val_main_v33, val_main_v1, val_main_v0]

theorem v36_apply (r : Fin 4096) (j : Fin 1024) :
    val_main_v36 (F := Ideal) x0 x1 x2 x5 (ix2 r j) = dy x0 x1 x2 x5 r j := by
  pointwise [val_main_v36, v33_apply, val_main_v35, val_main_v34, val_main_cst_8]
  unfold dy
  rw [add_comm, ← add_assoc]

theorem v17_apply (r : Fin 4096) (j : Fin 1024) :
    val_main_v17 (F := Ideal) x3 (ix2 r j) = LnRow.cen cnt (fun l => x3 (ix2 r l)) j := by
  pointwise [val_main_v17, val_main_v16, val_main_v6, val_main_v5, val_main_v4, val_main_v3, val_main_cst_0, val_main_cst_1, LnRow.cen, LnRow.mean]

theorem v8_apply (r : Fin 4096) (j : Fin 1024) :
    val_main_v8 (F := Ideal) x3 (ix2 r j) = LnRow.cen cnt (fun l => x3 (ix2 r l)) j := by
  pointwise [val_main_v8, val_main_v7, val_main_v6, val_main_v5, val_main_v4, val_main_v3, val_main_cst_0, val_main_cst_1, LnRow.cen, LnRow.mean]

theorem v19_apply (r : Fin 4096) (q : Fin 1) :
    val_main_v19 (F := Ideal) x3 (ix2 r q) = LnRow.varE cnt ε (fun l => x3 (ix2 r l)) := by
  pointwise [val_main_v19, val_main_v18, val_main_v15, val_main_v14, val_main_v13, val_main_v12, val_main_v9, v8_apply, val_main_cst_3, val_main_cst_4,
    val_main_cst_5, LnRow.varE, LnRow.mean]

theorem v20_apply (r : Fin 4096) (q : Fin 1) :
    val_main_v20 (F := Ideal) x3 (ix2 r q) = LnRow.rs cnt ε (fun l => x3 (ix2 r l)) := by
  pointwise [val_main_v20, v19_apply, LnRow.rs]

theorem v25_apply (r : Fin 4096) (j : Fin 1024) :
    val_main_v25 (F := Ideal) x3 (ix2 r j) = LnRow.nh cnt ε (fun l => x3 (ix2 r l)) j := by
  pointwise [val_main_v25, val_main_v24, v17_apply, v20_apply, LnRow.nh]

/-- The normalised row's gradient. -/
def dn (r : Fin 4096) (l : Fin 1024) : EReal := dy x0 x1 x2 x5 r l * x4 (ix2 0 l)

theorem v43_apply (r : Fin 4096) (j : Fin 1024) :
    val_main_v43 (F := Ideal) x0 x1 x2 x4 x5 (ix2 r j) = dn x0 x1 x2 x4 x5 r j := by
  pointwise [val_main_v43, val_main_v42, v36_apply, dn]

theorem v54_apply (r : Fin 4096) (q : Fin 1) :
    val_main_v54 (F := Ideal) x0 x1 x2 x3 x4 x5 (ix2 r q) = LnRow.gVar cnt ε mhalf (fun l => x3 (ix2 r l)) (dn x0 x1 x2 x4 x5 r) := by
  pointwise [val_main_v54, val_main_v53, val_main_cst_13, val_main_v49, val_main_v46, val_main_v45, val_main_cst_11, val_main_v44, v17_apply, v43_apply,
    val_main_v23, val_main_v22, val_main_cst_6, val_main_v21, v20_apply, v19_apply, LnRow.gVar]

theorem v57_apply (r : Fin 4096) (j : Fin 1024) :
    val_main_v57 (F := Ideal) x0 x1 x2 x3 x4 x5 (ix2 r j)
      = LnRow.gVar cnt ε mhalf (fun l => x3 (ix2 r l)) (dn x0 x1 x2 x4 x5 r) * (two * LnRow.cen cnt (fun l => x3 (ix2 r l)) j) := by
  pointwise [val_main_v57, val_main_v56, val_main_v55, val_main_cst_14, v54_apply, val_main_v11, val_main_v10, val_main_cst_2, v8_apply]
  rw [Fin.sum_univ_one]

theorem v48_apply (r : Fin 4096) (j : Fin 1024) :
    val_main_v48 (F := Ideal) x0 x1 x2 x3 x4 x5 (ix2 r j) = dn x0 x1 x2 x4 x5 r j * LnRow.rs cnt ε (fun l => x3 (ix2 r l)) := by
  pointwise [val_main_v48, val_main_v47, v43_apply, v20_apply]

theorem v67_apply (r : Fin 4096) (j : Fin 1024) :
    val_main_v67 (F := Ideal) x0 x1 x2 x3 x4 x5 (ix2 r j)
      = LnRow.rGrad cnt ε mhalf two (fun l => x3 (ix2 r l)) (dn x0 x1 x2 x4 x5 r) j := by
  pointwise [val_main_v67, val_main_v66, val_main_v65, val_main_v64, val_main_v63, val_main_v62, val_main_v61, val_main_v60, val_main_v59, val_main_v58,
    val_main_v52, val_main_v51, val_main_v50, v48_apply, v57_apply, val_main_cst_12, val_main_cst_15, val_main_cst_16, val_main_cst_17, LnRow.rGrad]
  rw [Fin.sum_univ_one]

theorem v68_apply (r : Fin 4096) (j : Fin 1024) :
    val_main_v68 (F := Ideal) x0 x1 x2 x3 x4 x5 (ix2 r j)
      = LnRow.rGrad cnt ε mhalf two (fun l => x3 (ix2 r l)) (dn x0 x1 x2 x4 x5 r) j := by
  pointwise [val_main_v68, v67_apply]

theorem v38_apply (q : Fin 1) (j : Fin 1024) :
    val_main_v38 (F := Ideal) x0 x1 x2 x5 (ix2 q j) = ∑ r : Fin 4096, dy x0 x1 x2 x5 r j := by
  pointwise [val_main_v38, val_main_v37, val_main_cst_9, v36_apply]

theorem v41_apply (q : Fin 1) (j : Fin 1024) :
    val_main_v41 (F := Ideal) x0 x1 x2 x3 x5 (ix2 q j)
      = ∑ r : Fin 4096, dy x0 x1 x2 x5 r j * LnRow.nh cnt ε (fun l => x3 (ix2 r l)) j := by
  pointwise [val_main_v41, val_main_v40, val_main_v39, val_main_cst_10, v36_apply, v25_apply]
  exact Finset.sum_congr rfl fun r _ => mul_comm _ _

instance : Subsingleton Cert.Pre_finite16.S_.Idx := ⟨fun a b => funext fun i => i.elim0⟩

theorem finite_real [Cert.Pre_finite16.Facts] (h : Cert.Pre_finite16.fn (F := Ideal) x0 x1 x2 x3 x4 x5 = fun _ => 1#1) :
    (∀ i, ∃ r : ℝ, x0 i = r) ∧ (∀ i, ∃ r : ℝ, x1 i = r) ∧ (∀ i, ∃ r : ℝ, x2 i = r) ∧ (∀ i, ∃ r : ℝ, x4 i = r) ∧ (∀ i, ∃ r : ℝ, x5 i = r) := by
  have e := congrFun h (fun a => a.elim0)
  unfold Cert.Pre_finite16.fn Cert.Pre_finite16.fn_part1 at e
  dsimp only [andi] at e
  obtain ⟨e, e5⟩ := and_one e
  obtain ⟨e, e4⟩ := and_one e
  obtain ⟨e, e2⟩ := and_one e
  obtain ⟨e0, e1⟩ := and_one e
  exact ⟨fun i => real_of_abs_lt _ (Host.reduce_andi_all _ _ _ _ _ e0 i), fun i => real_of_abs_lt _ (Host.reduce_andi_all _ _ _ _ _ e1 i),
    fun i => real_of_abs_lt _ (Host.reduce_andi_all _ _ _ _ _ e2 i), fun i => real_of_abs_lt _ (Host.reduce_andi_all _ _ _ _ _ e4 i),
    fun i => real_of_abs_lt _ (Host.reduce_andi_all _ _ _ _ _ e5 i)⟩

theorem dn_real (h0 : ∀ i, IsReal (x0 i)) (h1 : ∀ i, IsReal (x1 i)) (h2 : ∀ i, IsReal (x2 i)) (h4 : ∀ i, IsReal (x4 i)) (h5 : ∀ i, IsReal (x5 i))
    (r : Fin 4096) (l : Fin 1024) : IsReal (dn x0 x1 x2 x4 x5 r l) := by
  unfold dn dy
  exact ((((α_real.mul (h5 _)).add (IsReal.sum _ fun k => (h0 _).mul (h2 _))).add (IsReal.sum _ fun k => (h1 _).mul (h2 _)))).mul (h4 _)

end

open Cert.DxQkvIdeal Cert.DxQkvIdeal.Gen

variable (m : (ℓ : Loc nD τ sig) → Buf (Elt Ideal) ℓ) (c : Dev nD)

/-- The arguments, as launched. -/
abbrev A0 : TH := m ((c : Thread nD τ).loc main_arg0)
abbrev A1 : TK := m ((c : Thread nD τ).loc main_arg1)
abbrev A2 : TW := m ((c : Thread nD τ).loc main_arg2)
abbrev A3 : TX := m ((c : Thread nD τ).loc main_arg3)
abbrev A4 : TG := m ((c : Thread nD τ).loc main_arg4)
abbrev A5 : TX := m ((c : Thread nD τ).loc main_arg5)

theorem ix_row0 : ∀ t : Fin grid0.N, win0_0.index t 0 = t.val ∧ win0_0.index t 1 = 0 := by decide +kernel
theorem ix_row1 : ∀ t : Fin grid0.N, win0_1.index t 0 = t.val ∧ win0_1.index t 1 = 0 := by decide +kernel
theorem ix_row2 : ∀ t : Fin grid0.N, win0_2.index t 0 = 0 ∧ win0_2.index t 1 = 0 := by decide +kernel
theorem ix_row3 : ∀ t : Fin grid0.N, win0_3.index t 0 = 4 ∧ win0_3.index t 1 = 0 := by decide +kernel
theorem ix_row4 : ∀ t : Fin grid0.N, win0_4.index t 0 = t.val ∧ win0_4.index t 1 = 0 := by decide +kernel
theorem ix_row5 : ∀ t : Fin grid0.N, win0_5.index t 0 = 0 ∧ win0_5.index t 1 = 0 := by decide +kernel
theorem ix_row6 : ∀ t : Fin grid0.N, win0_6.index t 0 = t.val ∧ win0_6.index t 1 = 0 := by decide +kernel
theorem ix_row7 : ∀ t : Fin grid0.N, win0_7.index t 0 = t.val ∧ win0_7.index t 1 = 0 := by decide +kernel
theorem ix_row8 : ∀ t : Fin grid0.N, win0_8.index t 0 = t.val ∧ win0_8.index t 1 = 0 := by decide +kernel
theorem ix_row9 : ∀ t : Fin grid0.N, win0_9.index t 0 = 0 ∧ win0_9.index t 1 = 0 := by decide +kernel
theorem ix_row10 : ∀ t : Fin grid0.N, win0_10.index t 0 = 0 ∧ win0_10.index t 1 = 0 := by decide +kernel

theorem lt8 (t : Fin cfg0.N) : t.val < 8 := by have : cfg0.N = 8 := N_0; have := t.isLt; omega

/-- Row `r` of block `t`. -/
abbrev row (t : Fin cfg0.N) (r : Fin 512) : Fin 4096 := ⟨512 * t.val + r.val, by have := lt8 t; omega⟩

theorem iblk0 (t : Fin cfg0.N) (r : Fin 512) (k : Fin 1024) : (iblk m c 0 t : Vec Ideal S512x1024 .bf16) (ix2 r k) = A0 m c (ix2 (row t r) k) := by
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = 512 * t.val + r.val; rw [(ix_row0 t).1]; omega
  | ⟨1, _⟩ => show win0_0.index t 1 * 1024 + 1 * k.val = k.val; rw [(ix_row0 t).2]; omega

theorem iblk1 (t : Fin cfg0.N) (r : Fin 512) (k : Fin 256) : (iblk m c 1 t : Vec Ideal S512x256 .bf16) (ix2 r k) = A1 m c (ix2 (row t r) k) := by
  unfold iblk
  rw [View.read_apply]
  show V m c main_arg1 _ = m (c.tc.loc main_arg1) _
  rw [V_main_arg1]
  congr 1
  funext a
  apply Fin.ext
  match a with
  | ⟨0, _⟩ => show win0_1.index t 0 * 512 + 1 * r.val = 512 * t.val + r.val; rw [(ix_row1 t).1]; omega
  | ⟨1, _⟩ => show win0_1.index t 1 * 256 + 1 * k.val = k.val; rw [(ix_row1 t).2]; omega

theorem iblk4 (t : Fin cfg0.N) (r : Fin 512) (k : Fin 1024) : (iblk m c 4 t : Vec Ideal S512x1024 .f32) (ix2 r k) = A3 m c (ix2 (row t r) k) := by
  unfold iblk
  rw [View.read_apply]
  show V m c main_arg3 _ = m (c.tc.loc main_arg3) _
  rw [V_main_arg3]
  congr 1
  funext a
  apply Fin.ext
  match a with
  | ⟨0, _⟩ => show win0_4.index t 0 * 512 + 1 * r.val = 512 * t.val + r.val; rw [(ix_row4 t).1]; omega
  | ⟨1, _⟩ => show win0_4.index t 1 * 1024 + 1 * k.val = k.val; rw [(ix_row4 t).2]; omega

theorem iblk6 (t : Fin cfg0.N) (r : Fin 512) (k : Fin 1024) : (iblk m c 6 t : Vec Ideal S512x1024 .f32) (ix2 r k) = A5 m c (ix2 (row t r) k) := by
  unfold iblk
  rw [View.read_apply]
  show V m c main_arg5 _ = m (c.tc.loc main_arg5) _
  rw [V_main_arg5]
  congr 1
  funext a
  apply Fin.ext
  match a with
  | ⟨0, _⟩ => show win0_6.index t 0 * 512 + 1 * r.val = 512 * t.val + r.val; rw [(ix_row6 t).1]; omega
  | ⟨1, _⟩ => show win0_6.index t 1 * 1024 + 1 * k.val = k.val; rw [(ix_row6 t).2]; omega

theorem iblk5 (t : Fin cfg0.N) (q : Fin 1) (k : Fin 1024) : (iblk m c 5 t : Vec Ideal S1x1024 .f32) (ix2 q k) = A4 m c (ix2 q k) := by
  unfold iblk
  rw [View.read_apply]
  show V m c main_arg4 _ = m (c.tc.loc main_arg4) _
  rw [V_main_arg4]
  congr 1
  funext a
  apply Fin.ext
  match a with
  | ⟨0, _⟩ => show win0_5.index t 0 * 1 + 1 * q.val = q.val; rw [(ix_row5 t).1]; omega
  | ⟨1, _⟩ => show win0_5.index t 1 * 1024 + 1 * k.val = k.val; rw [(ix_row5 t).2]; omega

/-- The weight as the launch finds it: transposed. -/
theorem V_w (k : Fin 1280) (j : Fin 1024) : (V m c main_v1 : Vec Ideal S1280x1024 .bf16) (ix2 k j) = A2 m c (ix2 j k) := by
  unfold V
  after_reads_at

theorem iblk2 (t : Fin cfg0.N) (k : Fin 1024) (j : Fin 1024) : (X0_2 m c t : Vec Ideal S1024x1024 .bf16) (ix2 k j) = A2 m c (ix2 j ⟨k.val, by omega⟩) := by
  rw [← V_w]
  unfold X0_2 Pipeline.Window.fill
  rw [dif_pos (moved0_2 t (ix2 k j))]
  unfold iblk
  rw [View.read_apply]
  show V m c main_v1 _ = V m c main_v1 _
  congr 1
  funext a
  apply Fin.ext
  match a with
  | ⟨0, _⟩ => show win0_2.index t 0 * 1024 + 1 * k.val = k.val; rw [(ix_row2 t).1]; omega
  | ⟨1, _⟩ => show win0_2.index t 1 * 1024 + 1 * j.val = j.val; rw [(ix_row2 t).2]; omega

theorem iblk3 (t : Fin cfg0.N) (k : Fin 256) (j : Fin 1024) : (iblk m c 3 t : Vec Ideal S256x1024 .bf16) (ix2 k j) = A2 m c (ix2 j ⟨1024 + k.val, by omega⟩) := by
  rw [← V_w]
  unfold iblk
  rw [View.read_apply]
  show V m c main_v1 _ = V m c main_v1 _
  congr 1
  funext a
  apply Fin.ext
  match a with
  | ⟨0, _⟩ => show win0_3.index t 0 * 256 + 1 * k.val = 1024 + k.val; rw [(ix_row3 t).1]; omega
  | ⟨1, _⟩ => show win0_3.index t 1 * 1024 + 1 * j.val = j.val; rw [(ix_row3 t).2]; omega

/-- The gradient entering the norm, of the launched arguments. -/
abbrev DY (r : Fin 4096) (j : Fin 1024) : EReal := dy (A0 m c) (A1 m c) (A2 m c) (A5 m c) r j
abbrev DN (r : Fin 4096) (j : Fin 1024) : EReal := dn (A0 m c) (A1 m c) (A2 m c) (A4 m c) (A5 m c) r j
/-- A row of the norm's input. -/
abbrev X (r : Fin 4096) (j : Fin 1024) : EReal := A3 m c (ix2 r j)

theorem pay7_blk (t : Fin cfg0.N) (r : Fin 512) (j : Fin 1024) :
    k0_pay7 (F := Ideal) (iblk m c 6 t) (iblk m c 0 t) (X0_2 m c t) (iblk m c 1 t) (iblk m c 3 t) (ix2 r j) = DY m c (row t r) j := by
  rw [pay7_apply, iblk6]
  simp only [iblk0, iblk1, iblk2, iblk3]
  rfl

theorem pay10_blk (t : Fin cfg0.N) (r : Fin 512) (j : Fin 1024) :
    k0_pay10 (F := Ideal) (iblk m c 4 t) (ix2 r j) = LnRow.nh cnt ε (X m c (row t r)) j := by
  rw [pay10_apply]
  simp only [iblk4]

theorem pay3_blk (t : Fin cfg0.N) (r : Fin 512) (j : Fin 1024) :
    k0_pay3 (F := Ideal) (k0_pay7 (iblk m c 6 t) (iblk m c 0 t) (X0_2 m c t) (iblk m c 1 t) (iblk m c 3 t)) (k0_pay9 (iblk m c 4 t)) (k0_pay10 (iblk m c 4 t))
      (iblk m c 5 t) (ix2 r j) = LnRow.kGrad cnt ε (X m c (row t r)) (DN m c (row t r)) j := by
  rw [pay3_apply]
  simp only [pay7_blk, iblk4, iblk5]
  rfl

theorem pay4_blk (t : Fin cfg0.N) (r : Fin 512) (j : Fin 1024) :
    k0_pay4 (F := Ideal) (k0_pay7 (iblk m c 6 t) (iblk m c 0 t) (X0_2 m c t) (iblk m c 1 t) (iblk m c 3 t)) (k0_pay9 (iblk m c 4 t)) (k0_pay10 (iblk m c 4 t))
      (iblk m c 5 t) (ix2 r j) = LnRow.kGrad cnt ε (X m c (row t r)) (DN m c (row t r)) j := by
  rw [← pay3_blk]
  rfl

theorem outs7 (t : Fin cfg0.N) (r : Fin 512) (j : Fin 1024) :
    ((outsAt0 m c t.val t.isLt).1 : Vec Ideal S512x1024 .f32) (ix2 r j) = LnRow.kGrad cnt ε (X m c (row t r)) (DN m c (row t r)) j := by
  by_cases h0 : t.val % 8 = 0
  · rw [outsAt0_A m c t h0]
    dsimp only
    rw [outA7, pay3_blk]
  · rw [outsAt0_B m c t h0]
    dsimp only
    rw [outB7, pay3_blk]

theorem outs8 (t : Fin cfg0.N) (r : Fin 512) (j : Fin 1024) :
    ((outsAt0 m c t.val t.isLt).2.1 : Vec Ideal S512x1024 .bf16) (ix2 r j) = LnRow.kGrad cnt ε (X m c (row t r)) (DN m c (row t r)) j := by
  by_cases h0 : t.val % 8 = 0
  · rw [outsAt0_A m c t h0]
    dsimp only
    rw [outA8, pay4_blk]
  · rw [outsAt0_B m c t h0]
    dsimp only
    rw [outB8, pay4_blk]

theorem sum_row (f : Fin 4096 → EReal) (t : Fin cfg0.N) : ∑ r : Fin 512, f (row t r) = ∑ r ∈ Finset.range 512, onNat f (512 * t.val + r) := by
  rw [Finset.sum_range]
  refine Finset.sum_congr rfl fun r _ => ?_
  have := r.isLt
  have := lt8 t
  simp only [onNat]
  rw [dif_pos (by omega)]

theorem pay5_apply (q : Fin 1) (j : Fin 1024) : k0_pay5 (F := Ideal) (ix2 q j) = 0 := by pointwise [k0_pay5]
theorem pay6_apply (q : Fin 1) (j : Fin 1024) : k0_pay6 (F := Ideal) (ix2 q j) = 0 := by pointwise [k0_pay6]

theorem outs9 (n : ℕ) : ∀ (hn : n < cfg0.N) (q : Fin 1) (j : Fin 1024), ((outsAt0 m c n hn).2.2.1 : Vec Ideal S1x1024 .f32) (ix2 q j)
    = ∑ s ∈ Finset.range (n + 1), ∑ r ∈ Finset.range 512, onNat (fun r => DY m c r j * LnRow.nh cnt ε (X m c r) j) (512 * s + r) := by
  induction n with
  | zero =>
    intro hn q j
    rw [outsAt0_A m c ⟨0, hn⟩ rfl]
    dsimp only
    rw [outA9, pay1_apply, pay5_apply]
    simp only [pay7_blk, pay10_blk]
    rw [sum_row (fun r => DY m c r j * LnRow.nh cnt ε (X m c r) j), Finset.sum_range_one, zero_add]
  | succ n ih =>
    intro hn q j
    have h16 : n + 1 < 8 := lt8 ⟨n + 1, hn⟩
    rw [outsAt0_B m c ⟨n + 1, hn⟩ (by dsimp only; omega)]
    dsimp only
    rw [outB9, pay1_apply]
    simp only [pay7_blk, pay10_blk]
    rw [sum_row (fun r => DY m c r j * LnRow.nh cnt ε (X m c r) j), Finset.sum_range_succ _ (n + 1)]
    exact congrArg₂ (· + ·) (ih _ q j) rfl

theorem outs10 (n : ℕ) : ∀ (hn : n < cfg0.N) (q : Fin 1) (j : Fin 1024), ((outsAt0 m c n hn).2.2.2 : Vec Ideal S1x1024 .f32) (ix2 q j)
    = ∑ s ∈ Finset.range (n + 1), ∑ r ∈ Finset.range 512, onNat (fun r => DY m c r j) (512 * s + r) := by
  induction n with
  | zero =>
    intro hn q j
    rw [outsAt0_A m c ⟨0, hn⟩ rfl]
    dsimp only
    rw [outA10, pay2_apply, pay6_apply]
    simp only [pay7_blk]
    rw [sum_row (fun r => DY m c r j), Finset.sum_range_one, zero_add]
  | succ n ih =>
    intro hn q j
    have h16 : n + 1 < 8 := lt8 ⟨n + 1, hn⟩
    rw [outsAt0_B m c ⟨n + 1, hn⟩ (by dsimp only; omega)]
    dsimp only
    rw [outB10, pay2_apply]
    simp only [pay7_blk]
    rw [sum_row (fun r => DY m c r j), Finset.sum_range_succ _ (n + 1)]
    exact congrArg₂ (· + ·) (ih _ q j) rfl

theorem div_cover (x : ℕ) : x / 512 * 512 ≤ x ∧ x < x / 512 * 512 + 512 := by omega

/-- What result 0 holds. -/
def G7 : Vec Ideal S4096x1024 .f32 := fun i => LnRow.kGrad cnt ε (X m c (i 0)) (DN m c (i 0)) (i 1)

theorem arr7 : ((dats m 0 c).arrAt 7 cfg0.N : Vec Ideal S4096x1024 .f32) = G7 m c := by
  refine (dats m 0 c).arrAt_eq_of_cover 7 (G7 m c) (fun t _ => ?_) (fun i => ?_)
  · rw [Value.flushed7]
    funext y
    idx_vars y
    refine (outs7 m c t _ _).trans ?_
    rw [View.read_apply]
    show _ = G7 m c _
    unfold G7
    have e0 : (((cfg0.win 7).blk t).view.emb (ix2 y0 y1)) 0 = row t y0 := by
      apply Fin.ext
      show win0_7.index t 0 * 512 + 1 * y0.val = 512 * t.val + y0.val
      rw [(ix_row7 t).1]; omega
    have e1 : (((cfg0.win 7).blk t).view.emb (ix2 y0 y1)) 1 = y1 := by
      apply Fin.ext
      show win0_7.index t 1 * 1024 + 1 * y1.val = y1.val
      rw [(ix_row7 t).2]; omega
    exact (congr (congrArg₂ (fun a b => LnRow.kGrad cnt ε (X m c a) (DN m c b)) e0 e0) e1).symm
  · have h0 : (i 0).val < 4096 := (i 0).isLt
    have h1 : (i 1).val < 1024 := (i 1).isLt
    have hN : cfg0.N = 8 := N_0
    have hN' : grid0.N = 8 := N_0
    refine ⟨⟨(i 0).val / 512, by omega⟩, flush0_7 _, ?_⟩
    rw [View.set_slice_whole, Rect.mem_set_unit]
    intro a
    match a with
    | ⟨0, _⟩ =>
      have e := (ix_row7 ⟨(i 0).val / 512, by omega⟩).1
      show win0_7.index _ 0 * 512 ≤ (i 0).val ∧ (i 0).val < win0_7.index _ 0 * 512 + 512
      rw [e]; exact div_cover _
    | ⟨1, _⟩ =>
      have e := (ix_row7 ⟨(i 0).val / 512, by omega⟩).2
      show win0_7.index _ 1 * 1024 ≤ (i 1).val ∧ (i 1).val < win0_7.index _ 1 * 1024 + 1024
      rw [e]; exact zero_cover ‹_›

/-- What result 1 holds. -/
def G8 : Vec Ideal S4096x1024 .bf16 := fun i => LnRow.kGrad cnt ε (X m c (i 0)) (DN m c (i 0)) (i 1)

theorem arr8 : ((dats m 0 c).arrAt 8 cfg0.N : Vec Ideal S4096x1024 .bf16) = G8 m c := by
  refine (dats m 0 c).arrAt_eq_of_cover 8 (G8 m c) (fun t _ => ?_) (fun i => ?_)
  · rw [Value.flushed8]
    funext y
    idx_vars y
    refine (outs8 m c t _ _).trans ?_
    rw [View.read_apply]
    show _ = G8 m c _
    unfold G8
    have e0 : (((cfg0.win 8).blk t).view.emb (ix2 y0 y1)) 0 = row t y0 := by
      apply Fin.ext
      show win0_8.index t 0 * 512 + 1 * y0.val = 512 * t.val + y0.val
      rw [(ix_row8 t).1]; omega
    have e1 : (((cfg0.win 8).blk t).view.emb (ix2 y0 y1)) 1 = y1 := by
      apply Fin.ext
      show win0_8.index t 1 * 1024 + 1 * y1.val = y1.val
      rw [(ix_row8 t).2]; omega
    exact (congr (congrArg₂ (fun a b => LnRow.kGrad cnt ε (X m c a) (DN m c b)) e0 e0) e1).symm
  · have h0 : (i 0).val < 4096 := (i 0).isLt
    have h1 : (i 1).val < 1024 := (i 1).isLt
    have hN : cfg0.N = 8 := N_0
    have hN' : grid0.N = 8 := N_0
    refine ⟨⟨(i 0).val / 512, by omega⟩, flush0_8 _, ?_⟩
    rw [View.set_slice_whole, Rect.mem_set_unit]
    intro a
    match a with
    | ⟨0, _⟩ =>
      have e := (ix_row8 ⟨(i 0).val / 512, by omega⟩).1
      show win0_8.index _ 0 * 512 ≤ (i 0).val ∧ (i 0).val < win0_8.index _ 0 * 512 + 512
      rw [e]; exact div_cover _
    | ⟨1, _⟩ =>
      have e := (ix_row8 ⟨(i 0).val / 512, by omega⟩).2
      show win0_8.index _ 1 * 1024 ≤ (i 1).val ∧ (i 1).val < win0_8.index _ 1 * 1024 + 1024
      rw [e]; exact zero_cover ‹_›

/-- What result 2 holds. -/
def G9 : Vec Ideal S1x1024 .f32 := fun i => ∑ r : Fin 4096, DY m c r (i 1) * LnRow.nh cnt ε (X m c r) (i 1)

theorem arr9 : ((dats m 0 c).arrAt 9 cfg0.N : Vec Ideal S1x1024 .f32) = G9 m c := by
  have hN : cfg0.N = 8 := N_0
  have hN' : grid0.N = 8 := N_0
  refine (dats m 0 c).arrAt_eq_of_cover 9 (G9 m c) (fun t ht => ?_) (fun i => ?_)
  · have h7 : t.val = 7 := by
      have := (flush0_9 t).mp ht
      have := lt8 t
      omega
    rw [Value.flushed9]
    funext y
    idx_vars y
    refine (outs9 m c t.val t.isLt y0 y1).trans ?_
    rw [h7, sum_all (fun r => DY m c r y1 * LnRow.nh cnt ε (X m c r) y1), View.read_apply]
    show _ = G9 m c _
    unfold G9
    have e1 : (((cfg0.win 9).blk t).view.emb (ix2 y0 y1)) 1 = y1 := by
      apply Fin.ext
      show win0_9.index t 1 * 1024 + 1 * y1.val = y1.val
      rw [(ix_row9 t).2]; omega
    exact (congrArg (fun y1 : Fin 1024 => ∑ r : Fin 4096, DY m c r y1 * LnRow.nh cnt ε (X m c r) y1) e1).symm
  · have h0 : (i 0).val < 1 := (i 0).isLt
    have h1 : (i 1).val < 1024 := (i 1).isLt
    refine ⟨⟨7, by omega⟩, (flush0_9 _).mpr rfl, ?_⟩
    rw [View.set_slice_whole, Rect.mem_set_unit]
    intro a
    match a with
    | ⟨0, _⟩ =>
      have e := (ix_row9 ⟨7, by omega⟩).1
      show win0_9.index _ 0 * 1 ≤ (i 0).val ∧ (i 0).val < win0_9.index _ 0 * 1 + 1
      rw [e]; exact zero_cover ‹_›
    | ⟨1, _⟩ =>
      have e := (ix_row9 ⟨7, by omega⟩).2
      show win0_9.index _ 1 * 1024 ≤ (i 1).val ∧ (i 1).val < win0_9.index _ 1 * 1024 + 1024
      rw [e]; exact zero_cover ‹_›

/-- What result 3 holds. -/
def G10 : Vec Ideal S1x1024 .f32 := fun i => ∑ r : Fin 4096, DY m c r (i 1)

theorem arr10 : ((dats m 0 c).arrAt 10 cfg0.N : Vec Ideal S1x1024 .f32) = G10 m c := by
  have hN : cfg0.N = 8 := N_0
  have hN' : grid0.N = 8 := N_0
  refine (dats m 0 c).arrAt_eq_of_cover 10 (G10 m c) (fun t ht => ?_) (fun i => ?_)
  · have h7 : t.val = 7 := by
      have := (flush0_10 t).mp ht
      have := lt8 t
      omega
    rw [Value.flushed10]
    funext y
    idx_vars y
    refine (outs10 m c t.val t.isLt y0 y1).trans ?_
    rw [h7, sum_all (fun r => DY m c r y1), View.read_apply]
    show _ = G10 m c _
    unfold G10
    have e1 : (((cfg0.win 10).blk t).view.emb (ix2 y0 y1)) 1 = y1 := by
      apply Fin.ext
      show win0_10.index t 1 * 1024 + 1 * y1.val = y1.val
      rw [(ix_row10 t).2]; omega
    exact (congrArg (fun y1 : Fin 1024 => ∑ r : Fin 4096, DY m c r y1) e1).symm
  · have h0 : (i 0).val < 1 := (i 0).isLt
    have h1 : (i 1).val < 1024 := (i 1).isLt
    refine ⟨⟨7, by omega⟩, (flush0_10 _).mpr rfl, ?_⟩
    rw [View.set_slice_whole, Rect.mem_set_unit]
    intro a
    match a with
    | ⟨0, _⟩ =>
      have e := (ix_row10 ⟨7, by omega⟩).1
      show win0_10.index _ 0 * 1 ≤ (i 0).val ∧ (i 0).val < win0_10.index _ 0 * 1 + 1
      rw [e]; exact zero_cover ‹_›
    | ⟨1, _⟩ =>
      have e := (ix_row10 ⟨7, by omega⟩).2
      show win0_10.index _ 1 * 1024 ≤ (i 1).val ∧ (i 1).val < win0_10.index _ 1 * 1024 + 1024
      rw [e]; exact zero_cover ‹_›

section
open Cert.DxQkvRefIdeal.Read

variable [Cert.Pre_finite16.Facts]

variable (h : Cert.Pre_finite16.fn (F := Ideal) (A0 m c) (A1 m c) (A2 m c) (A3 m c) (A4 m c) (A5 m c) = fun _ => 1#1)
include h

theorem row_eq (r : Fin 4096) (j : Fin 1024) :
    LnRow.kGrad cnt ε (X m c r) (DN m c r) j = LnRow.rGrad cnt ε mhalf two (X m c r) (DN m c r) j := by
  obtain ⟨h0, h1, h2, h4, h5⟩ := finite_real _ _ _ _ _ _ h
  exact grad_row _ _ (fun l => dn_real _ _ _ _ _ h0 h1 h2 h4 h5 r l) j

theorem eq7 : (dats m 0 c).arrAt 7 cfg0.N = val_main_v67 (F := Ideal) (A0 m c) (A1 m c) (A2 m c) (A3 m c) (A4 m c) (A5 m c) := by
  refine (arr7 m c).trans ?_
  funext i
  idx_vars i
  rw [v67_apply]
  exact row_eq m c h i0 i1

theorem eq8 : (dats m 0 c).arrAt 8 cfg0.N = val_main_v68 (F := Ideal) (A0 m c) (A1 m c) (A2 m c) (A3 m c) (A4 m c) (A5 m c) := by
  refine (arr8 m c).trans ?_
  funext i
  idx_vars i
  rw [v68_apply]
  exact row_eq m c h i0 i1

omit h

theorem eq9 : (dats m 0 c).arrAt 9 cfg0.N = val_main_v41 (F := Ideal) (A0 m c) (A1 m c) (A2 m c) (A3 m c) (A5 m c) := by
  refine (arr9 m c).trans ?_
  funext i
  idx_vars i
  rw [v41_apply]
  rfl

theorem eq10 : (dats m 0 c).arrAt 10 cfg0.N = val_main_v38 (F := Ideal) (A0 m c) (A1 m c) (A2 m c) (A5 m c) := by
  refine (arr10 m c).trans ?_
  funext i
  idx_vars i
  rw [v38_apply]
  rfl

end

/-- The reference ends, keeps its arguments and declares no semaphore. -/
theorem quiet : Cert.quiescent_DxQkvRefIdeal := fun m ρ _ =>
  (θ_run Cert.DxQkvRefIdeal.defs _ _).mono (fun r h => ⟨fun c => (h c).2.2.2.2, sem_eq_zero_of_no_sems (by decide) r.2⟩)
    (Cert.DxQkvRefIdeal.Value.run (F := Ideal) m ρ)

open Cert.DxQkvRefIdeal.Read in
/-- The kernel and the reference leave the same four arrays. -/
theorem equal [Cert.Pre_finite16.Facts] : Cert.algebraic_DxQkvIdeal_DxQkvRefIdeal_pre_finite16 := by
  intro m g m' g' hpre hm
  refine ⟨fun c => val_main_v67 (F := Ideal) (A0 m c) (A1 m c) (A2 m c) (A3 m c) (A4 m c) (A5 m c),
    fun c => val_main_v68 (F := Ideal) (A0 m c) (A1 m c) (A2 m c) (A3 m c) (A4 m c) (A5 m c),
    fun c => val_main_v41 (F := Ideal) (A0 m c) (A1 m c) (A2 m c) (A3 m c) (A5 m c),
    fun c => val_main_v38 (F := Ideal) (A0 m c) (A1 m c) (A2 m c) (A5 m c), ?_, ?_⟩
  · refine (θ_run _ _ _).mono (fun r h c => ?_) (Cert.DxQkvIdeal.Value.run_blocks (F := Ideal) m g)
    obtain ⟨h7, h8, h9, h10, hargs⟩ := h c
    exact ⟨h7.trans (eq7 m c (hpre c)), h8.trans (eq8 m c (hpre c)), h9.trans (eq9 m c), h10.trans (eq10 m c), hargs⟩
  · refine (θ_run _ _ _).mono (fun r h c => ?_) (Cert.DxQkvRefIdeal.Value.run (F := Ideal) m' g')
    obtain ⟨h7, h8, h9, h10, hargs⟩ := h c
    obtain ⟨e0, e1, e2, e3, e4, e5⟩ := hm c
    refine ⟨h7.trans ?_, h8.trans ?_, h9.trans ?_, h10.trans ?_, hargs⟩
    · rw [val_main_v67_eq, e0, e1, e2, e3, e4, e5]
    · rw [val_main_v68_eq, e0, e1, e2, e3, e4, e5]
    · rw [e0, e1, e2, e3, e5]; exact val_main_v41_eq _ _ _ _ _
    · rw [e0, e1, e2, e5]; exact val_main_v38_eq _ _ _ _

end Cert.DxQkvP

end
-- ==== Proof.ProdOut.lean ====
/-
  Attention's output projection with the residual and the norm after it: every block of rows is the reference's rows,
  both the new residual stream and its normalised form.
-/
module

public import proofs.«01_k».proof.Proof.Gen.OutIdeal.Value
public import proofs.«01_k».proof.Proof.Gen.OutRefIdeal.Run
public import proofs.«01_k».proof.Proof.Gen.OutRefIdeal.Read
public import proofs.«01_k».proof.Proof.Gen.OutIdeal.Skeleton
public import proofs.«01_k».proof.Proof.Pay
public import proofs.«01_k».proof.Defs
public import Idealize.ShloMosaic.Lib.Tactic
public import Idealize.ShloMosaic.Lib.Pointwise
public import Idealize.ShloMosaic.Lib.StableHlo.ReadAt
public import Idealize.ShloMosaic.Lib.Pipeline.Value
public import Idealize.ShloMosaic.Lib.Claim

@[expose] public section

set_option maxRecDepth 16384

noncomputable section

namespace Cert.OutP

open Idealize.ShloMosaic Idealize.ShloMosaic.TcCoe Idealize.SL.Sem
open Cert.OutIdeal Cert.OutIdeal.Gen
open Idealize.ShloMosaic.Pipeline (Dat)

open Cert.DxLn (α ε cnt)

/-- A row of the residual stream after a call: the scaled normalised row before it, and the product's row `s`. -/
def zr (x g b s : Fin 1024 → EReal) (j : Fin 1024) : EReal := α * (LnRow.nh cnt ε x j * g j + b j) + s j

theorem hz : (![0, 0] : Fin 2 → Nat) = fun _ => 0 := funext fun a => by fin_cases a <;> rfl

section block

variable (x0 : Vec Ideal S512x1024 .bf16) (x1 : Vec Ideal S1024x1024 .bf16) (x2 : Vec Ideal S512x1024 .f32) (x3 x4 x5 x6 : Vec Ideal S1x1024 .f32) (r : Fin 512)

/-- A row of the block's new residual stream. -/
abbrev zb : Fin 1024 → EReal :=
  zr (fun l => x2 (ix2 r l)) (fun l => x5 (ix2 0 l)) (fun l => x6 (ix2 0 l)) (fun l => ∑ k : Fin 1024, x0 (ix2 r k) * x1 (ix2 k l))

theorem pay2_apply (j : Fin 1024) : k0_pay2 (F := Ideal) x2 x5 x6 x0 x1 (ix2 r j) = zb x0 x1 x2 x5 x6 r j := by
  pointwise [k0_pay2, zr, LnRow.nh, LnRow.cen, LnRow.mean, LnRow.rs, LnRow.varE]

theorem pay3_apply (j : Fin 1024) : k0_pay3 (F := Ideal) x2 x5 x6 x0 x1 (ix2 r j) = LnRow.cen cnt (zb x0 x1 x2 x5 x6 r) j := by
  pointwise [k0_pay3, pay2_apply, LnRow.cen, LnRow.mean]

theorem pay4_apply (q : Fin 1) : k0_pay4 (F := Ideal) x2 x5 x6 x0 x1 (ix2 r q)
    = ∑ l, LnRow.cen cnt (zb x0 x1 x2 x5 x6 r) l * LnRow.cen cnt (zb x0 x1 x2 x5 x6 r) l := by
  pointwise [k0_pay4, pay3_apply]

theorem pay1_apply (v : Vec Ideal S512x1024 .f32) (w : Vec Ideal S512x1 .f32) (j : Fin 1024) :
    k0_pay1 (F := Ideal) v w x3 x4 (ix2 r j) = v (ix2 r j) * Ideal.rsqrt (Ideal.div (w (ix2 r 0)) cnt + ε) * x3 (ix2 0 j) + x4 (ix2 0 j) := by
  pointwise [k0_pay1]

theorem out7_apply (j : Fin 1024) : out0_7 (F := Ideal) x0 x1 x2 x3 x4 x5 x6 (ix2 r j) = zb x0 x1 x2 x5 x6 r j := by
  unfold out0_7
  rw [View.canon_unit_zero hz]
  simp only [View.ld_unit_zero (S := S512x1024) hz, View.ld_unit_zero (S := S1024x1024) hz, View.ld_unit_zero (S := S512x1024) hz, View.ld_unit_zero (S := S1x1024) hz]
  exact pay2_apply x0 x1 x2 x5 x6 r j

theorem out8_apply (j : Fin 1024) : out0_8 (F := Ideal) x0 x1 x2 x3 x4 x5 x6 (ix2 r j)
    = LnRow.nh cnt ε (zb x0 x1 x2 x5 x6 r) j * x3 (ix2 0 j) + x4 (ix2 0 j) := by
  unfold out0_8
  rw [View.canon_unit_zero hz]
  simp only [View.ld_unit_zero (S := S512x1024) hz, View.ld_unit_zero (S := S1024x1024) hz, View.ld_unit_zero (S := S512x1024) hz, View.ld_unit_zero (S := S1x1024) hz]
  rw [pay1_apply, pay3_apply, pay4_apply]
  rfl

end block

section ref

open Cert.OutRefIdeal.Read

variable (x0 : Vec Ideal S4096x1024 .bf16) (x1 : Vec Ideal S1024x1024 .f32) (x2 : Vec Ideal S4096x1024 .f32) (x3 x4 x5 x6 : Vec Ideal S1x1024 .f32) (r : Fin 4096)

/-- A row of the reference's new residual stream. -/
abbrev zs : Fin 1024 → EReal :=
  zr (fun l => x2 (ix2 r l)) (fun l => x5 (ix2 0 l)) (fun l => x6 (ix2 0 l)) (fun l => ∑ k : Fin 1024, x0 (ix2 r k) * x1 (ix2 k l))

theorem v5_apply (j : Fin 1024) : val_main_v5 (F := Ideal) x2 (ix2 r j) = LnRow.cen cnt (fun l => x2 (ix2 r l)) j := by
  pointwise [val_main_v5, val_main_v4, val_main_v3, val_main_v2, val_main_v1, val_main_v0, val_main_cst, val_main_cst_0, LnRow.cen, LnRow.mean]

theorem v12_apply (j : Fin 1024) : val_main_v12 (F := Ideal) x2 (ix2 r j) = LnRow.cen cnt (fun l => x2 (ix2 r l)) j := by
  pointwise [val_main_v12, val_main_v11, val_main_v3, val_main_v2, val_main_v1, val_main_v0, val_main_cst, val_main_cst_0, LnRow.cen, LnRow.mean]

theorem v15_apply (q : Fin 1) : val_main_v15 (F := Ideal) x2 (ix2 r q) = LnRow.rs cnt ε (fun l => x2 (ix2 r l)) := by
  pointwise [val_main_v15, val_main_v14, val_main_v13, val_main_v10, val_main_v9, val_main_v8, val_main_v7, val_main_v6, v5_apply,
    val_main_cst_1, val_main_cst_2, val_main_cst_3, LnRow.rs, LnRow.varE, LnRow.mean]

theorem v26_apply (j : Fin 1024) : val_main_v26 (F := Ideal) x0 x1 x2 x5 x6 (ix2 r j) = zs x0 x1 x2 x5 x6 r j := by
  pointwise [val_main_v26, val_main_v25, val_main_v24, val_main_v23, val_main_v22, val_main_cst_4, val_main_v21, val_main_v20, val_main_v19,
    val_main_v18, val_main_v17, val_main_v16, v15_apply, v12_apply, zr, LnRow.nh]

theorem v32_apply (j : Fin 1024) : val_main_v32 (F := Ideal) x0 x1 x2 x5 x6 (ix2 r j) = LnRow.cen cnt (zs x0 x1 x2 x5 x6 r) j := by
  pointwise [val_main_v32, val_main_v31, val_main_v30, val_main_v29, val_main_v28, val_main_v27, v26_apply, val_main_cst_5, val_main_cst_6, LnRow.cen, LnRow.mean]

theorem v39_apply (j : Fin 1024) : val_main_v39 (F := Ideal) x0 x1 x2 x5 x6 (ix2 r j) = LnRow.cen cnt (zs x0 x1 x2 x5 x6 r) j := by
  pointwise [val_main_v39, val_main_v38, val_main_v30, val_main_v29, val_main_v28, val_main_v27, v26_apply, val_main_cst_5, val_main_cst_6, LnRow.cen, LnRow.mean]

theorem v42_apply (q : Fin 1) : val_main_v42 (F := Ideal) x0 x1 x2 x5 x6 (ix2 r q) = LnRow.rs cnt ε (zs x0 x1 x2 x5 x6 r) := by
  pointwise [val_main_v42, val_main_v41, val_main_v40, val_main_v37, val_main_v36, val_main_v35, val_main_v34, val_main_v33, v32_apply,
    val_main_cst_7, val_main_cst_8, val_main_cst_9, LnRow.rs, LnRow.varE, LnRow.mean]

theorem v49_apply (j : Fin 1024) : val_main_v49 (F := Ideal) x0 x1 x2 x3 x4 x5 x6 (ix2 r j)
    = LnRow.nh cnt ε (zs x0 x1 x2 x5 x6 r) j * x3 (ix2 0 j) + x4 (ix2 0 j) := by
  pointwise [val_main_v49, val_main_v48, val_main_v47, val_main_v46, val_main_v45, val_main_v44, val_main_v43, v42_apply, v39_apply, LnRow.nh]

end ref

variable (m : (ℓ : Loc nD τ sig) → Buf (Elt Ideal) ℓ) (c : Dev nD)

/-- The arguments, as launched. -/
abbrev A0 : Vec Ideal S4096x1024 .bf16 := m ((c : Thread nD τ).loc main_arg0)
abbrev A1 : Vec Ideal S1024x1024 .f32 := m ((c : Thread nD τ).loc main_arg1)
abbrev A2 : Vec Ideal S4096x1024 .f32 := m ((c : Thread nD τ).loc main_arg2)
abbrev A3 : Vec Ideal S1x1024 .f32 := m ((c : Thread nD τ).loc main_arg3)
abbrev A4 : Vec Ideal S1x1024 .f32 := m ((c : Thread nD τ).loc main_arg4)
abbrev A5 : Vec Ideal S1x1024 .f32 := m ((c : Thread nD τ).loc main_arg5)
abbrev A6 : Vec Ideal S1x1024 .f32 := m ((c : Thread nD τ).loc main_arg6)

theorem jx0 : ∀ t : Fin grid0.N, win0_0.index t 0 = t.val ∧ win0_0.index t 1 = 0 := by decide +kernel
theorem jx1 : ∀ t : Fin grid0.N, win0_1.index t 0 = 0 ∧ win0_1.index t 1 = 0 := by decide +kernel
theorem jx2 : ∀ t : Fin grid0.N, win0_2.index t 0 = t.val ∧ win0_2.index t 1 = 0 := by decide +kernel
theorem jx3 : ∀ t : Fin grid0.N, win0_3.index t 0 = 0 ∧ win0_3.index t 1 = 0 := by decide +kernel
theorem jx4 : ∀ t : Fin grid0.N, win0_4.index t 0 = 0 ∧ win0_4.index t 1 = 0 := by decide +kernel
theorem jx5 : ∀ t : Fin grid0.N, win0_5.index t 0 = 0 ∧ win0_5.index t 1 = 0 := by decide +kernel
theorem jx6 : ∀ t : Fin grid0.N, win0_6.index t 0 = 0 ∧ win0_6.index t 1 = 0 := by decide +kernel
theorem jx7 : ∀ t : Fin grid0.N, win0_7.index t 0 = t.val ∧ win0_7.index t 1 = 0 := by decide +kernel
theorem jx8 : ∀ t : Fin grid0.N, win0_8.index t 0 = t.val ∧ win0_8.index t 1 = 0 := by decide +kernel
theorem flo7 : ∀ t : Fin grid0.N, (cfg0.win 7).flush t = true := by decide +kernel
theorem flo8 : ∀ t : Fin grid0.N, (cfg0.win 8).flush t = true := by decide +kernel

theorem ltN (t : Fin cfg0.N) : t.val < 8 := by have : cfg0.N = 8 := N_0; have := t.isLt; omega

/-- Row `r` of block `t`. -/
abbrev row (t : Fin cfg0.N) (r : Fin 512) : Fin 4096 := ⟨512 * t.val + r.val, by have := ltN t; omega⟩

theorem iblk0 (t : Fin cfg0.N) (r : Fin 512) (k : Fin 1024) : (iblk m c 0 t : Vec Ideal S512x1024 .bf16) (ix2 r k) = A0 m c (ix2 (row t r) k) := by
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = 512 * t.val + r.val; rw [(jx0 t).1]; omega
  | ⟨1, _⟩ => show win0_0.index t 1 * 1024 + 1 * k.val = k.val; rw [(jx0 t).2]; omega

theorem iblk2 (t : Fin cfg0.N) (r : Fin 512) (k : Fin 1024) : (iblk m c 2 t : Vec Ideal S512x1024 .f32) (ix2 r k) = A2 m c (ix2 (row t r) k) := by
  unfold iblk
  rw [View.read_apply]
  show V m c main_arg2 _ = m (c.tc.loc main_arg2) _
  rw [V_main_arg2]
  congr 1
  funext a
  apply Fin.ext
  match a with
  | ⟨0, _⟩ => show win0_2.index t 0 * 512 + 1 * r.val = 512 * t.val + r.val; rw [(jx2 t).1]; omega
  | ⟨1, _⟩ => show win0_2.index t 1 * 1024 + 1 * k.val = k.val; rw [(jx2 t).2]; omega

/-- The weight as the launch finds it. -/
theorem V_w (k : Fin 1024) (j : Fin 1024) : (V m c main_v0 : Vec Ideal S1024x1024 .bf16) (ix2 k j) = A1 m c (ix2 k j) := by
  unfold V
  after_reads_at

theorem iblk1 (t : Fin cfg0.N) (k : Fin 1024) (j : Fin 1024) : (iblk m c 1 t : Vec Ideal S1024x1024 .bf16) (ix2 k j) = A1 m c (ix2 k j) := by
  refine Eq.trans ?_ (V_w m c k j)
  unfold iblk
  rw [View.read_apply]
  show V m c main_v0 _ = V m c main_v0 _
  congr 1
  funext a
  apply Fin.ext
  match a with
  | ⟨0, _⟩ => show win0_1.index t 0 * 1024 + 1 * k.val = k.val; rw [(jx1 t).1]; omega
  | ⟨1, _⟩ => show win0_1.index t 1 * 1024 + 1 * j.val = j.val; rw [(jx1 t).2]; omega

theorem iblk3 (t : Fin cfg0.N) (q : Fin 1) (k : Fin 1024) : (iblk m c 3 t : Vec Ideal S1x1024 .f32) (ix2 q k) = A3 m c (ix2 q k) := by
  unfold iblk
  rw [View.read_apply]
  show V m c main_arg3 _ = m (c.tc.loc main_arg3) _
  rw [V_main_arg3]
  congr 1
  funext a
  apply Fin.ext
  match a with
  | ⟨0, _⟩ => show win0_3.index t 0 * 1 + 1 * q.val = q.val; rw [(jx3 t).1]; omega
  | ⟨1, _⟩ => show win0_3.index t 1 * 1024 + 1 * k.val = k.val; rw [(jx3 t).2]; omega

theorem iblk4 (t : Fin cfg0.N) (q : Fin 1) (k : Fin 1024) : (iblk m c 4 t : Vec Ideal S1x1024 .f32) (ix2 q k) = A4 m c (ix2 q k) := by
  unfold iblk
  rw [View.read_apply]
  show V m c main_arg4 _ = m (c.tc.loc main_arg4) _
  rw [V_main_arg4]
  congr 1
  funext a
  apply Fin.ext
  match a with
  | ⟨0, _⟩ => show win0_4.index t 0 * 1 + 1 * q.val = q.val; rw [(jx4 t).1]; omega
  | ⟨1, _⟩ => show win0_4.index t 1 * 1024 + 1 * k.val = k.val; rw [(jx4 t).2]; omega

theorem iblk5 (t : Fin cfg0.N) (q : Fin 1) (k : Fin 1024) : (iblk m c 5 t : Vec Ideal S1x1024 .f32) (ix2 q k) = A5 m c (ix2 q k) := by
  unfold iblk
  rw [View.read_apply]
  show V m c main_arg5 _ = m (c.tc.loc main_arg5) _
  rw [V_main_arg5]
  congr 1
  funext a
  apply Fin.ext
  match a with
  | ⟨0, _⟩ => show win0_5.index t 0 * 1 + 1 * q.val = q.val; rw [(jx5 t).1]; omega
  | ⟨1, _⟩ => show win0_5.index t 1 * 1024 + 1 * k.val = k.val; rw [(jx5 t).2]; omega

theorem iblk6 (t : Fin cfg0.N) (q : Fin 1) (k : Fin 1024) : (iblk m c 6 t : Vec Ideal S1x1024 .f32) (ix2 q k) = A6 m c (ix2 q k) := by
  unfold iblk
  rw [View.read_apply]
  show V m c main_arg6 _ = m (c.tc.loc main_arg6) _
  rw [V_main_arg6]
  congr 1
  funext a
  apply Fin.ext
  match a with
  | ⟨0, _⟩ => show win0_6.index t 0 * 1 + 1 * q.val = q.val; rw [(jx6 t).1]; omega
  | ⟨1, _⟩ => show win0_6.index t 1 * 1024 + 1 * k.val = k.val; rw [(jx6 t).2]; omega

theorem zb_blk (t : Fin cfg0.N) (r : Fin 512) : zb (iblk m c 0 t) (iblk m c 1 t) (iblk m c 2 t) (iblk m c 5 t) (iblk m c 6 t) r = zs (A0 m c) (A1 m c) (A2 m c) (A5 m c) (A6 m c) (row t r) := by
  unfold zb zs
  simp only [iblk0, iblk1, iblk2, iblk5, iblk6]

/-- The whole result in window 7: the reference's. -/
abbrev G7 : Vec Ideal S4096x1024 .f32 := Cert.OutRefIdeal.Read.val_main_v26 (F := Ideal) (A0 m c) (A1 m c) (A2 m c) (A5 m c) (A6 m c)

theorem arr7 : ((dats m 0 c).arrAt 7 cfg0.N : Vec Ideal S4096x1024 .f32) = G7 m c := by
  refine (dats m 0 c).arrAt_eq_of_cover 7 (G7 m c) (fun t _ => ?_) (fun i => ?_)
  · rw [Value.flushed7]
    funext y
    idx_vars y
    refine (out7_apply (iblk m c 0 t) (iblk m c 1 t) (iblk m c 2 t) (iblk m c 3 t) (iblk m c 4 t) (iblk m c 5 t) (iblk m c 6 t) y0 y1).trans ?_
    rw [zb_blk]
    rw [View.read_apply]
    show _ = G7 m c _
    have e : ((cfg0.win 7).blk t).view.emb (ix2 y0 y1) = (ix2 (row t y0) y1 : S4096x1024.Idx) := by
      funext a
      apply Fin.ext
      match a with
      | ⟨0, _⟩ => show win0_7.index t 0 * 512 + 1 * y0.val = 512 * t.val + y0.val; rw [(jx7 t).1]; omega
      | ⟨1, _⟩ => show win0_7.index t 1 * 1024 + 1 * y1.val = y1.val; rw [(jx7 t).2]; omega
    exact (v26_apply (A0 m c) (A1 m c) (A2 m c) (A5 m c) (A6 m c) (row t y0) y1).symm.trans (congrArg (G7 m c) e.symm)
  · have h0 : (i 0).val < 4096 := (i 0).isLt
    have h1 : (i 1).val < 1024 := (i 1).isLt
    have hN : cfg0.N = 8 := N_0
    have hN' : grid0.N = 8 := N_0
    refine ⟨⟨(i 0).val / 512, by omega⟩, flo7 _, ?_⟩
    rw [View.set_slice_whole, Rect.mem_set_unit]
    intro a
    match a with
    | ⟨0, _⟩ =>
      have e := (jx7 ⟨(i 0).val / 512, by omega⟩).1
      show win0_7.index _ 0 * 512 ≤ (i 0).val ∧ (i 0).val < win0_7.index _ 0 * 512 + 512
      rw [e]
      dsimp only
      omega
    | ⟨1, _⟩ =>
      have e := (jx7 ⟨(i 0).val / 512, by omega⟩).2
      show win0_7.index _ 1 * 1024 ≤ (i 1).val ∧ (i 1).val < win0_7.index _ 1 * 1024 + 1024
      rw [e]
      omega

/-- The whole result in window 8: the reference's. -/
abbrev G8 : Vec Ideal S4096x1024 .bf16 := Cert.OutRefIdeal.Read.val_main_v49 (F := Ideal) (A0 m c) (A1 m c) (A2 m c) (A3 m c) (A4 m c) (A5 m c) (A6 m c)

theorem arr8 : ((dats m 0 c).arrAt 8 cfg0.N : Vec Ideal S4096x1024 .bf16) = G8 m c := by
  refine (dats m 0 c).arrAt_eq_of_cover 8 (G8 m c) (fun t _ => ?_) (fun i => ?_)
  · rw [Value.flushed8]
    funext y
    idx_vars y
    refine (out8_apply (iblk m c 0 t) (iblk m c 1 t) (iblk m c 2 t) (iblk m c 3 t) (iblk m c 4 t) (iblk m c 5 t) (iblk m c 6 t) y0 y1).trans ?_
    rw [zb_blk, iblk3, iblk4]
    rw [View.read_apply]
    show _ = G8 m c _
    have e : ((cfg0.win 8).blk t).view.emb (ix2 y0 y1) = (ix2 (row t y0) y1 : S4096x1024.Idx) := by
      funext a
      apply Fin.ext
      match a with
      | ⟨0, _⟩ => show win0_8.index t 0 * 512 + 1 * y0.val = 512 * t.val + y0.val; rw [(jx8 t).1]; omega
      | ⟨1, _⟩ => show win0_8.index t 1 * 1024 + 1 * y1.val = y1.val; rw [(jx8 t).2]; omega
    exact (v49_apply (A0 m c) (A1 m c) (A2 m c) (A3 m c) (A4 m c) (A5 m c) (A6 m c) (row t y0) y1).symm.trans (congrArg (G8 m c) e.symm)
  · have h0 : (i 0).val < 4096 := (i 0).isLt
    have h1 : (i 1).val < 1024 := (i 1).isLt
    have hN : cfg0.N = 8 := N_0
    have hN' : grid0.N = 8 := N_0
    refine ⟨⟨(i 0).val / 512, by omega⟩, flo8 _, ?_⟩
    rw [View.set_slice_whole, Rect.mem_set_unit]
    intro a
    match a with
    | ⟨0, _⟩ =>
      have e := (jx8 ⟨(i 0).val / 512, by omega⟩).1
      show win0_8.index _ 0 * 512 ≤ (i 0).val ∧ (i 0).val < win0_8.index _ 0 * 512 + 512
      rw [e]
      dsimp only
      omega
    | ⟨1, _⟩ =>
      have e := (jx8 ⟨(i 0).val / 512, by omega⟩).2
      show win0_8.index _ 1 * 1024 ≤ (i 1).val ∧ (i 1).val < win0_8.index _ 1 * 1024 + 1024
      rw [e]
      omega

/-- The call's reference ends, keeps its arguments and declares no semaphore. -/
theorem quiet : Cert.quiescent_OutRefIdeal := fun m ρ _ =>
  (θ_run Cert.OutRefIdeal.defs _ _).mono (fun r h => ⟨fun c => (h c).2.2, sem_eq_zero_of_no_sems (by decide) r.2⟩)
    (Cert.OutRefIdeal.Value.run (F := Ideal) m ρ)

theorem equal : Cert.algebraic_OutIdeal_OutRefIdeal := by
  intro m g m' g' _ hm
  refine ⟨fun c => G7 m c, fun c => G8 m c, ?_, ?_⟩
  · exact (θ_run _ _ _).mono (fun r h c => ⟨(h c).1.trans (arr7 m c), (h c).2.1.trans (arr8 m c), (h c).2.2⟩) (Cert.OutIdeal.Value.run_blocks (F := Ideal) m g)
  · refine (θ_run _ _ _).mono (fun r h c => ?_) (Cert.OutRefIdeal.Value.run (F := Ideal) m' g')
    obtain ⟨h7, h8, hargs⟩ := h c
    obtain ⟨e0, e1, e2, e3, e4, e5, e6⟩ := hm c
    refine ⟨h7.trans ?_, h8.trans ?_, hargs⟩
    · rw [e0, e1, e2, e5, e6]
      exact Cert.OutRefIdeal.Read.val_main_v26_eq _ _ _ _ _
    · rw [Cert.OutRefIdeal.Read.val_main_v49_eq, e0, e1, e2, e3, e4, e5, e6]

end Cert.OutP

end
-- ==== Proof.ProdDown.lean ====
/-
  The feed-forward's down projection with the residual and the norm after it: every block of rows is the reference's
  rows, both the new residual stream and its normalised form.
-/
module

public import proofs.«01_k».proof.Proof.Gen.DownIdeal.Value
public import proofs.«01_k».proof.Proof.Gen.DownRefIdeal.Run
public import proofs.«01_k».proof.Proof.Gen.DownRefIdeal.Read
public import proofs.«01_k».proof.Proof.Gen.DownIdeal.Skeleton
public import proofs.«01_k».proof.Proof.Pay
public import proofs.«01_k».proof.Defs
public import Idealize.ShloMosaic.Lib.Tactic
public import Idealize.ShloMosaic.Lib.Pointwise
public import Idealize.ShloMosaic.Lib.StableHlo.ReadAt
public import Idealize.ShloMosaic.Lib.Pipeline.Value
public import Idealize.ShloMosaic.Lib.Claim

@[expose] public section

set_option maxRecDepth 16384

noncomputable section

namespace Cert.DownP

open Idealize.ShloMosaic Idealize.ShloMosaic.TcCoe Idealize.SL.Sem
open Cert.DownIdeal Cert.DownIdeal.Gen
open Idealize.ShloMosaic.Pipeline (Dat)

open Cert.DxLn (α ε cnt)

/-- A row of the residual stream after a call: the scaled normalised row before it, and the product's row `s`. -/
def zr (x g b s : Fin 1024 → EReal) (j : Fin 1024) : EReal := α * (LnRow.nh cnt ε x j * g j + b j) + s j

theorem hz : (![0, 0] : Fin 2 → Nat) = fun _ => 0 := funext fun a => by fin_cases a <;> rfl

section block

variable (x0 : Vec Ideal S512x2816 .bf16) (x1 : Vec Ideal S2816x1024 .bf16) (x2 : Vec Ideal S512x1024 .f32) (x3 x4 x5 x6 : Vec Ideal S1x1024 .f32) (r : Fin 512)

/-- A row of the block's new residual stream. -/
abbrev zb : Fin 1024 → EReal :=
  zr (fun l => x2 (ix2 r l)) (fun l => x5 (ix2 0 l)) (fun l => x6 (ix2 0 l)) (fun l => ∑ k : Fin 2816, x0 (ix2 r k) * x1 (ix2 k l))

theorem pay2_apply (j : Fin 1024) : k0_pay2 (F := Ideal) x2 x5 x6 x0 x1 (ix2 r j) = zb x0 x1 x2 x5 x6 r j := by
  pointwise [k0_pay2, zr, LnRow.nh, LnRow.cen, LnRow.mean, LnRow.rs, LnRow.varE]

theorem pay3_apply (j : Fin 1024) : k0_pay3 (F := Ideal) x2 x5 x6 x0 x1 (ix2 r j) = LnRow.cen cnt (zb x0 x1 x2 x5 x6 r) j := by
  pointwise [k0_pay3, pay2_apply, LnRow.cen, LnRow.mean]

theorem pay4_apply (q : Fin 1) : k0_pay4 (F := Ideal) x2 x5 x6 x0 x1 (ix2 r q)
    = ∑ l, LnRow.cen cnt (zb x0 x1 x2 x5 x6 r) l * LnRow.cen cnt (zb x0 x1 x2 x5 x6 r) l := by
  pointwise [k0_pay4, pay3_apply]

theorem pay1_apply (v : Vec Ideal S512x1024 .f32) (w : Vec Ideal S512x1 .f32) (j : Fin 1024) :
    k0_pay1 (F := Ideal) v w x3 x4 (ix2 r j) = v (ix2 r j) * Ideal.rsqrt (Ideal.div (w (ix2 r 0)) cnt + ε) * x3 (ix2 0 j) + x4 (ix2 0 j) := by
  pointwise [k0_pay1]

theorem out7_apply (j : Fin 1024) : out0_7 (F := Ideal) x0 x1 x2 x3 x4 x5 x6 (ix2 r j) = zb x0 x1 x2 x5 x6 r j := by
  unfold out0_7
  rw [View.canon_unit_zero hz]
  simp only [View.ld_unit_zero (S := S512x2816) hz, View.ld_unit_zero (S := S2816x1024) hz, View.ld_unit_zero (S := S512x1024) hz, View.ld_unit_zero (S := S1x1024) hz]
  exact pay2_apply x0 x1 x2 x5 x6 r j

theorem out8_apply (j : Fin 1024) : out0_8 (F := Ideal) x0 x1 x2 x3 x4 x5 x6 (ix2 r j)
    = LnRow.nh cnt ε (zb x0 x1 x2 x5 x6 r) j * x3 (ix2 0 j) + x4 (ix2 0 j) := by
  unfold out0_8
  rw [View.canon_unit_zero hz]
  simp only [View.ld_unit_zero (S := S512x2816) hz, View.ld_unit_zero (S := S2816x1024) hz, View.ld_unit_zero (S := S512x1024) hz, View.ld_unit_zero (S := S1x1024) hz]
  rw [pay1_apply, pay3_apply, pay4_apply]
  rfl

end block

section ref

open Cert.DownRefIdeal.Read

variable (x0 : Vec Ideal S4096x2816 .bf16) (x1 : Vec Ideal S2816x1024 .f32) (x2 : Vec Ideal S4096x1024 .f32) (x3 x4 x5 x6 : Vec Ideal S1x1024 .f32) (r : Fin 4096)

/-- A row of the reference's new residual stream. -/
abbrev zs : Fin 1024 → EReal :=
  zr (fun l => x2 (ix2 r l)) (fun l => x5 (ix2 0 l)) (fun l => x6 (ix2 0 l)) (fun l => ∑ k : Fin 2816, x0 (ix2 r k) * x1 (ix2 k l))

theorem v5_apply (j : Fin 1024) : val_main_v5 (F := Ideal) x2 (ix2 r j) = LnRow.cen cnt (fun l => x2 (ix2 r l)) j := by
  pointwise [val_main_v5, val_main_v4, val_main_v3, val_main_v2, val_main_v1, val_main_v0, val_main_cst, val_main_cst_0, LnRow.cen, LnRow.mean]

theorem v12_apply (j : Fin 1024) : val_main_v12 (F := Ideal) x2 (ix2 r j) = LnRow.cen cnt (fun l => x2 (ix2 r l)) j := by
  pointwise [val_main_v12, val_main_v11, val_main_v3, val_main_v2, val_main_v1, val_main_v0, val_main_cst, val_main_cst_0, LnRow.cen, LnRow.mean]

theorem v15_apply (q : Fin 1) : val_main_v15 (F := Ideal) x2 (ix2 r q) = LnRow.rs cnt ε (fun l => x2 (ix2 r l)) := by
  pointwise [val_main_v15, val_main_v14, val_main_v13, val_main_v10, val_main_v9, val_main_v8, val_main_v7, val_main_v6, v5_apply,
    val_main_cst_1, val_main_cst_2, val_main_cst_3, LnRow.rs, LnRow.varE, LnRow.mean]

theorem v26_apply (j : Fin 1024) : val_main_v26 (F := Ideal) x0 x1 x2 x5 x6 (ix2 r j) = zs x0 x1 x2 x5 x6 r j := by
  pointwise [val_main_v26, val_main_v25, val_main_v24, val_main_v23, val_main_v22, val_main_cst_4, val_main_v21, val_main_v20, val_main_v19,
    val_main_v18, val_main_v17, val_main_v16, v15_apply, v12_apply, zr, LnRow.nh]

theorem v32_apply (j : Fin 1024) : val_main_v32 (F := Ideal) x0 x1 x2 x5 x6 (ix2 r j) = LnRow.cen cnt (zs x0 x1 x2 x5 x6 r) j := by
  pointwise [val_main_v32, val_main_v31, val_main_v30, val_main_v29, val_main_v28, val_main_v27, v26_apply, val_main_cst_5, val_main_cst_6, LnRow.cen, LnRow.mean]

theorem v39_apply (j : Fin 1024) : val_main_v39 (F := Ideal) x0 x1 x2 x5 x6 (ix2 r j) = LnRow.cen cnt (zs x0 x1 x2 x5 x6 r) j := by
  pointwise [val_main_v39, val_main_v38, val_main_v30, val_main_v29, val_main_v28, val_main_v27, v26_apply, val_main_cst_5, val_main_cst_6, LnRow.cen, LnRow.mean]

theorem v42_apply (q : Fin 1) : val_main_v42 (F := Ideal) x0 x1 x2 x5 x6 (ix2 r q) = LnRow.rs cnt ε (zs x0 x1 x2 x5 x6 r) := by
  pointwise [val_main_v42, val_main_v41, val_main_v40, val_main_v37, val_main_v36, val_main_v35, val_main_v34, val_main_v33, v32_apply,
    val_main_cst_7, val_main_cst_8, val_main_cst_9, LnRow.rs, LnRow.varE, LnRow.mean]

theorem v49_apply (j : Fin 1024) : val_main_v49 (F := Ideal) x0 x1 x2 x3 x4 x5 x6 (ix2 r j)
    = LnRow.nh cnt ε (zs x0 x1 x2 x5 x6 r) j * x3 (ix2 0 j) + x4 (ix2 0 j) := by
  pointwise [val_main_v49, val_main_v48, val_main_v47, val_main_v46, val_main_v45, val_main_v44, val_main_v43, v42_apply, v39_apply, LnRow.nh]

end ref

variable (m : (ℓ : Loc nD τ sig) → Buf (Elt Ideal) ℓ) (c : Dev nD)

/-- The arguments, as launched. -/
abbrev A0 : Vec Ideal S4096x2816 .bf16 := m ((c : Thread nD τ).loc main_arg0)
abbrev A1 : Vec Ideal S2816x1024 .f32 := m ((c : Thread nD τ).loc main_arg1)
abbrev A2 : Vec Ideal S4096x1024 .f32 := m ((c : Thread nD τ).loc main_arg2)
abbrev A3 : Vec Ideal S1x1024 .f32 := m ((c : Thread nD τ).loc main_arg3)
abbrev A4 : Vec Ideal S1x1024 .f32 := m ((c : Thread nD τ).loc main_arg4)
abbrev A5 : Vec Ideal S1x1024 .f32 := m ((c : Thread nD τ).loc main_arg5)
abbrev A6 : Vec Ideal S1x1024 .f32 := m ((c : Thread nD τ).loc main_arg6)

theorem jx0 : ∀ t : Fin grid0.N, win0_0.index t 0 = t.val ∧ win0_0.index t 1 = 0 := by decide +kernel
theorem jx1 : ∀ t : Fin grid0.N, win0_1.index t 0 = 0 ∧ win0_1.index t 1 = 0 := by decide +kernel
theorem jx2 : ∀ t : Fin grid0.N, win0_2.index t 0 = t.val ∧ win0_2.index t 1 = 0 := by decide +kernel
theorem jx3 : ∀ t : Fin grid0.N, win0_3.index t 0 = 0 ∧ win0_3.index t 1 = 0 := by decide +kernel
theorem jx4 : ∀ t : Fin grid0.N, win0_4.index t 0 = 0 ∧ win0_4.index t 1 = 0 := by decide +kernel
theorem jx5 : ∀ t : Fin grid0.N, win0_5.index t 0 = 0 ∧ win0_5.index t 1 = 0 := by decide +kernel
theorem jx6 : ∀ t : Fin grid0.N, win0_6.index t 0 = 0 ∧ win0_6.index t 1 = 0 := by decide +kernel
theorem jx7 : ∀ t : Fin grid0.N, win0_7.index t 0 = t.val ∧ win0_7.index t 1 = 0 := by decide +kernel
theorem jx8 : ∀ t : Fin grid0.N, win0_8.index t 0 = t.val ∧ win0_8.index t 1 = 0 := by decide +kernel
theorem flo7 : ∀ t : Fin grid0.N, (cfg0.win 7).flush t = true := by decide +kernel
theorem flo8 : ∀ t : Fin grid0.N, (cfg0.win 8).flush t = true := by decide +kernel

theorem ltN (t : Fin cfg0.N) : t.val < 8 := by have : cfg0.N = 8 := N_0; have := t.isLt; omega

/-- Row `r` of block `t`. -/
abbrev row (t : Fin cfg0.N) (r : Fin 512) : Fin 4096 := ⟨512 * t.val + r.val, by have := ltN t; omega⟩

theorem iblk0 (t : Fin cfg0.N) (r : Fin 512) (k : Fin 2816) : (iblk m c 0 t : Vec Ideal S512x2816 .bf16) (ix2 r k) = A0 m c (ix2 (row t r) k) := by
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = 512 * t.val + r.val; rw [(jx0 t).1]; omega
  | ⟨1, _⟩ => show win0_0.index t 1 * 2816 + 1 * k.val = k.val; rw [(jx0 t).2]; omega

theorem iblk2 (t : Fin cfg0.N) (r : Fin 512) (k : Fin 1024) : (iblk m c 2 t : Vec Ideal S512x1024 .f32) (ix2 r k) = A2 m c (ix2 (row t r) k) := by
  unfold iblk
  rw [View.read_apply]
  show V m c main_arg2 _ = m (c.tc.loc main_arg2) _
  rw [V_main_arg2]
  congr 1
  funext a
  apply Fin.ext
  match a with
  | ⟨0, _⟩ => show win0_2.index t 0 * 512 + 1 * r.val = 512 * t.val + r.val; rw [(jx2 t).1]; omega
  | ⟨1, _⟩ => show win0_2.index t 1 * 1024 + 1 * k.val = k.val; rw [(jx2 t).2]; omega

/-- The weight as the launch finds it. -/
theorem V_w (k : Fin 2816) (j : Fin 1024) : (V m c main_v0 : Vec Ideal S2816x1024 .bf16) (ix2 k j) = A1 m c (ix2 k j) := by
  unfold V
  after_reads_at

theorem iblk1 (t : Fin cfg0.N) (k : Fin 2816) (j : Fin 1024) : (iblk m c 1 t : Vec Ideal S2816x1024 .bf16) (ix2 k j) = A1 m c (ix2 k j) := by
  refine Eq.trans ?_ (V_w m c k j)
  unfold iblk
  rw [View.read_apply]
  show V m c main_v0 _ = V m c main_v0 _
  congr 1
  funext a
  apply Fin.ext
  match a with
  | ⟨0, _⟩ => show win0_1.index t 0 * 2816 + 1 * k.val = k.val; rw [(jx1 t).1]; omega
  | ⟨1, _⟩ => show win0_1.index t 1 * 1024 + 1 * j.val = j.val; rw [(jx1 t).2]; omega

theorem iblk3 (t : Fin cfg0.N) (q : Fin 1) (k : Fin 1024) : (iblk m c 3 t : Vec Ideal S1x1024 .f32) (ix2 q k) = A3 m c (ix2 q k) := by
  unfold iblk
  rw [View.read_apply]
  show V m c main_arg3 _ = m (c.tc.loc main_arg3) _
  rw [V_main_arg3]
  congr 1
  funext a
  apply Fin.ext
  match a with
  | ⟨0, _⟩ => show win0_3.index t 0 * 1 + 1 * q.val = q.val; rw [(jx3 t).1]; omega
  | ⟨1, _⟩ => show win0_3.index t 1 * 1024 + 1 * k.val = k.val; rw [(jx3 t).2]; omega

theorem iblk4 (t : Fin cfg0.N) (q : Fin 1) (k : Fin 1024) : (iblk m c 4 t : Vec Ideal S1x1024 .f32) (ix2 q k) = A4 m c (ix2 q k) := by
  unfold iblk
  rw [View.read_apply]
  show V m c main_arg4 _ = m (c.tc.loc main_arg4) _
  rw [V_main_arg4]
  congr 1
  funext a
  apply Fin.ext
  match a with
  | ⟨0, _⟩ => show win0_4.index t 0 * 1 + 1 * q.val = q.val; rw [(jx4 t).1]; omega
  | ⟨1, _⟩ => show win0_4.index t 1 * 1024 + 1 * k.val = k.val; rw [(jx4 t).2]; omega

theorem iblk5 (t : Fin cfg0.N) (q : Fin 1) (k : Fin 1024) : (iblk m c 5 t : Vec Ideal S1x1024 .f32) (ix2 q k) = A5 m c (ix2 q k) := by
  unfold iblk
  rw [View.read_apply]
  show V m c main_arg5 _ = m (c.tc.loc main_arg5) _
  rw [V_main_arg5]
  congr 1
  funext a
  apply Fin.ext
  match a with
  | ⟨0, _⟩ => show win0_5.index t 0 * 1 + 1 * q.val = q.val; rw [(jx5 t).1]; omega
  | ⟨1, _⟩ => show win0_5.index t 1 * 1024 + 1 * k.val = k.val; rw [(jx5 t).2]; omega

theorem iblk6 (t : Fin cfg0.N) (q : Fin 1) (k : Fin 1024) : (iblk m c 6 t : Vec Ideal S1x1024 .f32) (ix2 q k) = A6 m c (ix2 q k) := by
  unfold iblk
  rw [View.read_apply]
  show V m c main_arg6 _ = m (c.tc.loc main_arg6) _
  rw [V_main_arg6]
  congr 1
  funext a
  apply Fin.ext
  match a with
  | ⟨0, _⟩ => show win0_6.index t 0 * 1 + 1 * q.val = q.val; rw [(jx6 t).1]; omega
  | ⟨1, _⟩ => show win0_6.index t 1 * 1024 + 1 * k.val = k.val; rw [(jx6 t).2]; omega

theorem zb_blk (t : Fin cfg0.N) (r : Fin 512) : zb (iblk m c 0 t) (iblk m c 1 t) (iblk m c 2 t) (iblk m c 5 t) (iblk m c 6 t) r = zs (A0 m c) (A1 m c) (A2 m c) (A5 m c) (A6 m c) (row t r) := by
  unfold zb zs
  simp only [iblk0, iblk1, iblk2, iblk5, iblk6]

/-- The whole result in window 7: the reference's. -/
abbrev G7 : Vec Ideal S4096x1024 .f32 := Cert.DownRefIdeal.Read.val_main_v26 (F := Ideal) (A0 m c) (A1 m c) (A2 m c) (A5 m c) (A6 m c)

theorem arr7 : ((dats m 0 c).arrAt 7 cfg0.N : Vec Ideal S4096x1024 .f32) = G7 m c := by
  refine (dats m 0 c).arrAt_eq_of_cover 7 (G7 m c) (fun t _ => ?_) (fun i => ?_)
  · rw [Value.flushed7]
    funext y
    idx_vars y
    refine (out7_apply (iblk m c 0 t) (iblk m c 1 t) (iblk m c 2 t) (iblk m c 3 t) (iblk m c 4 t) (iblk m c 5 t) (iblk m c 6 t) y0 y1).trans ?_
    rw [zb_blk]
    rw [View.read_apply]
    show _ = G7 m c _
    have e : ((cfg0.win 7).blk t).view.emb (ix2 y0 y1) = (ix2 (row t y0) y1 : S4096x1024.Idx) := by
      funext a
      apply Fin.ext
      match a with
      | ⟨0, _⟩ => show win0_7.index t 0 * 512 + 1 * y0.val = 512 * t.val + y0.val; rw [(jx7 t).1]; omega
      | ⟨1, _⟩ => show win0_7.index t 1 * 1024 + 1 * y1.val = y1.val; rw [(jx7 t).2]; omega
    exact (v26_apply (A0 m c) (A1 m c) (A2 m c) (A5 m c) (A6 m c) (row t y0) y1).symm.trans (congrArg (G7 m c) e.symm)
  · have h0 : (i 0).val < 4096 := (i 0).isLt
    have h1 : (i 1).val < 1024 := (i 1).isLt
    have hN : cfg0.N = 8 := N_0
    have hN' : grid0.N = 8 := N_0
    refine ⟨⟨(i 0).val / 512, by omega⟩, flo7 _, ?_⟩
    rw [View.set_slice_whole, Rect.mem_set_unit]
    intro a
    match a with
    | ⟨0, _⟩ =>
      have e := (jx7 ⟨(i 0).val / 512, by omega⟩).1
      show win0_7.index _ 0 * 512 ≤ (i 0).val ∧ (i 0).val < win0_7.index _ 0 * 512 + 512
      rw [e]
      dsimp only
      omega
    | ⟨1, _⟩ =>
      have e := (jx7 ⟨(i 0).val / 512, by omega⟩).2
      show win0_7.index _ 1 * 1024 ≤ (i 1).val ∧ (i 1).val < win0_7.index _ 1 * 1024 + 1024
      rw [e]
      omega

/-- The whole result in window 8: the reference's. -/
abbrev G8 : Vec Ideal S4096x1024 .bf16 := Cert.DownRefIdeal.Read.val_main_v49 (F := Ideal) (A0 m c) (A1 m c) (A2 m c) (A3 m c) (A4 m c) (A5 m c) (A6 m c)

theorem arr8 : ((dats m 0 c).arrAt 8 cfg0.N : Vec Ideal S4096x1024 .bf16) = G8 m c := by
  refine (dats m 0 c).arrAt_eq_of_cover 8 (G8 m c) (fun t _ => ?_) (fun i => ?_)
  · rw [Value.flushed8]
    funext y
    idx_vars y
    refine (out8_apply (iblk m c 0 t) (iblk m c 1 t) (iblk m c 2 t) (iblk m c 3 t) (iblk m c 4 t) (iblk m c 5 t) (iblk m c 6 t) y0 y1).trans ?_
    rw [zb_blk, iblk3, iblk4]
    rw [View.read_apply]
    show _ = G8 m c _
    have e : ((cfg0.win 8).blk t).view.emb (ix2 y0 y1) = (ix2 (row t y0) y1 : S4096x1024.Idx) := by
      funext a
      apply Fin.ext
      match a with
      | ⟨0, _⟩ => show win0_8.index t 0 * 512 + 1 * y0.val = 512 * t.val + y0.val; rw [(jx8 t).1]; omega
      | ⟨1, _⟩ => show win0_8.index t 1 * 1024 + 1 * y1.val = y1.val; rw [(jx8 t).2]; omega
    exact (v49_apply (A0 m c) (A1 m c) (A2 m c) (A3 m c) (A4 m c) (A5 m c) (A6 m c) (row t y0) y1).symm.trans (congrArg (G8 m c) e.symm)
  · have h0 : (i 0).val < 4096 := (i 0).isLt
    have h1 : (i 1).val < 1024 := (i 1).isLt
    have hN : cfg0.N = 8 := N_0
    have hN' : grid0.N = 8 := N_0
    refine ⟨⟨(i 0).val / 512, by omega⟩, flo8 _, ?_⟩
    rw [View.set_slice_whole, Rect.mem_set_unit]
    intro a
    match a with
    | ⟨0, _⟩ =>
      have e := (jx8 ⟨(i 0).val / 512, by omega⟩).1
      show win0_8.index _ 0 * 512 ≤ (i 0).val ∧ (i 0).val < win0_8.index _ 0 * 512 + 512
      rw [e]
      dsimp only
      omega
    | ⟨1, _⟩ =>
      have e := (jx8 ⟨(i 0).val / 512, by omega⟩).2
      show win0_8.index _ 1 * 1024 ≤ (i 1).val ∧ (i 1).val < win0_8.index _ 1 * 1024 + 1024
      rw [e]
      omega

/-- The call's reference ends, keeps its arguments and declares no semaphore. -/
theorem quiet : Cert.quiescent_DownRefIdeal := fun m ρ _ =>
  (θ_run Cert.DownRefIdeal.defs _ _).mono (fun r h => ⟨fun c => (h c).2.2, sem_eq_zero_of_no_sems (by decide) r.2⟩)
    (Cert.DownRefIdeal.Value.run (F := Ideal) m ρ)

theorem equal : Cert.algebraic_DownIdeal_DownRefIdeal := by
  intro m g m' g' _ hm
  refine ⟨fun c => G7 m c, fun c => G8 m c, ?_, ?_⟩
  · exact (θ_run _ _ _).mono (fun r h c => ⟨(h c).1.trans (arr7 m c), (h c).2.1.trans (arr8 m c), (h c).2.2⟩) (Cert.DownIdeal.Value.run_blocks (F := Ideal) m g)
  · refine (θ_run _ _ _).mono (fun r h c => ?_) (Cert.DownRefIdeal.Value.run (F := Ideal) m' g')
    obtain ⟨h7, h8, hargs⟩ := h c
    obtain ⟨e0, e1, e2, e3, e4, e5, e6⟩ := hm c
    refine ⟨h7.trans ?_, h8.trans ?_, hargs⟩
    · rw [e0, e1, e2, e5, e6]
      exact Cert.DownRefIdeal.Read.val_main_v26_eq _ _ _ _ _
    · rw [Cert.DownRefIdeal.Read.val_main_v49_eq, e0, e1, e2, e3, e4, e5, e6]

end Cert.DownP

end
-- ==== Proof.ProdQkv.lean ====
/-
  Attention's projections: the rows of the normed activations against the columns of the weight, plus the bias, block by
  block, is the reference's.
-/
module

public import proofs.«01_k».proof.Proof.Gen.QkvIdeal.Value
public import proofs.«01_k».proof.Proof.Gen.QkvRefIdeal.Run
public import proofs.«01_k».proof.Proof.Gen.QkvRefIdeal.Read
public import proofs.«01_k».proof.Proof.Gen.QkvIdeal.Skeleton
public import proofs.«01_k».proof.Defs
public import Idealize.ShloMosaic.Lib.Tactic
public import Idealize.ShloMosaic.Lib.Pointwise
public import Idealize.ShloMosaic.Lib.StableHlo.ReadAt
public import Idealize.ShloMosaic.Lib.Pipeline.Value
public import Idealize.ShloMosaic.Lib.Claim

@[expose] public section

set_option maxRecDepth 16384

noncomputable section

namespace Cert.QkvP

open Idealize.ShloMosaic Idealize.ShloMosaic.TcCoe Idealize.SL.Sem
open Cert.QkvIdeal Cert.QkvIdeal.Gen
open Idealize.ShloMosaic.Pipeline (Dat)

theorem hz : (![0, 0] : Fin 2 → Nat) = fun _ => 0 := funext fun a => by fin_cases a <;> rfl

/-- One block of the product: every row of the first against every row of the second. -/
theorem pay1_apply (x0 : Vec Ideal S1024x1024 .bf16) (x1 : Vec Ideal S1280x1024 .bf16) (x2 : Vec Ideal S1x1280 .f32) (r : Fin 1024) (j : Fin 1280) :
    k0_pay1 (F := Ideal) x0 x1 x2 (ix2 r j) = (∑ k : Fin 1024, x0 (ix2 r k) * x1 (ix2 j k)) + x2 (ix2 0 j) := by
  pointwise [k0_pay1]

theorem out_apply (x0 : Vec Ideal S1024x1024 .bf16) (x1 : Vec Ideal S1280x1024 .bf16) (x2 : Vec Ideal S1x1280 .f32) (r : Fin 1024) (j : Fin 1280) :
    out0_3 (F := Ideal) x0 x1 x2 (ix2 r j) = (∑ k : Fin 1024, x0 (ix2 r k) * x1 (ix2 j k)) + x2 (ix2 0 j) := by
  unfold out0_3
  rw [View.canon_unit_zero hz, View.ld_unit_zero (S := S1024x1024) hz, View.ld_unit_zero (S := S1280x1024) hz, View.ld_unit_zero (S := S1x1280) hz, pay1_apply]

/-- The reference's product at one element. -/
theorem ref_apply (x0 : Vec Ideal S4096x1024 .bf16) (x1 : Vec Ideal S1024x1280 .f32) (x2 : Vec Ideal S1x1280 .f32) (r : Fin 4096) (j : Fin 1280) :
    Cert.QkvRefIdeal.Read.val_main_v4 (F := Ideal) x0 x1 x2 (ix2 r j) = (∑ k : Fin 1024, x0 (ix2 r k) * x1 (ix2 k j)) + x2 (ix2 0 j) := by
  pointwise [Cert.QkvRefIdeal.Read.val_main_v4, Cert.QkvRefIdeal.Read.val_main_v3, Cert.QkvRefIdeal.Read.val_main_v2, Cert.QkvRefIdeal.Read.val_main_v1, Cert.QkvRefIdeal.Read.val_main_v0]

variable (m : (ℓ : Loc nD τ sig) → Buf (Elt Ideal) ℓ) (c : Dev nD)

/-- The arguments, as launched. -/
abbrev A0 : Vec Ideal S4096x1024 .bf16 := m ((c : Thread nD τ).loc main_arg0)
abbrev A1 : Vec Ideal S1024x1280 .f32 := m ((c : Thread nD τ).loc main_arg1)
abbrev A2 : Vec Ideal S1x1280 .f32 := m ((c : Thread nD τ).loc main_arg2)

theorem ix0 : ∀ t : Fin grid0.N, win0_0.index t 0 = t.val / 1 ∧ win0_0.index t 1 = 0 := by decide +kernel
theorem ix1 : ∀ t : Fin grid0.N, win0_1.index t 0 = t.val % 1 ∧ win0_1.index t 1 = 0 := by decide +kernel
theorem ixo : ∀ t : Fin grid0.N, win0_3.index t 0 = t.val / 1 ∧ win0_3.index t 1 = t.val % 1 := by decide +kernel
theorem flo : ∀ t : Fin grid0.N, (cfg0.win 3).flush t = true := by decide +kernel

theorem ltN (t : Fin cfg0.N) : t.val < 4 := by have : cfg0.N = 4 := N_0; have := t.isLt; omega

/-- Row `r` and column `j` of block `t`. -/
abbrev row (t : Fin cfg0.N) (r : Fin 1024) : Fin 4096 := ⟨1024 * (t.val / 1) + r.val, by have := ltN t; omega⟩
abbrev col (t : Fin cfg0.N) (j : Fin 1280) : Fin 1280 := ⟨1280 * (t.val % 1) + j.val, by omega⟩

theorem iblk0 (t : Fin cfg0.N) (r : Fin 1024) (k : Fin 1024) : (iblk m c 0 t : Vec Ideal S1024x1024 .bf16) (ix2 r k) = A0 m c (ix2 (row t r) k) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = 1024 * (t.val / 1) + r.val; rw [(ix0 t).1]; omega
  | ⟨1, _⟩ => show win0_0.index t 1 * 1024 + 1 * k.val = k.val; rw [(ix0 t).2]; omega

/-- The weight as the launch finds it. -/
theorem V_w (j : Fin 1280) (k : Fin 1024) : (V m c main_v1 : Vec Ideal S1280x1024 .bf16) (ix2 j k) = A1 m c (ix2 k j) := by
  unfold V
  after_reads_at

theorem iblk1 (t : Fin cfg0.N) (j : Fin 1280) (k : Fin 1024) : (iblk m c 1 t : Vec Ideal S1280x1024 .bf16) (ix2 j k) = A1 m c (ix2 k (col t j)) := by
  refine Eq.trans ?_ (V_w m c (col t j) k)
  unfold iblk
  rw [View.read_apply]
  show V m c main_v1 _ = V m c main_v1 _
  congr 1
  funext a
  apply Fin.ext
  match a with
  | ⟨0, _⟩ => show win0_1.index t 0 * 1280 + 1 * j.val = 1280 * (t.val % 1) + j.val; rw [(ix1 t).1]; omega
  | ⟨1, _⟩ => show win0_1.index t 1 * 1024 + 1 * k.val = k.val; rw [(ix1 t).2]; omega

theorem jx2 : ∀ t : Fin grid0.N, win0_2.index t 0 = 0 ∧ win0_2.index t 1 = 0 := by decide +kernel

theorem iblk2 (t : Fin cfg0.N) (q : Fin 1) (j : Fin 1280) : (iblk m c 2 t : Vec Ideal S1x1280 .f32) (ix2 q j) = A2 m c (ix2 q (col t j)) := by
  unfold iblk
  rw [View.read_apply]
  show V m c main_arg2 _ = m (c.tc.loc main_arg2) _
  rw [V_main_arg2]
  congr 1
  funext a
  apply Fin.ext
  match a with
  | ⟨0, _⟩ => show win0_2.index t 0 * 1 + 1 * q.val = q.val; rw [(jx2 t).1]; omega
  | ⟨1, _⟩ => show win0_2.index t 1 * 1280 + 1 * j.val = 1280 * (t.val % 1) + j.val; rw [(jx2 t).2]; omega

/-- The whole result: the reference's. -/
abbrev G : Vec Ideal S4096x1280 .bf16 := Cert.QkvRefIdeal.Read.val_main_v4 (F := Ideal) (A0 m c) (A1 m c) (A2 m c)

theorem arr : ((dats m 0 c).arrAt 3 cfg0.N : Vec Ideal S4096x1280 .bf16) = G m c := by
  refine (dats m 0 c).arrAt_eq_of_cover 3 (G m c) (fun t _ => ?_) (fun i => ?_)
  · rw [Value.flushed3]
    funext y
    idx_vars y
    refine (out_apply (iblk m c 0 t) (iblk m c 1 t) (iblk m c 2 t) y0 y1).trans ?_
    simp only [iblk0, iblk1, iblk2]
    rw [View.read_apply]
    show _ = G m c _
    have e : ((cfg0.win 3).blk t).view.emb (ix2 y0 y1) = (ix2 (row t y0) (col t y1) : S4096x1280.Idx) := by
      funext a
      apply Fin.ext
      match a with
      | ⟨0, _⟩ => show win0_3.index t 0 * 1024 + 1 * y0.val = 1024 * (t.val / 1) + y0.val; rw [(ixo t).1]; omega
      | ⟨1, _⟩ => show win0_3.index t 1 * 1280 + 1 * y1.val = 1280 * (t.val % 1) + y1.val; rw [(ixo t).2]; omega
    exact (ref_apply (A0 m c) (A1 m c) (A2 m c) (row t y0) (col t y1)).symm.trans (congrArg (G m c) e.symm)
  · have h0 : (i 0).val < 4096 := (i 0).isLt
    have h1 : (i 1).val < 1280 := (i 1).isLt
    have hN : cfg0.N = 4 := N_0
    have hN' : grid0.N = 4 := N_0
    have hd : 1 * ((i 0).val / 1024) + (i 1).val / 1280 < 4 := by omega
    refine ⟨⟨1 * ((i 0).val / 1024) + (i 1).val / 1280, by omega⟩, flo _, ?_⟩
    rw [View.set_slice_whole, Rect.mem_set_unit]
    intro a
    match a with
    | ⟨0, _⟩ =>
      have e := (ixo ⟨1 * ((i 0).val / 1024) + (i 1).val / 1280, by omega⟩).1
      show win0_3.index _ 0 * 1024 ≤ (i 0).val ∧ (i 0).val < win0_3.index _ 0 * 1024 + 1024
      rw [e, show (1 * ((i 0).val / 1024) + (i 1).val / 1280) / 1 = (i 0).val / 1024 by omega]
      omega
    | ⟨1, _⟩ =>
      have e := (ixo ⟨1 * ((i 0).val / 1024) + (i 1).val / 1280, by omega⟩).2
      show win0_3.index _ 1 * 1280 ≤ (i 1).val ∧ (i 1).val < win0_3.index _ 1 * 1280 + 1280
      rw [e, show (1 * ((i 0).val / 1024) + (i 1).val / 1280) % 1 = (i 1).val / 1280 by omega]
      omega

/-- The product's reference ends, keeps its arguments and declares no semaphore. -/
theorem quiet : Cert.quiescent_QkvRefIdeal := fun m ρ _ =>
  (θ_run Cert.QkvRefIdeal.defs _ _).mono (fun r h => ⟨fun c => (h c).2, sem_eq_zero_of_no_sems (by decide) r.2⟩)
    (Cert.QkvRefIdeal.Value.run (F := Ideal) m ρ)

theorem equal : Cert.algebraic_QkvIdeal_QkvRefIdeal := by
  intro m g m' g' _ hm
  refine ⟨fun c => G m c, ?_, ?_⟩
  · exact (θ_run _ _ _).mono (fun r h c => ⟨(h c).1.trans (arr m c), (h c).2⟩) (Cert.QkvIdeal.Value.run_blocks (F := Ideal) m g)
  · refine (θ_run _ _ _).mono (fun r h c => ?_) (Cert.QkvRefIdeal.Value.run (F := Ideal) m' g')
    obtain ⟨h0, hargs⟩ := h c
    obtain ⟨e0, e1, e2⟩ := hm c
    refine ⟨h0.trans ?_, hargs⟩
    rw [e0, e1, e2]
    exact Cert.QkvRefIdeal.Read.val_main_v4_eq _ _ _

end Cert.QkvP

end
-- ==== Proof.ProdDwo.lean ====
/-
  The gradient of attention's output weight: the products of the columns of two halves of the rows, added in a carried
  block, are the reference's product over all rows.
-/
module

public import proofs.«01_k».proof.Proof.Gen.DwoIdeal.Value
public import proofs.«01_k».proof.Proof.Gen.DwoRefIdeal.Run
public import proofs.«01_k».proof.Proof.Gen.DwoRefIdeal.Read
public import proofs.«01_k».proof.Proof.Gen.DwoIdeal.Skeleton
public import proofs.«01_k».proof.Defs
public import Idealize.ShloMosaic.Lib.Tactic
public import Idealize.ShloMosaic.Lib.Pointwise
public import Idealize.ShloMosaic.Lib.StableHlo.ReadAt
public import Idealize.ShloMosaic.Lib.Pipeline.Value
public import Idealize.ShloMosaic.Lib.Claim

@[expose] public section

set_option maxRecDepth 16384

noncomputable section

namespace Cert.DwoP

open Idealize.ShloMosaic Idealize.ShloMosaic.TcCoe Idealize.SL.Sem
open Cert.DwoIdeal Cert.DwoIdeal.Gen
open Idealize.ShloMosaic.Pipeline (Dat)

theorem hz : (![0, 0] : Fin 2 → Nat) = fun _ => 0 := funext fun a => by fin_cases a <;> rfl

section terms
variable (c : Dev nD) (i : grid0.Coords)
  (a1 : Memref sig .tc .vmem S2048x1024 .bf16) (h1 : a1.IsWhole)
  (a2 : Memref sig .tc .vmem S2048x1024 .bf16) (h2 : a2.IsWhole)
  (a3 : Memref sig .tc .vmem S1024x1024 .bf16) (h3 : a3.IsWhole)
  (a4 : Memref sig .tc .vmem S1024x1024 .f32) (h4 : a4.IsWhole)
  (x0 : Vec Ideal S2048x1024 .bf16) (x1 : Vec Ideal S2048x1024 .bf16) (s : Vec Ideal S1024x1024 .f32)

theorem soutA (hc0 : cond0_0 i) (hc1 : ¬cond0_1 i) : sout0_A_0 (F := Ideal) c i a1 h1 a2 h2 a3 h3 a4 h4 hc0 hc1 x0 x1 = k0_pay2 k0_pay1 x0 x1 := by
  unfold sout0_A_0
  rw [View.read_writes_eq_canon _ _ _ (scover0_A_0 (F := Ideal) c i a1 h1 a2 h2 a3 h3 a4 h4 hc0 hc1 x0 x1)]
  unfold kernelRun0_A
  dsimp only
  sl_unfold_words
  rw [View.canon_cons_unit_zero (S := S1024x1024) hz, View.readCov_unit_zero (S := S1024x1024) _ hz]
  simp only [View.readAt_eq_ld, h1.read_unread, h2.read_unread, h3.read_unread, h4.read_unread, View.ld_unit_zero (S := S1024x1024) hz, View.ld_unit_zero (S := S2048x1024) hz]

theorem outB (hc0 : ¬cond0_0 i) (hc1 : cond0_1 i) : out0_B_2 (F := Ideal) c i a1 h1 a2 h2 a3 h3 a4 h4 hc0 hc1 x0 x1 s = k0_pay3 (k0_pay2 s x0 x1) := by
  unfold out0_B_2
  rw [View.read_writes_eq_canon _ _ _ (cover0_B_2 (F := Ideal) c i a1 h1 a2 h2 a3 h3 a4 h4 hc0 hc1 x0 x1 s)]
  unfold kernelRun0_B
  dsimp only
  sl_unfold_words
  rw [View.canon_unit_zero hz, View.readCov_unit_zero (S := S1024x1024) _ hz]
  simp only [View.readAt_eq_ld, h1.read_unread, h2.read_unread, h3.read_unread, h4.read_unread, View.ld_unit_zero (S := S1024x1024) hz, View.ld_unit_zero (S := S2048x1024) hz]

end terms

theorem pay1_apply (p : Fin 1024) (q : Fin 1024) : k0_pay1 (F := Ideal) (ix2 p q) = 0 := by pointwise [k0_pay1]

/-- One block's product of columns, added to what was there. -/
theorem pay2_apply (s : Vec Ideal S1024x1024 .f32) (x : Vec Ideal S2048x1024 .bf16) (y : Vec Ideal S2048x1024 .bf16) (p : Fin 1024) (q : Fin 1024) :
    k0_pay2 (F := Ideal) s x y (ix2 p q) = s (ix2 p q) + ∑ k : Fin 2048, x (ix2 k p) * y (ix2 k q) := by
  pointwise [k0_pay2]

theorem pay3_apply (s : Vec Ideal S1024x1024 .f32) (p q : Fin 1024) : k0_pay3 (F := Ideal) s (ix2 p q) = s (ix2 p q) := by pointwise [k0_pay3]

/-- Two blocks of 2048 are 4096. -/
theorem sum_two (f : Fin 4096 → EReal) : (∑ k : Fin 2048, f ⟨k.val, by omega⟩) + ∑ k : Fin 2048, f ⟨2048 + k.val, by omega⟩ = ∑ k, f k :=
  (Fin.sum_univ_add (a := 2048) (b := 2048) f).symm

/-- The reference's product at one element. -/
theorem ref_apply (x0 x1 : Vec Ideal S4096x1024 .bf16) (p q : Fin 1024) :
    Cert.DwoRefIdeal.Read.val_main_v6 (F := Ideal) x0 x1 (ix2 p q) = ∑ k : Fin 4096, x0 (ix2 k p) * x1 (ix2 k q) := by
  pointwise [Cert.DwoRefIdeal.Read.val_main_v6, Cert.DwoRefIdeal.Read.val_main_v5, Cert.DwoRefIdeal.Read.val_main_v4, Cert.DwoRefIdeal.Read.val_main_v3, Cert.DwoRefIdeal.Read.val_main_v1]
  refine Finset.sum_congr rfl fun k _ => mul_comm _ _

variable (m : (ℓ : Loc nD τ sig) → Buf (Elt Ideal) ℓ) (c : Dev nD)

/-- The arguments, as launched. -/
abbrev A0 : Vec Ideal S4096x1024 .bf16 := m ((c : Thread nD τ).loc main_arg0)
abbrev A1 : Vec Ideal S4096x1024 .bf16 := m ((c : Thread nD τ).loc main_arg1)

theorem jx0 : ∀ t : Fin grid0.N, win0_0.index t 0 = t.val % 2 ∧ win0_0.index t 1 = t.val / 2 := by decide +kernel

theorem iblk0 (t : Fin cfg0.N) (k : Fin 2048) (l : Fin 1024) (K : Fin 4096) (L : Fin 1024) (hK : K.val = 2048 * (t.val % 2) + k.val) (hL : L.val = 1024 * (t.val / 2) + l.val) :
    (iblk m c 0 t : Vec Ideal S2048x1024 .bf16) (ix2 k l) = A0 m c (ix2 K L) := by
  unfold iblk
  rw [View.read_apply]
  show V m c main_arg0 _ = m (c.tc.loc main_arg0) _
  rw [V_main_arg0]
  congr 1
  funext a
  apply Fin.ext
  match a with
  | ⟨0, _⟩ => show win0_0.index t 0 * 2048 + 1 * k.val = K.val; rw [(jx0 t).1, hK]; omega
  | ⟨1, _⟩ => show win0_0.index t 1 * 1024 + 1 * l.val = L.val; rw [(jx0 t).2, hL]; omega
theorem jx1 : ∀ t : Fin grid0.N, win0_1.index t 0 = t.val % 2 ∧ win0_1.index t 1 = 0 := by decide +kernel

theorem iblk1 (t : Fin cfg0.N) (k : Fin 2048) (l : Fin 1024) (K : Fin 4096) (L : Fin 1024) (hK : K.val = 2048 * (t.val % 2) + k.val) (hL : L.val = 1024 * (0) + l.val) :
    (iblk m c 1 t : Vec Ideal S2048x1024 .bf16) (ix2 k l) = A1 m c (ix2 K L) := by
  unfold iblk
  rw [View.read_apply]
  show V m c main_arg1 _ = m (c.tc.loc main_arg1) _
  rw [V_main_arg1]
  congr 1
  funext a
  apply Fin.ext
  match a with
  | ⟨0, _⟩ => show win0_1.index t 0 * 2048 + 1 * k.val = K.val; rw [(jx1 t).1, hK]; omega
  | ⟨1, _⟩ => show win0_1.index t 1 * 1024 + 1 * l.val = L.val; rw [(jx1 t).2, hL]; omega

theorem outs (t : Fin cfg0.N) (ht : t.val % 2 = 1) (p : Fin 1024) (q : Fin 1024) (P : Fin 1024) (Q : Fin 1024) (hP : P.val = 1024 * (t.val / 2) + p.val)
    (hQ : Q.val = 1024 * 0 + q.val) :
    ((outsAt0 m c t.val t.isLt).1 : Vec Ideal S1024x1024 .bf16) (ix2 p q) = Cert.DwoRefIdeal.Read.val_main_v6 (F := Ideal) (A0 m c) (A1 m c) (ix2 P Q) := by
  have hlt : t.val - 1 < cfg0.N := Nat.lt_of_le_of_lt (Nat.sub_le _ _) t.isLt
  have e := outsAt0_A m c ⟨t.val - 1, hlt⟩ (by first | omega | (dsimp only; omega)) (by first | omega | (dsimp only; omega))
  dsimp only at e
  rw [outsAt0_B m c t (by omega) ht]
  dsimp only
  rw [outB, e]
  dsimp only
  rw [soutA, pay3_apply, pay2_apply, pay2_apply, pay1_apply, zero_add, ref_apply, ← sum_two]
  refine congrArg₂ (· + ·) (Finset.sum_congr rfl fun k _ => congrArg₂ (· * ·) ?_ ?_) (Finset.sum_congr rfl fun k _ => congrArg₂ (· * ·) ?_ ?_)
  · exact iblk0 m c _ k p _ P (by first | omega | (dsimp only; omega)) (by first | omega | (dsimp only; omega))
  · exact iblk1 m c _ k q _ Q (by first | omega | (dsimp only; omega)) (by first | omega | (dsimp only; omega))
  · exact iblk0 m c t k p _ P (by first | omega | (dsimp only; omega)) (by omega)
  · exact iblk1 m c t k q _ Q (by first | omega | (dsimp only; omega)) (by omega)

theorem ixo : ∀ t : Fin grid0.N, win0_2.index t 0 = t.val / 2 ∧ win0_2.index t 1 = 0 := by decide +kernel

/-- The whole result: the reference's. -/
abbrev G : Vec Ideal S1024x1024 .bf16 := Cert.DwoRefIdeal.Read.val_main_v6 (F := Ideal) (A0 m c) (A1 m c)

theorem arr : ((dats m 0 c).arrAt 2 cfg0.N : Vec Ideal S1024x1024 .bf16) = G m c := by
  have hN : cfg0.N = 2 := N_0
  have hN' : grid0.N = 2 := N_0
  refine (dats m 0 c).arrAt_eq_of_cover 2 (G m c) (fun t ht => ?_) (fun i => ?_)
  · have hlt := t.isLt
    rw [Value.flushed2]
    funext y
    idx_vars y
    have e : ((cfg0.win 2).blk t).view.emb (ix2 y0 y1) = (ix2 ⟨1024 * (t.val / 2) + y0.val, by omega⟩ ⟨1024 * (0) + y1.val, by omega⟩ : S1024x1024.Idx) := by
      funext a
      apply Fin.ext
      match a with
      | ⟨0, _⟩ => show win0_2.index t 0 * 1024 + 1 * y0.val = 1024 * (t.val / 2) + y0.val; rw [(ixo t).1]; omega
      | ⟨1, _⟩ => show win0_2.index t 1 * 1024 + 1 * y1.val = 1024 * (0) + y1.val; rw [(ixo t).2]; omega
    refine (outs m c t ((flush0_2 t).mp ht) y0 y1 ⟨1024 * (t.val / 2) + y0.val, by omega⟩ ⟨1024 * (0) + y1.val, by omega⟩ rfl rfl).trans ?_
    rw [View.read_apply]
    exact congrArg (G m c) e.symm
  · have h0 : (i 0).val < 1024 := (i 0).isLt
    have h1 : (i 1).val < 1024 := (i 1).isLt
    refine ⟨⟨2 * ((i 0).val / 1024) + 1, by omega⟩, (flush0_2 _).mpr (by first | omega | (dsimp only; omega)), ?_⟩
    rw [View.set_slice_whole, Rect.mem_set_unit]
    intro a
    match a with
    | ⟨0, _⟩ =>
      have e := (ixo ⟨2 * ((i 0).val / 1024) + 1, by omega⟩).1
      show win0_2.index _ 0 * 1024 ≤ (i 0).val ∧ (i 0).val < win0_2.index _ 0 * 1024 + 1024
      rw [e, show (2 * ((i 0).val / 1024) + 1) / 2 = (i 0).val / 1024 by omega]; omega
    | ⟨1, _⟩ =>
      have e := (ixo ⟨2 * ((i 0).val / 1024) + 1, by omega⟩).2
      show win0_2.index _ 1 * 1024 ≤ (i 1).val ∧ (i 1).val < win0_2.index _ 1 * 1024 + 1024
      rw [e]; omega

/-- The product's reference ends, keeps its arguments and declares no semaphore. -/
theorem quiet : Cert.quiescent_DwoRefIdeal := fun m ρ _ =>
  (θ_run Cert.DwoRefIdeal.defs _ _).mono (fun r h => ⟨fun c => (h c).2, sem_eq_zero_of_no_sems (by decide) r.2⟩)
    (Cert.DwoRefIdeal.Value.run (F := Ideal) m ρ)

theorem equal : Cert.algebraic_DwoIdeal_DwoRefIdeal := by
  intro m g m' g' _ hm
  refine ⟨fun c => G m c, ?_, ?_⟩
  · exact (θ_run _ _ _).mono (fun r h c => ⟨(h c).1.trans (arr m c), (h c).2⟩) (Cert.DwoIdeal.Value.run_blocks (F := Ideal) m g)
  · refine (θ_run _ _ _).mono (fun r h c => ?_) (Cert.DwoRefIdeal.Value.run (F := Ideal) m' g')
    obtain ⟨h0, hargs⟩ := h c
    obtain ⟨e0, e1⟩ := hm c
    refine ⟨h0.trans ?_, hargs⟩
    rw [e0, e1]
    exact Cert.DwoRefIdeal.Read.val_main_v6_eq _ _

end Cert.DwoP

end
-- ==== Proof.ProdDout.lean ====
/-
  The gradient at attention's output: the incoming gradient against the rows of the output weight, block by block, is the
  reference's product.
-/
module

public import proofs.«01_k».proof.Proof.Gen.DoutIdeal.Value
public import proofs.«01_k».proof.Proof.Gen.DoutRefIdeal.Run
public import proofs.«01_k».proof.Proof.Gen.DoutRefIdeal.Read
public import proofs.«01_k».proof.Proof.Gen.DoutIdeal.Skeleton
public import proofs.«01_k».proof.Defs
public import Idealize.ShloMosaic.Lib.Tactic
public import Idealize.ShloMosaic.Lib.Pointwise
public import Idealize.ShloMosaic.Lib.StableHlo.ReadAt
public import Idealize.ShloMosaic.Lib.Pipeline.Value
public import Idealize.ShloMosaic.Lib.Claim

@[expose] public section

set_option maxRecDepth 16384

noncomputable section

namespace Cert.DoutP

open Idealize.ShloMosaic Idealize.ShloMosaic.TcCoe Idealize.SL.Sem
open Cert.DoutIdeal Cert.DoutIdeal.Gen
open Idealize.ShloMosaic.Pipeline (Dat)

theorem hz : (![0, 0] : Fin 2 → Nat) = fun _ => 0 := funext fun a => by fin_cases a <;> rfl

/-- One block of the product: every row of the first against every row of the second. -/
theorem pay1_apply (x0 : Vec Ideal S1024x1024 .bf16) (x1 : Vec Ideal S1024x1024 .bf16) (r : Fin 1024) (j : Fin 1024) :
    k0_pay1 (F := Ideal) x0 x1 (ix2 r j) = (∑ k : Fin 1024, x0 (ix2 r k) * x1 (ix2 j k)) := by
  pointwise [k0_pay1]

theorem out_apply (x0 : Vec Ideal S1024x1024 .bf16) (x1 : Vec Ideal S1024x1024 .bf16) (r : Fin 1024) (j : Fin 1024) :
    out0_2 (F := Ideal) x0 x1 (ix2 r j) = (∑ k : Fin 1024, x0 (ix2 r k) * x1 (ix2 j k)) := by
  unfold out0_2
  rw [View.canon_unit_zero hz, View.ld_unit_zero (S := S1024x1024) hz, View.ld_unit_zero (S := S1024x1024) hz, pay1_apply]

/-- The reference's product at one element. -/
theorem ref_apply (x0 : Vec Ideal S4096x1024 .bf16) (x1 : Vec Ideal S1024x1024 .f32) (r : Fin 4096) (j : Fin 1024) :
    Cert.DoutRefIdeal.Read.val_main_v4 (F := Ideal) x0 x1 (ix2 r j) = (∑ k : Fin 1024, x0 (ix2 r k) * x1 (ix2 j k)) := by
  pointwise [Cert.DoutRefIdeal.Read.val_main_v4, Cert.DoutRefIdeal.Read.val_main_v3, Cert.DoutRefIdeal.Read.val_main_v2]

variable (m : (ℓ : Loc nD τ sig) → Buf (Elt Ideal) ℓ) (c : Dev nD)

/-- The arguments, as launched. -/
abbrev A0 : Vec Ideal S4096x1024 .bf16 := m ((c : Thread nD τ).loc main_arg0)
abbrev A1 : Vec Ideal S1024x1024 .f32 := m ((c : Thread nD τ).loc main_arg1)

theorem ix0 : ∀ t : Fin grid0.N, win0_0.index t 0 = t.val / 1 ∧ win0_0.index t 1 = 0 := by decide +kernel
theorem ix1 : ∀ t : Fin grid0.N, win0_1.index t 0 = t.val % 1 ∧ win0_1.index t 1 = 0 := by decide +kernel
theorem ixo : ∀ t : Fin grid0.N, win0_2.index t 0 = t.val / 1 ∧ win0_2.index t 1 = t.val % 1 := by decide +kernel
theorem flo : ∀ t : Fin grid0.N, (cfg0.win 2).flush t = true := by decide +kernel

theorem ltN (t : Fin cfg0.N) : t.val < 4 := by have : cfg0.N = 4 := N_0; have := t.isLt; omega

/-- Row `r` and column `j` of block `t`. -/
abbrev row (t : Fin cfg0.N) (r : Fin 1024) : Fin 4096 := ⟨1024 * (t.val / 1) + r.val, by have := ltN t; omega⟩
abbrev col (t : Fin cfg0.N) (j : Fin 1024) : Fin 1024 := ⟨1024 * (t.val % 1) + j.val, by omega⟩

theorem iblk0 (t : Fin cfg0.N) (r : Fin 1024) (k : Fin 1024) : (iblk m c 0 t : Vec Ideal S1024x1024 .bf16) (ix2 r k) = A0 m c (ix2 (row t r) k) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = 1024 * (t.val / 1) + r.val; rw [(ix0 t).1]; omega
  | ⟨1, _⟩ => show win0_0.index t 1 * 1024 + 1 * k.val = k.val; rw [(ix0 t).2]; omega

/-- The weight as the launch finds it. -/
theorem V_w (j : Fin 1024) (k : Fin 1024) : (V m c main_v0 : Vec Ideal S1024x1024 .bf16) (ix2 j k) = A1 m c (ix2 j k) := by
  unfold V
  after_reads_at

theorem iblk1 (t : Fin cfg0.N) (j : Fin 1024) (k : Fin 1024) : (iblk m c 1 t : Vec Ideal S1024x1024 .bf16) (ix2 j k) = A1 m c (ix2 (col t j) k) := by
  refine Eq.trans ?_ (V_w m c (col t j) k)
  unfold iblk
  rw [View.read_apply]
  show V m c main_v0 _ = V m c main_v0 _
  congr 1
  funext a
  apply Fin.ext
  match a with
  | ⟨0, _⟩ => show win0_1.index t 0 * 1024 + 1 * j.val = 1024 * (t.val % 1) + j.val; rw [(ix1 t).1]; omega
  | ⟨1, _⟩ => show win0_1.index t 1 * 1024 + 1 * k.val = k.val; rw [(ix1 t).2]; omega

/-- The whole result: the reference's. -/
abbrev G : Vec Ideal S4096x1024 .bf16 := Cert.DoutRefIdeal.Read.val_main_v4 (F := Ideal) (A0 m c) (A1 m c)

theorem arr : ((dats m 0 c).arrAt 2 cfg0.N : Vec Ideal S4096x1024 .bf16) = G m c := by
  refine (dats m 0 c).arrAt_eq_of_cover 2 (G m c) (fun t _ => ?_) (fun i => ?_)
  · rw [Value.flushed2]
    funext y
    idx_vars y
    refine (out_apply (iblk m c 0 t) (iblk m c 1 t) y0 y1).trans ?_
    simp only [iblk0, iblk1]
    rw [View.read_apply]
    show _ = G m c _
    have e : ((cfg0.win 2).blk t).view.emb (ix2 y0 y1) = (ix2 (row t y0) (col t y1) : S4096x1024.Idx) := by
      funext a
      apply Fin.ext
      match a with
      | ⟨0, _⟩ => show win0_2.index t 0 * 1024 + 1 * y0.val = 1024 * (t.val / 1) + y0.val; rw [(ixo t).1]; omega
      | ⟨1, _⟩ => show win0_2.index t 1 * 1024 + 1 * y1.val = 1024 * (t.val % 1) + y1.val; rw [(ixo t).2]; omega
    exact (ref_apply (A0 m c) (A1 m c) (row t y0) (col t y1)).symm.trans (congrArg (G m c) e.symm)
  · have h0 : (i 0).val < 4096 := (i 0).isLt
    have h1 : (i 1).val < 1024 := (i 1).isLt
    have hN : cfg0.N = 4 := N_0
    have hN' : grid0.N = 4 := N_0
    have hd : 1 * ((i 0).val / 1024) + (i 1).val / 1024 < 4 := by omega
    refine ⟨⟨1 * ((i 0).val / 1024) + (i 1).val / 1024, by omega⟩, flo _, ?_⟩
    rw [View.set_slice_whole, Rect.mem_set_unit]
    intro a
    match a with
    | ⟨0, _⟩ =>
      have e := (ixo ⟨1 * ((i 0).val / 1024) + (i 1).val / 1024, by omega⟩).1
      show win0_2.index _ 0 * 1024 ≤ (i 0).val ∧ (i 0).val < win0_2.index _ 0 * 1024 + 1024
      rw [e, show (1 * ((i 0).val / 1024) + (i 1).val / 1024) / 1 = (i 0).val / 1024 by omega]
      omega
    | ⟨1, _⟩ =>
      have e := (ixo ⟨1 * ((i 0).val / 1024) + (i 1).val / 1024, by omega⟩).2
      show win0_2.index _ 1 * 1024 ≤ (i 1).val ∧ (i 1).val < win0_2.index _ 1 * 1024 + 1024
      rw [e, show (1 * ((i 0).val / 1024) + (i 1).val / 1024) % 1 = (i 1).val / 1024 by omega]
      omega

/-- The product's reference ends, keeps its arguments and declares no semaphore. -/
theorem quiet : Cert.quiescent_DoutRefIdeal := fun m ρ _ =>
  (θ_run Cert.DoutRefIdeal.defs _ _).mono (fun r h => ⟨fun c => (h c).2, sem_eq_zero_of_no_sems (by decide) r.2⟩)
    (Cert.DoutRefIdeal.Value.run (F := Ideal) m ρ)

theorem equal : Cert.algebraic_DoutIdeal_DoutRefIdeal := by
  intro m g m' g' _ hm
  refine ⟨fun c => G m c, ?_, ?_⟩
  · exact (θ_run _ _ _).mono (fun r h c => ⟨(h c).1.trans (arr m c), (h c).2⟩) (Cert.DoutIdeal.Value.run_blocks (F := Ideal) m g)
  · refine (θ_run _ _ _).mono (fun r h c => ?_) (Cert.DoutRefIdeal.Value.run (F := Ideal) m' g')
    obtain ⟨h0, hargs⟩ := h c
    obtain ⟨e0, e1⟩ := hm c
    refine ⟨h0.trans ?_, hargs⟩
    rw [e0, e1]
    exact Cert.DoutRefIdeal.Read.val_main_v4_eq _ _

end Cert.DoutP

end
-- ==== Proof.ProdMixIn.lean ====
/-
  The mixer's first product: the rows of the step's input against the columns of the mixer's weight, block by block, is
  the reference's product.
-/
module

public import proofs.«01_k».proof.Proof.Gen.MixInIdeal.Value
public import proofs.«01_k».proof.Proof.Gen.MixInRefIdeal.Run
public import proofs.«01_k».proof.Proof.Gen.MixInRefIdeal.Read
public import proofs.«01_k».proof.Proof.Gen.MixInIdeal.Skeleton
public import proofs.«01_k».proof.Defs
public import Idealize.ShloMosaic.Lib.Tactic
public import Idealize.ShloMosaic.Lib.Pointwise
public import Idealize.ShloMosaic.Lib.StableHlo.ReadAt
public import Idealize.ShloMosaic.Lib.Pipeline.Value
public import Idealize.ShloMosaic.Lib.Claim

@[expose] public section

set_option maxRecDepth 16384

noncomputable section

namespace Cert.MixInP

open Idealize.ShloMosaic Idealize.ShloMosaic.TcCoe Idealize.SL.Sem
open Cert.MixInIdeal Cert.MixInIdeal.Gen
open Idealize.ShloMosaic.Pipeline (Dat)

theorem hz : (![0, 0] : Fin 2 → Nat) = fun _ => 0 := funext fun a => by fin_cases a <;> rfl

/-- One block of the product: every row of the first against every row of the second. -/
theorem pay1_apply (x0 : Vec Ideal S1024x1024 .f32) (x1 : Vec Ideal S1024x1024 .bf16) (r : Fin 1024) (j : Fin 1024) :
    k0_pay1 (F := Ideal) x0 x1 (ix2 r j) = (∑ k : Fin 1024, x0 (ix2 r k) * x1 (ix2 j k)) := by
  pointwise [k0_pay1]

theorem out_apply (x0 : Vec Ideal S1024x1024 .f32) (x1 : Vec Ideal S1024x1024 .bf16) (r : Fin 1024) (j : Fin 1024) :
    out0_2 (F := Ideal) x0 x1 (ix2 r j) = (∑ k : Fin 1024, x0 (ix2 r k) * x1 (ix2 j k)) := by
  unfold out0_2
  rw [View.canon_unit_zero hz, View.ld_unit_zero (S := S1024x1024) hz, View.ld_unit_zero (S := S1024x1024) hz, pay1_apply]

/-- The reference's product at one element. -/
theorem ref_apply (x0 : Vec Ideal S4096x1024 .f32) (x1 : Vec Ideal S1024x2048 .f32) (r : Fin 4096) (j : Fin 2048) :
    Cert.MixInRefIdeal.Read.val_main_v1 (F := Ideal) x0 x1 (ix2 r j) = (∑ k : Fin 1024, x0 (ix2 r k) * x1 (ix2 k j)) := by
  pointwise [Cert.MixInRefIdeal.Read.val_main_v1, Cert.MixInRefIdeal.Read.val_main_v0]

variable (m : (ℓ : Loc nD τ sig) → Buf (Elt Ideal) ℓ) (c : Dev nD)

/-- The arguments, as launched. -/
abbrev A0 : Vec Ideal S4096x1024 .f32 := m ((c : Thread nD τ).loc main_arg0)
abbrev A1 : Vec Ideal S1024x2048 .f32 := m ((c : Thread nD τ).loc main_arg1)

theorem ix0 : ∀ t : Fin grid0.N, win0_0.index t 0 = t.val / 2 ∧ win0_0.index t 1 = 0 := by decide +kernel
theorem ix1 : ∀ t : Fin grid0.N, win0_1.index t 0 = t.val % 2 ∧ win0_1.index t 1 = 0 := by decide +kernel
theorem ixo : ∀ t : Fin grid0.N, win0_2.index t 0 = t.val / 2 ∧ win0_2.index t 1 = t.val % 2 := by decide +kernel
theorem flo : ∀ t : Fin grid0.N, (cfg0.win 2).flush t = true := by decide +kernel

theorem ltN (t : Fin cfg0.N) : t.val < 8 := by have : cfg0.N = 8 := N_0; have := t.isLt; omega

/-- Row `r` and column `j` of block `t`. -/
abbrev row (t : Fin cfg0.N) (r : Fin 1024) : Fin 4096 := ⟨1024 * (t.val / 2) + r.val, by have := ltN t; omega⟩
abbrev col (t : Fin cfg0.N) (j : Fin 1024) : Fin 2048 := ⟨1024 * (t.val % 2) + j.val, by omega⟩

theorem iblk0 (t : Fin cfg0.N) (r : Fin 1024) (k : Fin 1024) : (iblk m c 0 t : Vec Ideal S1024x1024 .f32) (ix2 r k) = A0 m c (ix2 (row t r) k) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = 1024 * (t.val / 2) + r.val; rw [(ix0 t).1]; omega
  | ⟨1, _⟩ => show win0_0.index t 1 * 1024 + 1 * k.val = k.val; rw [(ix0 t).2]; omega

/-- The weight as the launch finds it. -/
theorem V_w (j : Fin 2048) (k : Fin 1024) : (V m c main_v1 : Vec Ideal S2048x1024 .bf16) (ix2 j k) = A1 m c (ix2 k j) := by
  unfold V
  after_reads_at

theorem iblk1 (t : Fin cfg0.N) (j : Fin 1024) (k : Fin 1024) : (iblk m c 1 t : Vec Ideal S1024x1024 .bf16) (ix2 j k) = A1 m c (ix2 k (col t j)) := by
  refine Eq.trans ?_ (V_w m c (col t j) k)
  unfold iblk
  rw [View.read_apply]
  show V m c main_v1 _ = V m c main_v1 _
  congr 1
  funext a
  apply Fin.ext
  match a with
  | ⟨0, _⟩ => show win0_1.index t 0 * 1024 + 1 * j.val = 1024 * (t.val % 2) + j.val; rw [(ix1 t).1]; omega
  | ⟨1, _⟩ => show win0_1.index t 1 * 1024 + 1 * k.val = k.val; rw [(ix1 t).2]; omega

/-- The whole result: the reference's. -/
abbrev G : Vec Ideal S4096x2048 .bf16 := Cert.MixInRefIdeal.Read.val_main_v1 (F := Ideal) (A0 m c) (A1 m c)

theorem arr : ((dats m 0 c).arrAt 2 cfg0.N : Vec Ideal S4096x2048 .bf16) = G m c := by
  refine (dats m 0 c).arrAt_eq_of_cover 2 (G m c) (fun t _ => ?_) (fun i => ?_)
  · rw [Value.flushed2]
    funext y
    idx_vars y
    refine (out_apply (iblk m c 0 t) (iblk m c 1 t) y0 y1).trans ?_
    simp only [iblk0, iblk1]
    rw [View.read_apply]
    show _ = G m c _
    have e : ((cfg0.win 2).blk t).view.emb (ix2 y0 y1) = (ix2 (row t y0) (col t y1) : S4096x2048.Idx) := by
      funext a
      apply Fin.ext
      match a with
      | ⟨0, _⟩ => show win0_2.index t 0 * 1024 + 1 * y0.val = 1024 * (t.val / 2) + y0.val; rw [(ixo t).1]; omega
      | ⟨1, _⟩ => show win0_2.index t 1 * 1024 + 1 * y1.val = 1024 * (t.val % 2) + y1.val; rw [(ixo t).2]; omega
    exact (ref_apply (A0 m c) (A1 m c) (row t y0) (col t y1)).symm.trans (congrArg (G m c) e.symm)
  · have h0 : (i 0).val < 4096 := (i 0).isLt
    have h1 : (i 1).val < 2048 := (i 1).isLt
    have hN : cfg0.N = 8 := N_0
    have hN' : grid0.N = 8 := N_0
    have hd : 2 * ((i 0).val / 1024) + (i 1).val / 1024 < 8 := by omega
    refine ⟨⟨2 * ((i 0).val / 1024) + (i 1).val / 1024, by omega⟩, flo _, ?_⟩
    rw [View.set_slice_whole, Rect.mem_set_unit]
    intro a
    match a with
    | ⟨0, _⟩ =>
      have e := (ixo ⟨2 * ((i 0).val / 1024) + (i 1).val / 1024, by omega⟩).1
      show win0_2.index _ 0 * 1024 ≤ (i 0).val ∧ (i 0).val < win0_2.index _ 0 * 1024 + 1024
      rw [e, show (2 * ((i 0).val / 1024) + (i 1).val / 1024) / 2 = (i 0).val / 1024 by omega]
      omega
    | ⟨1, _⟩ =>
      have e := (ixo ⟨2 * ((i 0).val / 1024) + (i 1).val / 1024, by omega⟩).2
      show win0_2.index _ 1 * 1024 ≤ (i 1).val ∧ (i 1).val < win0_2.index _ 1 * 1024 + 1024
      rw [e, show (2 * ((i 0).val / 1024) + (i 1).val / 1024) % 2 = (i 1).val / 1024 by omega]
      omega

/-- The product's reference ends, keeps its arguments and declares no semaphore. -/
theorem quiet : Cert.quiescent_MixInRefIdeal := fun m ρ _ =>
  (θ_run Cert.MixInRefIdeal.defs _ _).mono (fun r h => ⟨fun c => (h c).2, sem_eq_zero_of_no_sems (by decide) r.2⟩)
    (Cert.MixInRefIdeal.Value.run (F := Ideal) m ρ)

theorem equal : Cert.algebraic_MixInIdeal_MixInRefIdeal := by
  intro m g m' g' _ hm
  refine ⟨fun c => G m c, ?_, ?_⟩
  · exact (θ_run _ _ _).mono (fun r h c => ⟨(h c).1.trans (arr m c), (h c).2⟩) (Cert.MixInIdeal.Value.run_blocks (F := Ideal) m g)
  · refine (θ_run _ _ _).mono (fun r h c => ?_) (Cert.MixInRefIdeal.Value.run (F := Ideal) m' g')
    obtain ⟨h0, hargs⟩ := h c
    obtain ⟨e0, e1⟩ := hm c
    refine ⟨h0.trans ?_, hargs⟩
    rw [e0, e1]
    exact Cert.MixInRefIdeal.Read.val_main_v1_eq _ _

end Cert.MixInP

end
-- ==== Proof.ProdDx.lean ====
/-
  The gradient at the layer's input: the product of the incoming gradient with the projection's columns, added over two
  halves of the columns in a carried block, plus the scaled residual, is the reference's.
-/
module

public import proofs.«01_k».proof.Proof.Gen.DxIdeal.Value
public import proofs.«01_k».proof.Proof.Gen.DxRefIdeal.Run
public import proofs.«01_k».proof.Proof.Gen.DxRefIdeal.Read
public import proofs.«01_k».proof.Proof.Gen.DxIdeal.Skeleton
public import proofs.«01_k».proof.Defs
public import Idealize.ShloMosaic.Lib.Tactic
public import Idealize.ShloMosaic.Lib.Pointwise
public import Idealize.ShloMosaic.Lib.StableHlo.ReadAt
public import Idealize.ShloMosaic.Lib.Pipeline.Value
public import Idealize.ShloMosaic.Lib.Claim

@[expose] public section

set_option maxRecDepth 16384

noncomputable section

namespace Cert.DxP

open Idealize.ShloMosaic Idealize.ShloMosaic.TcCoe Idealize.SL.Sem
open Cert.DxIdeal Cert.DxIdeal.Gen
open Idealize.ShloMosaic.Pipeline (Dat)

theorem hz : (![0, 0] : Fin 2 → Nat) = fun _ => 0 := funext fun a => by fin_cases a <;> rfl

section terms
variable (c : Dev nD) (i : grid0.Coords)
  (a1 : Memref sig .tc .vmem S1024x1024 .bf16) (h1 : a1.IsWhole)
  (a2 : Memref sig .tc .vmem S1024x1024 .bf16) (h2 : a2.IsWhole)
  (a3 : Memref sig .tc .vmem S1024x1024 .f32) (h3 : a3.IsWhole)
  (a4 : Memref sig .tc .vmem S1024x1024 .f32) (h4 : a4.IsWhole)
  (a5 : Memref sig .tc .vmem S1024x1024 .f32) (h5 : a5.IsWhole)
  (x0 : Vec Ideal S1024x1024 .bf16) (x1 : Vec Ideal S1024x1024 .bf16) (x2 : Vec Ideal S1024x1024 .f32) (s : Vec Ideal S1024x1024 .f32)

theorem soutA (hc0 : cond0_0 i) (hc1 : ¬cond0_1 i) : sout0_A_0 (F := Ideal) c i a1 h1 a2 h2 a3 h3 a4 h4 a5 h5 hc0 hc1 x0 x1 x2 = k0_pay2 k0_pay1 x0 x1 := by
  unfold sout0_A_0
  rw [View.read_writes_eq_canon _ _ _ (scover0_A_0 (F := Ideal) c i a1 h1 a2 h2 a3 h3 a4 h4 a5 h5 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h1.read_unread, h2.read_unread, h3.read_unread, h4.read_unread, h5.read_unread, View.ld_unit_zero (S := S1024x1024) hz]

theorem outB (hc0 : ¬cond0_0 i) (hc1 : cond0_1 i) : out0_B_3 (F := Ideal) c i a1 h1 a2 h2 a3 h3 a4 h4 a5 h5 hc0 hc1 x0 x1 x2 s = k0_pay3 (k0_pay2 s x0 x1) x2 := by
  unfold out0_B_3
  rw [View.read_writes_eq_canon _ _ _ (cover0_B_3 (F := Ideal) c i a1 h1 a2 h2 a3 h3 a4 h4 a5 h5 hc0 hc1 x0 x1 x2 s)]
  unfold kernelRun0_B
  dsimp only
  sl_unfold_words
  rw [View.canon_unit_zero hz, View.readCov_unit_zero (S := S1024x1024) _ hz]
  simp only [View.readAt_eq_ld, h1.read_unread, h2.read_unread, h3.read_unread, h4.read_unread, h5.read_unread, View.ld_unit_zero (S := S1024x1024) hz]

end terms

theorem pay1_apply (p q : Fin 1024) : k0_pay1 (F := Ideal) (ix2 p q) = 0 := by pointwise [k0_pay1]

/-- One block's product, added to what was there. -/
theorem pay2_apply (s : Vec Ideal S1024x1024 .f32) (x y : Vec Ideal S1024x1024 .bf16) (p q : Fin 1024) :
    k0_pay2 (F := Ideal) s x y (ix2 p q) = s (ix2 p q) + ∑ k : Fin 1024, x (ix2 p k) * y (ix2 k q) := by
  pointwise [k0_pay2]

theorem pay3_apply (s x : Vec Ideal S1024x1024 .f32) (p q : Fin 1024) :
    k0_pay3 (F := Ideal) s x (ix2 p q) = s (ix2 p q) + Ideal.ofBits .f32 0x3FB504F3#32 * x (ix2 p q) := by pointwise [k0_pay3]

/-- Two blocks of 1024 are 2048. -/
theorem sum_two (f : Fin 2048 → EReal) : (∑ k : Fin 1024, f ⟨k.val, by omega⟩) + ∑ k : Fin 1024, f ⟨1024 + k.val, by omega⟩ = ∑ k, f k :=
  (Fin.sum_univ_add (a := 1024) (b := 1024) f).symm

/-- The reference at one element. -/
theorem ref_apply (x0 : Vec Ideal S4096x2048 .bf16) (x1 : Vec Ideal S1024x2048 .f32) (x2 : Vec Ideal S4096x1024 .f32) (p : Fin 4096) (q : Fin 1024) :
    Cert.DxRefIdeal.Read.val_main_v8 (F := Ideal) x0 x1 x2 (ix2 p q)
      = (∑ k : Fin 2048, x0 (ix2 p k) * x1 (ix2 q k)) + Ideal.ofBits .f32 0x3FB504F3#32 * x2 (ix2 p q) := by
  pointwise [Cert.DxRefIdeal.Read.val_main_v8, Cert.DxRefIdeal.Read.val_main_v7, Cert.DxRefIdeal.Read.val_main_v6, Cert.DxRefIdeal.Read.val_main_v5, Cert.DxRefIdeal.Read.val_main_v4, Cert.DxRefIdeal.Read.val_main_cst_1]

variable (m : (ℓ : Loc nD τ sig) → Buf (Elt Ideal) ℓ) (c : Dev nD)

/-- The arguments, as launched. -/
abbrev A0 : Vec Ideal S4096x2048 .bf16 := m ((c : Thread nD τ).loc main_arg0)
abbrev A1 : Vec Ideal S1024x2048 .f32 := m ((c : Thread nD τ).loc main_arg1)
abbrev A2 : Vec Ideal S4096x1024 .f32 := m ((c : Thread nD τ).loc main_arg2)

/-- The weight as the launch finds it: transposed. -/
theorem V_w (k : Fin 2048) (j : Fin 1024) : (V m c main_v1 : Vec Ideal S2048x1024 .bf16) (ix2 k j) = A1 m c (ix2 j k) := by
  unfold V
  after_reads_at

theorem jx0 : ∀ t : Fin grid0.N, win0_0.index t 0 = t.val / 2 ∧ win0_0.index t 1 = t.val % 2 := by decide +kernel

theorem iblk0 (t : Fin cfg0.N) (k : Fin 1024) (l : Fin 1024) (K : Fin 4096) (L : Fin 2048) (hK : K.val = 1024 * (t.val / 2) + k.val) (hL : L.val = 1024 * (t.val % 2) + l.val) :
    (iblk m c 0 t : Vec Ideal S1024x1024 .bf16) (ix2 k l) = A0 m c (ix2 K L) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * k.val = K.val; rw [(jx0 t).1, hK]; omega
  | ⟨1, _⟩ => show win0_0.index t 1 * 1024 + 1 * l.val = L.val; rw [(jx0 t).2, hL]; omega
theorem jx1 : ∀ t : Fin grid0.N, win0_1.index t 0 = t.val % 2 ∧ win0_1.index t 1 = 0 := by decide +kernel

theorem iblk1 (t : Fin cfg0.N) (k : Fin 1024) (l : Fin 1024) (K : Fin 2048) (L : Fin 1024) (hK : K.val = 1024 * (t.val % 2) + k.val) (hL : L.val = 1024 * (0) + l.val) :
    (iblk m c 1 t : Vec Ideal S1024x1024 .bf16) (ix2 k l) = A1 m c (ix2 L K) := by
  refine Eq.trans ?_ (V_w m c K L)
  unfold iblk
  rw [View.read_apply]
  show V m c main_v1 _ = V m c main_v1 _
  congr 1
  funext a
  apply Fin.ext
  match a with
  | ⟨0, _⟩ => show win0_1.index t 0 * 1024 + 1 * k.val = K.val; rw [(jx1 t).1, hK]; omega
  | ⟨1, _⟩ => show win0_1.index t 1 * 1024 + 1 * l.val = L.val; rw [(jx1 t).2, hL]; omega
theorem jx2 : ∀ t : Fin grid0.N, win0_2.index t 0 = t.val / 2 ∧ win0_2.index t 1 = 0 := by decide +kernel

theorem iblk2 (t : Fin cfg0.N) (k : Fin 1024) (l : Fin 1024) (K : Fin 4096) (L : Fin 1024) (hK : K.val = 1024 * (t.val / 2) + k.val) (hL : L.val = 1024 * (0) + l.val) :
    (iblk m c 2 t : Vec Ideal S1024x1024 .f32) (ix2 k l) = A2 m c (ix2 K L) := by
  unfold iblk
  rw [View.read_apply]
  show V m c main_arg2 _ = m (c.tc.loc main_arg2) _
  rw [V_main_arg2]
  congr 1
  funext a
  apply Fin.ext
  match a with
  | ⟨0, _⟩ => show win0_2.index t 0 * 1024 + 1 * k.val = K.val; rw [(jx2 t).1, hK]; omega
  | ⟨1, _⟩ => show win0_2.index t 1 * 1024 + 1 * l.val = L.val; rw [(jx2 t).2, hL]; omega

theorem outs (t : Fin cfg0.N) (ht : t.val % 2 = 1) (p q : Fin 1024) (P : Fin 4096) (Q : Fin 1024) (hP : P.val = 1024 * (t.val / 2) + p.val)
    (hQ : Q.val = 1024 * 0 + q.val) :
    ((outsAt0 m c t.val t.isLt).1 : Vec Ideal S1024x1024 .f32) (ix2 p q) = Cert.DxRefIdeal.Read.val_main_v8 (F := Ideal) (A0 m c) (A1 m c) (A2 m c) (ix2 P Q) := by
  have hlt : t.val - 1 < cfg0.N := Nat.lt_of_le_of_lt (Nat.sub_le _ _) t.isLt
  have e := outsAt0_A m c ⟨t.val - 1, hlt⟩ (by first | omega | (dsimp only; omega)) (by first | omega | (dsimp only; omega))
  dsimp only at e
  rw [outsAt0_B m c t (by omega) ht]
  dsimp only
  rw [outB, e]
  dsimp only
  rw [soutA, pay3_apply, pay2_apply, pay2_apply, pay1_apply, zero_add, ref_apply, ← sum_two]
  refine congrArg₂ (· + ·) (congrArg₂ (· + ·) (Finset.sum_congr rfl fun k _ => congrArg₂ (· * ·) ?_ ?_)
    (Finset.sum_congr rfl fun k _ => congrArg₂ (· * ·) ?_ ?_)) (congrArg (_ * ·) ?_)
  · exact iblk0 m c _ p k P _ (by first | omega | (dsimp only; omega)) (by first | omega | (dsimp only; omega))
  · exact iblk1 m c _ k q _ Q (by first | omega | (dsimp only; omega)) (by first | omega | (dsimp only; omega))
  · exact iblk0 m c t p k P _ (by omega) (by first | omega | (dsimp only; omega))
  · exact iblk1 m c t k q _ Q (by first | omega | (dsimp only; omega)) (by omega)
  · exact iblk2 m c t p q P Q (by omega) (by omega)

theorem ixo : ∀ t : Fin grid0.N, win0_3.index t 0 = t.val / 2 ∧ win0_3.index t 1 = 0 := by decide +kernel

/-- The whole result: the reference's. -/
abbrev G : Vec Ideal S4096x1024 .f32 := Cert.DxRefIdeal.Read.val_main_v8 (F := Ideal) (A0 m c) (A1 m c) (A2 m c)

theorem arr : ((dats m 0 c).arrAt 3 cfg0.N : Vec Ideal S4096x1024 .f32) = G m c := by
  have hN : cfg0.N = 8 := N_0
  have hN' : grid0.N = 8 := N_0
  refine (dats m 0 c).arrAt_eq_of_cover 3 (G m c) (fun t ht => ?_) (fun i => ?_)
  · have hlt := t.isLt
    rw [Value.flushed3]
    funext y
    idx_vars y
    have e : ((cfg0.win 3).blk t).view.emb (ix2 y0 y1) = (ix2 ⟨1024 * (t.val / 2) + y0.val, by omega⟩ ⟨1024 * (0) + y1.val, by omega⟩ : S4096x1024.Idx) := by
      funext a
      apply Fin.ext
      match a with
      | ⟨0, _⟩ => show win0_3.index t 0 * 1024 + 1 * y0.val = 1024 * (t.val / 2) + y0.val; rw [(ixo t).1]; omega
      | ⟨1, _⟩ => show win0_3.index t 1 * 1024 + 1 * y1.val = 1024 * (0) + y1.val; rw [(ixo t).2]; omega
    refine (outs m c t ((flush0_3 t).mp ht) y0 y1 ⟨1024 * (t.val / 2) + y0.val, by omega⟩ ⟨1024 * (0) + y1.val, by omega⟩ rfl rfl).trans ?_
    rw [View.read_apply]
    exact congrArg (G m c) e.symm
  · have h0 : (i 0).val < 4096 := (i 0).isLt
    have h1 : (i 1).val < 1024 := (i 1).isLt
    refine ⟨⟨2 * ((i 0).val / 1024) + 1, by omega⟩, (flush0_3 _).mpr (by first | omega | (dsimp only; omega)), ?_⟩
    rw [View.set_slice_whole, Rect.mem_set_unit]
    intro a
    match a with
    | ⟨0, _⟩ =>
      have e := (ixo ⟨2 * ((i 0).val / 1024) + 1, by omega⟩).1
      show win0_3.index _ 0 * 1024 ≤ (i 0).val ∧ (i 0).val < win0_3.index _ 0 * 1024 + 1024
      rw [e, show (2 * ((i 0).val / 1024) + 1) / 2 = (i 0).val / 1024 by omega]; omega
    | ⟨1, _⟩ =>
      have e := (ixo ⟨2 * ((i 0).val / 1024) + 1, by omega⟩).2
      show win0_3.index _ 1 * 1024 ≤ (i 1).val ∧ (i 1).val < win0_3.index _ 1 * 1024 + 1024
      rw [e]; omega

/-- The product's reference ends, keeps its arguments and declares no semaphore. -/
theorem quiet : Cert.quiescent_DxRefIdeal := fun m ρ _ =>
  (θ_run Cert.DxRefIdeal.defs _ _).mono (fun r h => ⟨fun c => (h c).2, sem_eq_zero_of_no_sems (by decide) r.2⟩)
    (Cert.DxRefIdeal.Value.run (F := Ideal) m ρ)

theorem equal : Cert.algebraic_DxIdeal_DxRefIdeal := by
  intro m g m' g' _ hm
  refine ⟨fun c => G m c, ?_, ?_⟩
  · exact (θ_run _ _ _).mono (fun r h c => ⟨(h c).1.trans (arr m c), (h c).2⟩) (Cert.DxIdeal.Value.run_blocks (F := Ideal) m g)
  · refine (θ_run _ _ _).mono (fun r h c => ?_) (Cert.DxRefIdeal.Value.run (F := Ideal) m' g')
    obtain ⟨h0, hargs⟩ := h c
    obtain ⟨e0, e1, e2⟩ := hm c
    refine ⟨h0.trans ?_, hargs⟩
    rw [e0, e1, e2]
    exact Cert.DxRefIdeal.Read.val_main_v8_eq _ _ _

end Cert.DxP

end
-- ==== Proof.ProdUp.lean ====
/-
  The feed-forward's first product: the rows of the normed activations against the columns of the up weight, block by
  block, is the reference's product.
-/
module

public import proofs.«01_k».proof.Proof.Gen.UpIdeal.Value
public import proofs.«01_k».proof.Proof.Gen.UpRefIdeal.Run
public import proofs.«01_k».proof.Proof.Gen.UpRefIdeal.Read
public import proofs.«01_k».proof.Proof.Gen.UpIdeal.Skeleton
public import proofs.«01_k».proof.Defs
public import Idealize.ShloMosaic.Lib.Tactic
public import Idealize.ShloMosaic.Lib.Pointwise
public import Idealize.ShloMosaic.Lib.StableHlo.ReadAt
public import Idealize.ShloMosaic.Lib.Pipeline.Value
public import Idealize.ShloMosaic.Lib.Claim

@[expose] public section

set_option maxRecDepth 16384

noncomputable section

namespace Cert.UpP

open Idealize.ShloMosaic Idealize.ShloMosaic.TcCoe Idealize.SL.Sem
open Cert.UpIdeal Cert.UpIdeal.Gen
open Idealize.ShloMosaic.Pipeline (Dat)

theorem hz : (![0, 0] : Fin 2 → Nat) = fun _ => 0 := funext fun a => by fin_cases a <;> rfl

/-- One block of the product: every row of the first against every row of the second. -/
theorem pay1_apply (x0 : Vec Ideal S2048x1024 .bf16) (x1 : Vec Ideal S1408x1024 .bf16) (r : Fin 2048) (j : Fin 1408) :
    k0_pay1 (F := Ideal) x0 x1 (ix2 r j) = ∑ k : Fin 1024, x0 (ix2 r k) * x1 (ix2 j k) := by
  pointwise [k0_pay1]

theorem out2_apply (x0 : Vec Ideal S2048x1024 .bf16) (x1 : Vec Ideal S1408x1024 .bf16) (r : Fin 2048) (j : Fin 1408) :
    out0_2 (F := Ideal) x0 x1 (ix2 r j) = ∑ k : Fin 1024, x0 (ix2 r k) * x1 (ix2 j k) := by
  unfold out0_2
  rw [View.canon_unit_zero hz, View.ld_unit_zero (S := S2048x1024) hz, View.ld_unit_zero (S := S1408x1024) hz, pay1_apply]

/-- The reference's product at one element. -/
theorem ref_apply (x0 : Vec Ideal S4096x1024 .bf16) (x1 : Vec Ideal S1024x5632 .f32) (r : Fin 4096) (j : Fin 5632) :
    Cert.UpRefIdeal.Read.val_main_v2 (F := Ideal) x0 x1 (ix2 r j) = ∑ k : Fin 1024, x0 (ix2 r k) * x1 (ix2 k j) := by
  pointwise [Cert.UpRefIdeal.Read.val_main_v2, Cert.UpRefIdeal.Read.val_main_v1, Cert.UpRefIdeal.Read.val_main_v0]

variable (m : (ℓ : Loc nD τ sig) → Buf (Elt Ideal) ℓ) (c : Dev nD)

/-- The arguments, as launched. -/
abbrev A0 : Vec Ideal S4096x1024 .bf16 := m ((c : Thread nD τ).loc main_arg0)
abbrev A1 : Vec Ideal S1024x5632 .f32 := m ((c : Thread nD τ).loc main_arg1)

theorem ix0 : ∀ t : Fin grid0.N, win0_0.index t 0 = t.val / 4 ∧ win0_0.index t 1 = 0 := by decide +kernel
theorem ix1 : ∀ t : Fin grid0.N, win0_1.index t 0 = t.val % 4 ∧ win0_1.index t 1 = 0 := by decide +kernel
theorem ixo : ∀ t : Fin grid0.N, win0_2.index t 0 = t.val / 4 ∧ win0_2.index t 1 = t.val % 4 := by decide +kernel
theorem flo : ∀ t : Fin grid0.N, (cfg0.win 2).flush t = true := by decide +kernel

theorem ltN (t : Fin cfg0.N) : t.val < 8 := by have : cfg0.N = 8 := N_0; have := t.isLt; omega

/-- Row `r` and column `j` of block `t`. -/
abbrev row (t : Fin cfg0.N) (r : Fin 2048) : Fin 4096 := ⟨2048 * (t.val / 4) + r.val, by have := ltN t; omega⟩
abbrev col (t : Fin cfg0.N) (j : Fin 1408) : Fin 5632 := ⟨1408 * (t.val % 4) + j.val, by omega⟩

theorem iblk0 (t : Fin cfg0.N) (r : Fin 2048) (k : Fin 1024) : (iblk m c 0 t : Vec Ideal S2048x1024 .bf16) (ix2 r k) = A0 m c (ix2 (row t r) k) := by
  unfold iblk
  rw [View.read_apply]
  show V m c main_arg0 _ = m (c.tc.loc main_arg0) _
  rw [V_main_arg0]
  congr 1
  funext a
  apply Fin.ext
  match a with
  | ⟨0, _⟩ => show win0_0.index t 0 * 2048 + 1 * r.val = 2048 * (t.val / 4) + r.val; rw [(ix0 t).1]; omega
  | ⟨1, _⟩ => show win0_0.index t 1 * 1024 + 1 * k.val = k.val; rw [(ix0 t).2]; omega

/-- The weight as the launch finds it. -/
theorem V_w (j : Fin 5632) (k : Fin 1024) : (V m c main_v1 : Vec Ideal S5632x1024 .bf16) (ix2 j k) = A1 m c (ix2 k j) := by
  unfold V
  after_reads_at

theorem iblk1 (t : Fin cfg0.N) (j : Fin 1408) (k : Fin 1024) : (iblk m c 1 t : Vec Ideal S1408x1024 .bf16) (ix2 j k) = A1 m c (ix2 k (col t j)) := by
  refine Eq.trans ?_ (V_w m c (col t j) k)
  unfold iblk
  rw [View.read_apply]
  show V m c main_v1 _ = V m c main_v1 _
  congr 1
  funext a
  apply Fin.ext
  match a with
  | ⟨0, _⟩ => show win0_1.index t 0 * 1408 + 1 * j.val = 1408 * (t.val % 4) + j.val; rw [(ix1 t).1]; omega
  | ⟨1, _⟩ => show win0_1.index t 1 * 1024 + 1 * k.val = k.val; rw [(ix1 t).2]; omega

/-- The whole result: the reference's. -/
abbrev G : Vec Ideal S4096x5632 .bf16 := Cert.UpRefIdeal.Read.val_main_v2 (F := Ideal) (A0 m c) (A1 m c)

theorem cover_div {x J n : ℕ} : (x / n) * n ≤ x ∧ (0 < n → x < (x / n) * n + n) := ⟨Nat.div_mul_le_self x n, fun h => by
  have := Nat.lt_div_mul_add (a := x) h; omega⟩

theorem arr : ((dats m 0 c).arrAt 2 cfg0.N : Vec Ideal S4096x5632 .bf16) = G m c := by
  refine (dats m 0 c).arrAt_eq_of_cover 2 (G m c) (fun t _ => ?_) (fun i => ?_)
  · rw [Value.flushed2]
    funext y
    idx_vars y
    refine (out2_apply (iblk m c 0 t) (iblk m c 1 t) y0 y1).trans ?_
    simp only [iblk0, iblk1]
    rw [View.read_apply]
    show _ = G m c _
    have e : ((cfg0.win 2).blk t).view.emb (ix2 y0 y1) = (ix2 (row t y0) (col t y1) : S4096x5632.Idx) := by
      funext a
      apply Fin.ext
      match a with
      | ⟨0, _⟩ => show win0_2.index t 0 * 2048 + 1 * y0.val = 2048 * (t.val / 4) + y0.val; rw [(ixo t).1]; omega
      | ⟨1, _⟩ => show win0_2.index t 1 * 1408 + 1 * y1.val = 1408 * (t.val % 4) + y1.val; rw [(ixo t).2]; omega
    exact (ref_apply (A0 m c) (A1 m c) (row t y0) (col t y1)).symm.trans (congrArg (G m c) e.symm)
  · have h0 : (i 0).val < 4096 := (i 0).isLt
    have h1 : (i 1).val < 5632 := (i 1).isLt
    have hN : cfg0.N = 8 := N_0
    have hN' : grid0.N = 8 := N_0
    have hd : 4 * ((i 0).val / 2048) + (i 1).val / 1408 < 8 := by omega
    refine ⟨⟨4 * ((i 0).val / 2048) + (i 1).val / 1408, by omega⟩, flo _, ?_⟩
    rw [View.set_slice_whole, Rect.mem_set_unit]
    intro a
    match a with
    | ⟨0, _⟩ =>
      have e := (ixo ⟨4 * ((i 0).val / 2048) + (i 1).val / 1408, by omega⟩).1
      show win0_2.index _ 0 * 2048 ≤ (i 0).val ∧ (i 0).val < win0_2.index _ 0 * 2048 + 2048
      rw [e, show (4 * ((i 0).val / 2048) + (i 1).val / 1408) / 4 = (i 0).val / 2048 by omega]
      omega
    | ⟨1, _⟩ =>
      have e := (ixo ⟨4 * ((i 0).val / 2048) + (i 1).val / 1408, by omega⟩).2
      show win0_2.index _ 1 * 1408 ≤ (i 1).val ∧ (i 1).val < win0_2.index _ 1 * 1408 + 1408
      rw [e, show (4 * ((i 0).val / 2048) + (i 1).val / 1408) % 4 = (i 1).val / 1408 by omega]
      omega

/-- The product's reference ends, keeps its arguments and declares no semaphore. -/
theorem quiet : Cert.quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

theorem equal : Cert.algebraic_UpIdeal_UpRefIdeal := by
  intro m g m' g' _ hm
  refine ⟨fun c => G m c, ?_, ?_⟩
  · exact (θ_run _ _ _).mono (fun r h c => ⟨(h c).1.trans (arr m c), (h c).2⟩) (Cert.UpIdeal.Value.run_blocks (F := Ideal) m g)
  · refine (θ_run _ _ _).mono (fun r h c => ?_) (Cert.UpRefIdeal.Value.run (F := Ideal) m' g')
    obtain ⟨h0, hargs⟩ := h c
    obtain ⟨e0, e1⟩ := hm c
    refine ⟨h0.trans ?_, hargs⟩
    rw [e0, e1]
    exact Cert.UpRefIdeal.Read.val_main_v2_eq _ _

end Cert.UpP

end
-- ==== Proof.ProdDu.lean ====
/-
  The gradient at the feed-forward's inner activation: the incoming gradient against the rows of the down weight, block
  by block, is the reference's product.
-/
module

public import proofs.«01_k».proof.Proof.Gen.DuIdeal.Value
public import proofs.«01_k».proof.Proof.Gen.DuRefIdeal.Run
public import proofs.«01_k».proof.Proof.Gen.DuRefIdeal.Read
public import proofs.«01_k».proof.Proof.Gen.DuIdeal.Skeleton
public import proofs.«01_k».proof.Defs
public import Idealize.ShloMosaic.Lib.Tactic
public import Idealize.ShloMosaic.Lib.Pointwise
public import Idealize.ShloMosaic.Lib.StableHlo.ReadAt
public import Idealize.ShloMosaic.Lib.Pipeline.Value
public import Idealize.ShloMosaic.Lib.Claim

@[expose] public section

set_option maxRecDepth 16384

noncomputable section

namespace Cert.DuP

open Idealize.ShloMosaic Idealize.ShloMosaic.TcCoe Idealize.SL.Sem
open Cert.DuIdeal Cert.DuIdeal.Gen
open Idealize.ShloMosaic.Pipeline (Dat)

theorem hz : (![0, 0] : Fin 2 → Nat) = fun _ => 0 := funext fun a => by fin_cases a <;> rfl

/-- One block of the product: every row of the first against every row of the second. -/
theorem pay1_apply (x0 : Vec Ideal S2048x1024 .bf16) (x1 : Vec Ideal S1408x1024 .bf16) (r : Fin 2048) (j : Fin 1408) :
    k0_pay1 (F := Ideal) x0 x1 (ix2 r j) = ∑ k : Fin 1024, x0 (ix2 r k) * x1 (ix2 j k) := by
  pointwise [k0_pay1]

theorem out2_apply (x0 : Vec Ideal S2048x1024 .bf16) (x1 : Vec Ideal S1408x1024 .bf16) (r : Fin 2048) (j : Fin 1408) :
    out0_2 (F := Ideal) x0 x1 (ix2 r j) = ∑ k : Fin 1024, x0 (ix2 r k) * x1 (ix2 j k) := by
  unfold out0_2
  rw [View.canon_unit_zero hz, View.ld_unit_zero (S := S2048x1024) hz, View.ld_unit_zero (S := S1408x1024) hz, pay1_apply]

/-- The reference's product at one element. -/
theorem ref_apply (x0 : Vec Ideal S4096x1024 .bf16) (x1 : Vec Ideal S2816x1024 .f32) (r : Fin 4096) (j : Fin 2816) :
    Cert.DuRefIdeal.Read.val_main_v4 (F := Ideal) x0 x1 (ix2 r j) = ∑ k : Fin 1024, x0 (ix2 r k) * x1 (ix2 j k) := by
  pointwise [Cert.DuRefIdeal.Read.val_main_v4, Cert.DuRefIdeal.Read.val_main_v3, Cert.DuRefIdeal.Read.val_main_v2]

variable (m : (ℓ : Loc nD τ sig) → Buf (Elt Ideal) ℓ) (c : Dev nD)

/-- The arguments, as launched. -/
abbrev A0 : Vec Ideal S4096x1024 .bf16 := m ((c : Thread nD τ).loc main_arg0)
abbrev A1 : Vec Ideal S2816x1024 .f32 := m ((c : Thread nD τ).loc main_arg1)

theorem ix0 : ∀ t : Fin grid0.N, win0_0.index t 0 = t.val / 2 ∧ win0_0.index t 1 = 0 := by decide +kernel
theorem ix1 : ∀ t : Fin grid0.N, win0_1.index t 0 = t.val % 2 ∧ win0_1.index t 1 = 0 := by decide +kernel
theorem ixo : ∀ t : Fin grid0.N, win0_2.index t 0 = t.val / 2 ∧ win0_2.index t 1 = t.val % 2 := by decide +kernel
theorem flo : ∀ t : Fin grid0.N, (cfg0.win 2).flush t = true := by decide +kernel

theorem ltN (t : Fin cfg0.N) : t.val < 4 := by have : cfg0.N = 4 := N_0; have := t.isLt; omega

/-- Row `r` and column `j` of block `t`. -/
abbrev row (t : Fin cfg0.N) (r : Fin 2048) : Fin 4096 := ⟨2048 * (t.val / 2) + r.val, by have := ltN t; omega⟩
abbrev col (t : Fin cfg0.N) (j : Fin 1408) : Fin 2816 := ⟨1408 * (t.val % 2) + j.val, by omega⟩

theorem iblk0 (t : Fin cfg0.N) (r : Fin 2048) (k : Fin 1024) : (iblk m c 0 t : Vec Ideal S2048x1024 .bf16) (ix2 r k) = A0 m c (ix2 (row t r) k) := by
  unfold iblk
  rw [View.read_apply]
  show V m c main_arg0 _ = m (c.tc.loc main_arg0) _
  rw [V_main_arg0]
  congr 1
  funext a
  apply Fin.ext
  match a with
  | ⟨0, _⟩ => show win0_0.index t 0 * 2048 + 1 * r.val = 2048 * (t.val / 2) + r.val; rw [(ix0 t).1]; omega
  | ⟨1, _⟩ => show win0_0.index t 1 * 1024 + 1 * k.val = k.val; rw [(ix0 t).2]; omega

/-- The weight as the launch finds it. -/
theorem V_w (j : Fin 2816) (k : Fin 1024) : (V m c main_v0 : Vec Ideal S2816x1024 .bf16) (ix2 j k) = A1 m c (ix2 j k) := by
  unfold V
  after_reads_at

theorem iblk1 (t : Fin cfg0.N) (j : Fin 1408) (k : Fin 1024) : (iblk m c 1 t : Vec Ideal S1408x1024 .bf16) (ix2 j k) = A1 m c (ix2 (col t j) k) := by
  refine Eq.trans ?_ (V_w m c (col t j) k)
  unfold iblk
  rw [View.read_apply]
  show V m c main_v0 _ = V m c main_v0 _
  congr 1
  funext a
  apply Fin.ext
  match a with
  | ⟨0, _⟩ => show win0_1.index t 0 * 1408 + 1 * j.val = 1408 * (t.val % 2) + j.val; rw [(ix1 t).1]; omega
  | ⟨1, _⟩ => show win0_1.index t 1 * 1024 + 1 * k.val = k.val; rw [(ix1 t).2]; omega

/-- The whole result: the reference's. -/
abbrev G : Vec Ideal S4096x2816 .bf16 := Cert.DuRefIdeal.Read.val_main_v4 (F := Ideal) (A0 m c) (A1 m c)

theorem cover_div {x J n : ℕ} : (x / n) * n ≤ x ∧ (0 < n → x < (x / n) * n + n) := ⟨Nat.div_mul_le_self x n, fun h => by
  have := Nat.lt_div_mul_add (a := x) h; omega⟩

theorem arr : ((dats m 0 c).arrAt 2 cfg0.N : Vec Ideal S4096x2816 .bf16) = G m c := by
  refine (dats m 0 c).arrAt_eq_of_cover 2 (G m c) (fun t _ => ?_) (fun i => ?_)
  · rw [Value.flushed2]
    funext y
    idx_vars y
    refine (out2_apply (iblk m c 0 t) (iblk m c 1 t) y0 y1).trans ?_
    simp only [iblk0, iblk1]
    rw [View.read_apply]
    show _ = G m c _
    have e : ((cfg0.win 2).blk t).view.emb (ix2 y0 y1) = (ix2 (row t y0) (col t y1) : S4096x2816.Idx) := by
      funext a
      apply Fin.ext
      match a with
      | ⟨0, _⟩ => show win0_2.index t 0 * 2048 + 1 * y0.val = 2048 * (t.val / 2) + y0.val; rw [(ixo t).1]; omega
      | ⟨1, _⟩ => show win0_2.index t 1 * 1408 + 1 * y1.val = 1408 * (t.val % 2) + y1.val; rw [(ixo t).2]; omega
    exact (ref_apply (A0 m c) (A1 m c) (row t y0) (col t y1)).symm.trans (congrArg (G m c) e.symm)
  · have h0 : (i 0).val < 4096 := (i 0).isLt
    have h1 : (i 1).val < 2816 := (i 1).isLt
    have hN : cfg0.N = 4 := N_0
    have hN' : grid0.N = 4 := N_0
    have hd : 2 * ((i 0).val / 2048) + (i 1).val / 1408 < 4 := by omega
    refine ⟨⟨2 * ((i 0).val / 2048) + (i 1).val / 1408, by omega⟩, flo _, ?_⟩
    rw [View.set_slice_whole, Rect.mem_set_unit]
    intro a
    match a with
    | ⟨0, _⟩ =>
      have e := (ixo ⟨2 * ((i 0).val / 2048) + (i 1).val / 1408, by omega⟩).1
      show win0_2.index _ 0 * 2048 ≤ (i 0).val ∧ (i 0).val < win0_2.index _ 0 * 2048 + 2048
      rw [e, show (2 * ((i 0).val / 2048) + (i 1).val / 1408) / 2 = (i 0).val / 2048 by omega]
      omega
    | ⟨1, _⟩ =>
      have e := (ixo ⟨2 * ((i 0).val / 2048) + (i 1).val / 1408, by omega⟩).2
      show win0_2.index _ 1 * 1408 ≤ (i 1).val ∧ (i 1).val < win0_2.index _ 1 * 1408 + 1408
      rw [e, show (2 * ((i 0).val / 2048) + (i 1).val / 1408) % 2 = (i 1).val / 1408 by omega]
      omega

/-- The product's reference ends, keeps its arguments and declares no semaphore. -/
theorem quiet : Cert.quiescent_DuRefIdeal := fun m ρ _ =>
  (θ_run Cert.DuRefIdeal.defs _ _).mono (fun r h => ⟨fun c => (h c).2, sem_eq_zero_of_no_sems (by decide) r.2⟩)
    (Cert.DuRefIdeal.Value.run (F := Ideal) m ρ)

theorem equal : Cert.algebraic_DuIdeal_DuRefIdeal := by
  intro m g m' g' _ hm
  refine ⟨fun c => G m c, ?_, ?_⟩
  · exact (θ_run _ _ _).mono (fun r h c => ⟨(h c).1.trans (arr m c), (h c).2⟩) (Cert.DuIdeal.Value.run_blocks (F := Ideal) m g)
  · refine (θ_run _ _ _).mono (fun r h c => ?_) (Cert.DuRefIdeal.Value.run (F := Ideal) m' g')
    obtain ⟨h0, hargs⟩ := h c
    obtain ⟨e0, e1⟩ := hm c
    refine ⟨h0.trans ?_, hargs⟩
    rw [e0, e1]
    exact Cert.DuRefIdeal.Read.val_main_v4_eq _ _

end Cert.DuP

end
-- ==== Proof.ProdDwdown.lean ====
/-
  The down weight's gradient: the products of the columns of two halves of the rows, added in a carried block, are the
  reference's product over all rows.
-/
module

public import proofs.«01_k».proof.Proof.Gen.DwdownIdeal.Value
public import proofs.«01_k».proof.Proof.Gen.DwdownRefIdeal.Run
public import proofs.«01_k».proof.Proof.Gen.DwdownRefIdeal.Read
public import proofs.«01_k».proof.Proof.Gen.DwdownIdeal.Skeleton
public import proofs.«01_k».proof.Defs
public import Idealize.ShloMosaic.Lib.Tactic
public import Idealize.ShloMosaic.Lib.Pointwise
public import Idealize.ShloMosaic.Lib.StableHlo.ReadAt
public import Idealize.ShloMosaic.Lib.Pipeline.Value
public import Idealize.ShloMosaic.Lib.Claim

@[expose] public section

set_option maxRecDepth 16384

noncomputable section

namespace Cert.DwdownP

open Idealize.ShloMosaic Idealize.ShloMosaic.TcCoe Idealize.SL.Sem
open Cert.DwdownIdeal Cert.DwdownIdeal.Gen
open Idealize.ShloMosaic.Pipeline (Dat)

theorem hz : (![0, 0] : Fin 2 → Nat) = fun _ => 0 := funext fun a => by fin_cases a <;> rfl

section terms
variable (c : Dev nD) (i : grid0.Coords)
  (a1 : Memref sig .tc .vmem S2048x1408 .bf16) (h1 : a1.IsWhole)
  (a2 : Memref sig .tc .vmem S2048x1024 .bf16) (h2 : a2.IsWhole)
  (a3 : Memref sig .tc .vmem S1408x1024 .bf16) (h3 : a3.IsWhole)
  (a4 : Memref sig .tc .vmem S1408x1024 .f32) (h4 : a4.IsWhole)
  (x0 : Vec Ideal S2048x1408 .bf16) (x1 : Vec Ideal S2048x1024 .bf16) (s : Vec Ideal S1408x1024 .f32)

theorem soutA (hc0 : cond0_0 i) (hc1 : ¬cond0_1 i) : sout0_A_0 (F := Ideal) c i a1 h1 a2 h2 a3 h3 a4 h4 hc0 hc1 x0 x1 = k0_pay2 k0_pay1 x0 x1 := by
  unfold sout0_A_0
  rw [View.read_writes_eq_canon _ _ _ (scover0_A_0 (F := Ideal) c i a1 h1 a2 h2 a3 h3 a4 h4 hc0 hc1 x0 x1)]
  unfold kernelRun0_A
  dsimp only
  sl_unfold_words
  rw [View.canon_cons_unit_zero (S := S1408x1024) hz, View.readCov_unit_zero (S := S1408x1024) _ hz]
  simp only [View.readAt_eq_ld, h1.read_unread, h2.read_unread, h3.read_unread, h4.read_unread, View.ld_unit_zero (S := S1408x1024) hz, View.ld_unit_zero (S := S2048x1024) hz, View.ld_unit_zero (S := S2048x1408) hz]

theorem outB (hc0 : ¬cond0_0 i) (hc1 : cond0_1 i) : out0_B_2 (F := Ideal) c i a1 h1 a2 h2 a3 h3 a4 h4 hc0 hc1 x0 x1 s = k0_pay3 (k0_pay2 s x0 x1) := by
  unfold out0_B_2
  rw [View.read_writes_eq_canon _ _ _ (cover0_B_2 (F := Ideal) c i a1 h1 a2 h2 a3 h3 a4 h4 hc0 hc1 x0 x1 s)]
  unfold kernelRun0_B
  dsimp only
  sl_unfold_words
  rw [View.canon_unit_zero hz, View.readCov_unit_zero (S := S1408x1024) _ hz]
  simp only [View.readAt_eq_ld, h1.read_unread, h2.read_unread, h3.read_unread, h4.read_unread, View.ld_unit_zero (S := S1408x1024) hz, View.ld_unit_zero (S := S2048x1024) hz, View.ld_unit_zero (S := S2048x1408) hz]

end terms

theorem pay1_apply (p : Fin 1408) (q : Fin 1024) : k0_pay1 (F := Ideal) (ix2 p q) = 0 := by pointwise [k0_pay1]

/-- One block's product of columns, added to what was there. -/
theorem pay2_apply (s : Vec Ideal S1408x1024 .f32) (x : Vec Ideal S2048x1408 .bf16) (y : Vec Ideal S2048x1024 .bf16) (p : Fin 1408) (q : Fin 1024) :
    k0_pay2 (F := Ideal) s x y (ix2 p q) = s (ix2 p q) + ∑ k : Fin 2048, x (ix2 k p) * y (ix2 k q) := by
  pointwise [k0_pay2]

theorem pay3_apply (s : Vec Ideal S1408x1024 .f32) (p : Fin 1408) (q : Fin 1024) : k0_pay3 (F := Ideal) s (ix2 p q) = s (ix2 p q) := by pointwise [k0_pay3]

/-- Two blocks of 2048 are 4096. -/
theorem sum_two (f : Fin 4096 → EReal) : (∑ k : Fin 2048, f ⟨k.val, by omega⟩) + ∑ k : Fin 2048, f ⟨2048 + k.val, by omega⟩ = ∑ k, f k :=
  (Fin.sum_univ_add (a := 2048) (b := 2048) f).symm

/-- The reference's product at one element. -/
theorem ref_apply (x0 : Vec Ideal S4096x2816 .bf16) (x1 : Vec Ideal S4096x1024 .bf16) (p : Fin 2816) (q : Fin 1024) :
    Cert.DwdownRefIdeal.Read.val_main_v6 (F := Ideal) x0 x1 (ix2 p q) = ∑ k : Fin 4096, x0 (ix2 k p) * x1 (ix2 k q) := by
  pointwise [Cert.DwdownRefIdeal.Read.val_main_v6, Cert.DwdownRefIdeal.Read.val_main_v5, Cert.DwdownRefIdeal.Read.val_main_v4, Cert.DwdownRefIdeal.Read.val_main_v3, Cert.DwdownRefIdeal.Read.val_main_v1]
  refine Finset.sum_congr rfl fun k _ => mul_comm _ _

variable (m : (ℓ : Loc nD τ sig) → Buf (Elt Ideal) ℓ) (c : Dev nD)

/-- The arguments, as launched. -/
abbrev A0 : Vec Ideal S4096x2816 .bf16 := m ((c : Thread nD τ).loc main_arg0)
abbrev A1 : Vec Ideal S4096x1024 .bf16 := m ((c : Thread nD τ).loc main_arg1)

theorem jx0 : ∀ t : Fin grid0.N, win0_0.index t 0 = t.val % 2 ∧ win0_0.index t 1 = t.val / 2 := by decide +kernel

theorem iblk0 (t : Fin cfg0.N) (k : Fin 2048) (l : Fin 1408) (K : Fin 4096) (L : Fin 2816) (hK : K.val = 2048 * (t.val % 2) + k.val) (hL : L.val = 1408 * (t.val / 2) + l.val) :
    (iblk m c 0 t : Vec Ideal S2048x1408 .bf16) (ix2 k l) = A0 m c (ix2 K L) := by
  unfold iblk
  rw [View.read_apply]
  show V m c main_arg0 _ = m (c.tc.loc main_arg0) _
  rw [V_main_arg0]
  congr 1
  funext a
  apply Fin.ext
  match a with
  | ⟨0, _⟩ => show win0_0.index t 0 * 2048 + 1 * k.val = K.val; rw [(jx0 t).1, hK]; omega
  | ⟨1, _⟩ => show win0_0.index t 1 * 1408 + 1 * l.val = L.val; rw [(jx0 t).2, hL]; omega
theorem jx1 : ∀ t : Fin grid0.N, win0_1.index t 0 = t.val % 2 ∧ win0_1.index t 1 = 0 := by decide +kernel

theorem iblk1 (t : Fin cfg0.N) (k : Fin 2048) (l : Fin 1024) (K : Fin 4096) (L : Fin 1024) (hK : K.val = 2048 * (t.val % 2) + k.val) (hL : L.val = 1024 * (0) + l.val) :
    (iblk m c 1 t : Vec Ideal S2048x1024 .bf16) (ix2 k l) = A1 m c (ix2 K L) := by
  unfold iblk
  rw [View.read_apply]
  show V m c main_arg1 _ = m (c.tc.loc main_arg1) _
  rw [V_main_arg1]
  congr 1
  funext a
  apply Fin.ext
  match a with
  | ⟨0, _⟩ => show win0_1.index t 0 * 2048 + 1 * k.val = K.val; rw [(jx1 t).1, hK]; omega
  | ⟨1, _⟩ => show win0_1.index t 1 * 1024 + 1 * l.val = L.val; rw [(jx1 t).2, hL]; omega

theorem outs (t : Fin cfg0.N) (ht : t.val % 2 = 1) (p : Fin 1408) (q : Fin 1024) (P : Fin 2816) (Q : Fin 1024) (hP : P.val = 1408 * (t.val / 2) + p.val)
    (hQ : Q.val = 1024 * 0 + q.val) :
    ((outsAt0 m c t.val t.isLt).1 : Vec Ideal S1408x1024 .bf16) (ix2 p q) = Cert.DwdownRefIdeal.Read.val_main_v6 (F := Ideal) (A0 m c) (A1 m c) (ix2 P Q) := by
  have hlt : t.val - 1 < cfg0.N := Nat.lt_of_le_of_lt (Nat.sub_le _ _) t.isLt
  have e := outsAt0_A m c ⟨t.val - 1, hlt⟩ (by first | omega | (dsimp only; omega)) (by first | omega | (dsimp only; omega))
  dsimp only at e
  rw [outsAt0_B m c t (by omega) ht]
  dsimp only
  rw [outB, e]
  dsimp only
  rw [soutA, pay3_apply, pay2_apply, pay2_apply, pay1_apply, zero_add, ref_apply, ← sum_two]
  refine congrArg₂ (· + ·) (Finset.sum_congr rfl fun k _ => congrArg₂ (· * ·) ?_ ?_) (Finset.sum_congr rfl fun k _ => congrArg₂ (· * ·) ?_ ?_)
  · exact iblk0 m c _ k p _ P (by first | omega | (dsimp only; omega)) (by first | omega | (dsimp only; omega))
  · exact iblk1 m c _ k q _ Q (by first | omega | (dsimp only; omega)) (by first | omega | (dsimp only; omega))
  · exact iblk0 m c t k p _ P (by first | omega | (dsimp only; omega)) (by omega)
  · exact iblk1 m c t k q _ Q (by first | omega | (dsimp only; omega)) (by omega)

theorem ixo : ∀ t : Fin grid0.N, win0_2.index t 0 = t.val / 2 ∧ win0_2.index t 1 = 0 := by decide +kernel

/-- The whole result: the reference's. -/
abbrev G : Vec Ideal S2816x1024 .bf16 := Cert.DwdownRefIdeal.Read.val_main_v6 (F := Ideal) (A0 m c) (A1 m c)

theorem arr : ((dats m 0 c).arrAt 2 cfg0.N : Vec Ideal S2816x1024 .bf16) = G m c := by
  have hN : cfg0.N = 4 := N_0
  have hN' : grid0.N = 4 := N_0
  refine (dats m 0 c).arrAt_eq_of_cover 2 (G m c) (fun t ht => ?_) (fun i => ?_)
  · have hlt := t.isLt
    rw [Value.flushed2]
    funext y
    idx_vars y
    have e : ((cfg0.win 2).blk t).view.emb (ix2 y0 y1) = (ix2 ⟨1408 * (t.val / 2) + y0.val, by omega⟩ ⟨1024 * (0) + y1.val, by omega⟩ : S2816x1024.Idx) := by
      funext a
      apply Fin.ext
      match a with
      | ⟨0, _⟩ => show win0_2.index t 0 * 1408 + 1 * y0.val = 1408 * (t.val / 2) + y0.val; rw [(ixo t).1]; omega
      | ⟨1, _⟩ => show win0_2.index t 1 * 1024 + 1 * y1.val = 1024 * (0) + y1.val; rw [(ixo t).2]; omega
    refine (outs m c t ((flush0_2 t).mp ht) y0 y1 ⟨1408 * (t.val / 2) + y0.val, by omega⟩ ⟨1024 * (0) + y1.val, by omega⟩ rfl rfl).trans ?_
    rw [View.read_apply]
    exact congrArg (G m c) e.symm
  · have h0 : (i 0).val < 2816 := (i 0).isLt
    have h1 : (i 1).val < 1024 := (i 1).isLt
    refine ⟨⟨2 * ((i 0).val / 1408) + 1, by omega⟩, (flush0_2 _).mpr (by first | omega | (dsimp only; omega)), ?_⟩
    rw [View.set_slice_whole, Rect.mem_set_unit]
    intro a
    match a with
    | ⟨0, _⟩ =>
      have e := (ixo ⟨2 * ((i 0).val / 1408) + 1, by omega⟩).1
      show win0_2.index _ 0 * 1408 ≤ (i 0).val ∧ (i 0).val < win0_2.index _ 0 * 1408 + 1408
      rw [e, show (2 * ((i 0).val / 1408) + 1) / 2 = (i 0).val / 1408 by omega]; omega
    | ⟨1, _⟩ =>
      have e := (ixo ⟨2 * ((i 0).val / 1408) + 1, by omega⟩).2
      show win0_2.index _ 1 * 1024 ≤ (i 1).val ∧ (i 1).val < win0_2.index _ 1 * 1024 + 1024
      rw [e]; omega

/-- The product's reference ends, keeps its arguments and declares no semaphore. -/
theorem quiet : Cert.quiescent_DwdownRefIdeal := fun m ρ _ =>
  (θ_run Cert.DwdownRefIdeal.defs _ _).mono (fun r h => ⟨fun c => (h c).2, sem_eq_zero_of_no_sems (by decide) r.2⟩)
    (Cert.DwdownRefIdeal.Value.run (F := Ideal) m ρ)

theorem equal : Cert.algebraic_DwdownIdeal_DwdownRefIdeal := by
  intro m g m' g' _ hm
  refine ⟨fun c => G m c, ?_, ?_⟩
  · exact (θ_run _ _ _).mono (fun r h c => ⟨(h c).1.trans (arr m c), (h c).2⟩) (Cert.DwdownIdeal.Value.run_blocks (F := Ideal) m g)
  · refine (θ_run _ _ _).mono (fun r h c => ?_) (Cert.DwdownRefIdeal.Value.run (F := Ideal) m' g')
    obtain ⟨h0, hargs⟩ := h c
    obtain ⟨e0, e1⟩ := hm c
    refine ⟨h0.trans ?_, hargs⟩
    rw [e0, e1]
    exact Cert.DwdownRefIdeal.Read.val_main_v6_eq _ _

end Cert.DwdownP

end
-- ==== Proof.ProdDwup.lean ====
/-
  The up weight's gradient, both halves of the hidden units in one call: the products of the columns of two halves of the
  rows, added in a carried block, are the reference's product over all rows.
-/
module

public import proofs.«01_k».proof.Proof.Gen.DwupIdeal.Value
public import proofs.«01_k».proof.Proof.Gen.DwupRefIdeal.Run
public import proofs.«01_k».proof.Proof.Gen.DwupRefIdeal.Read
public import proofs.«01_k».proof.Proof.Gen.DwupIdeal.Skeleton
public import proofs.«01_k».proof.Defs
public import Idealize.ShloMosaic.Lib.Tactic
public import Idealize.ShloMosaic.Lib.Pointwise
public import Idealize.ShloMosaic.Lib.StableHlo.ReadAt
public import Idealize.ShloMosaic.Lib.Pipeline.Value
public import Idealize.ShloMosaic.Lib.Claim

@[expose] public section

set_option maxRecDepth 16384

noncomputable section

namespace Cert.DwupP

open Idealize.ShloMosaic Idealize.ShloMosaic.TcCoe Idealize.SL.Sem
open Cert.DwupIdeal Cert.DwupIdeal.Gen
open Idealize.ShloMosaic.Pipeline (Dat)

theorem hz : (![0, 0] : Fin 2 → Nat) = fun _ => 0 := funext fun a => by fin_cases a <;> rfl

section terms
variable (c : Dev nD) (i : grid0.Coords)
  (a1 : Memref sig .tc .vmem S2048x1408 .bf16) (h1 : a1.IsWhole)
  (a2 : Memref sig .tc .vmem S2048x1408 .bf16) (h2 : a2.IsWhole)
  (a3 : Memref sig .tc .vmem S2048x1024 .bf16) (h3 : a3.IsWhole)
  (a4 : Memref sig .tc .vmem S1408x1024 .bf16) (h4 : a4.IsWhole)
  (a5 : Memref sig .tc .vmem S1408x1024 .f32) (h5 : a5.IsWhole)
  (x0 : Vec Ideal S2048x1408 .bf16) (x1 : Vec Ideal S2048x1408 .bf16) (x2 : Vec Ideal S2048x1024 .bf16) (s : Vec Ideal S1408x1024 .f32)

theorem soutA (hc0 : cond0_0 i) (hc1 : cond0_1 i) (hc2 : ¬cond0_2 i) (hc3 : ¬cond0_3 i) : sout0_A_0 (F := Ideal) c i a1 h1 a2 h2 a3 h3 a4 h4 a5 h5 hc0 hc1 hc2 hc3 x0 x1 x2 = k0_pay2 k0_pay1 x0 x2 := by
  unfold sout0_A_0
  rw [View.read_writes_eq_canon _ _ _ (scover0_A_0 (F := Ideal) c i a1 h1 a2 h2 a3 h3 a4 h4 a5 h5 hc0 hc1 hc2 hc3 x0 x1 x2)]
  unfold kernelRun0_A
  dsimp only
  sl_unfold_words
  rw [View.canon_cons_unit_zero (S := S1408x1024) hz, View.readCov_unit_zero (S := S1408x1024) _ hz]
  simp only [View.readAt_eq_ld, h1.read_unread, h2.read_unread, h3.read_unread, h4.read_unread, h5.read_unread, View.ld_unit_zero (S := S1408x1024) hz, View.ld_unit_zero (S := S2048x1024) hz, View.ld_unit_zero (S := S2048x1408) hz]

theorem outB (hc0 : ¬cond0_0 i) (hc1 : cond0_1 i) (hc2 : ¬cond0_2 i) (hc3 : cond0_3 i) : out0_B_3 (F := Ideal) c i a1 h1 a2 h2 a3 h3 a4 h4 a5 h5 hc0 hc1 hc2 hc3 x0 x1 x2 s = k0_pay4 (k0_pay2 s x0 x2) := by
  unfold out0_B_3
  rw [View.read_writes_eq_canon _ _ _ (cover0_B_3 (F := Ideal) c i a1 h1 a2 h2 a3 h3 a4 h4 a5 h5 hc0 hc1 hc2 hc3 x0 x1 x2 s)]
  unfold kernelRun0_B
  dsimp only
  sl_unfold_words
  rw [View.canon_unit_zero hz, View.readCov_unit_zero (S := S1408x1024) _ hz]
  simp only [View.readAt_eq_ld, h1.read_unread, h2.read_unread, h3.read_unread, h4.read_unread, h5.read_unread, View.ld_unit_zero (S := S1408x1024) hz, View.ld_unit_zero (S := S2048x1024) hz, View.ld_unit_zero (S := S2048x1408) hz]

theorem soutC (hc0 : cond0_0 i) (hc1 : ¬cond0_1 i) (hc2 : cond0_2 i) (hc3 : ¬cond0_3 i) : sout0_C_0 (F := Ideal) c i a1 h1 a2 h2 a3 h3 a4 h4 a5 h5 hc0 hc1 hc2 hc3 x0 x1 x2 = k0_pay3 k0_pay1 x1 x2 := by
  unfold sout0_C_0
  rw [View.read_writes_eq_canon _ _ _ (scover0_C_0 (F := Ideal) c i a1 h1 a2 h2 a3 h3 a4 h4 a5 h5 hc0 hc1 hc2 hc3 x0 x1 x2)]
  unfold kernelRun0_C
  dsimp only
  sl_unfold_words
  rw [View.canon_cons_unit_zero (S := S1408x1024) hz, View.readCov_unit_zero (S := S1408x1024) _ hz]
  simp only [View.readAt_eq_ld, h1.read_unread, h2.read_unread, h3.read_unread, h4.read_unread, h5.read_unread, View.ld_unit_zero (S := S1408x1024) hz, View.ld_unit_zero (S := S2048x1024) hz, View.ld_unit_zero (S := S2048x1408) hz]

theorem outD (hc0 : ¬cond0_0 i) (hc1 : ¬cond0_1 i) (hc2 : cond0_2 i) (hc3 : cond0_3 i) : out0_D_3 (F := Ideal) c i a1 h1 a2 h2 a3 h3 a4 h4 a5 h5 hc0 hc1 hc2 hc3 x0 x1 x2 s = k0_pay4 (k0_pay3 s x1 x2) := by
  unfold out0_D_3
  rw [View.read_writes_eq_canon _ _ _ (cover0_D_3 (F := Ideal) c i a1 h1 a2 h2 a3 h3 a4 h4 a5 h5 hc0 hc1 hc2 hc3 x0 x1 x2 s)]
  unfold kernelRun0_D
  dsimp only
  sl_unfold_words
  rw [View.canon_unit_zero hz, View.readCov_unit_zero (S := S1408x1024) _ hz]
  simp only [View.readAt_eq_ld, h1.read_unread, h2.read_unread, h3.read_unread, h4.read_unread, h5.read_unread, View.ld_unit_zero (S := S1408x1024) hz, View.ld_unit_zero (S := S2048x1024) hz, View.ld_unit_zero (S := S2048x1408) hz]

end terms

theorem pay1_apply (p : Fin 1408) (q : Fin 1024) : k0_pay1 (F := Ideal) (ix2 p q) = 0 := by pointwise [k0_pay1]

/-- One block's product of columns, added to what was there. -/
theorem pay2_apply (s : Vec Ideal S1408x1024 .f32) (x : Vec Ideal S2048x1408 .bf16) (y : Vec Ideal S2048x1024 .bf16) (p : Fin 1408) (q : Fin 1024) :
    k0_pay2 (F := Ideal) s x y (ix2 p q) = s (ix2 p q) + ∑ k : Fin 2048, x (ix2 k p) * y (ix2 k q) := by
  pointwise [k0_pay2]

theorem pay3_apply (s : Vec Ideal S1408x1024 .f32) (x : Vec Ideal S2048x1408 .bf16) (y : Vec Ideal S2048x1024 .bf16) (p : Fin 1408) (q : Fin 1024) :
    k0_pay3 (F := Ideal) s x y (ix2 p q) = s (ix2 p q) + ∑ k : Fin 2048, x (ix2 k p) * y (ix2 k q) := by
  pointwise [k0_pay3]

theorem pay4_apply (s : Vec Ideal S1408x1024 .f32) (p : Fin 1408) (q : Fin 1024) : k0_pay4 (F := Ideal) s (ix2 p q) = s (ix2 p q) := by pointwise [k0_pay4]

/-- Two blocks of 2048 are 4096. -/
theorem sum_two (f : Fin 4096 → EReal) : (∑ k : Fin 2048, f ⟨k.val, by omega⟩) + ∑ k : Fin 2048, f ⟨2048 + k.val, by omega⟩ = ∑ k, f k :=
  (Fin.sum_univ_add (a := 2048) (b := 2048) f).symm

theorem ref_lo (x0 x1 : Vec Ideal S4096x2816 .bf16) (x2 : Vec Ideal S4096x1024 .bf16) (p : Fin 5632) (q : Fin 1024) (hp : p.val < 2816) :
    Cert.DwupRefIdeal.Read.val_main_v8 (F := Ideal) x0 x1 x2 (ix2 p q) = ∑ k : Fin 4096, x0 (ix2 k ⟨p.val, hp⟩) * x2 (ix2 k q) := by
  pointwise [Cert.DwupRefIdeal.Read.val_main_v8, Cert.DwupRefIdeal.Read.val_main_v7, Cert.DwupRefIdeal.Read.val_main_v6, Cert.DwupRefIdeal.Read.val_main_v5, Cert.DwupRefIdeal.Read.val_main_v3, Cert.DwupRefIdeal.Read.val_main_v1, Cert.DwupRefIdeal.Read.val_main_v0]
  simp only [dif_pos hp]

theorem ref_hi (x0 x1 : Vec Ideal S4096x2816 .bf16) (x2 : Vec Ideal S4096x1024 .bf16) (p : Fin 5632) (q : Fin 1024) (hp : 2816 ≤ p.val) :
    Cert.DwupRefIdeal.Read.val_main_v8 (F := Ideal) x0 x1 x2 (ix2 p q) = ∑ k : Fin 4096, x1 (ix2 k ⟨p.val - 2816, by omega⟩) * x2 (ix2 k q) := by
  pointwise [Cert.DwupRefIdeal.Read.val_main_v8, Cert.DwupRefIdeal.Read.val_main_v7, Cert.DwupRefIdeal.Read.val_main_v6, Cert.DwupRefIdeal.Read.val_main_v5, Cert.DwupRefIdeal.Read.val_main_v3, Cert.DwupRefIdeal.Read.val_main_v1, Cert.DwupRefIdeal.Read.val_main_v0]
  simp only [dif_neg (Nat.not_lt.2 hp)]

variable (m : (ℓ : Loc nD τ sig) → Buf (Elt Ideal) ℓ) (c : Dev nD)

/-- The arguments, as launched. -/
abbrev A0 : Vec Ideal S4096x2816 .bf16 := m ((c : Thread nD τ).loc main_arg0)
abbrev A1 : Vec Ideal S4096x2816 .bf16 := m ((c : Thread nD τ).loc main_arg1)
abbrev A2 : Vec Ideal S4096x1024 .bf16 := m ((c : Thread nD τ).loc main_arg2)

theorem jx0 : ∀ t : Fin grid0.N, t.val < 4 → win0_0.index t 0 = t.val % 2 ∧ win0_0.index t 1 = t.val / 2 := by decide +kernel

theorem iblk0 (t : Fin cfg0.N) (ht : t.val < 4) (k : Fin 2048) (l : Fin 1408) (K : Fin 4096) (L : Fin 2816) (hK : K.val = 2048 * (t.val % 2) + k.val) (hL : L.val = 1408 * (t.val / 2) + l.val) :
    (iblk m c 0 t : Vec Ideal S2048x1408 .bf16) (ix2 k l) = A0 m c (ix2 K L) := by
  unfold iblk
  rw [View.read_apply]
  show V m c main_arg0 _ = m (c.tc.loc main_arg0) _
  rw [V_main_arg0]
  congr 1
  funext a
  apply Fin.ext
  match a with
  | ⟨0, _⟩ => show win0_0.index t 0 * 2048 + 1 * k.val = K.val; rw [(jx0 t ht).1, hK]; omega
  | ⟨1, _⟩ => show win0_0.index t 1 * 1408 + 1 * l.val = L.val; rw [(jx0 t ht).2, hL]; omega
theorem jx1 : ∀ t : Fin grid0.N, 4 ≤ t.val → win0_1.index t 0 = t.val % 2 ∧ win0_1.index t 1 = t.val / 2 - 2 := by decide +kernel

theorem iblk1 (t : Fin cfg0.N) (ht : 4 ≤ t.val) (k : Fin 2048) (l : Fin 1408) (K : Fin 4096) (L : Fin 2816) (hK : K.val = 2048 * (t.val % 2) + k.val) (hL : L.val = 1408 * (t.val / 2 - 2) + l.val) :
    (iblk m c 1 t : Vec Ideal S2048x1408 .bf16) (ix2 k l) = A1 m c (ix2 K L) := by
  unfold iblk
  rw [View.read_apply]
  show V m c main_arg1 _ = m (c.tc.loc main_arg1) _
  rw [V_main_arg1]
  congr 1
  funext a
  apply Fin.ext
  match a with
  | ⟨0, _⟩ => show win0_1.index t 0 * 2048 + 1 * k.val = K.val; rw [(jx1 t ht).1, hK]; omega
  | ⟨1, _⟩ => show win0_1.index t 1 * 1408 + 1 * l.val = L.val; rw [(jx1 t ht).2, hL]; omega
theorem jx2 : ∀ t : Fin grid0.N, win0_2.index t 0 = t.val % 2 ∧ win0_2.index t 1 = 0 := by decide +kernel

theorem iblk2 (t : Fin cfg0.N) (k : Fin 2048) (l : Fin 1024) (K : Fin 4096) (L : Fin 1024) (hK : K.val = 2048 * (t.val % 2) + k.val) (hL : L.val = 1024 * (0) + l.val) :
    (iblk m c 2 t : Vec Ideal S2048x1024 .bf16) (ix2 k l) = A2 m c (ix2 K L) := by
  unfold iblk
  rw [View.read_apply]
  show V m c main_arg2 _ = m (c.tc.loc main_arg2) _
  rw [V_main_arg2]
  congr 1
  funext a
  apply Fin.ext
  match a with
  | ⟨0, _⟩ => show win0_2.index t 0 * 2048 + 1 * k.val = K.val; rw [(jx2 t).1, hK]; omega
  | ⟨1, _⟩ => show win0_2.index t 1 * 1024 + 1 * l.val = L.val; rw [(jx2 t).2, hL]; omega

theorem outs (t : Fin cfg0.N) (ht : t.val % 2 = 1) (p : Fin 1408) (q : Fin 1024) (P : Fin 5632) (Q : Fin 1024) (hP : P.val = 1408 * (t.val / 2) + p.val)
    (hQ : Q.val = 1024 * 0 + q.val) :
    ((outsAt0 m c t.val t.isLt).1 : Vec Ideal S1408x1024 .bf16) (ix2 p q) = Cert.DwupRefIdeal.Read.val_main_v8 (F := Ideal) (A0 m c) (A1 m c) (A2 m c) (ix2 P Q) := by
  have hlt : t.val - 1 < cfg0.N := Nat.lt_of_le_of_lt (Nat.sub_le _ _) t.isLt
  have hp := p.isLt
  by_cases h4 : t.val < 4
  · have e := outsAt0_A m c ⟨t.val - 1, hlt⟩ (by first | omega | (dsimp only; omega)) (by first | omega | (dsimp only; omega)) (by first | omega | (dsimp only; omega)) (by first | omega | (dsimp only; omega))
    dsimp only at e
    rw [outsAt0_B m c t (by omega) (by omega) (by omega) ht]
    dsimp only
    rw [outB, e]
    dsimp only
    rw [soutA, pay4_apply, pay2_apply, pay2_apply, pay1_apply, zero_add, ref_lo _ _ _ _ _ (by omega), ← sum_two]
    refine congrArg₂ (· + ·) (Finset.sum_congr rfl fun k _ => congrArg₂ (· * ·) ?_ ?_) (Finset.sum_congr rfl fun k _ => congrArg₂ (· * ·) ?_ ?_)
    · exact iblk0 m c _ (by first | omega | (dsimp only; omega)) k p _ _ (by first | omega | (dsimp only; omega)) (by first | omega | (dsimp only; omega))
    · exact iblk2 m c _ k q _ Q (by first | omega | (dsimp only; omega)) (by first | omega | (dsimp only; omega))
    · exact iblk0 m c t (by omega) k p _ _ (by first | omega | (dsimp only; omega)) (by first | omega | (dsimp only; omega))
    · exact iblk2 m c t k q _ Q (by first | omega | (dsimp only; omega)) (by omega)
  · have e := outsAt0_C m c ⟨t.val - 1, hlt⟩ (by first | omega | (dsimp only; omega)) (by first | omega | (dsimp only; omega)) (by first | omega | (dsimp only; omega)) (by first | omega | (dsimp only; omega))
    dsimp only at e
    rw [outsAt0_D m c t (by omega) (by omega) (by omega) ht]
    dsimp only
    rw [outD, e]
    dsimp only
    rw [soutC, pay4_apply, pay3_apply, pay3_apply, pay1_apply, zero_add, ref_hi _ _ _ _ _ (by omega), ← sum_two]
    refine congrArg₂ (· + ·) (Finset.sum_congr rfl fun k _ => congrArg₂ (· * ·) ?_ ?_) (Finset.sum_congr rfl fun k _ => congrArg₂ (· * ·) ?_ ?_)
    · exact iblk1 m c _ (by first | omega | (dsimp only; omega)) k p _ _ (by first | omega | (dsimp only; omega)) (by first | omega | (dsimp only; omega))
    · exact iblk2 m c _ k q _ Q (by first | omega | (dsimp only; omega)) (by first | omega | (dsimp only; omega))
    · exact iblk1 m c t (by omega) k p _ _ (by first | omega | (dsimp only; omega)) (by first | omega | (dsimp only; omega))
    · exact iblk2 m c t k q _ Q (by first | omega | (dsimp only; omega)) (by omega)

theorem ixo : ∀ t : Fin grid0.N, win0_3.index t 0 = t.val / 2 ∧ win0_3.index t 1 = 0 := by decide +kernel

/-- The whole result: the reference's. -/
abbrev G : Vec Ideal S5632x1024 .bf16 := Cert.DwupRefIdeal.Read.val_main_v8 (F := Ideal) (A0 m c) (A1 m c) (A2 m c)

theorem arr : ((dats m 0 c).arrAt 3 cfg0.N : Vec Ideal S5632x1024 .bf16) = G m c := by
  have hN : cfg0.N = 8 := N_0
  have hN' : grid0.N = 8 := N_0
  refine (dats m 0 c).arrAt_eq_of_cover 3 (G m c) (fun t ht => ?_) (fun i => ?_)
  · have hlt := t.isLt
    rw [Value.flushed3]
    funext y
    idx_vars y
    have e : ((cfg0.win 3).blk t).view.emb (ix2 y0 y1) = (ix2 ⟨1408 * (t.val / 2) + y0.val, by omega⟩ ⟨1024 * (0) + y1.val, by omega⟩ : S5632x1024.Idx) := by
      funext a
      apply Fin.ext
      match a with
      | ⟨0, _⟩ => show win0_3.index t 0 * 1408 + 1 * y0.val = 1408 * (t.val / 2) + y0.val; rw [(ixo t).1]; omega
      | ⟨1, _⟩ => show win0_3.index t 1 * 1024 + 1 * y1.val = 1024 * (0) + y1.val; rw [(ixo t).2]; omega
    refine (outs m c t ((flush0_3 t).mp ht) y0 y1 ⟨1408 * (t.val / 2) + y0.val, by omega⟩ ⟨1024 * (0) + y1.val, by omega⟩ rfl rfl).trans ?_
    rw [View.read_apply]
    exact congrArg (G m c) e.symm
  · have h0 : (i 0).val < 5632 := (i 0).isLt
    have h1 : (i 1).val < 1024 := (i 1).isLt
    refine ⟨⟨2 * ((i 0).val / 1408) + 1, by omega⟩, (flush0_3 _).mpr (by first | omega | (dsimp only; omega)), ?_⟩
    rw [View.set_slice_whole, Rect.mem_set_unit]
    intro a
    match a with
    | ⟨0, _⟩ =>
      have e := (ixo ⟨2 * ((i 0).val / 1408) + 1, by omega⟩).1
      show win0_3.index _ 0 * 1408 ≤ (i 0).val ∧ (i 0).val < win0_3.index _ 0 * 1408 + 1408
      rw [e, show (2 * ((i 0).val / 1408) + 1) / 2 = (i 0).val / 1408 by omega]; omega
    | ⟨1, _⟩ =>
      have e := (ixo ⟨2 * ((i 0).val / 1408) + 1, by omega⟩).2
      show win0_3.index _ 1 * 1024 ≤ (i 1).val ∧ (i 1).val < win0_3.index _ 1 * 1024 + 1024
      rw [e]; omega

/-- The product's reference ends, keeps its arguments and declares no semaphore. -/
theorem quiet : Cert.quiescent_DwupRefIdeal := fun m ρ _ =>
  (θ_run Cert.DwupRefIdeal.defs _ _).mono (fun r h => ⟨fun c => (h c).2, sem_eq_zero_of_no_sems (by decide) r.2⟩)
    (Cert.DwupRefIdeal.Value.run (F := Ideal) m ρ)

theorem equal : Cert.algebraic_DwupIdeal_DwupRefIdeal := by
  intro m g m' g' _ hm
  refine ⟨fun c => G m c, ?_, ?_⟩
  · exact (θ_run _ _ _).mono (fun r h c => ⟨(h c).1.trans (arr m c), (h c).2⟩) (Cert.DwupIdeal.Value.run_blocks (F := Ideal) m g)
  · refine (θ_run _ _ _).mono (fun r h c => ?_) (Cert.DwupRefIdeal.Value.run (F := Ideal) m' g')
    obtain ⟨h0, hargs⟩ := h c
    obtain ⟨e0, e1, e2⟩ := hm c
    refine ⟨h0.trans ?_, hargs⟩
    rw [e0, e1, e2]
    exact Cert.DwupRefIdeal.Read.val_main_v8_eq _ _ _

end Cert.DwupP

end
-- ==== Proof.lean ====
module

public import proofs.«01_k».proof.Proof.Gen.KernelIdeal.Value
public import proofs.«01_k».proof.Proof.Equal
public import proofs.«01_k».proof.Proof.AttEqual
public import proofs.«01_k».proof.Proof.ProdLoss
public import proofs.«01_k».proof.Proof.ProdDxQkv
public import proofs.«01_k».proof.Proof.ProdOut
public import proofs.«01_k».proof.Proof.ProdDown
public import proofs.«01_k».proof.Proof.ProdQkv
public import proofs.«01_k».proof.Proof.ProdDwin
public import proofs.«01_k».proof.Proof.ProdDwo
public import proofs.«01_k».proof.Proof.ProdDout
public import proofs.«01_k».proof.Proof.ProdMixIn
public import proofs.«01_k».proof.Proof.ProdDx
public import proofs.«01_k».proof.Proof.ProdUp
public import proofs.«01_k».proof.Proof.ProdDu
public import proofs.«01_k».proof.Proof.ProdDwdown
public import proofs.«01_k».proof.Proof.ProdDwup
public import proofs.«01_k».proof.Proof.AttnHand
public import proofs.«01_k».proof.Proof.AttnIdealHand
public import proofs.«01_k».proof.Proof.Gen.ReferenceIdeal.Run
public import proofs.«01_k».proof.Proof.Gen.ReferenceIdeal.Read
public import proofs.«01_k».proof.Proof.Gen.MixIn
public import proofs.«01_k».proof.Proof.Gen.MixIn.Skeleton
public import proofs.«01_k».proof.Proof.Gen.MixIn.Launch
public import proofs.«01_k».proof.Proof.Gen.MixIn.Points
public import proofs.«01_k».proof.Proof.Gen.MixIn.Frame
public import proofs.«01_k».proof.Proof.Gen.MixInIdeal
public import proofs.«01_k».proof.Proof.Gen.MixInIdeal.Skeleton
public import proofs.«01_k».proof.Proof.Gen.MixInIdeal.Launch
public import proofs.«01_k».proof.Proof.Gen.MixInIdeal.Points
public import proofs.«01_k».proof.Proof.Gen.MixInIdeal.Frame
public import proofs.«01_k».proof.Proof.Gen.MixInIdeal.Value
public import proofs.«01_k».proof.Proof.Gen.MixInRefIdeal
public import proofs.«01_k».proof.Proof.Gen.MixInRefIdeal.Run
public import proofs.«01_k».proof.Proof.Gen.MixInRefIdeal.Read
public import proofs.«01_k».proof.Proof.Gen.Dout
public import proofs.«01_k».proof.Proof.Gen.Dout.Skeleton
public import proofs.«01_k».proof.Proof.Gen.Dout.Launch
public import proofs.«01_k».proof.Proof.Gen.Dout.Points
public import proofs.«01_k».proof.Proof.Gen.Dout.Frame
public import proofs.«01_k».proof.Proof.Gen.DoutIdeal
public import proofs.«01_k».proof.Proof.Gen.DoutIdeal.Skeleton
public import proofs.«01_k».proof.Proof.Gen.DoutIdeal.Launch
public import proofs.«01_k».proof.Proof.Gen.DoutIdeal.Points
public import proofs.«01_k».proof.Proof.Gen.DoutIdeal.Frame
public import proofs.«01_k».proof.Proof.Gen.DoutIdeal.Value
public import proofs.«01_k».proof.Proof.Gen.DoutRefIdeal
public import proofs.«01_k».proof.Proof.Gen.DoutRefIdeal.Run
public import proofs.«01_k».proof.Proof.Gen.DoutRefIdeal.Read
public import proofs.«01_k».proof.Proof.Gen.Dwo
public import proofs.«01_k».proof.Proof.Gen.Dwo.Skeleton
public import proofs.«01_k».proof.Proof.Gen.Dwo.Launch
public import proofs.«01_k».proof.Proof.Gen.Dwo.Points
public import proofs.«01_k».proof.Proof.Gen.Dwo.Frame
public import proofs.«01_k».proof.Proof.Gen.DwoIdeal
public import proofs.«01_k».proof.Proof.Gen.DwoIdeal.Skeleton
public import proofs.«01_k».proof.Proof.Gen.DwoIdeal.Launch
public import proofs.«01_k».proof.Proof.Gen.DwoIdeal.Points
public import proofs.«01_k».proof.Proof.Gen.DwoIdeal.Frame
public import proofs.«01_k».proof.Proof.Gen.DwoIdeal.Value
public import proofs.«01_k».proof.Proof.Gen.DwoRefIdeal
public import proofs.«01_k».proof.Proof.Gen.DwoRefIdeal.Run
public import proofs.«01_k».proof.Proof.Gen.DwoRefIdeal.Read
public import proofs.«01_k».proof.Proof.Gen.Dwin
public import proofs.«01_k».proof.Proof.Gen.Dwin.Skeleton
public import proofs.«01_k».proof.Proof.Gen.Dwin.Launch
public import proofs.«01_k».proof.Proof.Gen.Dwin.Points
public import proofs.«01_k».proof.Proof.Gen.Dwin.Frame
public import proofs.«01_k».proof.Proof.Gen.DwinIdeal
public import proofs.«01_k».proof.Proof.Gen.DwinIdeal.Skeleton
public import proofs.«01_k».proof.Proof.Gen.DwinIdeal.Launch
public import proofs.«01_k».proof.Proof.Gen.DwinIdeal.Points
public import proofs.«01_k».proof.Proof.Gen.DwinIdeal.Frame
public import proofs.«01_k».proof.Proof.Gen.DwinIdeal.Value
public import proofs.«01_k».proof.Proof.Gen.DwinRefIdeal
public import proofs.«01_k».proof.Proof.Gen.DwinRefIdeal.Run
public import proofs.«01_k».proof.Proof.Gen.DwinRefIdeal.Read
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.QkvRefIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Pre_finite2
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Pre_finite15
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Dwup
public import proofs.«01_k».proof.Proof.Gen.Dwup.Skeleton
public import proofs.«01_k».proof.Proof.Gen.Dwup.Launch
public import proofs.«01_k».proof.Proof.Gen.Dwup.Points
public import proofs.«01_k».proof.Proof.Gen.Dwup.Frame
public import proofs.«01_k».proof.Proof.Gen.DwupIdeal
public import proofs.«01_k».proof.Proof.Gen.DwupIdeal.Skeleton
public import proofs.«01_k».proof.Proof.Gen.DwupIdeal.Launch
public import proofs.«01_k».proof.Proof.Gen.DwupIdeal.Points
public import proofs.«01_k».proof.Proof.Gen.DwupIdeal.Frame
public import proofs.«01_k».proof.Proof.Gen.DwupIdeal.Value
public import proofs.«01_k».proof.Proof.Gen.DwupRefIdeal
public import proofs.«01_k».proof.Proof.Gen.DwupRefIdeal.Run
public import proofs.«01_k».proof.Proof.Gen.DwupRefIdeal.Read
public import proofs.«01_k».proof.Proof.Gen.Dwdown
public import proofs.«01_k».proof.Proof.Gen.Dwdown.Skeleton
public import proofs.«01_k».proof.Proof.Gen.Dwdown.Launch
public import proofs.«01_k».proof.Proof.Gen.Dwdown.Points
public import proofs.«01_k».proof.Proof.Gen.Dwdown.Frame
public import proofs.«01_k».proof.Proof.Gen.DwdownIdeal
public import proofs.«01_k».proof.Proof.Gen.DwdownIdeal.Skeleton
public import proofs.«01_k».proof.Proof.Gen.DwdownIdeal.Launch
public import proofs.«01_k».proof.Proof.Gen.DwdownIdeal.Points
public import proofs.«01_k».proof.Proof.Gen.DwdownIdeal.Frame
public import proofs.«01_k».proof.Proof.Gen.DwdownIdeal.Value
public import proofs.«01_k».proof.Proof.Gen.DwdownRefIdeal
public import proofs.«01_k».proof.Proof.Gen.DwdownRefIdeal.Run
public import proofs.«01_k».proof.Proof.Gen.DwdownRefIdeal.Read
public import proofs.«01_k».proof.Proof.Gen.Du
public import proofs.«01_k».proof.Proof.Gen.Du.Skeleton
public import proofs.«01_k».proof.Proof.Gen.Du.Launch
public import proofs.«01_k».proof.Proof.Gen.Du.Points
public import proofs.«01_k».proof.Proof.Gen.Du.Frame
public import proofs.«01_k».proof.Proof.Gen.DuIdeal
public import proofs.«01_k».proof.Proof.Gen.DuIdeal.Skeleton
public import proofs.«01_k».proof.Proof.Gen.DuIdeal.Launch
public import proofs.«01_k».proof.Proof.Gen.DuIdeal.Points
public import proofs.«01_k».proof.Proof.Gen.DuIdeal.Frame
public import proofs.«01_k».proof.Proof.Gen.DuIdeal.Value
public import proofs.«01_k».proof.Proof.Gen.DuRefIdeal
public import proofs.«01_k».proof.Proof.Gen.DuRefIdeal.Run
public import proofs.«01_k».proof.Proof.Gen.DuRefIdeal.Read
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxIdeal.Value
public import proofs.«01_k».proof.Proof.Gen.DxRefIdeal
public import proofs.«01_k».proof.Proof.Gen.DxRefIdeal.Run
public import proofs.«01_k».proof.Proof.Gen.DxRefIdeal.Read
public import proofs.«01_k».proof.Proof.Gen.DxQkv
public import proofs.«01_k».proof.Proof.Gen.DxQkv.Skeleton
public import proofs.«01_k».proof.Proof.Gen.DxQkv.Launch
public import proofs.«01_k».proof.Proof.Gen.DxQkv.Points
public import proofs.«01_k».proof.Proof.Gen.DxQkv.Frame
public import proofs.«01_k».proof.Proof.Gen.DxQkvIdeal
public import proofs.«01_k».proof.Proof.Gen.DxQkvIdeal.Skeleton
public import proofs.«01_k».proof.Proof.Gen.DxQkvIdeal.Launch
public import proofs.«01_k».proof.Proof.Gen.DxQkvIdeal.Points
public import proofs.«01_k».proof.Proof.Gen.DxQkvIdeal.Frame
public import proofs.«01_k».proof.Proof.Gen.DxQkvIdeal.Value
public import proofs.«01_k».proof.Proof.Gen.DxQkvRefIdeal
public import proofs.«01_k».proof.Proof.Gen.DxQkvRefIdeal.Run
public import proofs.«01_k».proof.Proof.Gen.DxQkvRefIdeal.Read
public import proofs.«01_k».proof.Proof.Gen.Pre_finite16
public import Idealize.ShloMosaic.Adequacy
public import Idealize.ShloMosaic.Init

@[expose] public section

noncomputable section

namespace Cert.Proof

open Idealize.ShloMosaic Idealize.SL.Sem Cert.Kernel

/-- The reference ends, keeps its arguments and declares no semaphore. -/
theorem quiet_ref : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

open Cert.DxLn Cert.ReferenceIdeal.Read in
/-- The kernel and the reference leave the same four arrays. -/
theorem equal : Cert.algebraic_KernelIdeal_ReferenceIdeal_pre_finite := by
  intro m g m' g' hpre hm
  refine ⟨fun c => val_main_v67 (F := Ideal) (A0 m c) (A1 m c) (A2 m c) (A3 m c) (A4 m c) (A5 m c),
    fun c => val_main_v68 (F := Ideal) (A0 m c) (A1 m c) (A2 m c) (A3 m c) (A4 m c) (A5 m c),
    fun c => val_main_v41 (F := Ideal) (A0 m c) (A1 m c) (A2 m c) (A3 m c) (A5 m c),
    fun c => val_main_v38 (F := Ideal) (A0 m c) (A1 m c) (A2 m c) (A5 m c), ?_, ?_⟩
  · refine (θ_run _ _ _).mono (fun r h c => ?_) (Cert.KernelIdeal.Value.run_blocks (F := Ideal) m g)
    obtain ⟨h7, h8, h9, h10, hargs⟩ := h c
    exact ⟨h7.trans (eq7 m c (hpre c)), h8.trans (eq8 m c (hpre c)), h9.trans (eq9 m c), h10.trans (eq10 m c), hargs⟩
  · refine (θ_run _ _ _).mono (fun r h c => ?_) (Cert.ReferenceIdeal.Value.run (F := Ideal) m' g')
    obtain ⟨h7, h8, h9, h10, hargs⟩ := h c
    obtain ⟨e0, e1, e2, e3, e4, e5⟩ := hm c
    refine ⟨h7.trans ?_, h8.trans ?_, h9.trans ?_, h10.trans ?_, hargs⟩
    · rw [val_main_v67_eq, e0, e1, e2, e3, e4, e5]
    · rw [val_main_v68_eq, e0, e1, e2, e3, e4, e5]
    · rw [e0, e1, e2, e3, e5]; exact val_main_v41_eq _ _ _ _ _
    · rw [e0, e1, e2, e5]; exact val_main_v38_eq _ _ _ _

/-- The attention gradient's reference ends, keeps its arguments and declares no semaphore. -/
theorem quiet_ref2 : Cert.quiescent_AttnRefIdeal := fun m ρ _ =>
  (θ_run Cert.AttnRefIdeal.defs _ _).mono (fun r h => ⟨fun c => (h c).2.2.2.2.2, sem_eq_zero_of_no_sems (by decide) r.2⟩)
    (Cert.AttnRefIdeal.Value.run (F := Ideal) m ρ)

theorem claim : Cert.Claim := ⟨Cert.Kernel.Gen.facts, Cert.KernelIdeal.Gen.facts, Cert.ReferenceIdeal.Gen.facts, Cert.Attn.Gen.facts,
  Cert.AttnIdeal.Gen.facts, Cert.AttnRefIdeal.Gen.facts,
  Cert.Dwup.Gen.facts, Cert.DwupIdeal.Gen.facts, Cert.DwupRefIdeal.Gen.facts,
  Cert.Dwdown.Gen.facts, Cert.DwdownIdeal.Gen.facts, Cert.DwdownRefIdeal.Gen.facts,
  Cert.Du.Gen.facts, Cert.DuIdeal.Gen.facts, Cert.DuRefIdeal.Gen.facts,
  Cert.Up.Gen.facts, Cert.UpIdeal.Gen.facts, Cert.UpRefIdeal.Gen.facts,
  Cert.Dx.Gen.facts, Cert.DxIdeal.Gen.facts, Cert.DxRefIdeal.Gen.facts,
  Cert.MixIn.Gen.facts, Cert.MixInIdeal.Gen.facts, Cert.MixInRefIdeal.Gen.facts,
  Cert.Dout.Gen.facts, Cert.DoutIdeal.Gen.facts, Cert.DoutRefIdeal.Gen.facts,
  Cert.Dwo.Gen.facts, Cert.DwoIdeal.Gen.facts, Cert.DwoRefIdeal.Gen.facts,
  Cert.Dwin.Gen.facts, Cert.DwinIdeal.Gen.facts, Cert.DwinRefIdeal.Gen.facts,
  Cert.Qkv.Gen.facts, Cert.QkvIdeal.Gen.facts, Cert.QkvRefIdeal.Gen.facts,
  Cert.Down.Gen.facts, Cert.DownIdeal.Gen.facts, Cert.DownRefIdeal.Gen.facts,
  Cert.Out.Gen.facts, Cert.OutIdeal.Gen.facts, Cert.OutRefIdeal.Gen.facts,
  Cert.Loss.Gen.facts, Cert.LossIdeal.Gen.facts, Cert.LossRefIdeal.Gen.facts,
  Cert.DxQkv.Gen.facts, Cert.DxQkvIdeal.Gen.facts, Cert.DxQkvRefIdeal.Gen.facts,
  Cert.Pre_finite.Gen.facts, Cert.Pre_finite2.Gen.facts, Cert.Pre_finite15.Gen.facts, Cert.Pre_finite16.Gen.facts,
  fun m ρ _ => Cert.Kernel.Gen.frame m ρ, fun m ρ _ => Cert.KernelIdeal.Gen.frame m ρ, fun m ρ _ => Cert.KernelIdeal.Gen.frame m ρ,
  fun m ρ _ => quiet_ref m ρ trivial, fun m ρ _ => quiet_ref m ρ trivial,
  fun m ρ _ => Cert.Attn.Hand.frame m ρ, fun m ρ _ => Cert.AttnIdeal.Hand.frame m ρ, fun m ρ _ => Cert.AttnIdeal.Hand.frame m ρ,
  fun m ρ _ => quiet_ref2 m ρ trivial, fun m ρ _ => quiet_ref2 m ρ trivial,
  fun m ρ _ => Cert.Dwup.Gen.frame m ρ, fun m ρ _ => Cert.DwupIdeal.Gen.frame m ρ, Cert.DwupP.quiet,
  fun m ρ _ => Cert.Dwdown.Gen.frame m ρ, fun m ρ _ => Cert.DwdownIdeal.Gen.frame m ρ, Cert.DwdownP.quiet,
  fun m ρ _ => Cert.Du.Gen.frame m ρ, fun m ρ _ => Cert.DuIdeal.Gen.frame m ρ, Cert.DuP.quiet,
  fun m ρ _ => Cert.Up.Gen.frame m ρ, fun m ρ _ => Cert.UpIdeal.Gen.frame m ρ, Cert.UpP.quiet,
  fun m ρ _ => Cert.Dx.Gen.frame m ρ, fun m ρ _ => Cert.DxIdeal.Gen.frame m ρ, Cert.DxP.quiet,
  fun m ρ _ => Cert.MixIn.Gen.frame m ρ, fun m ρ _ => Cert.MixInIdeal.Gen.frame m ρ, Cert.MixInP.quiet,
  fun m ρ _ => Cert.Dout.Gen.frame m ρ, fun m ρ _ => Cert.DoutIdeal.Gen.frame m ρ, Cert.DoutP.quiet,
  fun m ρ _ => Cert.Dwo.Gen.frame m ρ, fun m ρ _ => Cert.DwoIdeal.Gen.frame m ρ, Cert.DwoP.quiet,
  fun m ρ _ => Cert.Dwin.Gen.frame m ρ, fun m ρ _ => Cert.DwinIdeal.Gen.frame m ρ, Cert.DwinP.quiet,
  fun m ρ _ => Cert.Qkv.Gen.frame m ρ, fun m ρ _ => Cert.QkvIdeal.Gen.frame m ρ, Cert.QkvP.quiet,
  fun m ρ _ => Cert.Down.Gen.frame m ρ, fun m ρ _ => Cert.DownIdeal.Gen.frame m ρ, Cert.DownP.quiet,
  fun m ρ _ => Cert.Out.Gen.frame m ρ, fun m ρ _ => Cert.OutIdeal.Gen.frame m ρ, Cert.OutP.quiet,
  fun m ρ _ => Cert.Loss.Gen.frame m ρ, fun m ρ _ => Cert.LossIdeal.Gen.frame m ρ, fun m ρ _ => Cert.LossIdeal.Gen.frame m ρ,
  fun m ρ _ => Cert.LossP.quiet m ρ trivial, fun m ρ _ => Cert.LossP.quiet m ρ trivial,
  fun m ρ _ => Cert.DxQkv.Gen.frame m ρ, fun m ρ _ => Cert.DxQkvIdeal.Gen.frame m ρ, fun m ρ _ => Cert.DxQkvIdeal.Gen.frame m ρ,
  fun m ρ _ => Cert.DxQkvP.quiet m ρ trivial, fun m ρ _ => Cert.DxQkvP.quiet m ρ trivial,
  trivial, equal, trivial, Cert.Att.equal2, trivial, Cert.DwupP.equal, trivial, Cert.DwdownP.equal, trivial, Cert.DuP.equal, trivial, Cert.UpP.equal, trivial, Cert.DxP.equal, trivial, Cert.MixInP.equal, trivial, Cert.DoutP.equal, trivial, Cert.DwoP.equal, trivial, Cert.DwinP.equal, trivial, Cert.QkvP.equal, trivial, Cert.DownP.equal, trivial, Cert.OutP.equal,
  trivial, Cert.LossP.equal, trivial, Cert.DxQkvP.equal⟩

end Cert.Proof

end
